-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Dhid (m : (ℓ : Loc Cert.Dhid.nD Cert.Dhid.τ Cert.Dhid.sig) → Buf (Elt Bits) ℓ) : Prop :=
  True

def Pre_DhidIdeal (m : (ℓ : Loc Cert.DhidIdeal.nD Cert.DhidIdeal.τ Cert.DhidIdeal.sig) → Buf (Elt Ideal) ℓ) : Prop :=
  True

def Pre_DhidRefIdeal (m : (ℓ : Loc Cert.DhidRefIdeal.nD Cert.DhidRefIdeal.τ Cert.DhidRefIdeal.sig) → Buf (Elt Ideal) ℓ) : Prop :=
  True

def Pre_Dwout (m : (ℓ : Loc Cert.Dwout.nD Cert.Dwout.τ Cert.Dwout.sig) → Buf (Elt Bits) ℓ) : Prop :=
  True

def Pre_DwoutIdeal (m : (ℓ : Loc Cert.DwoutIdeal.nD Cert.DwoutIdeal.τ Cert.DwoutIdeal.sig) → Buf (Elt Ideal) ℓ) : Prop :=
  True

def Pre_DwoutRefIdeal (m : (ℓ : Loc Cert.DwoutRefIdeal.nD Cert.DwoutRefIdeal.τ Cert.DwoutRefIdeal.sig) → Buf (Elt Ideal) ℓ) : Prop :=
  True

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactIdeal_gate_finite [hPre_gate_finite : Cert.Pre_gate_finite.Facts] (m : (ℓ : Loc Cert.DactIdeal.nD Cert.DactIdeal.τ Cert.DactIdeal.sig) → Buf (Elt Ideal) ℓ) : Prop :=
  ∀ c : Dev Cert.DactIdeal.nD,
    (Cert.Pre_gate_finite.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1))) = (fun _ => 1#1)

def Pre_DactRefIdeal (m : (ℓ : Loc Cert.DactRefIdeal.nD Cert.DactRefIdeal.τ Cert.DactRefIdeal.sig) → Buf (Elt Ideal) ℓ) : Prop :=
  True

def Pre_DactRefIdeal_gate_finite [hPre_gate_finite : Cert.Pre_gate_finite.Facts] (m : (ℓ : Loc Cert.DactRefIdeal.nD Cert.DactRefIdeal.τ Cert.DactRefIdeal.sig) → Buf (Elt Ideal) ℓ) : Prop :=
  ∀ c : Dev Cert.DactRefIdeal.nD,
    (Cert.Pre_gate_finite.fn (F := Ideal) (m ((c.tc : Thread Cert.DactRefIdeal.nD Cert.DactRefIdeal.τ).loc Cert.DactRefIdeal.main_arg0)) (m ((c.tc : Thread Cert.DactRefIdeal.nD Cert.DactRefIdeal.τ).loc Cert.DactRefIdeal.main_arg1))) = (fun _ => 1#1)

def Pre_Dwin (m : (ℓ : Loc Cert.Dwin.nD Cert.Dwin.τ Cert.Dwin.sig) → Buf (Elt Bits) ℓ) : Prop :=
  True

def Pre_DwinIdeal (m : (ℓ : Loc Cert.DwinIdeal.nD Cert.DwinIdeal.τ Cert.DwinIdeal.sig) → Buf (Elt Ideal) ℓ) : Prop :=
  True

def Pre_DwinRefIdeal (m : (ℓ : Loc Cert.DwinRefIdeal.nD Cert.DwinRefIdeal.τ Cert.DwinRefIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_Uin (m : (ℓ : Loc Cert.Uin.nD Cert.Uin.τ Cert.Uin.sig) → Buf (Elt Bits) ℓ) : Prop :=
  True

def Pre_UinIdeal (m : (ℓ : Loc Cert.UinIdeal.nD Cert.UinIdeal.τ Cert.UinIdeal.sig) → Buf (Elt Ideal) ℓ) : Prop :=
  True

def Pre_UinRefIdeal (m : (ℓ : Loc Cert.UinRefIdeal.nD Cert.UinRefIdeal.τ Cert.UinRefIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def Pre_Fout (m : (ℓ : Loc Cert.Fout.nD Cert.Fout.τ Cert.Fout.sig) → Buf (Elt Bits) ℓ) : Prop :=
  True

def Pre_FoutIdeal (m : (ℓ : Loc Cert.FoutIdeal.nD Cert.FoutIdeal.τ Cert.FoutIdeal.sig) → Buf (Elt Ideal) ℓ) : Prop :=
  True

def Pre_FoutRefIdeal (m : (ℓ : Loc Cert.FoutRefIdeal.nD Cert.FoutRefIdeal.τ Cert.FoutRefIdeal.sig) → Buf (Elt Ideal) ℓ) : Prop :=
  True

def Pre_Zx (m : (ℓ : Loc Cert.Zx.nD Cert.Zx.τ Cert.Zx.sig) → Buf (Elt Bits) ℓ) : Prop :=
  True

def Pre_ZxIdeal (m : (ℓ : Loc Cert.ZxIdeal.nD Cert.ZxIdeal.τ Cert.ZxIdeal.sig) → Buf (Elt Ideal) ℓ) : Prop :=
  True

def Pre_ZxRefIdeal (m : (ℓ : Loc Cert.ZxRefIdeal.nD Cert.ZxRefIdeal.τ Cert.ZxRefIdeal.sig) → Buf (Elt Ideal) ℓ) : Prop :=
  True

def Pre_Dwzx (m : (ℓ : Loc Cert.Dwzx.nD Cert.Dwzx.τ Cert.Dwzx.sig) → Buf (Elt Bits) ℓ) : Prop :=
  True

def Pre_DwzxIdeal (m : (ℓ : Loc Cert.DwzxIdeal.nD Cert.DwzxIdeal.τ Cert.DwzxIdeal.sig) → Buf (Elt Ideal) ℓ) : Prop :=
  True

def Pre_DwzxRefIdeal (m : (ℓ : Loc Cert.DwzxRefIdeal.nD Cert.DwzxRefIdeal.τ Cert.DwzxRefIdeal.sig) → Buf (Elt Ideal) ℓ) : Prop :=
  True

def Pre_Dzx (m : (ℓ : Loc Cert.Dzx.nD Cert.Dzx.τ Cert.Dzx.sig) → Buf (Elt Bits) ℓ) : Prop :=
  True

def Pre_DzxIdeal (m : (ℓ : Loc Cert.DzxIdeal.nD Cert.DzxIdeal.τ Cert.DzxIdeal.sig) → Buf (Elt Ideal) ℓ) : Prop :=
  True

def Pre_DzxRefIdeal (m : (ℓ : Loc Cert.DzxRefIdeal.nD Cert.DzxRefIdeal.τ Cert.DzxRefIdeal.sig) → Buf (Elt Ideal) ℓ) : Prop :=
  True

def Pre_Dglu (m : (ℓ : Loc Cert.Dglu.nD Cert.Dglu.τ Cert.Dglu.sig) → Buf (Elt Bits) ℓ) : Prop :=
  True

def Pre_DgluIdeal (m : (ℓ : Loc Cert.DgluIdeal.nD Cert.DgluIdeal.τ Cert.DgluIdeal.sig) → Buf (Elt Ideal) ℓ) : Prop :=
  True

def Pre_DgluRefIdeal (m : (ℓ : Loc Cert.DgluRefIdeal.nD Cert.DgluRefIdeal.τ Cert.DgluRefIdeal.sig) → Buf (Elt Ideal) ℓ) : Prop :=
  True

def Pre_Dnorm (m : (ℓ : Loc Cert.Dnorm.nD Cert.Dnorm.τ Cert.Dnorm.sig) → Buf (Elt Bits) ℓ) : Prop :=
  True

def Pre_DnormIdeal (m : (ℓ : Loc Cert.DnormIdeal.nD Cert.DnormIdeal.τ Cert.DnormIdeal.sig) → Buf (Elt Ideal) ℓ) : Prop :=
  True

def Pre_DnormIdeal_norm_finite [hPre_norm_finite : Cert.Pre_norm_finite.Facts] (m : (ℓ : Loc Cert.DnormIdeal.nD Cert.DnormIdeal.τ Cert.DnormIdeal.sig) → Buf (Elt Ideal) ℓ) : Prop :=
  ∀ c : Dev Cert.DnormIdeal.nD,
    (Cert.Pre_norm_finite.fn (F := Ideal) (m ((c.tc : Thread Cert.DnormIdeal.nD Cert.DnormIdeal.τ).loc Cert.DnormIdeal.main_arg0)) (m ((c.tc : Thread Cert.DnormIdeal.nD Cert.DnormIdeal.τ).loc Cert.DnormIdeal.main_arg1)) (m ((c.tc : Thread Cert.DnormIdeal.nD Cert.DnormIdeal.τ).loc Cert.DnormIdeal.main_arg2)) (m ((c.tc : Thread Cert.DnormIdeal.nD Cert.DnormIdeal.τ).loc Cert.DnormIdeal.main_arg3)) (m ((c.tc : Thread Cert.DnormIdeal.nD Cert.DnormIdeal.τ).loc Cert.DnormIdeal.main_arg4))) = (fun _ => 1#1)

def Pre_DnormRefIdeal (m : (ℓ : Loc Cert.DnormRefIdeal.nD Cert.DnormRefIdeal.τ Cert.DnormRefIdeal.sig) → Buf (Elt Ideal) ℓ) : Prop :=
  True

def Pre_DnormRefIdeal_norm_finite [hPre_norm_finite : Cert.Pre_norm_finite.Facts] (m : (ℓ : Loc Cert.DnormRefIdeal.nD Cert.DnormRefIdeal.τ Cert.DnormRefIdeal.sig) → Buf (Elt Ideal) ℓ) : Prop :=
  ∀ c : Dev Cert.DnormRefIdeal.nD,
    (Cert.Pre_norm_finite.fn (F := Ideal) (m ((c.tc : Thread Cert.DnormRefIdeal.nD Cert.DnormRefIdeal.τ).loc Cert.DnormRefIdeal.main_arg0)) (m ((c.tc : Thread Cert.DnormRefIdeal.nD Cert.DnormRefIdeal.τ).loc Cert.DnormRefIdeal.main_arg1)) (m ((c.tc : Thread Cert.DnormRefIdeal.nD Cert.DnormRefIdeal.τ).loc Cert.DnormRefIdeal.main_arg2)) (m ((c.tc : Thread Cert.DnormRefIdeal.nD Cert.DnormRefIdeal.τ).loc Cert.DnormRefIdeal.main_arg3)) (m ((c.tc : Thread Cert.DnormRefIdeal.nD Cert.DnormRefIdeal.τ).loc Cert.DnormRefIdeal.main_arg4))) = (fun _ => 1#1)

def Pre_Dpwin (m : (ℓ : Loc Cert.Dpwin.nD Cert.Dpwin.τ Cert.Dpwin.sig) → Buf (Elt Bits) ℓ) : Prop :=
  True

def Pre_DpwinIdeal (m : (ℓ : Loc Cert.DpwinIdeal.nD Cert.DpwinIdeal.τ Cert.DpwinIdeal.sig) → Buf (Elt Ideal) ℓ) : Prop :=
  True

def Pre_DpwinRefIdeal (m : (ℓ : Loc Cert.DpwinRefIdeal.nD Cert.DpwinRefIdeal.τ Cert.DpwinRefIdeal.sig) → Buf (Elt Ideal) ℓ) : Prop :=
  True

def Pre_Dpwout (m : (ℓ : Loc Cert.Dpwout.nD Cert.Dpwout.τ Cert.Dpwout.sig) → Buf (Elt Bits) ℓ) : Prop :=
  True

def Pre_DpwoutIdeal (m : (ℓ : Loc Cert.DpwoutIdeal.nD Cert.DpwoutIdeal.τ Cert.DpwoutIdeal.sig) → Buf (Elt Ideal) ℓ) : Prop :=
  True

def Pre_DpwoutRefIdeal (m : (ℓ : Loc Cert.DpwoutRefIdeal.nD Cert.DpwoutRefIdeal.τ Cert.DpwoutRefIdeal.sig) → Buf (Elt Ideal) ℓ) : Prop :=
  True

def Pre_Dpwx (m : (ℓ : Loc Cert.Dpwx.nD Cert.Dpwx.τ Cert.Dpwx.sig) → Buf (Elt Bits) ℓ) : Prop :=
  True

def Pre_DpwxIdeal (m : (ℓ : Loc Cert.DpwxIdeal.nD Cert.DpwxIdeal.τ Cert.DpwxIdeal.sig) → Buf (Elt Ideal) ℓ) : Prop :=
  True

def Pre_DpwxRefIdeal (m : (ℓ : Loc Cert.DpwxRefIdeal.nD Cert.DpwxRefIdeal.τ Cert.DpwxRefIdeal.sig) → Buf (Elt Ideal) ℓ) : Prop :=
  True

def Pre_Dpwsl (m : (ℓ : Loc Cert.Dpwsl.nD Cert.Dpwsl.τ Cert.Dpwsl.sig) → Buf (Elt Bits) ℓ) : Prop :=
  True

def Pre_DpwslIdeal (m : (ℓ : Loc Cert.DpwslIdeal.nD Cert.DpwslIdeal.τ Cert.DpwslIdeal.sig) → Buf (Elt Ideal) ℓ) : Prop :=
  True

def Pre_DpwslRefIdeal (m : (ℓ : Loc Cert.DpwslRefIdeal.nD Cert.DpwslRefIdeal.τ Cert.DpwslRefIdeal.sig) → Buf (Elt Ideal) ℓ) : Prop :=
  True

def Pre_Dmixw (m : (ℓ : Loc Cert.Dmixw.nD Cert.Dmixw.τ Cert.Dmixw.sig) → Buf (Elt Bits) ℓ) : Prop :=
  True

def Pre_DmixwIdeal (m : (ℓ : Loc Cert.DmixwIdeal.nD Cert.DmixwIdeal.τ Cert.DmixwIdeal.sig) → Buf (Elt Ideal) ℓ) : Prop :=
  True

def Pre_DmixwRefIdeal (m : (ℓ : Loc Cert.DmixwRefIdeal.nD Cert.DmixwRefIdeal.τ Cert.DmixwRefIdeal.sig) → Buf (Elt Ideal) ℓ) : Prop :=
  True

def Pre_Dmixy (m : (ℓ : Loc Cert.Dmixy.nD Cert.Dmixy.τ Cert.Dmixy.sig) → Buf (Elt Bits) ℓ) : Prop :=
  True

def Pre_DmixyIdeal (m : (ℓ : Loc Cert.DmixyIdeal.nD Cert.DmixyIdeal.τ Cert.DmixyIdeal.sig) → Buf (Elt Ideal) ℓ) : Prop :=
  True

def Pre_DmixyRefIdeal (m : (ℓ : Loc Cert.DmixyRefIdeal.nD Cert.DmixyRefIdeal.τ Cert.DmixyRefIdeal.sig) → Buf (Elt Ideal) ℓ) : Prop :=
  True

def Pre_Pwin (m : (ℓ : Loc Cert.Pwin.nD Cert.Pwin.τ Cert.Pwin.sig) → Buf (Elt Bits) ℓ) : Prop :=
  True

def Pre_PwinIdeal (m : (ℓ : Loc Cert.PwinIdeal.nD Cert.PwinIdeal.τ Cert.PwinIdeal.sig) → Buf (Elt Ideal) ℓ) : Prop :=
  True

def Pre_PwinRefIdeal (m : (ℓ : Loc Cert.PwinRefIdeal.nD Cert.PwinRefIdeal.τ Cert.PwinRefIdeal.sig) → Buf (Elt Ideal) ℓ) : Prop :=
  True

def Pre_Pwout (m : (ℓ : Loc Cert.Pwout.nD Cert.Pwout.τ Cert.Pwout.sig) → Buf (Elt Bits) ℓ) : Prop :=
  True

def Pre_PwoutIdeal (m : (ℓ : Loc Cert.PwoutIdeal.nD Cert.PwoutIdeal.τ Cert.PwoutIdeal.sig) → Buf (Elt Ideal) ℓ) : Prop :=
  True

def Pre_PwoutRefIdeal (m : (ℓ : Loc Cert.PwoutRefIdeal.nD Cert.PwoutRefIdeal.τ Cert.PwoutRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Drms (m : (ℓ : Loc Cert.Drms.nD Cert.Drms.τ Cert.Drms.sig) → Buf (Elt Bits) ℓ) : Prop :=
  True

def Pre_DrmsIdeal (m : (ℓ : Loc Cert.DrmsIdeal.nD Cert.DrmsIdeal.τ Cert.DrmsIdeal.sig) → Buf (Elt Ideal) ℓ) : Prop :=
  True

def Pre_DrmsRefIdeal (m : (ℓ : Loc Cert.DrmsRefIdeal.nD Cert.DrmsRefIdeal.τ Cert.DrmsRefIdeal.sig) → Buf (Elt Ideal) ℓ) : Prop :=
  True

def Pre_Dgate (m : (ℓ : Loc Cert.Dgate.nD Cert.Dgate.τ Cert.Dgate.sig) → Buf (Elt Bits) ℓ) : Prop :=
  True

def Pre_DgateIdeal (m : (ℓ : Loc Cert.DgateIdeal.nD Cert.DgateIdeal.τ Cert.DgateIdeal.sig) → Buf (Elt Ideal) ℓ) : Prop :=
  True

def Pre_DgateIdeal_gated_finite [hPre_gated_finite : Cert.Pre_gated_finite.Facts] (m : (ℓ : Loc Cert.DgateIdeal.nD Cert.DgateIdeal.τ Cert.DgateIdeal.sig) → Buf (Elt Ideal) ℓ) : Prop :=
  ∀ c : Dev Cert.DgateIdeal.nD,
    (Cert.Pre_gated_finite.fn (F := Ideal) (m ((c.tc : Thread Cert.DgateIdeal.nD Cert.DgateIdeal.τ).loc Cert.DgateIdeal.main_arg0)) (m ((c.tc : Thread Cert.DgateIdeal.nD Cert.DgateIdeal.τ).loc Cert.DgateIdeal.main_arg1)) (m ((c.tc : Thread Cert.DgateIdeal.nD Cert.DgateIdeal.τ).loc Cert.DgateIdeal.main_arg2)) (m ((c.tc : Thread Cert.DgateIdeal.nD Cert.DgateIdeal.τ).loc Cert.DgateIdeal.main_arg3)) (m ((c.tc : Thread Cert.DgateIdeal.nD Cert.DgateIdeal.τ).loc Cert.DgateIdeal.main_arg4)) (m ((c.tc : Thread Cert.DgateIdeal.nD Cert.DgateIdeal.τ).loc Cert.DgateIdeal.main_arg5))) = (fun _ => 1#1)

def Pre_DgateRefIdeal (m : (ℓ : Loc Cert.DgateRefIdeal.nD Cert.DgateRefIdeal.τ Cert.DgateRefIdeal.sig) → Buf (Elt Ideal) ℓ) : Prop :=
  True

def Pre_DgateRefIdeal_gated_finite [hPre_gated_finite : Cert.Pre_gated_finite.Facts] (m : (ℓ : Loc Cert.DgateRefIdeal.nD Cert.DgateRefIdeal.τ Cert.DgateRefIdeal.sig) → Buf (Elt Ideal) ℓ) : Prop :=
  ∀ c : Dev Cert.DgateRefIdeal.nD,
    (Cert.Pre_gated_finite.fn (F := Ideal) (m ((c.tc : Thread Cert.DgateRefIdeal.nD Cert.DgateRefIdeal.τ).loc Cert.DgateRefIdeal.main_arg0)) (m ((c.tc : Thread Cert.DgateRefIdeal.nD Cert.DgateRefIdeal.τ).loc Cert.DgateRefIdeal.main_arg1)) (m ((c.tc : Thread Cert.DgateRefIdeal.nD Cert.DgateRefIdeal.τ).loc Cert.DgateRefIdeal.main_arg2)) (m ((c.tc : Thread Cert.DgateRefIdeal.nD Cert.DgateRefIdeal.τ).loc Cert.DgateRefIdeal.main_arg3)) (m ((c.tc : Thread Cert.DgateRefIdeal.nD Cert.DgateRefIdeal.τ).loc Cert.DgateRefIdeal.main_arg4)) (m ((c.tc : Thread Cert.DgateRefIdeal.nD Cert.DgateRefIdeal.τ).loc Cert.DgateRefIdeal.main_arg5))) = (fun _ => 1#1)

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Lnorm (m : (ℓ : Loc Cert.Lnorm.nD Cert.Lnorm.τ Cert.Lnorm.sig) → Buf (Elt Bits) ℓ) : Prop :=
  True

def Pre_LnormIdeal (m : (ℓ : Loc Cert.LnormIdeal.nD Cert.LnormIdeal.τ Cert.LnormIdeal.sig) → Buf (Elt Ideal) ℓ) : Prop :=
  True

def Pre_LnormRefIdeal (m : (ℓ : Loc Cert.LnormRefIdeal.nD Cert.LnormRefIdeal.τ Cert.LnormRefIdeal.sig) → Buf (Elt Ideal) ℓ) : Prop :=
  True

def Pre_Rnorm (m : (ℓ : Loc Cert.Rnorm.nD Cert.Rnorm.τ Cert.Rnorm.sig) → Buf (Elt Bits) ℓ) : Prop :=
  True

def Pre_RnormIdeal (m : (ℓ : Loc Cert.RnormIdeal.nD Cert.RnormIdeal.τ Cert.RnormIdeal.sig) → Buf (Elt Ideal) ℓ) : Prop :=
  True

def Pre_RnormRefIdeal (m : (ℓ : Loc Cert.RnormRefIdeal.nD Cert.RnormRefIdeal.τ Cert.RnormRefIdeal.sig) → Buf (Elt Ideal) ℓ) : Prop :=
  True

def Pre_Sgate (m : (ℓ : Loc Cert.Sgate.nD Cert.Sgate.τ Cert.Sgate.sig) → Buf (Elt Bits) ℓ) : Prop :=
  True

def Pre_SgateIdeal (m : (ℓ : Loc Cert.SgateIdeal.nD Cert.SgateIdeal.τ Cert.SgateIdeal.sig) → Buf (Elt Ideal) ℓ) : Prop :=
  True

def Pre_SgateRefIdeal (m : (ℓ : Loc Cert.SgateRefIdeal.nD Cert.SgateRefIdeal.τ Cert.SgateRefIdeal.sig) → Buf (Elt Ideal) ℓ) : Prop :=
  True

def Pre_Dtp (m : (ℓ : Loc Cert.Dtp.nD Cert.Dtp.τ Cert.Dtp.sig) → Buf (Elt Bits) ℓ) : Prop :=
  True

def Pre_DtpIdeal (m : (ℓ : Loc Cert.DtpIdeal.nD Cert.DtpIdeal.τ Cert.DtpIdeal.sig) → Buf (Elt Ideal) ℓ) : Prop :=
  True

def Pre_DtpRefIdeal (m : (ℓ : Loc Cert.DtpRefIdeal.nD Cert.DtpRefIdeal.τ Cert.DtpRefIdeal.sig) → Buf (Elt Ideal) ℓ) : Prop :=
  True

def Pre_Dwdt (m : (ℓ : Loc Cert.Dwdt.nD Cert.Dwdt.τ Cert.Dwdt.sig) → Buf (Elt Bits) ℓ) : Prop :=
  True

def Pre_DwdtIdeal (m : (ℓ : Loc Cert.DwdtIdeal.nD Cert.DwdtIdeal.τ Cert.DwdtIdeal.sig) → Buf (Elt Ideal) ℓ) : Prop :=
  True

def Pre_DwdtRefIdeal (m : (ℓ : Loc Cert.DwdtRefIdeal.nD Cert.DwdtRefIdeal.τ Cert.DwdtRefIdeal.sig) → Buf (Elt Ideal) ℓ) : Prop :=
  True

def Pre_Dxdt (m : (ℓ : Loc Cert.Dxdt.nD Cert.Dxdt.τ Cert.Dxdt.sig) → Buf (Elt Bits) ℓ) : Prop :=
  True

def Pre_DxdtIdeal (m : (ℓ : Loc Cert.DxdtIdeal.nD Cert.DxdtIdeal.τ Cert.DxdtIdeal.sig) → Buf (Elt Ideal) ℓ) : Prop :=
  True

def Pre_DxdtRefIdeal (m : (ℓ : Loc Cert.DxdtRefIdeal.nD Cert.DxdtRefIdeal.τ Cert.DxdtRefIdeal.sig) → Buf (Elt Ideal) ℓ) : Prop :=
  True

def Pre_Cnorm (m : (ℓ : Loc Cert.Cnorm.nD Cert.Cnorm.τ Cert.Cnorm.sig) → Buf (Elt Bits) ℓ) : Prop :=
  True

def Pre_CnormIdeal (m : (ℓ : Loc Cert.CnormIdeal.nD Cert.CnormIdeal.τ Cert.CnormIdeal.sig) → Buf (Elt Ideal) ℓ) : Prop :=
  True

def Pre_CnormRefIdeal (m : (ℓ : Loc Cert.CnormRefIdeal.nD Cert.CnormRefIdeal.τ Cert.CnormRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Axial (m : (ℓ : Loc Cert.Axial.nD Cert.Axial.τ Cert.Axial.sig) → Buf (Elt Bits) ℓ) : Prop :=
  True

def Pre_AxialIdeal (m : (ℓ : Loc Cert.AxialIdeal.nD Cert.AxialIdeal.τ Cert.AxialIdeal.sig) → Buf (Elt Ideal) ℓ) : Prop :=
  True

def Pre_AxialRefIdeal (m : (ℓ : Loc Cert.AxialRefIdeal.nD Cert.AxialRefIdeal.τ Cert.AxialRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamPwin (m : (ℓ : Loc Cert.AdamPwin.nD Cert.AdamPwin.τ Cert.AdamPwin.sig) → Buf (Elt Bits) ℓ) : Prop :=
  True

def Pre_AdamPwinIdeal (m : (ℓ : Loc Cert.AdamPwinIdeal.nD Cert.AdamPwinIdeal.τ Cert.AdamPwinIdeal.sig) → Buf (Elt Ideal) ℓ) : Prop :=
  True

def Pre_AdamPwinRefIdeal (m : (ℓ : Loc Cert.AdamPwinRefIdeal.nD Cert.AdamPwinRefIdeal.τ Cert.AdamPwinRefIdeal.sig) → Buf (Elt Ideal) ℓ) : Prop :=
  True

def Pre_AdamPwout (m : (ℓ : Loc Cert.AdamPwout.nD Cert.AdamPwout.τ Cert.AdamPwout.sig) → Buf (Elt Bits) ℓ) : Prop :=
  True

def Pre_AdamPwoutIdeal (m : (ℓ : Loc Cert.AdamPwoutIdeal.nD Cert.AdamPwoutIdeal.τ Cert.AdamPwoutIdeal.sig) → Buf (Elt Ideal) ℓ) : Prop :=
  True

def Pre_AdamPwoutRefIdeal (m : (ℓ : Loc Cert.AdamPwoutRefIdeal.nD Cert.AdamPwoutRefIdeal.τ Cert.AdamPwoutRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_AdamFin (m : (ℓ : Loc Cert.AdamFin.nD Cert.AdamFin.τ Cert.AdamFin.sig) → Buf (Elt Bits) ℓ) : Prop :=
  True

def Pre_AdamFinIdeal (m : (ℓ : Loc Cert.AdamFinIdeal.nD Cert.AdamFinIdeal.τ Cert.AdamFinIdeal.sig) → Buf (Elt Ideal) ℓ) : Prop :=
  True

def Pre_AdamFinRefIdeal (m : (ℓ : Loc Cert.AdamFinRefIdeal.nD Cert.AdamFinRefIdeal.τ Cert.AdamFinRefIdeal.sig) → Buf (Elt Ideal) ℓ) : Prop :=
  True

def Pre_AdamFout (m : (ℓ : Loc Cert.AdamFout.nD Cert.AdamFout.τ Cert.AdamFout.sig) → Buf (Elt Bits) ℓ) : Prop :=
  True

def Pre_AdamFoutIdeal (m : (ℓ : Loc Cert.AdamFoutIdeal.nD Cert.AdamFoutIdeal.τ Cert.AdamFoutIdeal.sig) → Buf (Elt Ideal) ℓ) : Prop :=
  True

def Pre_AdamFoutRefIdeal (m : (ℓ : Loc Cert.AdamFoutRefIdeal.nD Cert.AdamFoutRefIdeal.τ Cert.AdamFoutRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Dhid [hDhid : Cert.Dhid.Facts] : Prop :=
  ∀ (m : (ℓ : Loc Cert.Dhid.nD Cert.Dhid.τ Cert.Dhid.sig) → Buf (Elt Bits) ℓ) (g : Dev Cert.Dhid.nD → PrngReg), Pre_Dhid m →
    θ_run (Cert.Dhid.defs (F := Bits)) (onTc (τ := Cert.Dhid.τ) (Cert.Dhid.main (F := Bits))) ⟨m, fun _ => 0, g⟩ (fun r => (∀ c : Dev Cert.Dhid.nD,
      r.2.mem ((c.tc : Thread Cert.Dhid.nD Cert.Dhid.τ).loc Cert.Dhid.main_arg0) = m ((c.tc : Thread Cert.Dhid.nD Cert.Dhid.τ).loc Cert.Dhid.main_arg0)
      ∧ r.2.mem ((c.tc : Thread Cert.Dhid.nD Cert.Dhid.τ).loc Cert.Dhid.main_arg1) = m ((c.tc : Thread Cert.Dhid.nD Cert.Dhid.τ).loc Cert.Dhid.main_arg1))
      ∧ r.2.sem = fun _ => 0)

def quiescent_DhidIdeal [hDhidIdeal : Cert.DhidIdeal.Facts] : Prop :=
  ∀ (m : (ℓ : Loc Cert.DhidIdeal.nD Cert.DhidIdeal.τ Cert.DhidIdeal.sig) → Buf (Elt Ideal) ℓ) (g : Dev Cert.DhidIdeal.nD → PrngReg), Pre_DhidIdeal m →
    θ_run (Cert.DhidIdeal.defs (F := Ideal)) (onTc (τ := Cert.DhidIdeal.τ) (Cert.DhidIdeal.main (F := Ideal))) ⟨m, fun _ => 0, g⟩ (fun r => (∀ c : Dev Cert.DhidIdeal.nD,
      r.2.mem ((c.tc : Thread Cert.DhidIdeal.nD Cert.DhidIdeal.τ).loc Cert.DhidIdeal.main_arg0) = m ((c.tc : Thread Cert.DhidIdeal.nD Cert.DhidIdeal.τ).loc Cert.DhidIdeal.main_arg0)
      ∧ r.2.mem ((c.tc : Thread Cert.DhidIdeal.nD Cert.DhidIdeal.τ).loc Cert.DhidIdeal.main_arg1) = m ((c.tc : Thread Cert.DhidIdeal.nD Cert.DhidIdeal.τ).loc Cert.DhidIdeal.main_arg1))
      ∧ r.2.sem = fun _ => 0)

def quiescent_DhidRefIdeal [hDhidRefIdeal : Cert.DhidRefIdeal.Facts] : Prop :=
  ∀ (m : (ℓ : Loc Cert.DhidRefIdeal.nD Cert.DhidRefIdeal.τ Cert.DhidRefIdeal.sig) → Buf (Elt Ideal) ℓ) (g : Dev Cert.DhidRefIdeal.nD → PrngReg), Pre_DhidRefIdeal m →
    θ_run (Cert.DhidRefIdeal.defs (F := Ideal)) (onTc (τ := Cert.DhidRefIdeal.τ) (Cert.DhidRefIdeal.main (F := Ideal))) ⟨m, fun _ => 0, g⟩ (fun r => (∀ c : Dev Cert.DhidRefIdeal.nD,
      r.2.mem ((c.tc : Thread Cert.DhidRefIdeal.nD Cert.DhidRefIdeal.τ).loc Cert.DhidRefIdeal.main_arg0) = m ((c.tc : Thread Cert.DhidRefIdeal.nD Cert.DhidRefIdeal.τ).loc Cert.DhidRefIdeal.main_arg0)
      ∧ r.2.mem ((c.tc : Thread Cert.DhidRefIdeal.nD Cert.DhidRefIdeal.τ).loc Cert.DhidRefIdeal.main_arg1) = m ((c.tc : Thread Cert.DhidRefIdeal.nD Cert.DhidRefIdeal.τ).loc Cert.DhidRefIdeal.main_arg1))
      ∧ r.2.sem = fun _ => 0)

def quiescent_Dwout [hDwout : Cert.Dwout.Facts] : Prop :=
  ∀ (m : (ℓ : Loc Cert.Dwout.nD Cert.Dwout.τ Cert.Dwout.sig) → Buf (Elt Bits) ℓ) (g : Dev Cert.Dwout.nD → PrngReg), Pre_Dwout m →
    θ_run (Cert.Dwout.defs (F := Bits)) (onTc (τ := Cert.Dwout.τ) (Cert.Dwout.main (F := Bits))) ⟨m, fun _ => 0, g⟩ (fun r => (∀ c : Dev Cert.Dwout.nD,
      r.2.mem ((c.tc : Thread Cert.Dwout.nD Cert.Dwout.τ).loc Cert.Dwout.main_arg0) = m ((c.tc : Thread Cert.Dwout.nD Cert.Dwout.τ).loc Cert.Dwout.main_arg0)
      ∧ r.2.mem ((c.tc : Thread Cert.Dwout.nD Cert.Dwout.τ).loc Cert.Dwout.main_arg1) = m ((c.tc : Thread Cert.Dwout.nD Cert.Dwout.τ).loc Cert.Dwout.main_arg1))
      ∧ r.2.sem = fun _ => 0)

def quiescent_DwoutIdeal [hDwoutIdeal : Cert.DwoutIdeal.Facts] : Prop :=
  ∀ (m : (ℓ : Loc Cert.DwoutIdeal.nD Cert.DwoutIdeal.τ Cert.DwoutIdeal.sig) → Buf (Elt Ideal) ℓ) (g : Dev Cert.DwoutIdeal.nD → PrngReg), Pre_DwoutIdeal m →
    θ_run (Cert.DwoutIdeal.defs (F := Ideal)) (onTc (τ := Cert.DwoutIdeal.τ) (Cert.DwoutIdeal.main (F := Ideal))) ⟨m, fun _ => 0, g⟩ (fun r => (∀ c : Dev Cert.DwoutIdeal.nD,
      r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
      ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ r.2.sem = fun _ => 0)

def quiescent_DwoutRefIdeal [hDwoutRefIdeal : Cert.DwoutRefIdeal.Facts] : Prop :=
  ∀ (m : (ℓ : Loc Cert.DwoutRefIdeal.nD Cert.DwoutRefIdeal.τ Cert.DwoutRefIdeal.sig) → Buf (Elt Ideal) ℓ) (g : Dev Cert.DwoutRefIdeal.nD → PrngReg), Pre_DwoutRefIdeal m →
    θ_run (Cert.DwoutRefIdeal.defs (F := Ideal)) (onTc (τ := Cert.DwoutRefIdeal.τ) (Cert.DwoutRefIdeal.main (F := Ideal))) ⟨m, fun _ => 0, g⟩ (fun r => (∀ c : Dev Cert.DwoutRefIdeal.nD,
      r.2.mem ((c.tc : Thread Cert.DwoutRefIdeal.nD Cert.DwoutRefIdeal.τ).loc Cert.DwoutRefIdeal.main_arg0) = m ((c.tc : Thread Cert.DwoutRefIdeal.nD Cert.DwoutRefIdeal.τ).loc Cert.DwoutRefIdeal.main_arg0)
      ∧ r.2.mem ((c.tc : Thread Cert.DwoutRefIdeal.nD Cert.DwoutRefIdeal.τ).loc Cert.DwoutRefIdeal.main_arg1) = m ((c.tc : Thread Cert.DwoutRefIdeal.nD Cert.DwoutRefIdeal.τ).loc Cert.DwoutRefIdeal.main_arg1))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ r.2.sem = fun _ => 0)

def quiescent_DactIdeal_pre_gate_finite [hDactIdeal : Cert.DactIdeal.Facts] [hPre_gate_finite : Cert.Pre_gate_finite.Facts] : Prop :=
  ∀ (m : (ℓ : Loc Cert.DactIdeal.nD Cert.DactIdeal.τ Cert.DactIdeal.sig) → Buf (Elt Ideal) ℓ) (g : Dev Cert.DactIdeal.nD → PrngReg), Pre_DactIdeal_gate_finite m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1))
      ∧ r.2.sem = fun _ => 0)

def quiescent_DactRefIdeal_pre_gate_finite [hDactRefIdeal : Cert.DactRefIdeal.Facts] [hPre_gate_finite : Cert.Pre_gate_finite.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal_gate_finite m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1))
      ∧ r.2.sem = fun _ => 0)

def quiescent_Dwin [hDwin : Cert.Dwin.Facts] : Prop :=
  ∀ (m : (ℓ : Loc Cert.Dwin.nD Cert.Dwin.τ Cert.Dwin.sig) → Buf (Elt Bits) ℓ) (g : Dev Cert.Dwin.nD → PrngReg), Pre_Dwin m →
    θ_run (Cert.Dwin.defs (F := Bits)) (onTc (τ := Cert.Dwin.τ) (Cert.Dwin.main (F := Bits))) ⟨m, fun _ => 0, g⟩ (fun r => (∀ c : Dev Cert.Dwin.nD,
      r.2.mem ((c.tc : Thread Cert.Dwin.nD Cert.Dwin.τ).loc Cert.Dwin.main_arg0) = m ((c.tc : Thread Cert.Dwin.nD Cert.Dwin.τ).loc Cert.Dwin.main_arg0)
      ∧ r.2.mem ((c.tc : Thread Cert.Dwin.nD Cert.Dwin.τ).loc Cert.Dwin.main_arg1) = m ((c.tc : Thread Cert.Dwin.nD Cert.Dwin.τ).loc Cert.Dwin.main_arg1))
      ∧ r.2.sem = fun _ => 0)

def quiescent_DwinIdeal [hDwinIdeal : Cert.DwinIdeal.Facts] : Prop :=
  ∀ (m : (ℓ : Loc Cert.DwinIdeal.nD Cert.DwinIdeal.τ Cert.DwinIdeal.sig) → Buf (Elt Ideal) ℓ) (g : Dev Cert.DwinIdeal.nD → PrngReg), Pre_DwinIdeal m →
    θ_run (Cert.DwinIdeal.defs (F := Ideal)) (onTc (τ := Cert.DwinIdeal.τ) (Cert.DwinIdeal.main (F := Ideal))) ⟨m, fun _ => 0, g⟩ (fun r => (∀ c : Dev Cert.DwinIdeal.nD,
      r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
      ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ r.2.sem = fun _ => 0)

def quiescent_DwinRefIdeal [hDwinRefIdeal : Cert.DwinRefIdeal.Facts] : Prop :=
  ∀ (m : (ℓ : Loc Cert.DwinRefIdeal.nD Cert.DwinRefIdeal.τ Cert.DwinRefIdeal.sig) → Buf (Elt Ideal) ℓ) (g : Dev Cert.DwinRefIdeal.nD → PrngReg), Pre_DwinRefIdeal m →
    θ_run (Cert.DwinRefIdeal.defs (F := Ideal)) (onTc (τ := Cert.DwinRefIdeal.τ) (Cert.DwinRefIdeal.main (F := Ideal))) ⟨m, fun _ => 0, g⟩ (fun r => (∀ c : Dev Cert.DwinRefIdeal.nD,
      r.2.mem ((c.tc : Thread Cert.DwinRefIdeal.nD Cert.DwinRefIdeal.τ).loc Cert.DwinRefIdeal.main_arg0) = m ((c.tc : Thread Cert.DwinRefIdeal.nD Cert.DwinRefIdeal.τ).loc Cert.DwinRefIdeal.main_arg0)
      ∧ r.2.mem ((c.tc : Thread Cert.DwinRefIdeal.nD Cert.DwinRefIdeal.τ).loc Cert.DwinRefIdeal.main_arg1) = m ((c.tc : Thread Cert.DwinRefIdeal.nD Cert.DwinRefIdeal.τ).loc Cert.DwinRefIdeal.main_arg1))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1))
      ∧ r.2.sem = fun _ => 0)

def quiescent_Uin [hUin : Cert.Uin.Facts] : Prop :=
  ∀ (m : (ℓ : Loc Cert.Uin.nD Cert.Uin.τ Cert.Uin.sig) → Buf (Elt Bits) ℓ) (g : Dev Cert.Uin.nD → PrngReg), Pre_Uin m →
    θ_run (Cert.Uin.defs (F := Bits)) (onTc (τ := Cert.Uin.τ) (Cert.Uin.main (F := Bits))) ⟨m, fun _ => 0, g⟩ (fun r => (∀ c : Dev Cert.Uin.nD,
      r.2.mem ((c.tc : Thread Cert.Uin.nD Cert.Uin.τ).loc Cert.Uin.main_arg0) = m ((c.tc : Thread Cert.Uin.nD Cert.Uin.τ).loc Cert.Uin.main_arg0)
      ∧ r.2.mem ((c.tc : Thread Cert.Uin.nD Cert.Uin.τ).loc Cert.Uin.main_arg1) = m ((c.tc : Thread Cert.Uin.nD Cert.Uin.τ).loc Cert.Uin.main_arg1))
      ∧ r.2.sem = fun _ => 0)

def quiescent_UinIdeal [hUinIdeal : Cert.UinIdeal.Facts] : Prop :=
  ∀ (m : (ℓ : Loc Cert.UinIdeal.nD Cert.UinIdeal.τ Cert.UinIdeal.sig) → Buf (Elt Ideal) ℓ) (g : Dev Cert.UinIdeal.nD → PrngReg), Pre_UinIdeal m →
    θ_run (Cert.UinIdeal.defs (F := Ideal)) (onTc (τ := Cert.UinIdeal.τ) (Cert.UinIdeal.main (F := Ideal))) ⟨m, fun _ => 0, g⟩ (fun r => (∀ c : Dev Cert.UinIdeal.nD,
      r.2.mem ((c.tc : Thread Cert.UinIdeal.nD Cert.UinIdeal.τ).loc Cert.UinIdeal.main_arg0) = m ((c.tc : Thread Cert.UinIdeal.nD Cert.UinIdeal.τ).loc Cert.UinIdeal.main_arg0)
      ∧ r.2.mem ((c.tc : Thread Cert.UinIdeal.nD Cert.UinIdeal.τ).loc Cert.UinIdeal.main_arg1) = m ((c.tc : Thread Cert.UinIdeal.nD Cert.UinIdeal.τ).loc Cert.UinIdeal.main_arg1))
      ∧ r.2.sem = fun _ => 0)

def quiescent_UinRefIdeal [hUinRefIdeal : Cert.UinRefIdeal.Facts] : Prop :=
  ∀ (m : (ℓ : Loc Cert.UinRefIdeal.nD Cert.UinRefIdeal.τ Cert.UinRefIdeal.sig) → Buf (Elt Ideal) ℓ) (g : Dev Cert.UinRefIdeal.nD → PrngReg), Pre_UinRefIdeal m →
    θ_run (Cert.UinRefIdeal.defs (F := Ideal)) (onTc (τ := Cert.UinRefIdeal.τ) (Cert.UinRefIdeal.main (F := Ideal))) ⟨m, fun _ => 0, g⟩ (fun r => (∀ c : Dev Cert.UinRefIdeal.nD,
      r.2.mem ((c.tc : Thread Cert.UinRefIdeal.nD Cert.UinRefIdeal.τ).loc Cert.UinRefIdeal.main_arg0) = m ((c.tc : Thread Cert.UinRefIdeal.nD Cert.UinRefIdeal.τ).loc Cert.UinRefIdeal.main_arg0)
      ∧ r.2.mem ((c.tc : Thread Cert.UinRefIdeal.nD Cert.UinRefIdeal.τ).loc Cert.UinRefIdeal.main_arg1) = m ((c.tc : Thread Cert.UinRefIdeal.nD Cert.UinRefIdeal.τ).loc Cert.UinRefIdeal.main_arg1))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0))
      ∧ r.2.sem = fun _ => 0)

def quiescent_Fout [hFout : Cert.Fout.Facts] : Prop :=
  ∀ (m : (ℓ : Loc Cert.Fout.nD Cert.Fout.τ Cert.Fout.sig) → Buf (Elt Bits) ℓ) (g : Dev Cert.Fout.nD → PrngReg), Pre_Fout m →
    θ_run (Cert.Fout.defs (F := Bits)) (onTc (τ := Cert.Fout.τ) (Cert.Fout.main (F := Bits))) ⟨m, fun _ => 0, g⟩ (fun r => (∀ c : Dev Cert.Fout.nD,
      r.2.mem ((c.tc : Thread Cert.Fout.nD Cert.Fout.τ).loc Cert.Fout.main_arg0) = m ((c.tc : Thread Cert.Fout.nD Cert.Fout.τ).loc Cert.Fout.main_arg0)
      ∧ r.2.mem ((c.tc : Thread Cert.Fout.nD Cert.Fout.τ).loc Cert.Fout.main_arg1) = m ((c.tc : Thread Cert.Fout.nD Cert.Fout.τ).loc Cert.Fout.main_arg1))
      ∧ r.2.sem = fun _ => 0)

def quiescent_FoutIdeal [hFoutIdeal : Cert.FoutIdeal.Facts] : Prop :=
  ∀ (m : (ℓ : Loc Cert.FoutIdeal.nD Cert.FoutIdeal.τ Cert.FoutIdeal.sig) → Buf (Elt Ideal) ℓ) (g : Dev Cert.FoutIdeal.nD → PrngReg), Pre_FoutIdeal m →
    θ_run (Cert.FoutIdeal.defs (F := Ideal)) (onTc (τ := Cert.FoutIdeal.τ) (Cert.FoutIdeal.main (F := Ideal))) ⟨m, fun _ => 0, g⟩ (fun r => (∀ c : Dev Cert.FoutIdeal.nD,
      r.2.mem ((c.tc : Thread Cert.FoutIdeal.nD Cert.FoutIdeal.τ).loc Cert.FoutIdeal.main_arg0) = m ((c.tc : Thread Cert.FoutIdeal.nD Cert.FoutIdeal.τ).loc Cert.FoutIdeal.main_arg0)
      ∧ r.2.mem ((c.tc : Thread Cert.FoutIdeal.nD Cert.FoutIdeal.τ).loc Cert.FoutIdeal.main_arg1) = m ((c.tc : Thread Cert.FoutIdeal.nD Cert.FoutIdeal.τ).loc Cert.FoutIdeal.main_arg1))
      ∧ r.2.sem = fun _ => 0)

def quiescent_FoutRefIdeal [hFoutRefIdeal : Cert.FoutRefIdeal.Facts] : Prop :=
  ∀ (m : (ℓ : Loc Cert.FoutRefIdeal.nD Cert.FoutRefIdeal.τ Cert.FoutRefIdeal.sig) → Buf (Elt Ideal) ℓ) (g : Dev Cert.FoutRefIdeal.nD → PrngReg), Pre_FoutRefIdeal m →
    θ_run (Cert.FoutRefIdeal.defs (F := Ideal)) (onTc (τ := Cert.FoutRefIdeal.τ) (Cert.FoutRefIdeal.main (F := Ideal))) ⟨m, fun _ => 0, g⟩ (fun r => (∀ c : Dev Cert.FoutRefIdeal.nD,
      r.2.mem ((c.tc : Thread Cert.FoutRefIdeal.nD Cert.FoutRefIdeal.τ).loc Cert.FoutRefIdeal.main_arg0) = m ((c.tc : Thread Cert.FoutRefIdeal.nD Cert.FoutRefIdeal.τ).loc Cert.FoutRefIdeal.main_arg0)
      ∧ r.2.mem ((c.tc : Thread Cert.FoutRefIdeal.nD Cert.FoutRefIdeal.τ).loc Cert.FoutRefIdeal.main_arg1) = m ((c.tc : Thread Cert.FoutRefIdeal.nD Cert.FoutRefIdeal.τ).loc Cert.FoutRefIdeal.main_arg1))
      ∧ r.2.sem = fun _ => 0)

def quiescent_Zx [hZx : Cert.Zx.Facts] : Prop :=
  ∀ (m : (ℓ : Loc Cert.Zx.nD Cert.Zx.τ Cert.Zx.sig) → Buf (Elt Bits) ℓ) (g : Dev Cert.Zx.nD → PrngReg), Pre_Zx m →
    θ_run (Cert.Zx.defs (F := Bits)) (onTc (τ := Cert.Zx.τ) (Cert.Zx.main (F := Bits))) ⟨m, fun _ => 0, g⟩ (fun r => (∀ c : Dev Cert.Zx.nD,
      r.2.mem ((c.tc : Thread Cert.Zx.nD Cert.Zx.τ).loc Cert.Zx.main_arg0) = m ((c.tc : Thread Cert.Zx.nD Cert.Zx.τ).loc Cert.Zx.main_arg0)
      ∧ r.2.mem ((c.tc : Thread Cert.Zx.nD Cert.Zx.τ).loc Cert.Zx.main_arg1) = m ((c.tc : Thread Cert.Zx.nD Cert.Zx.τ).loc Cert.Zx.main_arg1))
      ∧ r.2.sem = fun _ => 0)

def quiescent_ZxIdeal [hZxIdeal : Cert.ZxIdeal.Facts] : Prop :=
  ∀ (m : (ℓ : Loc Cert.ZxIdeal.nD Cert.ZxIdeal.τ Cert.ZxIdeal.sig) → Buf (Elt Ideal) ℓ) (g : Dev Cert.ZxIdeal.nD → PrngReg), Pre_ZxIdeal m →
    θ_run (Cert.ZxIdeal.defs (F := Ideal)) (onTc (τ := Cert.ZxIdeal.τ) (Cert.ZxIdeal.main (F := Ideal))) ⟨m, fun _ => 0, g⟩ (fun r => (∀ c : Dev Cert.ZxIdeal.nD,
      r.2.mem ((c.tc : Thread Cert.ZxIdeal.nD Cert.ZxIdeal.τ).loc Cert.ZxIdeal.main_arg0) = m ((c.tc : Thread Cert.ZxIdeal.nD Cert.ZxIdeal.τ).loc Cert.ZxIdeal.main_arg0)
      ∧ r.2.mem ((c.tc : Thread Cert.ZxIdeal.nD Cert.ZxIdeal.τ).loc Cert.ZxIdeal.main_arg1) = m ((c.tc : Thread Cert.ZxIdeal.nD Cert.ZxIdeal.τ).loc Cert.ZxIdeal.main_arg1))
      ∧ r.2.sem = fun _ => 0)

def quiescent_ZxRefIdeal [hZxRefIdeal : Cert.ZxRefIdeal.Facts] : Prop :=
  ∀ (m : (ℓ : Loc Cert.ZxRefIdeal.nD Cert.ZxRefIdeal.τ Cert.ZxRefIdeal.sig) → Buf (Elt Ideal) ℓ) (g : Dev Cert.ZxRefIdeal.nD → PrngReg), Pre_ZxRefIdeal m →
    θ_run (Cert.ZxRefIdeal.defs (F := Ideal)) (onTc (τ := Cert.ZxRefIdeal.τ) (Cert.ZxRefIdeal.main (F := Ideal))) ⟨m, fun _ => 0, g⟩ (fun r => (∀ c : Dev Cert.ZxRefIdeal.nD,
      r.2.mem ((c.tc : Thread Cert.ZxRefIdeal.nD Cert.ZxRefIdeal.τ).loc Cert.ZxRefIdeal.main_arg0) = m ((c.tc : Thread Cert.ZxRefIdeal.nD Cert.ZxRefIdeal.τ).loc Cert.ZxRefIdeal.main_arg0)
      ∧ r.2.mem ((c.tc : Thread Cert.ZxRefIdeal.nD Cert.ZxRefIdeal.τ).loc Cert.ZxRefIdeal.main_arg1) = m ((c.tc : Thread Cert.ZxRefIdeal.nD Cert.ZxRefIdeal.τ).loc Cert.ZxRefIdeal.main_arg1))
      ∧ r.2.sem = fun _ => 0)

def quiescent_Dwzx [hDwzx : Cert.Dwzx.Facts] : Prop :=
  ∀ (m : (ℓ : Loc Cert.Dwzx.nD Cert.Dwzx.τ Cert.Dwzx.sig) → Buf (Elt Bits) ℓ) (g : Dev Cert.Dwzx.nD → PrngReg), Pre_Dwzx m →
    θ_run (Cert.Dwzx.defs (F := Bits)) (onTc (τ := Cert.Dwzx.τ) (Cert.Dwzx.main (F := Bits))) ⟨m, fun _ => 0, g⟩ (fun r => (∀ c : Dev Cert.Dwzx.nD,
      r.2.mem ((c.tc : Thread Cert.Dwzx.nD Cert.Dwzx.τ).loc Cert.Dwzx.main_arg0) = m ((c.tc : Thread Cert.Dwzx.nD Cert.Dwzx.τ).loc Cert.Dwzx.main_arg0)
      ∧ r.2.mem ((c.tc : Thread Cert.Dwzx.nD Cert.Dwzx.τ).loc Cert.Dwzx.main_arg1) = m ((c.tc : Thread Cert.Dwzx.nD Cert.Dwzx.τ).loc Cert.Dwzx.main_arg1))
      ∧ r.2.sem = fun _ => 0)

def quiescent_DwzxIdeal [hDwzxIdeal : Cert.DwzxIdeal.Facts] : Prop :=
  ∀ (m : (ℓ : Loc Cert.DwzxIdeal.nD Cert.DwzxIdeal.τ Cert.DwzxIdeal.sig) → Buf (Elt Ideal) ℓ) (g : Dev Cert.DwzxIdeal.nD → PrngReg), Pre_DwzxIdeal m →
    θ_run (Cert.DwzxIdeal.defs (F := Ideal)) (onTc (τ := Cert.DwzxIdeal.τ) (Cert.DwzxIdeal.main (F := Ideal))) ⟨m, fun _ => 0, g⟩ (fun r => (∀ c : Dev Cert.DwzxIdeal.nD,
      r.2.mem ((c.tc : Thread Cert.DwzxIdeal.nD Cert.DwzxIdeal.τ).loc Cert.DwzxIdeal.main_arg0) = m ((c.tc : Thread Cert.DwzxIdeal.nD Cert.DwzxIdeal.τ).loc Cert.DwzxIdeal.main_arg0)
      ∧ r.2.mem ((c.tc : Thread Cert.DwzxIdeal.nD Cert.DwzxIdeal.τ).loc Cert.DwzxIdeal.main_arg1) = m ((c.tc : Thread Cert.DwzxIdeal.nD Cert.DwzxIdeal.τ).loc Cert.DwzxIdeal.main_arg1))
      ∧ r.2.sem = fun _ => 0)

def quiescent_DwzxRefIdeal [hDwzxRefIdeal : Cert.DwzxRefIdeal.Facts] : Prop :=
  ∀ (m : (ℓ : Loc Cert.DwzxRefIdeal.nD Cert.DwzxRefIdeal.τ Cert.DwzxRefIdeal.sig) → Buf (Elt Ideal) ℓ) (g : Dev Cert.DwzxRefIdeal.nD → PrngReg), Pre_DwzxRefIdeal m →
    θ_run (Cert.DwzxRefIdeal.defs (F := Ideal)) (onTc (τ := Cert.DwzxRefIdeal.τ) (Cert.DwzxRefIdeal.main (F := Ideal))) ⟨m, fun _ => 0, g⟩ (fun r => (∀ c : Dev Cert.DwzxRefIdeal.nD,
      r.2.mem ((c.tc : Thread Cert.DwzxRefIdeal.nD Cert.DwzxRefIdeal.τ).loc Cert.DwzxRefIdeal.main_arg0) = m ((c.tc : Thread Cert.DwzxRefIdeal.nD Cert.DwzxRefIdeal.τ).loc Cert.DwzxRefIdeal.main_arg0)
      ∧ r.2.mem ((c.tc : Thread Cert.DwzxRefIdeal.nD Cert.DwzxRefIdeal.τ).loc Cert.DwzxRefIdeal.main_arg1) = m ((c.tc : Thread Cert.DwzxRefIdeal.nD Cert.DwzxRefIdeal.τ).loc Cert.DwzxRefIdeal.main_arg1))
      ∧ r.2.sem = fun _ => 0)

def quiescent_Dzx [hDzx : Cert.Dzx.Facts] : Prop :=
  ∀ (m : (ℓ : Loc Cert.Dzx.nD Cert.Dzx.τ Cert.Dzx.sig) → Buf (Elt Bits) ℓ) (g : Dev Cert.Dzx.nD → PrngReg), Pre_Dzx m →
    θ_run (Cert.Dzx.defs (F := Bits)) (onTc (τ := Cert.Dzx.τ) (Cert.Dzx.main (F := Bits))) ⟨m, fun _ => 0, g⟩ (fun r => (∀ c : Dev Cert.Dzx.nD,
      r.2.mem ((c.tc : Thread Cert.Dzx.nD Cert.Dzx.τ).loc Cert.Dzx.main_arg0) = m ((c.tc : Thread Cert.Dzx.nD Cert.Dzx.τ).loc Cert.Dzx.main_arg0)
      ∧ r.2.mem ((c.tc : Thread Cert.Dzx.nD Cert.Dzx.τ).loc Cert.Dzx.main_arg1) = m ((c.tc : Thread Cert.Dzx.nD Cert.Dzx.τ).loc Cert.Dzx.main_arg1))
      ∧ r.2.sem = fun _ => 0)

def quiescent_DzxIdeal [hDzxIdeal : Cert.DzxIdeal.Facts] : Prop :=
  ∀ (m : (ℓ : Loc Cert.DzxIdeal.nD Cert.DzxIdeal.τ Cert.DzxIdeal.sig) → Buf (Elt Ideal) ℓ) (g : Dev Cert.DzxIdeal.nD → PrngReg), Pre_DzxIdeal m →
    θ_run (Cert.DzxIdeal.defs (F := Ideal)) (onTc (τ := Cert.DzxIdeal.τ) (Cert.DzxIdeal.main (F := Ideal))) ⟨m, fun _ => 0, g⟩ (fun r => (∀ c : Dev Cert.DzxIdeal.nD,
      r.2.mem ((c.tc : Thread Cert.DzxIdeal.nD Cert.DzxIdeal.τ).loc Cert.DzxIdeal.main_arg0) = m ((c.tc : Thread Cert.DzxIdeal.nD Cert.DzxIdeal.τ).loc Cert.DzxIdeal.main_arg0)
      ∧ r.2.mem ((c.tc : Thread Cert.DzxIdeal.nD Cert.DzxIdeal.τ).loc Cert.DzxIdeal.main_arg1) = m ((c.tc : Thread Cert.DzxIdeal.nD Cert.DzxIdeal.τ).loc Cert.DzxIdeal.main_arg1))
      ∧ r.2.sem = fun _ => 0)

def quiescent_DzxRefIdeal [hDzxRefIdeal : Cert.DzxRefIdeal.Facts] : Prop :=
  ∀ (m : (ℓ : Loc Cert.DzxRefIdeal.nD Cert.DzxRefIdeal.τ Cert.DzxRefIdeal.sig) → Buf (Elt Ideal) ℓ) (g : Dev Cert.DzxRefIdeal.nD → PrngReg), Pre_DzxRefIdeal m →
    θ_run (Cert.DzxRefIdeal.defs (F := Ideal)) (onTc (τ := Cert.DzxRefIdeal.τ) (Cert.DzxRefIdeal.main (F := Ideal))) ⟨m, fun _ => 0, g⟩ (fun r => (∀ c : Dev Cert.DzxRefIdeal.nD,
      r.2.mem ((c.tc : Thread Cert.DzxRefIdeal.nD Cert.DzxRefIdeal.τ).loc Cert.DzxRefIdeal.main_arg0) = m ((c.tc : Thread Cert.DzxRefIdeal.nD Cert.DzxRefIdeal.τ).loc Cert.DzxRefIdeal.main_arg0)
      ∧ r.2.mem ((c.tc : Thread Cert.DzxRefIdeal.nD Cert.DzxRefIdeal.τ).loc Cert.DzxRefIdeal.main_arg1) = m ((c.tc : Thread Cert.DzxRefIdeal.nD Cert.DzxRefIdeal.τ).loc Cert.DzxRefIdeal.main_arg1))
      ∧ r.2.sem = fun _ => 0)

def quiescent_Dglu [hDglu : Cert.Dglu.Facts] : Prop :=
  ∀ (m : (ℓ : Loc Cert.Dglu.nD Cert.Dglu.τ Cert.Dglu.sig) → Buf (Elt Bits) ℓ) (g : Dev Cert.Dglu.nD → PrngReg), Pre_Dglu m →
    θ_run (Cert.Dglu.defs (F := Bits)) (onTc (τ := Cert.Dglu.τ) (Cert.Dglu.main (F := Bits))) ⟨m, fun _ => 0, g⟩ (fun r => (∀ c : Dev Cert.Dglu.nD,
      r.2.mem ((c.tc : Thread Cert.Dglu.nD Cert.Dglu.τ).loc Cert.Dglu.main_arg0) = m ((c.tc : Thread Cert.Dglu.nD Cert.Dglu.τ).loc Cert.Dglu.main_arg0)
      ∧ r.2.mem ((c.tc : Thread Cert.Dglu.nD Cert.Dglu.τ).loc Cert.Dglu.main_arg1) = m ((c.tc : Thread Cert.Dglu.nD Cert.Dglu.τ).loc Cert.Dglu.main_arg1)
      ∧ r.2.mem ((c.tc : Thread Cert.Dglu.nD Cert.Dglu.τ).loc Cert.Dglu.main_arg2) = m ((c.tc : Thread Cert.Dglu.nD Cert.Dglu.τ).loc Cert.Dglu.main_arg2))
      ∧ r.2.sem = fun _ => 0)

def quiescent_DgluIdeal [hDgluIdeal : Cert.DgluIdeal.Facts] : Prop :=
  ∀ (m : (ℓ : Loc Cert.DgluIdeal.nD Cert.DgluIdeal.τ Cert.DgluIdeal.sig) → Buf (Elt Ideal) ℓ) (g : Dev Cert.DgluIdeal.nD → PrngReg), Pre_DgluIdeal m →
    θ_run (Cert.DgluIdeal.defs (F := Ideal)) (onTc (τ := Cert.DgluIdeal.τ) (Cert.DgluIdeal.main (F := Ideal))) ⟨m, fun _ => 0, g⟩ (fun r => (∀ c : Dev Cert.DgluIdeal.nD,
      r.2.mem ((c.tc : Thread Cert.DgluIdeal.nD Cert.DgluIdeal.τ).loc Cert.DgluIdeal.main_arg0) = m ((c.tc : Thread Cert.DgluIdeal.nD Cert.DgluIdeal.τ).loc Cert.DgluIdeal.main_arg0)
      ∧ r.2.mem ((c.tc : Thread Cert.DgluIdeal.nD Cert.DgluIdeal.τ).loc Cert.DgluIdeal.main_arg1) = m ((c.tc : Thread Cert.DgluIdeal.nD Cert.DgluIdeal.τ).loc Cert.DgluIdeal.main_arg1)
      ∧ r.2.mem ((c.tc : Thread Cert.DgluIdeal.nD Cert.DgluIdeal.τ).loc Cert.DgluIdeal.main_arg2) = m ((c.tc : Thread Cert.DgluIdeal.nD Cert.DgluIdeal.τ).loc Cert.DgluIdeal.main_arg2))
      ∧ r.2.sem = fun _ => 0)

def quiescent_DgluRefIdeal [hDgluRefIdeal : Cert.DgluRefIdeal.Facts] : Prop :=
  ∀ (m : (ℓ : Loc Cert.DgluRefIdeal.nD Cert.DgluRefIdeal.τ Cert.DgluRefIdeal.sig) → Buf (Elt Ideal) ℓ) (g : Dev Cert.DgluRefIdeal.nD → PrngReg), Pre_DgluRefIdeal m →
    θ_run (Cert.DgluRefIdeal.defs (F := Ideal)) (onTc (τ := Cert.DgluRefIdeal.τ) (Cert.DgluRefIdeal.main (F := Ideal))) ⟨m, fun _ => 0, g⟩ (fun r => (∀ c : Dev Cert.DgluRefIdeal.nD,
      r.2.mem ((c.tc : Thread Cert.DgluRefIdeal.nD Cert.DgluRefIdeal.τ).loc Cert.DgluRefIdeal.main_arg0) = m ((c.tc : Thread Cert.DgluRefIdeal.nD Cert.DgluRefIdeal.τ).loc Cert.DgluRefIdeal.main_arg0)
      ∧ r.2.mem ((c.tc : Thread Cert.DgluRefIdeal.nD Cert.DgluRefIdeal.τ).loc Cert.DgluRefIdeal.main_arg1) = m ((c.tc : Thread Cert.DgluRefIdeal.nD Cert.DgluRefIdeal.τ).loc Cert.DgluRefIdeal.main_arg1)
      ∧ r.2.mem ((c.tc : Thread Cert.DgluRefIdeal.nD Cert.DgluRefIdeal.τ).loc Cert.DgluRefIdeal.main_arg2) = m ((c.tc : Thread Cert.DgluRefIdeal.nD Cert.DgluRefIdeal.τ).loc Cert.DgluRefIdeal.main_arg2))
      ∧ r.2.sem = fun _ => 0)

def quiescent_Dnorm [hDnorm : Cert.Dnorm.Facts] : Prop :=
  ∀ (m : (ℓ : Loc Cert.Dnorm.nD Cert.Dnorm.τ Cert.Dnorm.sig) → Buf (Elt Bits) ℓ) (g : Dev Cert.Dnorm.nD → PrngReg), Pre_Dnorm m →
    θ_run (Cert.Dnorm.defs (F := Bits)) (onTc (τ := Cert.Dnorm.τ) (Cert.Dnorm.main (F := Bits))) ⟨m, fun _ => 0, g⟩ (fun r => (∀ c : Dev Cert.Dnorm.nD,
      r.2.mem ((c.tc : Thread Cert.Dnorm.nD Cert.Dnorm.τ).loc Cert.Dnorm.main_arg0) = m ((c.tc : Thread Cert.Dnorm.nD Cert.Dnorm.τ).loc Cert.Dnorm.main_arg0)
      ∧ r.2.mem ((c.tc : Thread Cert.Dnorm.nD Cert.Dnorm.τ).loc Cert.Dnorm.main_arg1) = m ((c.tc : Thread Cert.Dnorm.nD Cert.Dnorm.τ).loc Cert.Dnorm.main_arg1)
      ∧ r.2.mem ((c.tc : Thread Cert.Dnorm.nD Cert.Dnorm.τ).loc Cert.Dnorm.main_arg2) = m ((c.tc : Thread Cert.Dnorm.nD Cert.Dnorm.τ).loc Cert.Dnorm.main_arg2)
      ∧ r.2.mem ((c.tc : Thread Cert.Dnorm.nD Cert.Dnorm.τ).loc Cert.Dnorm.main_arg3) = m ((c.tc : Thread Cert.Dnorm.nD Cert.Dnorm.τ).loc Cert.Dnorm.main_arg3)
      ∧ r.2.mem ((c.tc : Thread Cert.Dnorm.nD Cert.Dnorm.τ).loc Cert.Dnorm.main_arg4) = m ((c.tc : Thread Cert.Dnorm.nD Cert.Dnorm.τ).loc Cert.Dnorm.main_arg4))
      ∧ r.2.sem = fun _ => 0)

def quiescent_DnormIdeal [hDnormIdeal : Cert.DnormIdeal.Facts] : Prop :=
  ∀ (m : (ℓ : Loc Cert.DnormIdeal.nD Cert.DnormIdeal.τ Cert.DnormIdeal.sig) → Buf (Elt Ideal) ℓ) (g : Dev Cert.DnormIdeal.nD → PrngReg), Pre_DnormIdeal m →
    θ_run (Cert.DnormIdeal.defs (F := Ideal)) (onTc (τ := Cert.DnormIdeal.τ) (Cert.DnormIdeal.main (F := Ideal))) ⟨m, fun _ => 0, g⟩ (fun r => (∀ c : Dev Cert.DnormIdeal.nD,
      r.2.mem ((c.tc : Thread Cert.DnormIdeal.nD Cert.DnormIdeal.τ).loc Cert.DnormIdeal.main_arg0) = m ((c.tc : Thread Cert.DnormIdeal.nD Cert.DnormIdeal.τ).loc Cert.DnormIdeal.main_arg0)
      ∧ r.2.mem ((c.tc : Thread Cert.DnormIdeal.nD Cert.DnormIdeal.τ).loc Cert.DnormIdeal.main_arg1) = m ((c.tc : Thread Cert.DnormIdeal.nD Cert.DnormIdeal.τ).loc Cert.DnormIdeal.main_arg1)
      ∧ r.2.mem ((c.tc : Thread Cert.DnormIdeal.nD Cert.DnormIdeal.τ).loc Cert.DnormIdeal.main_arg2) = m ((c.tc : Thread Cert.DnormIdeal.nD Cert.DnormIdeal.τ).loc Cert.DnormIdeal.main_arg2)
      ∧ r.2.mem ((c.tc : Thread Cert.DnormIdeal.nD Cert.DnormIdeal.τ).loc Cert.DnormIdeal.main_arg3) = m ((c.tc : Thread Cert.DnormIdeal.nD Cert.DnormIdeal.τ).loc Cert.DnormIdeal.main_arg3)
      ∧ r.2.mem ((c.tc : Thread Cert.DnormIdeal.nD Cert.DnormIdeal.τ).loc Cert.DnormIdeal.main_arg4) = m ((c.tc : Thread Cert.DnormIdeal.nD Cert.DnormIdeal.τ).loc Cert.DnormIdeal.main_arg4))
      ∧ r.2.sem = fun _ => 0)

def quiescent_DnormIdeal_pre_norm_finite [hDnormIdeal : Cert.DnormIdeal.Facts] [hPre_norm_finite : Cert.Pre_norm_finite.Facts] : Prop :=
  ∀ (m : (ℓ : Loc Cert.DnormIdeal.nD Cert.DnormIdeal.τ Cert.DnormIdeal.sig) → Buf (Elt Ideal) ℓ) (g : Dev Cert.DnormIdeal.nD → PrngReg), Pre_DnormIdeal_norm_finite m →
    θ_run (Cert.DnormIdeal.defs (F := Ideal)) (onTc (τ := Cert.DnormIdeal.τ) (Cert.DnormIdeal.main (F := Ideal))) ⟨m, fun _ => 0, g⟩ (fun r => (∀ c : Dev Cert.DnormIdeal.nD,
      r.2.mem ((c.tc : Thread Cert.DnormIdeal.nD Cert.DnormIdeal.τ).loc Cert.DnormIdeal.main_arg0) = m ((c.tc : Thread Cert.DnormIdeal.nD Cert.DnormIdeal.τ).loc Cert.DnormIdeal.main_arg0)
      ∧ r.2.mem ((c.tc : Thread Cert.DnormIdeal.nD Cert.DnormIdeal.τ).loc Cert.DnormIdeal.main_arg1) = m ((c.tc : Thread Cert.DnormIdeal.nD Cert.DnormIdeal.τ).loc Cert.DnormIdeal.main_arg1)
      ∧ r.2.mem ((c.tc : Thread Cert.DnormIdeal.nD Cert.DnormIdeal.τ).loc Cert.DnormIdeal.main_arg2) = m ((c.tc : Thread Cert.DnormIdeal.nD Cert.DnormIdeal.τ).loc Cert.DnormIdeal.main_arg2)
      ∧ r.2.mem ((c.tc : Thread Cert.DnormIdeal.nD Cert.DnormIdeal.τ).loc Cert.DnormIdeal.main_arg3) = m ((c.tc : Thread Cert.DnormIdeal.nD Cert.DnormIdeal.τ).loc Cert.DnormIdeal.main_arg3)
      ∧ r.2.mem ((c.tc : Thread Cert.DnormIdeal.nD Cert.DnormIdeal.τ).loc Cert.DnormIdeal.main_arg4) = m ((c.tc : Thread Cert.DnormIdeal.nD Cert.DnormIdeal.τ).loc Cert.DnormIdeal.main_arg4))
      ∧ r.2.sem = fun _ => 0)

def quiescent_DnormRefIdeal [hDnormRefIdeal : Cert.DnormRefIdeal.Facts] : Prop :=
  ∀ (m : (ℓ : Loc Cert.DnormRefIdeal.nD Cert.DnormRefIdeal.τ Cert.DnormRefIdeal.sig) → Buf (Elt Ideal) ℓ) (g : Dev Cert.DnormRefIdeal.nD → PrngReg), Pre_DnormRefIdeal m →
    θ_run (Cert.DnormRefIdeal.defs (F := Ideal)) (onTc (τ := Cert.DnormRefIdeal.τ) (Cert.DnormRefIdeal.main (F := Ideal))) ⟨m, fun _ => 0, g⟩ (fun r => (∀ c : Dev Cert.DnormRefIdeal.nD,
      r.2.mem ((c.tc : Thread Cert.DnormRefIdeal.nD Cert.DnormRefIdeal.τ).loc Cert.DnormRefIdeal.main_arg0) = m ((c.tc : Thread Cert.DnormRefIdeal.nD Cert.DnormRefIdeal.τ).loc Cert.DnormRefIdeal.main_arg0)
      ∧ r.2.mem ((c.tc : Thread Cert.DnormRefIdeal.nD Cert.DnormRefIdeal.τ).loc Cert.DnormRefIdeal.main_arg1) = m ((c.tc : Thread Cert.DnormRefIdeal.nD Cert.DnormRefIdeal.τ).loc Cert.DnormRefIdeal.main_arg1)
      ∧ r.2.mem ((c.tc : Thread Cert.DnormRefIdeal.nD Cert.DnormRefIdeal.τ).loc Cert.DnormRefIdeal.main_arg2) = m ((c.tc : Thread Cert.DnormRefIdeal.nD Cert.DnormRefIdeal.τ).loc Cert.DnormRefIdeal.main_arg2)
      ∧ r.2.mem ((c.tc : Thread Cert.DnormRefIdeal.nD Cert.DnormRefIdeal.τ).loc Cert.DnormRefIdeal.main_arg3) = m ((c.tc : Thread Cert.DnormRefIdeal.nD Cert.DnormRefIdeal.τ).loc Cert.DnormRefIdeal.main_arg3)
      ∧ r.2.mem ((c.tc : Thread Cert.DnormRefIdeal.nD Cert.DnormRefIdeal.τ).loc Cert.DnormRefIdeal.main_arg4) = m ((c.tc : Thread Cert.DnormRefIdeal.nD Cert.DnormRefIdeal.τ).loc Cert.DnormRefIdeal.main_arg4))
      ∧ r.2.sem = fun _ => 0)

def quiescent_DnormRefIdeal_pre_norm_finite [hDnormRefIdeal : Cert.DnormRefIdeal.Facts] [hPre_norm_finite : Cert.Pre_norm_finite.Facts] : Prop :=
  ∀ (m : (ℓ : Loc Cert.DnormRefIdeal.nD Cert.DnormRefIdeal.τ Cert.DnormRefIdeal.sig) → Buf (Elt Ideal) ℓ) (g : Dev Cert.DnormRefIdeal.nD → PrngReg), Pre_DnormRefIdeal_norm_finite m →
    θ_run (Cert.DnormRefIdeal.defs (F := Ideal)) (onTc (τ := Cert.DnormRefIdeal.τ) (Cert.DnormRefIdeal.main (F := Ideal))) ⟨m, fun _ => 0, g⟩ (fun r => (∀ c : Dev Cert.DnormRefIdeal.nD,
      r.2.mem ((c.tc : Thread Cert.DnormRefIdeal.nD Cert.DnormRefIdeal.τ).loc Cert.DnormRefIdeal.main_arg0) = m ((c.tc : Thread Cert.DnormRefIdeal.nD Cert.DnormRefIdeal.τ).loc Cert.DnormRefIdeal.main_arg0)
      ∧ r.2.mem ((c.tc : Thread Cert.DnormRefIdeal.nD Cert.DnormRefIdeal.τ).loc Cert.DnormRefIdeal.main_arg1) = m ((c.tc : Thread Cert.DnormRefIdeal.nD Cert.DnormRefIdeal.τ).loc Cert.DnormRefIdeal.main_arg1)
      ∧ r.2.mem ((c.tc : Thread Cert.DnormRefIdeal.nD Cert.DnormRefIdeal.τ).loc Cert.DnormRefIdeal.main_arg2) = m ((c.tc : Thread Cert.DnormRefIdeal.nD Cert.DnormRefIdeal.τ).loc Cert.DnormRefIdeal.main_arg2)
      ∧ r.2.mem ((c.tc : Thread Cert.DnormRefIdeal.nD Cert.DnormRefIdeal.τ).loc Cert.DnormRefIdeal.main_arg3) = m ((c.tc : Thread Cert.DnormRefIdeal.nD Cert.DnormRefIdeal.τ).loc Cert.DnormRefIdeal.main_arg3)
      ∧ r.2.mem ((c.tc : Thread Cert.DnormRefIdeal.nD Cert.DnormRefIdeal.τ).loc Cert.DnormRefIdeal.main_arg4) = m ((c.tc : Thread Cert.DnormRefIdeal.nD Cert.DnormRefIdeal.τ).loc Cert.DnormRefIdeal.main_arg4))
      ∧ r.2.sem = fun _ => 0)

def quiescent_Dpwin [hDpwin : Cert.Dpwin.Facts] : Prop :=
  ∀ (m : (ℓ : Loc Cert.Dpwin.nD Cert.Dpwin.τ Cert.Dpwin.sig) → Buf (Elt Bits) ℓ) (g : Dev Cert.Dpwin.nD → PrngReg), Pre_Dpwin m →
    θ_run (Cert.Dpwin.defs (F := Bits)) (onTc (τ := Cert.Dpwin.τ) (Cert.Dpwin.main (F := Bits))) ⟨m, fun _ => 0, g⟩ (fun r => (∀ c : Dev Cert.Dpwin.nD,
      r.2.mem ((c.tc : Thread Cert.Dpwin.nD Cert.Dpwin.τ).loc Cert.Dpwin.main_arg0) = m ((c.tc : Thread Cert.Dpwin.nD Cert.Dpwin.τ).loc Cert.Dpwin.main_arg0)
      ∧ r.2.mem ((c.tc : Thread Cert.Dpwin.nD Cert.Dpwin.τ).loc Cert.Dpwin.main_arg1) = m ((c.tc : Thread Cert.Dpwin.nD Cert.Dpwin.τ).loc Cert.Dpwin.main_arg1))
      ∧ r.2.sem = fun _ => 0)

def quiescent_DpwinIdeal [hDpwinIdeal : Cert.DpwinIdeal.Facts] : Prop :=
  ∀ (m : (ℓ : Loc Cert.DpwinIdeal.nD Cert.DpwinIdeal.τ Cert.DpwinIdeal.sig) → Buf (Elt Ideal) ℓ) (g : Dev Cert.DpwinIdeal.nD → PrngReg), Pre_DpwinIdeal m →
    θ_run (Cert.DpwinIdeal.defs (F := Ideal)) (onTc (τ := Cert.DpwinIdeal.τ) (Cert.DpwinIdeal.main (F := Ideal))) ⟨m, fun _ => 0, g⟩ (fun r => (∀ c : Dev Cert.DpwinIdeal.nD,
      r.2.mem ((c.tc : Thread Cert.DpwinIdeal.nD Cert.DpwinIdeal.τ).loc Cert.DpwinIdeal.main_arg0) = m ((c.tc : Thread Cert.DpwinIdeal.nD Cert.DpwinIdeal.τ).loc Cert.DpwinIdeal.main_arg0)
      ∧ r.2.mem ((c.tc : Thread Cert.DpwinIdeal.nD Cert.DpwinIdeal.τ).loc Cert.DpwinIdeal.main_arg1) = m ((c.tc : Thread Cert.DpwinIdeal.nD Cert.DpwinIdeal.τ).loc Cert.DpwinIdeal.main_arg1))
      ∧ r.2.sem = fun _ => 0)

def quiescent_DpwinRefIdeal [hDpwinRefIdeal : Cert.DpwinRefIdeal.Facts] : Prop :=
  ∀ (m : (ℓ : Loc Cert.DpwinRefIdeal.nD Cert.DpwinRefIdeal.τ Cert.DpwinRefIdeal.sig) → Buf (Elt Ideal) ℓ) (g : Dev Cert.DpwinRefIdeal.nD → PrngReg), Pre_DpwinRefIdeal m →
    θ_run (Cert.DpwinRefIdeal.defs (F := Ideal)) (onTc (τ := Cert.DpwinRefIdeal.τ) (Cert.DpwinRefIdeal.main (F := Ideal))) ⟨m, fun _ => 0, g⟩ (fun r => (∀ c : Dev Cert.DpwinRefIdeal.nD,
      r.2.mem ((c.tc : Thread Cert.DpwinRefIdeal.nD Cert.DpwinRefIdeal.τ).loc Cert.DpwinRefIdeal.main_arg0) = m ((c.tc : Thread Cert.DpwinRefIdeal.nD Cert.DpwinRefIdeal.τ).loc Cert.DpwinRefIdeal.main_arg0)
      ∧ r.2.mem ((c.tc : Thread Cert.DpwinRefIdeal.nD Cert.DpwinRefIdeal.τ).loc Cert.DpwinRefIdeal.main_arg1) = m ((c.tc : Thread Cert.DpwinRefIdeal.nD Cert.DpwinRefIdeal.τ).loc Cert.DpwinRefIdeal.main_arg1))
      ∧ r.2.sem = fun _ => 0)

def quiescent_Dpwout [hDpwout : Cert.Dpwout.Facts] : Prop :=
  ∀ (m : (ℓ : Loc Cert.Dpwout.nD Cert.Dpwout.τ Cert.Dpwout.sig) → Buf (Elt Bits) ℓ) (g : Dev Cert.Dpwout.nD → PrngReg), Pre_Dpwout m →
    θ_run (Cert.Dpwout.defs (F := Bits)) (onTc (τ := Cert.Dpwout.τ) (Cert.Dpwout.main (F := Bits))) ⟨m, fun _ => 0, g⟩ (fun r => (∀ c : Dev Cert.Dpwout.nD,
      r.2.mem ((c.tc : Thread Cert.Dpwout.nD Cert.Dpwout.τ).loc Cert.Dpwout.main_arg0) = m ((c.tc : Thread Cert.Dpwout.nD Cert.Dpwout.τ).loc Cert.Dpwout.main_arg0)
      ∧ r.2.mem ((c.tc : Thread Cert.Dpwout.nD Cert.Dpwout.τ).loc Cert.Dpwout.main_arg1) = m ((c.tc : Thread Cert.Dpwout.nD Cert.Dpwout.τ).loc Cert.Dpwout.main_arg1))
      ∧ r.2.sem = fun _ => 0)

def quiescent_DpwoutIdeal [hDpwoutIdeal : Cert.DpwoutIdeal.Facts] : Prop :=
  ∀ (m : (ℓ : Loc Cert.DpwoutIdeal.nD Cert.DpwoutIdeal.τ Cert.DpwoutIdeal.sig) → Buf (Elt Ideal) ℓ) (g : Dev Cert.DpwoutIdeal.nD → PrngReg), Pre_DpwoutIdeal m →
    θ_run (Cert.DpwoutIdeal.defs (F := Ideal)) (onTc (τ := Cert.DpwoutIdeal.τ) (Cert.DpwoutIdeal.main (F := Ideal))) ⟨m, fun _ => 0, g⟩ (fun r => (∀ c : Dev Cert.DpwoutIdeal.nD,
      r.2.mem ((c.tc : Thread Cert.DpwoutIdeal.nD Cert.DpwoutIdeal.τ).loc Cert.DpwoutIdeal.main_arg0) = m ((c.tc : Thread Cert.DpwoutIdeal.nD Cert.DpwoutIdeal.τ).loc Cert.DpwoutIdeal.main_arg0)
      ∧ r.2.mem ((c.tc : Thread Cert.DpwoutIdeal.nD Cert.DpwoutIdeal.τ).loc Cert.DpwoutIdeal.main_arg1) = m ((c.tc : Thread Cert.DpwoutIdeal.nD Cert.DpwoutIdeal.τ).loc Cert.DpwoutIdeal.main_arg1))
      ∧ r.2.sem = fun _ => 0)

def quiescent_DpwoutRefIdeal [hDpwoutRefIdeal : Cert.DpwoutRefIdeal.Facts] : Prop :=
  ∀ (m : (ℓ : Loc Cert.DpwoutRefIdeal.nD Cert.DpwoutRefIdeal.τ Cert.DpwoutRefIdeal.sig) → Buf (Elt Ideal) ℓ) (g : Dev Cert.DpwoutRefIdeal.nD → PrngReg), Pre_DpwoutRefIdeal m →
    θ_run (Cert.DpwoutRefIdeal.defs (F := Ideal)) (onTc (τ := Cert.DpwoutRefIdeal.τ) (Cert.DpwoutRefIdeal.main (F := Ideal))) ⟨m, fun _ => 0, g⟩ (fun r => (∀ c : Dev Cert.DpwoutRefIdeal.nD,
      r.2.mem ((c.tc : Thread Cert.DpwoutRefIdeal.nD Cert.DpwoutRefIdeal.τ).loc Cert.DpwoutRefIdeal.main_arg0) = m ((c.tc : Thread Cert.DpwoutRefIdeal.nD Cert.DpwoutRefIdeal.τ).loc Cert.DpwoutRefIdeal.main_arg0)
      ∧ r.2.mem ((c.tc : Thread Cert.DpwoutRefIdeal.nD Cert.DpwoutRefIdeal.τ).loc Cert.DpwoutRefIdeal.main_arg1) = m ((c.tc : Thread Cert.DpwoutRefIdeal.nD Cert.DpwoutRefIdeal.τ).loc Cert.DpwoutRefIdeal.main_arg1))
      ∧ r.2.sem = fun _ => 0)

def quiescent_Dpwx [hDpwx : Cert.Dpwx.Facts] : Prop :=
  ∀ (m : (ℓ : Loc Cert.Dpwx.nD Cert.Dpwx.τ Cert.Dpwx.sig) → Buf (Elt Bits) ℓ) (g : Dev Cert.Dpwx.nD → PrngReg), Pre_Dpwx m →
    θ_run (Cert.Dpwx.defs (F := Bits)) (onTc (τ := Cert.Dpwx.τ) (Cert.Dpwx.main (F := Bits))) ⟨m, fun _ => 0, g⟩ (fun r => (∀ c : Dev Cert.Dpwx.nD,
      r.2.mem ((c.tc : Thread Cert.Dpwx.nD Cert.Dpwx.τ).loc Cert.Dpwx.main_arg0) = m ((c.tc : Thread Cert.Dpwx.nD Cert.Dpwx.τ).loc Cert.Dpwx.main_arg0)
      ∧ r.2.mem ((c.tc : Thread Cert.Dpwx.nD Cert.Dpwx.τ).loc Cert.Dpwx.main_arg1) = m ((c.tc : Thread Cert.Dpwx.nD Cert.Dpwx.τ).loc Cert.Dpwx.main_arg1))
      ∧ r.2.sem = fun _ => 0)

def quiescent_DpwxIdeal [hDpwxIdeal : Cert.DpwxIdeal.Facts] : Prop :=
  ∀ (m : (ℓ : Loc Cert.DpwxIdeal.nD Cert.DpwxIdeal.τ Cert.DpwxIdeal.sig) → Buf (Elt Ideal) ℓ) (g : Dev Cert.DpwxIdeal.nD → PrngReg), Pre_DpwxIdeal m →
    θ_run (Cert.DpwxIdeal.defs (F := Ideal)) (onTc (τ := Cert.DpwxIdeal.τ) (Cert.DpwxIdeal.main (F := Ideal))) ⟨m, fun _ => 0, g⟩ (fun r => (∀ c : Dev Cert.DpwxIdeal.nD,
      r.2.mem ((c.tc : Thread Cert.DpwxIdeal.nD Cert.DpwxIdeal.τ).loc Cert.DpwxIdeal.main_arg0) = m ((c.tc : Thread Cert.DpwxIdeal.nD Cert.DpwxIdeal.τ).loc Cert.DpwxIdeal.main_arg0)
      ∧ r.2.mem ((c.tc : Thread Cert.DpwxIdeal.nD Cert.DpwxIdeal.τ).loc Cert.DpwxIdeal.main_arg1) = m ((c.tc : Thread Cert.DpwxIdeal.nD Cert.DpwxIdeal.τ).loc Cert.DpwxIdeal.main_arg1))
      ∧ r.2.sem = fun _ => 0)

def quiescent_DpwxRefIdeal [hDpwxRefIdeal : Cert.DpwxRefIdeal.Facts] : Prop :=
  ∀ (m : (ℓ : Loc Cert.DpwxRefIdeal.nD Cert.DpwxRefIdeal.τ Cert.DpwxRefIdeal.sig) → Buf (Elt Ideal) ℓ) (g : Dev Cert.DpwxRefIdeal.nD → PrngReg), Pre_DpwxRefIdeal m →
    θ_run (Cert.DpwxRefIdeal.defs (F := Ideal)) (onTc (τ := Cert.DpwxRefIdeal.τ) (Cert.DpwxRefIdeal.main (F := Ideal))) ⟨m, fun _ => 0, g⟩ (fun r => (∀ c : Dev Cert.DpwxRefIdeal.nD,
      r.2.mem ((c.tc : Thread Cert.DpwxRefIdeal.nD Cert.DpwxRefIdeal.τ).loc Cert.DpwxRefIdeal.main_arg0) = m ((c.tc : Thread Cert.DpwxRefIdeal.nD Cert.DpwxRefIdeal.τ).loc Cert.DpwxRefIdeal.main_arg0)
      ∧ r.2.mem ((c.tc : Thread Cert.DpwxRefIdeal.nD Cert.DpwxRefIdeal.τ).loc Cert.DpwxRefIdeal.main_arg1) = m ((c.tc : Thread Cert.DpwxRefIdeal.nD Cert.DpwxRefIdeal.τ).loc Cert.DpwxRefIdeal.main_arg1))
      ∧ r.2.sem = fun _ => 0)

def quiescent_Dpwsl [hDpwsl : Cert.Dpwsl.Facts] : Prop :=
  ∀ (m : (ℓ : Loc Cert.Dpwsl.nD Cert.Dpwsl.τ Cert.Dpwsl.sig) → Buf (Elt Bits) ℓ) (g : Dev Cert.Dpwsl.nD → PrngReg), Pre_Dpwsl m →
    θ_run (Cert.Dpwsl.defs (F := Bits)) (onTc (τ := Cert.Dpwsl.τ) (Cert.Dpwsl.main (F := Bits))) ⟨m, fun _ => 0, g⟩ (fun r => (∀ c : Dev Cert.Dpwsl.nD,
      r.2.mem ((c.tc : Thread Cert.Dpwsl.nD Cert.Dpwsl.τ).loc Cert.Dpwsl.main_arg0) = m ((c.tc : Thread Cert.Dpwsl.nD Cert.Dpwsl.τ).loc Cert.Dpwsl.main_arg0)
      ∧ r.2.mem ((c.tc : Thread Cert.Dpwsl.nD Cert.Dpwsl.τ).loc Cert.Dpwsl.main_arg1) = m ((c.tc : Thread Cert.Dpwsl.nD Cert.Dpwsl.τ).loc Cert.Dpwsl.main_arg1))
      ∧ r.2.sem = fun _ => 0)

def quiescent_DpwslIdeal [hDpwslIdeal : Cert.DpwslIdeal.Facts] : Prop :=
  ∀ (m : (ℓ : Loc Cert.DpwslIdeal.nD Cert.DpwslIdeal.τ Cert.DpwslIdeal.sig) → Buf (Elt Ideal) ℓ) (g : Dev Cert.DpwslIdeal.nD → PrngReg), Pre_DpwslIdeal m →
    θ_run (Cert.DpwslIdeal.defs (F := Ideal)) (onTc (τ := Cert.DpwslIdeal.τ) (Cert.DpwslIdeal.main (F := Ideal))) ⟨m, fun _ => 0, g⟩ (fun r => (∀ c : Dev Cert.DpwslIdeal.nD,
      r.2.mem ((c.tc : Thread Cert.DpwslIdeal.nD Cert.DpwslIdeal.τ).loc Cert.DpwslIdeal.main_arg0) = m ((c.tc : Thread Cert.DpwslIdeal.nD Cert.DpwslIdeal.τ).loc Cert.DpwslIdeal.main_arg0)
      ∧ r.2.mem ((c.tc : Thread Cert.DpwslIdeal.nD Cert.DpwslIdeal.τ).loc Cert.DpwslIdeal.main_arg1) = m ((c.tc : Thread Cert.DpwslIdeal.nD Cert.DpwslIdeal.τ).loc Cert.DpwslIdeal.main_arg1))
      ∧ r.2.sem = fun _ => 0)

def quiescent_DpwslRefIdeal [hDpwslRefIdeal : Cert.DpwslRefIdeal.Facts] : Prop :=
  ∀ (m : (ℓ : Loc Cert.DpwslRefIdeal.nD Cert.DpwslRefIdeal.τ Cert.DpwslRefIdeal.sig) → Buf (Elt Ideal) ℓ) (g : Dev Cert.DpwslRefIdeal.nD → PrngReg), Pre_DpwslRefIdeal m →
    θ_run (Cert.DpwslRefIdeal.defs (F := Ideal)) (onTc (τ := Cert.DpwslRefIdeal.τ) (Cert.DpwslRefIdeal.main (F := Ideal))) ⟨m, fun _ => 0, g⟩ (fun r => (∀ c : Dev Cert.DpwslRefIdeal.nD,
      r.2.mem ((c.tc : Thread Cert.DpwslRefIdeal.nD Cert.DpwslRefIdeal.τ).loc Cert.DpwslRefIdeal.main_arg0) = m ((c.tc : Thread Cert.DpwslRefIdeal.nD Cert.DpwslRefIdeal.τ).loc Cert.DpwslRefIdeal.main_arg0)
      ∧ r.2.mem ((c.tc : Thread Cert.DpwslRefIdeal.nD Cert.DpwslRefIdeal.τ).loc Cert.DpwslRefIdeal.main_arg1) = m ((c.tc : Thread Cert.DpwslRefIdeal.nD Cert.DpwslRefIdeal.τ).loc Cert.DpwslRefIdeal.main_arg1))
      ∧ r.2.sem = fun _ => 0)

def quiescent_Dmixw [hDmixw : Cert.Dmixw.Facts] : Prop :=
  ∀ (m : (ℓ : Loc Cert.Dmixw.nD Cert.Dmixw.τ Cert.Dmixw.sig) → Buf (Elt Bits) ℓ) (g : Dev Cert.Dmixw.nD → PrngReg), Pre_Dmixw m →
    θ_run (Cert.Dmixw.defs (F := Bits)) (onTc (τ := Cert.Dmixw.τ) (Cert.Dmixw.main (F := Bits))) ⟨m, fun _ => 0, g⟩ (fun r => (∀ c : Dev Cert.Dmixw.nD,
      r.2.mem ((c.tc : Thread Cert.Dmixw.nD Cert.Dmixw.τ).loc Cert.Dmixw.main_arg0) = m ((c.tc : Thread Cert.Dmixw.nD Cert.Dmixw.τ).loc Cert.Dmixw.main_arg0)
      ∧ r.2.mem ((c.tc : Thread Cert.Dmixw.nD Cert.Dmixw.τ).loc Cert.Dmixw.main_arg1) = m ((c.tc : Thread Cert.Dmixw.nD Cert.Dmixw.τ).loc Cert.Dmixw.main_arg1))
      ∧ r.2.sem = fun _ => 0)

def quiescent_DmixwIdeal [hDmixwIdeal : Cert.DmixwIdeal.Facts] : Prop :=
  ∀ (m : (ℓ : Loc Cert.DmixwIdeal.nD Cert.DmixwIdeal.τ Cert.DmixwIdeal.sig) → Buf (Elt Ideal) ℓ) (g : Dev Cert.DmixwIdeal.nD → PrngReg), Pre_DmixwIdeal m →
    θ_run (Cert.DmixwIdeal.defs (F := Ideal)) (onTc (τ := Cert.DmixwIdeal.τ) (Cert.DmixwIdeal.main (F := Ideal))) ⟨m, fun _ => 0, g⟩ (fun r => (∀ c : Dev Cert.DmixwIdeal.nD,
      r.2.mem ((c.tc : Thread Cert.DmixwIdeal.nD Cert.DmixwIdeal.τ).loc Cert.DmixwIdeal.main_arg0) = m ((c.tc : Thread Cert.DmixwIdeal.nD Cert.DmixwIdeal.τ).loc Cert.DmixwIdeal.main_arg0)
      ∧ r.2.mem ((c.tc : Thread Cert.DmixwIdeal.nD Cert.DmixwIdeal.τ).loc Cert.DmixwIdeal.main_arg1) = m ((c.tc : Thread Cert.DmixwIdeal.nD Cert.DmixwIdeal.τ).loc Cert.DmixwIdeal.main_arg1))
      ∧ r.2.sem = fun _ => 0)

def quiescent_DmixwRefIdeal [hDmixwRefIdeal : Cert.DmixwRefIdeal.Facts] : Prop :=
  ∀ (m : (ℓ : Loc Cert.DmixwRefIdeal.nD Cert.DmixwRefIdeal.τ Cert.DmixwRefIdeal.sig) → Buf (Elt Ideal) ℓ) (g : Dev Cert.DmixwRefIdeal.nD → PrngReg), Pre_DmixwRefIdeal m →
    θ_run (Cert.DmixwRefIdeal.defs (F := Ideal)) (onTc (τ := Cert.DmixwRefIdeal.τ) (Cert.DmixwRefIdeal.main (F := Ideal))) ⟨m, fun _ => 0, g⟩ (fun r => (∀ c : Dev Cert.DmixwRefIdeal.nD,
      r.2.mem ((c.tc : Thread Cert.DmixwRefIdeal.nD Cert.DmixwRefIdeal.τ).loc Cert.DmixwRefIdeal.main_arg0) = m ((c.tc : Thread Cert.DmixwRefIdeal.nD Cert.DmixwRefIdeal.τ).loc Cert.DmixwRefIdeal.main_arg0)
      ∧ r.2.mem ((c.tc : Thread Cert.DmixwRefIdeal.nD Cert.DmixwRefIdeal.τ).loc Cert.DmixwRefIdeal.main_arg1) = m ((c.tc : Thread Cert.DmixwRefIdeal.nD Cert.DmixwRefIdeal.τ).loc Cert.DmixwRefIdeal.main_arg1))
      ∧ r.2.sem = fun _ => 0)

def quiescent_Dmixy [hDmixy : Cert.Dmixy.Facts] : Prop :=
  ∀ (m : (ℓ : Loc Cert.Dmixy.nD Cert.Dmixy.τ Cert.Dmixy.sig) → Buf (Elt Bits) ℓ) (g : Dev Cert.Dmixy.nD → PrngReg), Pre_Dmixy m →
    θ_run (Cert.Dmixy.defs (F := Bits)) (onTc (τ := Cert.Dmixy.τ) (Cert.Dmixy.main (F := Bits))) ⟨m, fun _ => 0, g⟩ (fun r => (∀ c : Dev Cert.Dmixy.nD,
      r.2.mem ((c.tc : Thread Cert.Dmixy.nD Cert.Dmixy.τ).loc Cert.Dmixy.main_arg0) = m ((c.tc : Thread Cert.Dmixy.nD Cert.Dmixy.τ).loc Cert.Dmixy.main_arg0)
      ∧ r.2.mem ((c.tc : Thread Cert.Dmixy.nD Cert.Dmixy.τ).loc Cert.Dmixy.main_arg1) = m ((c.tc : Thread Cert.Dmixy.nD Cert.Dmixy.τ).loc Cert.Dmixy.main_arg1))
      ∧ r.2.sem = fun _ => 0)

def quiescent_DmixyIdeal [hDmixyIdeal : Cert.DmixyIdeal.Facts] : Prop :=
  ∀ (m : (ℓ : Loc Cert.DmixyIdeal.nD Cert.DmixyIdeal.τ Cert.DmixyIdeal.sig) → Buf (Elt Ideal) ℓ) (g : Dev Cert.DmixyIdeal.nD → PrngReg), Pre_DmixyIdeal m →
    θ_run (Cert.DmixyIdeal.defs (F := Ideal)) (onTc (τ := Cert.DmixyIdeal.τ) (Cert.DmixyIdeal.main (F := Ideal))) ⟨m, fun _ => 0, g⟩ (fun r => (∀ c : Dev Cert.DmixyIdeal.nD,
      r.2.mem ((c.tc : Thread Cert.DmixyIdeal.nD Cert.DmixyIdeal.τ).loc Cert.DmixyIdeal.main_arg0) = m ((c.tc : Thread Cert.DmixyIdeal.nD Cert.DmixyIdeal.τ).loc Cert.DmixyIdeal.main_arg0)
      ∧ r.2.mem ((c.tc : Thread Cert.DmixyIdeal.nD Cert.DmixyIdeal.τ).loc Cert.DmixyIdeal.main_arg1) = m ((c.tc : Thread Cert.DmixyIdeal.nD Cert.DmixyIdeal.τ).loc Cert.DmixyIdeal.main_arg1))
      ∧ r.2.sem = fun _ => 0)

def quiescent_DmixyRefIdeal [hDmixyRefIdeal : Cert.DmixyRefIdeal.Facts] : Prop :=
  ∀ (m : (ℓ : Loc Cert.DmixyRefIdeal.nD Cert.DmixyRefIdeal.τ Cert.DmixyRefIdeal.sig) → Buf (Elt Ideal) ℓ) (g : Dev Cert.DmixyRefIdeal.nD → PrngReg), Pre_DmixyRefIdeal m →
    θ_run (Cert.DmixyRefIdeal.defs (F := Ideal)) (onTc (τ := Cert.DmixyRefIdeal.τ) (Cert.DmixyRefIdeal.main (F := Ideal))) ⟨m, fun _ => 0, g⟩ (fun r => (∀ c : Dev Cert.DmixyRefIdeal.nD,
      r.2.mem ((c.tc : Thread Cert.DmixyRefIdeal.nD Cert.DmixyRefIdeal.τ).loc Cert.DmixyRefIdeal.main_arg0) = m ((c.tc : Thread Cert.DmixyRefIdeal.nD Cert.DmixyRefIdeal.τ).loc Cert.DmixyRefIdeal.main_arg0)
      ∧ r.2.mem ((c.tc : Thread Cert.DmixyRefIdeal.nD Cert.DmixyRefIdeal.τ).loc Cert.DmixyRefIdeal.main_arg1) = m ((c.tc : Thread Cert.DmixyRefIdeal.nD Cert.DmixyRefIdeal.τ).loc Cert.DmixyRefIdeal.main_arg1))
      ∧ r.2.sem = fun _ => 0)

def quiescent_Pwin [hPwin : Cert.Pwin.Facts] : Prop :=
  ∀ (m : (ℓ : Loc Cert.Pwin.nD Cert.Pwin.τ Cert.Pwin.sig) → Buf (Elt Bits) ℓ) (g : Dev Cert.Pwin.nD → PrngReg), Pre_Pwin m →
    θ_run (Cert.Pwin.defs (F := Bits)) (onTc (τ := Cert.Pwin.τ) (Cert.Pwin.main (F := Bits))) ⟨m, fun _ => 0, g⟩ (fun r => (∀ c : Dev Cert.Pwin.nD,
      r.2.mem ((c.tc : Thread Cert.Pwin.nD Cert.Pwin.τ).loc Cert.Pwin.main_arg0) = m ((c.tc : Thread Cert.Pwin.nD Cert.Pwin.τ).loc Cert.Pwin.main_arg0)
      ∧ r.2.mem ((c.tc : Thread Cert.Pwin.nD Cert.Pwin.τ).loc Cert.Pwin.main_arg1) = m ((c.tc : Thread Cert.Pwin.nD Cert.Pwin.τ).loc Cert.Pwin.main_arg1)
      ∧ r.2.mem ((c.tc : Thread Cert.Pwin.nD Cert.Pwin.τ).loc Cert.Pwin.main_arg2) = m ((c.tc : Thread Cert.Pwin.nD Cert.Pwin.τ).loc Cert.Pwin.main_arg2))
      ∧ r.2.sem = fun _ => 0)

def quiescent_PwinIdeal [hPwinIdeal : Cert.PwinIdeal.Facts] : Prop :=
  ∀ (m : (ℓ : Loc Cert.PwinIdeal.nD Cert.PwinIdeal.τ Cert.PwinIdeal.sig) → Buf (Elt Ideal) ℓ) (g : Dev Cert.PwinIdeal.nD → PrngReg), Pre_PwinIdeal m →
    θ_run (Cert.PwinIdeal.defs (F := Ideal)) (onTc (τ := Cert.PwinIdeal.τ) (Cert.PwinIdeal.main (F := Ideal))) ⟨m, fun _ => 0, g⟩ (fun r => (∀ c : Dev Cert.PwinIdeal.nD,
      r.2.mem ((c.tc : Thread Cert.PwinIdeal.nD Cert.PwinIdeal.τ).loc Cert.PwinIdeal.main_arg0) = m ((c.tc : Thread Cert.PwinIdeal.nD Cert.PwinIdeal.τ).loc Cert.PwinIdeal.main_arg0)
      ∧ r.2.mem ((c.tc : Thread Cert.PwinIdeal.nD Cert.PwinIdeal.τ).loc Cert.PwinIdeal.main_arg1) = m ((c.tc : Thread Cert.PwinIdeal.nD Cert.PwinIdeal.τ).loc Cert.PwinIdeal.main_arg1)
      ∧ r.2.mem ((c.tc : Thread Cert.PwinIdeal.nD Cert.PwinIdeal.τ).loc Cert.PwinIdeal.main_arg2) = m ((c.tc : Thread Cert.PwinIdeal.nD Cert.PwinIdeal.τ).loc Cert.PwinIdeal.main_arg2))
      ∧ r.2.sem = fun _ => 0)

def quiescent_PwinRefIdeal [hPwinRefIdeal : Cert.PwinRefIdeal.Facts] : Prop :=
  ∀ (m : (ℓ : Loc Cert.PwinRefIdeal.nD Cert.PwinRefIdeal.τ Cert.PwinRefIdeal.sig) → Buf (Elt Ideal) ℓ) (g : Dev Cert.PwinRefIdeal.nD → PrngReg), Pre_PwinRefIdeal m →
    θ_run (Cert.PwinRefIdeal.defs (F := Ideal)) (onTc (τ := Cert.PwinRefIdeal.τ) (Cert.PwinRefIdeal.main (F := Ideal))) ⟨m, fun _ => 0, g⟩ (fun r => (∀ c : Dev Cert.PwinRefIdeal.nD,
      r.2.mem ((c.tc : Thread Cert.PwinRefIdeal.nD Cert.PwinRefIdeal.τ).loc Cert.PwinRefIdeal.main_arg0) = m ((c.tc : Thread Cert.PwinRefIdeal.nD Cert.PwinRefIdeal.τ).loc Cert.PwinRefIdeal.main_arg0)
      ∧ r.2.mem ((c.tc : Thread Cert.PwinRefIdeal.nD Cert.PwinRefIdeal.τ).loc Cert.PwinRefIdeal.main_arg1) = m ((c.tc : Thread Cert.PwinRefIdeal.nD Cert.PwinRefIdeal.τ).loc Cert.PwinRefIdeal.main_arg1)
      ∧ r.2.mem ((c.tc : Thread Cert.PwinRefIdeal.nD Cert.PwinRefIdeal.τ).loc Cert.PwinRefIdeal.main_arg2) = m ((c.tc : Thread Cert.PwinRefIdeal.nD Cert.PwinRefIdeal.τ).loc Cert.PwinRefIdeal.main_arg2))
      ∧ r.2.sem = fun _ => 0)

def quiescent_Pwout [hPwout : Cert.Pwout.Facts] : Prop :=
  ∀ (m : (ℓ : Loc Cert.Pwout.nD Cert.Pwout.τ Cert.Pwout.sig) → Buf (Elt Bits) ℓ) (g : Dev Cert.Pwout.nD → PrngReg), Pre_Pwout m →
    θ_run (Cert.Pwout.defs (F := Bits)) (onTc (τ := Cert.Pwout.τ) (Cert.Pwout.main (F := Bits))) ⟨m, fun _ => 0, g⟩ (fun r => (∀ c : Dev Cert.Pwout.nD,
      r.2.mem ((c.tc : Thread Cert.Pwout.nD Cert.Pwout.τ).loc Cert.Pwout.main_arg0) = m ((c.tc : Thread Cert.Pwout.nD Cert.Pwout.τ).loc Cert.Pwout.main_arg0)
      ∧ r.2.mem ((c.tc : Thread Cert.Pwout.nD Cert.Pwout.τ).loc Cert.Pwout.main_arg1) = m ((c.tc : Thread Cert.Pwout.nD Cert.Pwout.τ).loc Cert.Pwout.main_arg1)
      ∧ r.2.mem ((c.tc : Thread Cert.Pwout.nD Cert.Pwout.τ).loc Cert.Pwout.main_arg2) = m ((c.tc : Thread Cert.Pwout.nD Cert.Pwout.τ).loc Cert.Pwout.main_arg2))
      ∧ r.2.sem = fun _ => 0)

def quiescent_PwoutIdeal [hPwoutIdeal : Cert.PwoutIdeal.Facts] : Prop :=
  ∀ (m : (ℓ : Loc Cert.PwoutIdeal.nD Cert.PwoutIdeal.τ Cert.PwoutIdeal.sig) → Buf (Elt Ideal) ℓ) (g : Dev Cert.PwoutIdeal.nD → PrngReg), Pre_PwoutIdeal m →
    θ_run (Cert.PwoutIdeal.defs (F := Ideal)) (onTc (τ := Cert.PwoutIdeal.τ) (Cert.PwoutIdeal.main (F := Ideal))) ⟨m, fun _ => 0, g⟩ (fun r => (∀ c : Dev Cert.PwoutIdeal.nD,
      r.2.mem ((c.tc : Thread Cert.PwoutIdeal.nD Cert.PwoutIdeal.τ).loc Cert.PwoutIdeal.main_arg0) = m ((c.tc : Thread Cert.PwoutIdeal.nD Cert.PwoutIdeal.τ).loc Cert.PwoutIdeal.main_arg0)
      ∧ r.2.mem ((c.tc : Thread Cert.PwoutIdeal.nD Cert.PwoutIdeal.τ).loc Cert.PwoutIdeal.main_arg1) = m ((c.tc : Thread Cert.PwoutIdeal.nD Cert.PwoutIdeal.τ).loc Cert.PwoutIdeal.main_arg1)
      ∧ r.2.mem ((c.tc : Thread Cert.PwoutIdeal.nD Cert.PwoutIdeal.τ).loc Cert.PwoutIdeal.main_arg2) = m ((c.tc : Thread Cert.PwoutIdeal.nD Cert.PwoutIdeal.τ).loc Cert.PwoutIdeal.main_arg2))
      ∧ r.2.sem = fun _ => 0)

def quiescent_PwoutRefIdeal [hPwoutRefIdeal : Cert.PwoutRefIdeal.Facts] : Prop :=
  ∀ (m : (ℓ : Loc Cert.PwoutRefIdeal.nD Cert.PwoutRefIdeal.τ Cert.PwoutRefIdeal.sig) → Buf (Elt Ideal) ℓ) (g : Dev Cert.PwoutRefIdeal.nD → PrngReg), Pre_PwoutRefIdeal m →
    θ_run (Cert.PwoutRefIdeal.defs (F := Ideal)) (onTc (τ := Cert.PwoutRefIdeal.τ) (Cert.PwoutRefIdeal.main (F := Ideal))) ⟨m, fun _ => 0, g⟩ (fun r => (∀ c : Dev Cert.PwoutRefIdeal.nD,
      r.2.mem ((c.tc : Thread Cert.PwoutRefIdeal.nD Cert.PwoutRefIdeal.τ).loc Cert.PwoutRefIdeal.main_arg0) = m ((c.tc : Thread Cert.PwoutRefIdeal.nD Cert.PwoutRefIdeal.τ).loc Cert.PwoutRefIdeal.main_arg0)
      ∧ r.2.mem ((c.tc : Thread Cert.PwoutRefIdeal.nD Cert.PwoutRefIdeal.τ).loc Cert.PwoutRefIdeal.main_arg1) = m ((c.tc : Thread Cert.PwoutRefIdeal.nD Cert.PwoutRefIdeal.τ).loc Cert.PwoutRefIdeal.main_arg1)
      ∧ r.2.mem ((c.tc : Thread Cert.PwoutRefIdeal.nD Cert.PwoutRefIdeal.τ).loc Cert.PwoutRefIdeal.main_arg2) = m ((c.tc : Thread Cert.PwoutRefIdeal.nD Cert.PwoutRefIdeal.τ).loc Cert.PwoutRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1))
      ∧ r.2.sem = fun _ => 0)

def quiescent_Drms [hDrms : Cert.Drms.Facts] : Prop :=
  ∀ (m : (ℓ : Loc Cert.Drms.nD Cert.Drms.τ Cert.Drms.sig) → Buf (Elt Bits) ℓ) (g : Dev Cert.Drms.nD → PrngReg), Pre_Drms m →
    θ_run (Cert.Drms.defs (F := Bits)) (onTc (τ := Cert.Drms.τ) (Cert.Drms.main (F := Bits))) ⟨m, fun _ => 0, g⟩ (fun r => (∀ c : Dev Cert.Drms.nD,
      r.2.mem ((c.tc : Thread Cert.Drms.nD Cert.Drms.τ).loc Cert.Drms.main_arg0) = m ((c.tc : Thread Cert.Drms.nD Cert.Drms.τ).loc Cert.Drms.main_arg0)
      ∧ r.2.mem ((c.tc : Thread Cert.Drms.nD Cert.Drms.τ).loc Cert.Drms.main_arg1) = m ((c.tc : Thread Cert.Drms.nD Cert.Drms.τ).loc Cert.Drms.main_arg1)
      ∧ r.2.mem ((c.tc : Thread Cert.Drms.nD Cert.Drms.τ).loc Cert.Drms.main_arg2) = m ((c.tc : Thread Cert.Drms.nD Cert.Drms.τ).loc Cert.Drms.main_arg2)
      ∧ r.2.mem ((c.tc : Thread Cert.Drms.nD Cert.Drms.τ).loc Cert.Drms.main_arg3) = m ((c.tc : Thread Cert.Drms.nD Cert.Drms.τ).loc Cert.Drms.main_arg3)
      ∧ r.2.mem ((c.tc : Thread Cert.Drms.nD Cert.Drms.τ).loc Cert.Drms.main_arg4) = m ((c.tc : Thread Cert.Drms.nD Cert.Drms.τ).loc Cert.Drms.main_arg4)
      ∧ r.2.mem ((c.tc : Thread Cert.Drms.nD Cert.Drms.τ).loc Cert.Drms.main_arg5) = m ((c.tc : Thread Cert.Drms.nD Cert.Drms.τ).loc Cert.Drms.main_arg5)
      ∧ r.2.mem ((c.tc : Thread Cert.Drms.nD Cert.Drms.τ).loc Cert.Drms.main_arg6) = m ((c.tc : Thread Cert.Drms.nD Cert.Drms.τ).loc Cert.Drms.main_arg6))
      ∧ r.2.sem = fun _ => 0)

def quiescent_DrmsIdeal [hDrmsIdeal : Cert.DrmsIdeal.Facts] : Prop :=
  ∀ (m : (ℓ : Loc Cert.DrmsIdeal.nD Cert.DrmsIdeal.τ Cert.DrmsIdeal.sig) → Buf (Elt Ideal) ℓ) (g : Dev Cert.DrmsIdeal.nD → PrngReg), Pre_DrmsIdeal m →
    θ_run (Cert.DrmsIdeal.defs (F := Ideal)) (onTc (τ := Cert.DrmsIdeal.τ) (Cert.DrmsIdeal.main (F := Ideal))) ⟨m, fun _ => 0, g⟩ (fun r => (∀ c : Dev Cert.DrmsIdeal.nD,
      r.2.mem ((c.tc : Thread Cert.DrmsIdeal.nD Cert.DrmsIdeal.τ).loc Cert.DrmsIdeal.main_arg0) = m ((c.tc : Thread Cert.DrmsIdeal.nD Cert.DrmsIdeal.τ).loc Cert.DrmsIdeal.main_arg0)
      ∧ r.2.mem ((c.tc : Thread Cert.DrmsIdeal.nD Cert.DrmsIdeal.τ).loc Cert.DrmsIdeal.main_arg1) = m ((c.tc : Thread Cert.DrmsIdeal.nD Cert.DrmsIdeal.τ).loc Cert.DrmsIdeal.main_arg1)
      ∧ r.2.mem ((c.tc : Thread Cert.DrmsIdeal.nD Cert.DrmsIdeal.τ).loc Cert.DrmsIdeal.main_arg2) = m ((c.tc : Thread Cert.DrmsIdeal.nD Cert.DrmsIdeal.τ).loc Cert.DrmsIdeal.main_arg2)
      ∧ r.2.mem ((c.tc : Thread Cert.DrmsIdeal.nD Cert.DrmsIdeal.τ).loc Cert.DrmsIdeal.main_arg3) = m ((c.tc : Thread Cert.DrmsIdeal.nD Cert.DrmsIdeal.τ).loc Cert.DrmsIdeal.main_arg3)
      ∧ r.2.mem ((c.tc : Thread Cert.DrmsIdeal.nD Cert.DrmsIdeal.τ).loc Cert.DrmsIdeal.main_arg4) = m ((c.tc : Thread Cert.DrmsIdeal.nD Cert.DrmsIdeal.τ).loc Cert.DrmsIdeal.main_arg4)
      ∧ r.2.mem ((c.tc : Thread Cert.DrmsIdeal.nD Cert.DrmsIdeal.τ).loc Cert.DrmsIdeal.main_arg5) = m ((c.tc : Thread Cert.DrmsIdeal.nD Cert.DrmsIdeal.τ).loc Cert.DrmsIdeal.main_arg5)
      ∧ r.2.mem ((c.tc : Thread Cert.DrmsIdeal.nD Cert.DrmsIdeal.τ).loc Cert.DrmsIdeal.main_arg6) = m ((c.tc : Thread Cert.DrmsIdeal.nD Cert.DrmsIdeal.τ).loc Cert.DrmsIdeal.main_arg6))
      ∧ r.2.sem = fun _ => 0)

def quiescent_DrmsRefIdeal [hDrmsRefIdeal : Cert.DrmsRefIdeal.Facts] : Prop :=
  ∀ (m : (ℓ : Loc Cert.DrmsRefIdeal.nD Cert.DrmsRefIdeal.τ Cert.DrmsRefIdeal.sig) → Buf (Elt Ideal) ℓ) (g : Dev Cert.DrmsRefIdeal.nD → PrngReg), Pre_DrmsRefIdeal m →
    θ_run (Cert.DrmsRefIdeal.defs (F := Ideal)) (onTc (τ := Cert.DrmsRefIdeal.τ) (Cert.DrmsRefIdeal.main (F := Ideal))) ⟨m, fun _ => 0, g⟩ (fun r => (∀ c : Dev Cert.DrmsRefIdeal.nD,
      r.2.mem ((c.tc : Thread Cert.DrmsRefIdeal.nD Cert.DrmsRefIdeal.τ).loc Cert.DrmsRefIdeal.main_arg0) = m ((c.tc : Thread Cert.DrmsRefIdeal.nD Cert.DrmsRefIdeal.τ).loc Cert.DrmsRefIdeal.main_arg0)
      ∧ r.2.mem ((c.tc : Thread Cert.DrmsRefIdeal.nD Cert.DrmsRefIdeal.τ).loc Cert.DrmsRefIdeal.main_arg1) = m ((c.tc : Thread Cert.DrmsRefIdeal.nD Cert.DrmsRefIdeal.τ).loc Cert.DrmsRefIdeal.main_arg1)
      ∧ r.2.mem ((c.tc : Thread Cert.DrmsRefIdeal.nD Cert.DrmsRefIdeal.τ).loc Cert.DrmsRefIdeal.main_arg2) = m ((c.tc : Thread Cert.DrmsRefIdeal.nD Cert.DrmsRefIdeal.τ).loc Cert.DrmsRefIdeal.main_arg2)
      ∧ r.2.mem ((c.tc : Thread Cert.DrmsRefIdeal.nD Cert.DrmsRefIdeal.τ).loc Cert.DrmsRefIdeal.main_arg3) = m ((c.tc : Thread Cert.DrmsRefIdeal.nD Cert.DrmsRefIdeal.τ).loc Cert.DrmsRefIdeal.main_arg3)
      ∧ r.2.mem ((c.tc : Thread Cert.DrmsRefIdeal.nD Cert.DrmsRefIdeal.τ).loc Cert.DrmsRefIdeal.main_arg4) = m ((c.tc : Thread Cert.DrmsRefIdeal.nD Cert.DrmsRefIdeal.τ).loc Cert.DrmsRefIdeal.main_arg4)
      ∧ r.2.mem ((c.tc : Thread Cert.DrmsRefIdeal.nD Cert.DrmsRefIdeal.τ).loc Cert.DrmsRefIdeal.main_arg5) = m ((c.tc : Thread Cert.DrmsRefIdeal.nD Cert.DrmsRefIdeal.τ).loc Cert.DrmsRefIdeal.main_arg5)
      ∧ r.2.mem ((c.tc : Thread Cert.DrmsRefIdeal.nD Cert.DrmsRefIdeal.τ).loc Cert.DrmsRefIdeal.main_arg6) = m ((c.tc : Thread Cert.DrmsRefIdeal.nD Cert.DrmsRefIdeal.τ).loc Cert.DrmsRefIdeal.main_arg6))
      ∧ r.2.sem = fun _ => 0)

def quiescent_Dgate [hDgate : Cert.Dgate.Facts] : Prop :=
  ∀ (m : (ℓ : Loc Cert.Dgate.nD Cert.Dgate.τ Cert.Dgate.sig) → Buf (Elt Bits) ℓ) (g : Dev Cert.Dgate.nD → PrngReg), Pre_Dgate m →
    θ_run (Cert.Dgate.defs (F := Bits)) (onTc (τ := Cert.Dgate.τ) (Cert.Dgate.main (F := Bits))) ⟨m, fun _ => 0, g⟩ (fun r => (∀ c : Dev Cert.Dgate.nD,
      r.2.mem ((c.tc : Thread Cert.Dgate.nD Cert.Dgate.τ).loc Cert.Dgate.main_arg0) = m ((c.tc : Thread Cert.Dgate.nD Cert.Dgate.τ).loc Cert.Dgate.main_arg0)
      ∧ r.2.mem ((c.tc : Thread Cert.Dgate.nD Cert.Dgate.τ).loc Cert.Dgate.main_arg1) = m ((c.tc : Thread Cert.Dgate.nD Cert.Dgate.τ).loc Cert.Dgate.main_arg1)
      ∧ r.2.mem ((c.tc : Thread Cert.Dgate.nD Cert.Dgate.τ).loc Cert.Dgate.main_arg2) = m ((c.tc : Thread Cert.Dgate.nD Cert.Dgate.τ).loc Cert.Dgate.main_arg2)
      ∧ r.2.mem ((c.tc : Thread Cert.Dgate.nD Cert.Dgate.τ).loc Cert.Dgate.main_arg3) = m ((c.tc : Thread Cert.Dgate.nD Cert.Dgate.τ).loc Cert.Dgate.main_arg3)
      ∧ r.2.mem ((c.tc : Thread Cert.Dgate.nD Cert.Dgate.τ).loc Cert.Dgate.main_arg4) = m ((c.tc : Thread Cert.Dgate.nD Cert.Dgate.τ).loc Cert.Dgate.main_arg4)
      ∧ r.2.mem ((c.tc : Thread Cert.Dgate.nD Cert.Dgate.τ).loc Cert.Dgate.main_arg5) = m ((c.tc : Thread Cert.Dgate.nD Cert.Dgate.τ).loc Cert.Dgate.main_arg5))
      ∧ r.2.sem = fun _ => 0)

def quiescent_DgateIdeal [hDgateIdeal : Cert.DgateIdeal.Facts] : Prop :=
  ∀ (m : (ℓ : Loc Cert.DgateIdeal.nD Cert.DgateIdeal.τ Cert.DgateIdeal.sig) → Buf (Elt Ideal) ℓ) (g : Dev Cert.DgateIdeal.nD → PrngReg), Pre_DgateIdeal m →
    θ_run (Cert.DgateIdeal.defs (F := Ideal)) (onTc (τ := Cert.DgateIdeal.τ) (Cert.DgateIdeal.main (F := Ideal))) ⟨m, fun _ => 0, g⟩ (fun r => (∀ c : Dev Cert.DgateIdeal.nD,
      r.2.mem ((c.tc : Thread Cert.DgateIdeal.nD Cert.DgateIdeal.τ).loc Cert.DgateIdeal.main_arg0) = m ((c.tc : Thread Cert.DgateIdeal.nD Cert.DgateIdeal.τ).loc Cert.DgateIdeal.main_arg0)
      ∧ r.2.mem ((c.tc : Thread Cert.DgateIdeal.nD Cert.DgateIdeal.τ).loc Cert.DgateIdeal.main_arg1) = m ((c.tc : Thread Cert.DgateIdeal.nD Cert.DgateIdeal.τ).loc Cert.DgateIdeal.main_arg1)
      ∧ r.2.mem ((c.tc : Thread Cert.DgateIdeal.nD Cert.DgateIdeal.τ).loc Cert.DgateIdeal.main_arg2) = m ((c.tc : Thread Cert.DgateIdeal.nD Cert.DgateIdeal.τ).loc Cert.DgateIdeal.main_arg2)
      ∧ r.2.mem ((c.tc : Thread Cert.DgateIdeal.nD Cert.DgateIdeal.τ).loc Cert.DgateIdeal.main_arg3) = m ((c.tc : Thread Cert.DgateIdeal.nD Cert.DgateIdeal.τ).loc Cert.DgateIdeal.main_arg3)
      ∧ r.2.mem ((c.tc : Thread Cert.DgateIdeal.nD Cert.DgateIdeal.τ).loc Cert.DgateIdeal.main_arg4) = m ((c.tc : Thread Cert.DgateIdeal.nD Cert.DgateIdeal.τ).loc Cert.DgateIdeal.main_arg4)
      ∧ r.2.mem ((c.tc : Thread Cert.DgateIdeal.nD Cert.DgateIdeal.τ).loc Cert.DgateIdeal.main_arg5) = m ((c.tc : Thread Cert.DgateIdeal.nD Cert.DgateIdeal.τ).loc Cert.DgateIdeal.main_arg5))
      ∧ r.2.sem = fun _ => 0)

def quiescent_DgateIdeal_pre_gated_finite [hDgateIdeal : Cert.DgateIdeal.Facts] [hPre_gated_finite : Cert.Pre_gated_finite.Facts] : Prop :=
  ∀ (m : (ℓ : Loc Cert.DgateIdeal.nD Cert.DgateIdeal.τ Cert.DgateIdeal.sig) → Buf (Elt Ideal) ℓ) (g : Dev Cert.DgateIdeal.nD → PrngReg), Pre_DgateIdeal_gated_finite m →
    θ_run (Cert.DgateIdeal.defs (F := Ideal)) (onTc (τ := Cert.DgateIdeal.τ) (Cert.DgateIdeal.main (F := Ideal))) ⟨m, fun _ => 0, g⟩ (fun r => (∀ c : Dev Cert.DgateIdeal.nD,
      r.2.mem ((c.tc : Thread Cert.DgateIdeal.nD Cert.DgateIdeal.τ).loc Cert.DgateIdeal.main_arg0) = m ((c.tc : Thread Cert.DgateIdeal.nD Cert.DgateIdeal.τ).loc Cert.DgateIdeal.main_arg0)
      ∧ r.2.mem ((c.tc : Thread Cert.DgateIdeal.nD Cert.DgateIdeal.τ).loc Cert.DgateIdeal.main_arg1) = m ((c.tc : Thread Cert.DgateIdeal.nD Cert.DgateIdeal.τ).loc Cert.DgateIdeal.main_arg1)
      ∧ r.2.mem ((c.tc : Thread Cert.DgateIdeal.nD Cert.DgateIdeal.τ).loc Cert.DgateIdeal.main_arg2) = m ((c.tc : Thread Cert.DgateIdeal.nD Cert.DgateIdeal.τ).loc Cert.DgateIdeal.main_arg2)
      ∧ r.2.mem ((c.tc : Thread Cert.DgateIdeal.nD Cert.DgateIdeal.τ).loc Cert.DgateIdeal.main_arg3) = m ((c.tc : Thread Cert.DgateIdeal.nD Cert.DgateIdeal.τ).loc Cert.DgateIdeal.main_arg3)
      ∧ r.2.mem ((c.tc : Thread Cert.DgateIdeal.nD Cert.DgateIdeal.τ).loc Cert.DgateIdeal.main_arg4) = m ((c.tc : Thread Cert.DgateIdeal.nD Cert.DgateIdeal.τ).loc Cert.DgateIdeal.main_arg4)
      ∧ r.2.mem ((c.tc : Thread Cert.DgateIdeal.nD Cert.DgateIdeal.τ).loc Cert.DgateIdeal.main_arg5) = m ((c.tc : Thread Cert.DgateIdeal.nD Cert.DgateIdeal.τ).loc Cert.DgateIdeal.main_arg5))
      ∧ r.2.sem = fun _ => 0)

def quiescent_DgateRefIdeal [hDgateRefIdeal : Cert.DgateRefIdeal.Facts] : Prop :=
  ∀ (m : (ℓ : Loc Cert.DgateRefIdeal.nD Cert.DgateRefIdeal.τ Cert.DgateRefIdeal.sig) → Buf (Elt Ideal) ℓ) (g : Dev Cert.DgateRefIdeal.nD → PrngReg), Pre_DgateRefIdeal m →
    θ_run (Cert.DgateRefIdeal.defs (F := Ideal)) (onTc (τ := Cert.DgateRefIdeal.τ) (Cert.DgateRefIdeal.main (F := Ideal))) ⟨m, fun _ => 0, g⟩ (fun r => (∀ c : Dev Cert.DgateRefIdeal.nD,
      r.2.mem ((c.tc : Thread Cert.DgateRefIdeal.nD Cert.DgateRefIdeal.τ).loc Cert.DgateRefIdeal.main_arg0) = m ((c.tc : Thread Cert.DgateRefIdeal.nD Cert.DgateRefIdeal.τ).loc Cert.DgateRefIdeal.main_arg0)
      ∧ r.2.mem ((c.tc : Thread Cert.DgateRefIdeal.nD Cert.DgateRefIdeal.τ).loc Cert.DgateRefIdeal.main_arg1) = m ((c.tc : Thread Cert.DgateRefIdeal.nD Cert.DgateRefIdeal.τ).loc Cert.DgateRefIdeal.main_arg1)
      ∧ r.2.mem ((c.tc : Thread Cert.DgateRefIdeal.nD Cert.DgateRefIdeal.τ).loc Cert.DgateRefIdeal.main_arg2) = m ((c.tc : Thread Cert.DgateRefIdeal.nD Cert.DgateRefIdeal.τ).loc Cert.DgateRefIdeal.main_arg2)
      ∧ r.2.mem ((c.tc : Thread Cert.DgateRefIdeal.nD Cert.DgateRefIdeal.τ).loc Cert.DgateRefIdeal.main_arg3) = m ((c.tc : Thread Cert.DgateRefIdeal.nD Cert.DgateRefIdeal.τ).loc Cert.DgateRefIdeal.main_arg3)
      ∧ r.2.mem ((c.tc : Thread Cert.DgateRefIdeal.nD Cert.DgateRefIdeal.τ).loc Cert.DgateRefIdeal.main_arg4) = m ((c.tc : Thread Cert.DgateRefIdeal.nD Cert.DgateRefIdeal.τ).loc Cert.DgateRefIdeal.main_arg4)
      ∧ r.2.mem ((c.tc : Thread Cert.DgateRefIdeal.nD Cert.DgateRefIdeal.τ).loc Cert.DgateRefIdeal.main_arg5) = m ((c.tc : Thread Cert.DgateRefIdeal.nD Cert.DgateRefIdeal.τ).loc Cert.DgateRefIdeal.main_arg5))
      ∧ r.2.sem = fun _ => 0)

def quiescent_DgateRefIdeal_pre_gated_finite [hDgateRefIdeal : Cert.DgateRefIdeal.Facts] [hPre_gated_finite : Cert.Pre_gated_finite.Facts] : Prop :=
  ∀ (m : (ℓ : Loc Cert.DgateRefIdeal.nD Cert.DgateRefIdeal.τ Cert.DgateRefIdeal.sig) → Buf (Elt Ideal) ℓ) (g : Dev Cert.DgateRefIdeal.nD → PrngReg), Pre_DgateRefIdeal_gated_finite m →
    θ_run (Cert.DgateRefIdeal.defs (F := Ideal)) (onTc (τ := Cert.DgateRefIdeal.τ) (Cert.DgateRefIdeal.main (F := Ideal))) ⟨m, fun _ => 0, g⟩ (fun r => (∀ c : Dev Cert.DgateRefIdeal.nD,
      r.2.mem ((c.tc : Thread Cert.DgateRefIdeal.nD Cert.DgateRefIdeal.τ).loc Cert.DgateRefIdeal.main_arg0) = m ((c.tc : Thread Cert.DgateRefIdeal.nD Cert.DgateRefIdeal.τ).loc Cert.DgateRefIdeal.main_arg0)
      ∧ r.2.mem ((c.tc : Thread Cert.DgateRefIdeal.nD Cert.DgateRefIdeal.τ).loc Cert.DgateRefIdeal.main_arg1) = m ((c.tc : Thread Cert.DgateRefIdeal.nD Cert.DgateRefIdeal.τ).loc Cert.DgateRefIdeal.main_arg1)
      ∧ r.2.mem ((c.tc : Thread Cert.DgateRefIdeal.nD Cert.DgateRefIdeal.τ).loc Cert.DgateRefIdeal.main_arg2) = m ((c.tc : Thread Cert.DgateRefIdeal.nD Cert.DgateRefIdeal.τ).loc Cert.DgateRefIdeal.main_arg2)
      ∧ r.2.mem ((c.tc : Thread Cert.DgateRefIdeal.nD Cert.DgateRefIdeal.τ).loc Cert.DgateRefIdeal.main_arg3) = m ((c.tc : Thread Cert.DgateRefIdeal.nD Cert.DgateRefIdeal.τ).loc Cert.DgateRefIdeal.main_arg3)
      ∧ r.2.mem ((c.tc : Thread Cert.DgateRefIdeal.nD Cert.DgateRefIdeal.τ).loc Cert.DgateRefIdeal.main_arg4) = m ((c.tc : Thread Cert.DgateRefIdeal.nD Cert.DgateRefIdeal.τ).loc Cert.DgateRefIdeal.main_arg4)
      ∧ r.2.mem ((c.tc : Thread Cert.DgateRefIdeal.nD Cert.DgateRefIdeal.τ).loc Cert.DgateRefIdeal.main_arg5) = m ((c.tc : Thread Cert.DgateRefIdeal.nD Cert.DgateRefIdeal.τ).loc Cert.DgateRefIdeal.main_arg5))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0))
      ∧ r.2.sem = fun _ => 0)

def quiescent_Lnorm [hLnorm : Cert.Lnorm.Facts] : Prop :=
  ∀ (m : (ℓ : Loc Cert.Lnorm.nD Cert.Lnorm.τ Cert.Lnorm.sig) → Buf (Elt Bits) ℓ) (g : Dev Cert.Lnorm.nD → PrngReg), Pre_Lnorm m →
    θ_run (Cert.Lnorm.defs (F := Bits)) (onTc (τ := Cert.Lnorm.τ) (Cert.Lnorm.main (F := Bits))) ⟨m, fun _ => 0, g⟩ (fun r => (∀ c : Dev Cert.Lnorm.nD,
      r.2.mem ((c.tc : Thread Cert.Lnorm.nD Cert.Lnorm.τ).loc Cert.Lnorm.main_arg0) = m ((c.tc : Thread Cert.Lnorm.nD Cert.Lnorm.τ).loc Cert.Lnorm.main_arg0)
      ∧ r.2.mem ((c.tc : Thread Cert.Lnorm.nD Cert.Lnorm.τ).loc Cert.Lnorm.main_arg1) = m ((c.tc : Thread Cert.Lnorm.nD Cert.Lnorm.τ).loc Cert.Lnorm.main_arg1)
      ∧ r.2.mem ((c.tc : Thread Cert.Lnorm.nD Cert.Lnorm.τ).loc Cert.Lnorm.main_arg2) = m ((c.tc : Thread Cert.Lnorm.nD Cert.Lnorm.τ).loc Cert.Lnorm.main_arg2)
      ∧ r.2.mem ((c.tc : Thread Cert.Lnorm.nD Cert.Lnorm.τ).loc Cert.Lnorm.main_arg3) = m ((c.tc : Thread Cert.Lnorm.nD Cert.Lnorm.τ).loc Cert.Lnorm.main_arg3))
      ∧ r.2.sem = fun _ => 0)

def quiescent_LnormIdeal [hLnormIdeal : Cert.LnormIdeal.Facts] : Prop :=
  ∀ (m : (ℓ : Loc Cert.LnormIdeal.nD Cert.LnormIdeal.τ Cert.LnormIdeal.sig) → Buf (Elt Ideal) ℓ) (g : Dev Cert.LnormIdeal.nD → PrngReg), Pre_LnormIdeal m →
    θ_run (Cert.LnormIdeal.defs (F := Ideal)) (onTc (τ := Cert.LnormIdeal.τ) (Cert.LnormIdeal.main (F := Ideal))) ⟨m, fun _ => 0, g⟩ (fun r => (∀ c : Dev Cert.LnormIdeal.nD,
      r.2.mem ((c.tc : Thread Cert.LnormIdeal.nD Cert.LnormIdeal.τ).loc Cert.LnormIdeal.main_arg0) = m ((c.tc : Thread Cert.LnormIdeal.nD Cert.LnormIdeal.τ).loc Cert.LnormIdeal.main_arg0)
      ∧ r.2.mem ((c.tc : Thread Cert.LnormIdeal.nD Cert.LnormIdeal.τ).loc Cert.LnormIdeal.main_arg1) = m ((c.tc : Thread Cert.LnormIdeal.nD Cert.LnormIdeal.τ).loc Cert.LnormIdeal.main_arg1)
      ∧ r.2.mem ((c.tc : Thread Cert.LnormIdeal.nD Cert.LnormIdeal.τ).loc Cert.LnormIdeal.main_arg2) = m ((c.tc : Thread Cert.LnormIdeal.nD Cert.LnormIdeal.τ).loc Cert.LnormIdeal.main_arg2)
      ∧ r.2.mem ((c.tc : Thread Cert.LnormIdeal.nD Cert.LnormIdeal.τ).loc Cert.LnormIdeal.main_arg3) = m ((c.tc : Thread Cert.LnormIdeal.nD Cert.LnormIdeal.τ).loc Cert.LnormIdeal.main_arg3))
      ∧ r.2.sem = fun _ => 0)

def quiescent_LnormRefIdeal [hLnormRefIdeal : Cert.LnormRefIdeal.Facts] : Prop :=
  ∀ (m : (ℓ : Loc Cert.LnormRefIdeal.nD Cert.LnormRefIdeal.τ Cert.LnormRefIdeal.sig) → Buf (Elt Ideal) ℓ) (g : Dev Cert.LnormRefIdeal.nD → PrngReg), Pre_LnormRefIdeal m →
    θ_run (Cert.LnormRefIdeal.defs (F := Ideal)) (onTc (τ := Cert.LnormRefIdeal.τ) (Cert.LnormRefIdeal.main (F := Ideal))) ⟨m, fun _ => 0, g⟩ (fun r => (∀ c : Dev Cert.LnormRefIdeal.nD,
      r.2.mem ((c.tc : Thread Cert.LnormRefIdeal.nD Cert.LnormRefIdeal.τ).loc Cert.LnormRefIdeal.main_arg0) = m ((c.tc : Thread Cert.LnormRefIdeal.nD Cert.LnormRefIdeal.τ).loc Cert.LnormRefIdeal.main_arg0)
      ∧ r.2.mem ((c.tc : Thread Cert.LnormRefIdeal.nD Cert.LnormRefIdeal.τ).loc Cert.LnormRefIdeal.main_arg1) = m ((c.tc : Thread Cert.LnormRefIdeal.nD Cert.LnormRefIdeal.τ).loc Cert.LnormRefIdeal.main_arg1)
      ∧ r.2.mem ((c.tc : Thread Cert.LnormRefIdeal.nD Cert.LnormRefIdeal.τ).loc Cert.LnormRefIdeal.main_arg2) = m ((c.tc : Thread Cert.LnormRefIdeal.nD Cert.LnormRefIdeal.τ).loc Cert.LnormRefIdeal.main_arg2)
      ∧ r.2.mem ((c.tc : Thread Cert.LnormRefIdeal.nD Cert.LnormRefIdeal.τ).loc Cert.LnormRefIdeal.main_arg3) = m ((c.tc : Thread Cert.LnormRefIdeal.nD Cert.LnormRefIdeal.τ).loc Cert.LnormRefIdeal.main_arg3))
      ∧ r.2.sem = fun _ => 0)

def quiescent_Rnorm [hRnorm : Cert.Rnorm.Facts] : Prop :=
  ∀ (m : (ℓ : Loc Cert.Rnorm.nD Cert.Rnorm.τ Cert.Rnorm.sig) → Buf (Elt Bits) ℓ) (g : Dev Cert.Rnorm.nD → PrngReg), Pre_Rnorm m →
    θ_run (Cert.Rnorm.defs (F := Bits)) (onTc (τ := Cert.Rnorm.τ) (Cert.Rnorm.main (F := Bits))) ⟨m, fun _ => 0, g⟩ (fun r => (∀ c : Dev Cert.Rnorm.nD,
      r.2.mem ((c.tc : Thread Cert.Rnorm.nD Cert.Rnorm.τ).loc Cert.Rnorm.main_arg0) = m ((c.tc : Thread Cert.Rnorm.nD Cert.Rnorm.τ).loc Cert.Rnorm.main_arg0)
      ∧ r.2.mem ((c.tc : Thread Cert.Rnorm.nD Cert.Rnorm.τ).loc Cert.Rnorm.main_arg1) = m ((c.tc : Thread Cert.Rnorm.nD Cert.Rnorm.τ).loc Cert.Rnorm.main_arg1)
      ∧ r.2.mem ((c.tc : Thread Cert.Rnorm.nD Cert.Rnorm.τ).loc Cert.Rnorm.main_arg2) = m ((c.tc : Thread Cert.Rnorm.nD Cert.Rnorm.τ).loc Cert.Rnorm.main_arg2)
      ∧ r.2.mem ((c.tc : Thread Cert.Rnorm.nD Cert.Rnorm.τ).loc Cert.Rnorm.main_arg3) = m ((c.tc : Thread Cert.Rnorm.nD Cert.Rnorm.τ).loc Cert.Rnorm.main_arg3)
      ∧ r.2.mem ((c.tc : Thread Cert.Rnorm.nD Cert.Rnorm.τ).loc Cert.Rnorm.main_arg4) = m ((c.tc : Thread Cert.Rnorm.nD Cert.Rnorm.τ).loc Cert.Rnorm.main_arg4)
      ∧ r.2.mem ((c.tc : Thread Cert.Rnorm.nD Cert.Rnorm.τ).loc Cert.Rnorm.main_arg5) = m ((c.tc : Thread Cert.Rnorm.nD Cert.Rnorm.τ).loc Cert.Rnorm.main_arg5))
      ∧ r.2.sem = fun _ => 0)

def quiescent_RnormIdeal [hRnormIdeal : Cert.RnormIdeal.Facts] : Prop :=
  ∀ (m : (ℓ : Loc Cert.RnormIdeal.nD Cert.RnormIdeal.τ Cert.RnormIdeal.sig) → Buf (Elt Ideal) ℓ) (g : Dev Cert.RnormIdeal.nD → PrngReg), Pre_RnormIdeal m →
    θ_run (Cert.RnormIdeal.defs (F := Ideal)) (onTc (τ := Cert.RnormIdeal.τ) (Cert.RnormIdeal.main (F := Ideal))) ⟨m, fun _ => 0, g⟩ (fun r => (∀ c : Dev Cert.RnormIdeal.nD,
      r.2.mem ((c.tc : Thread Cert.RnormIdeal.nD Cert.RnormIdeal.τ).loc Cert.RnormIdeal.main_arg0) = m ((c.tc : Thread Cert.RnormIdeal.nD Cert.RnormIdeal.τ).loc Cert.RnormIdeal.main_arg0)
      ∧ r.2.mem ((c.tc : Thread Cert.RnormIdeal.nD Cert.RnormIdeal.τ).loc Cert.RnormIdeal.main_arg1) = m ((c.tc : Thread Cert.RnormIdeal.nD Cert.RnormIdeal.τ).loc Cert.RnormIdeal.main_arg1)
      ∧ r.2.mem ((c.tc : Thread Cert.RnormIdeal.nD Cert.RnormIdeal.τ).loc Cert.RnormIdeal.main_arg2) = m ((c.tc : Thread Cert.RnormIdeal.nD Cert.RnormIdeal.τ).loc Cert.RnormIdeal.main_arg2)
      ∧ r.2.mem ((c.tc : Thread Cert.RnormIdeal.nD Cert.RnormIdeal.τ).loc Cert.RnormIdeal.main_arg3) = m ((c.tc : Thread Cert.RnormIdeal.nD Cert.RnormIdeal.τ).loc Cert.RnormIdeal.main_arg3)
      ∧ r.2.mem ((c.tc : Thread Cert.RnormIdeal.nD Cert.RnormIdeal.τ).loc Cert.RnormIdeal.main_arg4) = m ((c.tc : Thread Cert.RnormIdeal.nD Cert.RnormIdeal.τ).loc Cert.RnormIdeal.main_arg4)
      ∧ r.2.mem ((c.tc : Thread Cert.RnormIdeal.nD Cert.RnormIdeal.τ).loc Cert.RnormIdeal.main_arg5) = m ((c.tc : Thread Cert.RnormIdeal.nD Cert.RnormIdeal.τ).loc Cert.RnormIdeal.main_arg5))
      ∧ r.2.sem = fun _ => 0)

def quiescent_RnormRefIdeal [hRnormRefIdeal : Cert.RnormRefIdeal.Facts] : Prop :=
  ∀ (m : (ℓ : Loc Cert.RnormRefIdeal.nD Cert.RnormRefIdeal.τ Cert.RnormRefIdeal.sig) → Buf (Elt Ideal) ℓ) (g : Dev Cert.RnormRefIdeal.nD → PrngReg), Pre_RnormRefIdeal m →
    θ_run (Cert.RnormRefIdeal.defs (F := Ideal)) (onTc (τ := Cert.RnormRefIdeal.τ) (Cert.RnormRefIdeal.main (F := Ideal))) ⟨m, fun _ => 0, g⟩ (fun r => (∀ c : Dev Cert.RnormRefIdeal.nD,
      r.2.mem ((c.tc : Thread Cert.RnormRefIdeal.nD Cert.RnormRefIdeal.τ).loc Cert.RnormRefIdeal.main_arg0) = m ((c.tc : Thread Cert.RnormRefIdeal.nD Cert.RnormRefIdeal.τ).loc Cert.RnormRefIdeal.main_arg0)
      ∧ r.2.mem ((c.tc : Thread Cert.RnormRefIdeal.nD Cert.RnormRefIdeal.τ).loc Cert.RnormRefIdeal.main_arg1) = m ((c.tc : Thread Cert.RnormRefIdeal.nD Cert.RnormRefIdeal.τ).loc Cert.RnormRefIdeal.main_arg1)
      ∧ r.2.mem ((c.tc : Thread Cert.RnormRefIdeal.nD Cert.RnormRefIdeal.τ).loc Cert.RnormRefIdeal.main_arg2) = m ((c.tc : Thread Cert.RnormRefIdeal.nD Cert.RnormRefIdeal.τ).loc Cert.RnormRefIdeal.main_arg2)
      ∧ r.2.mem ((c.tc : Thread Cert.RnormRefIdeal.nD Cert.RnormRefIdeal.τ).loc Cert.RnormRefIdeal.main_arg3) = m ((c.tc : Thread Cert.RnormRefIdeal.nD Cert.RnormRefIdeal.τ).loc Cert.RnormRefIdeal.main_arg3)
      ∧ r.2.mem ((c.tc : Thread Cert.RnormRefIdeal.nD Cert.RnormRefIdeal.τ).loc Cert.RnormRefIdeal.main_arg4) = m ((c.tc : Thread Cert.RnormRefIdeal.nD Cert.RnormRefIdeal.τ).loc Cert.RnormRefIdeal.main_arg4)
      ∧ r.2.mem ((c.tc : Thread Cert.RnormRefIdeal.nD Cert.RnormRefIdeal.τ).loc Cert.RnormRefIdeal.main_arg5) = m ((c.tc : Thread Cert.RnormRefIdeal.nD Cert.RnormRefIdeal.τ).loc Cert.RnormRefIdeal.main_arg5))
      ∧ r.2.sem = fun _ => 0)

def quiescent_Sgate [hSgate : Cert.Sgate.Facts] : Prop :=
  ∀ (m : (ℓ : Loc Cert.Sgate.nD Cert.Sgate.τ Cert.Sgate.sig) → Buf (Elt Bits) ℓ) (g : Dev Cert.Sgate.nD → PrngReg), Pre_Sgate m →
    θ_run (Cert.Sgate.defs (F := Bits)) (onTc (τ := Cert.Sgate.τ) (Cert.Sgate.main (F := Bits))) ⟨m, fun _ => 0, g⟩ (fun r => (∀ c : Dev Cert.Sgate.nD,
      r.2.mem ((c.tc : Thread Cert.Sgate.nD Cert.Sgate.τ).loc Cert.Sgate.main_arg0) = m ((c.tc : Thread Cert.Sgate.nD Cert.Sgate.τ).loc Cert.Sgate.main_arg0)
      ∧ r.2.mem ((c.tc : Thread Cert.Sgate.nD Cert.Sgate.τ).loc Cert.Sgate.main_arg1) = m ((c.tc : Thread Cert.Sgate.nD Cert.Sgate.τ).loc Cert.Sgate.main_arg1)
      ∧ r.2.mem ((c.tc : Thread Cert.Sgate.nD Cert.Sgate.τ).loc Cert.Sgate.main_arg2) = m ((c.tc : Thread Cert.Sgate.nD Cert.Sgate.τ).loc Cert.Sgate.main_arg2)
      ∧ r.2.mem ((c.tc : Thread Cert.Sgate.nD Cert.Sgate.τ).loc Cert.Sgate.main_arg3) = m ((c.tc : Thread Cert.Sgate.nD Cert.Sgate.τ).loc Cert.Sgate.main_arg3)
      ∧ r.2.mem ((c.tc : Thread Cert.Sgate.nD Cert.Sgate.τ).loc Cert.Sgate.main_arg4) = m ((c.tc : Thread Cert.Sgate.nD Cert.Sgate.τ).loc Cert.Sgate.main_arg4))
      ∧ r.2.sem = fun _ => 0)

def quiescent_SgateIdeal [hSgateIdeal : Cert.SgateIdeal.Facts] : Prop :=
  ∀ (m : (ℓ : Loc Cert.SgateIdeal.nD Cert.SgateIdeal.τ Cert.SgateIdeal.sig) → Buf (Elt Ideal) ℓ) (g : Dev Cert.SgateIdeal.nD → PrngReg), Pre_SgateIdeal m →
    θ_run (Cert.SgateIdeal.defs (F := Ideal)) (onTc (τ := Cert.SgateIdeal.τ) (Cert.SgateIdeal.main (F := Ideal))) ⟨m, fun _ => 0, g⟩ (fun r => (∀ c : Dev Cert.SgateIdeal.nD,
      r.2.mem ((c.tc : Thread Cert.SgateIdeal.nD Cert.SgateIdeal.τ).loc Cert.SgateIdeal.main_arg0) = m ((c.tc : Thread Cert.SgateIdeal.nD Cert.SgateIdeal.τ).loc Cert.SgateIdeal.main_arg0)
      ∧ r.2.mem ((c.tc : Thread Cert.SgateIdeal.nD Cert.SgateIdeal.τ).loc Cert.SgateIdeal.main_arg1) = m ((c.tc : Thread Cert.SgateIdeal.nD Cert.SgateIdeal.τ).loc Cert.SgateIdeal.main_arg1)
      ∧ r.2.mem ((c.tc : Thread Cert.SgateIdeal.nD Cert.SgateIdeal.τ).loc Cert.SgateIdeal.main_arg2) = m ((c.tc : Thread Cert.SgateIdeal.nD Cert.SgateIdeal.τ).loc Cert.SgateIdeal.main_arg2)
      ∧ r.2.mem ((c.tc : Thread Cert.SgateIdeal.nD Cert.SgateIdeal.τ).loc Cert.SgateIdeal.main_arg3) = m ((c.tc : Thread Cert.SgateIdeal.nD Cert.SgateIdeal.τ).loc Cert.SgateIdeal.main_arg3)
      ∧ r.2.mem ((c.tc : Thread Cert.SgateIdeal.nD Cert.SgateIdeal.τ).loc Cert.SgateIdeal.main_arg4) = m ((c.tc : Thread Cert.SgateIdeal.nD Cert.SgateIdeal.τ).loc Cert.SgateIdeal.main_arg4))
      ∧ r.2.sem = fun _ => 0)

def quiescent_SgateRefIdeal [hSgateRefIdeal : Cert.SgateRefIdeal.Facts] : Prop :=
  ∀ (m : (ℓ : Loc Cert.SgateRefIdeal.nD Cert.SgateRefIdeal.τ Cert.SgateRefIdeal.sig) → Buf (Elt Ideal) ℓ) (g : Dev Cert.SgateRefIdeal.nD → PrngReg), Pre_SgateRefIdeal m →
    θ_run (Cert.SgateRefIdeal.defs (F := Ideal)) (onTc (τ := Cert.SgateRefIdeal.τ) (Cert.SgateRefIdeal.main (F := Ideal))) ⟨m, fun _ => 0, g⟩ (fun r => (∀ c : Dev Cert.SgateRefIdeal.nD,
      r.2.mem ((c.tc : Thread Cert.SgateRefIdeal.nD Cert.SgateRefIdeal.τ).loc Cert.SgateRefIdeal.main_arg0) = m ((c.tc : Thread Cert.SgateRefIdeal.nD Cert.SgateRefIdeal.τ).loc Cert.SgateRefIdeal.main_arg0)
      ∧ r.2.mem ((c.tc : Thread Cert.SgateRefIdeal.nD Cert.SgateRefIdeal.τ).loc Cert.SgateRefIdeal.main_arg1) = m ((c.tc : Thread Cert.SgateRefIdeal.nD Cert.SgateRefIdeal.τ).loc Cert.SgateRefIdeal.main_arg1)
      ∧ r.2.mem ((c.tc : Thread Cert.SgateRefIdeal.nD Cert.SgateRefIdeal.τ).loc Cert.SgateRefIdeal.main_arg2) = m ((c.tc : Thread Cert.SgateRefIdeal.nD Cert.SgateRefIdeal.τ).loc Cert.SgateRefIdeal.main_arg2)
      ∧ r.2.mem ((c.tc : Thread Cert.SgateRefIdeal.nD Cert.SgateRefIdeal.τ).loc Cert.SgateRefIdeal.main_arg3) = m ((c.tc : Thread Cert.SgateRefIdeal.nD Cert.SgateRefIdeal.τ).loc Cert.SgateRefIdeal.main_arg3)
      ∧ r.2.mem ((c.tc : Thread Cert.SgateRefIdeal.nD Cert.SgateRefIdeal.τ).loc Cert.SgateRefIdeal.main_arg4) = m ((c.tc : Thread Cert.SgateRefIdeal.nD Cert.SgateRefIdeal.τ).loc Cert.SgateRefIdeal.main_arg4))
      ∧ r.2.sem = fun _ => 0)

def quiescent_Dtp [hDtp : Cert.Dtp.Facts] : Prop :=
  ∀ (m : (ℓ : Loc Cert.Dtp.nD Cert.Dtp.τ Cert.Dtp.sig) → Buf (Elt Bits) ℓ) (g : Dev Cert.Dtp.nD → PrngReg), Pre_Dtp m →
    θ_run (Cert.Dtp.defs (F := Bits)) (onTc (τ := Cert.Dtp.τ) (Cert.Dtp.main (F := Bits))) ⟨m, fun _ => 0, g⟩ (fun r => (∀ c : Dev Cert.Dtp.nD,
      r.2.mem ((c.tc : Thread Cert.Dtp.nD Cert.Dtp.τ).loc Cert.Dtp.main_arg0) = m ((c.tc : Thread Cert.Dtp.nD Cert.Dtp.τ).loc Cert.Dtp.main_arg0)
      ∧ r.2.mem ((c.tc : Thread Cert.Dtp.nD Cert.Dtp.τ).loc Cert.Dtp.main_arg1) = m ((c.tc : Thread Cert.Dtp.nD Cert.Dtp.τ).loc Cert.Dtp.main_arg1))
      ∧ r.2.sem = fun _ => 0)

def quiescent_DtpIdeal [hDtpIdeal : Cert.DtpIdeal.Facts] : Prop :=
  ∀ (m : (ℓ : Loc Cert.DtpIdeal.nD Cert.DtpIdeal.τ Cert.DtpIdeal.sig) → Buf (Elt Ideal) ℓ) (g : Dev Cert.DtpIdeal.nD → PrngReg), Pre_DtpIdeal m →
    θ_run (Cert.DtpIdeal.defs (F := Ideal)) (onTc (τ := Cert.DtpIdeal.τ) (Cert.DtpIdeal.main (F := Ideal))) ⟨m, fun _ => 0, g⟩ (fun r => (∀ c : Dev Cert.DtpIdeal.nD,
      r.2.mem ((c.tc : Thread Cert.DtpIdeal.nD Cert.DtpIdeal.τ).loc Cert.DtpIdeal.main_arg0) = m ((c.tc : Thread Cert.DtpIdeal.nD Cert.DtpIdeal.τ).loc Cert.DtpIdeal.main_arg0)
      ∧ r.2.mem ((c.tc : Thread Cert.DtpIdeal.nD Cert.DtpIdeal.τ).loc Cert.DtpIdeal.main_arg1) = m ((c.tc : Thread Cert.DtpIdeal.nD Cert.DtpIdeal.τ).loc Cert.DtpIdeal.main_arg1))
      ∧ r.2.sem = fun _ => 0)

def quiescent_DtpRefIdeal [hDtpRefIdeal : Cert.DtpRefIdeal.Facts] : Prop :=
  ∀ (m : (ℓ : Loc Cert.DtpRefIdeal.nD Cert.DtpRefIdeal.τ Cert.DtpRefIdeal.sig) → Buf (Elt Ideal) ℓ) (g : Dev Cert.DtpRefIdeal.nD → PrngReg), Pre_DtpRefIdeal m →
    θ_run (Cert.DtpRefIdeal.defs (F := Ideal)) (onTc (τ := Cert.DtpRefIdeal.τ) (Cert.DtpRefIdeal.main (F := Ideal))) ⟨m, fun _ => 0, g⟩ (fun r => (∀ c : Dev Cert.DtpRefIdeal.nD,
      r.2.mem ((c.tc : Thread Cert.DtpRefIdeal.nD Cert.DtpRefIdeal.τ).loc Cert.DtpRefIdeal.main_arg0) = m ((c.tc : Thread Cert.DtpRefIdeal.nD Cert.DtpRefIdeal.τ).loc Cert.DtpRefIdeal.main_arg0)
      ∧ r.2.mem ((c.tc : Thread Cert.DtpRefIdeal.nD Cert.DtpRefIdeal.τ).loc Cert.DtpRefIdeal.main_arg1) = m ((c.tc : Thread Cert.DtpRefIdeal.nD Cert.DtpRefIdeal.τ).loc Cert.DtpRefIdeal.main_arg1))
      ∧ r.2.sem = fun _ => 0)

def quiescent_Dwdt [hDwdt : Cert.Dwdt.Facts] : Prop :=
  ∀ (m : (ℓ : Loc Cert.Dwdt.nD Cert.Dwdt.τ Cert.Dwdt.sig) → Buf (Elt Bits) ℓ) (g : Dev Cert.Dwdt.nD → PrngReg), Pre_Dwdt m →
    θ_run (Cert.Dwdt.defs (F := Bits)) (onTc (τ := Cert.Dwdt.τ) (Cert.Dwdt.main (F := Bits))) ⟨m, fun _ => 0, g⟩ (fun r => (∀ c : Dev Cert.Dwdt.nD,
      r.2.mem ((c.tc : Thread Cert.Dwdt.nD Cert.Dwdt.τ).loc Cert.Dwdt.main_arg0) = m ((c.tc : Thread Cert.Dwdt.nD Cert.Dwdt.τ).loc Cert.Dwdt.main_arg0)
      ∧ r.2.mem ((c.tc : Thread Cert.Dwdt.nD Cert.Dwdt.τ).loc Cert.Dwdt.main_arg1) = m ((c.tc : Thread Cert.Dwdt.nD Cert.Dwdt.τ).loc Cert.Dwdt.main_arg1))
      ∧ r.2.sem = fun _ => 0)

def quiescent_DwdtIdeal [hDwdtIdeal : Cert.DwdtIdeal.Facts] : Prop :=
  ∀ (m : (ℓ : Loc Cert.DwdtIdeal.nD Cert.DwdtIdeal.τ Cert.DwdtIdeal.sig) → Buf (Elt Ideal) ℓ) (g : Dev Cert.DwdtIdeal.nD → PrngReg), Pre_DwdtIdeal m →
    θ_run (Cert.DwdtIdeal.defs (F := Ideal)) (onTc (τ := Cert.DwdtIdeal.τ) (Cert.DwdtIdeal.main (F := Ideal))) ⟨m, fun _ => 0, g⟩ (fun r => (∀ c : Dev Cert.DwdtIdeal.nD,
      r.2.mem ((c.tc : Thread Cert.DwdtIdeal.nD Cert.DwdtIdeal.τ).loc Cert.DwdtIdeal.main_arg0) = m ((c.tc : Thread Cert.DwdtIdeal.nD Cert.DwdtIdeal.τ).loc Cert.DwdtIdeal.main_arg0)
      ∧ r.2.mem ((c.tc : Thread Cert.DwdtIdeal.nD Cert.DwdtIdeal.τ).loc Cert.DwdtIdeal.main_arg1) = m ((c.tc : Thread Cert.DwdtIdeal.nD Cert.DwdtIdeal.τ).loc Cert.DwdtIdeal.main_arg1))
      ∧ r.2.sem = fun _ => 0)

def quiescent_DwdtRefIdeal [hDwdtRefIdeal : Cert.DwdtRefIdeal.Facts] : Prop :=
  ∀ (m : (ℓ : Loc Cert.DwdtRefIdeal.nD Cert.DwdtRefIdeal.τ Cert.DwdtRefIdeal.sig) → Buf (Elt Ideal) ℓ) (g : Dev Cert.DwdtRefIdeal.nD → PrngReg), Pre_DwdtRefIdeal m →
    θ_run (Cert.DwdtRefIdeal.defs (F := Ideal)) (onTc (τ := Cert.DwdtRefIdeal.τ) (Cert.DwdtRefIdeal.main (F := Ideal))) ⟨m, fun _ => 0, g⟩ (fun r => (∀ c : Dev Cert.DwdtRefIdeal.nD,
      r.2.mem ((c.tc : Thread Cert.DwdtRefIdeal.nD Cert.DwdtRefIdeal.τ).loc Cert.DwdtRefIdeal.main_arg0) = m ((c.tc : Thread Cert.DwdtRefIdeal.nD Cert.DwdtRefIdeal.τ).loc Cert.DwdtRefIdeal.main_arg0)
      ∧ r.2.mem ((c.tc : Thread Cert.DwdtRefIdeal.nD Cert.DwdtRefIdeal.τ).loc Cert.DwdtRefIdeal.main_arg1) = m ((c.tc : Thread Cert.DwdtRefIdeal.nD Cert.DwdtRefIdeal.τ).loc Cert.DwdtRefIdeal.main_arg1))
      ∧ r.2.sem = fun _ => 0)

def quiescent_Dxdt [hDxdt : Cert.Dxdt.Facts] : Prop :=
  ∀ (m : (ℓ : Loc Cert.Dxdt.nD Cert.Dxdt.τ Cert.Dxdt.sig) → Buf (Elt Bits) ℓ) (g : Dev Cert.Dxdt.nD → PrngReg), Pre_Dxdt m →
    θ_run (Cert.Dxdt.defs (F := Bits)) (onTc (τ := Cert.Dxdt.τ) (Cert.Dxdt.main (F := Bits))) ⟨m, fun _ => 0, g⟩ (fun r => (∀ c : Dev Cert.Dxdt.nD,
      r.2.mem ((c.tc : Thread Cert.Dxdt.nD Cert.Dxdt.τ).loc Cert.Dxdt.main_arg0) = m ((c.tc : Thread Cert.Dxdt.nD Cert.Dxdt.τ).loc Cert.Dxdt.main_arg0)
      ∧ r.2.mem ((c.tc : Thread Cert.Dxdt.nD Cert.Dxdt.τ).loc Cert.Dxdt.main_arg1) = m ((c.tc : Thread Cert.Dxdt.nD Cert.Dxdt.τ).loc Cert.Dxdt.main_arg1)
      ∧ r.2.mem ((c.tc : Thread Cert.Dxdt.nD Cert.Dxdt.τ).loc Cert.Dxdt.main_arg2) = m ((c.tc : Thread Cert.Dxdt.nD Cert.Dxdt.τ).loc Cert.Dxdt.main_arg2))
      ∧ r.2.sem = fun _ => 0)

def quiescent_DxdtIdeal [hDxdtIdeal : Cert.DxdtIdeal.Facts] : Prop :=
  ∀ (m : (ℓ : Loc Cert.DxdtIdeal.nD Cert.DxdtIdeal.τ Cert.DxdtIdeal.sig) → Buf (Elt Ideal) ℓ) (g : Dev Cert.DxdtIdeal.nD → PrngReg), Pre_DxdtIdeal m →
    θ_run (Cert.DxdtIdeal.defs (F := Ideal)) (onTc (τ := Cert.DxdtIdeal.τ) (Cert.DxdtIdeal.main (F := Ideal))) ⟨m, fun _ => 0, g⟩ (fun r => (∀ c : Dev Cert.DxdtIdeal.nD,
      r.2.mem ((c.tc : Thread Cert.DxdtIdeal.nD Cert.DxdtIdeal.τ).loc Cert.DxdtIdeal.main_arg0) = m ((c.tc : Thread Cert.DxdtIdeal.nD Cert.DxdtIdeal.τ).loc Cert.DxdtIdeal.main_arg0)
      ∧ r.2.mem ((c.tc : Thread Cert.DxdtIdeal.nD Cert.DxdtIdeal.τ).loc Cert.DxdtIdeal.main_arg1) = m ((c.tc : Thread Cert.DxdtIdeal.nD Cert.DxdtIdeal.τ).loc Cert.DxdtIdeal.main_arg1)
      ∧ r.2.mem ((c.tc : Thread Cert.DxdtIdeal.nD Cert.DxdtIdeal.τ).loc Cert.DxdtIdeal.main_arg2) = m ((c.tc : Thread Cert.DxdtIdeal.nD Cert.DxdtIdeal.τ).loc Cert.DxdtIdeal.main_arg2))
      ∧ r.2.sem = fun _ => 0)

def quiescent_DxdtRefIdeal [hDxdtRefIdeal : Cert.DxdtRefIdeal.Facts] : Prop :=
  ∀ (m : (ℓ : Loc Cert.DxdtRefIdeal.nD Cert.DxdtRefIdeal.τ Cert.DxdtRefIdeal.sig) → Buf (Elt Ideal) ℓ) (g : Dev Cert.DxdtRefIdeal.nD → PrngReg), Pre_DxdtRefIdeal m →
    θ_run (Cert.DxdtRefIdeal.defs (F := Ideal)) (onTc (τ := Cert.DxdtRefIdeal.τ) (Cert.DxdtRefIdeal.main (F := Ideal))) ⟨m, fun _ => 0, g⟩ (fun r => (∀ c : Dev Cert.DxdtRefIdeal.nD,
      r.2.mem ((c.tc : Thread Cert.DxdtRefIdeal.nD Cert.DxdtRefIdeal.τ).loc Cert.DxdtRefIdeal.main_arg0) = m ((c.tc : Thread Cert.DxdtRefIdeal.nD Cert.DxdtRefIdeal.τ).loc Cert.DxdtRefIdeal.main_arg0)
      ∧ r.2.mem ((c.tc : Thread Cert.DxdtRefIdeal.nD Cert.DxdtRefIdeal.τ).loc Cert.DxdtRefIdeal.main_arg1) = m ((c.tc : Thread Cert.DxdtRefIdeal.nD Cert.DxdtRefIdeal.τ).loc Cert.DxdtRefIdeal.main_arg1)
      ∧ r.2.mem ((c.tc : Thread Cert.DxdtRefIdeal.nD Cert.DxdtRefIdeal.τ).loc Cert.DxdtRefIdeal.main_arg2) = m ((c.tc : Thread Cert.DxdtRefIdeal.nD Cert.DxdtRefIdeal.τ).loc Cert.DxdtRefIdeal.main_arg2))
      ∧ r.2.sem = fun _ => 0)

def quiescent_Cnorm [hCnorm : Cert.Cnorm.Facts] : Prop :=
  ∀ (m : (ℓ : Loc Cert.Cnorm.nD Cert.Cnorm.τ Cert.Cnorm.sig) → Buf (Elt Bits) ℓ) (g : Dev Cert.Cnorm.nD → PrngReg), Pre_Cnorm m →
    θ_run (Cert.Cnorm.defs (F := Bits)) (onTc (τ := Cert.Cnorm.τ) (Cert.Cnorm.main (F := Bits))) ⟨m, fun _ => 0, g⟩ (fun r => (∀ c : Dev Cert.Cnorm.nD,
      r.2.mem ((c.tc : Thread Cert.Cnorm.nD Cert.Cnorm.τ).loc Cert.Cnorm.main_arg0) = m ((c.tc : Thread Cert.Cnorm.nD Cert.Cnorm.τ).loc Cert.Cnorm.main_arg0)
      ∧ r.2.mem ((c.tc : Thread Cert.Cnorm.nD Cert.Cnorm.τ).loc Cert.Cnorm.main_arg1) = m ((c.tc : Thread Cert.Cnorm.nD Cert.Cnorm.τ).loc Cert.Cnorm.main_arg1)
      ∧ r.2.mem ((c.tc : Thread Cert.Cnorm.nD Cert.Cnorm.τ).loc Cert.Cnorm.main_arg2) = m ((c.tc : Thread Cert.Cnorm.nD Cert.Cnorm.τ).loc Cert.Cnorm.main_arg2)
      ∧ r.2.mem ((c.tc : Thread Cert.Cnorm.nD Cert.Cnorm.τ).loc Cert.Cnorm.main_arg3) = m ((c.tc : Thread Cert.Cnorm.nD Cert.Cnorm.τ).loc Cert.Cnorm.main_arg3)
      ∧ r.2.mem ((c.tc : Thread Cert.Cnorm.nD Cert.Cnorm.τ).loc Cert.Cnorm.main_arg4) = m ((c.tc : Thread Cert.Cnorm.nD Cert.Cnorm.τ).loc Cert.Cnorm.main_arg4))
      ∧ r.2.sem = fun _ => 0)

def quiescent_CnormIdeal [hCnormIdeal : Cert.CnormIdeal.Facts] : Prop :=
  ∀ (m : (ℓ : Loc Cert.CnormIdeal.nD Cert.CnormIdeal.τ Cert.CnormIdeal.sig) → Buf (Elt Ideal) ℓ) (g : Dev Cert.CnormIdeal.nD → PrngReg), Pre_CnormIdeal m →
    θ_run (Cert.CnormIdeal.defs (F := Ideal)) (onTc (τ := Cert.CnormIdeal.τ) (Cert.CnormIdeal.main (F := Ideal))) ⟨m, fun _ => 0, g⟩ (fun r => (∀ c : Dev Cert.CnormIdeal.nD,
      r.2.mem ((c.tc : Thread Cert.CnormIdeal.nD Cert.CnormIdeal.τ).loc Cert.CnormIdeal.main_arg0) = m ((c.tc : Thread Cert.CnormIdeal.nD Cert.CnormIdeal.τ).loc Cert.CnormIdeal.main_arg0)
      ∧ r.2.mem ((c.tc : Thread Cert.CnormIdeal.nD Cert.CnormIdeal.τ).loc Cert.CnormIdeal.main_arg1) = m ((c.tc : Thread Cert.CnormIdeal.nD Cert.CnormIdeal.τ).loc Cert.CnormIdeal.main_arg1)
      ∧ r.2.mem ((c.tc : Thread Cert.CnormIdeal.nD Cert.CnormIdeal.τ).loc Cert.CnormIdeal.main_arg2) = m ((c.tc : Thread Cert.CnormIdeal.nD Cert.CnormIdeal.τ).loc Cert.CnormIdeal.main_arg2)
      ∧ r.2.mem ((c.tc : Thread Cert.CnormIdeal.nD Cert.CnormIdeal.τ).loc Cert.CnormIdeal.main_arg3) = m ((c.tc : Thread Cert.CnormIdeal.nD Cert.CnormIdeal.τ).loc Cert.CnormIdeal.main_arg3)
      ∧ r.2.mem ((c.tc : Thread Cert.CnormIdeal.nD Cert.CnormIdeal.τ).loc Cert.CnormIdeal.main_arg4) = m ((c.tc : Thread Cert.CnormIdeal.nD Cert.CnormIdeal.τ).loc Cert.CnormIdeal.main_arg4))
      ∧ r.2.sem = fun _ => 0)

def quiescent_CnormRefIdeal [hCnormRefIdeal : Cert.CnormRefIdeal.Facts] : Prop :=
  ∀ (m : (ℓ : Loc Cert.CnormRefIdeal.nD Cert.CnormRefIdeal.τ Cert.CnormRefIdeal.sig) → Buf (Elt Ideal) ℓ) (g : Dev Cert.CnormRefIdeal.nD → PrngReg), Pre_CnormRefIdeal m →
    θ_run (Cert.CnormRefIdeal.defs (F := Ideal)) (onTc (τ := Cert.CnormRefIdeal.τ) (Cert.CnormRefIdeal.main (F := Ideal))) ⟨m, fun _ => 0, g⟩ (fun r => (∀ c : Dev Cert.CnormRefIdeal.nD,
      r.2.mem ((c.tc : Thread Cert.CnormRefIdeal.nD Cert.CnormRefIdeal.τ).loc Cert.CnormRefIdeal.main_arg0) = m ((c.tc : Thread Cert.CnormRefIdeal.nD Cert.CnormRefIdeal.τ).loc Cert.CnormRefIdeal.main_arg0)
      ∧ r.2.mem ((c.tc : Thread Cert.CnormRefIdeal.nD Cert.CnormRefIdeal.τ).loc Cert.CnormRefIdeal.main_arg1) = m ((c.tc : Thread Cert.CnormRefIdeal.nD Cert.CnormRefIdeal.τ).loc Cert.CnormRefIdeal.main_arg1)
      ∧ r.2.mem ((c.tc : Thread Cert.CnormRefIdeal.nD Cert.CnormRefIdeal.τ).loc Cert.CnormRefIdeal.main_arg2) = m ((c.tc : Thread Cert.CnormRefIdeal.nD Cert.CnormRefIdeal.τ).loc Cert.CnormRefIdeal.main_arg2)
      ∧ r.2.mem ((c.tc : Thread Cert.CnormRefIdeal.nD Cert.CnormRefIdeal.τ).loc Cert.CnormRefIdeal.main_arg3) = m ((c.tc : Thread Cert.CnormRefIdeal.nD Cert.CnormRefIdeal.τ).loc Cert.CnormRefIdeal.main_arg3)
      ∧ r.2.mem ((c.tc : Thread Cert.CnormRefIdeal.nD Cert.CnormRefIdeal.τ).loc Cert.CnormRefIdeal.main_arg4) = m ((c.tc : Thread Cert.CnormRefIdeal.nD Cert.CnormRefIdeal.τ).loc Cert.CnormRefIdeal.main_arg4))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Axial [hAxial : Cert.Axial.Facts] : Prop :=
  ∀ (m : (ℓ : Loc Cert.Axial.nD Cert.Axial.τ Cert.Axial.sig) → Buf (Elt Bits) ℓ) (g : Dev Cert.Axial.nD → PrngReg), Pre_Axial m →
    θ_run (Cert.Axial.defs (F := Bits)) (onTc (τ := Cert.Axial.τ) (Cert.Axial.main (F := Bits))) ⟨m, fun _ => 0, g⟩ (fun r => (∀ c : Dev Cert.Axial.nD,
      r.2.mem ((c.tc : Thread Cert.Axial.nD Cert.Axial.τ).loc Cert.Axial.main_arg0) = m ((c.tc : Thread Cert.Axial.nD Cert.Axial.τ).loc Cert.Axial.main_arg0)
      ∧ r.2.mem ((c.tc : Thread Cert.Axial.nD Cert.Axial.τ).loc Cert.Axial.main_arg1) = m ((c.tc : Thread Cert.Axial.nD Cert.Axial.τ).loc Cert.Axial.main_arg1)
      ∧ r.2.mem ((c.tc : Thread Cert.Axial.nD Cert.Axial.τ).loc Cert.Axial.main_arg2) = m ((c.tc : Thread Cert.Axial.nD Cert.Axial.τ).loc Cert.Axial.main_arg2))
      ∧ r.2.sem = fun _ => 0)

def quiescent_AxialIdeal [hAxialIdeal : Cert.AxialIdeal.Facts] : Prop :=
  ∀ (m : (ℓ : Loc Cert.AxialIdeal.nD Cert.AxialIdeal.τ Cert.AxialIdeal.sig) → Buf (Elt Ideal) ℓ) (g : Dev Cert.AxialIdeal.nD → PrngReg), Pre_AxialIdeal m →
    θ_run (Cert.AxialIdeal.defs (F := Ideal)) (onTc (τ := Cert.AxialIdeal.τ) (Cert.AxialIdeal.main (F := Ideal))) ⟨m, fun _ => 0, g⟩ (fun r => (∀ c : Dev Cert.AxialIdeal.nD,
      r.2.mem ((c.tc : Thread Cert.AxialIdeal.nD Cert.AxialIdeal.τ).loc Cert.AxialIdeal.main_arg0) = m ((c.tc : Thread Cert.AxialIdeal.nD Cert.AxialIdeal.τ).loc Cert.AxialIdeal.main_arg0)
      ∧ r.2.mem ((c.tc : Thread Cert.AxialIdeal.nD Cert.AxialIdeal.τ).loc Cert.AxialIdeal.main_arg1) = m ((c.tc : Thread Cert.AxialIdeal.nD Cert.AxialIdeal.τ).loc Cert.AxialIdeal.main_arg1)
      ∧ r.2.mem ((c.tc : Thread Cert.AxialIdeal.nD Cert.AxialIdeal.τ).loc Cert.AxialIdeal.main_arg2) = m ((c.tc : Thread Cert.AxialIdeal.nD Cert.AxialIdeal.τ).loc Cert.AxialIdeal.main_arg2))
      ∧ r.2.sem = fun _ => 0)

def quiescent_AxialRefIdeal [hAxialRefIdeal : Cert.AxialRefIdeal.Facts] : Prop :=
  ∀ (m : (ℓ : Loc Cert.AxialRefIdeal.nD Cert.AxialRefIdeal.τ Cert.AxialRefIdeal.sig) → Buf (Elt Ideal) ℓ) (g : Dev Cert.AxialRefIdeal.nD → PrngReg), Pre_AxialRefIdeal m →
    θ_run (Cert.AxialRefIdeal.defs (F := Ideal)) (onTc (τ := Cert.AxialRefIdeal.τ) (Cert.AxialRefIdeal.main (F := Ideal))) ⟨m, fun _ => 0, g⟩ (fun r => (∀ c : Dev Cert.AxialRefIdeal.nD,
      r.2.mem ((c.tc : Thread Cert.AxialRefIdeal.nD Cert.AxialRefIdeal.τ).loc Cert.AxialRefIdeal.main_arg0) = m ((c.tc : Thread Cert.AxialRefIdeal.nD Cert.AxialRefIdeal.τ).loc Cert.AxialRefIdeal.main_arg0)
      ∧ r.2.mem ((c.tc : Thread Cert.AxialRefIdeal.nD Cert.AxialRefIdeal.τ).loc Cert.AxialRefIdeal.main_arg1) = m ((c.tc : Thread Cert.AxialRefIdeal.nD Cert.AxialRefIdeal.τ).loc Cert.AxialRefIdeal.main_arg1)
      ∧ r.2.mem ((c.tc : Thread Cert.AxialRefIdeal.nD Cert.AxialRefIdeal.τ).loc Cert.AxialRefIdeal.main_arg2) = m ((c.tc : Thread Cert.AxialRefIdeal.nD Cert.AxialRefIdeal.τ).loc Cert.AxialRefIdeal.main_arg2))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamPwin [hAdamPwin : Cert.AdamPwin.Facts] : Prop :=
  ∀ (m : (ℓ : Loc Cert.AdamPwin.nD Cert.AdamPwin.τ Cert.AdamPwin.sig) → Buf (Elt Bits) ℓ) (g : Dev Cert.AdamPwin.nD → PrngReg), Pre_AdamPwin m →
    θ_run (Cert.AdamPwin.defs (F := Bits)) (onTc (τ := Cert.AdamPwin.τ) (Cert.AdamPwin.main (F := Bits))) ⟨m, fun _ => 0, g⟩ (fun r => (∀ c : Dev Cert.AdamPwin.nD,
      r.2.mem ((c.tc : Thread Cert.AdamPwin.nD Cert.AdamPwin.τ).loc Cert.AdamPwin.main_arg0) = m ((c.tc : Thread Cert.AdamPwin.nD Cert.AdamPwin.τ).loc Cert.AdamPwin.main_arg0)
      ∧ r.2.mem ((c.tc : Thread Cert.AdamPwin.nD Cert.AdamPwin.τ).loc Cert.AdamPwin.main_arg1) = m ((c.tc : Thread Cert.AdamPwin.nD Cert.AdamPwin.τ).loc Cert.AdamPwin.main_arg1)
      ∧ r.2.mem ((c.tc : Thread Cert.AdamPwin.nD Cert.AdamPwin.τ).loc Cert.AdamPwin.main_arg2) = m ((c.tc : Thread Cert.AdamPwin.nD Cert.AdamPwin.τ).loc Cert.AdamPwin.main_arg2)
      ∧ r.2.mem ((c.tc : Thread Cert.AdamPwin.nD Cert.AdamPwin.τ).loc Cert.AdamPwin.main_arg3) = m ((c.tc : Thread Cert.AdamPwin.nD Cert.AdamPwin.τ).loc Cert.AdamPwin.main_arg3))
      ∧ r.2.sem = fun _ => 0)

def quiescent_AdamPwinIdeal [hAdamPwinIdeal : Cert.AdamPwinIdeal.Facts] : Prop :=
  ∀ (m : (ℓ : Loc Cert.AdamPwinIdeal.nD Cert.AdamPwinIdeal.τ Cert.AdamPwinIdeal.sig) → Buf (Elt Ideal) ℓ) (g : Dev Cert.AdamPwinIdeal.nD → PrngReg), Pre_AdamPwinIdeal m →
    θ_run (Cert.AdamPwinIdeal.defs (F := Ideal)) (onTc (τ := Cert.AdamPwinIdeal.τ) (Cert.AdamPwinIdeal.main (F := Ideal))) ⟨m, fun _ => 0, g⟩ (fun r => (∀ c : Dev Cert.AdamPwinIdeal.nD,
      r.2.mem ((c.tc : Thread Cert.AdamPwinIdeal.nD Cert.AdamPwinIdeal.τ).loc Cert.AdamPwinIdeal.main_arg0) = m ((c.tc : Thread Cert.AdamPwinIdeal.nD Cert.AdamPwinIdeal.τ).loc Cert.AdamPwinIdeal.main_arg0)
      ∧ r.2.mem ((c.tc : Thread Cert.AdamPwinIdeal.nD Cert.AdamPwinIdeal.τ).loc Cert.AdamPwinIdeal.main_arg1) = m ((c.tc : Thread Cert.AdamPwinIdeal.nD Cert.AdamPwinIdeal.τ).loc Cert.AdamPwinIdeal.main_arg1)
      ∧ r.2.mem ((c.tc : Thread Cert.AdamPwinIdeal.nD Cert.AdamPwinIdeal.τ).loc Cert.AdamPwinIdeal.main_arg2) = m ((c.tc : Thread Cert.AdamPwinIdeal.nD Cert.AdamPwinIdeal.τ).loc Cert.AdamPwinIdeal.main_arg2)
      ∧ r.2.mem ((c.tc : Thread Cert.AdamPwinIdeal.nD Cert.AdamPwinIdeal.τ).loc Cert.AdamPwinIdeal.main_arg3) = m ((c.tc : Thread Cert.AdamPwinIdeal.nD Cert.AdamPwinIdeal.τ).loc Cert.AdamPwinIdeal.main_arg3))
      ∧ r.2.sem = fun _ => 0)

def quiescent_AdamPwinRefIdeal [hAdamPwinRefIdeal : Cert.AdamPwinRefIdeal.Facts] : Prop :=
  ∀ (m : (ℓ : Loc Cert.AdamPwinRefIdeal.nD Cert.AdamPwinRefIdeal.τ Cert.AdamPwinRefIdeal.sig) → Buf (Elt Ideal) ℓ) (g : Dev Cert.AdamPwinRefIdeal.nD → PrngReg), Pre_AdamPwinRefIdeal m →
    θ_run (Cert.AdamPwinRefIdeal.defs (F := Ideal)) (onTc (τ := Cert.AdamPwinRefIdeal.τ) (Cert.AdamPwinRefIdeal.main (F := Ideal))) ⟨m, fun _ => 0, g⟩ (fun r => (∀ c : Dev Cert.AdamPwinRefIdeal.nD,
      r.2.mem ((c.tc : Thread Cert.AdamPwinRefIdeal.nD Cert.AdamPwinRefIdeal.τ).loc Cert.AdamPwinRefIdeal.main_arg0) = m ((c.tc : Thread Cert.AdamPwinRefIdeal.nD Cert.AdamPwinRefIdeal.τ).loc Cert.AdamPwinRefIdeal.main_arg0)
      ∧ r.2.mem ((c.tc : Thread Cert.AdamPwinRefIdeal.nD Cert.AdamPwinRefIdeal.τ).loc Cert.AdamPwinRefIdeal.main_arg1) = m ((c.tc : Thread Cert.AdamPwinRefIdeal.nD Cert.AdamPwinRefIdeal.τ).loc Cert.AdamPwinRefIdeal.main_arg1)
      ∧ r.2.mem ((c.tc : Thread Cert.AdamPwinRefIdeal.nD Cert.AdamPwinRefIdeal.τ).loc Cert.AdamPwinRefIdeal.main_arg2) = m ((c.tc : Thread Cert.AdamPwinRefIdeal.nD Cert.AdamPwinRefIdeal.τ).loc Cert.AdamPwinRefIdeal.main_arg2)
      ∧ r.2.mem ((c.tc : Thread Cert.AdamPwinRefIdeal.nD Cert.AdamPwinRefIdeal.τ).loc Cert.AdamPwinRefIdeal.main_arg3) = m ((c.tc : Thread Cert.AdamPwinRefIdeal.nD Cert.AdamPwinRefIdeal.τ).loc Cert.AdamPwinRefIdeal.main_arg3))
      ∧ r.2.sem = fun _ => 0)

def quiescent_AdamPwout [hAdamPwout : Cert.AdamPwout.Facts] : Prop :=
  ∀ (m : (ℓ : Loc Cert.AdamPwout.nD Cert.AdamPwout.τ Cert.AdamPwout.sig) → Buf (Elt Bits) ℓ) (g : Dev Cert.AdamPwout.nD → PrngReg), Pre_AdamPwout m →
    θ_run (Cert.AdamPwout.defs (F := Bits)) (onTc (τ := Cert.AdamPwout.τ) (Cert.AdamPwout.main (F := Bits))) ⟨m, fun _ => 0, g⟩ (fun r => (∀ c : Dev Cert.AdamPwout.nD,
      r.2.mem ((c.tc : Thread Cert.AdamPwout.nD Cert.AdamPwout.τ).loc Cert.AdamPwout.main_arg0) = m ((c.tc : Thread Cert.AdamPwout.nD Cert.AdamPwout.τ).loc Cert.AdamPwout.main_arg0)
      ∧ r.2.mem ((c.tc : Thread Cert.AdamPwout.nD Cert.AdamPwout.τ).loc Cert.AdamPwout.main_arg1) = m ((c.tc : Thread Cert.AdamPwout.nD Cert.AdamPwout.τ).loc Cert.AdamPwout.main_arg1)
      ∧ r.2.mem ((c.tc : Thread Cert.AdamPwout.nD Cert.AdamPwout.τ).loc Cert.AdamPwout.main_arg2) = m ((c.tc : Thread Cert.AdamPwout.nD Cert.AdamPwout.τ).loc Cert.AdamPwout.main_arg2)
      ∧ r.2.mem ((c.tc : Thread Cert.AdamPwout.nD Cert.AdamPwout.τ).loc Cert.AdamPwout.main_arg3) = m ((c.tc : Thread Cert.AdamPwout.nD Cert.AdamPwout.τ).loc Cert.AdamPwout.main_arg3))
      ∧ r.2.sem = fun _ => 0)

def quiescent_AdamPwoutIdeal [hAdamPwoutIdeal : Cert.AdamPwoutIdeal.Facts] : Prop :=
  ∀ (m : (ℓ : Loc Cert.AdamPwoutIdeal.nD Cert.AdamPwoutIdeal.τ Cert.AdamPwoutIdeal.sig) → Buf (Elt Ideal) ℓ) (g : Dev Cert.AdamPwoutIdeal.nD → PrngReg), Pre_AdamPwoutIdeal m →
    θ_run (Cert.AdamPwoutIdeal.defs (F := Ideal)) (onTc (τ := Cert.AdamPwoutIdeal.τ) (Cert.AdamPwoutIdeal.main (F := Ideal))) ⟨m, fun _ => 0, g⟩ (fun r => (∀ c : Dev Cert.AdamPwoutIdeal.nD,
      r.2.mem ((c.tc : Thread Cert.AdamPwoutIdeal.nD Cert.AdamPwoutIdeal.τ).loc Cert.AdamPwoutIdeal.main_arg0) = m ((c.tc : Thread Cert.AdamPwoutIdeal.nD Cert.AdamPwoutIdeal.τ).loc Cert.AdamPwoutIdeal.main_arg0)
      ∧ r.2.mem ((c.tc : Thread Cert.AdamPwoutIdeal.nD Cert.AdamPwoutIdeal.τ).loc Cert.AdamPwoutIdeal.main_arg1) = m ((c.tc : Thread Cert.AdamPwoutIdeal.nD Cert.AdamPwoutIdeal.τ).loc Cert.AdamPwoutIdeal.main_arg1)
      ∧ r.2.mem ((c.tc : Thread Cert.AdamPwoutIdeal.nD Cert.AdamPwoutIdeal.τ).loc Cert.AdamPwoutIdeal.main_arg2) = m ((c.tc : Thread Cert.AdamPwoutIdeal.nD Cert.AdamPwoutIdeal.τ).loc Cert.AdamPwoutIdeal.main_arg2)
      ∧ r.2.mem ((c.tc : Thread Cert.AdamPwoutIdeal.nD Cert.AdamPwoutIdeal.τ).loc Cert.AdamPwoutIdeal.main_arg3) = m ((c.tc : Thread Cert.AdamPwoutIdeal.nD Cert.AdamPwoutIdeal.τ).loc Cert.AdamPwoutIdeal.main_arg3))
      ∧ r.2.sem = fun _ => 0)

def quiescent_AdamPwoutRefIdeal [hAdamPwoutRefIdeal : Cert.AdamPwoutRefIdeal.Facts] : Prop :=
  ∀ (m : (ℓ : Loc Cert.AdamPwoutRefIdeal.nD Cert.AdamPwoutRefIdeal.τ Cert.AdamPwoutRefIdeal.sig) → Buf (Elt Ideal) ℓ) (g : Dev Cert.AdamPwoutRefIdeal.nD → PrngReg), Pre_AdamPwoutRefIdeal m →
    θ_run (Cert.AdamPwoutRefIdeal.defs (F := Ideal)) (onTc (τ := Cert.AdamPwoutRefIdeal.τ) (Cert.AdamPwoutRefIdeal.main (F := Ideal))) ⟨m, fun _ => 0, g⟩ (fun r => (∀ c : Dev Cert.AdamPwoutRefIdeal.nD,
      r.2.mem ((c.tc : Thread Cert.AdamPwoutRefIdeal.nD Cert.AdamPwoutRefIdeal.τ).loc Cert.AdamPwoutRefIdeal.main_arg0) = m ((c.tc : Thread Cert.AdamPwoutRefIdeal.nD Cert.AdamPwoutRefIdeal.τ).loc Cert.AdamPwoutRefIdeal.main_arg0)
      ∧ r.2.mem ((c.tc : Thread Cert.AdamPwoutRefIdeal.nD Cert.AdamPwoutRefIdeal.τ).loc Cert.AdamPwoutRefIdeal.main_arg1) = m ((c.tc : Thread Cert.AdamPwoutRefIdeal.nD Cert.AdamPwoutRefIdeal.τ).loc Cert.AdamPwoutRefIdeal.main_arg1)
      ∧ r.2.mem ((c.tc : Thread Cert.AdamPwoutRefIdeal.nD Cert.AdamPwoutRefIdeal.τ).loc Cert.AdamPwoutRefIdeal.main_arg2) = m ((c.tc : Thread Cert.AdamPwoutRefIdeal.nD Cert.AdamPwoutRefIdeal.τ).loc Cert.AdamPwoutRefIdeal.main_arg2)
      ∧ r.2.mem ((c.tc : Thread Cert.AdamPwoutRefIdeal.nD Cert.AdamPwoutRefIdeal.τ).loc Cert.AdamPwoutRefIdeal.main_arg3) = m ((c.tc : Thread Cert.AdamPwoutRefIdeal.nD Cert.AdamPwoutRefIdeal.τ).loc Cert.AdamPwoutRefIdeal.main_arg3))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3))
      ∧ r.2.sem = fun _ => 0)

def quiescent_AdamFin [hAdamFin : Cert.AdamFin.Facts] : Prop :=
  ∀ (m : (ℓ : Loc Cert.AdamFin.nD Cert.AdamFin.τ Cert.AdamFin.sig) → Buf (Elt Bits) ℓ) (g : Dev Cert.AdamFin.nD → PrngReg), Pre_AdamFin m →
    θ_run (Cert.AdamFin.defs (F := Bits)) (onTc (τ := Cert.AdamFin.τ) (Cert.AdamFin.main (F := Bits))) ⟨m, fun _ => 0, g⟩ (fun r => (∀ c : Dev Cert.AdamFin.nD,
      r.2.mem ((c.tc : Thread Cert.AdamFin.nD Cert.AdamFin.τ).loc Cert.AdamFin.main_arg0) = m ((c.tc : Thread Cert.AdamFin.nD Cert.AdamFin.τ).loc Cert.AdamFin.main_arg0)
      ∧ r.2.mem ((c.tc : Thread Cert.AdamFin.nD Cert.AdamFin.τ).loc Cert.AdamFin.main_arg1) = m ((c.tc : Thread Cert.AdamFin.nD Cert.AdamFin.τ).loc Cert.AdamFin.main_arg1)
      ∧ r.2.mem ((c.tc : Thread Cert.AdamFin.nD Cert.AdamFin.τ).loc Cert.AdamFin.main_arg2) = m ((c.tc : Thread Cert.AdamFin.nD Cert.AdamFin.τ).loc Cert.AdamFin.main_arg2)
      ∧ r.2.mem ((c.tc : Thread Cert.AdamFin.nD Cert.AdamFin.τ).loc Cert.AdamFin.main_arg3) = m ((c.tc : Thread Cert.AdamFin.nD Cert.AdamFin.τ).loc Cert.AdamFin.main_arg3)
      ∧ r.2.mem ((c.tc : Thread Cert.AdamFin.nD Cert.AdamFin.τ).loc Cert.AdamFin.main_arg4) = m ((c.tc : Thread Cert.AdamFin.nD Cert.AdamFin.τ).loc Cert.AdamFin.main_arg4))
      ∧ r.2.sem = fun _ => 0)

def quiescent_AdamFinIdeal [hAdamFinIdeal : Cert.AdamFinIdeal.Facts] : Prop :=
  ∀ (m : (ℓ : Loc Cert.AdamFinIdeal.nD Cert.AdamFinIdeal.τ Cert.AdamFinIdeal.sig) → Buf (Elt Ideal) ℓ) (g : Dev Cert.AdamFinIdeal.nD → PrngReg), Pre_AdamFinIdeal m →
    θ_run (Cert.AdamFinIdeal.defs (F := Ideal)) (onTc (τ := Cert.AdamFinIdeal.τ) (Cert.AdamFinIdeal.main (F := Ideal))) ⟨m, fun _ => 0, g⟩ (fun r => (∀ c : Dev Cert.AdamFinIdeal.nD,
      r.2.mem ((c.tc : Thread Cert.AdamFinIdeal.nD Cert.AdamFinIdeal.τ).loc Cert.AdamFinIdeal.main_arg0) = m ((c.tc : Thread Cert.AdamFinIdeal.nD Cert.AdamFinIdeal.τ).loc Cert.AdamFinIdeal.main_arg0)
      ∧ r.2.mem ((c.tc : Thread Cert.AdamFinIdeal.nD Cert.AdamFinIdeal.τ).loc Cert.AdamFinIdeal.main_arg1) = m ((c.tc : Thread Cert.AdamFinIdeal.nD Cert.AdamFinIdeal.τ).loc Cert.AdamFinIdeal.main_arg1)
      ∧ r.2.mem ((c.tc : Thread Cert.AdamFinIdeal.nD Cert.AdamFinIdeal.τ).loc Cert.AdamFinIdeal.main_arg2) = m ((c.tc : Thread Cert.AdamFinIdeal.nD Cert.AdamFinIdeal.τ).loc Cert.AdamFinIdeal.main_arg2)
      ∧ r.2.mem ((c.tc : Thread Cert.AdamFinIdeal.nD Cert.AdamFinIdeal.τ).loc Cert.AdamFinIdeal.main_arg3) = m ((c.tc : Thread Cert.AdamFinIdeal.nD Cert.AdamFinIdeal.τ).loc Cert.AdamFinIdeal.main_arg3)
      ∧ r.2.mem ((c.tc : Thread Cert.AdamFinIdeal.nD Cert.AdamFinIdeal.τ).loc Cert.AdamFinIdeal.main_arg4) = m ((c.tc : Thread Cert.AdamFinIdeal.nD Cert.AdamFinIdeal.τ).loc Cert.AdamFinIdeal.main_arg4))
      ∧ r.2.sem = fun _ => 0)

def quiescent_AdamFinRefIdeal [hAdamFinRefIdeal : Cert.AdamFinRefIdeal.Facts] : Prop :=
  ∀ (m : (ℓ : Loc Cert.AdamFinRefIdeal.nD Cert.AdamFinRefIdeal.τ Cert.AdamFinRefIdeal.sig) → Buf (Elt Ideal) ℓ) (g : Dev Cert.AdamFinRefIdeal.nD → PrngReg), Pre_AdamFinRefIdeal m →
    θ_run (Cert.AdamFinRefIdeal.defs (F := Ideal)) (onTc (τ := Cert.AdamFinRefIdeal.τ) (Cert.AdamFinRefIdeal.main (F := Ideal))) ⟨m, fun _ => 0, g⟩ (fun r => (∀ c : Dev Cert.AdamFinRefIdeal.nD,
      r.2.mem ((c.tc : Thread Cert.AdamFinRefIdeal.nD Cert.AdamFinRefIdeal.τ).loc Cert.AdamFinRefIdeal.main_arg0) = m ((c.tc : Thread Cert.AdamFinRefIdeal.nD Cert.AdamFinRefIdeal.τ).loc Cert.AdamFinRefIdeal.main_arg0)
      ∧ r.2.mem ((c.tc : Thread Cert.AdamFinRefIdeal.nD Cert.AdamFinRefIdeal.τ).loc Cert.AdamFinRefIdeal.main_arg1) = m ((c.tc : Thread Cert.AdamFinRefIdeal.nD Cert.AdamFinRefIdeal.τ).loc Cert.AdamFinRefIdeal.main_arg1)
      ∧ r.2.mem ((c.tc : Thread Cert.AdamFinRefIdeal.nD Cert.AdamFinRefIdeal.τ).loc Cert.AdamFinRefIdeal.main_arg2) = m ((c.tc : Thread Cert.AdamFinRefIdeal.nD Cert.AdamFinRefIdeal.τ).loc Cert.AdamFinRefIdeal.main_arg2)
      ∧ r.2.mem ((c.tc : Thread Cert.AdamFinRefIdeal.nD Cert.AdamFinRefIdeal.τ).loc Cert.AdamFinRefIdeal.main_arg3) = m ((c.tc : Thread Cert.AdamFinRefIdeal.nD Cert.AdamFinRefIdeal.τ).loc Cert.AdamFinRefIdeal.main_arg3)
      ∧ r.2.mem ((c.tc : Thread Cert.AdamFinRefIdeal.nD Cert.AdamFinRefIdeal.τ).loc Cert.AdamFinRefIdeal.main_arg4) = m ((c.tc : Thread Cert.AdamFinRefIdeal.nD Cert.AdamFinRefIdeal.τ).loc Cert.AdamFinRefIdeal.main_arg4))
      ∧ r.2.sem = fun _ => 0)

def quiescent_AdamFout [hAdamFout : Cert.AdamFout.Facts] : Prop :=
  ∀ (m : (ℓ : Loc Cert.AdamFout.nD Cert.AdamFout.τ Cert.AdamFout.sig) → Buf (Elt Bits) ℓ) (g : Dev Cert.AdamFout.nD → PrngReg), Pre_AdamFout m →
    θ_run (Cert.AdamFout.defs (F := Bits)) (onTc (τ := Cert.AdamFout.τ) (Cert.AdamFout.main (F := Bits))) ⟨m, fun _ => 0, g⟩ (fun r => (∀ c : Dev Cert.AdamFout.nD,
      r.2.mem ((c.tc : Thread Cert.AdamFout.nD Cert.AdamFout.τ).loc Cert.AdamFout.main_arg0) = m ((c.tc : Thread Cert.AdamFout.nD Cert.AdamFout.τ).loc Cert.AdamFout.main_arg0)
      ∧ r.2.mem ((c.tc : Thread Cert.AdamFout.nD Cert.AdamFout.τ).loc Cert.AdamFout.main_arg1) = m ((c.tc : Thread Cert.AdamFout.nD Cert.AdamFout.τ).loc Cert.AdamFout.main_arg1)
      ∧ r.2.mem ((c.tc : Thread Cert.AdamFout.nD Cert.AdamFout.τ).loc Cert.AdamFout.main_arg2) = m ((c.tc : Thread Cert.AdamFout.nD Cert.AdamFout.τ).loc Cert.AdamFout.main_arg2)
      ∧ r.2.mem ((c.tc : Thread Cert.AdamFout.nD Cert.AdamFout.τ).loc Cert.AdamFout.main_arg3) = m ((c.tc : Thread Cert.AdamFout.nD Cert.AdamFout.τ).loc Cert.AdamFout.main_arg3)
      ∧ r.2.mem ((c.tc : Thread Cert.AdamFout.nD Cert.AdamFout.τ).loc Cert.AdamFout.main_arg4) = m ((c.tc : Thread Cert.AdamFout.nD Cert.AdamFout.τ).loc Cert.AdamFout.main_arg4))
      ∧ r.2.sem = fun _ => 0)

def quiescent_AdamFoutIdeal [hAdamFoutIdeal : Cert.AdamFoutIdeal.Facts] : Prop :=
  ∀ (m : (ℓ : Loc Cert.AdamFoutIdeal.nD Cert.AdamFoutIdeal.τ Cert.AdamFoutIdeal.sig) → Buf (Elt Ideal) ℓ) (g : Dev Cert.AdamFoutIdeal.nD → PrngReg), Pre_AdamFoutIdeal m →
    θ_run (Cert.AdamFoutIdeal.defs (F := Ideal)) (onTc (τ := Cert.AdamFoutIdeal.τ) (Cert.AdamFoutIdeal.main (F := Ideal))) ⟨m, fun _ => 0, g⟩ (fun r => (∀ c : Dev Cert.AdamFoutIdeal.nD,
      r.2.mem ((c.tc : Thread Cert.AdamFoutIdeal.nD Cert.AdamFoutIdeal.τ).loc Cert.AdamFoutIdeal.main_arg0) = m ((c.tc : Thread Cert.AdamFoutIdeal.nD Cert.AdamFoutIdeal.τ).loc Cert.AdamFoutIdeal.main_arg0)
      ∧ r.2.mem ((c.tc : Thread Cert.AdamFoutIdeal.nD Cert.AdamFoutIdeal.τ).loc Cert.AdamFoutIdeal.main_arg1) = m ((c.tc : Thread Cert.AdamFoutIdeal.nD Cert.AdamFoutIdeal.τ).loc Cert.AdamFoutIdeal.main_arg1)
      ∧ r.2.mem ((c.tc : Thread Cert.AdamFoutIdeal.nD Cert.AdamFoutIdeal.τ).loc Cert.AdamFoutIdeal.main_arg2) = m ((c.tc : Thread Cert.AdamFoutIdeal.nD Cert.AdamFoutIdeal.τ).loc Cert.AdamFoutIdeal.main_arg2)
      ∧ r.2.mem ((c.tc : Thread Cert.AdamFoutIdeal.nD Cert.AdamFoutIdeal.τ).loc Cert.AdamFoutIdeal.main_arg3) = m ((c.tc : Thread Cert.AdamFoutIdeal.nD Cert.AdamFoutIdeal.τ).loc Cert.AdamFoutIdeal.main_arg3)
      ∧ r.2.mem ((c.tc : Thread Cert.AdamFoutIdeal.nD Cert.AdamFoutIdeal.τ).loc Cert.AdamFoutIdeal.main_arg4) = m ((c.tc : Thread Cert.AdamFoutIdeal.nD Cert.AdamFoutIdeal.τ).loc Cert.AdamFoutIdeal.main_arg4))
      ∧ r.2.sem = fun _ => 0)

def quiescent_AdamFoutRefIdeal [hAdamFoutRefIdeal : Cert.AdamFoutRefIdeal.Facts] : Prop :=
  ∀ (m : (ℓ : Loc Cert.AdamFoutRefIdeal.nD Cert.AdamFoutRefIdeal.τ Cert.AdamFoutRefIdeal.sig) → Buf (Elt Ideal) ℓ) (g : Dev Cert.AdamFoutRefIdeal.nD → PrngReg), Pre_AdamFoutRefIdeal m →
    θ_run (Cert.AdamFoutRefIdeal.defs (F := Ideal)) (onTc (τ := Cert.AdamFoutRefIdeal.τ) (Cert.AdamFoutRefIdeal.main (F := Ideal))) ⟨m, fun _ => 0, g⟩ (fun r => (∀ c : Dev Cert.AdamFoutRefIdeal.nD,
      r.2.mem ((c.tc : Thread Cert.AdamFoutRefIdeal.nD Cert.AdamFoutRefIdeal.τ).loc Cert.AdamFoutRefIdeal.main_arg0) = m ((c.tc : Thread Cert.AdamFoutRefIdeal.nD Cert.AdamFoutRefIdeal.τ).loc Cert.AdamFoutRefIdeal.main_arg0)
      ∧ r.2.mem ((c.tc : Thread Cert.AdamFoutRefIdeal.nD Cert.AdamFoutRefIdeal.τ).loc Cert.AdamFoutRefIdeal.main_arg1) = m ((c.tc : Thread Cert.AdamFoutRefIdeal.nD Cert.AdamFoutRefIdeal.τ).loc Cert.AdamFoutRefIdeal.main_arg1)
      ∧ r.2.mem ((c.tc : Thread Cert.AdamFoutRefIdeal.nD Cert.AdamFoutRefIdeal.τ).loc Cert.AdamFoutRefIdeal.main_arg2) = m ((c.tc : Thread Cert.AdamFoutRefIdeal.nD Cert.AdamFoutRefIdeal.τ).loc Cert.AdamFoutRefIdeal.main_arg2)
      ∧ r.2.mem ((c.tc : Thread Cert.AdamFoutRefIdeal.nD Cert.AdamFoutRefIdeal.τ).loc Cert.AdamFoutRefIdeal.main_arg3) = m ((c.tc : Thread Cert.AdamFoutRefIdeal.nD Cert.AdamFoutRefIdeal.τ).loc Cert.AdamFoutRefIdeal.main_arg3)
      ∧ r.2.mem ((c.tc : Thread Cert.AdamFoutRefIdeal.nD Cert.AdamFoutRefIdeal.τ).loc Cert.AdamFoutRefIdeal.main_arg4) = m ((c.tc : Thread Cert.AdamFoutRefIdeal.nD Cert.AdamFoutRefIdeal.τ).loc Cert.AdamFoutRefIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v14)) (v3 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_v15) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v507) = v0 c
          ∧ r.2.mem ((c.tc : Thread Cert.ReferenceIdeal.nD Cert.ReferenceIdeal.τ).loc Cert.ReferenceIdeal.main_v508) = v1 c
          ∧ r.2.mem ((c.tc : Thread Cert.ReferenceIdeal.nD Cert.ReferenceIdeal.τ).loc Cert.ReferenceIdeal.main_v496) = v2 c
          ∧ r.2.mem ((c.tc : Thread Cert.ReferenceIdeal.nD Cert.ReferenceIdeal.τ).loc Cert.ReferenceIdeal.main_v509) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Dhid_DhidIdeal : Prop :=
  True

def algebraic_DhidIdeal_DhidRefIdeal [hDhidIdeal : Cert.DhidIdeal.Facts] [hDhidRefIdeal : Cert.DhidRefIdeal.Facts] : Prop :=
  ∀ (m : (ℓ : Loc Cert.DhidIdeal.nD Cert.DhidIdeal.τ Cert.DhidIdeal.sig) → Buf (Elt Ideal) ℓ) (g : Dev Cert.DhidIdeal.nD → PrngReg)
    (m' : (ℓ : Loc Cert.DhidRefIdeal.nD Cert.DhidRefIdeal.τ Cert.DhidRefIdeal.sig) → Buf (Elt Ideal) ℓ) (g' : Dev Cert.DhidRefIdeal.nD → PrngReg), Pre_DhidIdeal m →
    (∀ c : Dev Cert.DhidIdeal.nD,
      m' ((c.tc : Thread Cert.DhidRefIdeal.nD Cert.DhidRefIdeal.τ).loc Cert.DhidRefIdeal.main_arg0) = m ((c.tc : Thread Cert.DhidIdeal.nD Cert.DhidIdeal.τ).loc Cert.DhidIdeal.main_arg0)
      ∧ m' ((c.tc : Thread Cert.DhidRefIdeal.nD Cert.DhidRefIdeal.τ).loc Cert.DhidRefIdeal.main_arg1) = m ((c.tc : Thread Cert.DhidIdeal.nD Cert.DhidIdeal.τ).loc Cert.DhidIdeal.main_arg1)) →
    ∃ (v0 : (c : Dev Cert.DhidIdeal.nD) → Buf (Elt Ideal) ((c.tc : Thread Cert.DhidIdeal.nD Cert.DhidIdeal.τ).loc Cert.DhidIdeal.main_v0)),
      θ_run (Cert.DhidIdeal.defs (F := Ideal)) (onTc (τ := Cert.DhidIdeal.τ) (Cert.DhidIdeal.main (F := Ideal))) ⟨m, fun _ => 0, g⟩ (fun r => ∀ c : Dev Cert.DhidIdeal.nD,
          r.2.mem ((c.tc : Thread Cert.DhidIdeal.nD Cert.DhidIdeal.τ).loc Cert.DhidIdeal.main_v0) = v0 c
          ∧ r.2.mem ((c.tc : Thread Cert.DhidIdeal.nD Cert.DhidIdeal.τ).loc Cert.DhidIdeal.main_arg0) = m ((c.tc : Thread Cert.DhidIdeal.nD Cert.DhidIdeal.τ).loc Cert.DhidIdeal.main_arg0)
          ∧ r.2.mem ((c.tc : Thread Cert.DhidIdeal.nD Cert.DhidIdeal.τ).loc Cert.DhidIdeal.main_arg1) = m ((c.tc : Thread Cert.DhidIdeal.nD Cert.DhidIdeal.τ).loc Cert.DhidIdeal.main_arg1))
      ∧ θ_run (Cert.DhidRefIdeal.defs (F := Ideal)) (onTc (τ := Cert.DhidRefIdeal.τ) (Cert.DhidRefIdeal.main (F := Ideal))) ⟨m', fun _ => 0, g'⟩ (fun r => ∀ c : Dev Cert.DhidRefIdeal.nD,
          r.2.mem ((c.tc : Thread Cert.DhidRefIdeal.nD Cert.DhidRefIdeal.τ).loc Cert.DhidRefIdeal.main_v5) = v0 c
          ∧ r.2.mem ((c.tc : Thread Cert.DhidRefIdeal.nD Cert.DhidRefIdeal.τ).loc Cert.DhidRefIdeal.main_arg0) = m' ((c.tc : Thread Cert.DhidRefIdeal.nD Cert.DhidRefIdeal.τ).loc Cert.DhidRefIdeal.main_arg0)
          ∧ r.2.mem ((c.tc : Thread Cert.DhidRefIdeal.nD Cert.DhidRefIdeal.τ).loc Cert.DhidRefIdeal.main_arg1) = m' ((c.tc : Thread Cert.DhidRefIdeal.nD Cert.DhidRefIdeal.τ).loc Cert.DhidRefIdeal.main_arg1))

def preserves_Dwout_DwoutIdeal : Prop :=
  True

def algebraic_DwoutIdeal_DwoutRefIdeal [hDwoutIdeal : Cert.DwoutIdeal.Facts] [hDwoutRefIdeal : Cert.DwoutRefIdeal.Facts] : Prop :=
  ∀ (m : (ℓ : Loc Cert.DwoutIdeal.nD Cert.DwoutIdeal.τ Cert.DwoutIdeal.sig) → Buf (Elt Ideal) ℓ) (g : Dev Cert.DwoutIdeal.nD → PrngReg)
    (m' : (ℓ : Loc Cert.DwoutRefIdeal.nD Cert.DwoutRefIdeal.τ Cert.DwoutRefIdeal.sig) → Buf (Elt Ideal) ℓ) (g' : Dev Cert.DwoutRefIdeal.nD → PrngReg), Pre_DwoutIdeal m →
    (∀ c : Dev Cert.DwoutIdeal.nD,
      m' ((c.tc : Thread Cert.DwoutRefIdeal.nD Cert.DwoutRefIdeal.τ).loc Cert.DwoutRefIdeal.main_arg0) = m ((c.tc : Thread Cert.DwoutIdeal.nD Cert.DwoutIdeal.τ).loc Cert.DwoutIdeal.main_arg0)
      ∧ m' ((c.tc : Thread Cert.DwoutRefIdeal.nD Cert.DwoutRefIdeal.τ).loc Cert.DwoutRefIdeal.main_arg1) = m ((c.tc : Thread Cert.DwoutIdeal.nD Cert.DwoutIdeal.τ).loc Cert.DwoutIdeal.main_arg1)) →
    ∃ (v0 : (c : Dev Cert.DwoutIdeal.nD) → Buf (Elt Ideal) ((c.tc : Thread Cert.DwoutIdeal.nD Cert.DwoutIdeal.τ).loc Cert.DwoutIdeal.main_v0)),
      θ_run (Cert.DwoutIdeal.defs (F := Ideal)) (onTc (τ := Cert.DwoutIdeal.τ) (Cert.DwoutIdeal.main (F := Ideal))) ⟨m, fun _ => 0, g⟩ (fun r => ∀ c : Dev Cert.DwoutIdeal.nD,
          r.2.mem ((c.tc : Thread Cert.DwoutIdeal.nD Cert.DwoutIdeal.τ).loc Cert.DwoutIdeal.main_v0) = v0 c
          ∧ r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
          ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ θ_run (Cert.DwoutRefIdeal.defs (F := Ideal)) (onTc (τ := Cert.DwoutRefIdeal.τ) (Cert.DwoutRefIdeal.main (F := Ideal))) ⟨m', fun _ => 0, g'⟩ (fun r => ∀ c : Dev Cert.DwoutRefIdeal.nD,
          r.2.mem ((c.tc : Thread Cert.DwoutRefIdeal.nD Cert.DwoutRefIdeal.τ).loc Cert.DwoutRefIdeal.main_v6) = v0 c
          ∧ r.2.mem ((c.tc : Thread Cert.DwoutRefIdeal.nD Cert.DwoutRefIdeal.τ).loc Cert.DwoutRefIdeal.main_arg0) = m' ((c.tc : Thread Cert.DwoutRefIdeal.nD Cert.DwoutRefIdeal.τ).loc Cert.DwoutRefIdeal.main_arg0)
          ∧ r.2.mem ((c.tc : Thread Cert.DwoutRefIdeal.nD Cert.DwoutRefIdeal.τ).loc Cert.DwoutRefIdeal.main_arg1) = m' ((c.tc : Thread Cert.DwoutRefIdeal.nD Cert.DwoutRefIdeal.τ).loc Cert.DwoutRefIdeal.main_arg1))

def preserves_Dact_DactIdeal : Prop :=
  True

def algebraic_DactIdeal_DactRefIdeal_pre_gate_finite [hDactIdeal : Cert.DactIdeal.Facts] [hDactRefIdeal : Cert.DactRefIdeal.Facts] [hPre_gate_finite : Cert.Pre_gate_finite.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal_gate_finite m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)) →
    ∃ (v0 : (c : Dev Cert.DactIdeal.nD) → Buf (Elt Ideal) ((c.tc : Thread Cert.DactIdeal.nD Cert.DactIdeal.τ).loc Cert.DactIdeal.main_v0)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v0) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v12) = v0 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1))

def preserves_Dwin_DwinIdeal : Prop :=
  True

def algebraic_DwinIdeal_DwinRefIdeal [hDwinIdeal : Cert.DwinIdeal.Facts] [hDwinRefIdeal : Cert.DwinRefIdeal.Facts] : Prop :=
  ∀ (m : (ℓ : Loc Cert.DwinIdeal.nD Cert.DwinIdeal.τ Cert.DwinIdeal.sig) → Buf (Elt Ideal) ℓ) (g : Dev Cert.DwinIdeal.nD → PrngReg)
    (m' : (ℓ : Loc Cert.DwinRefIdeal.nD Cert.DwinRefIdeal.τ Cert.DwinRefIdeal.sig) → Buf (Elt Ideal) ℓ) (g' : Dev Cert.DwinRefIdeal.nD → PrngReg), Pre_DwinIdeal m →
    (∀ c : Dev Cert.DwinIdeal.nD,
      m' ((c.tc : Thread Cert.DwinRefIdeal.nD Cert.DwinRefIdeal.τ).loc Cert.DwinRefIdeal.main_arg0) = m ((c.tc : Thread Cert.DwinIdeal.nD Cert.DwinIdeal.τ).loc Cert.DwinIdeal.main_arg0)
      ∧ m' ((c.tc : Thread Cert.DwinRefIdeal.nD Cert.DwinRefIdeal.τ).loc Cert.DwinRefIdeal.main_arg1) = m ((c.tc : Thread Cert.DwinIdeal.nD Cert.DwinIdeal.τ).loc Cert.DwinIdeal.main_arg1)) →
    ∃ (v0 : (c : Dev Cert.DwinIdeal.nD) → Buf (Elt Ideal) ((c.tc : Thread Cert.DwinIdeal.nD Cert.DwinIdeal.τ).loc Cert.DwinIdeal.main_v0)),
      θ_run (Cert.DwinIdeal.defs (F := Ideal)) (onTc (τ := Cert.DwinIdeal.τ) (Cert.DwinIdeal.main (F := Ideal))) ⟨m, fun _ => 0, g⟩ (fun r => ∀ c : Dev Cert.DwinIdeal.nD,
          r.2.mem ((c.tc : Thread Cert.DwinIdeal.nD Cert.DwinIdeal.τ).loc Cert.DwinIdeal.main_v0) = v0 c
          ∧ r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
          ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ θ_run (Cert.DwinRefIdeal.defs (F := Ideal)) (onTc (τ := Cert.DwinRefIdeal.τ) (Cert.DwinRefIdeal.main (F := Ideal))) ⟨m', fun _ => 0, g'⟩ (fun r => ∀ c : Dev Cert.DwinRefIdeal.nD,
          r.2.mem ((c.tc : Thread Cert.DwinRefIdeal.nD Cert.DwinRefIdeal.τ).loc Cert.DwinRefIdeal.main_v6) = v0 c
          ∧ r.2.mem ((c.tc : Thread Cert.DwinRefIdeal.nD Cert.DwinRefIdeal.τ).loc Cert.DwinRefIdeal.main_arg0) = m' ((c.tc : Thread Cert.DwinRefIdeal.nD Cert.DwinRefIdeal.τ).loc Cert.DwinRefIdeal.main_arg0)
          ∧ r.2.mem ((c.tc : Thread Cert.DwinRefIdeal.nD Cert.DwinRefIdeal.τ).loc Cert.DwinRefIdeal.main_arg1) = m' ((c.tc : Thread Cert.DwinRefIdeal.nD Cert.DwinRefIdeal.τ).loc Cert.DwinRefIdeal.main_arg1))

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)) →
    ∃ (v0 : (c : Dev Cert.DxIdeal.nD) → Buf (Elt Ideal) ((c.tc : Thread Cert.DxIdeal.nD Cert.DxIdeal.τ).loc Cert.DxIdeal.main_v0)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v0) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v4) = v0 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1))

def preserves_Uin_UinIdeal : Prop :=
  True

def algebraic_UinIdeal_UinRefIdeal [hUinIdeal : Cert.UinIdeal.Facts] [hUinRefIdeal : Cert.UinRefIdeal.Facts] : Prop :=
  ∀ (m : (ℓ : Loc Cert.UinIdeal.nD Cert.UinIdeal.τ Cert.UinIdeal.sig) → Buf (Elt Ideal) ℓ) (g : Dev Cert.UinIdeal.nD → PrngReg)
    (m' : (ℓ : Loc Cert.UinRefIdeal.nD Cert.UinRefIdeal.τ Cert.UinRefIdeal.sig) → Buf (Elt Ideal) ℓ) (g' : Dev Cert.UinRefIdeal.nD → PrngReg), Pre_UinIdeal m →
    (∀ c : Dev Cert.UinIdeal.nD,
      m' ((c.tc : Thread Cert.UinRefIdeal.nD Cert.UinRefIdeal.τ).loc Cert.UinRefIdeal.main_arg0) = m ((c.tc : Thread Cert.UinIdeal.nD Cert.UinIdeal.τ).loc Cert.UinIdeal.main_arg0)
      ∧ m' ((c.tc : Thread Cert.UinRefIdeal.nD Cert.UinRefIdeal.τ).loc Cert.UinRefIdeal.main_arg1) = m ((c.tc : Thread Cert.UinIdeal.nD Cert.UinIdeal.τ).loc Cert.UinIdeal.main_arg1)) →
    ∃ (v0 : (c : Dev Cert.UinIdeal.nD) → Buf (Elt Ideal) ((c.tc : Thread Cert.UinIdeal.nD Cert.UinIdeal.τ).loc Cert.UinIdeal.main_v0)),
      θ_run (Cert.UinIdeal.defs (F := Ideal)) (onTc (τ := Cert.UinIdeal.τ) (Cert.UinIdeal.main (F := Ideal))) ⟨m, fun _ => 0, g⟩ (fun r => ∀ c : Dev Cert.UinIdeal.nD,
          r.2.mem ((c.tc : Thread Cert.UinIdeal.nD Cert.UinIdeal.τ).loc Cert.UinIdeal.main_v0) = v0 c
          ∧ r.2.mem ((c.tc : Thread Cert.UinIdeal.nD Cert.UinIdeal.τ).loc Cert.UinIdeal.main_arg0) = m ((c.tc : Thread Cert.UinIdeal.nD Cert.UinIdeal.τ).loc Cert.UinIdeal.main_arg0)
          ∧ r.2.mem ((c.tc : Thread Cert.UinIdeal.nD Cert.UinIdeal.τ).loc Cert.UinIdeal.main_arg1) = m ((c.tc : Thread Cert.UinIdeal.nD Cert.UinIdeal.τ).loc Cert.UinIdeal.main_arg1))
      ∧ θ_run (Cert.UinRefIdeal.defs (F := Ideal)) (onTc (τ := Cert.UinRefIdeal.τ) (Cert.UinRefIdeal.main (F := Ideal))) ⟨m', fun _ => 0, g'⟩ (fun r => ∀ c : Dev Cert.UinRefIdeal.nD,
          r.2.mem ((c.tc : Thread Cert.UinRefIdeal.nD Cert.UinRefIdeal.τ).loc Cert.UinRefIdeal.main_v3) = v0 c
          ∧ r.2.mem ((c.tc : Thread Cert.UinRefIdeal.nD Cert.UinRefIdeal.τ).loc Cert.UinRefIdeal.main_arg0) = m' ((c.tc : Thread Cert.UinRefIdeal.nD Cert.UinRefIdeal.τ).loc Cert.UinRefIdeal.main_arg0)
          ∧ r.2.mem ((c.tc : Thread Cert.UinRefIdeal.nD Cert.UinRefIdeal.τ).loc Cert.UinRefIdeal.main_arg1) = m' ((c.tc : Thread Cert.UinRefIdeal.nD Cert.UinRefIdeal.τ).loc Cert.UinRefIdeal.main_arg1))

def preserves_Act_ActIdeal : Prop :=
  True

def algebraic_ActIdeal_ActRefIdeal [hActIdeal : Cert.ActIdeal.Facts] [hActRefIdeal : Cert.ActRefIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)) →
    ∃ (v0 : (c : Dev Cert.ActIdeal.nD) → Buf (Elt Ideal) ((c.tc : Thread Cert.ActIdeal.nD Cert.ActIdeal.τ).loc Cert.ActIdeal.main_v0)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v0) = v0 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v5) = v0 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0))

def preserves_Fout_FoutIdeal : Prop :=
  True

def algebraic_FoutIdeal_FoutRefIdeal [hFoutIdeal : Cert.FoutIdeal.Facts] [hFoutRefIdeal : Cert.FoutRefIdeal.Facts] : Prop :=
  ∀ (m : (ℓ : Loc Cert.FoutIdeal.nD Cert.FoutIdeal.τ Cert.FoutIdeal.sig) → Buf (Elt Ideal) ℓ) (g : Dev Cert.FoutIdeal.nD → PrngReg)
    (m' : (ℓ : Loc Cert.FoutRefIdeal.nD Cert.FoutRefIdeal.τ Cert.FoutRefIdeal.sig) → Buf (Elt Ideal) ℓ) (g' : Dev Cert.FoutRefIdeal.nD → PrngReg), Pre_FoutIdeal m →
    (∀ c : Dev Cert.FoutIdeal.nD,
      m' ((c.tc : Thread Cert.FoutRefIdeal.nD Cert.FoutRefIdeal.τ).loc Cert.FoutRefIdeal.main_arg0) = m ((c.tc : Thread Cert.FoutIdeal.nD Cert.FoutIdeal.τ).loc Cert.FoutIdeal.main_arg0)
      ∧ m' ((c.tc : Thread Cert.FoutRefIdeal.nD Cert.FoutRefIdeal.τ).loc Cert.FoutRefIdeal.main_arg1) = m ((c.tc : Thread Cert.FoutIdeal.nD Cert.FoutIdeal.τ).loc Cert.FoutIdeal.main_arg1)) →
    ∃ (v0 : (c : Dev Cert.FoutIdeal.nD) → Buf (Elt Ideal) ((c.tc : Thread Cert.FoutIdeal.nD Cert.FoutIdeal.τ).loc Cert.FoutIdeal.main_v0)),
      θ_run (Cert.FoutIdeal.defs (F := Ideal)) (onTc (τ := Cert.FoutIdeal.τ) (Cert.FoutIdeal.main (F := Ideal))) ⟨m, fun _ => 0, g⟩ (fun r => ∀ c : Dev Cert.FoutIdeal.nD,
          r.2.mem ((c.tc : Thread Cert.FoutIdeal.nD Cert.FoutIdeal.τ).loc Cert.FoutIdeal.main_v0) = v0 c
          ∧ r.2.mem ((c.tc : Thread Cert.FoutIdeal.nD Cert.FoutIdeal.τ).loc Cert.FoutIdeal.main_arg0) = m ((c.tc : Thread Cert.FoutIdeal.nD Cert.FoutIdeal.τ).loc Cert.FoutIdeal.main_arg0)
          ∧ r.2.mem ((c.tc : Thread Cert.FoutIdeal.nD Cert.FoutIdeal.τ).loc Cert.FoutIdeal.main_arg1) = m ((c.tc : Thread Cert.FoutIdeal.nD Cert.FoutIdeal.τ).loc Cert.FoutIdeal.main_arg1))
      ∧ θ_run (Cert.FoutRefIdeal.defs (F := Ideal)) (onTc (τ := Cert.FoutRefIdeal.τ) (Cert.FoutRefIdeal.main (F := Ideal))) ⟨m', fun _ => 0, g'⟩ (fun r => ∀ c : Dev Cert.FoutRefIdeal.nD,
          r.2.mem ((c.tc : Thread Cert.FoutRefIdeal.nD Cert.FoutRefIdeal.τ).loc Cert.FoutRefIdeal.main_v2) = v0 c
          ∧ r.2.mem ((c.tc : Thread Cert.FoutRefIdeal.nD Cert.FoutRefIdeal.τ).loc Cert.FoutRefIdeal.main_arg0) = m' ((c.tc : Thread Cert.FoutRefIdeal.nD Cert.FoutRefIdeal.τ).loc Cert.FoutRefIdeal.main_arg0)
          ∧ r.2.mem ((c.tc : Thread Cert.FoutRefIdeal.nD Cert.FoutRefIdeal.τ).loc Cert.FoutRefIdeal.main_arg1) = m' ((c.tc : Thread Cert.FoutRefIdeal.nD Cert.FoutRefIdeal.τ).loc Cert.FoutRefIdeal.main_arg1))

def preserves_Zx_ZxIdeal : Prop :=
  True

def algebraic_ZxIdeal_ZxRefIdeal [hZxIdeal : Cert.ZxIdeal.Facts] [hZxRefIdeal : Cert.ZxRefIdeal.Facts] : Prop :=
  ∀ (m : (ℓ : Loc Cert.ZxIdeal.nD Cert.ZxIdeal.τ Cert.ZxIdeal.sig) → Buf (Elt Ideal) ℓ) (g : Dev Cert.ZxIdeal.nD → PrngReg)
    (m' : (ℓ : Loc Cert.ZxRefIdeal.nD Cert.ZxRefIdeal.τ Cert.ZxRefIdeal.sig) → Buf (Elt Ideal) ℓ) (g' : Dev Cert.ZxRefIdeal.nD → PrngReg), Pre_ZxIdeal m →
    (∀ c : Dev Cert.ZxIdeal.nD,
      m' ((c.tc : Thread Cert.ZxRefIdeal.nD Cert.ZxRefIdeal.τ).loc Cert.ZxRefIdeal.main_arg0) = m ((c.tc : Thread Cert.ZxIdeal.nD Cert.ZxIdeal.τ).loc Cert.ZxIdeal.main_arg0)
      ∧ m' ((c.tc : Thread Cert.ZxRefIdeal.nD Cert.ZxRefIdeal.τ).loc Cert.ZxRefIdeal.main_arg1) = m ((c.tc : Thread Cert.ZxIdeal.nD Cert.ZxIdeal.τ).loc Cert.ZxIdeal.main_arg1)) →
    ∃ (v0 : (c : Dev Cert.ZxIdeal.nD) → Buf (Elt Ideal) ((c.tc : Thread Cert.ZxIdeal.nD Cert.ZxIdeal.τ).loc Cert.ZxIdeal.main_v0)),
      θ_run (Cert.ZxIdeal.defs (F := Ideal)) (onTc (τ := Cert.ZxIdeal.τ) (Cert.ZxIdeal.main (F := Ideal))) ⟨m, fun _ => 0, g⟩ (fun r => ∀ c : Dev Cert.ZxIdeal.nD,
          r.2.mem ((c.tc : Thread Cert.ZxIdeal.nD Cert.ZxIdeal.τ).loc Cert.ZxIdeal.main_v0) = v0 c
          ∧ r.2.mem ((c.tc : Thread Cert.ZxIdeal.nD Cert.ZxIdeal.τ).loc Cert.ZxIdeal.main_arg0) = m ((c.tc : Thread Cert.ZxIdeal.nD Cert.ZxIdeal.τ).loc Cert.ZxIdeal.main_arg0)
          ∧ r.2.mem ((c.tc : Thread Cert.ZxIdeal.nD Cert.ZxIdeal.τ).loc Cert.ZxIdeal.main_arg1) = m ((c.tc : Thread Cert.ZxIdeal.nD Cert.ZxIdeal.τ).loc Cert.ZxIdeal.main_arg1))
      ∧ θ_run (Cert.ZxRefIdeal.defs (F := Ideal)) (onTc (τ := Cert.ZxRefIdeal.τ) (Cert.ZxRefIdeal.main (F := Ideal))) ⟨m', fun _ => 0, g'⟩ (fun r => ∀ c : Dev Cert.ZxRefIdeal.nD,
          r.2.mem ((c.tc : Thread Cert.ZxRefIdeal.nD Cert.ZxRefIdeal.τ).loc Cert.ZxRefIdeal.main_v4) = v0 c
          ∧ r.2.mem ((c.tc : Thread Cert.ZxRefIdeal.nD Cert.ZxRefIdeal.τ).loc Cert.ZxRefIdeal.main_arg0) = m' ((c.tc : Thread Cert.ZxRefIdeal.nD Cert.ZxRefIdeal.τ).loc Cert.ZxRefIdeal.main_arg0)
          ∧ r.2.mem ((c.tc : Thread Cert.ZxRefIdeal.nD Cert.ZxRefIdeal.τ).loc Cert.ZxRefIdeal.main_arg1) = m' ((c.tc : Thread Cert.ZxRefIdeal.nD Cert.ZxRefIdeal.τ).loc Cert.ZxRefIdeal.main_arg1))

def preserves_Dwzx_DwzxIdeal : Prop :=
  True

def algebraic_DwzxIdeal_DwzxRefIdeal [hDwzxIdeal : Cert.DwzxIdeal.Facts] [hDwzxRefIdeal : Cert.DwzxRefIdeal.Facts] : Prop :=
  ∀ (m : (ℓ : Loc Cert.DwzxIdeal.nD Cert.DwzxIdeal.τ Cert.DwzxIdeal.sig) → Buf (Elt Ideal) ℓ) (g : Dev Cert.DwzxIdeal.nD → PrngReg)
    (m' : (ℓ : Loc Cert.DwzxRefIdeal.nD Cert.DwzxRefIdeal.τ Cert.DwzxRefIdeal.sig) → Buf (Elt Ideal) ℓ) (g' : Dev Cert.DwzxRefIdeal.nD → PrngReg), Pre_DwzxIdeal m →
    (∀ c : Dev Cert.DwzxIdeal.nD,
      m' ((c.tc : Thread Cert.DwzxRefIdeal.nD Cert.DwzxRefIdeal.τ).loc Cert.DwzxRefIdeal.main_arg0) = m ((c.tc : Thread Cert.DwzxIdeal.nD Cert.DwzxIdeal.τ).loc Cert.DwzxIdeal.main_arg0)
      ∧ m' ((c.tc : Thread Cert.DwzxRefIdeal.nD Cert.DwzxRefIdeal.τ).loc Cert.DwzxRefIdeal.main_arg1) = m ((c.tc : Thread Cert.DwzxIdeal.nD Cert.DwzxIdeal.τ).loc Cert.DwzxIdeal.main_arg1)) →
    ∃ (v0 : (c : Dev Cert.DwzxIdeal.nD) → Buf (Elt Ideal) ((c.tc : Thread Cert.DwzxIdeal.nD Cert.DwzxIdeal.τ).loc Cert.DwzxIdeal.main_v0)),
      θ_run (Cert.DwzxIdeal.defs (F := Ideal)) (onTc (τ := Cert.DwzxIdeal.τ) (Cert.DwzxIdeal.main (F := Ideal))) ⟨m, fun _ => 0, g⟩ (fun r => ∀ c : Dev Cert.DwzxIdeal.nD,
          r.2.mem ((c.tc : Thread Cert.DwzxIdeal.nD Cert.DwzxIdeal.τ).loc Cert.DwzxIdeal.main_v0) = v0 c
          ∧ r.2.mem ((c.tc : Thread Cert.DwzxIdeal.nD Cert.DwzxIdeal.τ).loc Cert.DwzxIdeal.main_arg0) = m ((c.tc : Thread Cert.DwzxIdeal.nD Cert.DwzxIdeal.τ).loc Cert.DwzxIdeal.main_arg0)
          ∧ r.2.mem ((c.tc : Thread Cert.DwzxIdeal.nD Cert.DwzxIdeal.τ).loc Cert.DwzxIdeal.main_arg1) = m ((c.tc : Thread Cert.DwzxIdeal.nD Cert.DwzxIdeal.τ).loc Cert.DwzxIdeal.main_arg1))
      ∧ θ_run (Cert.DwzxRefIdeal.defs (F := Ideal)) (onTc (τ := Cert.DwzxRefIdeal.τ) (Cert.DwzxRefIdeal.main (F := Ideal))) ⟨m', fun _ => 0, g'⟩ (fun r => ∀ c : Dev Cert.DwzxRefIdeal.nD,
          r.2.mem ((c.tc : Thread Cert.DwzxRefIdeal.nD Cert.DwzxRefIdeal.τ).loc Cert.DwzxRefIdeal.main_v6) = v0 c
          ∧ r.2.mem ((c.tc : Thread Cert.DwzxRefIdeal.nD Cert.DwzxRefIdeal.τ).loc Cert.DwzxRefIdeal.main_arg0) = m' ((c.tc : Thread Cert.DwzxRefIdeal.nD Cert.DwzxRefIdeal.τ).loc Cert.DwzxRefIdeal.main_arg0)
          ∧ r.2.mem ((c.tc : Thread Cert.DwzxRefIdeal.nD Cert.DwzxRefIdeal.τ).loc Cert.DwzxRefIdeal.main_arg1) = m' ((c.tc : Thread Cert.DwzxRefIdeal.nD Cert.DwzxRefIdeal.τ).loc Cert.DwzxRefIdeal.main_arg1))

def preserves_Dzx_DzxIdeal : Prop :=
  True

def algebraic_DzxIdeal_DzxRefIdeal [hDzxIdeal : Cert.DzxIdeal.Facts] [hDzxRefIdeal : Cert.DzxRefIdeal.Facts] : Prop :=
  ∀ (m : (ℓ : Loc Cert.DzxIdeal.nD Cert.DzxIdeal.τ Cert.DzxIdeal.sig) → Buf (Elt Ideal) ℓ) (g : Dev Cert.DzxIdeal.nD → PrngReg)
    (m' : (ℓ : Loc Cert.DzxRefIdeal.nD Cert.DzxRefIdeal.τ Cert.DzxRefIdeal.sig) → Buf (Elt Ideal) ℓ) (g' : Dev Cert.DzxRefIdeal.nD → PrngReg), Pre_DzxIdeal m →
    (∀ c : Dev Cert.DzxIdeal.nD,
      m' ((c.tc : Thread Cert.DzxRefIdeal.nD Cert.DzxRefIdeal.τ).loc Cert.DzxRefIdeal.main_arg0) = m ((c.tc : Thread Cert.DzxIdeal.nD Cert.DzxIdeal.τ).loc Cert.DzxIdeal.main_arg0)
      ∧ m' ((c.tc : Thread Cert.DzxRefIdeal.nD Cert.DzxRefIdeal.τ).loc Cert.DzxRefIdeal.main_arg1) = m ((c.tc : Thread Cert.DzxIdeal.nD Cert.DzxIdeal.τ).loc Cert.DzxIdeal.main_arg1)) →
    ∃ (v0 : (c : Dev Cert.DzxIdeal.nD) → Buf (Elt Ideal) ((c.tc : Thread Cert.DzxIdeal.nD Cert.DzxIdeal.τ).loc Cert.DzxIdeal.main_v0)),
      θ_run (Cert.DzxIdeal.defs (F := Ideal)) (onTc (τ := Cert.DzxIdeal.τ) (Cert.DzxIdeal.main (F := Ideal))) ⟨m, fun _ => 0, g⟩ (fun r => ∀ c : Dev Cert.DzxIdeal.nD,
          r.2.mem ((c.tc : Thread Cert.DzxIdeal.nD Cert.DzxIdeal.τ).loc Cert.DzxIdeal.main_v0) = v0 c
          ∧ r.2.mem ((c.tc : Thread Cert.DzxIdeal.nD Cert.DzxIdeal.τ).loc Cert.DzxIdeal.main_arg0) = m ((c.tc : Thread Cert.DzxIdeal.nD Cert.DzxIdeal.τ).loc Cert.DzxIdeal.main_arg0)
          ∧ r.2.mem ((c.tc : Thread Cert.DzxIdeal.nD Cert.DzxIdeal.τ).loc Cert.DzxIdeal.main_arg1) = m ((c.tc : Thread Cert.DzxIdeal.nD Cert.DzxIdeal.τ).loc Cert.DzxIdeal.main_arg1))
      ∧ θ_run (Cert.DzxRefIdeal.defs (F := Ideal)) (onTc (τ := Cert.DzxRefIdeal.τ) (Cert.DzxRefIdeal.main (F := Ideal))) ⟨m', fun _ => 0, g'⟩ (fun r => ∀ c : Dev Cert.DzxRefIdeal.nD,
          r.2.mem ((c.tc : Thread Cert.DzxRefIdeal.nD Cert.DzxRefIdeal.τ).loc Cert.DzxRefIdeal.main_v5) = v0 c
          ∧ r.2.mem ((c.tc : Thread Cert.DzxRefIdeal.nD Cert.DzxRefIdeal.τ).loc Cert.DzxRefIdeal.main_arg0) = m' ((c.tc : Thread Cert.DzxRefIdeal.nD Cert.DzxRefIdeal.τ).loc Cert.DzxRefIdeal.main_arg0)
          ∧ r.2.mem ((c.tc : Thread Cert.DzxRefIdeal.nD Cert.DzxRefIdeal.τ).loc Cert.DzxRefIdeal.main_arg1) = m' ((c.tc : Thread Cert.DzxRefIdeal.nD Cert.DzxRefIdeal.τ).loc Cert.DzxRefIdeal.main_arg1))

def preserves_Dglu_DgluIdeal : Prop :=
  True

def algebraic_DgluIdeal_DgluRefIdeal [hDgluIdeal : Cert.DgluIdeal.Facts] [hDgluRefIdeal : Cert.DgluRefIdeal.Facts] : Prop :=
  ∀ (m : (ℓ : Loc Cert.DgluIdeal.nD Cert.DgluIdeal.τ Cert.DgluIdeal.sig) → Buf (Elt Ideal) ℓ) (g : Dev Cert.DgluIdeal.nD → PrngReg)
    (m' : (ℓ : Loc Cert.DgluRefIdeal.nD Cert.DgluRefIdeal.τ Cert.DgluRefIdeal.sig) → Buf (Elt Ideal) ℓ) (g' : Dev Cert.DgluRefIdeal.nD → PrngReg), Pre_DgluIdeal m →
    (∀ c : Dev Cert.DgluIdeal.nD,
      m' ((c.tc : Thread Cert.DgluRefIdeal.nD Cert.DgluRefIdeal.τ).loc Cert.DgluRefIdeal.main_arg0) = m ((c.tc : Thread Cert.DgluIdeal.nD Cert.DgluIdeal.τ).loc Cert.DgluIdeal.main_arg0)
      ∧ m' ((c.tc : Thread Cert.DgluRefIdeal.nD Cert.DgluRefIdeal.τ).loc Cert.DgluRefIdeal.main_arg1) = m ((c.tc : Thread Cert.DgluIdeal.nD Cert.DgluIdeal.τ).loc Cert.DgluIdeal.main_arg1)
      ∧ m' ((c.tc : Thread Cert.DgluRefIdeal.nD Cert.DgluRefIdeal.τ).loc Cert.DgluRefIdeal.main_arg2) = m ((c.tc : Thread Cert.DgluIdeal.nD Cert.DgluIdeal.τ).loc Cert.DgluIdeal.main_arg2)) →
    ∃ (v0 : (c : Dev Cert.DgluIdeal.nD) → Buf (Elt Ideal) ((c.tc : Thread Cert.DgluIdeal.nD Cert.DgluIdeal.τ).loc Cert.DgluIdeal.main_v0_0)) (v1 : (c : Dev Cert.DgluIdeal.nD) → Buf (Elt Ideal) ((c.tc : Thread Cert.DgluIdeal.nD Cert.DgluIdeal.τ).loc Cert.DgluIdeal.main_v0_1)),
      θ_run (Cert.DgluIdeal.defs (F := Ideal)) (onTc (τ := Cert.DgluIdeal.τ) (Cert.DgluIdeal.main (F := Ideal))) ⟨m, fun _ => 0, g⟩ (fun r => ∀ c : Dev Cert.DgluIdeal.nD,
          r.2.mem ((c.tc : Thread Cert.DgluIdeal.nD Cert.DgluIdeal.τ).loc Cert.DgluIdeal.main_v0_0) = v0 c
          ∧ r.2.mem ((c.tc : Thread Cert.DgluIdeal.nD Cert.DgluIdeal.τ).loc Cert.DgluIdeal.main_v0_1) = v1 c
          ∧ r.2.mem ((c.tc : Thread Cert.DgluIdeal.nD Cert.DgluIdeal.τ).loc Cert.DgluIdeal.main_arg0) = m ((c.tc : Thread Cert.DgluIdeal.nD Cert.DgluIdeal.τ).loc Cert.DgluIdeal.main_arg0)
          ∧ r.2.mem ((c.tc : Thread Cert.DgluIdeal.nD Cert.DgluIdeal.τ).loc Cert.DgluIdeal.main_arg1) = m ((c.tc : Thread Cert.DgluIdeal.nD Cert.DgluIdeal.τ).loc Cert.DgluIdeal.main_arg1)
          ∧ r.2.mem ((c.tc : Thread Cert.DgluIdeal.nD Cert.DgluIdeal.τ).loc Cert.DgluIdeal.main_arg2) = m ((c.tc : Thread Cert.DgluIdeal.nD Cert.DgluIdeal.τ).loc Cert.DgluIdeal.main_arg2))
      ∧ θ_run (Cert.DgluRefIdeal.defs (F := Ideal)) (onTc (τ := Cert.DgluRefIdeal.τ) (Cert.DgluRefIdeal.main (F := Ideal))) ⟨m', fun _ => 0, g'⟩ (fun r => ∀ c : Dev Cert.DgluRefIdeal.nD,
          r.2.mem ((c.tc : Thread Cert.DgluRefIdeal.nD Cert.DgluRefIdeal.τ).loc Cert.DgluRefIdeal.main_v25) = v0 c
          ∧ r.2.mem ((c.tc : Thread Cert.DgluRefIdeal.nD Cert.DgluRefIdeal.τ).loc Cert.DgluRefIdeal.main_v24) = v1 c
          ∧ r.2.mem ((c.tc : Thread Cert.DgluRefIdeal.nD Cert.DgluRefIdeal.τ).loc Cert.DgluRefIdeal.main_arg0) = m' ((c.tc : Thread Cert.DgluRefIdeal.nD Cert.DgluRefIdeal.τ).loc Cert.DgluRefIdeal.main_arg0)
          ∧ r.2.mem ((c.tc : Thread Cert.DgluRefIdeal.nD Cert.DgluRefIdeal.τ).loc Cert.DgluRefIdeal.main_arg1) = m' ((c.tc : Thread Cert.DgluRefIdeal.nD Cert.DgluRefIdeal.τ).loc Cert.DgluRefIdeal.main_arg1)
          ∧ r.2.mem ((c.tc : Thread Cert.DgluRefIdeal.nD Cert.DgluRefIdeal.τ).loc Cert.DgluRefIdeal.main_arg2) = m' ((c.tc : Thread Cert.DgluRefIdeal.nD Cert.DgluRefIdeal.τ).loc Cert.DgluRefIdeal.main_arg2))

def preserves_Dnorm_DnormIdeal : Prop :=
  True

def algebraic_DnormIdeal_DnormRefIdeal_pre_norm_finite [hDnormIdeal : Cert.DnormIdeal.Facts] [hDnormRefIdeal : Cert.DnormRefIdeal.Facts] [hPre_norm_finite : Cert.Pre_norm_finite.Facts] : Prop :=
  ∀ (m : (ℓ : Loc Cert.DnormIdeal.nD Cert.DnormIdeal.τ Cert.DnormIdeal.sig) → Buf (Elt Ideal) ℓ) (g : Dev Cert.DnormIdeal.nD → PrngReg)
    (m' : (ℓ : Loc Cert.DnormRefIdeal.nD Cert.DnormRefIdeal.τ Cert.DnormRefIdeal.sig) → Buf (Elt Ideal) ℓ) (g' : Dev Cert.DnormRefIdeal.nD → PrngReg), Pre_DnormIdeal_norm_finite m →
    (∀ c : Dev Cert.DnormIdeal.nD,
      m' ((c.tc : Thread Cert.DnormRefIdeal.nD Cert.DnormRefIdeal.τ).loc Cert.DnormRefIdeal.main_arg0) = m ((c.tc : Thread Cert.DnormIdeal.nD Cert.DnormIdeal.τ).loc Cert.DnormIdeal.main_arg0)
      ∧ m' ((c.tc : Thread Cert.DnormRefIdeal.nD Cert.DnormRefIdeal.τ).loc Cert.DnormRefIdeal.main_arg1) = m ((c.tc : Thread Cert.DnormIdeal.nD Cert.DnormIdeal.τ).loc Cert.DnormIdeal.main_arg1)
      ∧ m' ((c.tc : Thread Cert.DnormRefIdeal.nD Cert.DnormRefIdeal.τ).loc Cert.DnormRefIdeal.main_arg2) = m ((c.tc : Thread Cert.DnormIdeal.nD Cert.DnormIdeal.τ).loc Cert.DnormIdeal.main_arg2)
      ∧ m' ((c.tc : Thread Cert.DnormRefIdeal.nD Cert.DnormRefIdeal.τ).loc Cert.DnormRefIdeal.main_arg3) = m ((c.tc : Thread Cert.DnormIdeal.nD Cert.DnormIdeal.τ).loc Cert.DnormIdeal.main_arg3)
      ∧ m' ((c.tc : Thread Cert.DnormRefIdeal.nD Cert.DnormRefIdeal.τ).loc Cert.DnormRefIdeal.main_arg4) = m ((c.tc : Thread Cert.DnormIdeal.nD Cert.DnormIdeal.τ).loc Cert.DnormIdeal.main_arg4)) →
    ∃ (v0 : (c : Dev Cert.DnormIdeal.nD) → Buf (Elt Ideal) ((c.tc : Thread Cert.DnormIdeal.nD Cert.DnormIdeal.τ).loc Cert.DnormIdeal.main_v0_0)) (v1 : (c : Dev Cert.DnormIdeal.nD) → Buf (Elt Ideal) ((c.tc : Thread Cert.DnormIdeal.nD Cert.DnormIdeal.τ).loc Cert.DnormIdeal.main_v0_1)) (v2 : (c : Dev Cert.DnormIdeal.nD) → Buf (Elt Ideal) ((c.tc : Thread Cert.DnormIdeal.nD Cert.DnormIdeal.τ).loc Cert.DnormIdeal.main_v0_2)) (v3 : (c : Dev Cert.DnormIdeal.nD) → Buf (Elt Ideal) ((c.tc : Thread Cert.DnormIdeal.nD Cert.DnormIdeal.τ).loc Cert.DnormIdeal.main_v0_3)),
      θ_run (Cert.DnormIdeal.defs (F := Ideal)) (onTc (τ := Cert.DnormIdeal.τ) (Cert.DnormIdeal.main (F := Ideal))) ⟨m, fun _ => 0, g⟩ (fun r => ∀ c : Dev Cert.DnormIdeal.nD,
          r.2.mem ((c.tc : Thread Cert.DnormIdeal.nD Cert.DnormIdeal.τ).loc Cert.DnormIdeal.main_v0_0) = v0 c
          ∧ r.2.mem ((c.tc : Thread Cert.DnormIdeal.nD Cert.DnormIdeal.τ).loc Cert.DnormIdeal.main_v0_1) = v1 c
          ∧ r.2.mem ((c.tc : Thread Cert.DnormIdeal.nD Cert.DnormIdeal.τ).loc Cert.DnormIdeal.main_v0_2) = v2 c
          ∧ r.2.mem ((c.tc : Thread Cert.DnormIdeal.nD Cert.DnormIdeal.τ).loc Cert.DnormIdeal.main_v0_3) = v3 c
          ∧ r.2.mem ((c.tc : Thread Cert.DnormIdeal.nD Cert.DnormIdeal.τ).loc Cert.DnormIdeal.main_arg0) = m ((c.tc : Thread Cert.DnormIdeal.nD Cert.DnormIdeal.τ).loc Cert.DnormIdeal.main_arg0)
          ∧ r.2.mem ((c.tc : Thread Cert.DnormIdeal.nD Cert.DnormIdeal.τ).loc Cert.DnormIdeal.main_arg1) = m ((c.tc : Thread Cert.DnormIdeal.nD Cert.DnormIdeal.τ).loc Cert.DnormIdeal.main_arg1)
          ∧ r.2.mem ((c.tc : Thread Cert.DnormIdeal.nD Cert.DnormIdeal.τ).loc Cert.DnormIdeal.main_arg2) = m ((c.tc : Thread Cert.DnormIdeal.nD Cert.DnormIdeal.τ).loc Cert.DnormIdeal.main_arg2)
          ∧ r.2.mem ((c.tc : Thread Cert.DnormIdeal.nD Cert.DnormIdeal.τ).loc Cert.DnormIdeal.main_arg3) = m ((c.tc : Thread Cert.DnormIdeal.nD Cert.DnormIdeal.τ).loc Cert.DnormIdeal.main_arg3)
          ∧ r.2.mem ((c.tc : Thread Cert.DnormIdeal.nD Cert.DnormIdeal.τ).loc Cert.DnormIdeal.main_arg4) = m ((c.tc : Thread Cert.DnormIdeal.nD Cert.DnormIdeal.τ).loc Cert.DnormIdeal.main_arg4))
      ∧ θ_run (Cert.DnormRefIdeal.defs (F := Ideal)) (onTc (τ := Cert.DnormRefIdeal.τ) (Cert.DnormRefIdeal.main (F := Ideal))) ⟨m', fun _ => 0, g'⟩ (fun r => ∀ c : Dev Cert.DnormRefIdeal.nD,
          r.2.mem ((c.tc : Thread Cert.DnormRefIdeal.nD Cert.DnormRefIdeal.τ).loc Cert.DnormRefIdeal.main_v61) = v0 c
          ∧ r.2.mem ((c.tc : Thread Cert.DnormRefIdeal.nD Cert.DnormRefIdeal.τ).loc Cert.DnormRefIdeal.main_v62) = v1 c
          ∧ r.2.mem ((c.tc : Thread Cert.DnormRefIdeal.nD Cert.DnormRefIdeal.τ).loc Cert.DnormRefIdeal.main_v34) = v2 c
          ∧ r.2.mem ((c.tc : Thread Cert.DnormRefIdeal.nD Cert.DnormRefIdeal.τ).loc Cert.DnormRefIdeal.main_v31) = v3 c
          ∧ r.2.mem ((c.tc : Thread Cert.DnormRefIdeal.nD Cert.DnormRefIdeal.τ).loc Cert.DnormRefIdeal.main_arg0) = m' ((c.tc : Thread Cert.DnormRefIdeal.nD Cert.DnormRefIdeal.τ).loc Cert.DnormRefIdeal.main_arg0)
          ∧ r.2.mem ((c.tc : Thread Cert.DnormRefIdeal.nD Cert.DnormRefIdeal.τ).loc Cert.DnormRefIdeal.main_arg1) = m' ((c.tc : Thread Cert.DnormRefIdeal.nD Cert.DnormRefIdeal.τ).loc Cert.DnormRefIdeal.main_arg1)
          ∧ r.2.mem ((c.tc : Thread Cert.DnormRefIdeal.nD Cert.DnormRefIdeal.τ).loc Cert.DnormRefIdeal.main_arg2) = m' ((c.tc : Thread Cert.DnormRefIdeal.nD Cert.DnormRefIdeal.τ).loc Cert.DnormRefIdeal.main_arg2)
          ∧ r.2.mem ((c.tc : Thread Cert.DnormRefIdeal.nD Cert.DnormRefIdeal.τ).loc Cert.DnormRefIdeal.main_arg3) = m' ((c.tc : Thread Cert.DnormRefIdeal.nD Cert.DnormRefIdeal.τ).loc Cert.DnormRefIdeal.main_arg3)
          ∧ r.2.mem ((c.tc : Thread Cert.DnormRefIdeal.nD Cert.DnormRefIdeal.τ).loc Cert.DnormRefIdeal.main_arg4) = m' ((c.tc : Thread Cert.DnormRefIdeal.nD Cert.DnormRefIdeal.τ).loc Cert.DnormRefIdeal.main_arg4))

def preserves_Dpwin_DpwinIdeal : Prop :=
  True

def algebraic_DpwinIdeal_DpwinRefIdeal [hDpwinIdeal : Cert.DpwinIdeal.Facts] [hDpwinRefIdeal : Cert.DpwinRefIdeal.Facts] : Prop :=
  ∀ (m : (ℓ : Loc Cert.DpwinIdeal.nD Cert.DpwinIdeal.τ Cert.DpwinIdeal.sig) → Buf (Elt Ideal) ℓ) (g : Dev Cert.DpwinIdeal.nD → PrngReg)
    (m' : (ℓ : Loc Cert.DpwinRefIdeal.nD Cert.DpwinRefIdeal.τ Cert.DpwinRefIdeal.sig) → Buf (Elt Ideal) ℓ) (g' : Dev Cert.DpwinRefIdeal.nD → PrngReg), Pre_DpwinIdeal m →
    (∀ c : Dev Cert.DpwinIdeal.nD,
      m' ((c.tc : Thread Cert.DpwinRefIdeal.nD Cert.DpwinRefIdeal.τ).loc Cert.DpwinRefIdeal.main_arg0) = m ((c.tc : Thread Cert.DpwinIdeal.nD Cert.DpwinIdeal.τ).loc Cert.DpwinIdeal.main_arg0)
      ∧ m' ((c.tc : Thread Cert.DpwinRefIdeal.nD Cert.DpwinRefIdeal.τ).loc Cert.DpwinRefIdeal.main_arg1) = m ((c.tc : Thread Cert.DpwinIdeal.nD Cert.DpwinIdeal.τ).loc Cert.DpwinIdeal.main_arg1)) →
    ∃ (v0 : (c : Dev Cert.DpwinIdeal.nD) → Buf (Elt Ideal) ((c.tc : Thread Cert.DpwinIdeal.nD Cert.DpwinIdeal.τ).loc Cert.DpwinIdeal.main_v0)),
      θ_run (Cert.DpwinIdeal.defs (F := Ideal)) (onTc (τ := Cert.DpwinIdeal.τ) (Cert.DpwinIdeal.main (F := Ideal))) ⟨m, fun _ => 0, g⟩ (fun r => ∀ c : Dev Cert.DpwinIdeal.nD,
          r.2.mem ((c.tc : Thread Cert.DpwinIdeal.nD Cert.DpwinIdeal.τ).loc Cert.DpwinIdeal.main_v0) = v0 c
          ∧ r.2.mem ((c.tc : Thread Cert.DpwinIdeal.nD Cert.DpwinIdeal.τ).loc Cert.DpwinIdeal.main_arg0) = m ((c.tc : Thread Cert.DpwinIdeal.nD Cert.DpwinIdeal.τ).loc Cert.DpwinIdeal.main_arg0)
          ∧ r.2.mem ((c.tc : Thread Cert.DpwinIdeal.nD Cert.DpwinIdeal.τ).loc Cert.DpwinIdeal.main_arg1) = m ((c.tc : Thread Cert.DpwinIdeal.nD Cert.DpwinIdeal.τ).loc Cert.DpwinIdeal.main_arg1))
      ∧ θ_run (Cert.DpwinRefIdeal.defs (F := Ideal)) (onTc (τ := Cert.DpwinRefIdeal.τ) (Cert.DpwinRefIdeal.main (F := Ideal))) ⟨m', fun _ => 0, g'⟩ (fun r => ∀ c : Dev Cert.DpwinRefIdeal.nD,
          r.2.mem ((c.tc : Thread Cert.DpwinRefIdeal.nD Cert.DpwinRefIdeal.τ).loc Cert.DpwinRefIdeal.main_v6) = v0 c
          ∧ r.2.mem ((c.tc : Thread Cert.DpwinRefIdeal.nD Cert.DpwinRefIdeal.τ).loc Cert.DpwinRefIdeal.main_arg0) = m' ((c.tc : Thread Cert.DpwinRefIdeal.nD Cert.DpwinRefIdeal.τ).loc Cert.DpwinRefIdeal.main_arg0)
          ∧ r.2.mem ((c.tc : Thread Cert.DpwinRefIdeal.nD Cert.DpwinRefIdeal.τ).loc Cert.DpwinRefIdeal.main_arg1) = m' ((c.tc : Thread Cert.DpwinRefIdeal.nD Cert.DpwinRefIdeal.τ).loc Cert.DpwinRefIdeal.main_arg1))

def preserves_Dpwout_DpwoutIdeal : Prop :=
  True

def algebraic_DpwoutIdeal_DpwoutRefIdeal [hDpwoutIdeal : Cert.DpwoutIdeal.Facts] [hDpwoutRefIdeal : Cert.DpwoutRefIdeal.Facts] : Prop :=
  ∀ (m : (ℓ : Loc Cert.DpwoutIdeal.nD Cert.DpwoutIdeal.τ Cert.DpwoutIdeal.sig) → Buf (Elt Ideal) ℓ) (g : Dev Cert.DpwoutIdeal.nD → PrngReg)
    (m' : (ℓ : Loc Cert.DpwoutRefIdeal.nD Cert.DpwoutRefIdeal.τ Cert.DpwoutRefIdeal.sig) → Buf (Elt Ideal) ℓ) (g' : Dev Cert.DpwoutRefIdeal.nD → PrngReg), Pre_DpwoutIdeal m →
    (∀ c : Dev Cert.DpwoutIdeal.nD,
      m' ((c.tc : Thread Cert.DpwoutRefIdeal.nD Cert.DpwoutRefIdeal.τ).loc Cert.DpwoutRefIdeal.main_arg0) = m ((c.tc : Thread Cert.DpwoutIdeal.nD Cert.DpwoutIdeal.τ).loc Cert.DpwoutIdeal.main_arg0)
      ∧ m' ((c.tc : Thread Cert.DpwoutRefIdeal.nD Cert.DpwoutRefIdeal.τ).loc Cert.DpwoutRefIdeal.main_arg1) = m ((c.tc : Thread Cert.DpwoutIdeal.nD Cert.DpwoutIdeal.τ).loc Cert.DpwoutIdeal.main_arg1)) →
    ∃ (v0 : (c : Dev Cert.DpwoutIdeal.nD) → Buf (Elt Ideal) ((c.tc : Thread Cert.DpwoutIdeal.nD Cert.DpwoutIdeal.τ).loc Cert.DpwoutIdeal.main_v0)),
      θ_run (Cert.DpwoutIdeal.defs (F := Ideal)) (onTc (τ := Cert.DpwoutIdeal.τ) (Cert.DpwoutIdeal.main (F := Ideal))) ⟨m, fun _ => 0, g⟩ (fun r => ∀ c : Dev Cert.DpwoutIdeal.nD,
          r.2.mem ((c.tc : Thread Cert.DpwoutIdeal.nD Cert.DpwoutIdeal.τ).loc Cert.DpwoutIdeal.main_v0) = v0 c
          ∧ r.2.mem ((c.tc : Thread Cert.DpwoutIdeal.nD Cert.DpwoutIdeal.τ).loc Cert.DpwoutIdeal.main_arg0) = m ((c.tc : Thread Cert.DpwoutIdeal.nD Cert.DpwoutIdeal.τ).loc Cert.DpwoutIdeal.main_arg0)
          ∧ r.2.mem ((c.tc : Thread Cert.DpwoutIdeal.nD Cert.DpwoutIdeal.τ).loc Cert.DpwoutIdeal.main_arg1) = m ((c.tc : Thread Cert.DpwoutIdeal.nD Cert.DpwoutIdeal.τ).loc Cert.DpwoutIdeal.main_arg1))
      ∧ θ_run (Cert.DpwoutRefIdeal.defs (F := Ideal)) (onTc (τ := Cert.DpwoutRefIdeal.τ) (Cert.DpwoutRefIdeal.main (F := Ideal))) ⟨m', fun _ => 0, g'⟩ (fun r => ∀ c : Dev Cert.DpwoutRefIdeal.nD,
          r.2.mem ((c.tc : Thread Cert.DpwoutRefIdeal.nD Cert.DpwoutRefIdeal.τ).loc Cert.DpwoutRefIdeal.main_v6) = v0 c
          ∧ r.2.mem ((c.tc : Thread Cert.DpwoutRefIdeal.nD Cert.DpwoutRefIdeal.τ).loc Cert.DpwoutRefIdeal.main_arg0) = m' ((c.tc : Thread Cert.DpwoutRefIdeal.nD Cert.DpwoutRefIdeal.τ).loc Cert.DpwoutRefIdeal.main_arg0)
          ∧ r.2.mem ((c.tc : Thread Cert.DpwoutRefIdeal.nD Cert.DpwoutRefIdeal.τ).loc Cert.DpwoutRefIdeal.main_arg1) = m' ((c.tc : Thread Cert.DpwoutRefIdeal.nD Cert.DpwoutRefIdeal.τ).loc Cert.DpwoutRefIdeal.main_arg1))

def preserves_Dpwx_DpwxIdeal : Prop :=
  True

def algebraic_DpwxIdeal_DpwxRefIdeal [hDpwxIdeal : Cert.DpwxIdeal.Facts] [hDpwxRefIdeal : Cert.DpwxRefIdeal.Facts] : Prop :=
  ∀ (m : (ℓ : Loc Cert.DpwxIdeal.nD Cert.DpwxIdeal.τ Cert.DpwxIdeal.sig) → Buf (Elt Ideal) ℓ) (g : Dev Cert.DpwxIdeal.nD → PrngReg)
    (m' : (ℓ : Loc Cert.DpwxRefIdeal.nD Cert.DpwxRefIdeal.τ Cert.DpwxRefIdeal.sig) → Buf (Elt Ideal) ℓ) (g' : Dev Cert.DpwxRefIdeal.nD → PrngReg), Pre_DpwxIdeal m →
    (∀ c : Dev Cert.DpwxIdeal.nD,
      m' ((c.tc : Thread Cert.DpwxRefIdeal.nD Cert.DpwxRefIdeal.τ).loc Cert.DpwxRefIdeal.main_arg0) = m ((c.tc : Thread Cert.DpwxIdeal.nD Cert.DpwxIdeal.τ).loc Cert.DpwxIdeal.main_arg0)
      ∧ m' ((c.tc : Thread Cert.DpwxRefIdeal.nD Cert.DpwxRefIdeal.τ).loc Cert.DpwxRefIdeal.main_arg1) = m ((c.tc : Thread Cert.DpwxIdeal.nD Cert.DpwxIdeal.τ).loc Cert.DpwxIdeal.main_arg1)) →
    ∃ (v0 : (c : Dev Cert.DpwxIdeal.nD) → Buf (Elt Ideal) ((c.tc : Thread Cert.DpwxIdeal.nD Cert.DpwxIdeal.τ).loc Cert.DpwxIdeal.main_v0)),
      θ_run (Cert.DpwxIdeal.defs (F := Ideal)) (onTc (τ := Cert.DpwxIdeal.τ) (Cert.DpwxIdeal.main (F := Ideal))) ⟨m, fun _ => 0, g⟩ (fun r => ∀ c : Dev Cert.DpwxIdeal.nD,
          r.2.mem ((c.tc : Thread Cert.DpwxIdeal.nD Cert.DpwxIdeal.τ).loc Cert.DpwxIdeal.main_v0) = v0 c
          ∧ r.2.mem ((c.tc : Thread Cert.DpwxIdeal.nD Cert.DpwxIdeal.τ).loc Cert.DpwxIdeal.main_arg0) = m ((c.tc : Thread Cert.DpwxIdeal.nD Cert.DpwxIdeal.τ).loc Cert.DpwxIdeal.main_arg0)
          ∧ r.2.mem ((c.tc : Thread Cert.DpwxIdeal.nD Cert.DpwxIdeal.τ).loc Cert.DpwxIdeal.main_arg1) = m ((c.tc : Thread Cert.DpwxIdeal.nD Cert.DpwxIdeal.τ).loc Cert.DpwxIdeal.main_arg1))
      ∧ θ_run (Cert.DpwxRefIdeal.defs (F := Ideal)) (onTc (τ := Cert.DpwxRefIdeal.τ) (Cert.DpwxRefIdeal.main (F := Ideal))) ⟨m', fun _ => 0, g'⟩ (fun r => ∀ c : Dev Cert.DpwxRefIdeal.nD,
          r.2.mem ((c.tc : Thread Cert.DpwxRefIdeal.nD Cert.DpwxRefIdeal.τ).loc Cert.DpwxRefIdeal.main_v4) = v0 c
          ∧ r.2.mem ((c.tc : Thread Cert.DpwxRefIdeal.nD Cert.DpwxRefIdeal.τ).loc Cert.DpwxRefIdeal.main_arg0) = m' ((c.tc : Thread Cert.DpwxRefIdeal.nD Cert.DpwxRefIdeal.τ).loc Cert.DpwxRefIdeal.main_arg0)
          ∧ r.2.mem ((c.tc : Thread Cert.DpwxRefIdeal.nD Cert.DpwxRefIdeal.τ).loc Cert.DpwxRefIdeal.main_arg1) = m' ((c.tc : Thread Cert.DpwxRefIdeal.nD Cert.DpwxRefIdeal.τ).loc Cert.DpwxRefIdeal.main_arg1))

def preserves_Dpwsl_DpwslIdeal : Prop :=
  True

def algebraic_DpwslIdeal_DpwslRefIdeal [hDpwslIdeal : Cert.DpwslIdeal.Facts] [hDpwslRefIdeal : Cert.DpwslRefIdeal.Facts] : Prop :=
  ∀ (m : (ℓ : Loc Cert.DpwslIdeal.nD Cert.DpwslIdeal.τ Cert.DpwslIdeal.sig) → Buf (Elt Ideal) ℓ) (g : Dev Cert.DpwslIdeal.nD → PrngReg)
    (m' : (ℓ : Loc Cert.DpwslRefIdeal.nD Cert.DpwslRefIdeal.τ Cert.DpwslRefIdeal.sig) → Buf (Elt Ideal) ℓ) (g' : Dev Cert.DpwslRefIdeal.nD → PrngReg), Pre_DpwslIdeal m →
    (∀ c : Dev Cert.DpwslIdeal.nD,
      m' ((c.tc : Thread Cert.DpwslRefIdeal.nD Cert.DpwslRefIdeal.τ).loc Cert.DpwslRefIdeal.main_arg0) = m ((c.tc : Thread Cert.DpwslIdeal.nD Cert.DpwslIdeal.τ).loc Cert.DpwslIdeal.main_arg0)
      ∧ m' ((c.tc : Thread Cert.DpwslRefIdeal.nD Cert.DpwslRefIdeal.τ).loc Cert.DpwslRefIdeal.main_arg1) = m ((c.tc : Thread Cert.DpwslIdeal.nD Cert.DpwslIdeal.τ).loc Cert.DpwslIdeal.main_arg1)) →
    ∃ (v0 : (c : Dev Cert.DpwslIdeal.nD) → Buf (Elt Ideal) ((c.tc : Thread Cert.DpwslIdeal.nD Cert.DpwslIdeal.τ).loc Cert.DpwslIdeal.main_v0)),
      θ_run (Cert.DpwslIdeal.defs (F := Ideal)) (onTc (τ := Cert.DpwslIdeal.τ) (Cert.DpwslIdeal.main (F := Ideal))) ⟨m, fun _ => 0, g⟩ (fun r => ∀ c : Dev Cert.DpwslIdeal.nD,
          r.2.mem ((c.tc : Thread Cert.DpwslIdeal.nD Cert.DpwslIdeal.τ).loc Cert.DpwslIdeal.main_v0) = v0 c
          ∧ r.2.mem ((c.tc : Thread Cert.DpwslIdeal.nD Cert.DpwslIdeal.τ).loc Cert.DpwslIdeal.main_arg0) = m ((c.tc : Thread Cert.DpwslIdeal.nD Cert.DpwslIdeal.τ).loc Cert.DpwslIdeal.main_arg0)
          ∧ r.2.mem ((c.tc : Thread Cert.DpwslIdeal.nD Cert.DpwslIdeal.τ).loc Cert.DpwslIdeal.main_arg1) = m ((c.tc : Thread Cert.DpwslIdeal.nD Cert.DpwslIdeal.τ).loc Cert.DpwslIdeal.main_arg1))
      ∧ θ_run (Cert.DpwslRefIdeal.defs (F := Ideal)) (onTc (τ := Cert.DpwslRefIdeal.τ) (Cert.DpwslRefIdeal.main (F := Ideal))) ⟨m', fun _ => 0, g'⟩ (fun r => ∀ c : Dev Cert.DpwslRefIdeal.nD,
          r.2.mem ((c.tc : Thread Cert.DpwslRefIdeal.nD Cert.DpwslRefIdeal.τ).loc Cert.DpwslRefIdeal.main_v4) = v0 c
          ∧ r.2.mem ((c.tc : Thread Cert.DpwslRefIdeal.nD Cert.DpwslRefIdeal.τ).loc Cert.DpwslRefIdeal.main_arg0) = m' ((c.tc : Thread Cert.DpwslRefIdeal.nD Cert.DpwslRefIdeal.τ).loc Cert.DpwslRefIdeal.main_arg0)
          ∧ r.2.mem ((c.tc : Thread Cert.DpwslRefIdeal.nD Cert.DpwslRefIdeal.τ).loc Cert.DpwslRefIdeal.main_arg1) = m' ((c.tc : Thread Cert.DpwslRefIdeal.nD Cert.DpwslRefIdeal.τ).loc Cert.DpwslRefIdeal.main_arg1))

def preserves_Dmixw_DmixwIdeal : Prop :=
  True

def algebraic_DmixwIdeal_DmixwRefIdeal [hDmixwIdeal : Cert.DmixwIdeal.Facts] [hDmixwRefIdeal : Cert.DmixwRefIdeal.Facts] : Prop :=
  ∀ (m : (ℓ : Loc Cert.DmixwIdeal.nD Cert.DmixwIdeal.τ Cert.DmixwIdeal.sig) → Buf (Elt Ideal) ℓ) (g : Dev Cert.DmixwIdeal.nD → PrngReg)
    (m' : (ℓ : Loc Cert.DmixwRefIdeal.nD Cert.DmixwRefIdeal.τ Cert.DmixwRefIdeal.sig) → Buf (Elt Ideal) ℓ) (g' : Dev Cert.DmixwRefIdeal.nD → PrngReg), Pre_DmixwIdeal m →
    (∀ c : Dev Cert.DmixwIdeal.nD,
      m' ((c.tc : Thread Cert.DmixwRefIdeal.nD Cert.DmixwRefIdeal.τ).loc Cert.DmixwRefIdeal.main_arg0) = m ((c.tc : Thread Cert.DmixwIdeal.nD Cert.DmixwIdeal.τ).loc Cert.DmixwIdeal.main_arg0)
      ∧ m' ((c.tc : Thread Cert.DmixwRefIdeal.nD Cert.DmixwRefIdeal.τ).loc Cert.DmixwRefIdeal.main_arg1) = m ((c.tc : Thread Cert.DmixwIdeal.nD Cert.DmixwIdeal.τ).loc Cert.DmixwIdeal.main_arg1)) →
    ∃ (v0 : (c : Dev Cert.DmixwIdeal.nD) → Buf (Elt Ideal) ((c.tc : Thread Cert.DmixwIdeal.nD Cert.DmixwIdeal.τ).loc Cert.DmixwIdeal.main_v0)),
      θ_run (Cert.DmixwIdeal.defs (F := Ideal)) (onTc (τ := Cert.DmixwIdeal.τ) (Cert.DmixwIdeal.main (F := Ideal))) ⟨m, fun _ => 0, g⟩ (fun r => ∀ c : Dev Cert.DmixwIdeal.nD,
          r.2.mem ((c.tc : Thread Cert.DmixwIdeal.nD Cert.DmixwIdeal.τ).loc Cert.DmixwIdeal.main_v0) = v0 c
          ∧ r.2.mem ((c.tc : Thread Cert.DmixwIdeal.nD Cert.DmixwIdeal.τ).loc Cert.DmixwIdeal.main_arg0) = m ((c.tc : Thread Cert.DmixwIdeal.nD Cert.DmixwIdeal.τ).loc Cert.DmixwIdeal.main_arg0)
          ∧ r.2.mem ((c.tc : Thread Cert.DmixwIdeal.nD Cert.DmixwIdeal.τ).loc Cert.DmixwIdeal.main_arg1) = m ((c.tc : Thread Cert.DmixwIdeal.nD Cert.DmixwIdeal.τ).loc Cert.DmixwIdeal.main_arg1))
      ∧ θ_run (Cert.DmixwRefIdeal.defs (F := Ideal)) (onTc (τ := Cert.DmixwRefIdeal.τ) (Cert.DmixwRefIdeal.main (F := Ideal))) ⟨m', fun _ => 0, g'⟩ (fun r => ∀ c : Dev Cert.DmixwRefIdeal.nD,
          r.2.mem ((c.tc : Thread Cert.DmixwRefIdeal.nD Cert.DmixwRefIdeal.τ).loc Cert.DmixwRefIdeal.main_v6) = v0 c
          ∧ r.2.mem ((c.tc : Thread Cert.DmixwRefIdeal.nD Cert.DmixwRefIdeal.τ).loc Cert.DmixwRefIdeal.main_arg0) = m' ((c.tc : Thread Cert.DmixwRefIdeal.nD Cert.DmixwRefIdeal.τ).loc Cert.DmixwRefIdeal.main_arg0)
          ∧ r.2.mem ((c.tc : Thread Cert.DmixwRefIdeal.nD Cert.DmixwRefIdeal.τ).loc Cert.DmixwRefIdeal.main_arg1) = m' ((c.tc : Thread Cert.DmixwRefIdeal.nD Cert.DmixwRefIdeal.τ).loc Cert.DmixwRefIdeal.main_arg1))

def preserves_Dmixy_DmixyIdeal : Prop :=
  True

def algebraic_DmixyIdeal_DmixyRefIdeal [hDmixyIdeal : Cert.DmixyIdeal.Facts] [hDmixyRefIdeal : Cert.DmixyRefIdeal.Facts] : Prop :=
  ∀ (m : (ℓ : Loc Cert.DmixyIdeal.nD Cert.DmixyIdeal.τ Cert.DmixyIdeal.sig) → Buf (Elt Ideal) ℓ) (g : Dev Cert.DmixyIdeal.nD → PrngReg)
    (m' : (ℓ : Loc Cert.DmixyRefIdeal.nD Cert.DmixyRefIdeal.τ Cert.DmixyRefIdeal.sig) → Buf (Elt Ideal) ℓ) (g' : Dev Cert.DmixyRefIdeal.nD → PrngReg), Pre_DmixyIdeal m →
    (∀ c : Dev Cert.DmixyIdeal.nD,
      m' ((c.tc : Thread Cert.DmixyRefIdeal.nD Cert.DmixyRefIdeal.τ).loc Cert.DmixyRefIdeal.main_arg0) = m ((c.tc : Thread Cert.DmixyIdeal.nD Cert.DmixyIdeal.τ).loc Cert.DmixyIdeal.main_arg0)
      ∧ m' ((c.tc : Thread Cert.DmixyRefIdeal.nD Cert.DmixyRefIdeal.τ).loc Cert.DmixyRefIdeal.main_arg1) = m ((c.tc : Thread Cert.DmixyIdeal.nD Cert.DmixyIdeal.τ).loc Cert.DmixyIdeal.main_arg1)) →
    ∃ (v0 : (c : Dev Cert.DmixyIdeal.nD) → Buf (Elt Ideal) ((c.tc : Thread Cert.DmixyIdeal.nD Cert.DmixyIdeal.τ).loc Cert.DmixyIdeal.main_v0)),
      θ_run (Cert.DmixyIdeal.defs (F := Ideal)) (onTc (τ := Cert.DmixyIdeal.τ) (Cert.DmixyIdeal.main (F := Ideal))) ⟨m, fun _ => 0, g⟩ (fun r => ∀ c : Dev Cert.DmixyIdeal.nD,
          r.2.mem ((c.tc : Thread Cert.DmixyIdeal.nD Cert.DmixyIdeal.τ).loc Cert.DmixyIdeal.main_v0) = v0 c
          ∧ r.2.mem ((c.tc : Thread Cert.DmixyIdeal.nD Cert.DmixyIdeal.τ).loc Cert.DmixyIdeal.main_arg0) = m ((c.tc : Thread Cert.DmixyIdeal.nD Cert.DmixyIdeal.τ).loc Cert.DmixyIdeal.main_arg0)
          ∧ r.2.mem ((c.tc : Thread Cert.DmixyIdeal.nD Cert.DmixyIdeal.τ).loc Cert.DmixyIdeal.main_arg1) = m ((c.tc : Thread Cert.DmixyIdeal.nD Cert.DmixyIdeal.τ).loc Cert.DmixyIdeal.main_arg1))
      ∧ θ_run (Cert.DmixyRefIdeal.defs (F := Ideal)) (onTc (τ := Cert.DmixyRefIdeal.τ) (Cert.DmixyRefIdeal.main (F := Ideal))) ⟨m', fun _ => 0, g'⟩ (fun r => ∀ c : Dev Cert.DmixyRefIdeal.nD,
          r.2.mem ((c.tc : Thread Cert.DmixyRefIdeal.nD Cert.DmixyRefIdeal.τ).loc Cert.DmixyRefIdeal.main_v4) = v0 c
          ∧ r.2.mem ((c.tc : Thread Cert.DmixyRefIdeal.nD Cert.DmixyRefIdeal.τ).loc Cert.DmixyRefIdeal.main_arg0) = m' ((c.tc : Thread Cert.DmixyRefIdeal.nD Cert.DmixyRefIdeal.τ).loc Cert.DmixyRefIdeal.main_arg0)
          ∧ r.2.mem ((c.tc : Thread Cert.DmixyRefIdeal.nD Cert.DmixyRefIdeal.τ).loc Cert.DmixyRefIdeal.main_arg1) = m' ((c.tc : Thread Cert.DmixyRefIdeal.nD Cert.DmixyRefIdeal.τ).loc Cert.DmixyRefIdeal.main_arg1))

def preserves_Pwin_PwinIdeal : Prop :=
  True

def algebraic_PwinIdeal_PwinRefIdeal [hPwinIdeal : Cert.PwinIdeal.Facts] [hPwinRefIdeal : Cert.PwinRefIdeal.Facts] : Prop :=
  ∀ (m : (ℓ : Loc Cert.PwinIdeal.nD Cert.PwinIdeal.τ Cert.PwinIdeal.sig) → Buf (Elt Ideal) ℓ) (g : Dev Cert.PwinIdeal.nD → PrngReg)
    (m' : (ℓ : Loc Cert.PwinRefIdeal.nD Cert.PwinRefIdeal.τ Cert.PwinRefIdeal.sig) → Buf (Elt Ideal) ℓ) (g' : Dev Cert.PwinRefIdeal.nD → PrngReg), Pre_PwinIdeal m →
    (∀ c : Dev Cert.PwinIdeal.nD,
      m' ((c.tc : Thread Cert.PwinRefIdeal.nD Cert.PwinRefIdeal.τ).loc Cert.PwinRefIdeal.main_arg0) = m ((c.tc : Thread Cert.PwinIdeal.nD Cert.PwinIdeal.τ).loc Cert.PwinIdeal.main_arg0)
      ∧ m' ((c.tc : Thread Cert.PwinRefIdeal.nD Cert.PwinRefIdeal.τ).loc Cert.PwinRefIdeal.main_arg1) = m ((c.tc : Thread Cert.PwinIdeal.nD Cert.PwinIdeal.τ).loc Cert.PwinIdeal.main_arg1)
      ∧ m' ((c.tc : Thread Cert.PwinRefIdeal.nD Cert.PwinRefIdeal.τ).loc Cert.PwinRefIdeal.main_arg2) = m ((c.tc : Thread Cert.PwinIdeal.nD Cert.PwinIdeal.τ).loc Cert.PwinIdeal.main_arg2)) →
    ∃ (v0 : (c : Dev Cert.PwinIdeal.nD) → Buf (Elt Ideal) ((c.tc : Thread Cert.PwinIdeal.nD Cert.PwinIdeal.τ).loc Cert.PwinIdeal.main_v0)),
      θ_run (Cert.PwinIdeal.defs (F := Ideal)) (onTc (τ := Cert.PwinIdeal.τ) (Cert.PwinIdeal.main (F := Ideal))) ⟨m, fun _ => 0, g⟩ (fun r => ∀ c : Dev Cert.PwinIdeal.nD,
          r.2.mem ((c.tc : Thread Cert.PwinIdeal.nD Cert.PwinIdeal.τ).loc Cert.PwinIdeal.main_v0) = v0 c
          ∧ r.2.mem ((c.tc : Thread Cert.PwinIdeal.nD Cert.PwinIdeal.τ).loc Cert.PwinIdeal.main_arg0) = m ((c.tc : Thread Cert.PwinIdeal.nD Cert.PwinIdeal.τ).loc Cert.PwinIdeal.main_arg0)
          ∧ r.2.mem ((c.tc : Thread Cert.PwinIdeal.nD Cert.PwinIdeal.τ).loc Cert.PwinIdeal.main_arg1) = m ((c.tc : Thread Cert.PwinIdeal.nD Cert.PwinIdeal.τ).loc Cert.PwinIdeal.main_arg1)
          ∧ r.2.mem ((c.tc : Thread Cert.PwinIdeal.nD Cert.PwinIdeal.τ).loc Cert.PwinIdeal.main_arg2) = m ((c.tc : Thread Cert.PwinIdeal.nD Cert.PwinIdeal.τ).loc Cert.PwinIdeal.main_arg2))
      ∧ θ_run (Cert.PwinRefIdeal.defs (F := Ideal)) (onTc (τ := Cert.PwinRefIdeal.τ) (Cert.PwinRefIdeal.main (F := Ideal))) ⟨m', fun _ => 0, g'⟩ (fun r => ∀ c : Dev Cert.PwinRefIdeal.nD,
          r.2.mem ((c.tc : Thread Cert.PwinRefIdeal.nD Cert.PwinRefIdeal.τ).loc Cert.PwinRefIdeal.main_v5) = v0 c
          ∧ r.2.mem ((c.tc : Thread Cert.PwinRefIdeal.nD Cert.PwinRefIdeal.τ).loc Cert.PwinRefIdeal.main_arg0) = m' ((c.tc : Thread Cert.PwinRefIdeal.nD Cert.PwinRefIdeal.τ).loc Cert.PwinRefIdeal.main_arg0)
          ∧ r.2.mem ((c.tc : Thread Cert.PwinRefIdeal.nD Cert.PwinRefIdeal.τ).loc Cert.PwinRefIdeal.main_arg1) = m' ((c.tc : Thread Cert.PwinRefIdeal.nD Cert.PwinRefIdeal.τ).loc Cert.PwinRefIdeal.main_arg1)
          ∧ r.2.mem ((c.tc : Thread Cert.PwinRefIdeal.nD Cert.PwinRefIdeal.τ).loc Cert.PwinRefIdeal.main_arg2) = m' ((c.tc : Thread Cert.PwinRefIdeal.nD Cert.PwinRefIdeal.τ).loc Cert.PwinRefIdeal.main_arg2))

def preserves_Pwout_PwoutIdeal : Prop :=
  True

def algebraic_PwoutIdeal_PwoutRefIdeal [hPwoutIdeal : Cert.PwoutIdeal.Facts] [hPwoutRefIdeal : Cert.PwoutRefIdeal.Facts] : Prop :=
  ∀ (m : (ℓ : Loc Cert.PwoutIdeal.nD Cert.PwoutIdeal.τ Cert.PwoutIdeal.sig) → Buf (Elt Ideal) ℓ) (g : Dev Cert.PwoutIdeal.nD → PrngReg)
    (m' : (ℓ : Loc Cert.PwoutRefIdeal.nD Cert.PwoutRefIdeal.τ Cert.PwoutRefIdeal.sig) → Buf (Elt Ideal) ℓ) (g' : Dev Cert.PwoutRefIdeal.nD → PrngReg), Pre_PwoutIdeal m →
    (∀ c : Dev Cert.PwoutIdeal.nD,
      m' ((c.tc : Thread Cert.PwoutRefIdeal.nD Cert.PwoutRefIdeal.τ).loc Cert.PwoutRefIdeal.main_arg0) = m ((c.tc : Thread Cert.PwoutIdeal.nD Cert.PwoutIdeal.τ).loc Cert.PwoutIdeal.main_arg0)
      ∧ m' ((c.tc : Thread Cert.PwoutRefIdeal.nD Cert.PwoutRefIdeal.τ).loc Cert.PwoutRefIdeal.main_arg1) = m ((c.tc : Thread Cert.PwoutIdeal.nD Cert.PwoutIdeal.τ).loc Cert.PwoutIdeal.main_arg1)
      ∧ m' ((c.tc : Thread Cert.PwoutRefIdeal.nD Cert.PwoutRefIdeal.τ).loc Cert.PwoutRefIdeal.main_arg2) = m ((c.tc : Thread Cert.PwoutIdeal.nD Cert.PwoutIdeal.τ).loc Cert.PwoutIdeal.main_arg2)) →
    ∃ (v0 : (c : Dev Cert.PwoutIdeal.nD) → Buf (Elt Ideal) ((c.tc : Thread Cert.PwoutIdeal.nD Cert.PwoutIdeal.τ).loc Cert.PwoutIdeal.main_v0)),
      θ_run (Cert.PwoutIdeal.defs (F := Ideal)) (onTc (τ := Cert.PwoutIdeal.τ) (Cert.PwoutIdeal.main (F := Ideal))) ⟨m, fun _ => 0, g⟩ (fun r => ∀ c : Dev Cert.PwoutIdeal.nD,
          r.2.mem ((c.tc : Thread Cert.PwoutIdeal.nD Cert.PwoutIdeal.τ).loc Cert.PwoutIdeal.main_v0) = v0 c
          ∧ r.2.mem ((c.tc : Thread Cert.PwoutIdeal.nD Cert.PwoutIdeal.τ).loc Cert.PwoutIdeal.main_arg0) = m ((c.tc : Thread Cert.PwoutIdeal.nD Cert.PwoutIdeal.τ).loc Cert.PwoutIdeal.main_arg0)
          ∧ r.2.mem ((c.tc : Thread Cert.PwoutIdeal.nD Cert.PwoutIdeal.τ).loc Cert.PwoutIdeal.main_arg1) = m ((c.tc : Thread Cert.PwoutIdeal.nD Cert.PwoutIdeal.τ).loc Cert.PwoutIdeal.main_arg1)
          ∧ r.2.mem ((c.tc : Thread Cert.PwoutIdeal.nD Cert.PwoutIdeal.τ).loc Cert.PwoutIdeal.main_arg2) = m ((c.tc : Thread Cert.PwoutIdeal.nD Cert.PwoutIdeal.τ).loc Cert.PwoutIdeal.main_arg2))
      ∧ θ_run (Cert.PwoutRefIdeal.defs (F := Ideal)) (onTc (τ := Cert.PwoutRefIdeal.τ) (Cert.PwoutRefIdeal.main (F := Ideal))) ⟨m', fun _ => 0, g'⟩ (fun r => ∀ c : Dev Cert.PwoutRefIdeal.nD,
          r.2.mem ((c.tc : Thread Cert.PwoutRefIdeal.nD Cert.PwoutRefIdeal.τ).loc Cert.PwoutRefIdeal.main_v4) = v0 c
          ∧ r.2.mem ((c.tc : Thread Cert.PwoutRefIdeal.nD Cert.PwoutRefIdeal.τ).loc Cert.PwoutRefIdeal.main_arg0) = m' ((c.tc : Thread Cert.PwoutRefIdeal.nD Cert.PwoutRefIdeal.τ).loc Cert.PwoutRefIdeal.main_arg0)
          ∧ r.2.mem ((c.tc : Thread Cert.PwoutRefIdeal.nD Cert.PwoutRefIdeal.τ).loc Cert.PwoutRefIdeal.main_arg1) = m' ((c.tc : Thread Cert.PwoutRefIdeal.nD Cert.PwoutRefIdeal.τ).loc Cert.PwoutRefIdeal.main_arg1)
          ∧ r.2.mem ((c.tc : Thread Cert.PwoutRefIdeal.nD Cert.PwoutRefIdeal.τ).loc Cert.PwoutRefIdeal.main_arg2) = m' ((c.tc : Thread Cert.PwoutRefIdeal.nD Cert.PwoutRefIdeal.τ).loc Cert.PwoutRefIdeal.main_arg2))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)) →
    ∃ (v0 : (c : Dev Cert.MixIdeal.nD) → Buf (Elt Ideal) ((c.tc : Thread Cert.MixIdeal.nD Cert.MixIdeal.τ).loc Cert.MixIdeal.main_v0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v2) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1))

def preserves_Drms_DrmsIdeal : Prop :=
  True

def algebraic_DrmsIdeal_DrmsRefIdeal [hDrmsIdeal : Cert.DrmsIdeal.Facts] [hDrmsRefIdeal : Cert.DrmsRefIdeal.Facts] : Prop :=
  ∀ (m : (ℓ : Loc Cert.DrmsIdeal.nD Cert.DrmsIdeal.τ Cert.DrmsIdeal.sig) → Buf (Elt Ideal) ℓ) (g : Dev Cert.DrmsIdeal.nD → PrngReg)
    (m' : (ℓ : Loc Cert.DrmsRefIdeal.nD Cert.DrmsRefIdeal.τ Cert.DrmsRefIdeal.sig) → Buf (Elt Ideal) ℓ) (g' : Dev Cert.DrmsRefIdeal.nD → PrngReg), Pre_DrmsIdeal m →
    (∀ c : Dev Cert.DrmsIdeal.nD,
      m' ((c.tc : Thread Cert.DrmsRefIdeal.nD Cert.DrmsRefIdeal.τ).loc Cert.DrmsRefIdeal.main_arg0) = m ((c.tc : Thread Cert.DrmsIdeal.nD Cert.DrmsIdeal.τ).loc Cert.DrmsIdeal.main_arg0)
      ∧ m' ((c.tc : Thread Cert.DrmsRefIdeal.nD Cert.DrmsRefIdeal.τ).loc Cert.DrmsRefIdeal.main_arg1) = m ((c.tc : Thread Cert.DrmsIdeal.nD Cert.DrmsIdeal.τ).loc Cert.DrmsIdeal.main_arg1)
      ∧ m' ((c.tc : Thread Cert.DrmsRefIdeal.nD Cert.DrmsRefIdeal.τ).loc Cert.DrmsRefIdeal.main_arg2) = m ((c.tc : Thread Cert.DrmsIdeal.nD Cert.DrmsIdeal.τ).loc Cert.DrmsIdeal.main_arg2)
      ∧ m' ((c.tc : Thread Cert.DrmsRefIdeal.nD Cert.DrmsRefIdeal.τ).loc Cert.DrmsRefIdeal.main_arg3) = m ((c.tc : Thread Cert.DrmsIdeal.nD Cert.DrmsIdeal.τ).loc Cert.DrmsIdeal.main_arg3)
      ∧ m' ((c.tc : Thread Cert.DrmsRefIdeal.nD Cert.DrmsRefIdeal.τ).loc Cert.DrmsRefIdeal.main_arg4) = m ((c.tc : Thread Cert.DrmsIdeal.nD Cert.DrmsIdeal.τ).loc Cert.DrmsIdeal.main_arg4)
      ∧ m' ((c.tc : Thread Cert.DrmsRefIdeal.nD Cert.DrmsRefIdeal.τ).loc Cert.DrmsRefIdeal.main_arg5) = m ((c.tc : Thread Cert.DrmsIdeal.nD Cert.DrmsIdeal.τ).loc Cert.DrmsIdeal.main_arg5)
      ∧ m' ((c.tc : Thread Cert.DrmsRefIdeal.nD Cert.DrmsRefIdeal.τ).loc Cert.DrmsRefIdeal.main_arg6) = m ((c.tc : Thread Cert.DrmsIdeal.nD Cert.DrmsIdeal.τ).loc Cert.DrmsIdeal.main_arg6)) →
    ∃ (v0 : (c : Dev Cert.DrmsIdeal.nD) → Buf (Elt Ideal) ((c.tc : Thread Cert.DrmsIdeal.nD Cert.DrmsIdeal.τ).loc Cert.DrmsIdeal.main_v0_0)) (v1 : (c : Dev Cert.DrmsIdeal.nD) → Buf (Elt Ideal) ((c.tc : Thread Cert.DrmsIdeal.nD Cert.DrmsIdeal.τ).loc Cert.DrmsIdeal.main_v0_2)) (v2 : (c : Dev Cert.DrmsIdeal.nD) → Buf (Elt Ideal) ((c.tc : Thread Cert.DrmsIdeal.nD Cert.DrmsIdeal.τ).loc Cert.DrmsIdeal.main_v0_3)) (v3 : (c : Dev Cert.DrmsIdeal.nD) → Buf (Elt Ideal) ((c.tc : Thread Cert.DrmsIdeal.nD Cert.DrmsIdeal.τ).loc Cert.DrmsIdeal.main_v0_4)) (v4 : (c : Dev Cert.DrmsIdeal.nD) → Buf (Elt Ideal) ((c.tc : Thread Cert.DrmsIdeal.nD Cert.DrmsIdeal.τ).loc Cert.DrmsIdeal.main_v0_1)) (v5 : (c : Dev Cert.DrmsIdeal.nD) → Buf (Elt Ideal) ((c.tc : Thread Cert.DrmsIdeal.nD Cert.DrmsIdeal.τ).loc Cert.DrmsIdeal.main_v0_5)) (v6 : (c : Dev Cert.DrmsIdeal.nD) → Buf (Elt Ideal) ((c.tc : Thread Cert.DrmsIdeal.nD Cert.DrmsIdeal.τ).loc Cert.DrmsIdeal.main_v0_6)),
      θ_run (Cert.DrmsIdeal.defs (F := Ideal)) (onTc (τ := Cert.DrmsIdeal.τ) (Cert.DrmsIdeal.main (F := Ideal))) ⟨m, fun _ => 0, g⟩ (fun r => ∀ c : Dev Cert.DrmsIdeal.nD,
          r.2.mem ((c.tc : Thread Cert.DrmsIdeal.nD Cert.DrmsIdeal.τ).loc Cert.DrmsIdeal.main_v0_0) = v0 c
          ∧ r.2.mem ((c.tc : Thread Cert.DrmsIdeal.nD Cert.DrmsIdeal.τ).loc Cert.DrmsIdeal.main_v0_2) = v1 c
          ∧ r.2.mem ((c.tc : Thread Cert.DrmsIdeal.nD Cert.DrmsIdeal.τ).loc Cert.DrmsIdeal.main_v0_3) = v2 c
          ∧ r.2.mem ((c.tc : Thread Cert.DrmsIdeal.nD Cert.DrmsIdeal.τ).loc Cert.DrmsIdeal.main_v0_4) = v3 c
          ∧ r.2.mem ((c.tc : Thread Cert.DrmsIdeal.nD Cert.DrmsIdeal.τ).loc Cert.DrmsIdeal.main_v0_1) = v4 c
          ∧ r.2.mem ((c.tc : Thread Cert.DrmsIdeal.nD Cert.DrmsIdeal.τ).loc Cert.DrmsIdeal.main_v0_5) = v5 c
          ∧ r.2.mem ((c.tc : Thread Cert.DrmsIdeal.nD Cert.DrmsIdeal.τ).loc Cert.DrmsIdeal.main_v0_6) = v6 c
          ∧ r.2.mem ((c.tc : Thread Cert.DrmsIdeal.nD Cert.DrmsIdeal.τ).loc Cert.DrmsIdeal.main_arg0) = m ((c.tc : Thread Cert.DrmsIdeal.nD Cert.DrmsIdeal.τ).loc Cert.DrmsIdeal.main_arg0)
          ∧ r.2.mem ((c.tc : Thread Cert.DrmsIdeal.nD Cert.DrmsIdeal.τ).loc Cert.DrmsIdeal.main_arg1) = m ((c.tc : Thread Cert.DrmsIdeal.nD Cert.DrmsIdeal.τ).loc Cert.DrmsIdeal.main_arg1)
          ∧ r.2.mem ((c.tc : Thread Cert.DrmsIdeal.nD Cert.DrmsIdeal.τ).loc Cert.DrmsIdeal.main_arg2) = m ((c.tc : Thread Cert.DrmsIdeal.nD Cert.DrmsIdeal.τ).loc Cert.DrmsIdeal.main_arg2)
          ∧ r.2.mem ((c.tc : Thread Cert.DrmsIdeal.nD Cert.DrmsIdeal.τ).loc Cert.DrmsIdeal.main_arg3) = m ((c.tc : Thread Cert.DrmsIdeal.nD Cert.DrmsIdeal.τ).loc Cert.DrmsIdeal.main_arg3)
          ∧ r.2.mem ((c.tc : Thread Cert.DrmsIdeal.nD Cert.DrmsIdeal.τ).loc Cert.DrmsIdeal.main_arg4) = m ((c.tc : Thread Cert.DrmsIdeal.nD Cert.DrmsIdeal.τ).loc Cert.DrmsIdeal.main_arg4)
          ∧ r.2.mem ((c.tc : Thread Cert.DrmsIdeal.nD Cert.DrmsIdeal.τ).loc Cert.DrmsIdeal.main_arg5) = m ((c.tc : Thread Cert.DrmsIdeal.nD Cert.DrmsIdeal.τ).loc Cert.DrmsIdeal.main_arg5)
          ∧ r.2.mem ((c.tc : Thread Cert.DrmsIdeal.nD Cert.DrmsIdeal.τ).loc Cert.DrmsIdeal.main_arg6) = m ((c.tc : Thread Cert.DrmsIdeal.nD Cert.DrmsIdeal.τ).loc Cert.DrmsIdeal.main_arg6))
      ∧ θ_run (Cert.DrmsRefIdeal.defs (F := Ideal)) (onTc (τ := Cert.DrmsRefIdeal.τ) (Cert.DrmsRefIdeal.main (F := Ideal))) ⟨m', fun _ => 0, g'⟩ (fun r => ∀ c : Dev Cert.DrmsRefIdeal.nD,
          r.2.mem ((c.tc : Thread Cert.DrmsRefIdeal.nD Cert.DrmsRefIdeal.τ).loc Cert.DrmsRefIdeal.main_v55) = v0 c
          ∧ r.2.mem ((c.tc : Thread Cert.DrmsRefIdeal.nD Cert.DrmsRefIdeal.τ).loc Cert.DrmsRefIdeal.main_v29) = v1 c
          ∧ r.2.mem ((c.tc : Thread Cert.DrmsRefIdeal.nD Cert.DrmsRefIdeal.τ).loc Cert.DrmsRefIdeal.main_v35) = v2 c
          ∧ r.2.mem ((c.tc : Thread Cert.DrmsRefIdeal.nD Cert.DrmsRefIdeal.τ).loc Cert.DrmsRefIdeal.main_v56) = v3 c
          ∧ r.2.mem ((c.tc : Thread Cert.DrmsRefIdeal.nD Cert.DrmsRefIdeal.τ).loc Cert.DrmsRefIdeal.main_v69) = v4 c
          ∧ r.2.mem ((c.tc : Thread Cert.DrmsRefIdeal.nD Cert.DrmsRefIdeal.τ).loc Cert.DrmsRefIdeal.main_v66) = v5 c
          ∧ r.2.mem ((c.tc : Thread Cert.DrmsRefIdeal.nD Cert.DrmsRefIdeal.τ).loc Cert.DrmsRefIdeal.main_v68) = v6 c
          ∧ r.2.mem ((c.tc : Thread Cert.DrmsRefIdeal.nD Cert.DrmsRefIdeal.τ).loc Cert.DrmsRefIdeal.main_arg0) = m' ((c.tc : Thread Cert.DrmsRefIdeal.nD Cert.DrmsRefIdeal.τ).loc Cert.DrmsRefIdeal.main_arg0)
          ∧ r.2.mem ((c.tc : Thread Cert.DrmsRefIdeal.nD Cert.DrmsRefIdeal.τ).loc Cert.DrmsRefIdeal.main_arg1) = m' ((c.tc : Thread Cert.DrmsRefIdeal.nD Cert.DrmsRefIdeal.τ).loc Cert.DrmsRefIdeal.main_arg1)
          ∧ r.2.mem ((c.tc : Thread Cert.DrmsRefIdeal.nD Cert.DrmsRefIdeal.τ).loc Cert.DrmsRefIdeal.main_arg2) = m' ((c.tc : Thread Cert.DrmsRefIdeal.nD Cert.DrmsRefIdeal.τ).loc Cert.DrmsRefIdeal.main_arg2)
          ∧ r.2.mem ((c.tc : Thread Cert.DrmsRefIdeal.nD Cert.DrmsRefIdeal.τ).loc Cert.DrmsRefIdeal.main_arg3) = m' ((c.tc : Thread Cert.DrmsRefIdeal.nD Cert.DrmsRefIdeal.τ).loc Cert.DrmsRefIdeal.main_arg3)
          ∧ r.2.mem ((c.tc : Thread Cert.DrmsRefIdeal.nD Cert.DrmsRefIdeal.τ).loc Cert.DrmsRefIdeal.main_arg4) = m' ((c.tc : Thread Cert.DrmsRefIdeal.nD Cert.DrmsRefIdeal.τ).loc Cert.DrmsRefIdeal.main_arg4)
          ∧ r.2.mem ((c.tc : Thread Cert.DrmsRefIdeal.nD Cert.DrmsRefIdeal.τ).loc Cert.DrmsRefIdeal.main_arg5) = m' ((c.tc : Thread Cert.DrmsRefIdeal.nD Cert.DrmsRefIdeal.τ).loc Cert.DrmsRefIdeal.main_arg5)
          ∧ r.2.mem ((c.tc : Thread Cert.DrmsRefIdeal.nD Cert.DrmsRefIdeal.τ).loc Cert.DrmsRefIdeal.main_arg6) = m' ((c.tc : Thread Cert.DrmsRefIdeal.nD Cert.DrmsRefIdeal.τ).loc Cert.DrmsRefIdeal.main_arg6))

def preserves_Dgate_DgateIdeal : Prop :=
  True

def algebraic_DgateIdeal_DgateRefIdeal_pre_gated_finite [hDgateIdeal : Cert.DgateIdeal.Facts] [hDgateRefIdeal : Cert.DgateRefIdeal.Facts] [hPre_gated_finite : Cert.Pre_gated_finite.Facts] : Prop :=
  ∀ (m : (ℓ : Loc Cert.DgateIdeal.nD Cert.DgateIdeal.τ Cert.DgateIdeal.sig) → Buf (Elt Ideal) ℓ) (g : Dev Cert.DgateIdeal.nD → PrngReg)
    (m' : (ℓ : Loc Cert.DgateRefIdeal.nD Cert.DgateRefIdeal.τ Cert.DgateRefIdeal.sig) → Buf (Elt Ideal) ℓ) (g' : Dev Cert.DgateRefIdeal.nD → PrngReg), Pre_DgateIdeal_gated_finite m →
    (∀ c : Dev Cert.DgateIdeal.nD,
      m' ((c.tc : Thread Cert.DgateRefIdeal.nD Cert.DgateRefIdeal.τ).loc Cert.DgateRefIdeal.main_arg0) = m ((c.tc : Thread Cert.DgateIdeal.nD Cert.DgateIdeal.τ).loc Cert.DgateIdeal.main_arg0)
      ∧ m' ((c.tc : Thread Cert.DgateRefIdeal.nD Cert.DgateRefIdeal.τ).loc Cert.DgateRefIdeal.main_arg1) = m ((c.tc : Thread Cert.DgateIdeal.nD Cert.DgateIdeal.τ).loc Cert.DgateIdeal.main_arg1)
      ∧ m' ((c.tc : Thread Cert.DgateRefIdeal.nD Cert.DgateRefIdeal.τ).loc Cert.DgateRefIdeal.main_arg2) = m ((c.tc : Thread Cert.DgateIdeal.nD Cert.DgateIdeal.τ).loc Cert.DgateIdeal.main_arg2)
      ∧ m' ((c.tc : Thread Cert.DgateRefIdeal.nD Cert.DgateRefIdeal.τ).loc Cert.DgateRefIdeal.main_arg3) = m ((c.tc : Thread Cert.DgateIdeal.nD Cert.DgateIdeal.τ).loc Cert.DgateIdeal.main_arg3)
      ∧ m' ((c.tc : Thread Cert.DgateRefIdeal.nD Cert.DgateRefIdeal.τ).loc Cert.DgateRefIdeal.main_arg4) = m ((c.tc : Thread Cert.DgateIdeal.nD Cert.DgateIdeal.τ).loc Cert.DgateIdeal.main_arg4)
      ∧ m' ((c.tc : Thread Cert.DgateRefIdeal.nD Cert.DgateRefIdeal.τ).loc Cert.DgateRefIdeal.main_arg5) = m ((c.tc : Thread Cert.DgateIdeal.nD Cert.DgateIdeal.τ).loc Cert.DgateIdeal.main_arg5)) →
    ∃ (v0 : (c : Dev Cert.DgateIdeal.nD) → Buf (Elt Ideal) ((c.tc : Thread Cert.DgateIdeal.nD Cert.DgateIdeal.τ).loc Cert.DgateIdeal.main_v0_0)) (v1 : (c : Dev Cert.DgateIdeal.nD) → Buf (Elt Ideal) ((c.tc : Thread Cert.DgateIdeal.nD Cert.DgateIdeal.τ).loc Cert.DgateIdeal.main_v0_1)) (v2 : (c : Dev Cert.DgateIdeal.nD) → Buf (Elt Ideal) ((c.tc : Thread Cert.DgateIdeal.nD Cert.DgateIdeal.τ).loc Cert.DgateIdeal.main_v0_2)) (v3 : (c : Dev Cert.DgateIdeal.nD) → Buf (Elt Ideal) ((c.tc : Thread Cert.DgateIdeal.nD Cert.DgateIdeal.τ).loc Cert.DgateIdeal.main_v0_3)),
      θ_run (Cert.DgateIdeal.defs (F := Ideal)) (onTc (τ := Cert.DgateIdeal.τ) (Cert.DgateIdeal.main (F := Ideal))) ⟨m, fun _ => 0, g⟩ (fun r => ∀ c : Dev Cert.DgateIdeal.nD,
          r.2.mem ((c.tc : Thread Cert.DgateIdeal.nD Cert.DgateIdeal.τ).loc Cert.DgateIdeal.main_v0_0) = v0 c
          ∧ r.2.mem ((c.tc : Thread Cert.DgateIdeal.nD Cert.DgateIdeal.τ).loc Cert.DgateIdeal.main_v0_1) = v1 c
          ∧ r.2.mem ((c.tc : Thread Cert.DgateIdeal.nD Cert.DgateIdeal.τ).loc Cert.DgateIdeal.main_v0_2) = v2 c
          ∧ r.2.mem ((c.tc : Thread Cert.DgateIdeal.nD Cert.DgateIdeal.τ).loc Cert.DgateIdeal.main_v0_3) = v3 c
          ∧ r.2.mem ((c.tc : Thread Cert.DgateIdeal.nD Cert.DgateIdeal.τ).loc Cert.DgateIdeal.main_arg0) = m ((c.tc : Thread Cert.DgateIdeal.nD Cert.DgateIdeal.τ).loc Cert.DgateIdeal.main_arg0)
          ∧ r.2.mem ((c.tc : Thread Cert.DgateIdeal.nD Cert.DgateIdeal.τ).loc Cert.DgateIdeal.main_arg1) = m ((c.tc : Thread Cert.DgateIdeal.nD Cert.DgateIdeal.τ).loc Cert.DgateIdeal.main_arg1)
          ∧ r.2.mem ((c.tc : Thread Cert.DgateIdeal.nD Cert.DgateIdeal.τ).loc Cert.DgateIdeal.main_arg2) = m ((c.tc : Thread Cert.DgateIdeal.nD Cert.DgateIdeal.τ).loc Cert.DgateIdeal.main_arg2)
          ∧ r.2.mem ((c.tc : Thread Cert.DgateIdeal.nD Cert.DgateIdeal.τ).loc Cert.DgateIdeal.main_arg3) = m ((c.tc : Thread Cert.DgateIdeal.nD Cert.DgateIdeal.τ).loc Cert.DgateIdeal.main_arg3)
          ∧ r.2.mem ((c.tc : Thread Cert.DgateIdeal.nD Cert.DgateIdeal.τ).loc Cert.DgateIdeal.main_arg4) = m ((c.tc : Thread Cert.DgateIdeal.nD Cert.DgateIdeal.τ).loc Cert.DgateIdeal.main_arg4)
          ∧ r.2.mem ((c.tc : Thread Cert.DgateIdeal.nD Cert.DgateIdeal.τ).loc Cert.DgateIdeal.main_arg5) = m ((c.tc : Thread Cert.DgateIdeal.nD Cert.DgateIdeal.τ).loc Cert.DgateIdeal.main_arg5))
      ∧ θ_run (Cert.DgateRefIdeal.defs (F := Ideal)) (onTc (τ := Cert.DgateRefIdeal.τ) (Cert.DgateRefIdeal.main (F := Ideal))) ⟨m', fun _ => 0, g'⟩ (fun r => ∀ c : Dev Cert.DgateRefIdeal.nD,
          r.2.mem ((c.tc : Thread Cert.DgateRefIdeal.nD Cert.DgateRefIdeal.τ).loc Cert.DgateRefIdeal.main_v50) = v0 c
          ∧ r.2.mem ((c.tc : Thread Cert.DgateRefIdeal.nD Cert.DgateRefIdeal.τ).loc Cert.DgateRefIdeal.main_v55) = v1 c
          ∧ r.2.mem ((c.tc : Thread Cert.DgateRefIdeal.nD Cert.DgateRefIdeal.τ).loc Cert.DgateRefIdeal.main_v31) = v2 c
          ∧ r.2.mem ((c.tc : Thread Cert.DgateRefIdeal.nD Cert.DgateRefIdeal.τ).loc Cert.DgateRefIdeal.main_v54) = v3 c
          ∧ r.2.mem ((c.tc : Thread Cert.DgateRefIdeal.nD Cert.DgateRefIdeal.τ).loc Cert.DgateRefIdeal.main_arg0) = m' ((c.tc : Thread Cert.DgateRefIdeal.nD Cert.DgateRefIdeal.τ).loc Cert.DgateRefIdeal.main_arg0)
          ∧ r.2.mem ((c.tc : Thread Cert.DgateRefIdeal.nD Cert.DgateRefIdeal.τ).loc Cert.DgateRefIdeal.main_arg1) = m' ((c.tc : Thread Cert.DgateRefIdeal.nD Cert.DgateRefIdeal.τ).loc Cert.DgateRefIdeal.main_arg1)
          ∧ r.2.mem ((c.tc : Thread Cert.DgateRefIdeal.nD Cert.DgateRefIdeal.τ).loc Cert.DgateRefIdeal.main_arg2) = m' ((c.tc : Thread Cert.DgateRefIdeal.nD Cert.DgateRefIdeal.τ).loc Cert.DgateRefIdeal.main_arg2)
          ∧ r.2.mem ((c.tc : Thread Cert.DgateRefIdeal.nD Cert.DgateRefIdeal.τ).loc Cert.DgateRefIdeal.main_arg3) = m' ((c.tc : Thread Cert.DgateRefIdeal.nD Cert.DgateRefIdeal.τ).loc Cert.DgateRefIdeal.main_arg3)
          ∧ r.2.mem ((c.tc : Thread Cert.DgateRefIdeal.nD Cert.DgateRefIdeal.τ).loc Cert.DgateRefIdeal.main_arg4) = m' ((c.tc : Thread Cert.DgateRefIdeal.nD Cert.DgateRefIdeal.τ).loc Cert.DgateRefIdeal.main_arg4)
          ∧ r.2.mem ((c.tc : Thread Cert.DgateRefIdeal.nD Cert.DgateRefIdeal.τ).loc Cert.DgateRefIdeal.main_arg5) = m' ((c.tc : Thread Cert.DgateRefIdeal.nD Cert.DgateRefIdeal.τ).loc Cert.DgateRefIdeal.main_arg5))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)) →
    ∃ (v0 : (c : Dev Cert.GluIdeal.nD) → Buf (Elt Ideal) ((c.tc : Thread Cert.GluIdeal.nD Cert.GluIdeal.τ).loc Cert.GluIdeal.main_v0)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v9) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0))

def preserves_Lnorm_LnormIdeal : Prop :=
  True

def algebraic_LnormIdeal_LnormRefIdeal [hLnormIdeal : Cert.LnormIdeal.Facts] [hLnormRefIdeal : Cert.LnormRefIdeal.Facts] : Prop :=
  ∀ (m : (ℓ : Loc Cert.LnormIdeal.nD Cert.LnormIdeal.τ Cert.LnormIdeal.sig) → Buf (Elt Ideal) ℓ) (g : Dev Cert.LnormIdeal.nD → PrngReg)
    (m' : (ℓ : Loc Cert.LnormRefIdeal.nD Cert.LnormRefIdeal.τ Cert.LnormRefIdeal.sig) → Buf (Elt Ideal) ℓ) (g' : Dev Cert.LnormRefIdeal.nD → PrngReg), Pre_LnormIdeal m →
    (∀ c : Dev Cert.LnormIdeal.nD,
      m' ((c.tc : Thread Cert.LnormRefIdeal.nD Cert.LnormRefIdeal.τ).loc Cert.LnormRefIdeal.main_arg0) = m ((c.tc : Thread Cert.LnormIdeal.nD Cert.LnormIdeal.τ).loc Cert.LnormIdeal.main_arg0)
      ∧ m' ((c.tc : Thread Cert.LnormRefIdeal.nD Cert.LnormRefIdeal.τ).loc Cert.LnormRefIdeal.main_arg1) = m ((c.tc : Thread Cert.LnormIdeal.nD Cert.LnormIdeal.τ).loc Cert.LnormIdeal.main_arg1)
      ∧ m' ((c.tc : Thread Cert.LnormRefIdeal.nD Cert.LnormRefIdeal.τ).loc Cert.LnormRefIdeal.main_arg2) = m ((c.tc : Thread Cert.LnormIdeal.nD Cert.LnormIdeal.τ).loc Cert.LnormIdeal.main_arg2)
      ∧ m' ((c.tc : Thread Cert.LnormRefIdeal.nD Cert.LnormRefIdeal.τ).loc Cert.LnormRefIdeal.main_arg3) = m ((c.tc : Thread Cert.LnormIdeal.nD Cert.LnormIdeal.τ).loc Cert.LnormIdeal.main_arg3)) →
    ∃ (v0 : (c : Dev Cert.LnormIdeal.nD) → Buf (Elt Ideal) ((c.tc : Thread Cert.LnormIdeal.nD Cert.LnormIdeal.τ).loc Cert.LnormIdeal.main_v0)),
      θ_run (Cert.LnormIdeal.defs (F := Ideal)) (onTc (τ := Cert.LnormIdeal.τ) (Cert.LnormIdeal.main (F := Ideal))) ⟨m, fun _ => 0, g⟩ (fun r => ∀ c : Dev Cert.LnormIdeal.nD,
          r.2.mem ((c.tc : Thread Cert.LnormIdeal.nD Cert.LnormIdeal.τ).loc Cert.LnormIdeal.main_v0) = v0 c
          ∧ r.2.mem ((c.tc : Thread Cert.LnormIdeal.nD Cert.LnormIdeal.τ).loc Cert.LnormIdeal.main_arg0) = m ((c.tc : Thread Cert.LnormIdeal.nD Cert.LnormIdeal.τ).loc Cert.LnormIdeal.main_arg0)
          ∧ r.2.mem ((c.tc : Thread Cert.LnormIdeal.nD Cert.LnormIdeal.τ).loc Cert.LnormIdeal.main_arg1) = m ((c.tc : Thread Cert.LnormIdeal.nD Cert.LnormIdeal.τ).loc Cert.LnormIdeal.main_arg1)
          ∧ r.2.mem ((c.tc : Thread Cert.LnormIdeal.nD Cert.LnormIdeal.τ).loc Cert.LnormIdeal.main_arg2) = m ((c.tc : Thread Cert.LnormIdeal.nD Cert.LnormIdeal.τ).loc Cert.LnormIdeal.main_arg2)
          ∧ r.2.mem ((c.tc : Thread Cert.LnormIdeal.nD Cert.LnormIdeal.τ).loc Cert.LnormIdeal.main_arg3) = m ((c.tc : Thread Cert.LnormIdeal.nD Cert.LnormIdeal.τ).loc Cert.LnormIdeal.main_arg3))
      ∧ θ_run (Cert.LnormRefIdeal.defs (F := Ideal)) (onTc (τ := Cert.LnormRefIdeal.τ) (Cert.LnormRefIdeal.main (F := Ideal))) ⟨m', fun _ => 0, g'⟩ (fun r => ∀ c : Dev Cert.LnormRefIdeal.nD,
          r.2.mem ((c.tc : Thread Cert.LnormRefIdeal.nD Cert.LnormRefIdeal.τ).loc Cert.LnormRefIdeal.main_v24) = v0 c
          ∧ r.2.mem ((c.tc : Thread Cert.LnormRefIdeal.nD Cert.LnormRefIdeal.τ).loc Cert.LnormRefIdeal.main_arg0) = m' ((c.tc : Thread Cert.LnormRefIdeal.nD Cert.LnormRefIdeal.τ).loc Cert.LnormRefIdeal.main_arg0)
          ∧ r.2.mem ((c.tc : Thread Cert.LnormRefIdeal.nD Cert.LnormRefIdeal.τ).loc Cert.LnormRefIdeal.main_arg1) = m' ((c.tc : Thread Cert.LnormRefIdeal.nD Cert.LnormRefIdeal.τ).loc Cert.LnormRefIdeal.main_arg1)
          ∧ r.2.mem ((c.tc : Thread Cert.LnormRefIdeal.nD Cert.LnormRefIdeal.τ).loc Cert.LnormRefIdeal.main_arg2) = m' ((c.tc : Thread Cert.LnormRefIdeal.nD Cert.LnormRefIdeal.τ).loc Cert.LnormRefIdeal.main_arg2)
          ∧ r.2.mem ((c.tc : Thread Cert.LnormRefIdeal.nD Cert.LnormRefIdeal.τ).loc Cert.LnormRefIdeal.main_arg3) = m' ((c.tc : Thread Cert.LnormRefIdeal.nD Cert.LnormRefIdeal.τ).loc Cert.LnormRefIdeal.main_arg3))

def preserves_Rnorm_RnormIdeal : Prop :=
  True

def algebraic_RnormIdeal_RnormRefIdeal [hRnormIdeal : Cert.RnormIdeal.Facts] [hRnormRefIdeal : Cert.RnormRefIdeal.Facts] : Prop :=
  ∀ (m : (ℓ : Loc Cert.RnormIdeal.nD Cert.RnormIdeal.τ Cert.RnormIdeal.sig) → Buf (Elt Ideal) ℓ) (g : Dev Cert.RnormIdeal.nD → PrngReg)
    (m' : (ℓ : Loc Cert.RnormRefIdeal.nD Cert.RnormRefIdeal.τ Cert.RnormRefIdeal.sig) → Buf (Elt Ideal) ℓ) (g' : Dev Cert.RnormRefIdeal.nD → PrngReg), Pre_RnormIdeal m →
    (∀ c : Dev Cert.RnormIdeal.nD,
      m' ((c.tc : Thread Cert.RnormRefIdeal.nD Cert.RnormRefIdeal.τ).loc Cert.RnormRefIdeal.main_arg0) = m ((c.tc : Thread Cert.RnormIdeal.nD Cert.RnormIdeal.τ).loc Cert.RnormIdeal.main_arg0)
      ∧ m' ((c.tc : Thread Cert.RnormRefIdeal.nD Cert.RnormRefIdeal.τ).loc Cert.RnormRefIdeal.main_arg1) = m ((c.tc : Thread Cert.RnormIdeal.nD Cert.RnormIdeal.τ).loc Cert.RnormIdeal.main_arg1)
      ∧ m' ((c.tc : Thread Cert.RnormRefIdeal.nD Cert.RnormRefIdeal.τ).loc Cert.RnormRefIdeal.main_arg2) = m ((c.tc : Thread Cert.RnormIdeal.nD Cert.RnormIdeal.τ).loc Cert.RnormIdeal.main_arg2)
      ∧ m' ((c.tc : Thread Cert.RnormRefIdeal.nD Cert.RnormRefIdeal.τ).loc Cert.RnormRefIdeal.main_arg3) = m ((c.tc : Thread Cert.RnormIdeal.nD Cert.RnormIdeal.τ).loc Cert.RnormIdeal.main_arg3)
      ∧ m' ((c.tc : Thread Cert.RnormRefIdeal.nD Cert.RnormRefIdeal.τ).loc Cert.RnormRefIdeal.main_arg4) = m ((c.tc : Thread Cert.RnormIdeal.nD Cert.RnormIdeal.τ).loc Cert.RnormIdeal.main_arg4)
      ∧ m' ((c.tc : Thread Cert.RnormRefIdeal.nD Cert.RnormRefIdeal.τ).loc Cert.RnormRefIdeal.main_arg5) = m ((c.tc : Thread Cert.RnormIdeal.nD Cert.RnormIdeal.τ).loc Cert.RnormIdeal.main_arg5)) →
    ∃ (v0 : (c : Dev Cert.RnormIdeal.nD) → Buf (Elt Ideal) ((c.tc : Thread Cert.RnormIdeal.nD Cert.RnormIdeal.τ).loc Cert.RnormIdeal.main_v0_0)) (v1 : (c : Dev Cert.RnormIdeal.nD) → Buf (Elt Ideal) ((c.tc : Thread Cert.RnormIdeal.nD Cert.RnormIdeal.τ).loc Cert.RnormIdeal.main_v0_1)),
      θ_run (Cert.RnormIdeal.defs (F := Ideal)) (onTc (τ := Cert.RnormIdeal.τ) (Cert.RnormIdeal.main (F := Ideal))) ⟨m, fun _ => 0, g⟩ (fun r => ∀ c : Dev Cert.RnormIdeal.nD,
          r.2.mem ((c.tc : Thread Cert.RnormIdeal.nD Cert.RnormIdeal.τ).loc Cert.RnormIdeal.main_v0_0) = v0 c
          ∧ r.2.mem ((c.tc : Thread Cert.RnormIdeal.nD Cert.RnormIdeal.τ).loc Cert.RnormIdeal.main_v0_1) = v1 c
          ∧ r.2.mem ((c.tc : Thread Cert.RnormIdeal.nD Cert.RnormIdeal.τ).loc Cert.RnormIdeal.main_arg0) = m ((c.tc : Thread Cert.RnormIdeal.nD Cert.RnormIdeal.τ).loc Cert.RnormIdeal.main_arg0)
          ∧ r.2.mem ((c.tc : Thread Cert.RnormIdeal.nD Cert.RnormIdeal.τ).loc Cert.RnormIdeal.main_arg1) = m ((c.tc : Thread Cert.RnormIdeal.nD Cert.RnormIdeal.τ).loc Cert.RnormIdeal.main_arg1)
          ∧ r.2.mem ((c.tc : Thread Cert.RnormIdeal.nD Cert.RnormIdeal.τ).loc Cert.RnormIdeal.main_arg2) = m ((c.tc : Thread Cert.RnormIdeal.nD Cert.RnormIdeal.τ).loc Cert.RnormIdeal.main_arg2)
          ∧ r.2.mem ((c.tc : Thread Cert.RnormIdeal.nD Cert.RnormIdeal.τ).loc Cert.RnormIdeal.main_arg3) = m ((c.tc : Thread Cert.RnormIdeal.nD Cert.RnormIdeal.τ).loc Cert.RnormIdeal.main_arg3)
          ∧ r.2.mem ((c.tc : Thread Cert.RnormIdeal.nD Cert.RnormIdeal.τ).loc Cert.RnormIdeal.main_arg4) = m ((c.tc : Thread Cert.RnormIdeal.nD Cert.RnormIdeal.τ).loc Cert.RnormIdeal.main_arg4)
          ∧ r.2.mem ((c.tc : Thread Cert.RnormIdeal.nD Cert.RnormIdeal.τ).loc Cert.RnormIdeal.main_arg5) = m ((c.tc : Thread Cert.RnormIdeal.nD Cert.RnormIdeal.τ).loc Cert.RnormIdeal.main_arg5))
      ∧ θ_run (Cert.RnormRefIdeal.defs (F := Ideal)) (onTc (τ := Cert.RnormRefIdeal.τ) (Cert.RnormRefIdeal.main (F := Ideal))) ⟨m', fun _ => 0, g'⟩ (fun r => ∀ c : Dev Cert.RnormRefIdeal.nD,
          r.2.mem ((c.tc : Thread Cert.RnormRefIdeal.nD Cert.RnormRefIdeal.τ).loc Cert.RnormRefIdeal.main_v2) = v0 c
          ∧ r.2.mem ((c.tc : Thread Cert.RnormRefIdeal.nD Cert.RnormRefIdeal.τ).loc Cert.RnormRefIdeal.main_v21) = v1 c
          ∧ r.2.mem ((c.tc : Thread Cert.RnormRefIdeal.nD Cert.RnormRefIdeal.τ).loc Cert.RnormRefIdeal.main_arg0) = m' ((c.tc : Thread Cert.RnormRefIdeal.nD Cert.RnormRefIdeal.τ).loc Cert.RnormRefIdeal.main_arg0)
          ∧ r.2.mem ((c.tc : Thread Cert.RnormRefIdeal.nD Cert.RnormRefIdeal.τ).loc Cert.RnormRefIdeal.main_arg1) = m' ((c.tc : Thread Cert.RnormRefIdeal.nD Cert.RnormRefIdeal.τ).loc Cert.RnormRefIdeal.main_arg1)
          ∧ r.2.mem ((c.tc : Thread Cert.RnormRefIdeal.nD Cert.RnormRefIdeal.τ).loc Cert.RnormRefIdeal.main_arg2) = m' ((c.tc : Thread Cert.RnormRefIdeal.nD Cert.RnormRefIdeal.τ).loc Cert.RnormRefIdeal.main_arg2)
          ∧ r.2.mem ((c.tc : Thread Cert.RnormRefIdeal.nD Cert.RnormRefIdeal.τ).loc Cert.RnormRefIdeal.main_arg3) = m' ((c.tc : Thread Cert.RnormRefIdeal.nD Cert.RnormRefIdeal.τ).loc Cert.RnormRefIdeal.main_arg3)
          ∧ r.2.mem ((c.tc : Thread Cert.RnormRefIdeal.nD Cert.RnormRefIdeal.τ).loc Cert.RnormRefIdeal.main_arg4) = m' ((c.tc : Thread Cert.RnormRefIdeal.nD Cert.RnormRefIdeal.τ).loc Cert.RnormRefIdeal.main_arg4)
          ∧ r.2.mem ((c.tc : Thread Cert.RnormRefIdeal.nD Cert.RnormRefIdeal.τ).loc Cert.RnormRefIdeal.main_arg5) = m' ((c.tc : Thread Cert.RnormRefIdeal.nD Cert.RnormRefIdeal.τ).loc Cert.RnormRefIdeal.main_arg5))

def preserves_Sgate_SgateIdeal : Prop :=
  True

def algebraic_SgateIdeal_SgateRefIdeal [hSgateIdeal : Cert.SgateIdeal.Facts] [hSgateRefIdeal : Cert.SgateRefIdeal.Facts] : Prop :=
  ∀ (m : (ℓ : Loc Cert.SgateIdeal.nD Cert.SgateIdeal.τ Cert.SgateIdeal.sig) → Buf (Elt Ideal) ℓ) (g : Dev Cert.SgateIdeal.nD → PrngReg)
    (m' : (ℓ : Loc Cert.SgateRefIdeal.nD Cert.SgateRefIdeal.τ Cert.SgateRefIdeal.sig) → Buf (Elt Ideal) ℓ) (g' : Dev Cert.SgateRefIdeal.nD → PrngReg), Pre_SgateIdeal m →
    (∀ c : Dev Cert.SgateIdeal.nD,
      m' ((c.tc : Thread Cert.SgateRefIdeal.nD Cert.SgateRefIdeal.τ).loc Cert.SgateRefIdeal.main_arg0) = m ((c.tc : Thread Cert.SgateIdeal.nD Cert.SgateIdeal.τ).loc Cert.SgateIdeal.main_arg0)
      ∧ m' ((c.tc : Thread Cert.SgateRefIdeal.nD Cert.SgateRefIdeal.τ).loc Cert.SgateRefIdeal.main_arg1) = m ((c.tc : Thread Cert.SgateIdeal.nD Cert.SgateIdeal.τ).loc Cert.SgateIdeal.main_arg1)
      ∧ m' ((c.tc : Thread Cert.SgateRefIdeal.nD Cert.SgateRefIdeal.τ).loc Cert.SgateRefIdeal.main_arg2) = m ((c.tc : Thread Cert.SgateIdeal.nD Cert.SgateIdeal.τ).loc Cert.SgateIdeal.main_arg2)
      ∧ m' ((c.tc : Thread Cert.SgateRefIdeal.nD Cert.SgateRefIdeal.τ).loc Cert.SgateRefIdeal.main_arg3) = m ((c.tc : Thread Cert.SgateIdeal.nD Cert.SgateIdeal.τ).loc Cert.SgateIdeal.main_arg3)
      ∧ m' ((c.tc : Thread Cert.SgateRefIdeal.nD Cert.SgateRefIdeal.τ).loc Cert.SgateRefIdeal.main_arg4) = m ((c.tc : Thread Cert.SgateIdeal.nD Cert.SgateIdeal.τ).loc Cert.SgateIdeal.main_arg4)) →
    ∃ (v0 : (c : Dev Cert.SgateIdeal.nD) → Buf (Elt Ideal) ((c.tc : Thread Cert.SgateIdeal.nD Cert.SgateIdeal.τ).loc Cert.SgateIdeal.main_v0)),
      θ_run (Cert.SgateIdeal.defs (F := Ideal)) (onTc (τ := Cert.SgateIdeal.τ) (Cert.SgateIdeal.main (F := Ideal))) ⟨m, fun _ => 0, g⟩ (fun r => ∀ c : Dev Cert.SgateIdeal.nD,
          r.2.mem ((c.tc : Thread Cert.SgateIdeal.nD Cert.SgateIdeal.τ).loc Cert.SgateIdeal.main_v0) = v0 c
          ∧ r.2.mem ((c.tc : Thread Cert.SgateIdeal.nD Cert.SgateIdeal.τ).loc Cert.SgateIdeal.main_arg0) = m ((c.tc : Thread Cert.SgateIdeal.nD Cert.SgateIdeal.τ).loc Cert.SgateIdeal.main_arg0)
          ∧ r.2.mem ((c.tc : Thread Cert.SgateIdeal.nD Cert.SgateIdeal.τ).loc Cert.SgateIdeal.main_arg1) = m ((c.tc : Thread Cert.SgateIdeal.nD Cert.SgateIdeal.τ).loc Cert.SgateIdeal.main_arg1)
          ∧ r.2.mem ((c.tc : Thread Cert.SgateIdeal.nD Cert.SgateIdeal.τ).loc Cert.SgateIdeal.main_arg2) = m ((c.tc : Thread Cert.SgateIdeal.nD Cert.SgateIdeal.τ).loc Cert.SgateIdeal.main_arg2)
          ∧ r.2.mem ((c.tc : Thread Cert.SgateIdeal.nD Cert.SgateIdeal.τ).loc Cert.SgateIdeal.main_arg3) = m ((c.tc : Thread Cert.SgateIdeal.nD Cert.SgateIdeal.τ).loc Cert.SgateIdeal.main_arg3)
          ∧ r.2.mem ((c.tc : Thread Cert.SgateIdeal.nD Cert.SgateIdeal.τ).loc Cert.SgateIdeal.main_arg4) = m ((c.tc : Thread Cert.SgateIdeal.nD Cert.SgateIdeal.τ).loc Cert.SgateIdeal.main_arg4))
      ∧ θ_run (Cert.SgateRefIdeal.defs (F := Ideal)) (onTc (τ := Cert.SgateRefIdeal.τ) (Cert.SgateRefIdeal.main (F := Ideal))) ⟨m', fun _ => 0, g'⟩ (fun r => ∀ c : Dev Cert.SgateRefIdeal.nD,
          r.2.mem ((c.tc : Thread Cert.SgateRefIdeal.nD Cert.SgateRefIdeal.τ).loc Cert.SgateRefIdeal.main_v27) = v0 c
          ∧ r.2.mem ((c.tc : Thread Cert.SgateRefIdeal.nD Cert.SgateRefIdeal.τ).loc Cert.SgateRefIdeal.main_arg0) = m' ((c.tc : Thread Cert.SgateRefIdeal.nD Cert.SgateRefIdeal.τ).loc Cert.SgateRefIdeal.main_arg0)
          ∧ r.2.mem ((c.tc : Thread Cert.SgateRefIdeal.nD Cert.SgateRefIdeal.τ).loc Cert.SgateRefIdeal.main_arg1) = m' ((c.tc : Thread Cert.SgateRefIdeal.nD Cert.SgateRefIdeal.τ).loc Cert.SgateRefIdeal.main_arg1)
          ∧ r.2.mem ((c.tc : Thread Cert.SgateRefIdeal.nD Cert.SgateRefIdeal.τ).loc Cert.SgateRefIdeal.main_arg2) = m' ((c.tc : Thread Cert.SgateRefIdeal.nD Cert.SgateRefIdeal.τ).loc Cert.SgateRefIdeal.main_arg2)
          ∧ r.2.mem ((c.tc : Thread Cert.SgateRefIdeal.nD Cert.SgateRefIdeal.τ).loc Cert.SgateRefIdeal.main_arg3) = m' ((c.tc : Thread Cert.SgateRefIdeal.nD Cert.SgateRefIdeal.τ).loc Cert.SgateRefIdeal.main_arg3)
          ∧ r.2.mem ((c.tc : Thread Cert.SgateRefIdeal.nD Cert.SgateRefIdeal.τ).loc Cert.SgateRefIdeal.main_arg4) = m' ((c.tc : Thread Cert.SgateRefIdeal.nD Cert.SgateRefIdeal.τ).loc Cert.SgateRefIdeal.main_arg4))

def preserves_Dtp_DtpIdeal : Prop :=
  True

def algebraic_DtpIdeal_DtpRefIdeal [hDtpIdeal : Cert.DtpIdeal.Facts] [hDtpRefIdeal : Cert.DtpRefIdeal.Facts] : Prop :=
  ∀ (m : (ℓ : Loc Cert.DtpIdeal.nD Cert.DtpIdeal.τ Cert.DtpIdeal.sig) → Buf (Elt Ideal) ℓ) (g : Dev Cert.DtpIdeal.nD → PrngReg)
    (m' : (ℓ : Loc Cert.DtpRefIdeal.nD Cert.DtpRefIdeal.τ Cert.DtpRefIdeal.sig) → Buf (Elt Ideal) ℓ) (g' : Dev Cert.DtpRefIdeal.nD → PrngReg), Pre_DtpIdeal m →
    (∀ c : Dev Cert.DtpIdeal.nD,
      m' ((c.tc : Thread Cert.DtpRefIdeal.nD Cert.DtpRefIdeal.τ).loc Cert.DtpRefIdeal.main_arg0) = m ((c.tc : Thread Cert.DtpIdeal.nD Cert.DtpIdeal.τ).loc Cert.DtpIdeal.main_arg0)
      ∧ m' ((c.tc : Thread Cert.DtpRefIdeal.nD Cert.DtpRefIdeal.τ).loc Cert.DtpRefIdeal.main_arg1) = m ((c.tc : Thread Cert.DtpIdeal.nD Cert.DtpIdeal.τ).loc Cert.DtpIdeal.main_arg1)) →
    ∃ (v0 : (c : Dev Cert.DtpIdeal.nD) → Buf (Elt Ideal) ((c.tc : Thread Cert.DtpIdeal.nD Cert.DtpIdeal.τ).loc Cert.DtpIdeal.main_v0)),
      θ_run (Cert.DtpIdeal.defs (F := Ideal)) (onTc (τ := Cert.DtpIdeal.τ) (Cert.DtpIdeal.main (F := Ideal))) ⟨m, fun _ => 0, g⟩ (fun r => ∀ c : Dev Cert.DtpIdeal.nD,
          r.2.mem ((c.tc : Thread Cert.DtpIdeal.nD Cert.DtpIdeal.τ).loc Cert.DtpIdeal.main_v0) = v0 c
          ∧ r.2.mem ((c.tc : Thread Cert.DtpIdeal.nD Cert.DtpIdeal.τ).loc Cert.DtpIdeal.main_arg0) = m ((c.tc : Thread Cert.DtpIdeal.nD Cert.DtpIdeal.τ).loc Cert.DtpIdeal.main_arg0)
          ∧ r.2.mem ((c.tc : Thread Cert.DtpIdeal.nD Cert.DtpIdeal.τ).loc Cert.DtpIdeal.main_arg1) = m ((c.tc : Thread Cert.DtpIdeal.nD Cert.DtpIdeal.τ).loc Cert.DtpIdeal.main_arg1))
      ∧ θ_run (Cert.DtpRefIdeal.defs (F := Ideal)) (onTc (τ := Cert.DtpRefIdeal.τ) (Cert.DtpRefIdeal.main (F := Ideal))) ⟨m', fun _ => 0, g'⟩ (fun r => ∀ c : Dev Cert.DtpRefIdeal.nD,
          r.2.mem ((c.tc : Thread Cert.DtpRefIdeal.nD Cert.DtpRefIdeal.τ).loc Cert.DtpRefIdeal.main_v2) = v0 c
          ∧ r.2.mem ((c.tc : Thread Cert.DtpRefIdeal.nD Cert.DtpRefIdeal.τ).loc Cert.DtpRefIdeal.main_arg0) = m' ((c.tc : Thread Cert.DtpRefIdeal.nD Cert.DtpRefIdeal.τ).loc Cert.DtpRefIdeal.main_arg0)
          ∧ r.2.mem ((c.tc : Thread Cert.DtpRefIdeal.nD Cert.DtpRefIdeal.τ).loc Cert.DtpRefIdeal.main_arg1) = m' ((c.tc : Thread Cert.DtpRefIdeal.nD Cert.DtpRefIdeal.τ).loc Cert.DtpRefIdeal.main_arg1))

def preserves_Dwdt_DwdtIdeal : Prop :=
  True

def algebraic_DwdtIdeal_DwdtRefIdeal [hDwdtIdeal : Cert.DwdtIdeal.Facts] [hDwdtRefIdeal : Cert.DwdtRefIdeal.Facts] : Prop :=
  ∀ (m : (ℓ : Loc Cert.DwdtIdeal.nD Cert.DwdtIdeal.τ Cert.DwdtIdeal.sig) → Buf (Elt Ideal) ℓ) (g : Dev Cert.DwdtIdeal.nD → PrngReg)
    (m' : (ℓ : Loc Cert.DwdtRefIdeal.nD Cert.DwdtRefIdeal.τ Cert.DwdtRefIdeal.sig) → Buf (Elt Ideal) ℓ) (g' : Dev Cert.DwdtRefIdeal.nD → PrngReg), Pre_DwdtIdeal m →
    (∀ c : Dev Cert.DwdtIdeal.nD,
      m' ((c.tc : Thread Cert.DwdtRefIdeal.nD Cert.DwdtRefIdeal.τ).loc Cert.DwdtRefIdeal.main_arg0) = m ((c.tc : Thread Cert.DwdtIdeal.nD Cert.DwdtIdeal.τ).loc Cert.DwdtIdeal.main_arg0)
      ∧ m' ((c.tc : Thread Cert.DwdtRefIdeal.nD Cert.DwdtRefIdeal.τ).loc Cert.DwdtRefIdeal.main_arg1) = m ((c.tc : Thread Cert.DwdtIdeal.nD Cert.DwdtIdeal.τ).loc Cert.DwdtIdeal.main_arg1)) →
    ∃ (v0 : (c : Dev Cert.DwdtIdeal.nD) → Buf (Elt Ideal) ((c.tc : Thread Cert.DwdtIdeal.nD Cert.DwdtIdeal.τ).loc Cert.DwdtIdeal.main_v0)),
      θ_run (Cert.DwdtIdeal.defs (F := Ideal)) (onTc (τ := Cert.DwdtIdeal.τ) (Cert.DwdtIdeal.main (F := Ideal))) ⟨m, fun _ => 0, g⟩ (fun r => ∀ c : Dev Cert.DwdtIdeal.nD,
          r.2.mem ((c.tc : Thread Cert.DwdtIdeal.nD Cert.DwdtIdeal.τ).loc Cert.DwdtIdeal.main_v0) = v0 c
          ∧ r.2.mem ((c.tc : Thread Cert.DwdtIdeal.nD Cert.DwdtIdeal.τ).loc Cert.DwdtIdeal.main_arg0) = m ((c.tc : Thread Cert.DwdtIdeal.nD Cert.DwdtIdeal.τ).loc Cert.DwdtIdeal.main_arg0)
          ∧ r.2.mem ((c.tc : Thread Cert.DwdtIdeal.nD Cert.DwdtIdeal.τ).loc Cert.DwdtIdeal.main_arg1) = m ((c.tc : Thread Cert.DwdtIdeal.nD Cert.DwdtIdeal.τ).loc Cert.DwdtIdeal.main_arg1))
      ∧ θ_run (Cert.DwdtRefIdeal.defs (F := Ideal)) (onTc (τ := Cert.DwdtRefIdeal.τ) (Cert.DwdtRefIdeal.main (F := Ideal))) ⟨m', fun _ => 0, g'⟩ (fun r => ∀ c : Dev Cert.DwdtRefIdeal.nD,
          r.2.mem ((c.tc : Thread Cert.DwdtRefIdeal.nD Cert.DwdtRefIdeal.τ).loc Cert.DwdtRefIdeal.main_v6) = v0 c
          ∧ r.2.mem ((c.tc : Thread Cert.DwdtRefIdeal.nD Cert.DwdtRefIdeal.τ).loc Cert.DwdtRefIdeal.main_arg0) = m' ((c.tc : Thread Cert.DwdtRefIdeal.nD Cert.DwdtRefIdeal.τ).loc Cert.DwdtRefIdeal.main_arg0)
          ∧ r.2.mem ((c.tc : Thread Cert.DwdtRefIdeal.nD Cert.DwdtRefIdeal.τ).loc Cert.DwdtRefIdeal.main_arg1) = m' ((c.tc : Thread Cert.DwdtRefIdeal.nD Cert.DwdtRefIdeal.τ).loc Cert.DwdtRefIdeal.main_arg1))

def preserves_Dxdt_DxdtIdeal : Prop :=
  True

def algebraic_DxdtIdeal_DxdtRefIdeal [hDxdtIdeal : Cert.DxdtIdeal.Facts] [hDxdtRefIdeal : Cert.DxdtRefIdeal.Facts] : Prop :=
  ∀ (m : (ℓ : Loc Cert.DxdtIdeal.nD Cert.DxdtIdeal.τ Cert.DxdtIdeal.sig) → Buf (Elt Ideal) ℓ) (g : Dev Cert.DxdtIdeal.nD → PrngReg)
    (m' : (ℓ : Loc Cert.DxdtRefIdeal.nD Cert.DxdtRefIdeal.τ Cert.DxdtRefIdeal.sig) → Buf (Elt Ideal) ℓ) (g' : Dev Cert.DxdtRefIdeal.nD → PrngReg), Pre_DxdtIdeal m →
    (∀ c : Dev Cert.DxdtIdeal.nD,
      m' ((c.tc : Thread Cert.DxdtRefIdeal.nD Cert.DxdtRefIdeal.τ).loc Cert.DxdtRefIdeal.main_arg0) = m ((c.tc : Thread Cert.DxdtIdeal.nD Cert.DxdtIdeal.τ).loc Cert.DxdtIdeal.main_arg0)
      ∧ m' ((c.tc : Thread Cert.DxdtRefIdeal.nD Cert.DxdtRefIdeal.τ).loc Cert.DxdtRefIdeal.main_arg1) = m ((c.tc : Thread Cert.DxdtIdeal.nD Cert.DxdtIdeal.τ).loc Cert.DxdtIdeal.main_arg1)
      ∧ m' ((c.tc : Thread Cert.DxdtRefIdeal.nD Cert.DxdtRefIdeal.τ).loc Cert.DxdtRefIdeal.main_arg2) = m ((c.tc : Thread Cert.DxdtIdeal.nD Cert.DxdtIdeal.τ).loc Cert.DxdtIdeal.main_arg2)) →
    ∃ (v0 : (c : Dev Cert.DxdtIdeal.nD) → Buf (Elt Ideal) ((c.tc : Thread Cert.DxdtIdeal.nD Cert.DxdtIdeal.τ).loc Cert.DxdtIdeal.main_v0)),
      θ_run (Cert.DxdtIdeal.defs (F := Ideal)) (onTc (τ := Cert.DxdtIdeal.τ) (Cert.DxdtIdeal.main (F := Ideal))) ⟨m, fun _ => 0, g⟩ (fun r => ∀ c : Dev Cert.DxdtIdeal.nD,
          r.2.mem ((c.tc : Thread Cert.DxdtIdeal.nD Cert.DxdtIdeal.τ).loc Cert.DxdtIdeal.main_v0) = v0 c
          ∧ r.2.mem ((c.tc : Thread Cert.DxdtIdeal.nD Cert.DxdtIdeal.τ).loc Cert.DxdtIdeal.main_arg0) = m ((c.tc : Thread Cert.DxdtIdeal.nD Cert.DxdtIdeal.τ).loc Cert.DxdtIdeal.main_arg0)
          ∧ r.2.mem ((c.tc : Thread Cert.DxdtIdeal.nD Cert.DxdtIdeal.τ).loc Cert.DxdtIdeal.main_arg1) = m ((c.tc : Thread Cert.DxdtIdeal.nD Cert.DxdtIdeal.τ).loc Cert.DxdtIdeal.main_arg1)
          ∧ r.2.mem ((c.tc : Thread Cert.DxdtIdeal.nD Cert.DxdtIdeal.τ).loc Cert.DxdtIdeal.main_arg2) = m ((c.tc : Thread Cert.DxdtIdeal.nD Cert.DxdtIdeal.τ).loc Cert.DxdtIdeal.main_arg2))
      ∧ θ_run (Cert.DxdtRefIdeal.defs (F := Ideal)) (onTc (τ := Cert.DxdtRefIdeal.τ) (Cert.DxdtRefIdeal.main (F := Ideal))) ⟨m', fun _ => 0, g'⟩ (fun r => ∀ c : Dev Cert.DxdtRefIdeal.nD,
          r.2.mem ((c.tc : Thread Cert.DxdtRefIdeal.nD Cert.DxdtRefIdeal.τ).loc Cert.DxdtRefIdeal.main_v5) = v0 c
          ∧ r.2.mem ((c.tc : Thread Cert.DxdtRefIdeal.nD Cert.DxdtRefIdeal.τ).loc Cert.DxdtRefIdeal.main_arg0) = m' ((c.tc : Thread Cert.DxdtRefIdeal.nD Cert.DxdtRefIdeal.τ).loc Cert.DxdtRefIdeal.main_arg0)
          ∧ r.2.mem ((c.tc : Thread Cert.DxdtRefIdeal.nD Cert.DxdtRefIdeal.τ).loc Cert.DxdtRefIdeal.main_arg1) = m' ((c.tc : Thread Cert.DxdtRefIdeal.nD Cert.DxdtRefIdeal.τ).loc Cert.DxdtRefIdeal.main_arg1)
          ∧ r.2.mem ((c.tc : Thread Cert.DxdtRefIdeal.nD Cert.DxdtRefIdeal.τ).loc Cert.DxdtRefIdeal.main_arg2) = m' ((c.tc : Thread Cert.DxdtRefIdeal.nD Cert.DxdtRefIdeal.τ).loc Cert.DxdtRefIdeal.main_arg2))

def preserves_Cnorm_CnormIdeal : Prop :=
  True

def algebraic_CnormIdeal_CnormRefIdeal [hCnormIdeal : Cert.CnormIdeal.Facts] [hCnormRefIdeal : Cert.CnormRefIdeal.Facts] : Prop :=
  ∀ (m : (ℓ : Loc Cert.CnormIdeal.nD Cert.CnormIdeal.τ Cert.CnormIdeal.sig) → Buf (Elt Ideal) ℓ) (g : Dev Cert.CnormIdeal.nD → PrngReg)
    (m' : (ℓ : Loc Cert.CnormRefIdeal.nD Cert.CnormRefIdeal.τ Cert.CnormRefIdeal.sig) → Buf (Elt Ideal) ℓ) (g' : Dev Cert.CnormRefIdeal.nD → PrngReg), Pre_CnormIdeal m →
    (∀ c : Dev Cert.CnormIdeal.nD,
      m' ((c.tc : Thread Cert.CnormRefIdeal.nD Cert.CnormRefIdeal.τ).loc Cert.CnormRefIdeal.main_arg0) = m ((c.tc : Thread Cert.CnormIdeal.nD Cert.CnormIdeal.τ).loc Cert.CnormIdeal.main_arg0)
      ∧ m' ((c.tc : Thread Cert.CnormRefIdeal.nD Cert.CnormRefIdeal.τ).loc Cert.CnormRefIdeal.main_arg1) = m ((c.tc : Thread Cert.CnormIdeal.nD Cert.CnormIdeal.τ).loc Cert.CnormIdeal.main_arg1)
      ∧ m' ((c.tc : Thread Cert.CnormRefIdeal.nD Cert.CnormRefIdeal.τ).loc Cert.CnormRefIdeal.main_arg2) = m ((c.tc : Thread Cert.CnormIdeal.nD Cert.CnormIdeal.τ).loc Cert.CnormIdeal.main_arg2)
      ∧ m' ((c.tc : Thread Cert.CnormRefIdeal.nD Cert.CnormRefIdeal.τ).loc Cert.CnormRefIdeal.main_arg3) = m ((c.tc : Thread Cert.CnormIdeal.nD Cert.CnormIdeal.τ).loc Cert.CnormIdeal.main_arg3)
      ∧ m' ((c.tc : Thread Cert.CnormRefIdeal.nD Cert.CnormRefIdeal.τ).loc Cert.CnormRefIdeal.main_arg4) = m ((c.tc : Thread Cert.CnormIdeal.nD Cert.CnormIdeal.τ).loc Cert.CnormIdeal.main_arg4)) →
    ∃ (v0 : (c : Dev Cert.CnormIdeal.nD) → Buf (Elt Ideal) ((c.tc : Thread Cert.CnormIdeal.nD Cert.CnormIdeal.τ).loc Cert.CnormIdeal.main_v0)),
      θ_run (Cert.CnormIdeal.defs (F := Ideal)) (onTc (τ := Cert.CnormIdeal.τ) (Cert.CnormIdeal.main (F := Ideal))) ⟨m, fun _ => 0, g⟩ (fun r => ∀ c : Dev Cert.CnormIdeal.nD,
          r.2.mem ((c.tc : Thread Cert.CnormIdeal.nD Cert.CnormIdeal.τ).loc Cert.CnormIdeal.main_v0) = v0 c
          ∧ r.2.mem ((c.tc : Thread Cert.CnormIdeal.nD Cert.CnormIdeal.τ).loc Cert.CnormIdeal.main_arg0) = m ((c.tc : Thread Cert.CnormIdeal.nD Cert.CnormIdeal.τ).loc Cert.CnormIdeal.main_arg0)
          ∧ r.2.mem ((c.tc : Thread Cert.CnormIdeal.nD Cert.CnormIdeal.τ).loc Cert.CnormIdeal.main_arg1) = m ((c.tc : Thread Cert.CnormIdeal.nD Cert.CnormIdeal.τ).loc Cert.CnormIdeal.main_arg1)
          ∧ r.2.mem ((c.tc : Thread Cert.CnormIdeal.nD Cert.CnormIdeal.τ).loc Cert.CnormIdeal.main_arg2) = m ((c.tc : Thread Cert.CnormIdeal.nD Cert.CnormIdeal.τ).loc Cert.CnormIdeal.main_arg2)
          ∧ r.2.mem ((c.tc : Thread Cert.CnormIdeal.nD Cert.CnormIdeal.τ).loc Cert.CnormIdeal.main_arg3) = m ((c.tc : Thread Cert.CnormIdeal.nD Cert.CnormIdeal.τ).loc Cert.CnormIdeal.main_arg3)
          ∧ r.2.mem ((c.tc : Thread Cert.CnormIdeal.nD Cert.CnormIdeal.τ).loc Cert.CnormIdeal.main_arg4) = m ((c.tc : Thread Cert.CnormIdeal.nD Cert.CnormIdeal.τ).loc Cert.CnormIdeal.main_arg4))
      ∧ θ_run (Cert.CnormRefIdeal.defs (F := Ideal)) (onTc (τ := Cert.CnormRefIdeal.τ) (Cert.CnormRefIdeal.main (F := Ideal))) ⟨m', fun _ => 0, g'⟩ (fun r => ∀ c : Dev Cert.CnormRefIdeal.nD,
          r.2.mem ((c.tc : Thread Cert.CnormRefIdeal.nD Cert.CnormRefIdeal.τ).loc Cert.CnormRefIdeal.main_v41) = v0 c
          ∧ r.2.mem ((c.tc : Thread Cert.CnormRefIdeal.nD Cert.CnormRefIdeal.τ).loc Cert.CnormRefIdeal.main_arg0) = m' ((c.tc : Thread Cert.CnormRefIdeal.nD Cert.CnormRefIdeal.τ).loc Cert.CnormRefIdeal.main_arg0)
          ∧ r.2.mem ((c.tc : Thread Cert.CnormRefIdeal.nD Cert.CnormRefIdeal.τ).loc Cert.CnormRefIdeal.main_arg1) = m' ((c.tc : Thread Cert.CnormRefIdeal.nD Cert.CnormRefIdeal.τ).loc Cert.CnormRefIdeal.main_arg1)
          ∧ r.2.mem ((c.tc : Thread Cert.CnormRefIdeal.nD Cert.CnormRefIdeal.τ).loc Cert.CnormRefIdeal.main_arg2) = m' ((c.tc : Thread Cert.CnormRefIdeal.nD Cert.CnormRefIdeal.τ).loc Cert.CnormRefIdeal.main_arg2)
          ∧ r.2.mem ((c.tc : Thread Cert.CnormRefIdeal.nD Cert.CnormRefIdeal.τ).loc Cert.CnormRefIdeal.main_arg3) = m' ((c.tc : Thread Cert.CnormRefIdeal.nD Cert.CnormRefIdeal.τ).loc Cert.CnormRefIdeal.main_arg3)
          ∧ r.2.mem ((c.tc : Thread Cert.CnormRefIdeal.nD Cert.CnormRefIdeal.τ).loc Cert.CnormRefIdeal.main_arg4) = m' ((c.tc : Thread Cert.CnormRefIdeal.nD Cert.CnormRefIdeal.τ).loc Cert.CnormRefIdeal.main_arg4))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v0)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v0) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v17) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Axial_AxialIdeal : Prop :=
  True

def algebraic_AxialIdeal_AxialRefIdeal [hAxialIdeal : Cert.AxialIdeal.Facts] [hAxialRefIdeal : Cert.AxialRefIdeal.Facts] : Prop :=
  ∀ (m : (ℓ : Loc Cert.AxialIdeal.nD Cert.AxialIdeal.τ Cert.AxialIdeal.sig) → Buf (Elt Ideal) ℓ) (g : Dev Cert.AxialIdeal.nD → PrngReg)
    (m' : (ℓ : Loc Cert.AxialRefIdeal.nD Cert.AxialRefIdeal.τ Cert.AxialRefIdeal.sig) → Buf (Elt Ideal) ℓ) (g' : Dev Cert.AxialRefIdeal.nD → PrngReg), Pre_AxialIdeal m →
    (∀ c : Dev Cert.AxialIdeal.nD,
      m' ((c.tc : Thread Cert.AxialRefIdeal.nD Cert.AxialRefIdeal.τ).loc Cert.AxialRefIdeal.main_arg0) = m ((c.tc : Thread Cert.AxialIdeal.nD Cert.AxialIdeal.τ).loc Cert.AxialIdeal.main_arg0)
      ∧ m' ((c.tc : Thread Cert.AxialRefIdeal.nD Cert.AxialRefIdeal.τ).loc Cert.AxialRefIdeal.main_arg1) = m ((c.tc : Thread Cert.AxialIdeal.nD Cert.AxialIdeal.τ).loc Cert.AxialIdeal.main_arg1)
      ∧ m' ((c.tc : Thread Cert.AxialRefIdeal.nD Cert.AxialRefIdeal.τ).loc Cert.AxialRefIdeal.main_arg2) = m ((c.tc : Thread Cert.AxialIdeal.nD Cert.AxialIdeal.τ).loc Cert.AxialIdeal.main_arg2)) →
    ∃ (v0 : (c : Dev Cert.AxialIdeal.nD) → Buf (Elt Ideal) ((c.tc : Thread Cert.AxialIdeal.nD Cert.AxialIdeal.τ).loc Cert.AxialIdeal.main_v12)) (v1 : (c : Dev Cert.AxialIdeal.nD) → Buf (Elt Ideal) ((c.tc : Thread Cert.AxialIdeal.nD Cert.AxialIdeal.τ).loc Cert.AxialIdeal.main_v9)),
      θ_run (Cert.AxialIdeal.defs (F := Ideal)) (onTc (τ := Cert.AxialIdeal.τ) (Cert.AxialIdeal.main (F := Ideal))) ⟨m, fun _ => 0, g⟩ (fun r => ∀ c : Dev Cert.AxialIdeal.nD,
          r.2.mem ((c.tc : Thread Cert.AxialIdeal.nD Cert.AxialIdeal.τ).loc Cert.AxialIdeal.main_v12) = v0 c
          ∧ r.2.mem ((c.tc : Thread Cert.AxialIdeal.nD Cert.AxialIdeal.τ).loc Cert.AxialIdeal.main_v9) = v1 c
          ∧ r.2.mem ((c.tc : Thread Cert.AxialIdeal.nD Cert.AxialIdeal.τ).loc Cert.AxialIdeal.main_arg0) = m ((c.tc : Thread Cert.AxialIdeal.nD Cert.AxialIdeal.τ).loc Cert.AxialIdeal.main_arg0)
          ∧ r.2.mem ((c.tc : Thread Cert.AxialIdeal.nD Cert.AxialIdeal.τ).loc Cert.AxialIdeal.main_arg1) = m ((c.tc : Thread Cert.AxialIdeal.nD Cert.AxialIdeal.τ).loc Cert.AxialIdeal.main_arg1)
          ∧ r.2.mem ((c.tc : Thread Cert.AxialIdeal.nD Cert.AxialIdeal.τ).loc Cert.AxialIdeal.main_arg2) = m ((c.tc : Thread Cert.AxialIdeal.nD Cert.AxialIdeal.τ).loc Cert.AxialIdeal.main_arg2))
      ∧ θ_run (Cert.AxialRefIdeal.defs (F := Ideal)) (onTc (τ := Cert.AxialRefIdeal.τ) (Cert.AxialRefIdeal.main (F := Ideal))) ⟨m', fun _ => 0, g'⟩ (fun r => ∀ c : Dev Cert.AxialRefIdeal.nD,
          r.2.mem ((c.tc : Thread Cert.AxialRefIdeal.nD Cert.AxialRefIdeal.τ).loc Cert.AxialRefIdeal.main_v203) = v0 c
          ∧ r.2.mem ((c.tc : Thread Cert.AxialRefIdeal.nD Cert.AxialRefIdeal.τ).loc Cert.AxialRefIdeal.main_v204) = v1 c
          ∧ r.2.mem ((c.tc : Thread Cert.AxialRefIdeal.nD Cert.AxialRefIdeal.τ).loc Cert.AxialRefIdeal.main_arg0) = m' ((c.tc : Thread Cert.AxialRefIdeal.nD Cert.AxialRefIdeal.τ).loc Cert.AxialRefIdeal.main_arg0)
          ∧ r.2.mem ((c.tc : Thread Cert.AxialRefIdeal.nD Cert.AxialRefIdeal.τ).loc Cert.AxialRefIdeal.main_arg1) = m' ((c.tc : Thread Cert.AxialRefIdeal.nD Cert.AxialRefIdeal.τ).loc Cert.AxialRefIdeal.main_arg1)
          ∧ r.2.mem ((c.tc : Thread Cert.AxialRefIdeal.nD Cert.AxialRefIdeal.τ).loc Cert.AxialRefIdeal.main_arg2) = m' ((c.tc : Thread Cert.AxialRefIdeal.nD Cert.AxialRefIdeal.τ).loc Cert.AxialRefIdeal.main_arg2))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v6) = v2 c
          ∧ r.2.mem ((c.tc : Thread Cert.AdamInRefIdeal.nD Cert.AdamInRefIdeal.τ).loc Cert.AdamInRefIdeal.main_v12) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v1) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v6) = v2 c
          ∧ r.2.mem ((c.tc : Thread Cert.AdamOutRefIdeal.nD Cert.AdamOutRefIdeal.τ).loc Cert.AdamOutRefIdeal.main_v12) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamPwin_AdamPwinIdeal : Prop :=
  True

def algebraic_AdamPwinIdeal_AdamPwinRefIdeal [hAdamPwinIdeal : Cert.AdamPwinIdeal.Facts] [hAdamPwinRefIdeal : Cert.AdamPwinRefIdeal.Facts] : Prop :=
  ∀ (m : (ℓ : Loc Cert.AdamPwinIdeal.nD Cert.AdamPwinIdeal.τ Cert.AdamPwinIdeal.sig) → Buf (Elt Ideal) ℓ) (g : Dev Cert.AdamPwinIdeal.nD → PrngReg)
    (m' : (ℓ : Loc Cert.AdamPwinRefIdeal.nD Cert.AdamPwinRefIdeal.τ Cert.AdamPwinRefIdeal.sig) → Buf (Elt Ideal) ℓ) (g' : Dev Cert.AdamPwinRefIdeal.nD → PrngReg), Pre_AdamPwinIdeal m →
    (∀ c : Dev Cert.AdamPwinIdeal.nD,
      m' ((c.tc : Thread Cert.AdamPwinRefIdeal.nD Cert.AdamPwinRefIdeal.τ).loc Cert.AdamPwinRefIdeal.main_arg0) = m ((c.tc : Thread Cert.AdamPwinIdeal.nD Cert.AdamPwinIdeal.τ).loc Cert.AdamPwinIdeal.main_arg0)
      ∧ m' ((c.tc : Thread Cert.AdamPwinRefIdeal.nD Cert.AdamPwinRefIdeal.τ).loc Cert.AdamPwinRefIdeal.main_arg1) = m ((c.tc : Thread Cert.AdamPwinIdeal.nD Cert.AdamPwinIdeal.τ).loc Cert.AdamPwinIdeal.main_arg1)
      ∧ m' ((c.tc : Thread Cert.AdamPwinRefIdeal.nD Cert.AdamPwinRefIdeal.τ).loc Cert.AdamPwinRefIdeal.main_arg2) = m ((c.tc : Thread Cert.AdamPwinIdeal.nD Cert.AdamPwinIdeal.τ).loc Cert.AdamPwinIdeal.main_arg2)
      ∧ m' ((c.tc : Thread Cert.AdamPwinRefIdeal.nD Cert.AdamPwinRefIdeal.τ).loc Cert.AdamPwinRefIdeal.main_arg3) = m ((c.tc : Thread Cert.AdamPwinIdeal.nD Cert.AdamPwinIdeal.τ).loc Cert.AdamPwinIdeal.main_arg3)) →
    ∃ (v0 : (c : Dev Cert.AdamPwinIdeal.nD) → Buf (Elt Ideal) ((c.tc : Thread Cert.AdamPwinIdeal.nD Cert.AdamPwinIdeal.τ).loc Cert.AdamPwinIdeal.main_v0_0)) (v1 : (c : Dev Cert.AdamPwinIdeal.nD) → Buf (Elt Ideal) ((c.tc : Thread Cert.AdamPwinIdeal.nD Cert.AdamPwinIdeal.τ).loc Cert.AdamPwinIdeal.main_v0_1)) (v2 : (c : Dev Cert.AdamPwinIdeal.nD) → Buf (Elt Ideal) ((c.tc : Thread Cert.AdamPwinIdeal.nD Cert.AdamPwinIdeal.τ).loc Cert.AdamPwinIdeal.main_v0_2)) (v3 : (c : Dev Cert.AdamPwinIdeal.nD) → Buf (Elt Ideal) ((c.tc : Thread Cert.AdamPwinIdeal.nD Cert.AdamPwinIdeal.τ).loc Cert.AdamPwinIdeal.main_v0_3)),
      θ_run (Cert.AdamPwinIdeal.defs (F := Ideal)) (onTc (τ := Cert.AdamPwinIdeal.τ) (Cert.AdamPwinIdeal.main (F := Ideal))) ⟨m, fun _ => 0, g⟩ (fun r => ∀ c : Dev Cert.AdamPwinIdeal.nD,
          r.2.mem ((c.tc : Thread Cert.AdamPwinIdeal.nD Cert.AdamPwinIdeal.τ).loc Cert.AdamPwinIdeal.main_v0_0) = v0 c
          ∧ r.2.mem ((c.tc : Thread Cert.AdamPwinIdeal.nD Cert.AdamPwinIdeal.τ).loc Cert.AdamPwinIdeal.main_v0_1) = v1 c
          ∧ r.2.mem ((c.tc : Thread Cert.AdamPwinIdeal.nD Cert.AdamPwinIdeal.τ).loc Cert.AdamPwinIdeal.main_v0_2) = v2 c
          ∧ r.2.mem ((c.tc : Thread Cert.AdamPwinIdeal.nD Cert.AdamPwinIdeal.τ).loc Cert.AdamPwinIdeal.main_v0_3) = v3 c
          ∧ r.2.mem ((c.tc : Thread Cert.AdamPwinIdeal.nD Cert.AdamPwinIdeal.τ).loc Cert.AdamPwinIdeal.main_arg0) = m ((c.tc : Thread Cert.AdamPwinIdeal.nD Cert.AdamPwinIdeal.τ).loc Cert.AdamPwinIdeal.main_arg0)
          ∧ r.2.mem ((c.tc : Thread Cert.AdamPwinIdeal.nD Cert.AdamPwinIdeal.τ).loc Cert.AdamPwinIdeal.main_arg1) = m ((c.tc : Thread Cert.AdamPwinIdeal.nD Cert.AdamPwinIdeal.τ).loc Cert.AdamPwinIdeal.main_arg1)
          ∧ r.2.mem ((c.tc : Thread Cert.AdamPwinIdeal.nD Cert.AdamPwinIdeal.τ).loc Cert.AdamPwinIdeal.main_arg2) = m ((c.tc : Thread Cert.AdamPwinIdeal.nD Cert.AdamPwinIdeal.τ).loc Cert.AdamPwinIdeal.main_arg2)
          ∧ r.2.mem ((c.tc : Thread Cert.AdamPwinIdeal.nD Cert.AdamPwinIdeal.τ).loc Cert.AdamPwinIdeal.main_arg3) = m ((c.tc : Thread Cert.AdamPwinIdeal.nD Cert.AdamPwinIdeal.τ).loc Cert.AdamPwinIdeal.main_arg3))
      ∧ θ_run (Cert.AdamPwinRefIdeal.defs (F := Ideal)) (onTc (τ := Cert.AdamPwinRefIdeal.τ) (Cert.AdamPwinRefIdeal.main (F := Ideal))) ⟨m', fun _ => 0, g'⟩ (fun r => ∀ c : Dev Cert.AdamPwinRefIdeal.nD,
          r.2.mem ((c.tc : Thread Cert.AdamPwinRefIdeal.nD Cert.AdamPwinRefIdeal.τ).loc Cert.AdamPwinRefIdeal.main_v1) = v0 c
          ∧ r.2.mem ((c.tc : Thread Cert.AdamPwinRefIdeal.nD Cert.AdamPwinRefIdeal.τ).loc Cert.AdamPwinRefIdeal.main_v25) = v1 c
          ∧ r.2.mem ((c.tc : Thread Cert.AdamPwinRefIdeal.nD Cert.AdamPwinRefIdeal.τ).loc Cert.AdamPwinRefIdeal.main_v6) = v2 c
          ∧ r.2.mem ((c.tc : Thread Cert.AdamPwinRefIdeal.nD Cert.AdamPwinRefIdeal.τ).loc Cert.AdamPwinRefIdeal.main_v12) = v3 c
          ∧ r.2.mem ((c.tc : Thread Cert.AdamPwinRefIdeal.nD Cert.AdamPwinRefIdeal.τ).loc Cert.AdamPwinRefIdeal.main_arg0) = m' ((c.tc : Thread Cert.AdamPwinRefIdeal.nD Cert.AdamPwinRefIdeal.τ).loc Cert.AdamPwinRefIdeal.main_arg0)
          ∧ r.2.mem ((c.tc : Thread Cert.AdamPwinRefIdeal.nD Cert.AdamPwinRefIdeal.τ).loc Cert.AdamPwinRefIdeal.main_arg1) = m' ((c.tc : Thread Cert.AdamPwinRefIdeal.nD Cert.AdamPwinRefIdeal.τ).loc Cert.AdamPwinRefIdeal.main_arg1)
          ∧ r.2.mem ((c.tc : Thread Cert.AdamPwinRefIdeal.nD Cert.AdamPwinRefIdeal.τ).loc Cert.AdamPwinRefIdeal.main_arg2) = m' ((c.tc : Thread Cert.AdamPwinRefIdeal.nD Cert.AdamPwinRefIdeal.τ).loc Cert.AdamPwinRefIdeal.main_arg2)
          ∧ r.2.mem ((c.tc : Thread Cert.AdamPwinRefIdeal.nD Cert.AdamPwinRefIdeal.τ).loc Cert.AdamPwinRefIdeal.main_arg3) = m' ((c.tc : Thread Cert.AdamPwinRefIdeal.nD Cert.AdamPwinRefIdeal.τ).loc Cert.AdamPwinRefIdeal.main_arg3))

def preserves_AdamPwout_AdamPwoutIdeal : Prop :=
  True

def algebraic_AdamPwoutIdeal_AdamPwoutRefIdeal [hAdamPwoutIdeal : Cert.AdamPwoutIdeal.Facts] [hAdamPwoutRefIdeal : Cert.AdamPwoutRefIdeal.Facts] : Prop :=
  ∀ (m : (ℓ : Loc Cert.AdamPwoutIdeal.nD Cert.AdamPwoutIdeal.τ Cert.AdamPwoutIdeal.sig) → Buf (Elt Ideal) ℓ) (g : Dev Cert.AdamPwoutIdeal.nD → PrngReg)
    (m' : (ℓ : Loc Cert.AdamPwoutRefIdeal.nD Cert.AdamPwoutRefIdeal.τ Cert.AdamPwoutRefIdeal.sig) → Buf (Elt Ideal) ℓ) (g' : Dev Cert.AdamPwoutRefIdeal.nD → PrngReg), Pre_AdamPwoutIdeal m →
    (∀ c : Dev Cert.AdamPwoutIdeal.nD,
      m' ((c.tc : Thread Cert.AdamPwoutRefIdeal.nD Cert.AdamPwoutRefIdeal.τ).loc Cert.AdamPwoutRefIdeal.main_arg0) = m ((c.tc : Thread Cert.AdamPwoutIdeal.nD Cert.AdamPwoutIdeal.τ).loc Cert.AdamPwoutIdeal.main_arg0)
      ∧ m' ((c.tc : Thread Cert.AdamPwoutRefIdeal.nD Cert.AdamPwoutRefIdeal.τ).loc Cert.AdamPwoutRefIdeal.main_arg1) = m ((c.tc : Thread Cert.AdamPwoutIdeal.nD Cert.AdamPwoutIdeal.τ).loc Cert.AdamPwoutIdeal.main_arg1)
      ∧ m' ((c.tc : Thread Cert.AdamPwoutRefIdeal.nD Cert.AdamPwoutRefIdeal.τ).loc Cert.AdamPwoutRefIdeal.main_arg2) = m ((c.tc : Thread Cert.AdamPwoutIdeal.nD Cert.AdamPwoutIdeal.τ).loc Cert.AdamPwoutIdeal.main_arg2)
      ∧ m' ((c.tc : Thread Cert.AdamPwoutRefIdeal.nD Cert.AdamPwoutRefIdeal.τ).loc Cert.AdamPwoutRefIdeal.main_arg3) = m ((c.tc : Thread Cert.AdamPwoutIdeal.nD Cert.AdamPwoutIdeal.τ).loc Cert.AdamPwoutIdeal.main_arg3)) →
    ∃ (v0 : (c : Dev Cert.AdamPwoutIdeal.nD) → Buf (Elt Ideal) ((c.tc : Thread Cert.AdamPwoutIdeal.nD Cert.AdamPwoutIdeal.τ).loc Cert.AdamPwoutIdeal.main_v0_0)) (v1 : (c : Dev Cert.AdamPwoutIdeal.nD) → Buf (Elt Ideal) ((c.tc : Thread Cert.AdamPwoutIdeal.nD Cert.AdamPwoutIdeal.τ).loc Cert.AdamPwoutIdeal.main_v0_1)) (v2 : (c : Dev Cert.AdamPwoutIdeal.nD) → Buf (Elt Ideal) ((c.tc : Thread Cert.AdamPwoutIdeal.nD Cert.AdamPwoutIdeal.τ).loc Cert.AdamPwoutIdeal.main_v0_2)) (v3 : (c : Dev Cert.AdamPwoutIdeal.nD) → Buf (Elt Ideal) ((c.tc : Thread Cert.AdamPwoutIdeal.nD Cert.AdamPwoutIdeal.τ).loc Cert.AdamPwoutIdeal.main_v0_3)),
      θ_run (Cert.AdamPwoutIdeal.defs (F := Ideal)) (onTc (τ := Cert.AdamPwoutIdeal.τ) (Cert.AdamPwoutIdeal.main (F := Ideal))) ⟨m, fun _ => 0, g⟩ (fun r => ∀ c : Dev Cert.AdamPwoutIdeal.nD,
          r.2.mem ((c.tc : Thread Cert.AdamPwoutIdeal.nD Cert.AdamPwoutIdeal.τ).loc Cert.AdamPwoutIdeal.main_v0_0) = v0 c
          ∧ r.2.mem ((c.tc : Thread Cert.AdamPwoutIdeal.nD Cert.AdamPwoutIdeal.τ).loc Cert.AdamPwoutIdeal.main_v0_1) = v1 c
          ∧ r.2.mem ((c.tc : Thread Cert.AdamPwoutIdeal.nD Cert.AdamPwoutIdeal.τ).loc Cert.AdamPwoutIdeal.main_v0_2) = v2 c
          ∧ r.2.mem ((c.tc : Thread Cert.AdamPwoutIdeal.nD Cert.AdamPwoutIdeal.τ).loc Cert.AdamPwoutIdeal.main_v0_3) = v3 c
          ∧ r.2.mem ((c.tc : Thread Cert.AdamPwoutIdeal.nD Cert.AdamPwoutIdeal.τ).loc Cert.AdamPwoutIdeal.main_arg0) = m ((c.tc : Thread Cert.AdamPwoutIdeal.nD Cert.AdamPwoutIdeal.τ).loc Cert.AdamPwoutIdeal.main_arg0)
          ∧ r.2.mem ((c.tc : Thread Cert.AdamPwoutIdeal.nD Cert.AdamPwoutIdeal.τ).loc Cert.AdamPwoutIdeal.main_arg1) = m ((c.tc : Thread Cert.AdamPwoutIdeal.nD Cert.AdamPwoutIdeal.τ).loc Cert.AdamPwoutIdeal.main_arg1)
          ∧ r.2.mem ((c.tc : Thread Cert.AdamPwoutIdeal.nD Cert.AdamPwoutIdeal.τ).loc Cert.AdamPwoutIdeal.main_arg2) = m ((c.tc : Thread Cert.AdamPwoutIdeal.nD Cert.AdamPwoutIdeal.τ).loc Cert.AdamPwoutIdeal.main_arg2)
          ∧ r.2.mem ((c.tc : Thread Cert.AdamPwoutIdeal.nD Cert.AdamPwoutIdeal.τ).loc Cert.AdamPwoutIdeal.main_arg3) = m ((c.tc : Thread Cert.AdamPwoutIdeal.nD Cert.AdamPwoutIdeal.τ).loc Cert.AdamPwoutIdeal.main_arg3))
      ∧ θ_run (Cert.AdamPwoutRefIdeal.defs (F := Ideal)) (onTc (τ := Cert.AdamPwoutRefIdeal.τ) (Cert.AdamPwoutRefIdeal.main (F := Ideal))) ⟨m', fun _ => 0, g'⟩ (fun r => ∀ c : Dev Cert.AdamPwoutRefIdeal.nD,
          r.2.mem ((c.tc : Thread Cert.AdamPwoutRefIdeal.nD Cert.AdamPwoutRefIdeal.τ).loc Cert.AdamPwoutRefIdeal.main_v1) = v0 c
          ∧ r.2.mem ((c.tc : Thread Cert.AdamPwoutRefIdeal.nD Cert.AdamPwoutRefIdeal.τ).loc Cert.AdamPwoutRefIdeal.main_v25) = v1 c
          ∧ r.2.mem ((c.tc : Thread Cert.AdamPwoutRefIdeal.nD Cert.AdamPwoutRefIdeal.τ).loc Cert.AdamPwoutRefIdeal.main_v6) = v2 c
          ∧ r.2.mem ((c.tc : Thread Cert.AdamPwoutRefIdeal.nD Cert.AdamPwoutRefIdeal.τ).loc Cert.AdamPwoutRefIdeal.main_v12) = v3 c
          ∧ r.2.mem ((c.tc : Thread Cert.AdamPwoutRefIdeal.nD Cert.AdamPwoutRefIdeal.τ).loc Cert.AdamPwoutRefIdeal.main_arg0) = m' ((c.tc : Thread Cert.AdamPwoutRefIdeal.nD Cert.AdamPwoutRefIdeal.τ).loc Cert.AdamPwoutRefIdeal.main_arg0)
          ∧ r.2.mem ((c.tc : Thread Cert.AdamPwoutRefIdeal.nD Cert.AdamPwoutRefIdeal.τ).loc Cert.AdamPwoutRefIdeal.main_arg1) = m' ((c.tc : Thread Cert.AdamPwoutRefIdeal.nD Cert.AdamPwoutRefIdeal.τ).loc Cert.AdamPwoutRefIdeal.main_arg1)
          ∧ r.2.mem ((c.tc : Thread Cert.AdamPwoutRefIdeal.nD Cert.AdamPwoutRefIdeal.τ).loc Cert.AdamPwoutRefIdeal.main_arg2) = m' ((c.tc : Thread Cert.AdamPwoutRefIdeal.nD Cert.AdamPwoutRefIdeal.τ).loc Cert.AdamPwoutRefIdeal.main_arg2)
          ∧ r.2.mem ((c.tc : Thread Cert.AdamPwoutRefIdeal.nD Cert.AdamPwoutRefIdeal.τ).loc Cert.AdamPwoutRefIdeal.main_arg3) = m' ((c.tc : Thread Cert.AdamPwoutRefIdeal.nD Cert.AdamPwoutRefIdeal.τ).loc Cert.AdamPwoutRefIdeal.main_arg3))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)) →
    ∃ (v0 : (c : Dev Cert.AdamAdaIdeal.nD) → Buf (Elt Ideal) ((c.tc : Thread Cert.AdamAdaIdeal.nD Cert.AdamAdaIdeal.τ).loc Cert.AdamAdaIdeal.main_v0_0)) (v1 : (c : Dev Cert.AdamAdaIdeal.nD) → Buf (Elt Ideal) ((c.tc : Thread Cert.AdamAdaIdeal.nD Cert.AdamAdaIdeal.τ).loc Cert.AdamAdaIdeal.main_v0_1)) (v2 : (c : Dev Cert.AdamAdaIdeal.nD) → Buf (Elt Ideal) ((c.tc : Thread Cert.AdamAdaIdeal.nD Cert.AdamAdaIdeal.τ).loc Cert.AdamAdaIdeal.main_v0_2)) (v3 : (c : Dev Cert.AdamAdaIdeal.nD) → Buf (Elt Ideal) ((c.tc : Thread Cert.AdamAdaIdeal.nD Cert.AdamAdaIdeal.τ).loc Cert.AdamAdaIdeal.main_v0_3)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v0_0) = v0 c
          ∧ r.2.mem ((c.tc : Thread Cert.AdamAdaIdeal.nD Cert.AdamAdaIdeal.τ).loc Cert.AdamAdaIdeal.main_v0_1) = v1 c
          ∧ r.2.mem ((c.tc : Thread Cert.AdamAdaIdeal.nD Cert.AdamAdaIdeal.τ).loc Cert.AdamAdaIdeal.main_v0_2) = v2 c
          ∧ r.2.mem ((c.tc : Thread Cert.AdamAdaIdeal.nD Cert.AdamAdaIdeal.τ).loc Cert.AdamAdaIdeal.main_v0_3) = v3 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_v0) = v0 c
          ∧ r.2.mem ((c.tc : Thread Cert.AdamAdaRefIdeal.nD Cert.AdamAdaRefIdeal.τ).loc Cert.AdamAdaRefIdeal.main_v24) = v1 c
          ∧ r.2.mem ((c.tc : Thread Cert.AdamAdaRefIdeal.nD Cert.AdamAdaRefIdeal.τ).loc Cert.AdamAdaRefIdeal.main_v5) = v2 c
          ∧ r.2.mem ((c.tc : Thread Cert.AdamAdaRefIdeal.nD Cert.AdamAdaRefIdeal.τ).loc Cert.AdamAdaRefIdeal.main_v11) = v3 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3))

def preserves_AdamFin_AdamFinIdeal : Prop :=
  True

def algebraic_AdamFinIdeal_AdamFinRefIdeal [hAdamFinIdeal : Cert.AdamFinIdeal.Facts] [hAdamFinRefIdeal : Cert.AdamFinRefIdeal.Facts] : Prop :=
  ∀ (m : (ℓ : Loc Cert.AdamFinIdeal.nD Cert.AdamFinIdeal.τ Cert.AdamFinIdeal.sig) → Buf (Elt Ideal) ℓ) (g : Dev Cert.AdamFinIdeal.nD → PrngReg)
    (m' : (ℓ : Loc Cert.AdamFinRefIdeal.nD Cert.AdamFinRefIdeal.τ Cert.AdamFinRefIdeal.sig) → Buf (Elt Ideal) ℓ) (g' : Dev Cert.AdamFinRefIdeal.nD → PrngReg), Pre_AdamFinIdeal m →
    (∀ c : Dev Cert.AdamFinIdeal.nD,
      m' ((c.tc : Thread Cert.AdamFinRefIdeal.nD Cert.AdamFinRefIdeal.τ).loc Cert.AdamFinRefIdeal.main_arg0) = m ((c.tc : Thread Cert.AdamFinIdeal.nD Cert.AdamFinIdeal.τ).loc Cert.AdamFinIdeal.main_arg0)
      ∧ m' ((c.tc : Thread Cert.AdamFinRefIdeal.nD Cert.AdamFinRefIdeal.τ).loc Cert.AdamFinRefIdeal.main_arg1) = m ((c.tc : Thread Cert.AdamFinIdeal.nD Cert.AdamFinIdeal.τ).loc Cert.AdamFinIdeal.main_arg1)
      ∧ m' ((c.tc : Thread Cert.AdamFinRefIdeal.nD Cert.AdamFinRefIdeal.τ).loc Cert.AdamFinRefIdeal.main_arg2) = m ((c.tc : Thread Cert.AdamFinIdeal.nD Cert.AdamFinIdeal.τ).loc Cert.AdamFinIdeal.main_arg2)
      ∧ m' ((c.tc : Thread Cert.AdamFinRefIdeal.nD Cert.AdamFinRefIdeal.τ).loc Cert.AdamFinRefIdeal.main_arg3) = m ((c.tc : Thread Cert.AdamFinIdeal.nD Cert.AdamFinIdeal.τ).loc Cert.AdamFinIdeal.main_arg3)
      ∧ m' ((c.tc : Thread Cert.AdamFinRefIdeal.nD Cert.AdamFinRefIdeal.τ).loc Cert.AdamFinRefIdeal.main_arg4) = m ((c.tc : Thread Cert.AdamFinIdeal.nD Cert.AdamFinIdeal.τ).loc Cert.AdamFinIdeal.main_arg4)) →
    ∃ (v0 : (c : Dev Cert.AdamFinIdeal.nD) → Buf (Elt Ideal) ((c.tc : Thread Cert.AdamFinIdeal.nD Cert.AdamFinIdeal.τ).loc Cert.AdamFinIdeal.main_v0_0)) (v1 : (c : Dev Cert.AdamFinIdeal.nD) → Buf (Elt Ideal) ((c.tc : Thread Cert.AdamFinIdeal.nD Cert.AdamFinIdeal.τ).loc Cert.AdamFinIdeal.main_v0_1)) (v2 : (c : Dev Cert.AdamFinIdeal.nD) → Buf (Elt Ideal) ((c.tc : Thread Cert.AdamFinIdeal.nD Cert.AdamFinIdeal.τ).loc Cert.AdamFinIdeal.main_v0_2)) (v3 : (c : Dev Cert.AdamFinIdeal.nD) → Buf (Elt Ideal) ((c.tc : Thread Cert.AdamFinIdeal.nD Cert.AdamFinIdeal.τ).loc Cert.AdamFinIdeal.main_v0_3)),
      θ_run (Cert.AdamFinIdeal.defs (F := Ideal)) (onTc (τ := Cert.AdamFinIdeal.τ) (Cert.AdamFinIdeal.main (F := Ideal))) ⟨m, fun _ => 0, g⟩ (fun r => ∀ c : Dev Cert.AdamFinIdeal.nD,
          r.2.mem ((c.tc : Thread Cert.AdamFinIdeal.nD Cert.AdamFinIdeal.τ).loc Cert.AdamFinIdeal.main_v0_0) = v0 c
          ∧ r.2.mem ((c.tc : Thread Cert.AdamFinIdeal.nD Cert.AdamFinIdeal.τ).loc Cert.AdamFinIdeal.main_v0_1) = v1 c
          ∧ r.2.mem ((c.tc : Thread Cert.AdamFinIdeal.nD Cert.AdamFinIdeal.τ).loc Cert.AdamFinIdeal.main_v0_2) = v2 c
          ∧ r.2.mem ((c.tc : Thread Cert.AdamFinIdeal.nD Cert.AdamFinIdeal.τ).loc Cert.AdamFinIdeal.main_v0_3) = v3 c
          ∧ r.2.mem ((c.tc : Thread Cert.AdamFinIdeal.nD Cert.AdamFinIdeal.τ).loc Cert.AdamFinIdeal.main_arg0) = m ((c.tc : Thread Cert.AdamFinIdeal.nD Cert.AdamFinIdeal.τ).loc Cert.AdamFinIdeal.main_arg0)
          ∧ r.2.mem ((c.tc : Thread Cert.AdamFinIdeal.nD Cert.AdamFinIdeal.τ).loc Cert.AdamFinIdeal.main_arg1) = m ((c.tc : Thread Cert.AdamFinIdeal.nD Cert.AdamFinIdeal.τ).loc Cert.AdamFinIdeal.main_arg1)
          ∧ r.2.mem ((c.tc : Thread Cert.AdamFinIdeal.nD Cert.AdamFinIdeal.τ).loc Cert.AdamFinIdeal.main_arg2) = m ((c.tc : Thread Cert.AdamFinIdeal.nD Cert.AdamFinIdeal.τ).loc Cert.AdamFinIdeal.main_arg2)
          ∧ r.2.mem ((c.tc : Thread Cert.AdamFinIdeal.nD Cert.AdamFinIdeal.τ).loc Cert.AdamFinIdeal.main_arg3) = m ((c.tc : Thread Cert.AdamFinIdeal.nD Cert.AdamFinIdeal.τ).loc Cert.AdamFinIdeal.main_arg3)
          ∧ r.2.mem ((c.tc : Thread Cert.AdamFinIdeal.nD Cert.AdamFinIdeal.τ).loc Cert.AdamFinIdeal.main_arg4) = m ((c.tc : Thread Cert.AdamFinIdeal.nD Cert.AdamFinIdeal.τ).loc Cert.AdamFinIdeal.main_arg4))
      ∧ θ_run (Cert.AdamFinRefIdeal.defs (F := Ideal)) (onTc (τ := Cert.AdamFinRefIdeal.τ) (Cert.AdamFinRefIdeal.main (F := Ideal))) ⟨m', fun _ => 0, g'⟩ (fun r => ∀ c : Dev Cert.AdamFinRefIdeal.nD,
          r.2.mem ((c.tc : Thread Cert.AdamFinRefIdeal.nD Cert.AdamFinRefIdeal.τ).loc Cert.AdamFinRefIdeal.main_v2) = v0 c
          ∧ r.2.mem ((c.tc : Thread Cert.AdamFinRefIdeal.nD Cert.AdamFinRefIdeal.τ).loc Cert.AdamFinRefIdeal.main_v26) = v1 c
          ∧ r.2.mem ((c.tc : Thread Cert.AdamFinRefIdeal.nD Cert.AdamFinRefIdeal.τ).loc Cert.AdamFinRefIdeal.main_v7) = v2 c
          ∧ r.2.mem ((c.tc : Thread Cert.AdamFinRefIdeal.nD Cert.AdamFinRefIdeal.τ).loc Cert.AdamFinRefIdeal.main_v13) = v3 c
          ∧ r.2.mem ((c.tc : Thread Cert.AdamFinRefIdeal.nD Cert.AdamFinRefIdeal.τ).loc Cert.AdamFinRefIdeal.main_arg0) = m' ((c.tc : Thread Cert.AdamFinRefIdeal.nD Cert.AdamFinRefIdeal.τ).loc Cert.AdamFinRefIdeal.main_arg0)
          ∧ r.2.mem ((c.tc : Thread Cert.AdamFinRefIdeal.nD Cert.AdamFinRefIdeal.τ).loc Cert.AdamFinRefIdeal.main_arg1) = m' ((c.tc : Thread Cert.AdamFinRefIdeal.nD Cert.AdamFinRefIdeal.τ).loc Cert.AdamFinRefIdeal.main_arg1)
          ∧ r.2.mem ((c.tc : Thread Cert.AdamFinRefIdeal.nD Cert.AdamFinRefIdeal.τ).loc Cert.AdamFinRefIdeal.main_arg2) = m' ((c.tc : Thread Cert.AdamFinRefIdeal.nD Cert.AdamFinRefIdeal.τ).loc Cert.AdamFinRefIdeal.main_arg2)
          ∧ r.2.mem ((c.tc : Thread Cert.AdamFinRefIdeal.nD Cert.AdamFinRefIdeal.τ).loc Cert.AdamFinRefIdeal.main_arg3) = m' ((c.tc : Thread Cert.AdamFinRefIdeal.nD Cert.AdamFinRefIdeal.τ).loc Cert.AdamFinRefIdeal.main_arg3)
          ∧ r.2.mem ((c.tc : Thread Cert.AdamFinRefIdeal.nD Cert.AdamFinRefIdeal.τ).loc Cert.AdamFinRefIdeal.main_arg4) = m' ((c.tc : Thread Cert.AdamFinRefIdeal.nD Cert.AdamFinRefIdeal.τ).loc Cert.AdamFinRefIdeal.main_arg4))

def preserves_AdamFout_AdamFoutIdeal : Prop :=
  True

def algebraic_AdamFoutIdeal_AdamFoutRefIdeal [hAdamFoutIdeal : Cert.AdamFoutIdeal.Facts] [hAdamFoutRefIdeal : Cert.AdamFoutRefIdeal.Facts] : Prop :=
  ∀ (m : (ℓ : Loc Cert.AdamFoutIdeal.nD Cert.AdamFoutIdeal.τ Cert.AdamFoutIdeal.sig) → Buf (Elt Ideal) ℓ) (g : Dev Cert.AdamFoutIdeal.nD → PrngReg)
    (m' : (ℓ : Loc Cert.AdamFoutRefIdeal.nD Cert.AdamFoutRefIdeal.τ Cert.AdamFoutRefIdeal.sig) → Buf (Elt Ideal) ℓ) (g' : Dev Cert.AdamFoutRefIdeal.nD → PrngReg), Pre_AdamFoutIdeal m →
    (∀ c : Dev Cert.AdamFoutIdeal.nD,
      m' ((c.tc : Thread Cert.AdamFoutRefIdeal.nD Cert.AdamFoutRefIdeal.τ).loc Cert.AdamFoutRefIdeal.main_arg0) = m ((c.tc : Thread Cert.AdamFoutIdeal.nD Cert.AdamFoutIdeal.τ).loc Cert.AdamFoutIdeal.main_arg0)
      ∧ m' ((c.tc : Thread Cert.AdamFoutRefIdeal.nD Cert.AdamFoutRefIdeal.τ).loc Cert.AdamFoutRefIdeal.main_arg1) = m ((c.tc : Thread Cert.AdamFoutIdeal.nD Cert.AdamFoutIdeal.τ).loc Cert.AdamFoutIdeal.main_arg1)
      ∧ m' ((c.tc : Thread Cert.AdamFoutRefIdeal.nD Cert.AdamFoutRefIdeal.τ).loc Cert.AdamFoutRefIdeal.main_arg2) = m ((c.tc : Thread Cert.AdamFoutIdeal.nD Cert.AdamFoutIdeal.τ).loc Cert.AdamFoutIdeal.main_arg2)
      ∧ m' ((c.tc : Thread Cert.AdamFoutRefIdeal.nD Cert.AdamFoutRefIdeal.τ).loc Cert.AdamFoutRefIdeal.main_arg3) = m ((c.tc : Thread Cert.AdamFoutIdeal.nD Cert.AdamFoutIdeal.τ).loc Cert.AdamFoutIdeal.main_arg3)
      ∧ m' ((c.tc : Thread Cert.AdamFoutRefIdeal.nD Cert.AdamFoutRefIdeal.τ).loc Cert.AdamFoutRefIdeal.main_arg4) = m ((c.tc : Thread Cert.AdamFoutIdeal.nD Cert.AdamFoutIdeal.τ).loc Cert.AdamFoutIdeal.main_arg4)) →
    ∃ (v0 : (c : Dev Cert.AdamFoutIdeal.nD) → Buf (Elt Ideal) ((c.tc : Thread Cert.AdamFoutIdeal.nD Cert.AdamFoutIdeal.τ).loc Cert.AdamFoutIdeal.main_v0_0)) (v1 : (c : Dev Cert.AdamFoutIdeal.nD) → Buf (Elt Ideal) ((c.tc : Thread Cert.AdamFoutIdeal.nD Cert.AdamFoutIdeal.τ).loc Cert.AdamFoutIdeal.main_v0_1)) (v2 : (c : Dev Cert.AdamFoutIdeal.nD) → Buf (Elt Ideal) ((c.tc : Thread Cert.AdamFoutIdeal.nD Cert.AdamFoutIdeal.τ).loc Cert.AdamFoutIdeal.main_v0_2)) (v3 : (c : Dev Cert.AdamFoutIdeal.nD) → Buf (Elt Ideal) ((c.tc : Thread Cert.AdamFoutIdeal.nD Cert.AdamFoutIdeal.τ).loc Cert.AdamFoutIdeal.main_v0_3)),
      θ_run (Cert.AdamFoutIdeal.defs (F := Ideal)) (onTc (τ := Cert.AdamFoutIdeal.τ) (Cert.AdamFoutIdeal.main (F := Ideal))) ⟨m, fun _ => 0, g⟩ (fun r => ∀ c : Dev Cert.AdamFoutIdeal.nD,
          r.2.mem ((c.tc : Thread Cert.AdamFoutIdeal.nD Cert.AdamFoutIdeal.τ).loc Cert.AdamFoutIdeal.main_v0_0) = v0 c
          ∧ r.2.mem ((c.tc : Thread Cert.AdamFoutIdeal.nD Cert.AdamFoutIdeal.τ).loc Cert.AdamFoutIdeal.main_v0_1) = v1 c
          ∧ r.2.mem ((c.tc : Thread Cert.AdamFoutIdeal.nD Cert.AdamFoutIdeal.τ).loc Cert.AdamFoutIdeal.main_v0_2) = v2 c
          ∧ r.2.mem ((c.tc : Thread Cert.AdamFoutIdeal.nD Cert.AdamFoutIdeal.τ).loc Cert.AdamFoutIdeal.main_v0_3) = v3 c
          ∧ r.2.mem ((c.tc : Thread Cert.AdamFoutIdeal.nD Cert.AdamFoutIdeal.τ).loc Cert.AdamFoutIdeal.main_arg0) = m ((c.tc : Thread Cert.AdamFoutIdeal.nD Cert.AdamFoutIdeal.τ).loc Cert.AdamFoutIdeal.main_arg0)
          ∧ r.2.mem ((c.tc : Thread Cert.AdamFoutIdeal.nD Cert.AdamFoutIdeal.τ).loc Cert.AdamFoutIdeal.main_arg1) = m ((c.tc : Thread Cert.AdamFoutIdeal.nD Cert.AdamFoutIdeal.τ).loc Cert.AdamFoutIdeal.main_arg1)
          ∧ r.2.mem ((c.tc : Thread Cert.AdamFoutIdeal.nD Cert.AdamFoutIdeal.τ).loc Cert.AdamFoutIdeal.main_arg2) = m ((c.tc : Thread Cert.AdamFoutIdeal.nD Cert.AdamFoutIdeal.τ).loc Cert.AdamFoutIdeal.main_arg2)
          ∧ r.2.mem ((c.tc : Thread Cert.AdamFoutIdeal.nD Cert.AdamFoutIdeal.τ).loc Cert.AdamFoutIdeal.main_arg3) = m ((c.tc : Thread Cert.AdamFoutIdeal.nD Cert.AdamFoutIdeal.τ).loc Cert.AdamFoutIdeal.main_arg3)
          ∧ r.2.mem ((c.tc : Thread Cert.AdamFoutIdeal.nD Cert.AdamFoutIdeal.τ).loc Cert.AdamFoutIdeal.main_arg4) = m ((c.tc : Thread Cert.AdamFoutIdeal.nD Cert.AdamFoutIdeal.τ).loc Cert.AdamFoutIdeal.main_arg4))
      ∧ θ_run (Cert.AdamFoutRefIdeal.defs (F := Ideal)) (onTc (τ := Cert.AdamFoutRefIdeal.τ) (Cert.AdamFoutRefIdeal.main (F := Ideal))) ⟨m', fun _ => 0, g'⟩ (fun r => ∀ c : Dev Cert.AdamFoutRefIdeal.nD,
          r.2.mem ((c.tc : Thread Cert.AdamFoutRefIdeal.nD Cert.AdamFoutRefIdeal.τ).loc Cert.AdamFoutRefIdeal.main_v2) = v0 c
          ∧ r.2.mem ((c.tc : Thread Cert.AdamFoutRefIdeal.nD Cert.AdamFoutRefIdeal.τ).loc Cert.AdamFoutRefIdeal.main_v26) = v1 c
          ∧ r.2.mem ((c.tc : Thread Cert.AdamFoutRefIdeal.nD Cert.AdamFoutRefIdeal.τ).loc Cert.AdamFoutRefIdeal.main_v7) = v2 c
          ∧ r.2.mem ((c.tc : Thread Cert.AdamFoutRefIdeal.nD Cert.AdamFoutRefIdeal.τ).loc Cert.AdamFoutRefIdeal.main_v13) = v3 c
          ∧ r.2.mem ((c.tc : Thread Cert.AdamFoutRefIdeal.nD Cert.AdamFoutRefIdeal.τ).loc Cert.AdamFoutRefIdeal.main_arg0) = m' ((c.tc : Thread Cert.AdamFoutRefIdeal.nD Cert.AdamFoutRefIdeal.τ).loc Cert.AdamFoutRefIdeal.main_arg0)
          ∧ r.2.mem ((c.tc : Thread Cert.AdamFoutRefIdeal.nD Cert.AdamFoutRefIdeal.τ).loc Cert.AdamFoutRefIdeal.main_arg1) = m' ((c.tc : Thread Cert.AdamFoutRefIdeal.nD Cert.AdamFoutRefIdeal.τ).loc Cert.AdamFoutRefIdeal.main_arg1)
          ∧ r.2.mem ((c.tc : Thread Cert.AdamFoutRefIdeal.nD Cert.AdamFoutRefIdeal.τ).loc Cert.AdamFoutRefIdeal.main_arg2) = m' ((c.tc : Thread Cert.AdamFoutRefIdeal.nD Cert.AdamFoutRefIdeal.τ).loc Cert.AdamFoutRefIdeal.main_arg2)
          ∧ r.2.mem ((c.tc : Thread Cert.AdamFoutRefIdeal.nD Cert.AdamFoutRefIdeal.τ).loc Cert.AdamFoutRefIdeal.main_arg3) = m' ((c.tc : Thread Cert.AdamFoutRefIdeal.nD Cert.AdamFoutRefIdeal.τ).loc Cert.AdamFoutRefIdeal.main_arg3)
          ∧ r.2.mem ((c.tc : Thread Cert.AdamFoutRefIdeal.nD Cert.AdamFoutRefIdeal.τ).loc Cert.AdamFoutRefIdeal.main_arg4) = m' ((c.tc : Thread Cert.AdamFoutRefIdeal.nD Cert.AdamFoutRefIdeal.τ).loc Cert.AdamFoutRefIdeal.main_arg4))

def Claim : Prop :=
  ∃ (hKernel : Cert.Kernel.Facts) (hKernelIdeal : Cert.KernelIdeal.Facts) (hReferenceIdeal : Cert.ReferenceIdeal.Facts) (hDhid : Cert.Dhid.Facts) (hDhidIdeal : Cert.DhidIdeal.Facts) (hDhidRefIdeal : Cert.DhidRefIdeal.Facts) (hDwout : Cert.Dwout.Facts) (hDwoutIdeal : Cert.DwoutIdeal.Facts) (hDwoutRefIdeal : Cert.DwoutRefIdeal.Facts) (hDact : Cert.Dact.Facts) (hDactIdeal : Cert.DactIdeal.Facts) (hDactRefIdeal : Cert.DactRefIdeal.Facts) (hDwin : Cert.Dwin.Facts) (hDwinIdeal : Cert.DwinIdeal.Facts) (hDwinRefIdeal : Cert.DwinRefIdeal.Facts) (hDx : Cert.Dx.Facts) (hDxIdeal : Cert.DxIdeal.Facts) (hDxRefIdeal : Cert.DxRefIdeal.Facts) (hUin : Cert.Uin.Facts) (hUinIdeal : Cert.UinIdeal.Facts) (hUinRefIdeal : Cert.UinRefIdeal.Facts) (hAct : Cert.Act.Facts) (hActIdeal : Cert.ActIdeal.Facts) (hActRefIdeal : Cert.ActRefIdeal.Facts) (hFout : Cert.Fout.Facts) (hFoutIdeal : Cert.FoutIdeal.Facts) (hFoutRefIdeal : Cert.FoutRefIdeal.Facts) (hZx : Cert.Zx.Facts) (hZxIdeal : Cert.ZxIdeal.Facts) (hZxRefIdeal : Cert.ZxRefIdeal.Facts) (hDwzx : Cert.Dwzx.Facts) (hDwzxIdeal : Cert.DwzxIdeal.Facts) (hDwzxRefIdeal : Cert.DwzxRefIdeal.Facts) (hDzx : Cert.Dzx.Facts) (hDzxIdeal : Cert.DzxIdeal.Facts) (hDzxRefIdeal : Cert.DzxRefIdeal.Facts) (hDglu : Cert.Dglu.Facts) (hDgluIdeal : Cert.DgluIdeal.Facts) (hDgluRefIdeal : Cert.DgluRefIdeal.Facts) (hDnorm : Cert.Dnorm.Facts) (hDnormIdeal : Cert.DnormIdeal.Facts) (hDnormRefIdeal : Cert.DnormRefIdeal.Facts) (hDpwin : Cert.Dpwin.Facts) (hDpwinIdeal : Cert.DpwinIdeal.Facts) (hDpwinRefIdeal : Cert.DpwinRefIdeal.Facts) (hDpwout : Cert.Dpwout.Facts) (hDpwoutIdeal : Cert.DpwoutIdeal.Facts) (hDpwoutRefIdeal : Cert.DpwoutRefIdeal.Facts) (hDpwx : Cert.Dpwx.Facts) (hDpwxIdeal : Cert.DpwxIdeal.Facts) (hDpwxRefIdeal : Cert.DpwxRefIdeal.Facts) (hDpwsl : Cert.Dpwsl.Facts) (hDpwslIdeal : Cert.DpwslIdeal.Facts) (hDpwslRefIdeal : Cert.DpwslRefIdeal.Facts) (hDmixw : Cert.Dmixw.Facts) (hDmixwIdeal : Cert.DmixwIdeal.Facts) (hDmixwRefIdeal : Cert.DmixwRefIdeal.Facts) (hDmixy : Cert.Dmixy.Facts) (hDmixyIdeal : Cert.DmixyIdeal.Facts) (hDmixyRefIdeal : Cert.DmixyRefIdeal.Facts) (hPwin : Cert.Pwin.Facts) (hPwinIdeal : Cert.PwinIdeal.Facts) (hPwinRefIdeal : Cert.PwinRefIdeal.Facts) (hPwout : Cert.Pwout.Facts) (hPwoutIdeal : Cert.PwoutIdeal.Facts) (hPwoutRefIdeal : Cert.PwoutRefIdeal.Facts) (hMix : Cert.Mix.Facts) (hMixIdeal : Cert.MixIdeal.Facts) (hMixRefIdeal : Cert.MixRefIdeal.Facts) (hDrms : Cert.Drms.Facts) (hDrmsIdeal : Cert.DrmsIdeal.Facts) (hDrmsRefIdeal : Cert.DrmsRefIdeal.Facts) (hDgate : Cert.Dgate.Facts) (hDgateIdeal : Cert.DgateIdeal.Facts) (hDgateRefIdeal : Cert.DgateRefIdeal.Facts) (hGlu : Cert.Glu.Facts) (hGluIdeal : Cert.GluIdeal.Facts) (hGluRefIdeal : Cert.GluRefIdeal.Facts) (hLnorm : Cert.Lnorm.Facts) (hLnormIdeal : Cert.LnormIdeal.Facts) (hLnormRefIdeal : Cert.LnormRefIdeal.Facts) (hRnorm : Cert.Rnorm.Facts) (hRnormIdeal : Cert.RnormIdeal.Facts) (hRnormRefIdeal : Cert.RnormRefIdeal.Facts) (hSgate : Cert.Sgate.Facts) (hSgateIdeal : Cert.SgateIdeal.Facts) (hSgateRefIdeal : Cert.SgateRefIdeal.Facts) (hDtp : Cert.Dtp.Facts) (hDtpIdeal : Cert.DtpIdeal.Facts) (hDtpRefIdeal : Cert.DtpRefIdeal.Facts) (hDwdt : Cert.Dwdt.Facts) (hDwdtIdeal : Cert.DwdtIdeal.Facts) (hDwdtRefIdeal : Cert.DwdtRefIdeal.Facts) (hDxdt : Cert.Dxdt.Facts) (hDxdtIdeal : Cert.DxdtIdeal.Facts) (hDxdtRefIdeal : Cert.DxdtRefIdeal.Facts) (hCnorm : Cert.Cnorm.Facts) (hCnormIdeal : Cert.CnormIdeal.Facts) (hCnormRefIdeal : Cert.CnormRefIdeal.Facts) (hAda : Cert.Ada.Facts) (hAdaIdeal : Cert.AdaIdeal.Facts) (hAdaRefIdeal : Cert.AdaRefIdeal.Facts) (hAxial : Cert.Axial.Facts) (hAxialIdeal : Cert.AxialIdeal.Facts) (hAxialRefIdeal : Cert.AxialRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamPwin : Cert.AdamPwin.Facts) (hAdamPwinIdeal : Cert.AdamPwinIdeal.Facts) (hAdamPwinRefIdeal : Cert.AdamPwinRefIdeal.Facts) (hAdamPwout : Cert.AdamPwout.Facts) (hAdamPwoutIdeal : Cert.AdamPwoutIdeal.Facts) (hAdamPwoutRefIdeal : Cert.AdamPwoutRefIdeal.Facts) (hAdamAda : Cert.AdamAda.Facts) (hAdamAdaIdeal : Cert.AdamAdaIdeal.Facts) (hAdamAdaRefIdeal : Cert.AdamAdaRefIdeal.Facts) (hAdamFin : Cert.AdamFin.Facts) (hAdamFinIdeal : Cert.AdamFinIdeal.Facts) (hAdamFinRefIdeal : Cert.AdamFinRefIdeal.Facts) (hAdamFout : Cert.AdamFout.Facts) (hAdamFoutIdeal : Cert.AdamFoutIdeal.Facts) (hAdamFoutRefIdeal : Cert.AdamFoutRefIdeal.Facts) (hPre_gate_finite : Cert.Pre_gate_finite.Facts) (hPre_norm_finite : Cert.Pre_norm_finite.Facts) (hPre_gated_finite : Cert.Pre_gated_finite.Facts),
    quiescent_Kernel (hKernel := hKernel)
    ∧ quiescent_KernelIdeal (hKernelIdeal := hKernelIdeal)
    ∧ quiescent_ReferenceIdeal (hReferenceIdeal := hReferenceIdeal)
    ∧ quiescent_Dhid (hDhid := hDhid)
    ∧ quiescent_DhidIdeal (hDhidIdeal := hDhidIdeal)
    ∧ quiescent_DhidRefIdeal (hDhidRefIdeal := hDhidRefIdeal)
    ∧ quiescent_Dwout (hDwout := hDwout)
    ∧ quiescent_DwoutIdeal (hDwoutIdeal := hDwoutIdeal)
    ∧ quiescent_DwoutRefIdeal (hDwoutRefIdeal := hDwoutRefIdeal)
    ∧ quiescent_Dact (hDact := hDact)
    ∧ quiescent_DactIdeal (hDactIdeal := hDactIdeal)
    ∧ quiescent_DactIdeal_pre_gate_finite (hDactIdeal := hDactIdeal) (hPre_gate_finite := hPre_gate_finite)
    ∧ quiescent_DactRefIdeal (hDactRefIdeal := hDactRefIdeal)
    ∧ quiescent_DactRefIdeal_pre_gate_finite (hDactRefIdeal := hDactRefIdeal) (hPre_gate_finite := hPre_gate_finite)
    ∧ quiescent_Dwin (hDwin := hDwin)
    ∧ quiescent_DwinIdeal (hDwinIdeal := hDwinIdeal)
    ∧ quiescent_DwinRefIdeal (hDwinRefIdeal := hDwinRefIdeal)
    ∧ quiescent_Dx (hDx := hDx)
    ∧ quiescent_DxIdeal (hDxIdeal := hDxIdeal)
    ∧ quiescent_DxRefIdeal (hDxRefIdeal := hDxRefIdeal)
    ∧ quiescent_Uin (hUin := hUin)
    ∧ quiescent_UinIdeal (hUinIdeal := hUinIdeal)
    ∧ quiescent_UinRefIdeal (hUinRefIdeal := hUinRefIdeal)
    ∧ quiescent_Act (hAct := hAct)
    ∧ quiescent_ActIdeal (hActIdeal := hActIdeal)
    ∧ quiescent_ActRefIdeal (hActRefIdeal := hActRefIdeal)
    ∧ quiescent_Fout (hFout := hFout)
    ∧ quiescent_FoutIdeal (hFoutIdeal := hFoutIdeal)
    ∧ quiescent_FoutRefIdeal (hFoutRefIdeal := hFoutRefIdeal)
    ∧ quiescent_Zx (hZx := hZx)
    ∧ quiescent_ZxIdeal (hZxIdeal := hZxIdeal)
    ∧ quiescent_ZxRefIdeal (hZxRefIdeal := hZxRefIdeal)
    ∧ quiescent_Dwzx (hDwzx := hDwzx)
    ∧ quiescent_DwzxIdeal (hDwzxIdeal := hDwzxIdeal)
    ∧ quiescent_DwzxRefIdeal (hDwzxRefIdeal := hDwzxRefIdeal)
    ∧ quiescent_Dzx (hDzx := hDzx)
    ∧ quiescent_DzxIdeal (hDzxIdeal := hDzxIdeal)
    ∧ quiescent_DzxRefIdeal (hDzxRefIdeal := hDzxRefIdeal)
    ∧ quiescent_Dglu (hDglu := hDglu)
    ∧ quiescent_DgluIdeal (hDgluIdeal := hDgluIdeal)
    ∧ quiescent_DgluRefIdeal (hDgluRefIdeal := hDgluRefIdeal)
    ∧ quiescent_Dnorm (hDnorm := hDnorm)
    ∧ quiescent_DnormIdeal (hDnormIdeal := hDnormIdeal)
    ∧ quiescent_DnormIdeal_pre_norm_finite (hDnormIdeal := hDnormIdeal) (hPre_norm_finite := hPre_norm_finite)
    ∧ quiescent_DnormRefIdeal (hDnormRefIdeal := hDnormRefIdeal)
    ∧ quiescent_DnormRefIdeal_pre_norm_finite (hDnormRefIdeal := hDnormRefIdeal) (hPre_norm_finite := hPre_norm_finite)
    ∧ quiescent_Dpwin (hDpwin := hDpwin)
    ∧ quiescent_DpwinIdeal (hDpwinIdeal := hDpwinIdeal)
    ∧ quiescent_DpwinRefIdeal (hDpwinRefIdeal := hDpwinRefIdeal)
    ∧ quiescent_Dpwout (hDpwout := hDpwout)
    ∧ quiescent_DpwoutIdeal (hDpwoutIdeal := hDpwoutIdeal)
    ∧ quiescent_DpwoutRefIdeal (hDpwoutRefIdeal := hDpwoutRefIdeal)
    ∧ quiescent_Dpwx (hDpwx := hDpwx)
    ∧ quiescent_DpwxIdeal (hDpwxIdeal := hDpwxIdeal)
    ∧ quiescent_DpwxRefIdeal (hDpwxRefIdeal := hDpwxRefIdeal)
    ∧ quiescent_Dpwsl (hDpwsl := hDpwsl)
    ∧ quiescent_DpwslIdeal (hDpwslIdeal := hDpwslIdeal)
    ∧ quiescent_DpwslRefIdeal (hDpwslRefIdeal := hDpwslRefIdeal)
    ∧ quiescent_Dmixw (hDmixw := hDmixw)
    ∧ quiescent_DmixwIdeal (hDmixwIdeal := hDmixwIdeal)
    ∧ quiescent_DmixwRefIdeal (hDmixwRefIdeal := hDmixwRefIdeal)
    ∧ quiescent_Dmixy (hDmixy := hDmixy)
    ∧ quiescent_DmixyIdeal (hDmixyIdeal := hDmixyIdeal)
    ∧ quiescent_DmixyRefIdeal (hDmixyRefIdeal := hDmixyRefIdeal)
    ∧ quiescent_Pwin (hPwin := hPwin)
    ∧ quiescent_PwinIdeal (hPwinIdeal := hPwinIdeal)
    ∧ quiescent_PwinRefIdeal (hPwinRefIdeal := hPwinRefIdeal)
    ∧ quiescent_Pwout (hPwout := hPwout)
    ∧ quiescent_PwoutIdeal (hPwoutIdeal := hPwoutIdeal)
    ∧ quiescent_PwoutRefIdeal (hPwoutRefIdeal := hPwoutRefIdeal)
    ∧ quiescent_Mix (hMix := hMix)
    ∧ quiescent_MixIdeal (hMixIdeal := hMixIdeal)
    ∧ quiescent_MixRefIdeal (hMixRefIdeal := hMixRefIdeal)
    ∧ quiescent_Drms (hDrms := hDrms)
    ∧ quiescent_DrmsIdeal (hDrmsIdeal := hDrmsIdeal)
    ∧ quiescent_DrmsRefIdeal (hDrmsRefIdeal := hDrmsRefIdeal)
    ∧ quiescent_Dgate (hDgate := hDgate)
    ∧ quiescent_DgateIdeal (hDgateIdeal := hDgateIdeal)
    ∧ quiescent_DgateIdeal_pre_gated_finite (hDgateIdeal := hDgateIdeal) (hPre_gated_finite := hPre_gated_finite)
    ∧ quiescent_DgateRefIdeal (hDgateRefIdeal := hDgateRefIdeal)
    ∧ quiescent_DgateRefIdeal_pre_gated_finite (hDgateRefIdeal := hDgateRefIdeal) (hPre_gated_finite := hPre_gated_finite)
    ∧ quiescent_Glu (hGlu := hGlu)
    ∧ quiescent_GluIdeal (hGluIdeal := hGluIdeal)
    ∧ quiescent_GluRefIdeal (hGluRefIdeal := hGluRefIdeal)
    ∧ quiescent_Lnorm (hLnorm := hLnorm)
    ∧ quiescent_LnormIdeal (hLnormIdeal := hLnormIdeal)
    ∧ quiescent_LnormRefIdeal (hLnormRefIdeal := hLnormRefIdeal)
    ∧ quiescent_Rnorm (hRnorm := hRnorm)
    ∧ quiescent_RnormIdeal (hRnormIdeal := hRnormIdeal)
    ∧ quiescent_RnormRefIdeal (hRnormRefIdeal := hRnormRefIdeal)
    ∧ quiescent_Sgate (hSgate := hSgate)
    ∧ quiescent_SgateIdeal (hSgateIdeal := hSgateIdeal)
    ∧ quiescent_SgateRefIdeal (hSgateRefIdeal := hSgateRefIdeal)
    ∧ quiescent_Dtp (hDtp := hDtp)
    ∧ quiescent_DtpIdeal (hDtpIdeal := hDtpIdeal)
    ∧ quiescent_DtpRefIdeal (hDtpRefIdeal := hDtpRefIdeal)
    ∧ quiescent_Dwdt (hDwdt := hDwdt)
    ∧ quiescent_DwdtIdeal (hDwdtIdeal := hDwdtIdeal)
    ∧ quiescent_DwdtRefIdeal (hDwdtRefIdeal := hDwdtRefIdeal)
    ∧ quiescent_Dxdt (hDxdt := hDxdt)
    ∧ quiescent_DxdtIdeal (hDxdtIdeal := hDxdtIdeal)
    ∧ quiescent_DxdtRefIdeal (hDxdtRefIdeal := hDxdtRefIdeal)
    ∧ quiescent_Cnorm (hCnorm := hCnorm)
    ∧ quiescent_CnormIdeal (hCnormIdeal := hCnormIdeal)
    ∧ quiescent_CnormRefIdeal (hCnormRefIdeal := hCnormRefIdeal)
    ∧ quiescent_Ada (hAda := hAda)
    ∧ quiescent_AdaIdeal (hAdaIdeal := hAdaIdeal)
    ∧ quiescent_AdaRefIdeal (hAdaRefIdeal := hAdaRefIdeal)
    ∧ quiescent_Axial (hAxial := hAxial)
    ∧ quiescent_AxialIdeal (hAxialIdeal := hAxialIdeal)
    ∧ quiescent_AxialRefIdeal (hAxialRefIdeal := hAxialRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamPwin (hAdamPwin := hAdamPwin)
    ∧ quiescent_AdamPwinIdeal (hAdamPwinIdeal := hAdamPwinIdeal)
    ∧ quiescent_AdamPwinRefIdeal (hAdamPwinRefIdeal := hAdamPwinRefIdeal)
    ∧ quiescent_AdamPwout (hAdamPwout := hAdamPwout)
    ∧ quiescent_AdamPwoutIdeal (hAdamPwoutIdeal := hAdamPwoutIdeal)
    ∧ quiescent_AdamPwoutRefIdeal (hAdamPwoutRefIdeal := hAdamPwoutRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_AdamFin (hAdamFin := hAdamFin)
    ∧ quiescent_AdamFinIdeal (hAdamFinIdeal := hAdamFinIdeal)
    ∧ quiescent_AdamFinRefIdeal (hAdamFinRefIdeal := hAdamFinRefIdeal)
    ∧ quiescent_AdamFout (hAdamFout := hAdamFout)
    ∧ quiescent_AdamFoutIdeal (hAdamFoutIdeal := hAdamFoutIdeal)
    ∧ quiescent_AdamFoutRefIdeal (hAdamFoutRefIdeal := hAdamFoutRefIdeal)
    ∧ preserves_Kernel_KernelIdeal
    ∧ algebraic_KernelIdeal_ReferenceIdeal (hKernelIdeal := hKernelIdeal) (hReferenceIdeal := hReferenceIdeal)
    ∧ preserves_Dhid_DhidIdeal
    ∧ algebraic_DhidIdeal_DhidRefIdeal (hDhidIdeal := hDhidIdeal) (hDhidRefIdeal := hDhidRefIdeal)
    ∧ preserves_Dwout_DwoutIdeal
    ∧ algebraic_DwoutIdeal_DwoutRefIdeal (hDwoutIdeal := hDwoutIdeal) (hDwoutRefIdeal := hDwoutRefIdeal)
    ∧ preserves_Dact_DactIdeal
    ∧ algebraic_DactIdeal_DactRefIdeal_pre_gate_finite (hDactIdeal := hDactIdeal) (hDactRefIdeal := hDactRefIdeal) (hPre_gate_finite := hPre_gate_finite)
    ∧ preserves_Dwin_DwinIdeal
    ∧ algebraic_DwinIdeal_DwinRefIdeal (hDwinIdeal := hDwinIdeal) (hDwinRefIdeal := hDwinRefIdeal)
    ∧ preserves_Dx_DxIdeal
    ∧ algebraic_DxIdeal_DxRefIdeal (hDxIdeal := hDxIdeal) (hDxRefIdeal := hDxRefIdeal)
    ∧ preserves_Uin_UinIdeal
    ∧ algebraic_UinIdeal_UinRefIdeal (hUinIdeal := hUinIdeal) (hUinRefIdeal := hUinRefIdeal)
    ∧ preserves_Act_ActIdeal
    ∧ algebraic_ActIdeal_ActRefIdeal (hActIdeal := hActIdeal) (hActRefIdeal := hActRefIdeal)
    ∧ preserves_Fout_FoutIdeal
    ∧ algebraic_FoutIdeal_FoutRefIdeal (hFoutIdeal := hFoutIdeal) (hFoutRefIdeal := hFoutRefIdeal)
    ∧ preserves_Zx_ZxIdeal
    ∧ algebraic_ZxIdeal_ZxRefIdeal (hZxIdeal := hZxIdeal) (hZxRefIdeal := hZxRefIdeal)
    ∧ preserves_Dwzx_DwzxIdeal
    ∧ algebraic_DwzxIdeal_DwzxRefIdeal (hDwzxIdeal := hDwzxIdeal) (hDwzxRefIdeal := hDwzxRefIdeal)
    ∧ preserves_Dzx_DzxIdeal
    ∧ algebraic_DzxIdeal_DzxRefIdeal (hDzxIdeal := hDzxIdeal) (hDzxRefIdeal := hDzxRefIdeal)
    ∧ preserves_Dglu_DgluIdeal
    ∧ algebraic_DgluIdeal_DgluRefIdeal (hDgluIdeal := hDgluIdeal) (hDgluRefIdeal := hDgluRefIdeal)
    ∧ preserves_Dnorm_DnormIdeal
    ∧ algebraic_DnormIdeal_DnormRefIdeal_pre_norm_finite (hDnormIdeal := hDnormIdeal) (hDnormRefIdeal := hDnormRefIdeal) (hPre_norm_finite := hPre_norm_finite)
    ∧ preserves_Dpwin_DpwinIdeal
    ∧ algebraic_DpwinIdeal_DpwinRefIdeal (hDpwinIdeal := hDpwinIdeal) (hDpwinRefIdeal := hDpwinRefIdeal)
    ∧ preserves_Dpwout_DpwoutIdeal
    ∧ algebraic_DpwoutIdeal_DpwoutRefIdeal (hDpwoutIdeal := hDpwoutIdeal) (hDpwoutRefIdeal := hDpwoutRefIdeal)
    ∧ preserves_Dpwx_DpwxIdeal
    ∧ algebraic_DpwxIdeal_DpwxRefIdeal (hDpwxIdeal := hDpwxIdeal) (hDpwxRefIdeal := hDpwxRefIdeal)
    ∧ preserves_Dpwsl_DpwslIdeal
    ∧ algebraic_DpwslIdeal_DpwslRefIdeal (hDpwslIdeal := hDpwslIdeal) (hDpwslRefIdeal := hDpwslRefIdeal)
    ∧ preserves_Dmixw_DmixwIdeal
    ∧ algebraic_DmixwIdeal_DmixwRefIdeal (hDmixwIdeal := hDmixwIdeal) (hDmixwRefIdeal := hDmixwRefIdeal)
    ∧ preserves_Dmixy_DmixyIdeal
    ∧ algebraic_DmixyIdeal_DmixyRefIdeal (hDmixyIdeal := hDmixyIdeal) (hDmixyRefIdeal := hDmixyRefIdeal)
    ∧ preserves_Pwin_PwinIdeal
    ∧ algebraic_PwinIdeal_PwinRefIdeal (hPwinIdeal := hPwinIdeal) (hPwinRefIdeal := hPwinRefIdeal)
    ∧ preserves_Pwout_PwoutIdeal
    ∧ algebraic_PwoutIdeal_PwoutRefIdeal (hPwoutIdeal := hPwoutIdeal) (hPwoutRefIdeal := hPwoutRefIdeal)
    ∧ preserves_Mix_MixIdeal
    ∧ algebraic_MixIdeal_MixRefIdeal (hMixIdeal := hMixIdeal) (hMixRefIdeal := hMixRefIdeal)
    ∧ preserves_Drms_DrmsIdeal
    ∧ algebraic_DrmsIdeal_DrmsRefIdeal (hDrmsIdeal := hDrmsIdeal) (hDrmsRefIdeal := hDrmsRefIdeal)
    ∧ preserves_Dgate_DgateIdeal
    ∧ algebraic_DgateIdeal_DgateRefIdeal_pre_gated_finite (hDgateIdeal := hDgateIdeal) (hDgateRefIdeal := hDgateRefIdeal) (hPre_gated_finite := hPre_gated_finite)
    ∧ preserves_Glu_GluIdeal
    ∧ algebraic_GluIdeal_GluRefIdeal (hGluIdeal := hGluIdeal) (hGluRefIdeal := hGluRefIdeal)
    ∧ preserves_Lnorm_LnormIdeal
    ∧ algebraic_LnormIdeal_LnormRefIdeal (hLnormIdeal := hLnormIdeal) (hLnormRefIdeal := hLnormRefIdeal)
    ∧ preserves_Rnorm_RnormIdeal
    ∧ algebraic_RnormIdeal_RnormRefIdeal (hRnormIdeal := hRnormIdeal) (hRnormRefIdeal := hRnormRefIdeal)
    ∧ preserves_Sgate_SgateIdeal
    ∧ algebraic_SgateIdeal_SgateRefIdeal (hSgateIdeal := hSgateIdeal) (hSgateRefIdeal := hSgateRefIdeal)
    ∧ preserves_Dtp_DtpIdeal
    ∧ algebraic_DtpIdeal_DtpRefIdeal (hDtpIdeal := hDtpIdeal) (hDtpRefIdeal := hDtpRefIdeal)
    ∧ preserves_Dwdt_DwdtIdeal
    ∧ algebraic_DwdtIdeal_DwdtRefIdeal (hDwdtIdeal := hDwdtIdeal) (hDwdtRefIdeal := hDwdtRefIdeal)
    ∧ preserves_Dxdt_DxdtIdeal
    ∧ algebraic_DxdtIdeal_DxdtRefIdeal (hDxdtIdeal := hDxdtIdeal) (hDxdtRefIdeal := hDxdtRefIdeal)
    ∧ preserves_Cnorm_CnormIdeal
    ∧ algebraic_CnormIdeal_CnormRefIdeal (hCnormIdeal := hCnormIdeal) (hCnormRefIdeal := hCnormRefIdeal)
    ∧ preserves_Ada_AdaIdeal
    ∧ algebraic_AdaIdeal_AdaRefIdeal (hAdaIdeal := hAdaIdeal) (hAdaRefIdeal := hAdaRefIdeal)
    ∧ preserves_Axial_AxialIdeal
    ∧ algebraic_AxialIdeal_AxialRefIdeal (hAxialIdeal := hAxialIdeal) (hAxialRefIdeal := hAxialRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamPwin_AdamPwinIdeal
    ∧ algebraic_AdamPwinIdeal_AdamPwinRefIdeal (hAdamPwinIdeal := hAdamPwinIdeal) (hAdamPwinRefIdeal := hAdamPwinRefIdeal)
    ∧ preserves_AdamPwout_AdamPwoutIdeal
    ∧ algebraic_AdamPwoutIdeal_AdamPwoutRefIdeal (hAdamPwoutIdeal := hAdamPwoutIdeal) (hAdamPwoutRefIdeal := hAdamPwoutRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_AdamFin_AdamFinIdeal
    ∧ algebraic_AdamFinIdeal_AdamFinRefIdeal (hAdamFinIdeal := hAdamFinIdeal) (hAdamFinRefIdeal := hAdamFinRefIdeal)
    ∧ preserves_AdamFout_AdamFoutIdeal
    ∧ algebraic_AdamFoutIdeal_AdamFoutRefIdeal (hAdamFoutIdeal := hAdamFoutIdeal) (hAdamFoutRefIdeal := hAdamFoutRefIdeal)
-- ==== Pre_gate_finite.lean ====
abbrev S4096x5632 : Shape := ⟨2, ![4096, 5632]⟩
abbrev S4096x2816 : Shape := ⟨2, ![4096, 2816]⟩
abbrev S_ : Shape := ⟨0, ![]⟩

class Facts : Prop where
  bitsLt_bf16_f32 : FTy.bits .bf16 < FTy.bits .f32
  slices_S4096x5632_S4096x2816_0_2816 : S4096x5632.Slices ![0, 2816] S4096x2816
  bcast_S_S4096x2816 : S_.BroadcastsInDim S4096x2816 (![] : Fin 0 → Fin S4096x2816.rank)

variable [Facts]

def fn {F : FTy → Type} [FloatOps F] (main_arg0 : FVec F S4096x5632 .bf16) (main_arg1 : FVec F S4096x2816 .bf16) : IVec S4096x2816 1 :=
  let main_v0 : FVec F S4096x2816 .f32 := (extf .f32 · bitsLt_bf16_f32) main_arg1
  let main_v1 : FVec F S4096x2816 .bf16 := (extractStridedSlice S4096x2816 ![0, 2816] · slices_S4096x5632_S4096x2816_0_2816) main_arg0
  let main_v2 : FVec F S4096x2816 .f32 := (extf .f32 · bitsLt_bf16_f32) main_v1
  let main_v3 : FVec F S4096x2816 .f32 := mulf main_v0 main_v2
  let main_v4 : FVec F S4096x2816 .f32 := Host.absf main_v3
  let main_cst : FVec F S_ .f32 := constant S_ .f32 0x7F800000#32
  let main_v5 : FVec F S4096x2816 .f32 := broadcastInDim S4096x2816 ![] bcast_S_S4096x2816 main_cst
  let main_v6 : IVec S4096x2816 1 := cmpf .olt main_v4 main_v5
  main_v6
-- ==== Pre_gated_finite.lean ====
abbrev S4096x2048 : Shape := ⟨2, ![4096, 2048]⟩
abbrev S2x4352x2048 : Shape := ⟨3, ![2, 4352, 2048]⟩
abbrev S4352x4096 : Shape := ⟨2, ![4352, 4096]⟩
abbrev S4352x2048 : Shape := ⟨2, ![4352, 2048]⟩
abbrev S1x2048 : Shape := ⟨2, ![1, 2048]⟩
abbrev S_ : Shape := ⟨0, ![]⟩

class Facts : Prop where
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)

variable [Facts]

def fn {F : FTy → Type} [FloatOps F] (main_arg0 : FVec F S4096x2048 .f32) (main_arg1 : FVec F S2x4352x2048 .f32) (main_arg2 : FVec F S4352x4096 .bf16) (main_arg3 : FVec F S4352x2048 .bf16) (main_arg4 : FVec F S1x2048 .f32) (main_arg5 : FVec F S1x2048 .f32) : IVec S4096x2048 1 :=
  let main_v0 : FVec F S4096x2048 .f32 := broadcastInDim S4096x2048 ![0, 1] bcast_S1x2048_S4096x2048_0_1 main_arg5
  let main_v1 : FVec F S4096x2048 .f32 := mulf main_arg0 main_v0
  let main_v2 : FVec F S4096x2048 .f32 := Host.absf main_v1
  let main_cst : FVec F S_ .f32 := constant S_ .f32 0x7F800000#32
  let main_v3 : FVec F S4096x2048 .f32 := broadcastInDim S4096x2048 ![] bcast_S_S4096x2048 main_cst
  let main_v4 : IVec S4096x2048 1 := cmpf .olt main_v2 main_v3
  main_v4
-- ==== Pre_norm_finite.lean ====
abbrev S4096x512 : Shape := ⟨2, ![4096, 512]⟩
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S1x1024_S4096x1024_0_1 : S1x1024.BroadcastsInDim S4096x1024 (![0, 1] : Fin 2 → Fin S4096x1024.rank)

variable [Facts]

def fn {F : FTy → Type} [FloatOps F] (main_arg0 : FVec F S4096x512 .f32) (main_arg1 : FVec F S4096x512 .f32) (main_arg2 : FVec F S4096x1024 .f32) (main_arg3 : FVec F S1x1024 .f32) (main_arg4 : FVec F S1x1024 .f32) : IVec S4096x1024 1 :=
  let main_v0 : FVec F S4096x1024 .f32 := Host.absf main_arg2
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg3
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : IVec S4096x1024 1 := broadcastInDim S4096x1024 ![0, 1] bcast_S1x1024_S4096x1024_0_1 main_v5
  let main_v7 : IVec S4096x1024 1 := andi main_v2 main_v6
  main_v7
-- ==== Kernel.lean ====
abbrev S4096x1024 : Shape := ⟨2, ![4096, 1024]⟩
abbrev S4096x512 : Shape := ⟨2, ![4096, 512]⟩
abbrev S31x1024 : Shape := ⟨2, ![31, 1024]⟩
abbrev S64x64x512 : Shape := ⟨3, ![64, 64, 512]⟩
abbrev S31x512 : Shape := ⟨2, ![31, 512]⟩
abbrev S4096x128 : Shape := ⟨2, ![4096, 128]⟩
abbrev S31x128 : Shape := ⟨2, ![31, 128]⟩
abbrev S6016x128 : Shape := ⟨2, ![6016, 128]⟩
abbrev S960x128 : Shape := ⟨2, ![960, 128]⟩
abbrev S1x128 : Shape := ⟨2, ![1, 128]⟩
abbrev S1x512 : Shape := ⟨2, ![1, 512]⟩
abbrev S128 : Shape := ⟨1, ![128]⟩
abbrev S1x1024 : Shape := ⟨2, ![1, 1024]⟩

abbrev nBuf : Space → Nat
  | .hbm => 25
  | .vmem => 32
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S31x1024, .f32⟩
  | .hbm, ⟨4, _⟩ => ⟨S4096x512, .f32⟩
  | .hbm, ⟨5, _⟩ => ⟨S64x64x512, .f32⟩
  | .hbm, ⟨6, _⟩ => ⟨S64x64x512, .f32⟩
  | .hbm, ⟨7, _⟩ => ⟨S4096x512, .f32⟩
  | .hbm, ⟨8, _⟩ => ⟨S64x64x512, .f32⟩
  | .hbm, ⟨9, _⟩ => ⟨S64x64x512, .f32⟩
  | .hbm, ⟨10, _⟩ => ⟨S4096x512, .f32⟩
  | .hbm, ⟨11, _⟩ => ⟨S31x1024, .f32⟩
  | .hbm, ⟨12, _⟩ => ⟨S31x512, .f32⟩
  | .hbm, ⟨13, _⟩ => ⟨S4096x512, .f32⟩
  | .hbm, ⟨14, _⟩ => ⟨S31x512, .f32⟩
  | .hbm, ⟨15, _⟩ => ⟨S4096x512, .f32⟩
  | .hbm, ⟨16, _⟩ => ⟨S31x512, .f32⟩
  | .hbm, ⟨17, _⟩ => ⟨S1x512, .f32⟩
  | .hbm, ⟨18, _⟩ => ⟨S31x512, .f32⟩
  | .hbm, ⟨19, _⟩ => ⟨S1x512, .f32⟩
  | .hbm, ⟨20, _⟩ => ⟨S31x1024, .f32⟩
  | .hbm, ⟨21, _⟩ => ⟨S1x1024, .f32⟩
  | .hbm, ⟨22, _⟩ => ⟨S64x64x512, .f32⟩
  | .hbm, ⟨23, _⟩ => ⟨S64x64x512, .f32⟩
  | .hbm, ⟨24, _⟩ => ⟨S4096x512, .f32⟩
  | .local _ .vmem, ⟨0, _⟩ => ⟨S4096x128, .f32⟩
  | .local _ .vmem, ⟨1, _⟩ => ⟨S4096x128, .f32⟩
  | .local _ .vmem, ⟨2, _⟩ => ⟨S31x128, .f32⟩
  | .local _ .vmem, ⟨3, _⟩ => ⟨S31x128, .f32⟩
  | .local _ .vmem, ⟨4, _⟩ => ⟨S4096x128, .f32⟩
  | .local _ .vmem, ⟨5, _⟩ => ⟨S4096x128, .f32⟩
  | .local _ .vmem, ⟨6, _⟩ => ⟨S6016x128, .f32⟩
  | .local _ .vmem, ⟨7, _⟩ => ⟨S4096x128, .f32⟩
  | .local _ .vmem, ⟨8, _⟩ => ⟨S4096x128, .f32⟩
  | .local _ .vmem, ⟨9, _⟩ => ⟨S31x128, .f32⟩
  | .local _ .vmem, ⟨10, _⟩ => ⟨S31x128, .f32⟩
  | .local _ .vmem, ⟨11, _⟩ => ⟨S4096x128, .f32⟩
  | .local _ .vmem, ⟨12, _⟩ => ⟨S4096x128, .f32⟩
  | .local _ .vmem, ⟨13, _⟩ => ⟨S6016x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | .local _ .vmem, ⟨18, _⟩ => ⟨S31x128, .f32⟩
  | .local _ .vmem, ⟨19, _⟩ => ⟨S31x128, .f32⟩
  | .local _ .vmem, ⟨20, _⟩ => ⟨S1x128, .f32⟩
  | .local _ .vmem, ⟨21, _⟩ => ⟨S1x128, .f32⟩
  | .local _ .vmem, ⟨22, _⟩ => ⟨S6016x128, .f32⟩
  | .local _ .vmem, ⟨23, _⟩ => ⟨S4096x128, .f32⟩
  | .local _ .vmem, ⟨24, _⟩ => ⟨S4096x128, .f32⟩
  | .local _ .vmem, ⟨25, _⟩ => ⟨S4096x128, .f32⟩
  | .local _ .vmem, ⟨26, _⟩ => ⟨S4096x128, .f32⟩
  | .local _ .vmem, ⟨27, _⟩ => ⟨S31x128, .f32⟩
  | .local _ .vmem, ⟨28, _⟩ => ⟨S31x128, .f32⟩
  | .local _ .vmem, ⟨29, _⟩ => ⟨S1x128, .f32⟩
  | .local _ .vmem, ⟨30, _⟩ => ⟨S1x128, .f32⟩
  | .local _ .vmem, ⟨31, _⟩ => ⟨S6016x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v13_0 : Ref sig .tc := ⟨.hbm, 18, rfl⟩
abbrev main_v13_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_scratch0 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg3_1 : Ref sig .tc := ⟨.vmem, 30, rfl⟩
abbrev cc3_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S31x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S31x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S31x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S4096x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S31x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]
-- ==== ReferenceIdeal.lean ====
abbrev S4096x1024 : Shape := ⟨2, ![4096, 1024]⟩
abbrev S4096x512 : Shape := ⟨2, ![4096, 512]⟩
abbrev S31x1024 : Shape := ⟨2, ![31, 1024]⟩
abbrev S_ : Shape := ⟨0, ![]⟩
abbrev S1024 : Shape := ⟨1, ![1024]⟩
abbrev S64x64x1024 : Shape := ⟨3, ![64, 64, 1024]⟩
abbrev S64x64x512 : Shape := ⟨3, ![64, 64, 512]⟩
abbrev S64x15x1024 : Shape := ⟨3, ![64, 15, 1024]⟩
abbrev S64x94x1024 : Shape := ⟨3, ![64, 94, 1024]⟩
abbrev S1x1024 : Shape := ⟨2, ![1, 1024]⟩
abbrev S1x1x1024 : Shape := ⟨3, ![1, 1, 1024]⟩
abbrev S16x1024 : Shape := ⟨2, ![16, 1024]⟩
abbrev S15x1024 : Shape := ⟨2, ![15, 1024]⟩

abbrev nBuf : Space → Nat
  | .hbm => 618
  | .vmem => 0
  | .smem => 0
  | _ => 0

abbrev hbmTy0_0 (i : Nat) : BufTy := match i % 128 with
  | 0 => ⟨S4096x1024, .f32⟩
  | 1 => ⟨S4096x512, .f32⟩
  | 2 => ⟨S4096x512, .f32⟩
  | 3 => ⟨S31x1024, .f32⟩
  | 4 => ⟨S4096x1024, .f32⟩
  | 5 => ⟨S_, .f32⟩
  | 6 => ⟨S1024, .f32⟩
  | 7 => ⟨S64x64x1024, .f32⟩
  | 8 => ⟨S64x64x512, .f32⟩
  | 9 => ⟨S64x64x512, .f32⟩
  | 10 => ⟨S64x64x512, .f32⟩
  | 11 => ⟨S64x64x1024, .f32⟩
  | 12 => ⟨S_, .f32⟩
  | 13 => ⟨S64x15x1024, .f32⟩
  | 14 => ⟨S64x94x1024, .f32⟩
  | 15 => ⟨S_, .f32⟩
  | 16 => ⟨S64x15x1024, .f32⟩
  | 17 => ⟨S_, .f32⟩
  | 18 => ⟨S64x15x1024, .f32⟩
  | 19 => ⟨S1x1024, .f32⟩
  | 20 => ⟨S1x1024, .f32⟩
  | 21 => ⟨S1x1024, .f32⟩
  | 22 => ⟨S1x1024, .f32⟩
  | 23 => ⟨S1x1024, .f32⟩
  | 24 => ⟨S1x1024, .f32⟩
  | 25 => ⟨S1x1024, .f32⟩
  | 26 => ⟨S1x1024, .f32⟩
  | 27 => ⟨S1x1024, .f32⟩
  | 28 => ⟨S1x1024, .f32⟩
  | 29 => ⟨S1x1024, .f32⟩
  | 30 => ⟨S1x1024, .f32⟩
  | 31 => ⟨S1x1024, .f32⟩
  | 32 => ⟨S1x1024, .f32⟩
  | 33 => ⟨S1x1024, .f32⟩
  | 34 => ⟨S1x1024, .f32⟩
  | 35 => ⟨S1x1024, .f32⟩
  | 36 => ⟨S1x1024, .f32⟩
  | 37 => ⟨S1x1024, .f32⟩
  | 38 => ⟨S1x1024, .f32⟩
  | 39 => ⟨S1x1024, .f32⟩
  | 40 => ⟨S1x1024, .f32⟩
  | 41 => ⟨S1x1024, .f32⟩
  | 42 => ⟨S1x1024, .f32⟩
  | 43 => ⟨S1x1024, .f32⟩
  | 44 => ⟨S1x1024, .f32⟩
  | 45 => ⟨S1x1024, .f32⟩
  | 46 => ⟨S1x1024, .f32⟩
  | 47 => ⟨S1x1024, .f32⟩
  | 48 => ⟨S1x1024, .f32⟩
  | 49 => ⟨S1x1024, .f32⟩
  | 50 => ⟨S64x64x1024, .f32⟩
  | 51 => ⟨S1x1x1024, .f32⟩
  | 52 => ⟨S64x64x1024, .f32⟩
  | 53 => ⟨S64x64x1024, .f32⟩
  | 54 => ⟨S_, .f32⟩
  | 55 => ⟨S64x64x1024, .f32⟩
  | 56 => ⟨S64x64x1024, .f32⟩
  | 57 => ⟨S64x64x1024, .f32⟩
  | 58 => ⟨S1x1x1024, .f32⟩
  | 59 => ⟨S64x64x1024, .f32⟩
  | 60 => ⟨S64x64x1024, .f32⟩
  | 61 => ⟨S64x64x1024, .f32⟩
  | 62 => ⟨S64x64x1024, .f32⟩
  | 63 => ⟨S1x1x1024, .f32⟩
  | 64 => ⟨S64x64x1024, .f32⟩
  | 65 => ⟨S64x64x1024, .f32⟩
  | 66 => ⟨S64x64x1024, .f32⟩
  | 67 => ⟨S64x64x1024, .f32⟩
  | 68 => ⟨S1x1x1024, .f32⟩
  | 69 => ⟨S64x64x1024, .f32⟩
  | 70 => ⟨S64x64x1024, .f32⟩
  | 71 => ⟨S64x64x1024, .f32⟩
  | 72 => ⟨S64x64x1024, .f32⟩
  | 73 => ⟨S1x1x1024, .f32⟩
  | 74 => ⟨S64x64x1024, .f32⟩
  | 75 => ⟨S64x64x1024, .f32⟩
  | 76 => ⟨S64x64x1024, .f32⟩
  | 77 => ⟨S64x64x1024, .f32⟩
  | 78 => ⟨S1x1x1024, .f32⟩
  | 79 => ⟨S64x64x1024, .f32⟩
  | 80 => ⟨S64x64x1024, .f32⟩
  | 81 => ⟨S64x64x1024, .f32⟩
  | 82 => ⟨S64x64x1024, .f32⟩
  | 83 => ⟨S1x1x1024, .f32⟩
  | 84 => ⟨S64x64x1024, .f32⟩
  | 85 => ⟨S64x64x1024, .f32⟩
  | 86 => ⟨S64x64x1024, .f32⟩
  | 87 => ⟨S64x64x1024, .f32⟩
  | 88 => ⟨S1x1x1024, .f32⟩
  | 89 => ⟨S64x64x1024, .f32⟩
  | 90 => ⟨S64x64x1024, .f32⟩
  | 91 => ⟨S64x64x1024, .f32⟩
  | 92 => ⟨S64x64x1024, .f32⟩
  | 93 => ⟨S1x1x1024, .f32⟩
  | 94 => ⟨S64x64x1024, .f32⟩
  | 95 => ⟨S64x64x1024, .f32⟩
  | 96 => ⟨S64x64x1024, .f32⟩
  | 97 => ⟨S64x64x1024, .f32⟩
  | 98 => ⟨S1x1x1024, .f32⟩
  | 99 => ⟨S64x64x1024, .f32⟩
  | 100 => ⟨S64x64x1024, .f32⟩
  | 101 => ⟨S64x64x1024, .f32⟩
  | 102 => ⟨S64x64x1024, .f32⟩
  | 103 => ⟨S1x1x1024, .f32⟩
  | 104 => ⟨S64x64x1024, .f32⟩
  | 105 => ⟨S64x64x1024, .f32⟩
  | 106 => ⟨S64x64x1024, .f32⟩
  | 107 => ⟨S64x64x1024, .f32⟩
  | 108 => ⟨S1x1x1024, .f32⟩
  | 109 => ⟨S64x64x1024, .f32⟩
  | 110 => ⟨S64x64x1024, .f32⟩
  | 111 => ⟨S64x64x1024, .f32⟩
  | 112 => ⟨S64x64x1024, .f32⟩
  | 113 => ⟨S1x1x1024, .f32⟩
  | 114 => ⟨S64x64x1024, .f32⟩
  | 115 => ⟨S64x64x1024, .f32⟩
  | 116 => ⟨S64x64x1024, .f32⟩
  | 117 => ⟨S64x64x1024, .f32⟩
  | 118 => ⟨S1x1x1024, .f32⟩
  | 119 => ⟨S64x64x1024, .f32⟩
  | 120 => ⟨S64x64x1024, .f32⟩
  | 121 => ⟨S64x64x1024, .f32⟩
  | 122 => ⟨S64x64x1024, .f32⟩
  | 123 => ⟨S1x1x1024, .f32⟩
  | 124 => ⟨S64x64x1024, .f32⟩
  | 125 => ⟨S64x64x1024, .f32⟩
  | 126 => ⟨S64x64x1024, .f32⟩
  | 127 => ⟨S64x64x1024, .f32⟩
  | _ => ⟨S4096x1024, .f32⟩

abbrev hbmTy0_1 (i : Nat) : BufTy := match i % 128 with
  | 0 => ⟨S1x1x1024, .f32⟩
  | 1 => ⟨S64x64x1024, .f32⟩
  | 2 => ⟨S64x64x1024, .f32⟩
  | 3 => ⟨S64x64x1024, .f32⟩
  | 4 => ⟨S64x64x1024, .f32⟩
  | 5 => ⟨S1x1x1024, .f32⟩
  | 6 => ⟨S64x64x1024, .f32⟩
  | 7 => ⟨S64x64x1024, .f32⟩
  | 8 => ⟨S64x64x1024, .f32⟩
  | 9 => ⟨S64x64x1024, .f32⟩
  | 10 => ⟨S1x1x1024, .f32⟩
  | 11 => ⟨S64x64x1024, .f32⟩
  | 12 => ⟨S64x64x1024, .f32⟩
  | 13 => ⟨S64x64x1024, .f32⟩
  | 14 => ⟨S64x64x1024, .f32⟩
  | 15 => ⟨S1x1x1024, .f32⟩
  | 16 => ⟨S64x64x1024, .f32⟩
  | 17 => ⟨S64x64x1024, .f32⟩
  | 18 => ⟨S64x64x1024, .f32⟩
  | 19 => ⟨S64x64x1024, .f32⟩
  | 20 => ⟨S1x1x1024, .f32⟩
  | 21 => ⟨S64x64x1024, .f32⟩
  | 22 => ⟨S64x64x1024, .f32⟩
  | 23 => ⟨S64x64x1024, .f32⟩
  | 24 => ⟨S64x64x1024, .f32⟩
  | 25 => ⟨S1x1x1024, .f32⟩
  | 26 => ⟨S64x64x1024, .f32⟩
  | 27 => ⟨S64x64x1024, .f32⟩
  | 28 => ⟨S64x64x1024, .f32⟩
  | 29 => ⟨S64x64x1024, .f32⟩
  | 30 => ⟨S1x1x1024, .f32⟩
  | 31 => ⟨S64x64x1024, .f32⟩
  | 32 => ⟨S64x64x1024, .f32⟩
  | 33 => ⟨S64x64x1024, .f32⟩
  | 34 => ⟨S64x64x1024, .f32⟩
  | 35 => ⟨S1x1x1024, .f32⟩
  | 36 => ⟨S64x64x1024, .f32⟩
  | 37 => ⟨S64x64x1024, .f32⟩
  | 38 => ⟨S64x64x1024, .f32⟩
  | 39 => ⟨S64x64x1024, .f32⟩
  | 40 => ⟨S1x1x1024, .f32⟩
  | 41 => ⟨S64x64x1024, .f32⟩
  | 42 => ⟨S64x64x1024, .f32⟩
  | 43 => ⟨S64x64x1024, .f32⟩
  | 44 => ⟨S64x64x1024, .f32⟩
  | 45 => ⟨S1x1x1024, .f32⟩
  | 46 => ⟨S64x64x1024, .f32⟩
  | 47 => ⟨S64x64x1024, .f32⟩
  | 48 => ⟨S64x64x1024, .f32⟩
  | 49 => ⟨S64x64x1024, .f32⟩
  | 50 => ⟨S1x1x1024, .f32⟩
  | 51 => ⟨S64x64x1024, .f32⟩
  | 52 => ⟨S64x64x1024, .f32⟩
  | 53 => ⟨S64x64x1024, .f32⟩
  | 54 => ⟨S64x64x1024, .f32⟩
  | 55 => ⟨S1x1x1024, .f32⟩
  | 56 => ⟨S64x64x1024, .f32⟩
  | 57 => ⟨S64x64x1024, .f32⟩
  | 58 => ⟨S64x64x1024, .f32⟩
  | 59 => ⟨S64x64x1024, .f32⟩
  | 60 => ⟨S1x1x1024, .f32⟩
  | 61 => ⟨S64x64x1024, .f32⟩
  | 62 => ⟨S64x64x1024, .f32⟩
  | 63 => ⟨S64x64x1024, .f32⟩
  | 64 => ⟨S64x64x1024, .f32⟩
  | 65 => ⟨S1x1x1024, .f32⟩
  | 66 => ⟨S64x64x1024, .f32⟩
  | 67 => ⟨S64x64x1024, .f32⟩
  | 68 => ⟨S64x64x1024, .f32⟩
  | 69 => ⟨S64x64x1024, .f32⟩
  | 70 => ⟨S1x1x1024, .f32⟩
  | 71 => ⟨S64x64x1024, .f32⟩
  | 72 => ⟨S64x64x1024, .f32⟩
  | 73 => ⟨S64x64x1024, .f32⟩
  | 74 => ⟨S64x64x1024, .f32⟩
  | 75 => ⟨S1x1x1024, .f32⟩
  | 76 => ⟨S64x64x1024, .f32⟩
  | 77 => ⟨S64x64x1024, .f32⟩
  | 78 => ⟨S64x64x1024, .f32⟩
  | 79 => ⟨S1x1x1024, .f32⟩
  | 80 => ⟨S64x64x1024, .f32⟩
  | 81 => ⟨S64x64x1024, .f32⟩
  | 82 => ⟨S64x64x512, .f32⟩
  | 83 => ⟨S64x64x512, .f32⟩
  | 84 => ⟨S64x64x512, .f32⟩
  | 85 => ⟨S64x64x1024, .f32⟩
  | 86 => ⟨S4096x1024, .f32⟩
  | 87 => ⟨S64x64x1024, .f32⟩
  | 88 => ⟨S64x64x512, .f32⟩
  | 89 => ⟨S64x64x512, .f32⟩
  | 90 => ⟨S64x64x512, .f32⟩
  | 91 => ⟨S_, .f32⟩
  | 92 => ⟨S64x64x1024, .f32⟩
  | 93 => ⟨S_, .f32⟩
  | 94 => ⟨S64x64x1024, .f32⟩
  | 95 => ⟨S64x64x1024, .f32⟩
  | 96 => ⟨S_, .f32⟩
  | 97 => ⟨S1024, .f32⟩
  | 98 => ⟨S1x1x1024, .f32⟩
  | 99 => ⟨S_, .f32⟩
  | 100 => ⟨S1024, .f32⟩
  | 101 => ⟨S64x64x1024, .f32⟩
  | 102 => ⟨S64x64x1024, .f32⟩
  | 103 => ⟨S64x64x1024, .f32⟩
  | 104 => ⟨S_, .f32⟩
  | 105 => ⟨S1024, .f32⟩
  | 106 => ⟨S1x1x1024, .f32⟩
  | 107 => ⟨S_, .f32⟩
  | 108 => ⟨S1024, .f32⟩
  | 109 => ⟨S1x1024, .f32⟩
  | 110 => ⟨S_, .f32⟩
  | 111 => ⟨S64x94x1024, .f32⟩
  | 112 => ⟨S64x64x1024, .f32⟩
  | 113 => ⟨S64x64x1024, .f32⟩
  | 114 => ⟨S64x64x1024, .f32⟩
  | 115 => ⟨S_, .f32⟩
  | 116 => ⟨S1024, .f32⟩
  | 117 => ⟨S1x1x1024, .f32⟩
  | 118 => ⟨S_, .f32⟩
  | 119 => ⟨S1024, .f32⟩
  | 120 => ⟨S1x1024, .f32⟩
  | 121 => ⟨S_, .f32⟩
  | 122 => ⟨S64x94x1024, .f32⟩
  | 123 => ⟨S64x94x1024, .f32⟩
  | 124 => ⟨S64x64x1024, .f32⟩
  | 125 => ⟨S64x64x1024, .f32⟩
  | 126 => ⟨S64x64x1024, .f32⟩
  | 127 => ⟨S_, .f32⟩
  | _ => ⟨S4096x1024, .f32⟩

abbrev hbmTy0_2 (i : Nat) : BufTy := match i % 128 with
  | 0 => ⟨S1024, .f32⟩
  | 1 => ⟨S1x1x1024, .f32⟩
  | 2 => ⟨S_, .f32⟩
  | 3 => ⟨S1024, .f32⟩
  | 4 => ⟨S1x1024, .f32⟩
  | 5 => ⟨S_, .f32⟩
  | 6 => ⟨S64x94x1024, .f32⟩
  | 7 => ⟨S64x94x1024, .f32⟩
  | 8 => ⟨S64x64x1024, .f32⟩
  | 9 => ⟨S64x64x1024, .f32⟩
  | 10 => ⟨S64x64x1024, .f32⟩
  | 11 => ⟨S_, .f32⟩
  | 12 => ⟨S1024, .f32⟩
  | 13 => ⟨S1x1x1024, .f32⟩
  | 14 => ⟨S_, .f32⟩
  | 15 => ⟨S1024, .f32⟩
  | 16 => ⟨S1x1024, .f32⟩
  | 17 => ⟨S_, .f32⟩
  | 18 => ⟨S64x94x1024, .f32⟩
  | 19 => ⟨S64x94x1024, .f32⟩
  | 20 => ⟨S64x64x1024, .f32⟩
  | 21 => ⟨S64x64x1024, .f32⟩
  | 22 => ⟨S64x64x1024, .f32⟩
  | 23 => ⟨S_, .f32⟩
  | 24 => ⟨S1024, .f32⟩
  | 25 => ⟨S1x1x1024, .f32⟩
  | 26 => ⟨S_, .f32⟩
  | 27 => ⟨S1024, .f32⟩
  | 28 => ⟨S1x1024, .f32⟩
  | 29 => ⟨S_, .f32⟩
  | 30 => ⟨S64x94x1024, .f32⟩
  | 31 => ⟨S64x94x1024, .f32⟩
  | 32 => ⟨S64x64x1024, .f32⟩
  | 33 => ⟨S64x64x1024, .f32⟩
  | 34 => ⟨S64x64x1024, .f32⟩
  | 35 => ⟨S_, .f32⟩
  | 36 => ⟨S1024, .f32⟩
  | 37 => ⟨S1x1x1024, .f32⟩
  | 38 => ⟨S_, .f32⟩
  | 39 => ⟨S1024, .f32⟩
  | 40 => ⟨S1x1024, .f32⟩
  | 41 => ⟨S_, .f32⟩
  | 42 => ⟨S64x94x1024, .f32⟩
  | 43 => ⟨S64x94x1024, .f32⟩
  | 44 => ⟨S64x64x1024, .f32⟩
  | 45 => ⟨S64x64x1024, .f32⟩
  | 46 => ⟨S64x64x1024, .f32⟩
  | 47 => ⟨S_, .f32⟩
  | 48 => ⟨S1024, .f32⟩
  | 49 => ⟨S1x1x1024, .f32⟩
  | 50 => ⟨S_, .f32⟩
  | 51 => ⟨S1024, .f32⟩
  | 52 => ⟨S1x1024, .f32⟩
  | 53 => ⟨S_, .f32⟩
  | 54 => ⟨S64x94x1024, .f32⟩
  | 55 => ⟨S64x94x1024, .f32⟩
  | 56 => ⟨S64x64x1024, .f32⟩
  | 57 => ⟨S64x64x1024, .f32⟩
  | 58 => ⟨S64x64x1024, .f32⟩
  | 59 => ⟨S_, .f32⟩
  | 60 => ⟨S1024, .f32⟩
  | 61 => ⟨S1x1x1024, .f32⟩
  | 62 => ⟨S_, .f32⟩
  | 63 => ⟨S1024, .f32⟩
  | 64 => ⟨S1x1024, .f32⟩
  | 65 => ⟨S_, .f32⟩
  | 66 => ⟨S64x94x1024, .f32⟩
  | 67 => ⟨S64x94x1024, .f32⟩
  | 68 => ⟨S64x64x1024, .f32⟩
  | 69 => ⟨S64x64x1024, .f32⟩
  | 70 => ⟨S64x64x1024, .f32⟩
  | 71 => ⟨S_, .f32⟩
  | 72 => ⟨S1024, .f32⟩
  | 73 => ⟨S1x1x1024, .f32⟩
  | 74 => ⟨S_, .f32⟩
  | 75 => ⟨S1024, .f32⟩
  | 76 => ⟨S1x1024, .f32⟩
  | 77 => ⟨S_, .f32⟩
  | 78 => ⟨S64x94x1024, .f32⟩
  | 79 => ⟨S64x94x1024, .f32⟩
  | 80 => ⟨S64x64x1024, .f32⟩
  | 81 => ⟨S64x64x1024, .f32⟩
  | 82 => ⟨S64x64x1024, .f32⟩
  | 83 => ⟨S_, .f32⟩
  | 84 => ⟨S1024, .f32⟩
  | 85 => ⟨S1x1x1024, .f32⟩
  | 86 => ⟨S_, .f32⟩
  | 87 => ⟨S1024, .f32⟩
  | 88 => ⟨S1x1024, .f32⟩
  | 89 => ⟨S_, .f32⟩
  | 90 => ⟨S64x94x1024, .f32⟩
  | 91 => ⟨S64x94x1024, .f32⟩
  | 92 => ⟨S64x64x1024, .f32⟩
  | 93 => ⟨S64x64x1024, .f32⟩
  | 94 => ⟨S64x64x1024, .f32⟩
  | 95 => ⟨S_, .f32⟩
  | 96 => ⟨S1024, .f32⟩
  | 97 => ⟨S1x1x1024, .f32⟩
  | 98 => ⟨S_, .f32⟩
  | 99 => ⟨S1024, .f32⟩
  | 100 => ⟨S1x1024, .f32⟩
  | 101 => ⟨S_, .f32⟩
  | 102 => ⟨S64x94x1024, .f32⟩
  | 103 => ⟨S64x94x1024, .f32⟩
  | 104 => ⟨S64x64x1024, .f32⟩
  | 105 => ⟨S64x64x1024, .f32⟩
  | 106 => ⟨S64x64x1024, .f32⟩
  | 107 => ⟨S_, .f32⟩
  | 108 => ⟨S1024, .f32⟩
  | 109 => ⟨S1x1x1024, .f32⟩
  | 110 => ⟨S_, .f32⟩
  | 111 => ⟨S1024, .f32⟩
  | 112 => ⟨S1x1024, .f32⟩
  | 113 => ⟨S_, .f32⟩
  | 114 => ⟨S64x94x1024, .f32⟩
  | 115 => ⟨S64x94x1024, .f32⟩
  | 116 => ⟨S64x64x1024, .f32⟩
  | 117 => ⟨S64x64x1024, .f32⟩
  | 118 => ⟨S64x64x1024, .f32⟩
  | 119 => ⟨S_, .f32⟩
  | 120 => ⟨S1024, .f32⟩
  | 121 => ⟨S1x1x1024, .f32⟩
  | 122 => ⟨S_, .f32⟩
  | 123 => ⟨S1024, .f32⟩
  | 124 => ⟨S1x1024, .f32⟩
  | 125 => ⟨S_, .f32⟩
  | 126 => ⟨S64x94x1024, .f32⟩
  | 127 => ⟨S64x94x1024, .f32⟩
  | _ => ⟨S4096x1024, .f32⟩

abbrev hbmTy0_3 (i : Nat) : BufTy := match i % 128 with
  | 0 => ⟨S64x64x1024, .f32⟩
  | 1 => ⟨S64x64x1024, .f32⟩
  | 2 => ⟨S64x64x1024, .f32⟩
  | 3 => ⟨S_, .f32⟩
  | 4 => ⟨S1024, .f32⟩
  | 5 => ⟨S1x1x1024, .f32⟩
  | 6 => ⟨S_, .f32⟩
  | 7 => ⟨S1024, .f32⟩
  | 8 => ⟨S1x1024, .f32⟩
  | 9 => ⟨S_, .f32⟩
  | 10 => ⟨S64x94x1024, .f32⟩
  | 11 => ⟨S64x94x1024, .f32⟩
  | 12 => ⟨S64x64x1024, .f32⟩
  | 13 => ⟨S64x64x1024, .f32⟩
  | 14 => ⟨S64x64x1024, .f32⟩
  | 15 => ⟨S_, .f32⟩
  | 16 => ⟨S1024, .f32⟩
  | 17 => ⟨S1x1x1024, .f32⟩
  | 18 => ⟨S_, .f32⟩
  | 19 => ⟨S1024, .f32⟩
  | 20 => ⟨S1x1024, .f32⟩
  | 21 => ⟨S_, .f32⟩
  | 22 => ⟨S64x94x1024, .f32⟩
  | 23 => ⟨S64x94x1024, .f32⟩
  | 24 => ⟨S64x64x1024, .f32⟩
  | 25 => ⟨S64x64x1024, .f32⟩
  | 26 => ⟨S64x64x1024, .f32⟩
  | 27 => ⟨S_, .f32⟩
  | 28 => ⟨S1024, .f32⟩
  | 29 => ⟨S1x1x1024, .f32⟩
  | 30 => ⟨S_, .f32⟩
  | 31 => ⟨S1024, .f32⟩
  | 32 => ⟨S1x1024, .f32⟩
  | 33 => ⟨S_, .f32⟩
  | 34 => ⟨S64x94x1024, .f32⟩
  | 35 => ⟨S64x94x1024, .f32⟩
  | 36 => ⟨S64x64x1024, .f32⟩
  | 37 => ⟨S64x64x1024, .f32⟩
  | 38 => ⟨S64x64x1024, .f32⟩
  | 39 => ⟨S_, .f32⟩
  | 40 => ⟨S1024, .f32⟩
  | 41 => ⟨S1x1x1024, .f32⟩
  | 42 => ⟨S_, .f32⟩
  | 43 => ⟨S1024, .f32⟩
  | 44 => ⟨S1x1024, .f32⟩
  | 45 => ⟨S_, .f32⟩
  | 46 => ⟨S64x94x1024, .f32⟩
  | 47 => ⟨S64x94x1024, .f32⟩
  | 48 => ⟨S64x64x1024, .f32⟩
  | 49 => ⟨S64x64x1024, .f32⟩
  | 50 => ⟨S64x64x1024, .f32⟩
  | 51 => ⟨S_, .f32⟩
  | 52 => ⟨S1024, .f32⟩
  | 53 => ⟨S1x1x1024, .f32⟩
  | 54 => ⟨S_, .f32⟩
  | 55 => ⟨S1024, .f32⟩
  | 56 => ⟨S1x1024, .f32⟩
  | 57 => ⟨S_, .f32⟩
  | 58 => ⟨S64x94x1024, .f32⟩
  | 59 => ⟨S64x94x1024, .f32⟩
  | 60 => ⟨S64x64x1024, .f32⟩
  | 61 => ⟨S64x64x1024, .f32⟩
  | 62 => ⟨S64x64x1024, .f32⟩
  | 63 => ⟨S_, .f32⟩
  | 64 => ⟨S1024, .f32⟩
  | 65 => ⟨S1x1x1024, .f32⟩
  | 66 => ⟨S_, .f32⟩
  | 67 => ⟨S1024, .f32⟩
  | 68 => ⟨S1x1024, .f32⟩
  | 69 => ⟨S_, .f32⟩
  | 70 => ⟨S64x94x1024, .f32⟩
  | 71 => ⟨S64x94x1024, .f32⟩
  | 72 => ⟨S64x64x1024, .f32⟩
  | 73 => ⟨S64x64x1024, .f32⟩
  | 74 => ⟨S64x64x1024, .f32⟩
  | 75 => ⟨S_, .f32⟩
  | 76 => ⟨S1024, .f32⟩
  | 77 => ⟨S1x1x1024, .f32⟩
  | 78 => ⟨S_, .f32⟩
  | 79 => ⟨S1024, .f32⟩
  | 80 => ⟨S1x1024, .f32⟩
  | 81 => ⟨S_, .f32⟩
  | 82 => ⟨S64x94x1024, .f32⟩
  | 83 => ⟨S64x94x1024, .f32⟩
  | 84 => ⟨S64x64x1024, .f32⟩
  | 85 => ⟨S64x64x1024, .f32⟩
  | 86 => ⟨S64x64x1024, .f32⟩
  | 87 => ⟨S_, .f32⟩
  | 88 => ⟨S1024, .f32⟩
  | 89 => ⟨S1x1x1024, .f32⟩
  | 90 => ⟨S_, .f32⟩
  | 91 => ⟨S1024, .f32⟩
  | 92 => ⟨S1x1024, .f32⟩
  | 93 => ⟨S_, .f32⟩
  | 94 => ⟨S64x94x1024, .f32⟩
  | 95 => ⟨S64x94x1024, .f32⟩
  | 96 => ⟨S64x64x1024, .f32⟩
  | 97 => ⟨S64x64x1024, .f32⟩
  | 98 => ⟨S64x64x1024, .f32⟩
  | 99 => ⟨S_, .f32⟩
  | 100 => ⟨S1024, .f32⟩
  | 101 => ⟨S1x1x1024, .f32⟩
  | 102 => ⟨S_, .f32⟩
  | 103 => ⟨S1024, .f32⟩
  | 104 => ⟨S1x1024, .f32⟩
  | 105 => ⟨S_, .f32⟩
  | 106 => ⟨S64x94x1024, .f32⟩
  | 107 => ⟨S64x94x1024, .f32⟩
  | 108 => ⟨S64x64x1024, .f32⟩
  | 109 => ⟨S64x64x1024, .f32⟩
  | 110 => ⟨S64x64x1024, .f32⟩
  | 111 => ⟨S_, .f32⟩
  | 112 => ⟨S1024, .f32⟩
  | 113 => ⟨S1x1x1024, .f32⟩
  | 114 => ⟨S_, .f32⟩
  | 115 => ⟨S1024, .f32⟩
  | 116 => ⟨S1x1024, .f32⟩
  | 117 => ⟨S_, .f32⟩
  | 118 => ⟨S64x94x1024, .f32⟩
  | 119 => ⟨S64x94x1024, .f32⟩
  | 120 => ⟨S64x64x1024, .f32⟩
  | 121 => ⟨S64x64x1024, .f32⟩
  | 122 => ⟨S64x64x1024, .f32⟩
  | 123 => ⟨S_, .f32⟩
  | 124 => ⟨S1024, .f32⟩
  | 125 => ⟨S1x1x1024, .f32⟩
  | 126 => ⟨S_, .f32⟩
  | 127 => ⟨S1024, .f32⟩
  | _ => ⟨S4096x1024, .f32⟩

abbrev hbmTy0_4 (i : Nat) : BufTy := match i % 128 with
  | 0 => ⟨S1x1024, .f32⟩
  | 1 => ⟨S_, .f32⟩
  | 2 => ⟨S64x94x1024, .f32⟩
  | 3 => ⟨S64x94x1024, .f32⟩
  | 4 => ⟨S64x64x1024, .f32⟩
  | 5 => ⟨S64x64x1024, .f32⟩
  | 6 => ⟨S64x64x1024, .f32⟩
  | 7 => ⟨S_, .f32⟩
  | 8 => ⟨S1024, .f32⟩
  | 9 => ⟨S1x1x1024, .f32⟩
  | 10 => ⟨S_, .f32⟩
  | 11 => ⟨S1024, .f32⟩
  | 12 => ⟨S1x1024, .f32⟩
  | 13 => ⟨S_, .f32⟩
  | 14 => ⟨S64x94x1024, .f32⟩
  | 15 => ⟨S64x94x1024, .f32⟩
  | 16 => ⟨S64x64x1024, .f32⟩
  | 17 => ⟨S64x64x1024, .f32⟩
  | 18 => ⟨S64x64x1024, .f32⟩
  | 19 => ⟨S_, .f32⟩
  | 20 => ⟨S1024, .f32⟩
  | 21 => ⟨S1x1x1024, .f32⟩
  | 22 => ⟨S_, .f32⟩
  | 23 => ⟨S1024, .f32⟩
  | 24 => ⟨S1x1024, .f32⟩
  | 25 => ⟨S_, .f32⟩
  | 26 => ⟨S64x94x1024, .f32⟩
  | 27 => ⟨S64x94x1024, .f32⟩
  | 28 => ⟨S64x64x1024, .f32⟩
  | 29 => ⟨S64x64x1024, .f32⟩
  | 30 => ⟨S64x64x1024, .f32⟩
  | 31 => ⟨S_, .f32⟩
  | 32 => ⟨S1024, .f32⟩
  | 33 => ⟨S1x1x1024, .f32⟩
  | 34 => ⟨S_, .f32⟩
  | 35 => ⟨S1024, .f32⟩
  | 36 => ⟨S1x1024, .f32⟩
  | 37 => ⟨S_, .f32⟩
  | 38 => ⟨S64x94x1024, .f32⟩
  | 39 => ⟨S64x94x1024, .f32⟩
  | 40 => ⟨S64x64x1024, .f32⟩
  | 41 => ⟨S64x64x1024, .f32⟩
  | 42 => ⟨S64x64x1024, .f32⟩
  | 43 => ⟨S_, .f32⟩
  | 44 => ⟨S1024, .f32⟩
  | 45 => ⟨S1x1x1024, .f32⟩
  | 46 => ⟨S_, .f32⟩
  | 47 => ⟨S1024, .f32⟩
  | 48 => ⟨S1x1024, .f32⟩
  | 49 => ⟨S_, .f32⟩
  | 50 => ⟨S64x94x1024, .f32⟩
  | 51 => ⟨S64x94x1024, .f32⟩
  | 52 => ⟨S64x64x1024, .f32⟩
  | 53 => ⟨S64x64x1024, .f32⟩
  | 54 => ⟨S64x64x1024, .f32⟩
  | 55 => ⟨S_, .f32⟩
  | 56 => ⟨S1024, .f32⟩
  | 57 => ⟨S1x1x1024, .f32⟩
  | 58 => ⟨S_, .f32⟩
  | 59 => ⟨S1024, .f32⟩
  | 60 => ⟨S1x1024, .f32⟩
  | 61 => ⟨S_, .f32⟩
  | 62 => ⟨S64x94x1024, .f32⟩
  | 63 => ⟨S64x94x1024, .f32⟩
  | 64 => ⟨S64x64x1024, .f32⟩
  | 65 => ⟨S64x64x1024, .f32⟩
  | 66 => ⟨S64x64x1024, .f32⟩
  | 67 => ⟨S_, .f32⟩
  | 68 => ⟨S1024, .f32⟩
  | 69 => ⟨S1x1x1024, .f32⟩
  | 70 => ⟨S_, .f32⟩
  | 71 => ⟨S1024, .f32⟩
  | 72 => ⟨S1x1024, .f32⟩
  | 73 => ⟨S_, .f32⟩
  | 74 => ⟨S64x94x1024, .f32⟩
  | 75 => ⟨S64x94x1024, .f32⟩
  | 76 => ⟨S64x64x1024, .f32⟩
  | 77 => ⟨S64x64x1024, .f32⟩
  | 78 => ⟨S64x64x1024, .f32⟩
  | 79 => ⟨S_, .f32⟩
  | 80 => ⟨S1024, .f32⟩
  | 81 => ⟨S1x1x1024, .f32⟩
  | 82 => ⟨S_, .f32⟩
  | 83 => ⟨S1024, .f32⟩
  | 84 => ⟨S1x1024, .f32⟩
  | 85 => ⟨S_, .f32⟩
  | 86 => ⟨S64x94x1024, .f32⟩
  | 87 => ⟨S64x94x1024, .f32⟩
  | 88 => ⟨S16x1024, .f32⟩
  | 89 => ⟨S15x1024, .f32⟩
  | 90 => ⟨S31x1024, .f32⟩
  | 91 => ⟨S64x15x1024, .f32⟩
  | 92 => ⟨S64x64x1024, .f32⟩
  | 93 => ⟨S64x15x1024, .f32⟩
  | 94 => ⟨S64x64x512, .f32⟩
  | 95 => ⟨S64x64x512, .f32⟩
  | 96 => ⟨S64x64x512, .f32⟩
  | 97 => ⟨S_, .f32⟩
  | 98 => ⟨S64x64x1024, .f32⟩
  | 99 => ⟨S_, .f32⟩
  | 100 => ⟨S64x64x1024, .f32⟩
  | 101 => ⟨S64x64x1024, .f32⟩
  | 102 => ⟨S4096x1024, .f32⟩
  | 103 => ⟨S4096x512, .f32⟩
  | 104 => ⟨S4096x512, .f32⟩
  | 105 => ⟨S1x1024, .f32⟩
  | _ => ⟨S4096x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst_3 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_cst_4 : Ref sig .tc := ⟨.hbm, 219, rfl⟩
abbrev main_v210 : Ref sig .tc := ⟨.hbm, 220, rfl⟩
abbrev main_cst_5 : Ref sig .tc := ⟨.hbm, 221, rfl⟩
abbrev main_v211 : Ref sig .tc := ⟨.hbm, 222, rfl⟩
abbrev main_v212 : Ref sig .tc := ⟨.hbm, 223, rfl⟩
abbrev main_cst_6 : Ref sig .tc := ⟨.hbm, 224, rfl⟩
abbrev main_v213 : Ref sig .tc := ⟨.hbm, 225, rfl⟩
abbrev main_v214 : Ref sig .tc := ⟨.hbm, 226, rfl⟩
abbrev main_cst_7 : Ref sig .tc := ⟨.hbm, 227, rfl⟩
abbrev main_v215 : Ref sig .tc := ⟨.hbm, 228, rfl⟩
abbrev main_v216 : Ref sig .tc := ⟨.hbm, 229, rfl⟩
abbrev main_v217 : Ref sig .tc := ⟨.hbm, 230, rfl⟩
abbrev main_v218 : Ref sig .tc := ⟨.hbm, 231, rfl⟩
abbrev main_cst_8 : Ref sig .tc := ⟨.hbm, 232, rfl⟩
abbrev main_v219 : Ref sig .tc := ⟨.hbm, 233, rfl⟩
abbrev main_v220 : Ref sig .tc := ⟨.hbm, 234, rfl⟩
abbrev main_cst_9 : Ref sig .tc := ⟨.hbm, 235, rfl⟩
abbrev main_v221 : Ref sig .tc := ⟨.hbm, 236, rfl⟩
abbrev main_v222 : Ref sig .tc := ⟨.hbm, 237, rfl⟩
abbrev main_cst_10 : Ref sig .tc := ⟨.hbm, 238, rfl⟩
abbrev main_v223 : Ref sig .tc := ⟨.hbm, 239, rfl⟩
abbrev main_v224 : Ref sig .tc := ⟨.hbm, 240, rfl⟩
abbrev main_v225 : Ref sig .tc := ⟨.hbm, 241, rfl⟩
abbrev main_v226 : Ref sig .tc := ⟨.hbm, 242, rfl⟩
abbrev main_cst_11 : Ref sig .tc := ⟨.hbm, 243, rfl⟩
abbrev main_v227 : Ref sig .tc := ⟨.hbm, 244, rfl⟩
abbrev main_v228 : Ref sig .tc := ⟨.hbm, 245, rfl⟩
abbrev main_cst_12 : Ref sig .tc := ⟨.hbm, 246, rfl⟩
abbrev main_v229 : Ref sig .tc := ⟨.hbm, 247, rfl⟩
abbrev main_v230 : Ref sig .tc := ⟨.hbm, 248, rfl⟩
abbrev main_cst_13 : Ref sig .tc := ⟨.hbm, 249, rfl⟩
abbrev main_v231 : Ref sig .tc := ⟨.hbm, 250, rfl⟩
abbrev main_v232 : Ref sig .tc := ⟨.hbm, 251, rfl⟩
abbrev main_v233 : Ref sig .tc := ⟨.hbm, 252, rfl⟩
abbrev main_v234 : Ref sig .tc := ⟨.hbm, 253, rfl⟩
abbrev main_v235 : Ref sig .tc := ⟨.hbm, 254, rfl⟩
abbrev main_cst_14 : Ref sig .tc := ⟨.hbm, 255, rfl⟩
abbrev main_v236 : Ref sig .tc := ⟨.hbm, 256, rfl⟩
abbrev main_v237 : Ref sig .tc := ⟨.hbm, 257, rfl⟩
abbrev main_cst_15 : Ref sig .tc := ⟨.hbm, 258, rfl⟩
abbrev main_v238 : Ref sig .tc := ⟨.hbm, 259, rfl⟩
abbrev main_v239 : Ref sig .tc := ⟨.hbm, 260, rfl⟩
abbrev main_cst_16 : Ref sig .tc := ⟨.hbm, 261, rfl⟩
abbrev main_v240 : Ref sig .tc := ⟨.hbm, 262, rfl⟩
abbrev main_v241 : Ref sig .tc := ⟨.hbm, 263, rfl⟩
abbrev main_v242 : Ref sig .tc := ⟨.hbm, 264, rfl⟩
abbrev main_v243 : Ref sig .tc := ⟨.hbm, 265, rfl⟩
abbrev main_v244 : Ref sig .tc := ⟨.hbm, 266, rfl⟩
abbrev main_cst_17 : Ref sig .tc := ⟨.hbm, 267, rfl⟩
abbrev main_v245 : Ref sig .tc := ⟨.hbm, 268, rfl⟩
abbrev main_v246 : Ref sig .tc := ⟨.hbm, 269, rfl⟩
abbrev main_cst_18 : Ref sig .tc := ⟨.hbm, 270, rfl⟩
abbrev main_v247 : Ref sig .tc := ⟨.hbm, 271, rfl⟩
abbrev main_v248 : Ref sig .tc := ⟨.hbm, 272, rfl⟩
abbrev main_cst_19 : Ref sig .tc := ⟨.hbm, 273, rfl⟩
abbrev main_v249 : Ref sig .tc := ⟨.hbm, 274, rfl⟩
abbrev main_v250 : Ref sig .tc := ⟨.hbm, 275, rfl⟩
abbrev main_v251 : Ref sig .tc := ⟨.hbm, 276, rfl⟩
abbrev main_v252 : Ref sig .tc := ⟨.hbm, 277, rfl⟩
abbrev main_v253 : Ref sig .tc := ⟨.hbm, 278, rfl⟩
abbrev main_cst_20 : Ref sig .tc := ⟨.hbm, 279, rfl⟩
abbrev main_v254 : Ref sig .tc := ⟨.hbm, 280, rfl⟩
abbrev main_v255 : Ref sig .tc := ⟨.hbm, 281, rfl⟩
abbrev main_cst_21 : Ref sig .tc := ⟨.hbm, 282, rfl⟩
abbrev main_v256 : Ref sig .tc := ⟨.hbm, 283, rfl⟩
abbrev main_v257 : Ref sig .tc := ⟨.hbm, 284, rfl⟩
abbrev main_cst_22 : Ref sig .tc := ⟨.hbm, 285, rfl⟩
abbrev main_v258 : Ref sig .tc := ⟨.hbm, 286, rfl⟩
abbrev main_v259 : Ref sig .tc := ⟨.hbm, 287, rfl⟩
abbrev main_v260 : Ref sig .tc := ⟨.hbm, 288, rfl⟩
abbrev main_v261 : Ref sig .tc := ⟨.hbm, 289, rfl⟩
abbrev main_v262 : Ref sig .tc := ⟨.hbm, 290, rfl⟩
abbrev main_cst_23 : Ref sig .tc := ⟨.hbm, 291, rfl⟩
abbrev main_v263 : Ref sig .tc := ⟨.hbm, 292, rfl⟩
abbrev main_v264 : Ref sig .tc := ⟨.hbm, 293, rfl⟩
abbrev main_cst_24 : Ref sig .tc := ⟨.hbm, 294, rfl⟩
abbrev main_v265 : Ref sig .tc := ⟨.hbm, 295, rfl⟩
abbrev main_v266 : Ref sig .tc := ⟨.hbm, 296, rfl⟩
abbrev main_cst_25 : Ref sig .tc := ⟨.hbm, 297, rfl⟩
abbrev main_v267 : Ref sig .tc := ⟨.hbm, 298, rfl⟩
abbrev main_v268 : Ref sig .tc := ⟨.hbm, 299, rfl⟩
abbrev main_v269 : Ref sig .tc := ⟨.hbm, 300, rfl⟩
abbrev main_v270 : Ref sig .tc := ⟨.hbm, 301, rfl⟩
abbrev main_v271 : Ref sig .tc := ⟨.hbm, 302, rfl⟩
abbrev main_cst_26 : Ref sig .tc := ⟨.hbm, 303, rfl⟩
abbrev main_v272 : Ref sig .tc := ⟨.hbm, 304, rfl⟩
abbrev main_v273 : Ref sig .tc := ⟨.hbm, 305, rfl⟩
abbrev main_cst_27 : Ref sig .tc := ⟨.hbm, 306, rfl⟩
abbrev main_v274 : Ref sig .tc := ⟨.hbm, 307, rfl⟩
abbrev main_v275 : Ref sig .tc := ⟨.hbm, 308, rfl⟩
abbrev main_cst_28 : Ref sig .tc := ⟨.hbm, 309, rfl⟩
abbrev main_v276 : Ref sig .tc := ⟨.hbm, 310, rfl⟩
abbrev main_v277 : Ref sig .tc := ⟨.hbm, 311, rfl⟩
abbrev main_v278 : Ref sig .tc := ⟨.hbm, 312, rfl⟩
abbrev main_v279 : Ref sig .tc := ⟨.hbm, 313, rfl⟩
abbrev main_v280 : Ref sig .tc := ⟨.hbm, 314, rfl⟩
abbrev main_cst_29 : Ref sig .tc := ⟨.hbm, 315, rfl⟩
abbrev main_v281 : Ref sig .tc := ⟨.hbm, 316, rfl⟩
abbrev main_v282 : Ref sig .tc := ⟨.hbm, 317, rfl⟩
abbrev main_cst_30 : Ref sig .tc := ⟨.hbm, 318, rfl⟩
abbrev main_v283 : Ref sig .tc := ⟨.hbm, 319, rfl⟩
abbrev main_v284 : Ref sig .tc := ⟨.hbm, 320, rfl⟩
abbrev main_cst_31 : Ref sig .tc := ⟨.hbm, 321, rfl⟩
abbrev main_v285 : Ref sig .tc := ⟨.hbm, 322, rfl⟩
abbrev main_v286 : Ref sig .tc := ⟨.hbm, 323, rfl⟩
abbrev main_v287 : Ref sig .tc := ⟨.hbm, 324, rfl⟩
abbrev main_v288 : Ref sig .tc := ⟨.hbm, 325, rfl⟩
abbrev main_v289 : Ref sig .tc := ⟨.hbm, 326, rfl⟩
abbrev main_cst_32 : Ref sig .tc := ⟨.hbm, 327, rfl⟩
abbrev main_v290 : Ref sig .tc := ⟨.hbm, 328, rfl⟩
abbrev main_v291 : Ref sig .tc := ⟨.hbm, 329, rfl⟩
abbrev main_cst_33 : Ref sig .tc := ⟨.hbm, 330, rfl⟩
abbrev main_v292 : Ref sig .tc := ⟨.hbm, 331, rfl⟩
abbrev main_v293 : Ref sig .tc := ⟨.hbm, 332, rfl⟩
abbrev main_cst_34 : Ref sig .tc := ⟨.hbm, 333, rfl⟩
abbrev main_v294 : Ref sig .tc := ⟨.hbm, 334, rfl⟩
abbrev main_v295 : Ref sig .tc := ⟨.hbm, 335, rfl⟩
abbrev main_v296 : Ref sig .tc := ⟨.hbm, 336, rfl⟩
abbrev main_v297 : Ref sig .tc := ⟨.hbm, 337, rfl⟩
abbrev main_v298 : Ref sig .tc := ⟨.hbm, 338, rfl⟩
abbrev main_cst_35 : Ref sig .tc := ⟨.hbm, 339, rfl⟩
abbrev main_v299 : Ref sig .tc := ⟨.hbm, 340, rfl⟩
abbrev main_v300 : Ref sig .tc := ⟨.hbm, 341, rfl⟩
abbrev main_cst_36 : Ref sig .tc := ⟨.hbm, 342, rfl⟩
abbrev main_v301 : Ref sig .tc := ⟨.hbm, 343, rfl⟩
abbrev main_v302 : Ref sig .tc := ⟨.hbm, 344, rfl⟩
abbrev main_cst_37 : Ref sig .tc := ⟨.hbm, 345, rfl⟩
abbrev main_v303 : Ref sig .tc := ⟨.hbm, 346, rfl⟩
abbrev main_v304 : Ref sig .tc := ⟨.hbm, 347, rfl⟩
abbrev main_v305 : Ref sig .tc := ⟨.hbm, 348, rfl⟩
abbrev main_v306 : Ref sig .tc := ⟨.hbm, 349, rfl⟩
abbrev main_v307 : Ref sig .tc := ⟨.hbm, 350, rfl⟩
abbrev main_cst_38 : Ref sig .tc := ⟨.hbm, 351, rfl⟩
abbrev main_v308 : Ref sig .tc := ⟨.hbm, 352, rfl⟩
abbrev main_v309 : Ref sig .tc := ⟨.hbm, 353, rfl⟩
abbrev main_cst_39 : Ref sig .tc := ⟨.hbm, 354, rfl⟩
abbrev main_v310 : Ref sig .tc := ⟨.hbm, 355, rfl⟩
abbrev main_v311 : Ref sig .tc := ⟨.hbm, 356, rfl⟩
abbrev main_cst_40 : Ref sig .tc := ⟨.hbm, 357, rfl⟩
abbrev main_v312 : Ref sig .tc := ⟨.hbm, 358, rfl⟩
abbrev main_v313 : Ref sig .tc := ⟨.hbm, 359, rfl⟩
abbrev main_v314 : Ref sig .tc := ⟨.hbm, 360, rfl⟩
abbrev main_v315 : Ref sig .tc := ⟨.hbm, 361, rfl⟩
abbrev main_v316 : Ref sig .tc := ⟨.hbm, 362, rfl⟩
abbrev main_cst_41 : Ref sig .tc := ⟨.hbm, 363, rfl⟩
abbrev main_v317 : Ref sig .tc := ⟨.hbm, 364, rfl⟩
abbrev main_v318 : Ref sig .tc := ⟨.hbm, 365, rfl⟩
abbrev main_cst_42 : Ref sig .tc := ⟨.hbm, 366, rfl⟩
abbrev main_v319 : Ref sig .tc := ⟨.hbm, 367, rfl⟩
abbrev main_v320 : Ref sig .tc := ⟨.hbm, 368, rfl⟩
abbrev main_cst_43 : Ref sig .tc := ⟨.hbm, 369, rfl⟩
abbrev main_v321 : Ref sig .tc := ⟨.hbm, 370, rfl⟩
abbrev main_v322 : Ref sig .tc := ⟨.hbm, 371, rfl⟩
abbrev main_v323 : Ref sig .tc := ⟨.hbm, 372, rfl⟩
abbrev main_v324 : Ref sig .tc := ⟨.hbm, 373, rfl⟩
abbrev main_v325 : Ref sig .tc := ⟨.hbm, 374, rfl⟩
abbrev main_cst_44 : Ref sig .tc := ⟨.hbm, 375, rfl⟩
abbrev main_v326 : Ref sig .tc := ⟨.hbm, 376, rfl⟩
abbrev main_v327 : Ref sig .tc := ⟨.hbm, 377, rfl⟩
abbrev main_cst_45 : Ref sig .tc := ⟨.hbm, 378, rfl⟩
abbrev main_v328 : Ref sig .tc := ⟨.hbm, 379, rfl⟩
abbrev main_v329 : Ref sig .tc := ⟨.hbm, 380, rfl⟩
abbrev main_cst_46 : Ref sig .tc := ⟨.hbm, 381, rfl⟩
abbrev main_v330 : Ref sig .tc := ⟨.hbm, 382, rfl⟩
abbrev main_v331 : Ref sig .tc := ⟨.hbm, 383, rfl⟩
abbrev main_v332 : Ref sig .tc := ⟨.hbm, 384, rfl⟩
abbrev main_v333 : Ref sig .tc := ⟨.hbm, 385, rfl⟩
abbrev main_v334 : Ref sig .tc := ⟨.hbm, 386, rfl⟩
abbrev main_cst_47 : Ref sig .tc := ⟨.hbm, 387, rfl⟩
abbrev main_v335 : Ref sig .tc := ⟨.hbm, 388, rfl⟩
abbrev main_v336 : Ref sig .tc := ⟨.hbm, 389, rfl⟩
abbrev main_cst_48 : Ref sig .tc := ⟨.hbm, 390, rfl⟩
abbrev main_v337 : Ref sig .tc := ⟨.hbm, 391, rfl⟩
abbrev main_v338 : Ref sig .tc := ⟨.hbm, 392, rfl⟩
abbrev main_cst_49 : Ref sig .tc := ⟨.hbm, 393, rfl⟩
abbrev main_v339 : Ref sig .tc := ⟨.hbm, 394, rfl⟩
abbrev main_v340 : Ref sig .tc := ⟨.hbm, 395, rfl⟩
abbrev main_v341 : Ref sig .tc := ⟨.hbm, 396, rfl⟩
abbrev main_v342 : Ref sig .tc := ⟨.hbm, 397, rfl⟩
abbrev main_v343 : Ref sig .tc := ⟨.hbm, 398, rfl⟩
abbrev main_cst_50 : Ref sig .tc := ⟨.hbm, 399, rfl⟩
abbrev main_v344 : Ref sig .tc := ⟨.hbm, 400, rfl⟩
abbrev main_v345 : Ref sig .tc := ⟨.hbm, 401, rfl⟩
abbrev main_cst_51 : Ref sig .tc := ⟨.hbm, 402, rfl⟩
abbrev main_v346 : Ref sig .tc := ⟨.hbm, 403, rfl⟩
abbrev main_v347 : Ref sig .tc := ⟨.hbm, 404, rfl⟩
abbrev main_cst_52 : Ref sig .tc := ⟨.hbm, 405, rfl⟩
abbrev main_v348 : Ref sig .tc := ⟨.hbm, 406, rfl⟩
abbrev main_v349 : Ref sig .tc := ⟨.hbm, 407, rfl⟩
abbrev main_v350 : Ref sig .tc := ⟨.hbm, 408, rfl⟩
abbrev main_v351 : Ref sig .tc := ⟨.hbm, 409, rfl⟩
abbrev main_v352 : Ref sig .tc := ⟨.hbm, 410, rfl⟩
abbrev main_cst_53 : Ref sig .tc := ⟨.hbm, 411, rfl⟩
abbrev main_v353 : Ref sig .tc := ⟨.hbm, 412, rfl⟩
abbrev main_v354 : Ref sig .tc := ⟨.hbm, 413, rfl⟩
abbrev main_cst_54 : Ref sig .tc := ⟨.hbm, 414, rfl⟩
abbrev main_v355 : Ref sig .tc := ⟨.hbm, 415, rfl⟩
abbrev main_v356 : Ref sig .tc := ⟨.hbm, 416, rfl⟩
abbrev main_cst_55 : Ref sig .tc := ⟨.hbm, 417, rfl⟩
abbrev main_v357 : Ref sig .tc := ⟨.hbm, 418, rfl⟩
abbrev main_v358 : Ref sig .tc := ⟨.hbm, 419, rfl⟩
abbrev main_v359 : Ref sig .tc := ⟨.hbm, 420, rfl⟩
abbrev main_v360 : Ref sig .tc := ⟨.hbm, 421, rfl⟩
abbrev main_v361 : Ref sig .tc := ⟨.hbm, 422, rfl⟩
abbrev main_cst_56 : Ref sig .tc := ⟨.hbm, 423, rfl⟩
abbrev main_v362 : Ref sig .tc := ⟨.hbm, 424, rfl⟩
abbrev main_v363 : Ref sig .tc := ⟨.hbm, 425, rfl⟩
abbrev main_cst_57 : Ref sig .tc := ⟨.hbm, 426, rfl⟩
abbrev main_v364 : Ref sig .tc := ⟨.hbm, 427, rfl⟩
abbrev main_v365 : Ref sig .tc := ⟨.hbm, 428, rfl⟩
abbrev main_cst_58 : Ref sig .tc := ⟨.hbm, 429, rfl⟩
abbrev main_v366 : Ref sig .tc := ⟨.hbm, 430, rfl⟩
abbrev main_v367 : Ref sig .tc := ⟨.hbm, 431, rfl⟩
abbrev main_v368 : Ref sig .tc := ⟨.hbm, 432, rfl⟩
abbrev main_v369 : Ref sig .tc := ⟨.hbm, 433, rfl⟩
abbrev main_v370 : Ref sig .tc := ⟨.hbm, 434, rfl⟩
abbrev main_cst_59 : Ref sig .tc := ⟨.hbm, 435, rfl⟩
abbrev main_v371 : Ref sig .tc := ⟨.hbm, 436, rfl⟩
abbrev main_v372 : Ref sig .tc := ⟨.hbm, 437, rfl⟩
abbrev main_cst_60 : Ref sig .tc := ⟨.hbm, 438, rfl⟩
abbrev main_v373 : Ref sig .tc := ⟨.hbm, 439, rfl⟩
abbrev main_v374 : Ref sig .tc := ⟨.hbm, 440, rfl⟩
abbrev main_cst_61 : Ref sig .tc := ⟨.hbm, 441, rfl⟩
abbrev main_v375 : Ref sig .tc := ⟨.hbm, 442, rfl⟩
abbrev main_v376 : Ref sig .tc := ⟨.hbm, 443, rfl⟩
abbrev main_v377 : Ref sig .tc := ⟨.hbm, 444, rfl⟩
abbrev main_v378 : Ref sig .tc := ⟨.hbm, 445, rfl⟩
abbrev main_v379 : Ref sig .tc := ⟨.hbm, 446, rfl⟩
abbrev main_cst_62 : Ref sig .tc := ⟨.hbm, 447, rfl⟩
abbrev main_v380 : Ref sig .tc := ⟨.hbm, 448, rfl⟩
abbrev main_v381 : Ref sig .tc := ⟨.hbm, 449, rfl⟩
abbrev main_cst_63 : Ref sig .tc := ⟨.hbm, 450, rfl⟩
abbrev main_v382 : Ref sig .tc := ⟨.hbm, 451, rfl⟩
abbrev main_v383 : Ref sig .tc := ⟨.hbm, 452, rfl⟩
abbrev main_cst_64 : Ref sig .tc := ⟨.hbm, 453, rfl⟩
abbrev main_v384 : Ref sig .tc := ⟨.hbm, 454, rfl⟩
abbrev main_v385 : Ref sig .tc := ⟨.hbm, 455, rfl⟩
abbrev main_v386 : Ref sig .tc := ⟨.hbm, 456, rfl⟩
abbrev main_v387 : Ref sig .tc := ⟨.hbm, 457, rfl⟩
abbrev main_v388 : Ref sig .tc := ⟨.hbm, 458, rfl⟩
abbrev main_cst_65 : Ref sig .tc := ⟨.hbm, 459, rfl⟩
abbrev main_v389 : Ref sig .tc := ⟨.hbm, 460, rfl⟩
abbrev main_v390 : Ref sig .tc := ⟨.hbm, 461, rfl⟩
abbrev main_cst_66 : Ref sig .tc := ⟨.hbm, 462, rfl⟩
abbrev main_v391 : Ref sig .tc := ⟨.hbm, 463, rfl⟩
abbrev main_v392 : Ref sig .tc := ⟨.hbm, 464, rfl⟩
abbrev main_cst_67 : Ref sig .tc := ⟨.hbm, 465, rfl⟩
abbrev main_v393 : Ref sig .tc := ⟨.hbm, 466, rfl⟩
abbrev main_v394 : Ref sig .tc := ⟨.hbm, 467, rfl⟩
abbrev main_v395 : Ref sig .tc := ⟨.hbm, 468, rfl⟩
abbrev main_v396 : Ref sig .tc := ⟨.hbm, 469, rfl⟩
abbrev main_v397 : Ref sig .tc := ⟨.hbm, 470, rfl⟩
abbrev main_cst_68 : Ref sig .tc := ⟨.hbm, 471, rfl⟩
abbrev main_v398 : Ref sig .tc := ⟨.hbm, 472, rfl⟩
abbrev main_v399 : Ref sig .tc := ⟨.hbm, 473, rfl⟩
abbrev main_cst_69 : Ref sig .tc := ⟨.hbm, 474, rfl⟩
abbrev main_v400 : Ref sig .tc := ⟨.hbm, 475, rfl⟩
abbrev main_v401 : Ref sig .tc := ⟨.hbm, 476, rfl⟩
abbrev main_cst_70 : Ref sig .tc := ⟨.hbm, 477, rfl⟩
abbrev main_v402 : Ref sig .tc := ⟨.hbm, 478, rfl⟩
abbrev main_v403 : Ref sig .tc := ⟨.hbm, 479, rfl⟩
abbrev main_v404 : Ref sig .tc := ⟨.hbm, 480, rfl⟩
abbrev main_v405 : Ref sig .tc := ⟨.hbm, 481, rfl⟩
abbrev main_v406 : Ref sig .tc := ⟨.hbm, 482, rfl⟩
abbrev main_cst_71 : Ref sig .tc := ⟨.hbm, 483, rfl⟩
abbrev main_v407 : Ref sig .tc := ⟨.hbm, 484, rfl⟩
abbrev main_v408 : Ref sig .tc := ⟨.hbm, 485, rfl⟩
abbrev main_cst_72 : Ref sig .tc := ⟨.hbm, 486, rfl⟩
abbrev main_v409 : Ref sig .tc := ⟨.hbm, 487, rfl⟩
abbrev main_v410 : Ref sig .tc := ⟨.hbm, 488, rfl⟩
abbrev main_cst_73 : Ref sig .tc := ⟨.hbm, 489, rfl⟩
abbrev main_v411 : Ref sig .tc := ⟨.hbm, 490, rfl⟩
abbrev main_v412 : Ref sig .tc := ⟨.hbm, 491, rfl⟩
abbrev main_v413 : Ref sig .tc := ⟨.hbm, 492, rfl⟩
abbrev main_v414 : Ref sig .tc := ⟨.hbm, 493, rfl⟩
abbrev main_v415 : Ref sig .tc := ⟨.hbm, 494, rfl⟩
abbrev main_cst_74 : Ref sig .tc := ⟨.hbm, 495, rfl⟩
abbrev main_v416 : Ref sig .tc := ⟨.hbm, 496, rfl⟩
abbrev main_v417 : Ref sig .tc := ⟨.hbm, 497, rfl⟩
abbrev main_cst_75 : Ref sig .tc := ⟨.hbm, 498, rfl⟩
abbrev main_v418 : Ref sig .tc := ⟨.hbm, 499, rfl⟩
abbrev main_v419 : Ref sig .tc := ⟨.hbm, 500, rfl⟩
abbrev main_cst_76 : Ref sig .tc := ⟨.hbm, 501, rfl⟩
abbrev main_v420 : Ref sig .tc := ⟨.hbm, 502, rfl⟩
abbrev main_v421 : Ref sig .tc := ⟨.hbm, 503, rfl⟩
abbrev main_v422 : Ref sig .tc := ⟨.hbm, 504, rfl⟩
abbrev main_v423 : Ref sig .tc := ⟨.hbm, 505, rfl⟩
abbrev main_v424 : Ref sig .tc := ⟨.hbm, 506, rfl⟩
abbrev main_cst_77 : Ref sig .tc := ⟨.hbm, 507, rfl⟩
abbrev main_v425 : Ref sig .tc := ⟨.hbm, 508, rfl⟩
abbrev main_v426 : Ref sig .tc := ⟨.hbm, 509, rfl⟩
abbrev main_cst_78 : Ref sig .tc := ⟨.hbm, 510, rfl⟩
abbrev main_v427 : Ref sig .tc := ⟨.hbm, 511, rfl⟩
abbrev main_v428 : Ref sig .tc := ⟨.hbm, 512, rfl⟩
abbrev main_cst_79 : Ref sig .tc := ⟨.hbm, 513, rfl⟩
abbrev main_v429 : Ref sig .tc := ⟨.hbm, 514, rfl⟩
abbrev main_v430 : Ref sig .tc := ⟨.hbm, 515, rfl⟩
abbrev main_v431 : Ref sig .tc := ⟨.hbm, 516, rfl⟩
abbrev main_v432 : Ref sig .tc := ⟨.hbm, 517, rfl⟩
abbrev main_v433 : Ref sig .tc := ⟨.hbm, 518, rfl⟩
abbrev main_cst_80 : Ref sig .tc := ⟨.hbm, 519, rfl⟩
abbrev main_v434 : Ref sig .tc := ⟨.hbm, 520, rfl⟩
abbrev main_v435 : Ref sig .tc := ⟨.hbm, 521, rfl⟩
abbrev main_cst_81 : Ref sig .tc := ⟨.hbm, 522, rfl⟩
abbrev main_v436 : Ref sig .tc := ⟨.hbm, 523, rfl⟩
abbrev main_v437 : Ref sig .tc := ⟨.hbm, 524, rfl⟩
abbrev main_cst_82 : Ref sig .tc := ⟨.hbm, 525, rfl⟩
abbrev main_v438 : Ref sig .tc := ⟨.hbm, 526, rfl⟩
abbrev main_v439 : Ref sig .tc := ⟨.hbm, 527, rfl⟩
abbrev main_v440 : Ref sig .tc := ⟨.hbm, 528, rfl⟩
abbrev main_v441 : Ref sig .tc := ⟨.hbm, 529, rfl⟩
abbrev main_v442 : Ref sig .tc := ⟨.hbm, 530, rfl⟩
abbrev main_cst_83 : Ref sig .tc := ⟨.hbm, 531, rfl⟩
abbrev main_v443 : Ref sig .tc := ⟨.hbm, 532, rfl⟩
abbrev main_v444 : Ref sig .tc := ⟨.hbm, 533, rfl⟩
abbrev main_cst_84 : Ref sig .tc := ⟨.hbm, 534, rfl⟩
abbrev main_v445 : Ref sig .tc := ⟨.hbm, 535, rfl⟩
abbrev main_v446 : Ref sig .tc := ⟨.hbm, 536, rfl⟩
abbrev main_cst_85 : Ref sig .tc := ⟨.hbm, 537, rfl⟩
abbrev main_v447 : Ref sig .tc := ⟨.hbm, 538, rfl⟩
abbrev main_v448 : Ref sig .tc := ⟨.hbm, 539, rfl⟩
abbrev main_v449 : Ref sig .tc := ⟨.hbm, 540, rfl⟩
abbrev main_v450 : Ref sig .tc := ⟨.hbm, 541, rfl⟩
abbrev main_v451 : Ref sig .tc := ⟨.hbm, 542, rfl⟩
abbrev main_cst_86 : Ref sig .tc := ⟨.hbm, 543, rfl⟩
abbrev main_v452 : Ref sig .tc := ⟨.hbm, 544, rfl⟩
abbrev main_v453 : Ref sig .tc := ⟨.hbm, 545, rfl⟩
abbrev main_cst_87 : Ref sig .tc := ⟨.hbm, 546, rfl⟩
abbrev main_v454 : Ref sig .tc := ⟨.hbm, 547, rfl⟩
abbrev main_v455 : Ref sig .tc := ⟨.hbm, 548, rfl⟩
abbrev main_cst_88 : Ref sig .tc := ⟨.hbm, 549, rfl⟩
abbrev main_v456 : Ref sig .tc := ⟨.hbm, 550, rfl⟩
abbrev main_v457 : Ref sig .tc := ⟨.hbm, 551, rfl⟩
abbrev main_v458 : Ref sig .tc := ⟨.hbm, 552, rfl⟩
abbrev main_v459 : Ref sig .tc := ⟨.hbm, 553, rfl⟩
abbrev main_v460 : Ref sig .tc := ⟨.hbm, 554, rfl⟩
abbrev main_cst_89 : Ref sig .tc := ⟨.hbm, 555, rfl⟩
abbrev main_v461 : Ref sig .tc := ⟨.hbm, 556, rfl⟩
abbrev main_v462 : Ref sig .tc := ⟨.hbm, 557, rfl⟩
abbrev main_cst_90 : Ref sig .tc := ⟨.hbm, 558, rfl⟩
abbrev main_v463 : Ref sig .tc := ⟨.hbm, 559, rfl⟩
abbrev main_v464 : Ref sig .tc := ⟨.hbm, 560, rfl⟩
abbrev main_cst_91 : Ref sig .tc := ⟨.hbm, 561, rfl⟩
abbrev main_v465 : Ref sig .tc := ⟨.hbm, 562, rfl⟩
abbrev main_v466 : Ref sig .tc := ⟨.hbm, 563, rfl⟩
abbrev main_v467 : Ref sig .tc := ⟨.hbm, 564, rfl⟩
abbrev main_v468 : Ref sig .tc := ⟨.hbm, 565, rfl⟩
abbrev main_v469 : Ref sig .tc := ⟨.hbm, 566, rfl⟩
abbrev main_cst_92 : Ref sig .tc := ⟨.hbm, 567, rfl⟩
abbrev main_v470 : Ref sig .tc := ⟨.hbm, 568, rfl⟩
abbrev main_v471 : Ref sig .tc := ⟨.hbm, 569, rfl⟩
abbrev main_cst_93 : Ref sig .tc := ⟨.hbm, 570, rfl⟩
abbrev main_v472 : Ref sig .tc := ⟨.hbm, 571, rfl⟩
abbrev main_v473 : Ref sig .tc := ⟨.hbm, 572, rfl⟩
abbrev main_cst_94 : Ref sig .tc := ⟨.hbm, 573, rfl⟩
abbrev main_v474 : Ref sig .tc := ⟨.hbm, 574, rfl⟩
abbrev main_v475 : Ref sig .tc := ⟨.hbm, 575, rfl⟩
abbrev main_v476 : Ref sig .tc := ⟨.hbm, 576, rfl⟩
abbrev main_v477 : Ref sig .tc := ⟨.hbm, 577, rfl⟩
abbrev main_v478 : Ref sig .tc := ⟨.hbm, 578, rfl⟩
abbrev main_cst_95 : Ref sig .tc := ⟨.hbm, 579, rfl⟩
abbrev main_v479 : Ref sig .tc := ⟨.hbm, 580, rfl⟩
abbrev main_v480 : Ref sig .tc := ⟨.hbm, 581, rfl⟩
abbrev main_cst_96 : Ref sig .tc := ⟨.hbm, 582, rfl⟩
abbrev main_v481 : Ref sig .tc := ⟨.hbm, 583, rfl⟩
abbrev main_v482 : Ref sig .tc := ⟨.hbm, 584, rfl⟩
abbrev main_cst_97 : Ref sig .tc := ⟨.hbm, 585, rfl⟩
abbrev main_v483 : Ref sig .tc := ⟨.hbm, 586, rfl⟩
abbrev main_v484 : Ref sig .tc := ⟨.hbm, 587, rfl⟩
abbrev main_v485 : Ref sig .tc := ⟨.hbm, 588, rfl⟩
abbrev main_v486 : Ref sig .tc := ⟨.hbm, 589, rfl⟩
abbrev main_v487 : Ref sig .tc := ⟨.hbm, 590, rfl⟩
abbrev main_cst_98 : Ref sig .tc := ⟨.hbm, 591, rfl⟩
abbrev main_v488 : Ref sig .tc := ⟨.hbm, 592, rfl⟩
abbrev main_v489 : Ref sig .tc := ⟨.hbm, 593, rfl⟩
abbrev main_cst_99 : Ref sig .tc := ⟨.hbm, 594, rfl⟩
abbrev main_v490 : Ref sig .tc := ⟨.hbm, 595, rfl⟩
abbrev main_v491 : Ref sig .tc := ⟨.hbm, 596, rfl⟩
abbrev main_cst_100 : Ref sig .tc := ⟨.hbm, 597, rfl⟩
abbrev main_v492 : Ref sig .tc := ⟨.hbm, 598, rfl⟩
abbrev main_v493 : Ref sig .tc := ⟨.hbm, 599, rfl⟩
abbrev main_v494 : Ref sig .tc := ⟨.hbm, 600, rfl⟩
abbrev main_v495 : Ref sig .tc := ⟨.hbm, 601, rfl⟩
abbrev main_v496 : Ref sig .tc := ⟨.hbm, 602, rfl⟩
abbrev main_v497 : Ref sig .tc := ⟨.hbm, 603, rfl⟩
abbrev main_v498 : Ref sig .tc := ⟨.hbm, 604, rfl⟩
abbrev main_v499 : Ref sig .tc := ⟨.hbm, 605, rfl⟩
abbrev main_v500 : Ref sig .tc := ⟨.hbm, 606, rfl⟩
abbrev main_v501 : Ref sig .tc := ⟨.hbm, 607, rfl⟩
abbrev main_v502 : Ref sig .tc := ⟨.hbm, 608, rfl⟩
abbrev main_cst_101 : Ref sig .tc := ⟨.hbm, 609, rfl⟩
abbrev main_v503 : Ref sig .tc := ⟨.hbm, 610, rfl⟩
abbrev main_cst_102 : Ref sig .tc := ⟨.hbm, 611, rfl⟩
abbrev main_v504 : Ref sig .tc := ⟨.hbm, 612, rfl⟩
abbrev main_v505 : Ref sig .tc := ⟨.hbm, 613, rfl⟩
abbrev main_v506 : Ref sig .tc := ⟨.hbm, 614, rfl⟩
abbrev main_v507 : Ref sig .tc := ⟨.hbm, 615, rfl⟩
abbrev main_v508 : Ref sig .tc := ⟨.hbm, 616, rfl⟩
abbrev main_v509 : Ref sig .tc := ⟨.hbm, 617, rfl⟩

abbrev nD : Nat := 1
abbrev τ : Topo := Topo.v7x

variable {F : FTy → Type} [FloatOps F]
-- ==== Dhid.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhidRefIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S4096x2816, .f32⟩
  | .hbm, ⟨8, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dwout.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwoutRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S_, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dact.lean ====
abbrev S4096x5632 : Shape := ⟨2, ![4096, 5632]⟩
abbrev S4096x2816 : Shape := ⟨2, ![4096, 2816]⟩
abbrev S256x2816 : Shape := ⟨2, ![256, 2816]⟩
abbrev S256x5632 : Shape := ⟨2, ![256, 5632]⟩

abbrev nBuf : Space → Nat
  | .hbm => 3
  | .vmem => 8
  | .smem => 0
  | _ => 0

abbrev bufTy : (tb : Table) → Fin (tcTables nBuf tb) → BufTy
  | .hbm, ⟨0, _⟩ => ⟨S4096x5632, .bf16⟩
  | .hbm, ⟨1, _⟩ => ⟨S4096x2816, .bf16⟩
  | .hbm, ⟨2, _⟩ => ⟨S4096x5632, .bf16⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x5632, .bf16⟩
  | .local _ .vmem, ⟨7, _⟩ => ⟨S256x5632, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c1_i32 : BitVec 32 := 1#32
  let c0_i32_1 : BitVec 32 := 0#32
  ![v2.toNat, c1_i32.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DactRefIdeal.lean ====
abbrev S4096x5632 : Shape := ⟨2, ![4096, 5632]⟩
abbrev S4096x2816 : Shape := ⟨2, ![4096, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2816, .bf16⟩
  | .hbm, ⟨2, _⟩ => ⟨S4096x5632, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S_, .f32⟩
  | .hbm, ⟨23, _⟩ => ⟨S4096x5632, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x5632, .f32⟩
  | .hbm, ⟨30, _⟩ => ⟨S4096x5632, .f32⟩
  | .hbm, ⟨31, _⟩ => ⟨S4096x5632, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v2_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v2_1 : Ref sig .tc := ⟨.hbm, 15, rfl⟩
abbrev main_v2_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v9 : Ref sig .tc := ⟨.hbm, 27, rfl⟩
abbrev main_cst_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Dwin.lean ====
abbrev S4096x1024 : Shape := ⟨2, ![4096, 1024]⟩
abbrev S4096x5632 : Shape := ⟨2, ![4096, 5632]⟩
abbrev S1024x5632 : Shape := ⟨2, ![1024, 5632]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S1024x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwinRefIdeal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4096x1024, .f32⟩
  | .hbm, ⟨3, _⟩ => ⟨S_, .f32⟩
  | .hbm, ⟨4, _⟩ => ⟨S1024x5632, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dx.lean ====
abbrev S4096x5632 : Shape := ⟨2, ![4096, 5632]⟩
abbrev S1024x5632 : Shape := ⟨2, ![1024, 5632]⟩
abbrev S4096x1024 : Shape := ⟨2, ![4096, 1024]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxRefIdeal.lean ====
abbrev S4096x5632 : Shape := ⟨2, ![4096, 5632]⟩
abbrev S1024x5632 : Shape := ⟨2, ![1024, 5632]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S1024x5632, .f32⟩
  | .hbm, ⟨3, _⟩ => ⟨S_, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Uin.lean ====
abbrev S4096x1024 : Shape := ⟨2, ![4096, 1024]⟩
abbrev S1024x5632 : Shape := ⟨2, ![1024, 5632]⟩
abbrev S4096x5632 : Shape := ⟨2, ![4096, 5632]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UinRefIdeal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | .hbm, ⟨5, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Act.lean ====
abbrev S4096x5632 : Shape := ⟨2, ![4096, 5632]⟩
abbrev S4096x2816 : Shape := ⟨2, ![4096, 2816]⟩
abbrev S256x2816 : Shape := ⟨2, ![256, 2816]⟩

abbrev nBuf : Space → Nat
  | .hbm => 2
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2816, .bf16⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c1_i32 : BitVec 32 := 1#32
  let c0_i32_1 : BitVec 32 := 0#32
  ![v2.toNat, c1_i32.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ActRefIdeal.lean ====
abbrev S4096x5632 : Shape := ⟨2, ![4096, 5632]⟩
abbrev S4096x2816 : Shape := ⟨2, ![4096, 2816]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .f32⟩
  | .hbm, ⟨2, _⟩ => ⟨S4096x2816, .f32⟩
  | .hbm, ⟨3, _⟩ => ⟨S4096x2816, .f32⟩
  | .hbm, ⟨4, _⟩ => ⟨S4096x2816, .f32⟩
  | .hbm, ⟨5, _⟩ => ⟨S_, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x2816, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩

abbrev nD : Nat := 1
abbrev τ : Topo := Topo.v7x

variable {F : FTy → Type} [FloatOps F]
-- ==== Fout.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FoutRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .f32⟩
  | .hbm, ⟨3, _⟩ => ⟨S2816x1024, .f32⟩
  | .hbm, ⟨4, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Zx.lean ====
abbrev S4352x1024 : Shape := ⟨2, ![4352, 1024]⟩
abbrev S1024x6208 : Shape := ⟨2, ![1024, 6208]⟩
abbrev S4352x6144 : Shape := ⟨2, ![4352, 6144]⟩
abbrev S1088x1024 : Shape := ⟨2, ![1088, 1024]⟩
abbrev S1024x2048 : Shape := ⟨2, ![1024, 2048]⟩
abbrev S1088x2048 : Shape := ⟨2, ![1088, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S1024x6208, .bf16⟩
  | .hbm, ⟨2, _⟩ => ⟨S4352x6144, .bf16⟩
  | .local _ .vmem, ⟨0, _⟩ => ⟨S1088x1024, .bf16⟩
  | .local _ .vmem, ⟨1, _⟩ => ⟨S1088x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1088x2048, .bf16⟩
  | .local _ .vmem, ⟨5, _⟩ => ⟨S1088x2048, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ZxRefIdeal.lean ====
abbrev S4352x1024 : Shape := ⟨2, ![4352, 1024]⟩
abbrev S1024x6208 : Shape := ⟨2, ![1024, 6208]⟩
abbrev S1024x6144 : Shape := ⟨2, ![1024, 6144]⟩
abbrev S4352x6144 : Shape := ⟨2, ![4352, 6144]⟩

abbrev nBuf : Space → Nat
  | .hbm => 7
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x6208, .bf16⟩
  | .hbm, ⟨2, _⟩ => ⟨S4352x1024, .f32⟩
  | .hbm, ⟨3, _⟩ => ⟨S1024x6144, .bf16⟩
  | .hbm, ⟨4, _⟩ => ⟨S1024x6144, .f32⟩
  | .hbm, ⟨5, _⟩ => ⟨S4352x6144, .f32⟩
  | .hbm, ⟨6, _⟩ => ⟨S4352x6144, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Dwzx.lean ====
abbrev S4352x1024 : Shape := ⟨2, ![4352, 1024]⟩
abbrev S4352x6144 : Shape := ⟨2, ![4352, 6144]⟩
abbrev S1024x6144 : Shape := ⟨2, ![1024, 6144]⟩
abbrev S2176x1024 : Shape := ⟨2, ![2176, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x1024, .bf16⟩
  | .hbm, ⟨1, _⟩ => ⟨S4352x6144, .bf16⟩
  | .hbm, ⟨2, _⟩ => ⟨S1024x6144, .bf16⟩
  | .local _ .vmem, ⟨0, _⟩ => ⟨S2176x1024, .bf16⟩
  | .local _ .vmem, ⟨1, _⟩ => ⟨S2176x1024, .bf16⟩
  | .local _ .vmem, ⟨2, _⟩ => ⟨S2176x1024, .bf16⟩
  | .local _ .vmem, ⟨3, _⟩ => ⟨S2176x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 6, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwzxRefIdeal.lean ====
abbrev S4352x1024 : Shape := ⟨2, ![4352, 1024]⟩
abbrev S4352x6144 : Shape := ⟨2, ![4352, 6144]⟩
abbrev S_ : Shape := ⟨0, ![]⟩
abbrev S1024x6144 : Shape := ⟨2, ![1024, 6144]⟩
abbrev S6144x1024 : Shape := ⟨2, ![6144, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x6144, .bf16⟩
  | .hbm, ⟨2, _⟩ => ⟨S4352x1024, .f32⟩
  | .hbm, ⟨3, _⟩ => ⟨S_, .f32⟩
  | .hbm, ⟨4, _⟩ => ⟨S1024x6144, .f32⟩
  | .hbm, ⟨5, _⟩ => ⟨S4352x6144, .f32⟩
  | .hbm, ⟨6, _⟩ => ⟨S4352x6144, .f32⟩
  | .hbm, ⟨7, _⟩ => ⟨S6144x1024, .f32⟩
  | .hbm, ⟨8, _⟩ => ⟨S1024x6144, .f32⟩
  | .hbm, ⟨9, _⟩ => ⟨S1024x6144, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dzx.lean ====
abbrev S4352x6144 : Shape := ⟨2, ![4352, 6144]⟩
abbrev S1024x6208 : Shape := ⟨2, ![1024, 6208]⟩
abbrev S4352x1024 : Shape := ⟨2, ![4352, 1024]⟩
abbrev S1088x1536 : Shape := ⟨2, ![1088, 1536]⟩
abbrev S1024x1536 : Shape := ⟨2, ![1024, 1536]⟩
abbrev S1088x1024 : Shape := ⟨2, ![1088, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x6144, .bf16⟩
  | .hbm, ⟨1, _⟩ => ⟨S1024x6208, .bf16⟩
  | .hbm, ⟨2, _⟩ => ⟨S4352x1024, .f32⟩
  | .local _ .vmem, ⟨0, _⟩ => ⟨S1088x1536, .bf16⟩
  | .local _ .vmem, ⟨1, _⟩ => ⟨S1088x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S4352x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DzxRefIdeal.lean ====
abbrev S4352x6144 : Shape := ⟨2, ![4352, 6144]⟩
abbrev S1024x6208 : Shape := ⟨2, ![1024, 6208]⟩
abbrev S1024x6144 : Shape := ⟨2, ![1024, 6144]⟩
abbrev S_ : Shape := ⟨0, ![]⟩
abbrev S4352x1024 : Shape := ⟨2, ![4352, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4352x6144, .bf16⟩
  | .hbm, ⟨1, _⟩ => ⟨S1024x6208, .bf16⟩
  | .hbm, ⟨2, _⟩ => ⟨S1024x6144, .bf16⟩
  | .hbm, ⟨3, _⟩ => ⟨S1024x6144, .f32⟩
  | .hbm, ⟨4, _⟩ => ⟨S_, .f32⟩
  | .hbm, ⟨5, _⟩ => ⟨S4352x1024, .f32⟩
  | .hbm, ⟨6, _⟩ => ⟨S4352x6144, .f32⟩
  | .hbm, ⟨7, _⟩ => ⟨S4352x6144, .f32⟩
  | .hbm, ⟨8, _⟩ => ⟨S4352x1024, .f32⟩
  | _, _ => ⟨S4352x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dglu.lean ====
abbrev S4096x2048 : Shape := ⟨2, ![4096, 2048]⟩
abbrev S4096x512 : Shape := ⟨2, ![4096, 512]⟩
abbrev S1x2048 : Shape := ⟨2, ![1, 2048]⟩
abbrev S256x1024 : Shape := ⟨2, ![256, 1024]⟩
abbrev S256x512 : Shape := ⟨2, ![256, 512]⟩
abbrev S256x2048 : Shape := ⟨2, ![256, 2048]⟩
abbrev S2048 : Shape := ⟨1, ![2048]⟩

abbrev nBuf : Space → Nat
  | .hbm => 5
  | .vmem => 11
  | .smem => 0
  | _ => 0

abbrev bufTy : (tb : Table) → Fin (tcTables nBuf tb) → BufTy
  | .hbm, ⟨0, _⟩ => ⟨S4096x2048, .bf16⟩
  | .hbm, ⟨1, _⟩ => ⟨S4096x512, .f32⟩
  | .hbm, ⟨2, _⟩ => ⟨S4096x512, .f32⟩
  | .hbm, ⟨3, _⟩ => ⟨S4096x2048, .bf16⟩
  | .hbm, ⟨4, _⟩ => ⟨S1x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v27 : BitVec 1 := Scalar.cmpi .eq arg0 c0_i32
  let v28 : BitVec 32 := Scalar.extui v27
  let c0_i32_13 : BitVec 32 := 0#32
  let v29 : BitVec 1 := Scalar.cmpi .ne v28 c0_i32_13
  v29

def k0_cond2 (i : grid0.Coords) : BitVec 1 :=
  let arg0 : BitVec 32 := BitVec.ofNat 32 (i 0).val
  let c0_i32_14 : BitVec 32 := 0#32
  let v30 : BitVec 1 := Scalar.cmpi .sgt arg0 c0_i32_14
  let v31 : BitVec 32 := Scalar.extui v30
  let c0_i32_15 : BitVec 32 := 0#32
  let v32 : BitVec 1 := Scalar.cmpi .ne v31 c0_i32_15
  v32

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c1_i32 : BitVec 32 := 1#32
  let c0_i32_1 : BitVec 32 := 0#32
  ![v2.toNat, c1_i32.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== DgluRefIdeal.lean ====
abbrev S4096x2048 : Shape := ⟨2, ![4096, 2048]⟩
abbrev S4096x512 : Shape := ⟨2, ![4096, 512]⟩
abbrev S_ : Shape := ⟨0, ![]⟩
abbrev S1x2048 : Shape := ⟨2, ![1, 2048]⟩
abbrev S4096x1024 : Shape := ⟨2, ![4096, 1024]⟩
abbrev S2048 : Shape := ⟨1, ![2048]⟩

abbrev nBuf : Space → Nat
  | .hbm => 36
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x512, .f32⟩
  | .hbm, ⟨2, _⟩ => ⟨S4096x512, .f32⟩
  | .hbm, ⟨3, _⟩ => ⟨S4096x2048, .f32⟩
  | .hbm, ⟨4, _⟩ => ⟨S_, .f32⟩
  | .hbm, ⟨5, _⟩ => ⟨S1x2048, .f32⟩
  | .hbm, ⟨6, _⟩ => ⟨S4096x2048, .f32⟩
  | .hbm, ⟨7, _⟩ => ⟨S4096x2048, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S2048, .f32⟩
  | .hbm, ⟨34, _⟩ => ⟨S1x2048, .f32⟩
  | .hbm, ⟨35, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Dnorm.lean ====
abbrev S4096x512 : Shape := ⟨2, ![4096, 512]⟩
abbrev S4096x1024 : Shape := ⟨2, ![4096, 1024]⟩
abbrev S1x1024 : Shape := ⟨2, ![1, 1024]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x512, .f32⟩
  | .hbm, ⟨6, _⟩ => ⟨S4096x512, .f32⟩
  | .hbm, ⟨7, _⟩ => ⟨S1x1024, .f32⟩
  | .hbm, ⟨8, _⟩ => ⟨S1x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S1x1024, .f32⟩
  | .local _ .vmem, ⟨13, _⟩ => ⟨S1x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v71 : BitVec 1 := Scalar.cmpi .eq arg0 c0_i32
  let v72 : BitVec 32 := Scalar.extui v71
  let c0_i32_28 : BitVec 32 := 0#32
  let v73 : BitVec 1 := Scalar.cmpi .ne v72 c0_i32_28
  v73

def k0_cond2 (i : grid0.Coords) : BitVec 1 :=
  let arg0 : BitVec 32 := BitVec.ofNat 32 (i 0).val
  let c0_i32_29 : BitVec 32 := 0#32
  let v74 : BitVec 1 := Scalar.cmpi .sgt arg0 c0_i32_29
  let v75 : BitVec 32 := Scalar.extui v74
  let c0_i32_30 : BitVec 32 := 0#32
  let v76 : BitVec 1 := Scalar.cmpi .ne v75 c0_i32_30
  v76

def k0_cond3 (i : grid0.Coords) : BitVec 1 :=
  let arg0 : BitVec 32 := BitVec.ofNat 32 (i 0).val
  let c0_i32_31 : BitVec 32 := 0#32
  let v77 : BitVec 1 := Scalar.cmpi .eq arg0 c0_i32_31
  let v78 : BitVec 32 := Scalar.extui v77
  let c0_i32_32 : BitVec 32 := 0#32
  let v79 : BitVec 1 := Scalar.cmpi .ne v78 c0_i32_32
  v79

def k0_cond4 (i : grid0.Coords) : BitVec 1 :=
  let arg0 : BitVec 32 := BitVec.ofNat 32 (i 0).val
  let c0_i32_33 : BitVec 32 := 0#32
  let v80 : BitVec 1 := Scalar.cmpi .sgt arg0 c0_i32_33
  let v81 : BitVec 32 := Scalar.extui v80
  let c0_i32_34 : BitVec 32 := 0#32
  let v82 : BitVec 1 := Scalar.cmpi .ne v81 c0_i32_34
  v82

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== DnormRefIdeal.lean ====
abbrev S4096x512 : Shape := ⟨2, ![4096, 512]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 99
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S4096, .f32⟩
  | .hbm, ⟨69, _⟩ => ⟨S4096x1, .f32⟩
  | .hbm, ⟨70, _⟩ => ⟨S4096x1024, .f32⟩
  | .hbm, ⟨71, _⟩ => ⟨S4096x1024, .f32⟩
  | .hbm, ⟨72, _⟩ => ⟨S4096x1, .f32⟩
  | .hbm, ⟨73, _⟩ => ⟨S4096x1024, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S_, .f32⟩
  | .hbm, ⟨81, _⟩ => ⟨S4096, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S_, .f32⟩
  | .hbm, ⟨86, _⟩ => ⟨S4096, .f32⟩
  | .hbm, ⟨87, _⟩ => ⟨S4096x1, .f32⟩
  | .hbm, ⟨88, _⟩ => ⟨S4096x1024, .f32⟩
  | .hbm, ⟨89, _⟩ => ⟨S4096x1, .f32⟩
  | .hbm, ⟨90, _⟩ => ⟨S_, .f32⟩
  | .hbm, ⟨91, _⟩ => ⟨S4096x1, .f32⟩
  | .hbm, ⟨92, _⟩ => ⟨S4096x1, .f32⟩
  | .hbm, ⟨93, _⟩ => ⟨S_, .f32⟩
  | .hbm, ⟨94, _⟩ => ⟨S4096, .f32⟩
  | .hbm, ⟨95, _⟩ => ⟨S4096x1024, .f32⟩
  | .hbm, ⟨96, _⟩ => ⟨S4096x1024, .f32⟩
  | .hbm, ⟨97, _⟩ => ⟨S4096x512, .f32⟩
  | .hbm, ⟨98, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_v28_2 : Ref sig .tc := ⟨.hbm, 47, rfl⟩
abbrev main_call0_cst_1 : Ref sig .tc := ⟨.hbm, 48, rfl⟩
abbrev main_call0_v6 : Ref sig .tc := ⟨.hbm, 49, rfl⟩
abbrev main_call0_v7 : Ref sig .tc := ⟨.hbm, 50, rfl⟩
abbrev main_v28_1 : Ref sig .tc := ⟨.hbm, 51, rfl⟩
abbrev main_v28_0 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v29 : Ref sig .tc := ⟨.hbm, 56, rfl⟩
abbrev main_cst_6 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_7 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_8 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_9 : Ref sig .tc := ⟨.hbm, 74, rfl⟩
abbrev main_v44 : Ref sig .tc := ⟨.hbm, 75, rfl⟩
abbrev main_v45 : Ref sig .tc := ⟨.hbm, 76, rfl⟩
abbrev main_cst_10 : Ref sig .tc := ⟨.hbm, 77, rfl⟩
abbrev main_v46 : Ref sig .tc := ⟨.hbm, 78, rfl⟩
abbrev main_v47 : Ref sig .tc := ⟨.hbm, 79, rfl⟩
abbrev main_cst_11 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_12 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_13 : Ref sig .tc := ⟨.hbm, 90, rfl⟩
abbrev main_v56 : Ref sig .tc := ⟨.hbm, 91, rfl⟩
abbrev main_v57 : Ref sig .tc := ⟨.hbm, 92, rfl⟩
abbrev main_cst_14 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩

abbrev nD : Nat := 1
abbrev τ : Topo := Topo.v7x

variable {F : FTy → Type} [FloatOps F]
-- ==== Dpwin.lean ====
abbrev S4096x1024 : Shape := ⟨2, ![4096, 1024]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DpwinRefIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x1024, .f32⟩
  | .hbm, ⟨3, _⟩ => ⟨S_, .f32⟩
  | .hbm, ⟨4, _⟩ => ⟨S1024x2048, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dpwout.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DpwoutRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dpwx.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DpwxRefIdeal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S1024x2048, .f32⟩
  | .hbm, ⟨3, _⟩ => ⟨S_, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dpwsl.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DpwslRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dmixw.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmixwRefIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x2048, .f32⟩
  | .hbm, ⟨3, _⟩ => ⟨S_, .f32⟩
  | .hbm, ⟨4, _⟩ => ⟨S2048x1024, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dmixy.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmixyRefIdeal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S2048x1024, .f32⟩
  | .hbm, ⟨3, _⟩ => ⟨S_, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Pwin.lean ====
abbrev S4096x1024 : Shape := ⟨2, ![4096, 1024]⟩
abbrev S1024x2048 : Shape := ⟨2, ![1024, 2048]⟩
abbrev S1x2048 : Shape := ⟨2, ![1, 2048]⟩
abbrev S4096x2048 : Shape := ⟨2, ![4096, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S1x2048, .f32⟩
  | .hbm, ⟨3, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1x2048, .f32⟩
  | .local _ .vmem, ⟨4, _⟩ => ⟨S1024x2048, .bf16⟩
  | .local _ .vmem, ⟨5, _⟩ => ⟨S1024x2048, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== PwinRefIdeal.lean ====
abbrev S4096x1024 : Shape := ⟨2, ![4096, 1024]⟩
abbrev S1024x2048 : Shape := ⟨2, ![1024, 2048]⟩
abbrev S1x2048 : Shape := ⟨2, ![1, 2048]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S1x2048, .f32⟩
  | .hbm, ⟨3, _⟩ => ⟨S4096x1024, .f32⟩
  | .hbm, ⟨4, _⟩ => ⟨S1024x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Pwout.lean ====
abbrev S4096x1024 : Shape := ⟨2, ![4096, 1024]⟩
abbrev S1024x1024 : Shape := ⟨2, ![1024, 1024]⟩
abbrev S1x1024 : Shape := ⟨2, ![1, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== PwoutRefIdeal.lean ====
abbrev S4096x1024 : Shape := ⟨2, ![4096, 1024]⟩
abbrev S1024x1024 : Shape := ⟨2, ![1024, 1024]⟩
abbrev S1x1024 : Shape := ⟨2, ![1, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Mix.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixRefIdeal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x2048, .f32⟩
  | .hbm, ⟨3, _⟩ => ⟨S2048x1024, .f32⟩
  | .hbm, ⟨4, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Drms.lean ====
abbrev S4096x1024 : Shape := ⟨2, ![4096, 1024]⟩
abbrev S1x1024 : Shape := ⟨2, ![1, 1024]⟩
abbrev S2x1024 : Shape := ⟨2, ![2, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 14
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S2x1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S1x1024, .f32⟩
  | .hbm, ⟨13, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S2x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S2x1024, .f32⟩
  | .local _ .vmem, ⟨16, _⟩ => ⟨S2x1024, .f32⟩
  | .local _ .vmem, ⟨17, _⟩ => ⟨S2x1024, .f32⟩
  | .local _ .vmem, ⟨18, _⟩ => ⟨S1x1024, .f32⟩
  | .local _ .vmem, ⟨19, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_34 : BitVec 32 := 0#32
  let v82 : BitVec 1 := Scalar.cmpi .eq arg0 c0_i32_34
  let v83 : BitVec 32 := Scalar.extui v82
  let c0_i32_35 : BitVec 32 := 0#32
  let v84 : BitVec 1 := Scalar.cmpi .ne v83 c0_i32_35
  v84

def k0_cond2 (i : grid0.Coords) : BitVec 1 :=
  let arg0 : BitVec 32 := BitVec.ofNat 32 (i 0).val
  let c0_i32_36 : BitVec 32 := 0#32
  let v85 : BitVec 1 := Scalar.cmpi .sgt arg0 c0_i32_36
  let v86 : BitVec 32 := Scalar.extui v85
  let c0_i32_37 : BitVec 32 := 0#32
  let v87 : BitVec 1 := Scalar.cmpi .ne v86 c0_i32_37
  v87

def k0_cond3 (i : grid0.Coords) : BitVec 1 :=
  let arg0 : BitVec 32 := BitVec.ofNat 32 (i 0).val
  let c0_i32_38 : BitVec 32 := 0#32
  let v88 : BitVec 1 := Scalar.cmpi .eq arg0 c0_i32_38
  let v89 : BitVec 32 := Scalar.extui v88
  let c0_i32_39 : BitVec 32 := 0#32
  let v90 : BitVec 1 := Scalar.cmpi .ne v89 c0_i32_39
  v90

def k0_cond4 (i : grid0.Coords) : BitVec 1 :=
  let arg0 : BitVec 32 := BitVec.ofNat 32 (i 0).val
  let c0_i32_40 : BitVec 32 := 0#32
  let v91 : BitVec 1 := Scalar.cmpi .sgt arg0 c0_i32_40
  let v92 : BitVec 32 := Scalar.extui v91
  let c0_i32_41 : BitVec 32 := 0#32
  let v93 : BitVec 1 := Scalar.cmpi .ne v92 c0_i32_41
  v93

def k0_cond5 (i : grid0.Coords) : BitVec 1 :=
  let arg0 : BitVec 32 := BitVec.ofNat 32 (i 0).val
  let c0_i32_42 : BitVec 32 := 0#32
  let v94 : BitVec 1 := Scalar.cmpi .eq arg0 c0_i32_42
  let v95 : BitVec 32 := Scalar.extui v94
  let c0_i32_43 : BitVec 32 := 0#32
  let v96 : BitVec 1 := Scalar.cmpi .ne v95 c0_i32_43
  v96

def k0_cond6 (i : grid0.Coords) : BitVec 1 :=
  let arg0 : BitVec 32 := BitVec.ofNat 32 (i 0).val
  let c0_i32_44 : BitVec 32 := 0#32
  let v97 : BitVec 1 := Scalar.cmpi .sgt arg0 c0_i32_44
  let v98 : BitVec 32 := Scalar.extui v97
  let c0_i32_45 : BitVec 32 := 0#32
  let v99 : BitVec 1 := Scalar.cmpi .ne v98 c0_i32_45
  v99

def k0_cond7 (i : grid0.Coords) : BitVec 1 :=
  let arg0 : BitVec 32 := BitVec.ofNat 32 (i 0).val
  let c0_i32_46 : BitVec 32 := 0#32
  let v100 : BitVec 1 := Scalar.cmpi .eq arg0 c0_i32_46
  let v101 : BitVec 32 := Scalar.extui v100
  let c0_i32_47 : BitVec 32 := 0#32
  let v102 : BitVec 1 := Scalar.cmpi .ne v101 c0_i32_47
  v102

def k0_cond8 (i : grid0.Coords) : BitVec 1 :=
  let arg0 : BitVec 32 := BitVec.ofNat 32 (i 0).val
  let c0_i32_48 : BitVec 32 := 0#32
  let v103 : BitVec 1 := Scalar.cmpi .sgt arg0 c0_i32_48
  let v104 : BitVec 32 := Scalar.extui v103
  let c0_i32_49 : BitVec 32 := 0#32
  let v105 : BitVec 1 := Scalar.cmpi .ne v104 c0_i32_49
  v105

def k0_cond9 (i : grid0.Coords) : BitVec 1 :=
  let arg0 : BitVec 32 := BitVec.ofNat 32 (i 0).val
  let c0_i32_50 : BitVec 32 := 0#32
  let v106 : BitVec 1 := Scalar.cmpi .eq arg0 c0_i32_50
  let v107 : BitVec 32 := Scalar.extui v106
  let c0_i32_51 : BitVec 32 := 0#32
  let v108 : BitVec 1 := Scalar.cmpi .ne v107 c0_i32_51
  v108

def k0_cond10 (i : grid0.Coords) : BitVec 1 :=
  let arg0 : BitVec 32 := BitVec.ofNat 32 (i 0).val
  let c0_i32_52 : BitVec 32 := 0#32
  let v109 : BitVec 1 := Scalar.cmpi .sgt arg0 c0_i32_52
  let v110 : BitVec 32 := Scalar.extui v109
  let c0_i32_53 : BitVec 32 := 0#32
  let v111 : BitVec 1 := Scalar.cmpi .ne v110 c0_i32_53
  v111

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== DrmsRefIdeal.lean ====
abbrev S4096x1024 : Shape := ⟨2, ![4096, 1024]⟩
abbrev S1x1024 : Shape := ⟨2, ![1, 1024]⟩
abbrev S2x1024 : Shape := ⟨2, ![2, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 95
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S2x1024, .f32⟩
  | .hbm, ⟨5, _⟩ => ⟨S4096x1024, .f32⟩
  | .hbm, ⟨6, _⟩ => ⟨S1x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S1x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S_, .f32⟩
  | .hbm, ⟨44, _⟩ => ⟨S2x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S2x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S_, .f32⟩
  | .hbm, ⟨78, _⟩ => ⟨S2x1024, .f32⟩
  | .hbm, ⟨79, _⟩ => ⟨S_, .f32⟩
  | .hbm, ⟨80, _⟩ => ⟨S1x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S_, .f32⟩
  | .hbm, ⟨89, _⟩ => ⟨S1024, .f32⟩
  | .hbm, ⟨90, _⟩ => ⟨S1x1024, .f32⟩
  | .hbm, ⟨91, _⟩ => ⟨S_, .f32⟩
  | .hbm, ⟨92, _⟩ => ⟨S1024, .f32⟩
  | .hbm, ⟨93, _⟩ => ⟨S1x1024, .f32⟩
  | .hbm, ⟨94, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_v49 : Ref sig .tc := ⟨.hbm, 69, rfl⟩
abbrev main_cst_12 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_13 : Ref sig .tc := ⟨.hbm, 77, rfl⟩
abbrev main_v56 : Ref sig .tc := ⟨.hbm, 78, rfl⟩
abbrev main_cst_14 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_15 : Ref sig .tc := ⟨.hbm, 88, rfl⟩
abbrev main_v65 : Ref sig .tc := ⟨.hbm, 89, rfl⟩
abbrev main_v66 : Ref sig .tc := ⟨.hbm, 90, rfl⟩
abbrev main_cst_16 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩

abbrev nD : Nat := 1
abbrev τ : Topo := Topo.v7x

variable {F : FTy → Type} [FloatOps F]
-- ==== Dgate.lean ====
abbrev S4096x2048 : Shape := ⟨2, ![4096, 2048]⟩
abbrev S2x4352x2048 : Shape := ⟨3, ![2, 4352, 2048]⟩
abbrev S4352x4096 : Shape := ⟨2, ![4352, 4096]⟩
abbrev S4352x2048 : Shape := ⟨2, ![4352, 2048]⟩
abbrev S1x2048 : Shape := ⟨2, ![1, 2048]⟩
abbrev S256x2048 : Shape := ⟨2, ![256, 2048]⟩
abbrev S1x256x2048 : Shape := ⟨3, ![1, 256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S2x4352x2048, .f32⟩
  | .hbm, ⟨2, _⟩ => ⟨S4352x4096, .bf16⟩
  | .hbm, ⟨3, _⟩ => ⟨S4352x2048, .bf16⟩
  | .hbm, ⟨4, _⟩ => ⟨S1x2048, .f32⟩
  | .hbm, ⟨5, _⟩ => ⟨S1x2048, .f32⟩
  | .hbm, ⟨6, _⟩ => ⟨S4352x2048, .f32⟩
  | .hbm, ⟨7, _⟩ => ⟨S4352x2048, .bf16⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | .local _ .vmem, ⟨11, _⟩ => ⟨S1x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | .local _ .vmem, ⟨16, _⟩ => ⟨S1x2048, .f32⟩
  | .local _ .vmem, ⟨17, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v88 : BitVec 1 := Scalar.cmpi .eq arg0 c0_i32
  let v89 : BitVec 32 := Scalar.extui v88
  let c0_i32_37 : BitVec 32 := 0#32
  let v90 : BitVec 1 := Scalar.cmpi .ne v89 c0_i32_37
  v90

def k0_cond2 (i : grid0.Coords) : BitVec 1 :=
  let arg0 : BitVec 32 := BitVec.ofNat 32 (i 0).val
  let c0_i32_38 : BitVec 32 := 0#32
  let v91 : BitVec 1 := Scalar.cmpi .sgt arg0 c0_i32_38
  let v92 : BitVec 32 := Scalar.extui v91
  let c0_i32_39 : BitVec 32 := 0#32
  let v93 : BitVec 1 := Scalar.cmpi .ne v92 c0_i32_39
  v93

def k0_cond3 (i : grid0.Coords) : BitVec 1 :=
  let arg0 : BitVec 32 := BitVec.ofNat 32 (i 0).val
  let c0_i32_40 : BitVec 32 := 0#32
  let v94 : BitVec 1 := Scalar.cmpi .eq arg0 c0_i32_40
  let v95 : BitVec 32 := Scalar.extui v94
  let c0_i32_41 : BitVec 32 := 0#32
  let v96 : BitVec 1 := Scalar.cmpi .ne v95 c0_i32_41
  v96

def k0_cond4 (i : grid0.Coords) : BitVec 1 :=
  let arg0 : BitVec 32 := BitVec.ofNat 32 (i 0).val
  let c0_i32_42 : BitVec 32 := 0#32
  let v97 : BitVec 1 := Scalar.cmpi .sgt arg0 c0_i32_42
  let v98 : BitVec 32 := Scalar.extui v97
  let c0_i32_43 : BitVec 32 := 0#32
  let v99 : BitVec 1 := Scalar.cmpi .ne v98 c0_i32_43
  v99

def cc0_transform_0 (i : grid0.Coords) : Fin 2 → Nat :=
  let arg0 : BitVec 32 := BitVec.ofNat 32 (i 0).val
  let c_m1_i32 : BitVec 32 := 4294967295#32
  let v0 : BitVec 32 := Scalar.addi arg0 c_m1_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![v2.toNat, c0_i32_0.toNat]

def cc0_transform_1 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c16_i32 : BitVec 32 := 16#32
  let v1 : BitVec 32 := Scalar.maxsi c0_i32_0 v0
  let v2 : BitVec 32 := Scalar.minsi c16_i32 v1
  let c0_i32_1 : BitVec 32 := 0#32
  let c0_i32_2 : BitVec 32 := 0#32
  let c0_i32_3 : BitVec 32 := 0#32
  ![c0_i32_1.toNat, v2.toNat, c0_i32_2.toNat]

def cc0_transform_2 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c16_i32 : BitVec 32 := 16#32
  let v1 : BitVec 32 := Scalar.maxsi c0_i32_0 v0
  let v2 : BitVec 32 := Scalar.minsi c16_i32 v1
  let c1_i32 : BitVec 32 := 1#32
  let c0_i32_1 : BitVec 32 := 0#32
  let c0_i32_2 : BitVec 32 := 0#32
  ![c1_i32.toNat, v2.toNat, c0_i32_1.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c16_i32 : BitVec 32 := 16#32
  let v1 : BitVec 32 := Scalar.maxsi c0_i32_0 v0
  let v2 : BitVec 32 := Scalar.minsi c16_i32 v1
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c16_i32 : BitVec 32 := 16#32
  let v1 : BitVec 32 := Scalar.maxsi c0_i32_0 v0
  let v2 : BitVec 32 := Scalar.minsi c16_i32 v1
  let c0_i32_1 : BitVec 32 := 0#32
  let c0_i32_2 : BitVec 32 := 0#32
  ![v2.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== DgateRefIdeal.lean ====
abbrev S4096x2048 : Shape := ⟨2, ![4096, 2048]⟩
abbrev S2x4352x2048 : Shape := ⟨3, ![2, 4352, 2048]⟩
abbrev S4352x4096 : Shape := ⟨2, ![4352, 4096]⟩
abbrev S4352x2048 : Shape := ⟨2, ![4352, 2048]⟩
abbrev S1x2048 : Shape := ⟨2, ![1, 2048]⟩
abbrev S1x4352x2048 : Shape := ⟨3, ![1, 4352, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 87
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2x4352x2048, .f32⟩
  | .hbm, ⟨2, _⟩ => ⟨S4352x4096, .bf16⟩
  | .hbm, ⟨3, _⟩ => ⟨S4352x2048, .bf16⟩
  | .hbm, ⟨4, _⟩ => ⟨S1x2048, .f32⟩
  | .hbm, ⟨5, _⟩ => ⟨S1x2048, .f32⟩
  | .hbm, ⟨6, _⟩ => ⟨S1x4352x2048, .f32⟩
  | .hbm, ⟨7, _⟩ => ⟨S4352x2048, .f32⟩
  | .hbm, ⟨8, _⟩ => ⟨S4352x2048, .bf16⟩
  | .hbm, ⟨9, _⟩ => ⟨S4352x2048, .f32⟩
  | .hbm, ⟨10, _⟩ => ⟨S1x4352x2048, .f32⟩
  | .hbm, ⟨11, _⟩ => ⟨S4352x2048, .f32⟩
  | .hbm, ⟨12, _⟩ => ⟨S4352x2048, .f32⟩
  | .hbm, ⟨13, _⟩ => ⟨S4352x2048, .f32⟩
  | .hbm, ⟨14, _⟩ => ⟨S4352x2048, .f32⟩
  | .hbm, ⟨15, _⟩ => ⟨S4352x2048, .f32⟩
  | .hbm, ⟨16, _⟩ => ⟨S4352x2048, .f32⟩
  | .hbm, ⟨17, _⟩ => ⟨S4352x2048, .f32⟩
  | .hbm, ⟨18, _⟩ => ⟨S4352x2048, .f32⟩
  | .hbm, ⟨19, _⟩ => ⟨S_, .f32⟩
  | .hbm, ⟨20, _⟩ => ⟨S4352x2048, .f32⟩
  | .hbm, ⟨21, _⟩ => ⟨S4352x2048, .f32⟩
  | .hbm, ⟨22, _⟩ => ⟨S_, .f32⟩
  | .hbm, ⟨23, _⟩ => ⟨S4352x2048, .f32⟩
  | .hbm, ⟨24, _⟩ => ⟨S4352x2048, .f32⟩
  | .hbm, ⟨25, _⟩ => ⟨S_, .f32⟩
  | .hbm, ⟨26, _⟩ => ⟨S4352x2048, .f32⟩
  | .hbm, ⟨27, _⟩ => ⟨S4352x2048, .f32⟩
  | .hbm, ⟨28, _⟩ => ⟨S4352x2048, .f32⟩
  | .hbm, ⟨29, _⟩ => ⟨S4352x2048, .f32⟩
  | .hbm, ⟨30, _⟩ => ⟨S4352x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S1x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x2048, .f32⟩
  | .hbm, ⟨62, _⟩ => ⟨S4096x2048, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S_, .f32⟩
  | .hbm, ⟨75, _⟩ => ⟨S4352x2048, .f32⟩
  | .hbm, ⟨76, _⟩ => ⟨S4352x2048, .f32⟩
  | .hbm, ⟨77, _⟩ => ⟨S4352x2048, .f32⟩
  | .hbm, ⟨78, _⟩ => ⟨S4352x2048, .f32⟩
  | .hbm, ⟨79, _⟩ => ⟨S4352x2048, .f32⟩
  | .hbm, ⟨80, _⟩ => ⟨S4352x2048, .f32⟩
  | .hbm, ⟨81, _⟩ => ⟨S4352x2048, .f32⟩
  | .hbm, ⟨82, _⟩ => ⟨S4352x2048, .f32⟩
  | .hbm, ⟨83, _⟩ => ⟨S_, .f32⟩
  | .hbm, ⟨84, _⟩ => ⟨S2048, .f32⟩
  | .hbm, ⟨85, _⟩ => ⟨S1x2048, .f32⟩
  | .hbm, ⟨86, _⟩ => ⟨S4352x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_v11_2 : Ref sig .tc := ⟨.hbm, 24, rfl⟩
abbrev main_call0_cst_1 : Ref sig .tc := ⟨.hbm, 25, rfl⟩
abbrev main_call0_v6 : Ref sig .tc := ⟨.hbm, 26, rfl⟩
abbrev main_call0_v7 : Ref sig .tc := ⟨.hbm, 27, rfl⟩
abbrev main_v11_1 : Ref sig .tc := ⟨.hbm, 28, rfl⟩
abbrev main_v11_0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst : Ref sig .tc := ⟨.hbm, 33, rfl⟩
abbrev main_v15 : Ref sig .tc := ⟨.hbm, 34, rfl⟩
abbrev main_v16 : Ref sig .tc := ⟨.hbm, 35, rfl⟩
abbrev main_cst_0 : Ref sig .tc := ⟨.hbm, 36, rfl⟩
abbrev main_v17 : Ref sig .tc := ⟨.hbm, 37, rfl⟩
abbrev main_v18 : Ref sig .tc := ⟨.hbm, 38, rfl⟩
abbrev main_cst_1 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_2 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_3 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_4 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_5 : Ref sig .tc := ⟨.hbm, 64, rfl⟩
abbrev main_v40 : Ref sig .tc := ⟨.hbm, 65, rfl⟩
abbrev main_v41 : Ref sig .tc := ⟨.hbm, 66, rfl⟩
abbrev main_cst_6 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_7 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_v51 : Ref sig .tc := ⟨.hbm, 81, rfl⟩
abbrev main_v52 : Ref sig .tc := ⟨.hbm, 82, rfl⟩
abbrev main_cst_8 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩

abbrev nD : Nat := 1
abbrev τ : Topo := Topo.v7x

variable {F : FTy → Type} [FloatOps F]
-- ==== Glu.lean ====
abbrev S4096x2048 : Shape := ⟨2, ![4096, 2048]⟩
abbrev S4096x1024 : Shape := ⟨2, ![4096, 1024]⟩
abbrev S256x1024 : Shape := ⟨2, ![256, 1024]⟩

abbrev nBuf : Space → Nat
  | .hbm => 2
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c1_i32 : BitVec 32 := 1#32
  let c0_i32_1 : BitVec 32 := 0#32
  ![v2.toNat, c1_i32.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GluRefIdeal.lean ====
abbrev S4096x2048 : Shape := ⟨2, ![4096, 2048]⟩
abbrev S4096x1024 : Shape := ⟨2, ![4096, 1024]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Lnorm.lean ====
abbrev S4096x512 : Shape := ⟨2, ![4096, 512]⟩
abbrev S1x1024 : Shape := ⟨2, ![1, 1024]⟩
abbrev S4096x1024 : Shape := ⟨2, ![4096, 1024]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x1024, .f32⟩
  | .hbm, ⟨3, _⟩ => ⟨S1x1024, .f32⟩
  | .hbm, ⟨4, _⟩ => ⟨S4096x1024, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x1024, .f32⟩
  | .local _ .vmem, ⟨5, _⟩ => ⟨S1x1024, .f32⟩
  | .local _ .vmem, ⟨6, _⟩ => ⟨S256x1024, .bf16⟩
  | .local _ .vmem, ⟨7, _⟩ => ⟨S256x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LnormRefIdeal.lean ====
abbrev S4096x512 : Shape := ⟨2, ![4096, 512]⟩
abbrev S1x1024 : Shape := ⟨2, ![1, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩

abbrev nBuf : Space → Nat
  | .hbm => 42
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v23 : Ref sig .tc := ⟨.hbm, 40, rfl⟩
abbrev main_v24 : Ref sig .tc := ⟨.hbm, 41, rfl⟩

abbrev nD : Nat := 1
abbrev τ : Topo := Topo.v7x

variable {F : FTy → Type} [FloatOps F]
-- ==== Rnorm.lean ====
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RnormRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Sgate.lean ====
abbrev S2x4352x2048 : Shape := ⟨3, ![2, 4352, 2048]⟩
abbrev S4352x4096 : Shape := ⟨2, ![4352, 4096]⟩
abbrev S4352x6144 : Shape := ⟨2, ![4352, 6144]⟩
abbrev S1x2048 : Shape := ⟨2, ![1, 2048]⟩
abbrev S4096x2048 : Shape := ⟨2, ![4096, 2048]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 12
  | .smem => 0
  | _ => 0

abbrev bufTy : (tb : Table) → Fin (tcTables nBuf tb) → BufTy
  | .hbm, ⟨0, _⟩ => ⟨S2x4352x2048, .f32⟩
  | .hbm, ⟨1, _⟩ => ⟨S4352x4096, .bf16⟩
  | .hbm, ⟨2, _⟩ => ⟨S4352x6144, .bf16⟩
  | .hbm, ⟨3, _⟩ => ⟨S1x2048, .f32⟩
  | .hbm, ⟨4, _⟩ => ⟨S1x2048, .f32⟩
  | .hbm, ⟨5, _⟩ => ⟨S4096x2048, .bf16⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S1x2048, .f32⟩
  | .local _ .vmem, ⟨9, _⟩ => ⟨S1x2048, .f32⟩
  | .local _ .vmem, ⟨10, _⟩ => ⟨S256x2048, .bf16⟩
  | .local _ .vmem, ⟨11, _⟩ => ⟨S256x2048, .bf16⟩
  | _, _ => ⟨S2x4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c1_i32 : BitVec 32 := 1#32
  let v0 : BitVec 32 := Scalar.addi arg0 c1_i32
  let c0_i32 : BitVec 32 := 0#32
  let c16_i32 : BitVec 32 := 16#32
  let v1 : BitVec 32 := Scalar.maxsi c0_i32 v0
  let v2 : BitVec 32 := Scalar.minsi c16_i32 v1
  let c0_i32_0 : BitVec 32 := 0#32
  let c0_i32_1 : BitVec 32 := 0#32
  let c0_i32_2 : BitVec 32 := 0#32
  ![c0_i32_0.toNat, v2.toNat, c0_i32_1.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c0_i32 : BitVec 32 := 0#32
  let c16_i32 : BitVec 32 := 16#32
  let v1 : BitVec 32 := Scalar.maxsi c0_i32 v0
  let v2 : BitVec 32 := Scalar.minsi c16_i32 v1
  let c1_i32_0 : BitVec 32 := 1#32
  let c0_i32_1 : BitVec 32 := 0#32
  let c0_i32_2 : BitVec 32 := 0#32
  ![c1_i32_0.toNat, v2.toNat, c0_i32_1.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c16_i32 : BitVec 32 := 16#32
  let v1 : BitVec 32 := Scalar.maxsi c0_i32 v0
  let v2 : BitVec 32 := Scalar.minsi c16_i32 v1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c16_i32 : BitVec 32 := 16#32
  let v1 : BitVec 32 := Scalar.maxsi c0_i32 v0
  let v2 : BitVec 32 := Scalar.minsi c16_i32 v1
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SgateRefIdeal.lean ====
abbrev S2x4352x2048 : Shape := ⟨3, ![2, 4352, 2048]⟩
abbrev S4352x4096 : Shape := ⟨2, ![4352, 4096]⟩
abbrev S4352x6144 : Shape := ⟨2, ![4352, 6144]⟩
abbrev S1x2048 : Shape := ⟨2, ![1, 2048]⟩
abbrev S1x4352x2048 : Shape := ⟨3, ![1, 4352, 2048]⟩
abbrev S4352x2048 : Shape := ⟨2, ![4352, 2048]⟩
abbrev S_ : Shape := ⟨0, ![]⟩
abbrev S4096x2048 : Shape := ⟨2, ![4096, 2048]⟩
abbrev S4096 : Shape := ⟨1, ![4096]⟩
abbrev S4096x1 : Shape := ⟨2, ![4096, 1]⟩

abbrev nBuf : Space → Nat
  | .hbm => 44
  | .vmem => 0
  | .smem => 0
  | _ => 0

abbrev bufTy : (tb : Table) → Fin (tcTables nBuf tb) → BufTy
  | .hbm, ⟨0, _⟩ => ⟨S2x4352x2048, .f32⟩
  | .hbm, ⟨1, _⟩ => ⟨S4352x4096, .bf16⟩
  | .hbm, ⟨2, _⟩ => ⟨S4352x6144, .bf16⟩
  | .hbm, ⟨3, _⟩ => ⟨S1x2048, .f32⟩
  | .hbm, ⟨4, _⟩ => ⟨S1x2048, .f32⟩
  | .hbm, ⟨5, _⟩ => ⟨S1x4352x2048, .f32⟩
  | .hbm, ⟨6, _⟩ => ⟨S4352x2048, .f32⟩
  | .hbm, ⟨7, _⟩ => ⟨S1x4352x2048, .f32⟩
  | .hbm, ⟨8, _⟩ => ⟨S4352x2048, .f32⟩
  | .hbm, ⟨9, _⟩ => ⟨S4352x2048, .f32⟩
  | .hbm, ⟨10, _⟩ => ⟨S4352x2048, .bf16⟩
  | .hbm, ⟨11, _⟩ => ⟨S4352x2048, .f32⟩
  | .hbm, ⟨12, _⟩ => ⟨S4352x2048, .f32⟩
  | .hbm, ⟨13, _⟩ => ⟨S4352x2048, .f32⟩
  | .hbm, ⟨14, _⟩ => ⟨S4352x2048, .f32⟩
  | .hbm, ⟨15, _⟩ => ⟨S4352x2048, .bf16⟩
  | .hbm, ⟨16, _⟩ => ⟨S4352x2048, .f32⟩
  | .hbm, ⟨17, _⟩ => ⟨S4352x2048, .f32⟩
  | .hbm, ⟨18, _⟩ => ⟨S4352x2048, .f32⟩
  | .hbm, ⟨19, _⟩ => ⟨S_, .f32⟩
  | .hbm, ⟨20, _⟩ => ⟨S4352x2048, .f32⟩
  | .hbm, ⟨21, _⟩ => ⟨S4352x2048, .f32⟩
  | .hbm, ⟨22, _⟩ => ⟨S_, .f32⟩
  | .hbm, ⟨23, _⟩ => ⟨S4352x2048, .f32⟩
  | .hbm, ⟨24, _⟩ => ⟨S4352x2048, .f32⟩
  | .hbm, ⟨25, _⟩ => ⟨S4352x2048, .f32⟩
  | .hbm, ⟨26, _⟩ => ⟨S4352x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .bf16⟩
  | _, _ => ⟨S2x4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_cst_0 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== Dtp.lean ====
abbrev S4352x1024 : Shape := ⟨2, ![4352, 1024]⟩
abbrev S1024x128 : Shape := ⟨2, ![1024, 128]⟩
abbrev S4352x128 : Shape := ⟨2, ![4352, 128]⟩
abbrev S1088x1024 : Shape := ⟨2, ![1088, 1024]⟩
abbrev S1088x128 : Shape := ⟨2, ![1088, 128]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S1024x128, .bf16⟩
  | .hbm, ⟨2, _⟩ => ⟨S4352x128, .f32⟩
  | .local _ .vmem, ⟨0, _⟩ => ⟨S1088x1024, .bf16⟩
  | .local _ .vmem, ⟨1, _⟩ => ⟨S1088x1024, .bf16⟩
  | .local _ .vmem, ⟨2, _⟩ => ⟨S1024x128, .bf16⟩
  | .local _ .vmem, ⟨3, _⟩ => ⟨S1088x128, .f32⟩
  | .local _ .vmem, ⟨4, _⟩ => ⟨S1088x128, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DtpRefIdeal.lean ====
abbrev S4352x1024 : Shape := ⟨2, ![4352, 1024]⟩
abbrev S1024x128 : Shape := ⟨2, ![1024, 128]⟩
abbrev S4352x128 : Shape := ⟨2, ![4352, 128]⟩

abbrev nBuf : Space → Nat
  | .hbm => 5
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x128, .bf16⟩
  | .hbm, ⟨2, _⟩ => ⟨S4352x1024, .f32⟩
  | .hbm, ⟨3, _⟩ => ⟨S1024x128, .f32⟩
  | .hbm, ⟨4, _⟩ => ⟨S4352x128, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Dwdt.lean ====
abbrev S4352x1024 : Shape := ⟨2, ![4352, 1024]⟩
abbrev S4352x128 : Shape := ⟨2, ![4352, 128]⟩
abbrev S1024x128 : Shape := ⟨2, ![1024, 128]⟩
abbrev S2176x512 : Shape := ⟨2, ![2176, 512]⟩
abbrev S2176x128 : Shape := ⟨2, ![2176, 128]⟩
abbrev S512x128 : Shape := ⟨2, ![512, 128]⟩

abbrev nBuf : Space → Nat
  | .hbm => 3
  | .vmem => 7
  | .smem => 0
  | _ => 0

abbrev bufTy : (tb : Table) → Fin (tcTables nBuf tb) → BufTy
  | .hbm, ⟨0, _⟩ => ⟨S4352x1024, .bf16⟩
  | .hbm, ⟨1, _⟩ => ⟨S4352x128, .bf16⟩
  | .hbm, ⟨2, _⟩ => ⟨S1024x128, .bf16⟩
  | .local _ .vmem, ⟨0, _⟩ => ⟨S2176x512, .bf16⟩
  | .local _ .vmem, ⟨1, _⟩ => ⟨S2176x512, .bf16⟩
  | .local _ .vmem, ⟨2, _⟩ => ⟨S2176x128, .bf16⟩
  | .local _ .vmem, ⟨3, _⟩ => ⟨S2176x128, .bf16⟩
  | .local _ .vmem, ⟨4, _⟩ => ⟨S512x128, .bf16⟩
  | .local _ .vmem, ⟨5, _⟩ => ⟨S512x128, .bf16⟩
  | .local _ .vmem, ⟨6, _⟩ => ⟨S512x128, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwdtRefIdeal.lean ====
abbrev S4352x1024 : Shape := ⟨2, ![4352, 1024]⟩
abbrev S4352x128 : Shape := ⟨2, ![4352, 128]⟩
abbrev S_ : Shape := ⟨0, ![]⟩
abbrev S1024x128 : Shape := ⟨2, ![1024, 128]⟩
abbrev S128x1024 : Shape := ⟨2, ![128, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x128, .bf16⟩
  | .hbm, ⟨2, _⟩ => ⟨S_, .f32⟩
  | .hbm, ⟨3, _⟩ => ⟨S1024x128, .f32⟩
  | .hbm, ⟨4, _⟩ => ⟨S4352x1024, .f32⟩
  | .hbm, ⟨5, _⟩ => ⟨S4352x128, .f32⟩
  | .hbm, ⟨6, _⟩ => ⟨S4352x128, .f32⟩
  | .hbm, ⟨7, _⟩ => ⟨S128x1024, .f32⟩
  | .hbm, ⟨8, _⟩ => ⟨S1024x128, .f32⟩
  | .hbm, ⟨9, _⟩ => ⟨S1024x128, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dxdt.lean ====
abbrev S4352x128 : Shape := ⟨2, ![4352, 128]⟩
abbrev S1024x128 : Shape := ⟨2, ![1024, 128]⟩
abbrev S4352x1024 : Shape := ⟨2, ![4352, 1024]⟩
abbrev S1088x128 : Shape := ⟨2, ![1088, 128]⟩
abbrev S1088x1024 : Shape := ⟨2, ![1088, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4352x128, .bf16⟩
  | .hbm, ⟨1, _⟩ => ⟨S1024x128, .bf16⟩
  | .hbm, ⟨2, _⟩ => ⟨S4352x1024, .f32⟩
  | .hbm, ⟨3, _⟩ => ⟨S4352x1024, .f32⟩
  | .local _ .vmem, ⟨0, _⟩ => ⟨S1088x128, .bf16⟩
  | .local _ .vmem, ⟨1, _⟩ => ⟨S1088x128, .bf16⟩
  | .local _ .vmem, ⟨2, _⟩ => ⟨S1024x128, .bf16⟩
  | .local _ .vmem, ⟨3, _⟩ => ⟨S1088x1024, .f32⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S4352x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DxdtRefIdeal.lean ====
abbrev S4352x128 : Shape := ⟨2, ![4352, 128]⟩
abbrev S1024x128 : Shape := ⟨2, ![1024, 128]⟩
abbrev S4352x1024 : Shape := ⟨2, ![4352, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4352x128, .bf16⟩
  | .hbm, ⟨1, _⟩ => ⟨S1024x128, .bf16⟩
  | .hbm, ⟨2, _⟩ => ⟨S4352x1024, .f32⟩
  | .hbm, ⟨3, _⟩ => ⟨S_, .f32⟩
  | .hbm, ⟨4, _⟩ => ⟨S4352x1024, .f32⟩
  | .hbm, ⟨5, _⟩ => ⟨S1024x128, .f32⟩
  | .hbm, ⟨6, _⟩ => ⟨S4352x128, .f32⟩
  | .hbm, ⟨7, _⟩ => ⟨S4352x128, .f32⟩
  | .hbm, ⟨8, _⟩ => ⟨S4352x1024, .f32⟩
  | .hbm, ⟨9, _⟩ => ⟨S4352x1024, .f32⟩
  | _, _ => ⟨S4352x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Cnorm.lean ====
abbrev S256x1024 : Shape := ⟨2, ![256, 1024]⟩
abbrev S4096x1024 : Shape := ⟨2, ![4096, 1024]⟩
abbrev S1x1024 : Shape := ⟨2, ![1, 1024]⟩
abbrev S2x1024 : Shape := ⟨2, ![2, 1024]⟩
abbrev S4352x1024 : Shape := ⟨2, ![4352, 1024]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S4096x1024, .f32⟩
  | .hbm, ⟨2, _⟩ => ⟨S1x1024, .f32⟩
  | .hbm, ⟨3, _⟩ => ⟨S2x1024, .f32⟩
  | .hbm, ⟨4, _⟩ => ⟨S2x1024, .f32⟩
  | .hbm, ⟨5, _⟩ => ⟨S4352x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S2x1024, .f32⟩
  | .local _ .vmem, ⟨6, _⟩ => ⟨S2x1024, .f32⟩
  | .local _ .vmem, ⟨7, _⟩ => ⟨S256x1024, .bf16⟩
  | .local _ .vmem, ⟨8, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![v2.toNat, c0_i32_2.toNat]

def cc0_transform_1 (i : grid0.Coords) : Fin 2 → Nat :=
  let arg0 : BitVec 32 := BitVec.ofNat 32 (i 0).val
  let c_m1_i32 : BitVec 32 := 4294967295#32
  let v0 : BitVec 32 := Scalar.addi arg0 c_m1_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CnormRefIdeal.lean ====
abbrev S256x1024 : Shape := ⟨2, ![256, 1024]⟩
abbrev S4096x1024 : Shape := ⟨2, ![4096, 1024]⟩
abbrev S1x1024 : Shape := ⟨2, ![1, 1024]⟩
abbrev S2x1024 : Shape := ⟨2, ![2, 1024]⟩
abbrev S_ : Shape := ⟨0, ![]⟩
abbrev S256 : Shape := ⟨1, ![256]⟩
abbrev S256x1 : Shape := ⟨2, ![256, 1]⟩
abbrev S4096 : Shape := ⟨1, ![4096]⟩
abbrev S4096x1 : Shape := ⟨2, ![4096, 1]⟩
abbrev S4352x1024 : Shape := ⟨2, ![4352, 1024]⟩

abbrev nBuf : Space → Nat
  | .hbm => 55
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S4096x1024, .f32⟩
  | .hbm, ⟨2, _⟩ => ⟨S1x1024, .f32⟩
  | .hbm, ⟨3, _⟩ => ⟨S2x1024, .f32⟩
  | .hbm, ⟨4, _⟩ => ⟨S2x1024, .f32⟩
  | .hbm, ⟨5, _⟩ => ⟨S256x1024, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S1x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S256x1024, .f32⟩
  | .hbm, ⟨25, _⟩ => ⟨S256x1024, .f32⟩
  | .hbm, ⟨26, _⟩ => ⟨S1x1024, .f32⟩
  | .hbm, ⟨27, _⟩ => ⟨S256x1024, .f32⟩
  | .hbm, ⟨28, _⟩ => ⟨S256x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S1x1024, .f32⟩
  | .hbm, ⟨45, _⟩ => ⟨S_, .f32⟩
  | .hbm, ⟨46, _⟩ => ⟨S1x1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4352x1024, .f32⟩
  | .hbm, ⟨54, _⟩ => ⟨S4352x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Ada.lean ====
abbrev S16x1024 : Shape := ⟨2, ![16, 1024]⟩
abbrev S2x1024x768 : Shape := ⟨3, ![2, 1024, 768]⟩
abbrev S2x1x768 : Shape := ⟨3, ![2, 1, 768]⟩
abbrev S2x16x768 : Shape := ⟨3, ![2, 16, 768]⟩
abbrev S1x1024x768 : Shape := ⟨3, ![1, 1024, 768]⟩
abbrev S1x1x768 : Shape := ⟨3, ![1, 1, 768]⟩
abbrev S1x16x768 : Shape := ⟨3, ![1, 16, 768]⟩
abbrev S1024x768 : Shape := ⟨2, ![1024, 768]⟩
abbrev S16x768 : Shape := ⟨2, ![16, 768]⟩
abbrev S1x768 : Shape := ⟨2, ![1, 768]⟩

abbrev nBuf : Space → Nat
  | .hbm => 4
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x768, .f32⟩
  | .hbm, ⟨2, _⟩ => ⟨S2x1x768, .f32⟩
  | .hbm, ⟨3, _⟩ => ⟨S2x16x768, .f32⟩
  | .local _ .vmem, ⟨0, _⟩ => ⟨S16x1024, .f32⟩
  | .local _ .vmem, ⟨1, _⟩ => ⟨S1x1024x768, .f32⟩
  | .local _ .vmem, ⟨2, _⟩ => ⟨S1x1024x768, .f32⟩
  | .local _ .vmem, ⟨3, _⟩ => ⟨S1x1x768, .f32⟩
  | .local _ .vmem, ⟨4, _⟩ => ⟨S1x1x768, .f32⟩
  | .local _ .vmem, ⟨5, _⟩ => ⟨S1x16x768, .f32⟩
  | .local _ .vmem, ⟨6, _⟩ => ⟨S1x16x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S16x1024 : Shape := ⟨2, ![16, 1024]⟩
abbrev S2x1024x768 : Shape := ⟨3, ![2, 1024, 768]⟩
abbrev S2x1x768 : Shape := ⟨3, ![2, 1, 768]⟩
abbrev S_ : Shape := ⟨0, ![]⟩
abbrev S1x1024x768 : Shape := ⟨3, ![1, 1024, 768]⟩
abbrev S1024x768 : Shape := ⟨2, ![1024, 768]⟩
abbrev S16x768 : Shape := ⟨2, ![16, 768]⟩
abbrev S1x1x768 : Shape := ⟨3, ![1, 1, 768]⟩
abbrev S1x768 : Shape := ⟨2, ![1, 768]⟩
abbrev S1x16x768 : Shape := ⟨3, ![1, 16, 768]⟩
abbrev S2x16x768 : Shape := ⟨3, ![2, 16, 768]⟩

abbrev nBuf : Space → Nat
  | .hbm => 29
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x768, .f32⟩
  | .hbm, ⟨2, _⟩ => ⟨S2x1x768, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1x1024x768, .f32⟩
  | .hbm, ⟨13, _⟩ => ⟨S1024x768, .f32⟩
  | .hbm, ⟨14, _⟩ => ⟨S16x768, .f32⟩
  | .hbm, ⟨15, _⟩ => ⟨S1x1x768, .f32⟩
  | .hbm, ⟨16, _⟩ => ⟨S1x768, .f32⟩
  | .hbm, ⟨17, _⟩ => ⟨S16x768, .f32⟩
  | .hbm, ⟨18, _⟩ => ⟨S16x768, .f32⟩
  | .hbm, ⟨19, _⟩ => ⟨S1x1024x768, .f32⟩
  | .hbm, ⟨20, _⟩ => ⟨S1024x768, .f32⟩
  | .hbm, ⟨21, _⟩ => ⟨S16x768, .f32⟩
  | .hbm, ⟨22, _⟩ => ⟨S1x1x768, .f32⟩
  | .hbm, ⟨23, _⟩ => ⟨S1x768, .f32⟩
  | .hbm, ⟨24, _⟩ => ⟨S16x768, .f32⟩
  | .hbm, ⟨25, _⟩ => ⟨S16x768, .f32⟩
  | .hbm, ⟨26, _⟩ => ⟨S1x16x768, .f32⟩
  | .hbm, ⟨27, _⟩ => ⟨S1x16x768, .f32⟩
  | .hbm, ⟨28, _⟩ => ⟨S2x16x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== Axial.lean ====
abbrev S4096x1024 : Shape := ⟨2, ![4096, 1024]⟩
abbrev S31x1024 : Shape := ⟨2, ![31, 1024]⟩
abbrev S1x1024 : Shape := ⟨2, ![1, 1024]⟩
abbrev S4096x512 : Shape := ⟨2, ![4096, 512]⟩
abbrev S64x64x512 : Shape := ⟨3, ![64, 64, 512]⟩
abbrev S31x512 : Shape := ⟨2, ![31, 512]⟩
abbrev S1x512 : Shape := ⟨2, ![1, 512]⟩
abbrev S4096x128 : Shape := ⟨2, ![4096, 128]⟩
abbrev S31x128 : Shape := ⟨2, ![31, 128]⟩
abbrev S1x128 : Shape := ⟨2, ![1, 128]⟩
abbrev S6016x128 : Shape := ⟨2, ![6016, 128]⟩
abbrev S960x128 : Shape := ⟨2, ![960, 128]⟩

abbrev nBuf : Space → Nat
  | .hbm => 16
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S31x1024, .f32⟩
  | .hbm, ⟨2, _⟩ => ⟨S1x1024, .f32⟩
  | .hbm, ⟨3, _⟩ => ⟨S4096x512, .f32⟩
  | .hbm, ⟨4, _⟩ => ⟨S64x64x512, .f32⟩
  | .hbm, ⟨5, _⟩ => ⟨S64x64x512, .f32⟩
  | .hbm, ⟨6, _⟩ => ⟨S4096x512, .f32⟩
  | .hbm, ⟨7, _⟩ => ⟨S31x512, .f32⟩
  | .hbm, ⟨8, _⟩ => ⟨S1x512, .f32⟩
  | .hbm, ⟨9, _⟩ => ⟨S4096x512, .f32⟩
  | .hbm, ⟨10, _⟩ => ⟨S31x512, .f32⟩
  | .hbm, ⟨11, _⟩ => ⟨S1x512, .f32⟩
  | .hbm, ⟨12, _⟩ => ⟨S4096x512, .f32⟩
  | .hbm, ⟨13, _⟩ => ⟨S64x64x512, .f32⟩
  | .hbm, ⟨14, _⟩ => ⟨S64x64x512, .f32⟩
  | .hbm, ⟨15, _⟩ => ⟨S4096x512, .f32⟩
  | .local _ .vmem, ⟨0, _⟩ => ⟨S4096x128, .f32⟩
  | .local _ .vmem, ⟨1, _⟩ => ⟨S4096x128, .f32⟩
  | .local _ .vmem, ⟨2, _⟩ => ⟨S31x128, .f32⟩
  | .local _ .vmem, ⟨3, _⟩ => ⟨S31x128, .f32⟩
  | .local _ .vmem, ⟨4, _⟩ => ⟨S1x128, .f32⟩
  | .local _ .vmem, ⟨5, _⟩ => ⟨S1x128, .f32⟩
  | .local _ .vmem, ⟨6, _⟩ => ⟨S4096x128, .f32⟩
  | .local _ .vmem, ⟨7, _⟩ => ⟨S4096x128, .f32⟩
  | .local _ .vmem, ⟨8, _⟩ => ⟨S6016x128, .f32⟩
  | .local _ .vmem, ⟨9, _⟩ => ⟨S4096x128, .f32⟩
  | .local _ .vmem, ⟨10, _⟩ => ⟨S4096x128, .f32⟩
  | .local _ .vmem, ⟨11, _⟩ => ⟨S31x128, .f32⟩
  | .local _ .vmem, ⟨12, _⟩ => ⟨S31x128, .f32⟩
  | .local _ .vmem, ⟨13, _⟩ => ⟨S1x128, .f32⟩
  | .local _ .vmem, ⟨14, _⟩ => ⟨S1x128, .f32⟩
  | .local _ .vmem, ⟨15, _⟩ => ⟨S4096x128, .f32⟩
  | .local _ .vmem, ⟨16, _⟩ => ⟨S4096x128, .f32⟩
  | .local _ .vmem, ⟨17, _⟩ => ⟨S6016x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S31x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S31x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== AxialRefIdeal.lean ====
abbrev S4096x1024 : Shape := ⟨2, ![4096, 1024]⟩
abbrev S31x1024 : Shape := ⟨2, ![31, 1024]⟩
abbrev S1x1024 : Shape := ⟨2, ![1, 1024]⟩
abbrev S1024 : Shape := ⟨1, ![1024]⟩
abbrev S64x64x1024 : Shape := ⟨3, ![64, 64, 1024]⟩
abbrev S64x64x512 : Shape := ⟨3, ![64, 64, 512]⟩
abbrev S_ : Shape := ⟨0, ![]⟩
abbrev S64x15x1024 : Shape := ⟨3, ![64, 15, 1024]⟩
abbrev S64x94x1024 : Shape := ⟨3, ![64, 94, 1024]⟩
abbrev S1x1x1024 : Shape := ⟨3, ![1, 1, 1024]⟩
abbrev S4096x512 : Shape := ⟨2, ![4096, 512]⟩

abbrev nBuf : Space → Nat
  | .hbm => 210
  | .vmem => 0
  | .smem => 0
  | _ => 0

abbrev hbmTy0_0 (i : Nat) : BufTy := match i % 128 with
  | 0 => ⟨S4096x1024, .f32⟩
  | 1 => ⟨S31x1024, .f32⟩
  | 2 => ⟨S1x1024, .f32⟩
  | 3 => ⟨S1024, .f32⟩
  | 4 => ⟨S64x64x1024, .f32⟩
  | 5 => ⟨S64x64x512, .f32⟩
  | 6 => ⟨S64x64x512, .f32⟩
  | 7 => ⟨S64x64x512, .f32⟩
  | 8 => ⟨S64x64x1024, .f32⟩
  | 9 => ⟨S_, .f32⟩
  | 10 => ⟨S64x15x1024, .f32⟩
  | 11 => ⟨S64x94x1024, .f32⟩
  | 12 => ⟨S1x1024, .f32⟩
  | 13 => ⟨S1x1024, .f32⟩
  | 14 => ⟨S1x1024, .f32⟩
  | 15 => ⟨S1x1024, .f32⟩
  | 16 => ⟨S1x1024, .f32⟩
  | 17 => ⟨S1x1024, .f32⟩
  | 18 => ⟨S1x1024, .f32⟩
  | 19 => ⟨S1x1024, .f32⟩
  | 20 => ⟨S1x1024, .f32⟩
  | 21 => ⟨S1x1024, .f32⟩
  | 22 => ⟨S1x1024, .f32⟩
  | 23 => ⟨S1x1024, .f32⟩
  | 24 => ⟨S1x1024, .f32⟩
  | 25 => ⟨S1x1024, .f32⟩
  | 26 => ⟨S1x1024, .f32⟩
  | 27 => ⟨S1x1024, .f32⟩
  | 28 => ⟨S1x1024, .f32⟩
  | 29 => ⟨S1x1024, .f32⟩
  | 30 => ⟨S1x1024, .f32⟩
  | 31 => ⟨S1x1024, .f32⟩
  | 32 => ⟨S1x1024, .f32⟩
  | 33 => ⟨S1x1024, .f32⟩
  | 34 => ⟨S1x1024, .f32⟩
  | 35 => ⟨S1x1024, .f32⟩
  | 36 => ⟨S1x1024, .f32⟩
  | 37 => ⟨S1x1024, .f32⟩
  | 38 => ⟨S1x1024, .f32⟩
  | 39 => ⟨S1x1024, .f32⟩
  | 40 => ⟨S1x1024, .f32⟩
  | 41 => ⟨S1x1024, .f32⟩
  | 42 => ⟨S1x1024, .f32⟩
  | 43 => ⟨S64x64x1024, .f32⟩
  | 44 => ⟨S1x1x1024, .f32⟩
  | 45 => ⟨S64x64x1024, .f32⟩
  | 46 => ⟨S64x64x1024, .f32⟩
  | 47 => ⟨S_, .f32⟩
  | 48 => ⟨S64x64x1024, .f32⟩
  | 49 => ⟨S64x64x1024, .f32⟩
  | 50 => ⟨S64x64x1024, .f32⟩
  | 51 => ⟨S1x1x1024, .f32⟩
  | 52 => ⟨S64x64x1024, .f32⟩
  | 53 => ⟨S64x64x1024, .f32⟩
  | 54 => ⟨S64x64x1024, .f32⟩
  | 55 => ⟨S64x64x1024, .f32⟩
  | 56 => ⟨S1x1x1024, .f32⟩
  | 57 => ⟨S64x64x1024, .f32⟩
  | 58 => ⟨S64x64x1024, .f32⟩
  | 59 => ⟨S64x64x1024, .f32⟩
  | 60 => ⟨S64x64x1024, .f32⟩
  | 61 => ⟨S1x1x1024, .f32⟩
  | 62 => ⟨S64x64x1024, .f32⟩
  | 63 => ⟨S64x64x1024, .f32⟩
  | 64 => ⟨S64x64x1024, .f32⟩
  | 65 => ⟨S64x64x1024, .f32⟩
  | 66 => ⟨S1x1x1024, .f32⟩
  | 67 => ⟨S64x64x1024, .f32⟩
  | 68 => ⟨S64x64x1024, .f32⟩
  | 69 => ⟨S64x64x1024, .f32⟩
  | 70 => ⟨S64x64x1024, .f32⟩
  | 71 => ⟨S1x1x1024, .f32⟩
  | 72 => ⟨S64x64x1024, .f32⟩
  | 73 => ⟨S64x64x1024, .f32⟩
  | 74 => ⟨S64x64x1024, .f32⟩
  | 75 => ⟨S64x64x1024, .f32⟩
  | 76 => ⟨S1x1x1024, .f32⟩
  | 77 => ⟨S64x64x1024, .f32⟩
  | 78 => ⟨S64x64x1024, .f32⟩
  | 79 => ⟨S64x64x1024, .f32⟩
  | 80 => ⟨S64x64x1024, .f32⟩
  | 81 => ⟨S1x1x1024, .f32⟩
  | 82 => ⟨S64x64x1024, .f32⟩
  | 83 => ⟨S64x64x1024, .f32⟩
  | 84 => ⟨S64x64x1024, .f32⟩
  | 85 => ⟨S64x64x1024, .f32⟩
  | 86 => ⟨S1x1x1024, .f32⟩
  | 87 => ⟨S64x64x1024, .f32⟩
  | 88 => ⟨S64x64x1024, .f32⟩
  | 89 => ⟨S64x64x1024, .f32⟩
  | 90 => ⟨S64x64x1024, .f32⟩
  | 91 => ⟨S1x1x1024, .f32⟩
  | 92 => ⟨S64x64x1024, .f32⟩
  | 93 => ⟨S64x64x1024, .f32⟩
  | 94 => ⟨S64x64x1024, .f32⟩
  | 95 => ⟨S64x64x1024, .f32⟩
  | 96 => ⟨S1x1x1024, .f32⟩
  | 97 => ⟨S64x64x1024, .f32⟩
  | 98 => ⟨S64x64x1024, .f32⟩
  | 99 => ⟨S64x64x1024, .f32⟩
  | 100 => ⟨S64x64x1024, .f32⟩
  | 101 => ⟨S1x1x1024, .f32⟩
  | 102 => ⟨S64x64x1024, .f32⟩
  | 103 => ⟨S64x64x1024, .f32⟩
  | 104 => ⟨S64x64x1024, .f32⟩
  | 105 => ⟨S64x64x1024, .f32⟩
  | 106 => ⟨S1x1x1024, .f32⟩
  | 107 => ⟨S64x64x1024, .f32⟩
  | 108 => ⟨S64x64x1024, .f32⟩
  | 109 => ⟨S64x64x1024, .f32⟩
  | 110 => ⟨S64x64x1024, .f32⟩
  | 111 => ⟨S1x1x1024, .f32⟩
  | 112 => ⟨S64x64x1024, .f32⟩
  | 113 => ⟨S64x64x1024, .f32⟩
  | 114 => ⟨S64x64x1024, .f32⟩
  | 115 => ⟨S64x64x1024, .f32⟩
  | 116 => ⟨S1x1x1024, .f32⟩
  | 117 => ⟨S64x64x1024, .f32⟩
  | 118 => ⟨S64x64x1024, .f32⟩
  | 119 => ⟨S64x64x1024, .f32⟩
  | 120 => ⟨S64x64x1024, .f32⟩
  | 121 => ⟨S1x1x1024, .f32⟩
  | 122 => ⟨S64x64x1024, .f32⟩
  | 123 => ⟨S64x64x1024, .f32⟩
  | 124 => ⟨S64x64x1024, .f32⟩
  | 125 => ⟨S64x64x1024, .f32⟩
  | 126 => ⟨S1x1x1024, .f32⟩
  | 127 => ⟨S64x64x1024, .f32⟩
  | _ => ⟨S4096x1024, .f32⟩

abbrev hbmTy0_1 (i : Nat) : BufTy := match i % 128 with
  | 0 => ⟨S64x64x1024, .f32⟩
  | 1 => ⟨S64x64x1024, .f32⟩
  | 2 => ⟨S64x64x1024, .f32⟩
  | 3 => ⟨S1x1x1024, .f32⟩
  | 4 => ⟨S64x64x1024, .f32⟩
  | 5 => ⟨S64x64x1024, .f32⟩
  | 6 => ⟨S64x64x1024, .f32⟩
  | 7 => ⟨S64x64x1024, .f32⟩
  | 8 => ⟨S1x1x1024, .f32⟩
  | 9 => ⟨S64x64x1024, .f32⟩
  | 10 => ⟨S64x64x1024, .f32⟩
  | 11 => ⟨S64x64x1024, .f32⟩
  | 12 => ⟨S64x64x1024, .f32⟩
  | 13 => ⟨S1x1x1024, .f32⟩
  | 14 => ⟨S64x64x1024, .f32⟩
  | 15 => ⟨S64x64x1024, .f32⟩
  | 16 => ⟨S64x64x1024, .f32⟩
  | 17 => ⟨S64x64x1024, .f32⟩
  | 18 => ⟨S1x1x1024, .f32⟩
  | 19 => ⟨S64x64x1024, .f32⟩
  | 20 => ⟨S64x64x1024, .f32⟩
  | 21 => ⟨S64x64x1024, .f32⟩
  | 22 => ⟨S64x64x1024, .f32⟩
  | 23 => ⟨S1x1x1024, .f32⟩
  | 24 => ⟨S64x64x1024, .f32⟩
  | 25 => ⟨S64x64x1024, .f32⟩
  | 26 => ⟨S64x64x1024, .f32⟩
  | 27 => ⟨S64x64x1024, .f32⟩
  | 28 => ⟨S1x1x1024, .f32⟩
  | 29 => ⟨S64x64x1024, .f32⟩
  | 30 => ⟨S64x64x1024, .f32⟩
  | 31 => ⟨S64x64x1024, .f32⟩
  | 32 => ⟨S64x64x1024, .f32⟩
  | 33 => ⟨S1x1x1024, .f32⟩
  | 34 => ⟨S64x64x1024, .f32⟩
  | 35 => ⟨S64x64x1024, .f32⟩
  | 36 => ⟨S64x64x1024, .f32⟩
  | 37 => ⟨S64x64x1024, .f32⟩
  | 38 => ⟨S1x1x1024, .f32⟩
  | 39 => ⟨S64x64x1024, .f32⟩
  | 40 => ⟨S64x64x1024, .f32⟩
  | 41 => ⟨S64x64x1024, .f32⟩
  | 42 => ⟨S64x64x1024, .f32⟩
  | 43 => ⟨S1x1x1024, .f32⟩
  | 44 => ⟨S64x64x1024, .f32⟩
  | 45 => ⟨S64x64x1024, .f32⟩
  | 46 => ⟨S64x64x1024, .f32⟩
  | 47 => ⟨S64x64x1024, .f32⟩
  | 48 => ⟨S1x1x1024, .f32⟩
  | 49 => ⟨S64x64x1024, .f32⟩
  | 50 => ⟨S64x64x1024, .f32⟩
  | 51 => ⟨S64x64x1024, .f32⟩
  | 52 => ⟨S64x64x1024, .f32⟩
  | 53 => ⟨S1x1x1024, .f32⟩
  | 54 => ⟨S64x64x1024, .f32⟩
  | 55 => ⟨S64x64x1024, .f32⟩
  | 56 => ⟨S64x64x1024, .f32⟩
  | 57 => ⟨S64x64x1024, .f32⟩
  | 58 => ⟨S1x1x1024, .f32⟩
  | 59 => ⟨S64x64x1024, .f32⟩
  | 60 => ⟨S64x64x1024, .f32⟩
  | 61 => ⟨S64x64x1024, .f32⟩
  | 62 => ⟨S64x64x1024, .f32⟩
  | 63 => ⟨S1x1x1024, .f32⟩
  | 64 => ⟨S64x64x1024, .f32⟩
  | 65 => ⟨S64x64x1024, .f32⟩
  | 66 => ⟨S64x64x1024, .f32⟩
  | 67 => ⟨S64x64x1024, .f32⟩
  | 68 => ⟨S1x1x1024, .f32⟩
  | 69 => ⟨S64x64x1024, .f32⟩
  | 70 => ⟨S64x64x1024, .f32⟩
  | 71 => ⟨S64x64x1024, .f32⟩
  | 72 => ⟨S1x1x1024, .f32⟩
  | 73 => ⟨S64x64x1024, .f32⟩
  | 74 => ⟨S64x64x1024, .f32⟩
  | 75 => ⟨S64x64x512, .f32⟩
  | 76 => ⟨S64x64x512, .f32⟩
  | 77 => ⟨S64x64x512, .f32⟩
  | 78 => ⟨S64x64x1024, .f32⟩
  | 79 => ⟨S4096x1024, .f32⟩
  | 80 => ⟨S4096x512, .f32⟩
  | 81 => ⟨S4096x512, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_cst_0 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_v112 : Ref sig .tc := ⟨.hbm, 117, rfl⟩
abbrev main_v113 : Ref sig .tc := ⟨.hbm, 118, rfl⟩
abbrev main_v114 : Ref sig .tc := ⟨.hbm, 119, rfl⟩
abbrev main_v115 : Ref sig .tc := ⟨.hbm, 120, rfl⟩
abbrev main_v116 : Ref sig .tc := ⟨.hbm, 121, rfl⟩
abbrev main_v117 : Ref sig .tc := ⟨.hbm, 122, rfl⟩
abbrev main_v118 : Ref sig .tc := ⟨.hbm, 123, rfl⟩
abbrev main_v119 : Ref sig .tc := ⟨.hbm, 124, rfl⟩
abbrev main_v120 : Ref sig .tc := ⟨.hbm, 125, rfl⟩
abbrev main_v121 : Ref sig .tc := ⟨.hbm, 126, rfl⟩
abbrev main_v122 : Ref sig .tc := ⟨.hbm, 127, rfl⟩
abbrev main_v123 : Ref sig .tc := ⟨.hbm, 128, rfl⟩
abbrev main_v124 : Ref sig .tc := ⟨.hbm, 129, rfl⟩
abbrev main_v125 : Ref sig .tc := ⟨.hbm, 130, rfl⟩
abbrev main_v126 : Ref sig .tc := ⟨.hbm, 131, rfl⟩
abbrev main_v127 : Ref sig .tc := ⟨.hbm, 132, rfl⟩
abbrev main_v128 : Ref sig .tc := ⟨.hbm, 133, rfl⟩
abbrev main_v129 : Ref sig .tc := ⟨.hbm, 134, rfl⟩
abbrev main_v130 : Ref sig .tc := ⟨.hbm, 135, rfl⟩
abbrev main_v131 : Ref sig .tc := ⟨.hbm, 136, rfl⟩
abbrev main_v132 : Ref sig .tc := ⟨.hbm, 137, rfl⟩
abbrev main_v133 : Ref sig .tc := ⟨.hbm, 138, rfl⟩
abbrev main_v134 : Ref sig .tc := ⟨.hbm, 139, rfl⟩
abbrev main_v135 : Ref sig .tc := ⟨.hbm, 140, rfl⟩
abbrev main_v136 : Ref sig .tc := ⟨.hbm, 141, rfl⟩
abbrev main_v137 : Ref sig .tc := ⟨.hbm, 142, rfl⟩
abbrev main_v138 : Ref sig .tc := ⟨.hbm, 143, rfl⟩
abbrev main_v139 : Ref sig .tc := ⟨.hbm, 144, rfl⟩
abbrev main_v140 : Ref sig .tc := ⟨.hbm, 145, rfl⟩
abbrev main_v141 : Ref sig .tc := ⟨.hbm, 146, rfl⟩
abbrev main_v142 : Ref sig .tc := ⟨.hbm, 147, rfl⟩
abbrev main_v143 : Ref sig .tc := ⟨.hbm, 148, rfl⟩
abbrev main_v144 : Ref sig .tc := ⟨.hbm, 149, rfl⟩
abbrev main_v145 : Ref sig .tc := ⟨.hbm, 150, rfl⟩
abbrev main_v146 : Ref sig .tc := ⟨.hbm, 151, rfl⟩
abbrev main_v147 : Ref sig .tc := ⟨.hbm, 152, rfl⟩
abbrev main_v148 : Ref sig .tc := ⟨.hbm, 153, rfl⟩
abbrev main_v149 : Ref sig .tc := ⟨.hbm, 154, rfl⟩
abbrev main_v150 : Ref sig .tc := ⟨.hbm, 155, rfl⟩
abbrev main_v151 : Ref sig .tc := ⟨.hbm, 156, rfl⟩
abbrev main_v152 : Ref sig .tc := ⟨.hbm, 157, rfl⟩
abbrev main_v153 : Ref sig .tc := ⟨.hbm, 158, rfl⟩
abbrev main_v154 : Ref sig .tc := ⟨.hbm, 159, rfl⟩
abbrev main_v155 : Ref sig .tc := ⟨.hbm, 160, rfl⟩
abbrev main_v156 : Ref sig .tc := ⟨.hbm, 161, rfl⟩
abbrev main_v157 : Ref sig .tc := ⟨.hbm, 162, rfl⟩
abbrev main_v158 : Ref sig .tc := ⟨.hbm, 163, rfl⟩
abbrev main_v159 : Ref sig .tc := ⟨.hbm, 164, rfl⟩
abbrev main_v160 : Ref sig .tc := ⟨.hbm, 165, rfl⟩
abbrev main_v161 : Ref sig .tc := ⟨.hbm, 166, rfl⟩
abbrev main_v162 : Ref sig .tc := ⟨.hbm, 167, rfl⟩
abbrev main_v163 : Ref sig .tc := ⟨.hbm, 168, rfl⟩
abbrev main_v164 : Ref sig .tc := ⟨.hbm, 169, rfl⟩
abbrev main_v165 : Ref sig .tc := ⟨.hbm, 170, rfl⟩
abbrev main_v166 : Ref sig .tc := ⟨.hbm, 171, rfl⟩
abbrev main_v167 : Ref sig .tc := ⟨.hbm, 172, rfl⟩
abbrev main_v168 : Ref sig .tc := ⟨.hbm, 173, rfl⟩
abbrev main_v169 : Ref sig .tc := ⟨.hbm, 174, rfl⟩
abbrev main_v170 : Ref sig .tc := ⟨.hbm, 175, rfl⟩
abbrev main_v171 : Ref sig .tc := ⟨.hbm, 176, rfl⟩
abbrev main_v172 : Ref sig .tc := ⟨.hbm, 177, rfl⟩
abbrev main_v173 : Ref sig .tc := ⟨.hbm, 178, rfl⟩
abbrev main_v174 : Ref sig .tc := ⟨.hbm, 179, rfl⟩
abbrev main_v175 : Ref sig .tc := ⟨.hbm, 180, rfl⟩
abbrev main_v176 : Ref sig .tc := ⟨.hbm, 181, rfl⟩
abbrev main_v177 : Ref sig .tc := ⟨.hbm, 182, rfl⟩
abbrev main_v178 : Ref sig .tc := ⟨.hbm, 183, rfl⟩
abbrev main_v179 : Ref sig .tc := ⟨.hbm, 184, rfl⟩
abbrev main_v180 : Ref sig .tc := ⟨.hbm, 185, rfl⟩
abbrev main_v181 : Ref sig .tc := ⟨.hbm, 186, rfl⟩
abbrev main_v182 : Ref sig .tc := ⟨.hbm, 187, rfl⟩
abbrev main_v183 : Ref sig .tc := ⟨.hbm, 188, rfl⟩
abbrev main_v184 : Ref sig .tc := ⟨.hbm, 189, rfl⟩
abbrev main_v185 : Ref sig .tc := ⟨.hbm, 190, rfl⟩
abbrev main_v186 : Ref sig .tc := ⟨.hbm, 191, rfl⟩
abbrev main_v187 : Ref sig .tc := ⟨.hbm, 192, rfl⟩
abbrev main_v188 : Ref sig .tc := ⟨.hbm, 193, rfl⟩
abbrev main_v189 : Ref sig .tc := ⟨.hbm, 194, rfl⟩
abbrev main_v190 : Ref sig .tc := ⟨.hbm, 195, rfl⟩
abbrev main_v191 : Ref sig .tc := ⟨.hbm, 196, rfl⟩
abbrev main_v192 : Ref sig .tc := ⟨.hbm, 197, rfl⟩
abbrev main_v193 : Ref sig .tc := ⟨.hbm, 198, rfl⟩
abbrev main_v194 : Ref sig .tc := ⟨.hbm, 199, rfl⟩
abbrev main_v195 : Ref sig .tc := ⟨.hbm, 200, rfl⟩
abbrev main_v196 : Ref sig .tc := ⟨.hbm, 201, rfl⟩
abbrev main_v197 : Ref sig .tc := ⟨.hbm, 202, rfl⟩
abbrev main_v198 : Ref sig .tc := ⟨.hbm, 203, rfl⟩
abbrev main_v199 : Ref sig .tc := ⟨.hbm, 204, rfl⟩
abbrev main_v200 : Ref sig .tc := ⟨.hbm, 205, rfl⟩
abbrev main_v201 : Ref sig .tc := ⟨.hbm, 206, rfl⟩
abbrev main_v202 : Ref sig .tc := ⟨.hbm, 207, rfl⟩
abbrev main_v203 : Ref sig .tc := ⟨.hbm, 208, rfl⟩
abbrev main_v204 : Ref sig .tc := ⟨.hbm, 209, rfl⟩

abbrev nD : Nat := 1
abbrev τ : Topo := Topo.v7x

variable {F : FTy → Type} [FloatOps F]
-- ==== AdamIn.lean ====
abbrev S8x1024x776 : Shape := ⟨3, ![8, 1024, 776]⟩
abbrev S1024x776 : Shape := ⟨2, ![1024, 776]⟩
abbrev S8x256x776 : Shape := ⟨3, ![8, 256, 776]⟩
abbrev S256x776 : Shape := ⟨2, ![256, 776]⟩
abbrev S1x256x776 : Shape := ⟨3, ![1, 256, 776]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x776, .bf16⟩
  | .hbm, ⟨1, _⟩ => ⟨S1024x776, .f32⟩
  | .hbm, ⟨2, _⟩ => ⟨S1024x776, .f32⟩
  | .hbm, ⟨3, _⟩ => ⟨S1024x776, .f32⟩
  | .hbm, ⟨4, _⟩ => ⟨S1024x776, .f32⟩
  | .hbm, ⟨5, _⟩ => ⟨S1024x776, .f32⟩
  | .hbm, ⟨6, _⟩ => ⟨S1024x776, .f32⟩
  | .hbm, ⟨7, _⟩ => ⟨S1024x776, .f32⟩
  | .local _ .vmem, ⟨0, _⟩ => ⟨S8x256x776, .bf16⟩
  | .local _ .vmem, ⟨1, _⟩ => ⟨S8x256x776, .bf16⟩
  | .local _ .vmem, ⟨2, _⟩ => ⟨S256x776, .f32⟩
  | .local _ .vmem, ⟨3, _⟩ => ⟨S256x776, .f32⟩
  | .local _ .vmem, ⟨4, _⟩ => ⟨S256x776, .f32⟩
  | .local _ .vmem, ⟨5, _⟩ => ⟨S256x776, .f32⟩
  | .local _ .vmem, ⟨6, _⟩ => ⟨S256x776, .f32⟩
  | .local _ .vmem, ⟨7, _⟩ => ⟨S256x776, .f32⟩
  | .local _ .vmem, ⟨8, _⟩ => ⟨S256x776, .f32⟩
  | .local _ .vmem, ⟨9, _⟩ => ⟨S256x776, .f32⟩
  | .local _ .vmem, ⟨10, _⟩ => ⟨S256x776, .f32⟩
  | .local _ .vmem, ⟨11, _⟩ => ⟨S256x776, .f32⟩
  | .local _ .vmem, ⟨12, _⟩ => ⟨S256x776, .f32⟩
  | .local _ .vmem, ⟨13, _⟩ => ⟨S256x776, .f32⟩
  | .local _ .vmem, ⟨14, _⟩ => ⟨S256x776, .f32⟩
  | .local _ .vmem, ⟨15, _⟩ => ⟨S256x776, .f32⟩
  | _, _ => ⟨S8x1024x776, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x776 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x776 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x776 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x776 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x776 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x776 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x776 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x776 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S8x1024x776 : Shape := ⟨3, ![8, 1024, 776]⟩
abbrev S1024x776 : Shape := ⟨2, ![1024, 776]⟩
abbrev S8x256x776 : Shape := ⟨3, ![8, 256, 776]⟩
abbrev S256x776 : Shape := ⟨2, ![256, 776]⟩
abbrev S1x256x776 : Shape := ⟨3, ![1, 256, 776]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x776, .bf16⟩
  | .hbm, ⟨1, _⟩ => ⟨S1024x776, .f32⟩
  | .hbm, ⟨2, _⟩ => ⟨S1024x776, .f32⟩
  | .hbm, ⟨3, _⟩ => ⟨S1024x776, .f32⟩
  | .hbm, ⟨4, _⟩ => ⟨S1024x776, .f32⟩
  | .hbm, ⟨5, _⟩ => ⟨S1024x776, .f32⟩
  | .hbm, ⟨6, _⟩ => ⟨S1024x776, .f32⟩
  | .hbm, ⟨7, _⟩ => ⟨S1024x776, .f32⟩
  | .local _ .vmem, ⟨0, _⟩ => ⟨S8x256x776, .bf16⟩
  | .local _ .vmem, ⟨1, _⟩ => ⟨S8x256x776, .bf16⟩
  | .local _ .vmem, ⟨2, _⟩ => ⟨S256x776, .f32⟩
  | .local _ .vmem, ⟨3, _⟩ => ⟨S256x776, .f32⟩
  | .local _ .vmem, ⟨4, _⟩ => ⟨S256x776, .f32⟩
  | .local _ .vmem, ⟨5, _⟩ => ⟨S256x776, .f32⟩
  | .local _ .vmem, ⟨6, _⟩ => ⟨S256x776, .f32⟩
  | .local _ .vmem, ⟨7, _⟩ => ⟨S256x776, .f32⟩
  | .local _ .vmem, ⟨8, _⟩ => ⟨S256x776, .f32⟩
  | .local _ .vmem, ⟨9, _⟩ => ⟨S256x776, .f32⟩
  | .local _ .vmem, ⟨10, _⟩ => ⟨S256x776, .f32⟩
  | .local _ .vmem, ⟨11, _⟩ => ⟨S256x776, .f32⟩
  | .local _ .vmem, ⟨12, _⟩ => ⟨S256x776, .f32⟩
  | .local _ .vmem, ⟨13, _⟩ => ⟨S256x776, .f32⟩
  | .local _ .vmem, ⟨14, _⟩ => ⟨S256x776, .f32⟩
  | .local _ .vmem, ⟨15, _⟩ => ⟨S256x776, .f32⟩
  | _, _ => ⟨S8x1024x776, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x776 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x776 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x776 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x776 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x776 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x776 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x776 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x776 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S8x1024x776 : Shape := ⟨3, ![8, 1024, 776]⟩
abbrev S1024x776 : Shape := ⟨2, ![1024, 776]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x776, .bf16⟩
  | .hbm, ⟨1, _⟩ => ⟨S1024x776, .f32⟩
  | .hbm, ⟨2, _⟩ => ⟨S1024x776, .f32⟩
  | .hbm, ⟨3, _⟩ => ⟨S1024x776, .f32⟩
  | .hbm, ⟨4, _⟩ => ⟨S8x1024x776, .f32⟩
  | .hbm, ⟨5, _⟩ => ⟨S_, .f32⟩
  | .hbm, ⟨6, _⟩ => ⟨S1024x776, .f32⟩
  | .hbm, ⟨7, _⟩ => ⟨S_, .f32⟩
  | .hbm, ⟨8, _⟩ => ⟨S1024x776, .f32⟩
  | .hbm, ⟨9, _⟩ => ⟨S1024x776, .f32⟩
  | .hbm, ⟨10, _⟩ => ⟨S_, .f32⟩
  | .hbm, ⟨11, _⟩ => ⟨S1024x776, .f32⟩
  | .hbm, ⟨12, _⟩ => ⟨S1024x776, .f32⟩
  | .hbm, ⟨13, _⟩ => ⟨S1024x776, .f32⟩
  | .hbm, ⟨14, _⟩ => ⟨S_, .f32⟩
  | .hbm, ⟨15, _⟩ => ⟨S1024x776, .f32⟩
  | .hbm, ⟨16, _⟩ => ⟨S1024x776, .f32⟩
  | .hbm, ⟨17, _⟩ => ⟨S1024x776, .f32⟩
  | .hbm, ⟨18, _⟩ => ⟨S_, .f32⟩
  | .hbm, ⟨19, _⟩ => ⟨S1024x776, .f32⟩
  | .hbm, ⟨20, _⟩ => ⟨S1024x776, .f32⟩
  | .hbm, ⟨21, _⟩ => ⟨S1024x776, .f32⟩
  | .hbm, ⟨22, _⟩ => ⟨S_, .f32⟩
  | .hbm, ⟨23, _⟩ => ⟨S1024x776, .f32⟩
  | .hbm, ⟨24, _⟩ => ⟨S1024x776, .f32⟩
  | .hbm, ⟨25, _⟩ => ⟨S_, .f32⟩
  | .hbm, ⟨26, _⟩ => ⟨S1024x776, .f32⟩
  | .hbm, ⟨27, _⟩ => ⟨S1024x776, .f32⟩
  | .hbm, ⟨28, _⟩ => ⟨S1024x776, .f32⟩
  | .hbm, ⟨29, _⟩ => ⟨S_, .f32⟩
  | .hbm, ⟨30, _⟩ => ⟨S1024x776, .f32⟩
  | .hbm, ⟨31, _⟩ => ⟨S1024x776, .f32⟩
  | .hbm, ⟨32, _⟩ => ⟨S1024x776, .f32⟩
  | .hbm, ⟨33, _⟩ => ⟨S_, .f32⟩
  | .hbm, ⟨34, _⟩ => ⟨S1024x776, .f32⟩
  | .hbm, ⟨35, _⟩ => ⟨S1024x776, .f32⟩
  | .hbm, ⟨36, _⟩ => ⟨S1024x776, .f32⟩
  | .hbm, ⟨37, _⟩ => ⟨S_, .f32⟩
  | .hbm, ⟨38, _⟩ => ⟨S1024x776, .f32⟩
  | .hbm, ⟨39, _⟩ => ⟨S1024x776, .f32⟩
  | _, _ => ⟨S8x1024x776, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamOut.lean ====
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S8x256x1024, .bf16⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutIdeal.lean ====
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S8x256x1024, .bf16⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutRefIdeal.lean ====
abbrev S8x256x1024 : Shape := ⟨3, ![8, 256, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamPwin.lean ====
abbrev S8x1024x256 : Shape := ⟨3, ![8, 1024, 256]⟩
abbrev S1024x256 : Shape := ⟨2, ![1024, 256]⟩
abbrev S8x256x256 : Shape := ⟨3, ![8, 256, 256]⟩
abbrev S256x256 : Shape := ⟨2, ![256, 256]⟩
abbrev S1x256x256 : Shape := ⟨3, ![1, 256, 256]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x256, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S8x256x256, .bf16⟩
  | .local _ .vmem, ⟨1, _⟩ => ⟨S8x256x256, .bf16⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamPwinIdeal.lean ====
abbrev S8x1024x256 : Shape := ⟨3, ![8, 1024, 256]⟩
abbrev S1024x256 : Shape := ⟨2, ![1024, 256]⟩
abbrev S8x256x256 : Shape := ⟨3, ![8, 256, 256]⟩
abbrev S256x256 : Shape := ⟨2, ![256, 256]⟩
abbrev S1x256x256 : Shape := ⟨3, ![1, 256, 256]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x256, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .local _ .vmem, ⟨0, _⟩ => ⟨S8x256x256, .bf16⟩
  | .local _ .vmem, ⟨1, _⟩ => ⟨S8x256x256, .bf16⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamPwinRefIdeal.lean ====
abbrev S8x1024x256 : Shape := ⟨3, ![8, 1024, 256]⟩
abbrev S1024x256 : Shape := ⟨2, ![1024, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x256, .bf16⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S8x1024x256, .f32⟩
  | .hbm, ⟨5, _⟩ => ⟨S_, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S_, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S_, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S_, .f32⟩
  | .hbm, ⟨19, _⟩ => ⟨S1024x256, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S_, .f32⟩
  | .hbm, ⟨26, _⟩ => ⟨S1024x256, .f32⟩
  | .hbm, ⟨27, _⟩ => ⟨S1024x256, .f32⟩
  | .hbm, ⟨28, _⟩ => ⟨S1024x256, .f32⟩
  | .hbm, ⟨29, _⟩ => ⟨S_, .f32⟩
  | .hbm, ⟨30, _⟩ => ⟨S1024x256, .f32⟩
  | .hbm, ⟨31, _⟩ => ⟨S1024x256, .f32⟩
  | .hbm, ⟨32, _⟩ => ⟨S1024x256, .f32⟩
  | .hbm, ⟨33, _⟩ => ⟨S_, .f32⟩
  | .hbm, ⟨34, _⟩ => ⟨S1024x256, .f32⟩
  | .hbm, ⟨35, _⟩ => ⟨S1024x256, .f32⟩
  | .hbm, ⟨36, _⟩ => ⟨S1024x256, .f32⟩
  | .hbm, ⟨37, _⟩ => ⟨S_, .f32⟩
  | .hbm, ⟨38, _⟩ => ⟨S1024x256, .f32⟩
  | .hbm, ⟨39, _⟩ => ⟨S1024x256, .f32⟩
  | _, _ => ⟨S8x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamPwout.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamPwoutIdeal.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamPwoutRefIdeal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamAda.lean ====
abbrev S1x2048x768 : Shape := ⟨3, ![1, 2048, 768]⟩
abbrev S2048x768 : Shape := ⟨2, ![2048, 768]⟩
abbrev S1x256x768 : Shape := ⟨3, ![1, 256, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .local _ .vmem, ⟨0, _⟩ => ⟨S1x256x768, .f32⟩
  | .local _ .vmem, ⟨1, _⟩ => ⟨S1x256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamAdaIdeal.lean ====
abbrev S1x2048x768 : Shape := ⟨3, ![1, 2048, 768]⟩
abbrev S2048x768 : Shape := ⟨2, ![2048, 768]⟩
abbrev S1x256x768 : Shape := ⟨3, ![1, 256, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .local _ .vmem, ⟨0, _⟩ => ⟨S1x256x768, .f32⟩
  | .local _ .vmem, ⟨1, _⟩ => ⟨S1x256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamAdaRefIdeal.lean ====
abbrev S1x2048x768 : Shape := ⟨3, ![1, 2048, 768]⟩
abbrev S2048x768 : Shape := ⟨2, ![2048, 768]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S_, .f32⟩
  | .hbm, ⟨5, _⟩ => ⟨S2048x768, .f32⟩
  | .hbm, ⟨6, _⟩ => ⟨S_, .f32⟩
  | .hbm, ⟨7, _⟩ => ⟨S2048x768, .f32⟩
  | .hbm, ⟨8, _⟩ => ⟨S2048x768, .f32⟩
  | .hbm, ⟨9, _⟩ => ⟨S_, .f32⟩
  | .hbm, ⟨10, _⟩ => ⟨S2048x768, .f32⟩
  | .hbm, ⟨11, _⟩ => ⟨S2048x768, .f32⟩
  | .hbm, ⟨12, _⟩ => ⟨S2048x768, .f32⟩
  | .hbm, ⟨13, _⟩ => ⟨S_, .f32⟩
  | .hbm, ⟨14, _⟩ => ⟨S2048x768, .f32⟩
  | .hbm, ⟨15, _⟩ => ⟨S2048x768, .f32⟩
  | .hbm, ⟨16, _⟩ => ⟨S2048x768, .f32⟩
  | .hbm, ⟨17, _⟩ => ⟨S_, .f32⟩
  | .hbm, ⟨18, _⟩ => ⟨S2048x768, .f32⟩
  | .hbm, ⟨19, _⟩ => ⟨S2048x768, .f32⟩
  | .hbm, ⟨20, _⟩ => ⟨S2048x768, .f32⟩
  | .hbm, ⟨21, _⟩ => ⟨S_, .f32⟩
  | .hbm, ⟨22, _⟩ => ⟨S2048x768, .f32⟩
  | .hbm, ⟨23, _⟩ => ⟨S2048x768, .f32⟩
  | .hbm, ⟨24, _⟩ => ⟨S_, .f32⟩
  | .hbm, ⟨25, _⟩ => ⟨S2048x768, .f32⟩
  | .hbm, ⟨26, _⟩ => ⟨S2048x768, .f32⟩
  | .hbm, ⟨27, _⟩ => ⟨S2048x768, .f32⟩
  | .hbm, ⟨28, _⟩ => ⟨S_, .f32⟩
  | .hbm, ⟨29, _⟩ => ⟨S2048x768, .f32⟩
  | .hbm, ⟨30, _⟩ => ⟨S2048x768, .f32⟩
  | .hbm, ⟨31, _⟩ => ⟨S2048x768, .f32⟩
  | .hbm, ⟨32, _⟩ => ⟨S_, .f32⟩
  | .hbm, ⟨33, _⟩ => ⟨S2048x768, .f32⟩
  | .hbm, ⟨34, _⟩ => ⟨S2048x768, .f32⟩
  | .hbm, ⟨35, _⟩ => ⟨S2048x768, .f32⟩
  | .hbm, ⟨36, _⟩ => ⟨S_, .f32⟩
  | .hbm, ⟨37, _⟩ => ⟨S2048x768, .f32⟩
  | .hbm, ⟨38, _⟩ => ⟨S2048x768, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamFin.lean ====
abbrev S8x1024x704 : Shape := ⟨3, ![8, 1024, 704]⟩
abbrev S2048x704 : Shape := ⟨2, ![2048, 704]⟩
abbrev S8x256x704 : Shape := ⟨3, ![8, 256, 704]⟩
abbrev S256x704 : Shape := ⟨2, ![256, 704]⟩
abbrev S1x256x704 : Shape := ⟨3, ![1, 256, 704]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x704, .bf16⟩
  | .hbm, ⟨1, _⟩ => ⟨S8x1024x704, .bf16⟩
  | .hbm, ⟨2, _⟩ => ⟨S2048x704, .f32⟩
  | .hbm, ⟨3, _⟩ => ⟨S2048x704, .f32⟩
  | .hbm, ⟨4, _⟩ => ⟨S2048x704, .f32⟩
  | .hbm, ⟨5, _⟩ => ⟨S2048x704, .f32⟩
  | .hbm, ⟨6, _⟩ => ⟨S2048x704, .f32⟩
  | .hbm, ⟨7, _⟩ => ⟨S2048x704, .f32⟩
  | .hbm, ⟨8, _⟩ => ⟨S2048x704, .f32⟩
  | .local _ .vmem, ⟨0, _⟩ => ⟨S8x256x704, .bf16⟩
  | .local _ .vmem, ⟨1, _⟩ => ⟨S8x256x704, .bf16⟩
  | .local _ .vmem, ⟨2, _⟩ => ⟨S8x256x704, .bf16⟩
  | .local _ .vmem, ⟨3, _⟩ => ⟨S8x256x704, .bf16⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | .local _ .vmem, ⟨16, _⟩ => ⟨S256x704, .f32⟩
  | .local _ .vmem, ⟨17, _⟩ => ⟨S256x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamFinIdeal.lean ====
abbrev S8x1024x704 : Shape := ⟨3, ![8, 1024, 704]⟩
abbrev S2048x704 : Shape := ⟨2, ![2048, 704]⟩
abbrev S8x256x704 : Shape := ⟨3, ![8, 256, 704]⟩
abbrev S256x704 : Shape := ⟨2, ![256, 704]⟩
abbrev S1x256x704 : Shape := ⟨3, ![1, 256, 704]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x704, .bf16⟩
  | .hbm, ⟨1, _⟩ => ⟨S8x1024x704, .bf16⟩
  | .hbm, ⟨2, _⟩ => ⟨S2048x704, .f32⟩
  | .hbm, ⟨3, _⟩ => ⟨S2048x704, .f32⟩
  | .hbm, ⟨4, _⟩ => ⟨S2048x704, .f32⟩
  | .hbm, ⟨5, _⟩ => ⟨S2048x704, .f32⟩
  | .hbm, ⟨6, _⟩ => ⟨S2048x704, .f32⟩
  | .hbm, ⟨7, _⟩ => ⟨S2048x704, .f32⟩
  | .hbm, ⟨8, _⟩ => ⟨S2048x704, .f32⟩
  | .local _ .vmem, ⟨0, _⟩ => ⟨S8x256x704, .bf16⟩
  | .local _ .vmem, ⟨1, _⟩ => ⟨S8x256x704, .bf16⟩
  | .local _ .vmem, ⟨2, _⟩ => ⟨S8x256x704, .bf16⟩
  | .local _ .vmem, ⟨3, _⟩ => ⟨S8x256x704, .bf16⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | .local _ .vmem, ⟨16, _⟩ => ⟨S256x704, .f32⟩
  | .local _ .vmem, ⟨17, _⟩ => ⟨S256x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamFinRefIdeal.lean ====
abbrev S8x1024x704 : Shape := ⟨3, ![8, 1024, 704]⟩
abbrev S2048x704 : Shape := ⟨2, ![2048, 704]⟩
abbrev S8x2048x704 : Shape := ⟨3, ![8, 2048, 704]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8x1024x704, .bf16⟩
  | .hbm, ⟨1, _⟩ => ⟨S8x1024x704, .bf16⟩
  | .hbm, ⟨2, _⟩ => ⟨S2048x704, .f32⟩
  | .hbm, ⟨3, _⟩ => ⟨S2048x704, .f32⟩
  | .hbm, ⟨4, _⟩ => ⟨S2048x704, .f32⟩
  | .hbm, ⟨5, _⟩ => ⟨S8x2048x704, .bf16⟩
  | .hbm, ⟨6, _⟩ => ⟨S8x2048x704, .f32⟩
  | .hbm, ⟨7, _⟩ => ⟨S_, .f32⟩
  | .hbm, ⟨8, _⟩ => ⟨S2048x704, .f32⟩
  | .hbm, ⟨9, _⟩ => ⟨S_, .f32⟩
  | .hbm, ⟨10, _⟩ => ⟨S2048x704, .f32⟩
  | .hbm, ⟨11, _⟩ => ⟨S2048x704, .f32⟩
  | .hbm, ⟨12, _⟩ => ⟨S_, .f32⟩
  | .hbm, ⟨13, _⟩ => ⟨S2048x704, .f32⟩
  | .hbm, ⟨14, _⟩ => ⟨S2048x704, .f32⟩
  | .hbm, ⟨15, _⟩ => ⟨S2048x704, .f32⟩
  | .hbm, ⟨16, _⟩ => ⟨S_, .f32⟩
  | .hbm, ⟨17, _⟩ => ⟨S2048x704, .f32⟩
  | .hbm, ⟨18, _⟩ => ⟨S2048x704, .f32⟩
  | .hbm, ⟨19, _⟩ => ⟨S2048x704, .f32⟩
  | .hbm, ⟨20, _⟩ => ⟨S_, .f32⟩
  | .hbm, ⟨21, _⟩ => ⟨S2048x704, .f32⟩
  | .hbm, ⟨22, _⟩ => ⟨S2048x704, .f32⟩
  | .hbm, ⟨23, _⟩ => ⟨S2048x704, .f32⟩
  | .hbm, ⟨24, _⟩ => ⟨S_, .f32⟩
  | .hbm, ⟨25, _⟩ => ⟨S2048x704, .f32⟩
  | .hbm, ⟨26, _⟩ => ⟨S2048x704, .f32⟩
  | .hbm, ⟨27, _⟩ => ⟨S_, .f32⟩
  | .hbm, ⟨28, _⟩ => ⟨S2048x704, .f32⟩
  | .hbm, ⟨29, _⟩ => ⟨S2048x704, .f32⟩
  | .hbm, ⟨30, _⟩ => ⟨S2048x704, .f32⟩
  | .hbm, ⟨31, _⟩ => ⟨S_, .f32⟩
  | .hbm, ⟨32, _⟩ => ⟨S2048x704, .f32⟩
  | .hbm, ⟨33, _⟩ => ⟨S2048x704, .f32⟩
  | .hbm, ⟨34, _⟩ => ⟨S2048x704, .f32⟩
  | .hbm, ⟨35, _⟩ => ⟨S_, .f32⟩
  | .hbm, ⟨36, _⟩ => ⟨S2048x704, .f32⟩
  | .hbm, ⟨37, _⟩ => ⟨S2048x704, .f32⟩
  | .hbm, ⟨38, _⟩ => ⟨S2048x704, .f32⟩
  | .hbm, ⟨39, _⟩ => ⟨S_, .f32⟩
  | .hbm, ⟨40, _⟩ => ⟨S2048x704, .f32⟩
  | .hbm, ⟨41, _⟩ => ⟨S2048x704, .f32⟩
  | _, _ => ⟨S8x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== AdamFout.lean ====
abbrev S8x352x1024 : Shape := ⟨3, ![8, 352, 1024]⟩
abbrev S704x1024 : Shape := ⟨2, ![704, 1024]⟩
abbrev S8x32x1024 : Shape := ⟨3, ![8, 32, 1024]⟩
abbrev S32x1024 : Shape := ⟨2, ![32, 1024]⟩
abbrev S1x32x1024 : Shape := ⟨3, ![1, 32, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .local _ .vmem, ⟨0, _⟩ => ⟨S8x32x1024, .bf16⟩
  | .local _ .vmem, ⟨1, _⟩ => ⟨S8x32x1024, .bf16⟩
  | .local _ .vmem, ⟨2, _⟩ => ⟨S8x32x1024, .bf16⟩
  | .local _ .vmem, ⟨3, _⟩ => ⟨S8x32x1024, .bf16⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | .local _ .vmem, ⟨16, _⟩ => ⟨S32x1024, .f32⟩
  | .local _ .vmem, ⟨17, _⟩ => ⟨S32x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![22], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c10_i32 : BitVec 32 := 10#32
  let v1 : BitVec 32 := Scalar.maxsi c0_i32_0 v0
  let v2 : BitVec 32 := Scalar.minsi c10_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 3 → Nat :=
  let arg0 : BitVec 32 := BitVec.ofNat 32 (i 0).val
  let c11_i32 : BitVec 32 := 11#32
  let v0 : BitVec 32 := Scalar.subi arg0 c11_i32
  let c0_i32 : BitVec 32 := 0#32
  let c10_i32 : BitVec 32 := 10#32
  let v1 : BitVec 32 := Scalar.maxsi c0_i32 v0
  let v2 : BitVec 32 := Scalar.minsi c10_i32 v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamFoutRefIdeal.lean ====
abbrev S8x352x1024 : Shape := ⟨3, ![8, 352, 1024]⟩
abbrev S704x1024 : Shape := ⟨2, ![704, 1024]⟩
abbrev S8x704x1024 : Shape := ⟨3, ![8, 704, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S8x704x1024, .bf16⟩
  | .hbm, ⟨6, _⟩ => ⟨S8x704x1024, .f32⟩
  | .hbm, ⟨7, _⟩ => ⟨S_, .f32⟩
  | .hbm, ⟨8, _⟩ => ⟨S704x1024, .f32⟩
  | .hbm, ⟨9, _⟩ => ⟨S_, .f32⟩
  | .hbm, ⟨10, _⟩ => ⟨S704x1024, .f32⟩
  | .hbm, ⟨11, _⟩ => ⟨S704x1024, .f32⟩
  | .hbm, ⟨12, _⟩ => ⟨S_, .f32⟩
  | .hbm, ⟨13, _⟩ => ⟨S704x1024, .f32⟩
  | .hbm, ⟨14, _⟩ => ⟨S704x1024, .f32⟩
  | .hbm, ⟨15, _⟩ => ⟨S704x1024, .f32⟩
  | .hbm, ⟨16, _⟩ => ⟨S_, .f32⟩
  | .hbm, ⟨17, _⟩ => ⟨S704x1024, .f32⟩
  | .hbm, ⟨18, _⟩ => ⟨S704x1024, .f32⟩
  | .hbm, ⟨19, _⟩ => ⟨S704x1024, .f32⟩
  | .hbm, ⟨20, _⟩ => ⟨S_, .f32⟩
  | .hbm, ⟨21, _⟩ => ⟨S704x1024, .f32⟩
  | .hbm, ⟨22, _⟩ => ⟨S704x1024, .f32⟩
  | .hbm, ⟨23, _⟩ => ⟨S704x1024, .f32⟩
  | .hbm, ⟨24, _⟩ => ⟨S_, .f32⟩
  | .hbm, ⟨25, _⟩ => ⟨S704x1024, .f32⟩
  | .hbm, ⟨26, _⟩ => ⟨S704x1024, .f32⟩
  | .hbm, ⟨27, _⟩ => ⟨S_, .f32⟩
  | .hbm, ⟨28, _⟩ => ⟨S704x1024, .f32⟩
  | .hbm, ⟨29, _⟩ => ⟨S704x1024, .f32⟩
  | .hbm, ⟨30, _⟩ => ⟨S704x1024, .f32⟩
  | .hbm, ⟨31, _⟩ => ⟨S_, .f32⟩
  | .hbm, ⟨32, _⟩ => ⟨S704x1024, .f32⟩
  | .hbm, ⟨33, _⟩ => ⟨S704x1024, .f32⟩
  | .hbm, ⟨34, _⟩ => ⟨S704x1024, .f32⟩
  | .hbm, ⟨35, _⟩ => ⟨S_, .f32⟩
  | .hbm, ⟨36, _⟩ => ⟨S704x1024, .f32⟩
  | .hbm, ⟨37, _⟩ => ⟨S704x1024, .f32⟩
  | .hbm, ⟨38, _⟩ => ⟨S704x1024, .f32⟩
  | .hbm, ⟨39, _⟩ => ⟨S_, .f32⟩
  | .hbm, ⟨40, _⟩ => ⟨S704x1024, .f32⟩
  | .hbm, ⟨41, _⟩ => ⟨S704x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Proof.Pad.lean ====
/- Rows of a block between two bands of zeros: what a scratch buffer holds after a band of 960 zero rows, the 4096 rows of a
   block and a second band of 960 zero rows have been written into it, read through a window of 4096 rows at any offset. -/
module

public import proofs.«01_k».proof.Proof.Gen.KernelIdeal.Frame
public import Idealize.ShloMosaic.Lib.Claim
public import Idealize.ShloMosaic.Lib.Pointwise
public import Idealize.ShloMosaic.Lib.ValueIdx
public import Idealize.ShloMosaic.Lib.Pipeline.Value
public import Idealize.ShloMosaic.Lib.Pipeline.ValueKit.Acc

@[expose] public section

set_option maxRecDepth 16384

noncomputable section

namespace Cert.Proof.Conv

open Idealize.ShloMosaic
open Idealize.ShloMosaic.ValueIdx (mulf_apply addf_apply)
open Cert.KernelIdeal

/-- Entry `n` of a padded column of 4096: entry `n - 960` of the column, or zero off it. -/
def padCol (f : Fin 4096 → EReal) (n : ℕ) : EReal :=
  if h : 960 ≤ n ∧ n < 5056 then f ⟨n - 960, by omega⟩ else 0

/-- Row `n` of the padded block, lane `l`. -/
def padRow (x : Vec Ideal S4096x128 .f32) (n : ℕ) (l : Fin 128) : EReal := padCol (fun r => x (ix2 r l)) n

/-- The window of 4096 rows of the padded block from row `o` on. -/
def padRows (x : Vec Ideal S4096x128 .f32) (o : ℕ) : Vec Ideal S4096x128 .f32 := fun j => padRow x (o + (j 0).val) (j 1)

/-- The three stores of the scratch (last first), read through the window from row `o` on. -/
theorem readCov_pad {sg : RefSig} (v : View sg .tc .vmem S6016x128 .f32) (x : Vec Ideal S4096x128 .f32) (z1 z2 : Vec Ideal S960x128 .f32)
    (h1 : ∀ j, z1 j = 0) (h2 : ∀ j, z2 j = 0) (i1 i2 i3) (o : ℕ) (io) :
    v.readCov [(⟨Rect.unit ![960, 0] S4096x128.size i1, x⟩ : View.Piece (Elt Ideal) S6016x128 .f32),
      ⟨Rect.unit ![5056, 0] S960x128.size i2, z2⟩, ⟨Rect.unit ![0, 0] S960x128.size i3, z1⟩]
      (Rect.unit ![o, 0] ![4096, 128] io).toLoadRect = padRows x o := by
  have ho : o + 4096 ≤ 6016 := io 0
  rw [View.readCov_eq_canon']
  funext j
  have hj0 : (j 0).val < 4096 := (j 0).isLt
  have hj1 : (j 1).val < 128 := (j 1).isLt
  set y := (Rect.unit (s := S6016x128) ![o, 0] ![4096, 128] io).toLoadRect.idx j with hy
  have y0 : (y 0).val = o + (j 0).val := by rw [hy]; show o + 1 * (j 0).val = _; omega
  have y1 : (y 1).val = (j 1).val := by rw [hy]; show 0 + 1 * (j 1).val = _; omega
  unfold padRows padRow padCol
  split
  · rename_i h
    have e : y = (Rect.unit (s := S6016x128) ![960, 0] S4096x128.size i1).emb (ix2 (⟨o + (j 0).val - 960, by omega⟩ : Fin 4096) (j 1)) := by
      funext a; apply Fin.ext; fin_cases a
      · show (y 0).val = 960 + 1 * (o + (j 0).val - 960); omega
      · show (y 1).val = 0 + 1 * (j 1).val; omega
    rw [e, View.canon_cons_emb]
  · rename_i h
    rw [View.canon_cons_of_not_mem]
    swap
    · rw [Rect.mem_set_unit]; intro hm
      have a1 : 960 ≤ (y 0).val := (hm 0).1
      have a2 : (y 0).val < 960 + 4096 := (hm 0).2
      omega
    by_cases hh : 5056 ≤ o + (j 0).val
    · have e : y = (Rect.unit (s := S6016x128) ![5056, 0] S960x128.size i2).emb (ix2 (⟨o + (j 0).val - 5056, by omega⟩ : Fin 960) (j 1)) := by
        funext a; apply Fin.ext; fin_cases a
        · show (y 0).val = 5056 + 1 * (o + (j 0).val - 5056); omega
        · show (y 1).val = 0 + 1 * (j 1).val; omega
      rw [e, View.canon_cons_emb]; exact h2 _
    · rw [View.canon_cons_of_not_mem]
      swap
      · rw [Rect.mem_set_unit]; intro hm
        have a1 : 5056 ≤ (y 0).val := (hm 0).1
        omega
      have e : y = (Rect.unit (s := S6016x128) ![0, 0] S960x128.size i3).emb (ix2 (⟨o + (j 0).val, by omega⟩ : Fin 960) (j 1)) := by
        funext a; apply Fin.ext; fin_cases a
        · show (y 0).val = 0 + 1 * (o + (j 0).val); omega
        · show (y 1).val = 0 + 1 * (j 1).val; omega
      rw [e, View.canon_cons_emb]; exact h1 _

/-- Row `k` of the weights' block, loaded as a block of one row. -/
theorem readAt_row {sg : RefSig} (mr : Memref sg .tc .vmem S31x128 .f32) (h : mr.IsWhole) (w : Vec Ideal S31x128 .f32) (k : ℕ) (ik) :
    View.readAt (Elt Ideal) mr.view (Rect.unit (s := S31x128) ![k, 0] ![1, 128] ik).toLoadRect (h.unread w)
      = fun j : S1x128.Idx => w (ix2 (⟨k, by have h : k + 1 ≤ 31 := ik 0; omega⟩ : Fin 31) (j 1)) := by
  funext j
  have e := congrFun (View.readAt_eq_ld mr.view (h.unread w) (Rect.unit (s := S31x128) ![k, 0] ![1, 128] ik)) j
  refine e.trans ?_
  rw [h.read_unread]
  show w _ = w _
  congr 1
  funext a; apply Fin.ext; fin_cases a
  · have : (j 0).val < 1 := (j 0).isLt
    show k + 1 * (j 0).val = k; omega
  · show 0 + 1 * (j 1).val = (j 1).val; omega

/-- A load of the whole block. -/
theorem readAt_whole {sg : RefSig} (mr : Memref sg .tc .vmem S4096x128 .f32) (h : mr.IsWhole) (x : Vec Ideal S4096x128 .f32) (i0) :
    View.readAt (Elt Ideal) mr.view (Rect.unit (s := S4096x128) ![0, 0] ![4096, 128] i0).toLoadRect (h.unread x) = x := by
  funext j
  have e := congrFun (View.readAt_eq_ld mr.view (h.unread x) (Rect.unit (s := S4096x128) ![0, 0] ![4096, 128] i0)) j
  refine e.trans ?_
  rw [h.read_unread]
  show x _ = x _
  congr 1
  funext a; apply Fin.ext; fin_cases a
  · show 0 + 1 * (j 0).val = (j 0).val; omega
  · show 0 + 1 * (j 1).val = (j 1).val; omega

end Cert.Proof.Conv

end
-- ==== Proof.Lines.lean ====
/- One line of the grid between two edges of zeros, and the same line cut out of a padded column of the grid's tokens. -/
module

public import proofs.«01_k».proof.Proof.Pad
public import Idealize.ShloMosaic.Lib.Pointwise.Sums
public import Idealize.ShloMosaic.Lib.IdealHost

@[expose] public section

noncomputable section

namespace Cert.Proof.Conv

open Idealize.ShloMosaic

/-- Entry `m` of a line of 64 between two edges of 15 zeros. -/
def padLine (f : Fin 64 → EReal) (m : ℕ) : EReal := if h : 15 ≤ m ∧ m < 79 then f ⟨m - 15, by omega⟩ else 0

/-- A column of 4096 tokens holds 64 lines, line `a` at the tokens 64 p + a: its entry 64 m + a, padded, is entry `m` of line `a`, padded. -/
theorem padCol_line (f : Fin 4096 → EReal) (m : ℕ) (a : Fin 64) :
    padCol f (64 * m + a.val) = padLine (fun p => f ⟨p.val * 64 + a.val, by omega⟩) m := by
  unfold padCol padLine
  by_cases h : 15 ≤ m ∧ m < 79
  · rw [dif_pos h, dif_pos (by omega)]
    congr 1; apply Fin.ext; show 64 * m + a.val - 960 = (m - 15) * 64 + a.val; omega
  · rw [dif_neg h, dif_neg (by omega)]

/-- The gradient of a line at position `p`: the taps, last first, over the padded cotangent. -/
def lineConv (w : Fin 31 → EReal) (d : Fin 64 → EReal) (p : Fin 64) : EReal :=
  ∑ k ∈ Finset.range 31, w (Fin.ofNat 31 (30 - k)) * padLine d (k + p.val)

/-- The gradient of tap `q`, over all lines and positions. -/
def lineTap (d x : Fin 64 → Fin 64 → EReal) (q : ℕ) : EReal := ∑ n : Fin 64, ∑ l : Fin 64, d n l * padLine (x n) (q + l.val)

/-- A sum over the 4096 tokens, line by line. -/
theorem sum_tokens (f : Fin 4096 → EReal) :
    ∑ r : Fin 4096, f r = ∑ n : Fin 64, ∑ l : Fin 64, f ⟨l.val * 64 + n.val, by omega⟩ := by
  rw [Fin.sum_univ_tiles 64 64 (by decide) f, Finset.sum_comm]

/-- A host sum over the first two axes of three, at an index. -/
theorem sum01 {a b n : ℕ} {u : Shape} (h : (⟨3, ![a, b, n]⟩ : Shape).ReducesTo [0, 1] ⟨1, ![n]⟩) (v : FVec Ideal ⟨3, ![a, b, n]⟩ .f32) (init : FVec Ideal u .f32) (hu) (j : Fin n) :
    Host.reduceAdd v init h hu (ix1 j) = init (Shape.Idx.first hu) + ∑ p : Fin a, ∑ q : Fin b, v (ix3 p q j) := by
  show init _ + Finset.sum (Finset.univ.filter fun i => h.drop i = ix1 j) v = _
  congr 1
  rw [← Fintype.sum_prod_type' (f := fun p q => v (ix3 p q j))]
  refine Finset.sum_bij' (fun i _ => ((i 0, i 1) : Fin a × Fin b)) (fun k _ => ix3 k.1 k.2 j) (fun _ _ => Finset.mem_univ _) ?_ ?_ (fun _ _ => rfl) ?_
  · intro k _
    refine Finset.mem_filter.2 ⟨Finset.mem_univ _, funext fun c => ?_⟩
    fin_cases c; rfl
  · intro i hi
    have e := congrArg Fin.val (congrFun (Finset.mem_filter.1 hi).2 0)
    funext c; apply Fin.ext; fin_cases c
    · rfl
    · rfl
    · exact e.symm
  · intro i hi
    have e := congrArg Fin.val (congrFun (Finset.mem_filter.1 hi).2 0)
    congr 1
    funext c; apply Fin.ext; fin_cases c
    · rfl
    · rfl
    · exact e

end Cert.Proof.Conv

end
-- ==== Proof.Reference.lean ====
/- The derivative of the axial convolution, read entry by entry: in the reference's lines of the grid, the sums of Lines.lean. -/
module

public import proofs.«01_k».proof.Proof.Lines
public import proofs.«01_k».proof.Proof.Gen.ReferenceIdeal.Run
public import Idealize.ShloMosaic.Lib.Pointwise
public import Idealize.ShloMosaic.Lib.Tactic
public import Idealize.ShloMosaic.Lib.KernelVsHost

@[expose] public section

set_option maxRecDepth 16384

noncomputable section

namespace Cert.Proof.Conv

open Idealize.ShloMosaic Idealize.ShloMosaic.TcCoe Idealize.ShloMosaic.Tactic Idealize.ShloMosaic.StableHlo
open Idealize.ShloMosaic.ValueIdx (mulf_apply addf_apply)
open Cert.ReferenceIdeal Cert.ReferenceIdeal.Value

variable (V : Valuation τ sig (Elt Ideal))

/-- The arguments, as the reference's contents hold them. -/
abbrev argX : FVec Ideal ⟨2, ![4096, 1024]⟩ .f32 := V (Proc.devRef .tc main_arg0)
abbrev argLo : FVec Ideal ⟨2, ![4096, 512]⟩ .f32 := V (Proc.devRef .tc main_arg1)
abbrev argHi : FVec Ideal ⟨2, ![4096, 512]⟩ .f32 := V (Proc.devRef .tc main_arg2)
abbrev argW : FVec Ideal ⟨2, ![31, 1024]⟩ .f32 := V (Proc.devRef .tc main_arg3)

/-- The cotangent at position `l` of line `n`: a row of the grid for the first half of the channels, a column for the second. -/
def ctLine (n l : Fin 64) (c : Fin 1024) : EReal :=
  if h : c.val < 512 then argLo V (ix2 ⟨n.val * 64 + l.val, by omega⟩ ⟨c.val, h⟩) else argHi V (ix2 ⟨l.val * 64 + n.val, by omega⟩ ⟨c.val - 512, by omega⟩)

/-- The argument at position `l` of line `n`. -/
def xLine (n l : Fin 64) (c : Fin 1024) : EReal :=
  if c.val < 512 then argX V (ix2 ⟨n.val * 64 + l.val, by omega⟩ c) else argX V (ix2 ⟨l.val * 64 + n.val, by omega⟩ c)

theorem ct_apply (n l : Fin 64) (c : Fin 1024) : res_main_v212 V (ix3 n l c) = ctLine V n l c := by
  unfold res_main_v212 res_main_v206 ctLine
  pointwise
  by_cases h : c.val < 512
  · rw [dif_neg (by omega), dif_pos h, dif_pos h, dif_pos h, zero_add]
  · rw [dif_pos (by omega), dif_neg h, dif_neg h, add_zero]

theorem x_apply (n : Fin 64) (m : Fin 94) (c : Fin 1024) : res_main_v8 V (ix3 n m c) = padLine (fun p => xLine V n p c) m.val := by
  unfold res_main_v8 res_main_v7 res_main_v2 padLine xLine
  pointwise
  by_cases h : 15 ≤ m.val ∧ m.val < 79
  · rw [dif_neg (by omega), dif_pos (by omega), dif_pos h]
    by_cases hc : c.val < 512
    · rw [dif_pos hc, if_pos hc]
    · have e : ∀ (r : Fin 4096) (q : Fin 1024), q = c → argX V (ix2 r q) = argX V (ix2 r c) := fun _ _ h => by rw [h]
      rw [dif_neg hc, if_neg hc]
      refine e ⟨(m.val - 15) * 64 + n.val, by omega⟩ ⟨512 + (c.val - 512), by omega⟩ ?_
      exact Fin.eq_of_val_eq (Nat.add_sub_of_le (Nat.le_of_not_lt hc))
  · refine Eq.trans ?_ (dif_neg h).symm
    by_cases h' : m.val < 15
    · exact dif_pos h'
    · exact (dif_neg h').trans (dif_neg (by omega))

/-- One tap's term of the data gradient: the cotangent times the tap, shifted along its line, read `k` places on from where the padded
    cotangent begins. -/
theorem tap_apply (o r k : ℕ) (hs hw hb hp hu) (n p : Fin 64) (c : Fin 1024) (ho : o + k = 30) (hm : 15 + p.val < 94) :
    (pad S64x94x1024 ![0, o, 0] ![0, r, 0] ![0, 0, 0] (mulf (broadcastInDim S64x64x1024 ![0, 1, 2] hb (broadcastInDim S1x1x1024 ![1, 2] hw
      (extractStridedSlice S1x1024 ![o, 0] (argW V) hs))) (res_main_v212 V)) (constant S_ .f32 0x00000000#32) hp hu : FVec Ideal S64x94x1024 .f32) (ix3 n ⟨15 + p.val, hm⟩ c)
      = argW V (ix2 (Fin.ofNat 31 (30 - k)) c) * padLine (fun l => ctLine V n l c) (k + p.val) := by
  unfold padLine
  by_cases h : 15 ≤ k + p.val ∧ k + p.val < 79
  · rw [dif_pos h]
    refine (pad_apply_of_inside _ _ _ _ _ hp hu _ (ix3 n (⟨k + p.val - 15, by omega⟩ : Fin 64) c) fun a => ?_).trans ?_
    · fin_cases a
      · show n.val = 0 + n.val * 1; omega
      · show 15 + p.val = o + (k + p.val - 15) * 1; omega
      · show c.val = 0 + c.val * 1; omega
    rw [mulf_apply, ct_apply]
    refine congrArg (· * _) ?_
    pointwise
    have e : ∀ hlt, (⟨o, hlt⟩ : Fin 31) = Fin.ofNat 31 (30 - k) := fun _ => Fin.ext (by show o = (30 - k) % 31; omega)
    rw [e]
  · rw [dif_neg h, mul_zero]
    refine (pad_apply_of_not_inside _ _ _ _ _ hp hu _ 1 fun hi => h ?_).trans Ideal.ofBits_zero_f32
    have h1 : o ≤ 15 + p.val := hi.1
    have h2 : (15 + p.val - o) / 1 < 64 := hi.2.2
    omega

set_option maxHeartbeats 2000000 in
/-- The data gradient along line `n`, at position `p`. -/
theorem du_apply (n p : Fin 64) (c : Fin 1024) :
    res_main_v498 V (ix3 n p c) = lineConv (fun k => argW V (ix2 k c)) (fun l => ctLine V n l c) p := by
  have e : res_main_v498 V (ix3 n p c) = res_main_v493 V (ix3 n (⟨15 + p.val, by omega⟩ : Fin 94) c) := by
    unfold res_main_v498
    pointwise
  rw [e]
  unfold res_main_v493 res_main_v358
  unfold res_main_v43 res_main_v49 res_main_v54 res_main_v59 res_main_v64 res_main_v69 res_main_v74 res_main_v79 res_main_v84 res_main_v89 res_main_v94 res_main_v99 res_main_v104 res_main_v109 res_main_v114 res_main_v119 res_main_v124 res_main_v129 res_main_v134 res_main_v139 res_main_v144 res_main_v149 res_main_v154 res_main_v159 res_main_v164 res_main_v169 res_main_v174 res_main_v179 res_main_v184 res_main_v189 res_main_v194
  unfold lineConv
  simp only [Finset.sum_range_succ, Finset.sum_range_zero]
  rw [zero_add (_ : EReal)]
  repeat' first
    | exact tap_apply V _ _ _ _ _ _ _ _ n p c (by decide) _
    | refine congrArg₂ (fun a b : EReal => a + b) ?_ ?_

/-- A data gradient's result at a token, first half of the channels. -/
theorem du_lo (n l : Fin 64) (j : Fin 512) (h) :
    (extractStridedSlice S4096x512 ![0, 0] (res_main_v506 V) h : FVec Ideal S4096x512 .f32) (ix2 (⟨n.val * 64 + l.val, by omega⟩ : Fin 4096) j)
      = lineConv (fun k => argW V (ix2 k ⟨j.val, by omega⟩)) (fun l => argLo V (ix2 ⟨n.val * 64 + l.val, by omega⟩ j)) l := by
  unfold res_main_v506
  pointwise
  rw [dif_neg (fun hh => hh.1), zero_add, du_apply]
  unfold ctLine
  simp only [j.isLt, dite_true]

/-- A data gradient's result at a token, second half of the channels. -/
theorem du_hi (n l : Fin 64) (j : Fin 512) (h) :
    (extractStridedSlice S4096x512 ![0, 512] (res_main_v506 V) h : FVec Ideal S4096x512 .f32) (ix2 (⟨l.val * 64 + n.val, by omega⟩ : Fin 4096) j)
      = lineConv (fun k => argW V (ix2 k ⟨512 + j.val, by omega⟩)) (fun l => argHi V (ix2 ⟨l.val * 64 + n.val, by omega⟩ j)) l := by
  unfold res_main_v506
  pointwise
  rw [du_apply]
  unfold ctLine
  simp only [show ¬ 512 + j.val < 512 from by omega, dite_false, Nat.add_sub_cancel_left]

/-- A sum over lines and positions, as the reference takes it: over both, then over the one row that is left. -/
theorem sum_lines (v : FVec Ideal S64x64x1024 .f32) (ha) (hb : S64x64x1024.ReducesTo [0, 1] S1024) (hc hd) (he : S1x1x1024.ReducesTo [0, 1] S1024) (hf) (u : Fin 1) (c : Fin 1024) :
    (broadcastInDim S1x1024 ![1] ha (Host.reduceAdd (shapeCast S1x1x1024 (Host.reduceAdd v (constant S_ .f32 0x00000000#32) hb hc : FVec Ideal S1024 .f32) hd)
      (constant S_ .f32 0x00000000#32) he hf : FVec Ideal S1024 .f32) : FVec Ideal S1x1024 .f32) (ix2 u c) = ∑ n, ∑ l, v (ix3 n l c) := by
  refine (broadcastInDim_apply _ ha _ _ (ix1 c) fun a => by fin_cases a; rfl).trans ?_
  have z : ∀ i, (constant S_ .f32 0x00000000#32 : FVec Ideal S_ .f32) i = 0 := fun _ => Ideal.ofBits_zero_f32
  rw [sum01, z, zero_add]
  simp only [Finset.univ_unique, Finset.sum_singleton]
  refine (shapeCast_apply _ hd _ (ix1 c) (by simp [Shape.rowMajor_val_one, Shape.rowMajor_val_three])).trans ?_
  rw [sum01, z, zero_add]

/-- The bias' gradient at a channel. -/
theorem db_apply (ha) (hb : S64x64x1024.ReducesTo [0, 1] S1024) (hc hd) (he : S1x1x1024.ReducesTo [0, 1] S1024) (hf) (u : Fin 1) (c : Fin 1024) :
    (broadcastInDim S1x1024 ![1] ha (Host.reduceAdd (shapeCast S1x1x1024 (Host.reduceAdd (res_main_v212 V) (constant S_ .f32 0x00000000#32) hb hc : FVec Ideal S1024 .f32) hd)
      (constant S_ .f32 0x00000000#32) he hf : FVec Ideal S1024 .f32) : FVec Ideal S1x1024 .f32) (ix2 u c) = ∑ n, ∑ l, ctLine V n l c := by
  rw [sum_lines]
  simp only [ct_apply]

/-- A tap's gradient, as the reference writes it: the cotangent times the argument shifted by the tap, summed. -/
abbrev tapRow (q : ℕ) (hq : S64x94x1024.Slices ![0, q, 0] S64x64x1024) : FVec Ideal S1x1024 .f32 :=
  broadcastInDim S1x1024 ![1] Gen.bcast_S1024_S1x1024_1 (Host.reduceAdd (shapeCast S1x1x1024 (Host.reduceAdd (mulf (res_main_v212 V) (extractStridedSlice S64x64x1024 ![0, q, 0] (res_main_v8 V) hq))
    (constant S_ .f32 0x00000000#32) Gen.reducesTo_S64x64x1024_S1024_d0_1 Gen.h_S_ : FVec Ideal S1024 .f32) Gen.shapeCasts_S1024_S1x1x1024)
      (constant S_ .f32 0x00000000#32) Gen.reducesTo_S1x1x1024_S1024_d0_1 Gen.h_S_ : FVec Ideal S1024 .f32)

theorem tapRow_apply (q : ℕ) (hq) (u : Fin 1) (c : Fin 1024) :
    tapRow V q hq (ix2 u c) = lineTap (fun n l => ctLine V n l c) (fun n p => xLine V n p c) q := by
  unfold tapRow
  rw [sum_lines]
  refine Finset.sum_congr rfl fun n _ => Finset.sum_congr rfl fun l _ => ?_
  have hq' : q + 64 ≤ 94 := hq.2 1
  rw [mulf_apply, ct_apply]
  refine congrArg (ctLine V n l c * ·) ?_
  refine (extractStridedSlice_apply _ _ hq _ (ix3 n (⟨q + l.val, by omega⟩ : Fin 94) c) fun a => ?_).trans (x_apply V n _ c)
  fin_cases a
  · exact (Nat.zero_add _).symm
  · rfl
  · exact (Nat.zero_add _).symm

theorem tap_slices : ∀ q : Fin 31, S64x94x1024.Slices ![0, q.val, 0] S64x64x1024 := by decide

/-- The weights' gradient at tap `q` and channel `c`. -/
theorem dw_apply (h) (q : Fin 31) (c : Fin 1024) :
    (concatenate S31x1024 0 [⟨S16x1024, (res_main_v494 V)⟩, ⟨S15x1024, (res_main_v495 V)⟩] h : FVec Ideal S31x1024 .f32) (ix2 q c)
      = lineTap (fun n l => ctLine V n l c) (fun n p => xLine V n p c) q.val := by
  by_cases hq : q.val < 16
  · refine (concatenate_pair_apply_left 0 _ _ h _ rfl (ix2 (⟨q.val, hq⟩ : Fin 16) c) fun b => by fin_cases b <;> rfl).trans ?_
    refine Eq.trans ?_ (tapRow_apply V q.val (tap_slices q) 0 c)
    exact concatenate_ofFn_unit_apply (t := S16x1024) (s₁ := S1x1024) 0 (fun k : Fin 16 => tapRow V k.val (tap_slices ⟨k.val, by omega⟩)) Gen.concatenates_S1x1024_S1x1024_S1x1024_S1x1024_S1x1024_S1x1024_S1x1024_S1x1024_S1x1024_S1x1024_S1x1024_S1x1024_S1x1024_S1x1024_S1x1024_S1x1024_S16x1024_d0 rfl rfl
      (ix2 (⟨q.val, hq⟩ : Fin 16) c) ⟨q.val, hq⟩ rfl (ix2 0 c) fun b hb => by fin_cases b <;> first | rfl | exact absurd rfl hb
  · refine (concatenate_pair_apply_right 0 _ _ h _ rfl rfl (ix2 (⟨q.val - 16, by omega⟩ : Fin 15) c) (fun b hb => by fin_cases b <;> first | rfl | exact absurd rfl hb)
      (by show q.val - 16 + 16 = q.val; omega)).trans ?_
    have e : 16 + (q.val - 16) = q.val := by omega
    refine Eq.trans ?_ (tapRow_apply V q.val (tap_slices q) 0 c)
    refine (concatenate_ofFn_unit_apply (t := S15x1024) (s₁ := S1x1024) 0 (fun k : Fin 15 => tapRow V (16 + k.val) (tap_slices ⟨16 + k.val, by omega⟩)) Gen.concatenates_S1x1024_S1x1024_S1x1024_S1x1024_S1x1024_S1x1024_S1x1024_S1x1024_S1x1024_S1x1024_S1x1024_S1x1024_S1x1024_S1x1024_S1x1024_S15x1024_d0 rfl rfl
      (ix2 (⟨q.val - 16, by omega⟩ : Fin 15) c) ⟨q.val - 16, by omega⟩ rfl (ix2 0 c) fun b hb => by fin_cases b <;> first | rfl | exact absurd rfl hb).trans ?_
    rw [tapRow_apply, tapRow_apply, e]

end Cert.Proof.Conv

end
-- ==== Proof.Taps.lean ====
/- The two data-gradient convolutions at one grid point: what the body stores is, row by row and lane by lane, the sum over the
   31 taps of tap k of the weights times row r + 64 k of the padded block. -/
module

public import proofs.«01_k».proof.Proof.Pad
public import Idealize.ShloMosaic.Lib.Pointwise
public import Mathlib.Algebra.BigOperators.Group.Finset.Basic

@[expose] public section

set_option maxRecDepth 16384

noncomputable section

namespace Cert.Proof.Conv

open Idealize.ShloMosaic
open Idealize.ShloMosaic.ValueIdx (mulf_apply addf_apply)
open Cert.KernelIdeal Cert.KernelIdeal.Gen Idealize.ShloMosaic.Tactic

/-- The sum over the taps, at row `r` and lane `l`. -/
def taps (x : Vec Ideal S4096x128 .f32) (w : Vec Ideal S31x128 .f32) (r : ℕ) (l : Fin 128) : EReal :=
  ∑ k ∈ Finset.range 31, w (ix2 (Fin.ofNat 31 k) l) * padRow x (64 * k + r) l

/-- One row of weights spread over the block's rows. -/
theorem bcast_row (f : Vec Ideal S1x128 .f32) (h) (j : S4096x128.Idx) : broadcastTo S4096x128 f h j = f (ix2 0 (j 1)) := by
  idx_vars j
  pointwise

theorem pad_lo (j) : (k0_pay2 (F := Ideal)) j = 0 := Ideal.ofBits_zero_f32
theorem pad_hi (j) : (k0_pay3 (F := Ideal)) j = 0 := Ideal.ofBits_zero_f32

theorem scratch0 (c : Dev nD) (arg1 : Memref sig .tc .vmem S4096x128 .f32) (harg1 : arg1.IsWhole)
    (x : Vec Ideal S4096x128 .f32) (v : View sig .tc .vmem S6016x128 .f32) (o : ℕ) (io) :
    v.readCov (kernelRun0_A.sl.HS0_3 c arg1 harg1 x) (Rect.unit ![o, 0] ![4096, 128] io).toLoadRect = padRows x o := by
  unfold kernelRun0_A.sl.HS0_3 k0_pay4
  rw [readAt_whole]
  simp only [shapeCast_self]
  exact readCov_pad v x _ _ pad_lo pad_hi _ _ _ o io

theorem out0_apply (c : Dev nD) (i : grid0.Coords) (arg1 : Memref sig .tc .vmem S4096x128 .f32) (harg1 : arg1.IsWhole)
    (arg2 : Memref sig .tc .vmem S31x128 .f32) (harg2 : arg2.IsWhole) (arg3 : Memref sig .tc .vmem S4096x128 .f32) (harg3 : arg3.IsWhole)
    (arg4 : Memref sig .tc .vmem S6016x128 .f32) (harg4 : arg4.IsWhole) (x : Vec Ideal S4096x128 .f32) (w : Vec Ideal S31x128 .f32)
    (j : S4096x128.Idx) :
    out0_A_2 c i arg1 harg1 arg2 harg2 arg3 harg3 arg4 harg4 x w j = taps x w (j 0).val (j 1) := by
  unfold out0_A_2
  rw [View.read_writes_junk_eq_canon]
  unfold kernelRun0_A
  dsimp only
  rw [View.canon_cons_unit_lit (h := fun a => by fin_cases a <;> rfl)]
  unfold kernelRun0_A.sl.r_4 kernelRun0_A.sl.r_3 kernelRun0_A.sl.r_2 kernelRun0_A.sl.r_1 kernelRun0_A.sl.r
  unfold kernelRun0_A.sl.v16 kernelRun0_A.sl.v22 kernelRun0_A.sl.v28 kernelRun0_A.sl.v34 kernelRun0_A.sl.v40 kernelRun0_A.sl.v46 kernelRun0_A.sl.v52 kernelRun0_A.sl.v58 kernelRun0_A.sl.v64 kernelRun0_A.sl.v70 kernelRun0_A.sl.v76 kernelRun0_A.sl.v82 kernelRun0_A.sl.v88 kernelRun0_A.sl.v94 kernelRun0_A.sl.v100 kernelRun0_A.sl.v106 kernelRun0_A.sl.v112 kernelRun0_A.sl.v118 kernelRun0_A.sl.v124 kernelRun0_A.sl.v130 kernelRun0_A.sl.v136 kernelRun0_A.sl.v142 kernelRun0_A.sl.v148 kernelRun0_A.sl.v154 kernelRun0_A.sl.v160 kernelRun0_A.sl.v166 kernelRun0_A.sl.v172 kernelRun0_A.sl.v178 kernelRun0_A.sl.v184 kernelRun0_A.sl.v190 kernelRun0_A.sl.v196
  simp only [scratch0, readAt_row]
  unfold k0_pay1 k0_pay9 k0_pay8 k0_pay7 k0_pay6 k0_pay5
  dsimp only
  simp only [shapeCast_self]
  unfold taps
  simp only [Finset.sum_range_succ, Finset.sum_range_zero, addf_apply, mulf_apply, bcast_row, padRows]
  rw [show (broadcast S4096x128 (FloatOps.ofBits (F := Ideal) FTy.f32 0#32)) j = 0 from Ideal.ofBits_zero_f32]
  rfl

/-! The second data-gradient convolution: the same at its own block. -/

theorem pad_lo' (j) : (k1_pay2 (F := Ideal)) j = 0 := Ideal.ofBits_zero_f32
theorem pad_hi' (j) : (k1_pay3 (F := Ideal)) j = 0 := Ideal.ofBits_zero_f32

theorem scratch1 (c : Dev nD) (arg1 : Memref sig .tc .vmem S4096x128 .f32) (harg1 : arg1.IsWhole)
    (x : Vec Ideal S4096x128 .f32) (v : View sig .tc .vmem S6016x128 .f32) (o : ℕ) (io) :
    v.readCov (kernelRun1_A.sl.HS0_3 c arg1 harg1 x) (Rect.unit ![o, 0] ![4096, 128] io).toLoadRect = padRows x o := by
  unfold kernelRun1_A.sl.HS0_3 k1_pay4
  rw [readAt_whole]
  simp only [shapeCast_self]
  exact readCov_pad v x _ _ pad_lo' pad_hi' _ _ _ o io

theorem out1_apply (c : Dev nD) (i : grid1.Coords) (arg1 : Memref sig .tc .vmem S4096x128 .f32) (harg1 : arg1.IsWhole)
    (arg2 : Memref sig .tc .vmem S31x128 .f32) (harg2 : arg2.IsWhole) (arg3 : Memref sig .tc .vmem S4096x128 .f32) (harg3 : arg3.IsWhole)
    (arg4 : Memref sig .tc .vmem S6016x128 .f32) (harg4 : arg4.IsWhole) (x : Vec Ideal S4096x128 .f32) (w : Vec Ideal S31x128 .f32)
    (j : S4096x128.Idx) :
    out1_A_2 c i arg1 harg1 arg2 harg2 arg3 harg3 arg4 harg4 x w j = taps x w (j 0).val (j 1) := by
  unfold out1_A_2
  rw [View.read_writes_junk_eq_canon]
  unfold kernelRun1_A
  dsimp only
  rw [View.canon_cons_unit_lit (h := fun a => by fin_cases a <;> rfl)]
  unfold kernelRun1_A.sl.r_4 kernelRun1_A.sl.r_3 kernelRun1_A.sl.r_2 kernelRun1_A.sl.r_1 kernelRun1_A.sl.r
  unfold kernelRun1_A.sl.v15 kernelRun1_A.sl.v21 kernelRun1_A.sl.v27 kernelRun1_A.sl.v33 kernelRun1_A.sl.v39 kernelRun1_A.sl.v45 kernelRun1_A.sl.v51 kernelRun1_A.sl.v57 kernelRun1_A.sl.v63 kernelRun1_A.sl.v69 kernelRun1_A.sl.v75 kernelRun1_A.sl.v81 kernelRun1_A.sl.v87 kernelRun1_A.sl.v93 kernelRun1_A.sl.v99 kernelRun1_A.sl.v105 kernelRun1_A.sl.v111 kernelRun1_A.sl.v117 kernelRun1_A.sl.v123 kernelRun1_A.sl.v129 kernelRun1_A.sl.v135 kernelRun1_A.sl.v141 kernelRun1_A.sl.v147 kernelRun1_A.sl.v153 kernelRun1_A.sl.v159 kernelRun1_A.sl.v165 kernelRun1_A.sl.v171 kernelRun1_A.sl.v177 kernelRun1_A.sl.v183 kernelRun1_A.sl.v189 kernelRun1_A.sl.v195
  simp only [scratch1, readAt_row]
  unfold k1_pay1 k1_pay9 k1_pay8 k1_pay7 k1_pay6 k1_pay5
  dsimp only
  simp only [shapeCast_self]
  unfold taps
  simp only [Finset.sum_range_succ, Finset.sum_range_zero, addf_apply, mulf_apply, bcast_row, padRows]
  rw [show (broadcast S4096x128 (FloatOps.ofBits (F := Ideal) FTy.f32 0#32)) j = 0 from Ideal.ofBits_zero_f32]
  rfl

end Cert.Proof.Conv

end
-- ==== Proof.Sums.lean ====
/- The two weight-gradient convolutions at one grid point: row k of what the body stores is, lane by lane, the sum over the 4096
   rows r of the cotangent's row r times row r + 64 k of the padded block, and the bias gradient the sum of the cotangent's rows. -/
module

public import proofs.«01_k».proof.Proof.Pad
public import Idealize.ShloMosaic.Lib.Pipeline.ReadBack

@[expose] public section

set_option maxRecDepth 16384

noncomputable section

namespace Cert.Proof.Conv

open Idealize.ShloMosaic
open Idealize.ShloMosaic.ValueIdx (mulf_apply addf_apply)
open Cert.KernelIdeal Cert.KernelIdeal.Gen

/-- Row `k` of the weights' gradient at lane `l`. -/
def tapSum (x d : Vec Ideal S4096x128 .f32) (k : ℕ) (l : Fin 128) : EReal :=
  ∑ r : Fin 4096, d (ix2 r l) * padRow x (64 * k + r.val) l

/-- The bias' gradient at lane `l`. -/
def rowSum (d : Vec Ideal S4096x128 .f32) (l : Fin 128) : EReal := ∑ r : Fin 4096, d (ix2 r l)

/-- The rows of a block summed, kept as a block of one row. -/
theorem colsum (v : FVec Ideal S4096x128 .f32) (h1 h2 h3 hc) (j : S1x128.Idx) :
    shapeCast S1x128 (multiReduction .add [0] S128 v 0x00000000#32 h1 h2 h3) hc j = ∑ r : Fin 4096, v (ix2 r (j 1)) := by
  idx_vars j
  pointwise

/-- One tap's piece is that row of the gradient. -/
theorem piece_row (x d : Vec Ideal S4096x128 .f32) (k o : ℕ) (ho : o = 64 * k) (ik) (h1 h2 h3 hc) (j : S1x128.Idx) :
    shapeCast S1x128 (multiReduction .add [0] S128 (mulf d (padRows x o) : FVec Ideal S4096x128 .f32) 0x00000000#32 h1 h2 h3) hc j
      = tapSum x d (((Rect.unit (s := S31x128) ![k, 0] ![1, 128] ik).emb j) 0).val (((Rect.unit (s := S31x128) ![k, 0] ![1, 128] ik).emb j) 1) := by
  subst ho
  rw [colsum]
  have e0 : (((Rect.unit (s := S31x128) ![k, 0] ![1, 128] ik).emb j) 0).val = k := by
    have : (j 0).val < 1 := (j 0).isLt
    show k + 1 * (j 0).val = k; omega
  have e1 : ((Rect.unit (s := S31x128) ![k, 0] ![1, 128] ik).emb j) 1 = j 1 := by
    apply Fin.ext; show 0 + 1 * (j 1).val = (j 1).val; omega
  rw [e0, e1]
  rfl

theorem pad_lo2 (j) : (k2_pay3 (F := Ideal)) j = 0 := Ideal.ofBits_zero_f32
theorem pad_hi2 (j) : (k2_pay4 (F := Ideal)) j = 0 := Ideal.ofBits_zero_f32

theorem scratch2 (c : Dev nD) (arg1 : Memref sig .tc .vmem S4096x128 .f32) (harg1 : arg1.IsWhole)
    (x : Vec Ideal S4096x128 .f32) (v : View sig .tc .vmem S6016x128 .f32) (o : ℕ) (io) :
    v.readCov (kernelRun2_A.sl.HS0_3 c arg1 harg1 x) (Rect.unit ![o, 0] ![4096, 128] io).toLoadRect = padRows x o := by
  unfold kernelRun2_A.sl.HS0_3 k2_pay5
  rw [readAt_whole]
  simp only [shapeCast_self]
  exact readCov_pad v x _ _ pad_lo2 pad_hi2 _ _ _ o io

set_option maxHeartbeats 1000000 in
theorem out2_w_apply (c : Dev nD) (i : grid2.Coords) (arg1 : Memref sig .tc .vmem S4096x128 .f32) (harg1 : arg1.IsWhole)
    (arg2 : Memref sig .tc .vmem S4096x128 .f32) (harg2 : arg2.IsWhole) (arg3 : Memref sig .tc .vmem S31x128 .f32) (harg3 : arg3.IsWhole)
    (arg4 : Memref sig .tc .vmem S1x128 .f32) (harg4 : arg4.IsWhole) (arg5 : Memref sig .tc .vmem S6016x128 .f32) (harg5 : arg5.IsWhole)
    (x d : Vec Ideal S4096x128 .f32) (y : S31x128.Idx) :
    out2_A_2 c i arg1 harg1 arg2 harg2 arg3 harg3 arg4 harg4 arg5 harg5 x d y = tapSum x d (y 0).val (y 1) := by
  unfold out2_A_2
  rw [View.read_writes_junk_eq_canon]
  have hc := cover2_A_2 c i arg1 harg1 arg2 harg2 arg3 harg3 arg4 harg4 arg5 harg5 x d y
  rw [← List.append_nil (kernelRun2_A c i arg1 harg1 arg2 harg2 arg3 harg3 arg4 harg4 arg5 harg5 x d).1]
  refine View.canon_append_of_piecesOf (fun y : S31x128.Idx => tapSum x d (y 0).val (y 1)) [] _ ?_ y hc
  unfold kernelRun2_A
  dsimp only
  unfold kernelRun2_A.sl.r_5 kernelRun2_A.sl.r_4 kernelRun2_A.sl.r_3 kernelRun2_A.sl.r_2 kernelRun2_A.sl.r_1 kernelRun2_A.sl.r
  unfold kernelRun2_A.sl.v15 kernelRun2_A.sl.v22 kernelRun2_A.sl.v29 kernelRun2_A.sl.v36 kernelRun2_A.sl.v43 kernelRun2_A.sl.v50 kernelRun2_A.sl.v57 kernelRun2_A.sl.v64 kernelRun2_A.sl.v71 kernelRun2_A.sl.v78 kernelRun2_A.sl.v85 kernelRun2_A.sl.v92 kernelRun2_A.sl.v99 kernelRun2_A.sl.v106 kernelRun2_A.sl.v113 kernelRun2_A.sl.v120 kernelRun2_A.sl.v127 kernelRun2_A.sl.v134 kernelRun2_A.sl.v141 kernelRun2_A.sl.v148 kernelRun2_A.sl.v155 kernelRun2_A.sl.v162 kernelRun2_A.sl.v169 kernelRun2_A.sl.v176 kernelRun2_A.sl.v183 kernelRun2_A.sl.v190 kernelRun2_A.sl.v197 kernelRun2_A.sl.v204 kernelRun2_A.sl.v211 kernelRun2_A.sl.v218 kernelRun2_A.sl.v225
  simp only [scratch2, readAt_whole]
  simp only [k2_pay1, k2_pay2, k2_pay3, k2_pay4, k2_pay5, k2_pay6, k2_pay7, k2_pay8, k2_pay9, k2_pay10, k2_pay11, k2_pay12, k2_pay13, k2_pay14, k2_pay15, k2_pay16, k2_pay17, k2_pay18, k2_pay19, k2_pay20, k2_pay21, k2_pay22, k2_pay23, k2_pay24, k2_pay25, k2_pay26, k2_pay27, k2_pay28, k2_pay29, k2_pay30, k2_pay31, k2_pay32, k2_pay33, k2_pay34, k2_pay35, k2_pay36, k2_pay37, k2_pay38, k2_pay39, k2_pay40, shapeCast_self, View.PiecesOf]
  repeat' apply And.intro
  all_goals first | exact trivial | (intro j; exact piece_row x d _ _ (by rfl) _ _ _ _ _ j)

theorem out2_b_apply (c : Dev nD) (i : grid2.Coords) (arg1 : Memref sig .tc .vmem S4096x128 .f32) (harg1 : arg1.IsWhole)
    (arg2 : Memref sig .tc .vmem S4096x128 .f32) (harg2 : arg2.IsWhole) (arg3 : Memref sig .tc .vmem S31x128 .f32) (harg3 : arg3.IsWhole)
    (arg4 : Memref sig .tc .vmem S1x128 .f32) (harg4 : arg4.IsWhole) (arg5 : Memref sig .tc .vmem S6016x128 .f32) (harg5 : arg5.IsWhole)
    (x d : Vec Ideal S4096x128 .f32) (y : S1x128.Idx) :
    out2_A_3 c i arg1 harg1 arg2 harg2 arg3 harg3 arg4 harg4 arg5 harg5 x d y = rowSum d (y 1) := by
  unfold out2_A_3
  rw [View.read_writes_junk_eq_canon]
  unfold kernelRun2_A
  dsimp only
  rw [View.canon_cons_unit_lit (h := fun a => by fin_cases a <;> rfl)]
  unfold kernelRun2_A.sl.r
  simp only [readAt_whole]
  unfold k2_pay2 k2_pay6
  dsimp only
  simp only [shapeCast_self]
  exact colsum d _ _ _ _ y

theorem pad_lo3 (j) : (k3_pay3 (F := Ideal)) j = 0 := Ideal.ofBits_zero_f32
theorem pad_hi3 (j) : (k3_pay4 (F := Ideal)) j = 0 := Ideal.ofBits_zero_f32

theorem scratch3 (c : Dev nD) (arg1 : Memref sig .tc .vmem S4096x128 .f32) (harg1 : arg1.IsWhole)
    (x : Vec Ideal S4096x128 .f32) (v : View sig .tc .vmem S6016x128 .f32) (o : ℕ) (io) :
    v.readCov (kernelRun3_A.sl.HS0_3 c arg1 harg1 x) (Rect.unit ![o, 0] ![4096, 128] io).toLoadRect = padRows x o := by
  unfold kernelRun3_A.sl.HS0_3
  unfold k3_pay5
  rw [readAt_whole]
  simp only [shapeCast_self]
  exact readCov_pad v x _ _ pad_lo3 pad_hi3 _ _ _ o io

set_option maxHeartbeats 1000000 in
theorem out3_w_apply (c : Dev nD) (i : grid3.Coords) (arg1 : Memref sig .tc .vmem S4096x128 .f32) (harg1 : arg1.IsWhole)
    (arg2 : Memref sig .tc .vmem S4096x128 .f32) (harg2 : arg2.IsWhole) (arg3 : Memref sig .tc .vmem S31x128 .f32) (harg3 : arg3.IsWhole)
    (arg4 : Memref sig .tc .vmem S1x128 .f32) (harg4 : arg4.IsWhole) (arg5 : Memref sig .tc .vmem S6016x128 .f32) (harg5 : arg5.IsWhole)
    (x d : Vec Ideal S4096x128 .f32) (y : S31x128.Idx) :
    out3_A_2 c i arg1 harg1 arg2 harg2 arg3 harg3 arg4 harg4 arg5 harg5 x d y = tapSum x d (y 0).val (y 1) := by
  unfold out3_A_2
  rw [View.read_writes_junk_eq_canon]
  have hc := cover3_A_2 c i arg1 harg1 arg2 harg2 arg3 harg3 arg4 harg4 arg5 harg5 x d y
  rw [← List.append_nil (kernelRun3_A c i arg1 harg1 arg2 harg2 arg3 harg3 arg4 harg4 arg5 harg5 x d).1]
  refine View.canon_append_of_piecesOf (fun y : S31x128.Idx => tapSum x d (y 0).val (y 1)) [] _ ?_ y hc
  unfold kernelRun3_A
  dsimp only
  unfold kernelRun3_A.sl.r_4 kernelRun3_A.sl.r_3 kernelRun3_A.sl.r_2 kernelRun3_A.sl.r_1 kernelRun3_A.sl.r
  unfold kernelRun3_A.sl.v13 kernelRun3_A.sl.v20 kernelRun3_A.sl.v27 kernelRun3_A.sl.v34 kernelRun3_A.sl.v41 kernelRun3_A.sl.v48 kernelRun3_A.sl.v55 kernelRun3_A.sl.v62 kernelRun3_A.sl.v69 kernelRun3_A.sl.v76 kernelRun3_A.sl.v83 kernelRun3_A.sl.v90 kernelRun3_A.sl.v97 kernelRun3_A.sl.v104 kernelRun3_A.sl.v111 kernelRun3_A.sl.v118 kernelRun3_A.sl.v kernelRun3_A.sl.v132 kernelRun3_A.sl.v139 kernelRun3_A.sl.v146 kernelRun3_A.sl.v153 kernelRun3_A.sl.v160 kernelRun3_A.sl.v167 kernelRun3_A.sl.v174 kernelRun3_A.sl.v181 kernelRun3_A.sl.v188 kernelRun3_A.sl.v195 kernelRun3_A.sl.v202 kernelRun3_A.sl.v209 kernelRun3_A.sl.v216 kernelRun3_A.sl.v223
  simp only [scratch3, readAt_whole]
  simp only [k3_pay1, k3_pay2, k3_pay3, k3_pay4, k3_pay5, k3_pay6, k3_pay7, k3_pay8, k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, shapeCast_self, View.PiecesOf]
  repeat' apply And.intro
  all_goals first | exact trivial | (intro j; exact piece_row x d _ _ (by rfl) _ _ _ _ _ j)

theorem out3_b_apply (c : Dev nD) (i : grid3.Coords) (arg1 : Memref sig .tc .vmem S4096x128 .f32) (harg1 : arg1.IsWhole)
    (arg2 : Memref sig .tc .vmem S4096x128 .f32) (harg2 : arg2.IsWhole) (arg3 : Memref sig .tc .vmem S31x128 .f32) (harg3 : arg3.IsWhole)
    (arg4 : Memref sig .tc .vmem S1x128 .f32) (harg4 : arg4.IsWhole) (arg5 : Memref sig .tc .vmem S6016x128 .f32) (harg5 : arg5.IsWhole)
    (x d : Vec Ideal S4096x128 .f32) (y : S1x128.Idx) :
    out3_A_3 c i arg1 harg1 arg2 harg2 arg3 harg3 arg4 harg4 arg5 harg5 x d y = rowSum d (y 1) := by
  unfold out3_A_3
  rw [View.read_writes_junk_eq_canon]
  unfold kernelRun3_A
  dsimp only
  rw [View.canon_cons_unit_lit (h := fun a => by fin_cases a <;> rfl)]
  unfold kernelRun3_A.sl.r
  simp only [readAt_whole]
  unfold k3_pay2
  dsimp only
  simp only [shapeCast_self]
  exact colsum d _ _ _ _ y

end Cert.Proof.Conv

end
-- ==== Proof.Arrays.lean ====
/- The arrays the four calls leave, whole, as functions of the arrays they find: lane by lane the sums of Taps.lean and Sums.lean. -/
module

public import proofs.«01_k».proof.Proof.Taps
public import proofs.«01_k».proof.Proof.Sums
public import Idealize.ShloMosaic.Lib.Pipeline.ValueKit

@[expose] public section

set_option maxRecDepth 16384

noncomputable section

namespace Cert.Proof.Conv

open Idealize.ShloMosaic Idealize.ShloMosaic.TcCoe
open Cert.KernelIdeal Cert.KernelIdeal.Gen Idealize.ShloMosaic.Tactic

/-- The data gradient, at row `r` and channel `j`: the taps of the weights' rows over the padded column. -/
def convAt (x : Vec Ideal S4096x512 .f32) (w : Vec Ideal S31x512 .f32) : Vec Ideal S4096x512 .f32 := fun y =>
  ∑ k ∈ Finset.range 31, w (ix2 (Fin.ofNat 31 k) (y 1)) * padCol (fun r => x (ix2 r (y 1))) (64 * k + (y 0).val)

variable (V : (c : Dev nD) → (b : Ref sig .tc) → Buf (Elt Ideal) ((c : Thread nD τ).loc b))

/-- The blocks are read and written at columns 128 t … 128 t + 127, all rows. -/
theorem idx0 : ∀ t, win0_0.index t = ![0, (grid0.coords t 0).val] ∧ win0_1.index t = ![0, (grid0.coords t 0).val] ∧ win0_2.index t = ![0, (grid0.coords t 0).val] := by
  decide +kernel

theorem arr0 (c : Dev nD) : (dat0 V c).arrAt 2 cfg0.N = convAt (V c main_v6) (V c main_v8) := by
  refine (dat0 V c).arrAt_eq_of_covers 2 _ (by decide +kernel) fun t hf y => ?_
  rw [after0_2]; unfold outsAt0
  rw [out0_apply]
  unfold convAt taps padRow iblk0
  blk_simp [(idx0 t).1, (idx0 t).2]
  change @Eq EReal _ _
  refine Finset.sum_congr rfl fun k _ => congrArg₂ (· * ·) ?_ (congrArg₂ padCol (funext fun r => ?_) ?_)
  · blk_ext [(idx0 t).1, (idx0 t).2.1, (idx0 t).2.2]
  · blk_ext [(idx0 t).1, (idx0 t).2.1, (idx0 t).2.2]
  · blk_simp [(idx0 t).1, (idx0 t).2.1, (idx0 t).2.2]

theorem idx1 : ∀ t, win1_0.index t = ![0, (grid1.coords t 0).val] ∧ win1_1.index t = ![0, (grid1.coords t 0).val] ∧ win1_2.index t = ![0, (grid1.coords t 0).val] := by
  decide +kernel

theorem arr1 (c : Dev nD) : (dat1 V c).arrAt 2 cfg1.N = convAt (V c main_arg2) (V c main_v10) := by
  refine (dat1 V c).arrAt_eq_of_covers 2 _ (by decide +kernel) fun t hf y => ?_
  rw [after1_2]; unfold outsAt1
  rw [out1_apply]
  unfold convAt taps padRow iblk1
  blk_simp [(idx1 t).1, (idx1 t).2]
  change @Eq EReal _ _
  refine Finset.sum_congr rfl fun k _ => congrArg₂ (· * ·) ?_ (congrArg₂ padCol (funext fun r => ?_) ?_)
  · blk_ext [(idx1 t).1, (idx1 t).2.1, (idx1 t).2.2]
  · blk_ext [(idx1 t).1, (idx1 t).2.1, (idx1 t).2.2]
  · blk_simp [(idx1 t).1, (idx1 t).2.1, (idx1 t).2.2]

/-- The weights' gradient, tap by tap: the cotangent's rows times the rows of the columns of `x` from `o` on, padded and shifted. -/
def tapSumAt {n : ℕ} (o : ℕ) (x : Vec Ideal ⟨2, ![4096, n]⟩ .f32) (d : Vec Ideal S4096x512 .f32) (ho : o + 512 ≤ n) : Vec Ideal S31x512 .f32 := fun y =>
  ∑ r : Fin 4096, d (ix2 r (y 1)) * padCol (fun r' => x (ix2 r' (⟨o + (y 1).val, by have : (y 1).val < 512 := (y 1).isLt; omega⟩ : Fin n))) (64 * (y 0).val + r.val)

/-- The bias' gradient: the cotangent's rows summed. -/
def rowSumAt (d : Vec Ideal S4096x512 .f32) : Vec Ideal S1x512 .f32 := fun y => ∑ r : Fin 4096, d (ix2 r (y 1))

theorem idx2 : ∀ t, win2_0.index t = ![0, (grid2.coords t 0).val + 0] ∧ win2_1.index t = ![0, (grid2.coords t 0).val]
    ∧ win2_2.index t = ![0, (grid2.coords t 0).val] ∧ win2_3.index t = ![0, (grid2.coords t 0).val] := by
  decide +kernel

theorem arr2_w (c : Dev nD) : (dat2 V c).arrAt 2 cfg2.N = tapSumAt 0 (V c main_v3) (V c main_v6) (by decide) := by
  refine (dat2 V c).arrAt_eq_of_covers 2 _ (by decide +kernel) fun t hf y => ?_
  rw [after2_2]; unfold outsAt2
  dsimp only
  rw [out2_w_apply]
  unfold tapSumAt tapSum padRow iblk2
  blk_simp [(idx2 t).1, (idx2 t).2.1, (idx2 t).2.2.1]
  change @Eq EReal _ _
  refine Finset.sum_congr rfl fun k _ => congrArg₂ (· * ·) ?_ (congrArg₂ padCol (funext fun r => ?_) ?_)
  · blk_ext [(idx2 t).1, (idx2 t).2.1, (idx2 t).2.2.1]
  · blk_ext [(idx2 t).1, (idx2 t).2.1, (idx2 t).2.2.1]
  · blk_simp [(idx2 t).1, (idx2 t).2.1, (idx2 t).2.2.1]

theorem arr2_b (c : Dev nD) : (dat2 V c).arrAt 3 cfg2.N = rowSumAt (V c main_v6) := by
  refine (dat2 V c).arrAt_eq_of_covers 3 _ (by decide +kernel) fun t hf y => ?_
  rw [after2_3]; unfold outsAt2
  dsimp only
  rw [out2_b_apply]
  unfold rowSumAt rowSum iblk2
  blk_simp [(idx2 t).1, (idx2 t).2.1, (idx2 t).2.2.2]
  change @Eq EReal _ _
  refine Finset.sum_congr rfl fun k _ => ?_
  blk_ext [(idx2 t).1, (idx2 t).2.1, (idx2 t).2.2.2]

theorem idx3 : ∀ t, win3_0.index t = ![0, (grid3.coords t 0).val + 4] ∧ win3_1.index t = ![0, (grid3.coords t 0).val]
    ∧ win3_2.index t = ![0, (grid3.coords t 0).val] ∧ win3_3.index t = ![0, (grid3.coords t 0).val] := by
  decide +kernel

theorem arr3_w (c : Dev nD) : (dat3 V c).arrAt 2 cfg3.N = tapSumAt 512 (V c main_arg0) (V c main_arg2) (by decide) := by
  refine (dat3 V c).arrAt_eq_of_covers 2 _ (by decide +kernel) fun t hf y => ?_
  rw [after3_2]; unfold outsAt3
  dsimp only
  rw [out3_w_apply]
  unfold tapSumAt tapSum padRow iblk3
  blk_simp [(idx3 t).1, (idx3 t).2.1, (idx3 t).2.2.1]
  change @Eq EReal _ _
  refine Finset.sum_congr rfl fun k _ => congrArg₂ (· * ·) ?_ (congrArg₂ padCol (funext fun r => ?_) ?_)
  · blk_ext [(idx3 t).1, (idx3 t).2.1, (idx3 t).2.2.1]
  · blk_ext [(idx3 t).1, (idx3 t).2.1, (idx3 t).2.2.1]
  · blk_simp [(idx3 t).1, (idx3 t).2.1, (idx3 t).2.2.1]

theorem arr3_b (c : Dev nD) : (dat3 V c).arrAt 3 cfg3.N = rowSumAt (V c main_arg2) := by
  refine (dat3 V c).arrAt_eq_of_covers 3 _ (by decide +kernel) fun t hf y => ?_
  rw [after3_3]; unfold outsAt3
  dsimp only
  rw [out3_b_apply]
  unfold rowSumAt rowSum iblk3
  blk_simp [(idx3 t).1, (idx3 t).2.1, (idx3 t).2.2.2]
  change @Eq EReal _ _
  refine Finset.sum_congr rfl fun k _ => ?_
  blk_ext [(idx3 t).1, (idx3 t).2.1, (idx3 t).2.2.2]

end Cert.Proof.Conv

end
-- ==== Proof.Run.lean ====
/- The run of the four convolution calls: every buffer of the program ends at what the fold through its lines and regions leaves. -/
module

public import proofs.«01_k».proof.Proof.Arrays
public import proofs.«01_k».proof.Proof.Gen.KernelIdeal.Frame
public import Idealize.ShloMosaic.Lib.Tactic
public import Idealize.ShloMosaic.Lib.StableHlo.RunRead

@[expose] public section

set_option maxRecDepth 16384

noncomputable section

namespace Cert.Proof.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The run, from any memory: every unscoped buffer at its last contents, every counter at zero. -/
theorem run_main : θ_run defs (onTc (τ := τ) (main (F := F))) ⟨m, fun _ => 0, ρ⟩ (fun r => (∀ c : Dev nD,
      ∀ b ∈ Pipeline.ucRefs τ sig, r.2.mem (((c : Thread nD τ)).1, b) = W7 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (no_unscoped g.2))⟩)

/-- The frame of the program, read off its run. -/
theorem frame_of_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨(h.1 c _ (mem_uc main_arg0 (by decide))).trans (W7_main_arg0 m ρ c),
     (h.1 c _ (mem_uc main_arg1 (by decide))).trans (W7_main_arg1 m ρ c),
     (h.1 c _ (mem_uc main_arg2 (by decide))).trans (W7_main_arg2 m ρ c),
     (h.1 c _ (mem_uc main_arg3 (by decide))).trans (W7_main_arg3 m ρ c)⟩, h.2⟩) (run_main m ρ)

end Cert.Proof.Conv

end
-- ==== Proof.KernelValue.lean ====
/- What the four convolution calls leave in the results, as functions of the arguments. -/
module

public import proofs.«01_k».proof.Proof.Run

@[expose] public section

set_option maxRecDepth 16384

noncomputable section

namespace Cert.Proof.Conv

open Idealize.ShloMosaic Idealize.ShloMosaic.TcCoe Idealize.ShloMosaic.Tactic
open Cert.KernelIdeal Cert.KernelIdeal.Gen

variable (m : (ℓ : Loc nD τ sig) → Buf (Elt Ideal) ℓ) (ρ : Dev nD → PrngReg)

/-- Rows and columns of the grid exchanged: token 64 a + b to token 64 b + a. -/
def swap (x : Vec Ideal S4096x512 .f32) : Vec Ideal S4096x512 .f32 :=
  shapeCast S4096x512 (transpose S64x64x512 [1, 0, 2] (shapeCast S64x64x512 x shapeCasts_S4096x512_S64x64x512) transposes_S64x64x512_S64x64x512_1_0_2) shapeCasts_S64x64x512_S4096x512

theorem V1_v6 (c : Dev nD) : V1 m ρ c main_v6 = swap (m ((c : Thread nD τ).loc main_arg1)) := by
  show StableHlo.after hostOps0 (W0 m ρ c) (Proc.devRef .tc main_v6) = _
  after_reads_simp
  rfl

theorem V1_v3 (c : Dev nD) : W1 m ρ c (Proc.devRef .tc main_v3) = swap (extractStridedSlice S4096x512 ![0, 0] (m ((c : Thread nD τ).loc main_arg0)) slices_S4096x1024_S4096x512_0_0) := by
  show StableHlo.after hostOps0 (W0 m ρ c) (Proc.devRef .tc main_v3) = _
  after_reads_simp
  rfl

theorem V1_v8 (c : Dev nD) : V1 m ρ c main_v8 = extractStridedSlice S31x512 ![0, 0] (Host.reverse [0] (m ((c : Thread nD τ).loc main_arg3))) slices_S31x1024_S31x512_0_0 := by
  show StableHlo.after hostOps0 (W0 m ρ c) (Proc.devRef .tc main_v8) = _
  after_reads_simp

theorem V3_v10 (c : Dev nD) : V3 m ρ c main_v10 = extractStridedSlice S31x512 ![0, 512] (Host.reverse [0] (m ((c : Thread nD τ).loc main_arg3))) slices_S31x1024_S31x512_0_512 := by
  show StableHlo.after hostOps1 (W2 m ρ c) (Proc.devRef .tc main_v10) = _
  after_reads_simp
  rw [W2_of m ρ c main_v7 (by decide)]
  show extractStridedSlice S31x512 ![0, 512] (StableHlo.after hostOps0 (W0 m ρ c) (Proc.devRef .tc main_v7)) _ = _
  after_reads_simp

theorem V3_arg2 (c : Dev nD) : V3 m ρ c main_arg2 = m ((c : Thread nD τ).loc main_arg2) := W3_args m ρ c _ (by decide)

/-- The second call's result. -/
theorem W7_v11 (c : Dev nD) : W7 m ρ c (Proc.devRef .tc main_v11)
    = convAt (m ((c : Thread nD τ).loc main_arg2)) (extractStridedSlice S31x512 ![0, 512] (Host.reverse [0] (m ((c : Thread nD τ).loc main_arg3))) slices_S31x1024_S31x512_0_512) := by
  rw [W7_of m ρ c main_v11 (by decide), W6_of m ρ c main_v11 (by decide), W5_of m ρ c main_v11 (by decide)]
  refine (W4_arr m ρ c 2).trans ?_
  rw [arr1, V3_v10, V3_arg2]

/-- The first call's result, its grid exchanged back. -/
theorem W7_v18 (c : Dev nD) : W7 m ρ c (Proc.devRef .tc main_v18)
    = swap (convAt (swap (m ((c : Thread nD τ).loc main_arg1))) (extractStridedSlice S31x512 ![0, 0] (Host.reverse [0] (m ((c : Thread nD τ).loc main_arg3))) slices_S31x1024_S31x512_0_0)) := by
  have e : W6 m ρ c (Proc.devRef .tc main_v9) = convAt (swap (m ((c : Thread nD τ).loc main_arg1))) (extractStridedSlice S31x512 ![0, 0] (Host.reverse [0] (m ((c : Thread nD τ).loc main_arg3))) slices_S31x1024_S31x512_0_0) := by
    rw [W6_of m ρ c main_v9 (by decide), W5_of m ρ c main_v9 (by decide), W4_of m ρ c main_v9 (by decide), W3_of m ρ c main_v9 (by decide)]
    refine (W2_arr m ρ c 2).trans ?_
    rw [arr0, V1_v6, V1_v8]
  show StableHlo.after hostOps4 (W6 m ρ c) (Proc.devRef .tc main_v18) = _
  after_reads_simp
  rw [e]
  rfl

/-- What the third call finds. -/
theorem V4_v3 (c : Dev nD) : V4 m ρ c main_v3 = swap (extractStridedSlice S4096x512 ![0, 0] (m ((c : Thread nD τ).loc main_arg0)) slices_S4096x1024_S4096x512_0_0) := by
  show W4 m ρ c (Proc.devRef .tc main_v3) = _
  rw [W4_of m ρ c main_v3 (by decide), W3_of m ρ c main_v3 (by decide), W2_of m ρ c main_v3 (by decide), V1_v3]

theorem V4_v6 (c : Dev nD) : V4 m ρ c main_v6 = swap (m ((c : Thread nD τ).loc main_arg1)) := by
  show W4 m ρ c (Proc.devRef .tc main_v6) = _
  rw [W4_of m ρ c main_v6 (by decide), W3_of m ρ c main_v6 (by decide), W2_of m ρ c main_v6 (by decide)]
  exact V1_v6 m ρ c

/-- The weights' gradient: the two halves of the channels side by side. -/
theorem W7_v14 (c : Dev nD) : W7 m ρ c (Proc.devRef .tc main_v14)
    = concatenate S31x1024 1 [⟨S31x512, tapSumAt 0 (swap (extractStridedSlice S4096x512 ![0, 0] (m ((c : Thread nD τ).loc main_arg0)) slices_S4096x1024_S4096x512_0_0)) (swap (m ((c : Thread nD τ).loc main_arg1))) (by decide)⟩,
        ⟨S31x512, tapSumAt 512 (m ((c : Thread nD τ).loc main_arg0)) (m ((c : Thread nD τ).loc main_arg2)) (by decide)⟩] concatenates_S31x512_S31x512_S31x1024_d1 := by
  have e : W6 m ρ c (Proc.devRef .tc main_v12_0) = tapSumAt 0 (swap (extractStridedSlice S4096x512 ![0, 0] (m ((c : Thread nD τ).loc main_arg0)) slices_S4096x1024_S4096x512_0_0)) (swap (m ((c : Thread nD τ).loc main_arg1))) (by decide) := by
    rw [W6_of m ρ c main_v12_0 (by decide)]
    refine (W5_arr m ρ c 2).trans ?_
    rw [arr2_w, V4_v3, V4_v6]
  have e' : W6 m ρ c (Proc.devRef .tc main_v13_0) = tapSumAt 512 (m ((c : Thread nD τ).loc main_arg0)) (m ((c : Thread nD τ).loc main_arg2)) (by decide) := by
    refine (W6_arr m ρ c 2).trans ?_
    rw [arr3_w]
    show tapSumAt 512 (W5 m ρ c (Proc.devRef .tc main_arg0)) (W5 m ρ c (Proc.devRef .tc main_arg2)) _ = _
    rw [W5_args m ρ c _ (by decide), W5_args m ρ c _ (by decide)]
  show StableHlo.after hostOps4 (W6 m ρ c) (Proc.devRef .tc main_v14) = _
  after_results_simp
  rw [e, e']

/-- The bias' gradient likewise. -/
theorem W7_v15 (c : Dev nD) : W7 m ρ c (Proc.devRef .tc main_v15)
    = concatenate S1x1024 1 [⟨S1x512, rowSumAt (swap (m ((c : Thread nD τ).loc main_arg1)))⟩,
        ⟨S1x512, rowSumAt (m ((c : Thread nD τ).loc main_arg2))⟩] concatenates_S1x512_S1x512_S1x1024_d1 := by
  have e : W6 m ρ c (Proc.devRef .tc main_v12_1) = rowSumAt (swap (m ((c : Thread nD τ).loc main_arg1))) := by
    rw [W6_of m ρ c main_v12_1 (by decide)]
    refine (W5_arr m ρ c 3).trans ?_
    rw [arr2_b, V4_v6]
  have e' : W6 m ρ c (Proc.devRef .tc main_v13_1) = rowSumAt (m ((c : Thread nD τ).loc main_arg2)) := by
    refine (W6_arr m ρ c 3).trans ?_
    rw [arr3_b]
    show rowSumAt (W5 m ρ c (Proc.devRef .tc main_arg2)) = _
    rw [W5_args m ρ c _ (by decide)]
  show StableHlo.after hostOps4 (W6 m ρ c) (Proc.devRef .tc main_v15) = _
  after_results_simp
  exact congrArg₂ (fun a b => concatenate S1x1024 1 [⟨S1x512, a⟩, ⟨S1x512, b⟩] concatenates_S1x512_S1x512_S1x1024_d1) e e'

end Cert.Proof.Conv

end
-- ==== Proof.Equal.lean ====
/- The four calls' results and the derivative's are one: both are the sums along the grid's lines. -/
module

public import proofs.«01_k».proof.Proof.Reference
public import proofs.«01_k».proof.Proof.KernelValue

@[expose] public section

set_option maxRecDepth 16384

noncomputable section

namespace Cert.Proof.Conv

open Idealize.ShloMosaic Idealize.ShloMosaic.TcCoe Idealize.ShloMosaic.Tactic Idealize.ShloMosaic.StableHlo
open Cert.KernelIdeal

theorem swap_apply (x : Vec Ideal S4096x512 .f32) (n l : Fin 64) (j : Fin 512) :
    swap x (ix2 (⟨n.val * 64 + l.val, by omega⟩ : Fin 4096) j) = x (ix2 (⟨l.val * 64 + n.val, by omega⟩ : Fin 4096) j) := by
  unfold swap
  pointwise

/-- Every token is a position of a line. -/
theorem token (r : Fin 4096) : ∃ n l : Fin 64, r = ⟨n.val * 64 + l.val, by omega⟩ :=
  ⟨⟨r.val / 64, by omega⟩, ⟨r.val % 64, by omega⟩, Fin.ext (by show r.val = r.val / 64 * 64 + r.val % 64; omega)⟩

/-- The data gradient of a column of tokens is the gradient of its lines. -/
theorem convAt_line (x : Vec Ideal S4096x512 .f32) (w : Vec Ideal S31x512 .f32) (w' : Fin 31 → EReal) (n l : Fin 64) (j : Fin 512)
    (hw : ∀ k : ℕ, k < 31 → w (ix2 (Fin.ofNat 31 k) j) = w' (Fin.ofNat 31 (30 - k))) :
    convAt x w (ix2 (⟨l.val * 64 + n.val, by omega⟩ : Fin 4096) j) = lineConv w' (fun p => x (ix2 ⟨p.val * 64 + n.val, by omega⟩ j)) l := by
  unfold convAt lineConv
  change @Eq EReal _ _
  refine Finset.sum_congr rfl fun k hk => congrArg₂ (· * ·) (hw k (Finset.mem_range.1 hk)) ?_
  rw [← padCol_line (fun r => x (ix2 r j))]
  exact congrArg (padCol _) (by show 64 * k + (l.val * 64 + n.val) = _; omega)

/-- A tap's gradient over a column of tokens is its gradient over the lines. -/
theorem tapSumAt_line {n : ℕ} (o : ℕ) (x : Vec Ideal ⟨2, ![4096, n]⟩ .f32) (d : Vec Ideal S4096x512 .f32) (ho : o + 512 ≤ n) (q : Fin 31) (j : Fin 512) :
    tapSumAt o x d ho (ix2 q j) = lineTap (fun a l => d (ix2 ⟨l.val * 64 + a.val, by omega⟩ j)) (fun a p => x (ix2 ⟨p.val * 64 + a.val, by omega⟩ ⟨o + j.val, by omega⟩)) q.val := by
  unfold tapSumAt lineTap
  refine (sum_tokens _).trans (Finset.sum_congr rfl fun a _ => Finset.sum_congr rfl fun l _ => congrArg₂ (· * ·) rfl ?_)
  rw [← padCol_line (fun r => x (ix2 r (⟨o + j.val, by omega⟩ : Fin n)))]
  exact congrArg (padCol _) (by show 64 * q.val + (l.val * 64 + a.val) = _; omega)

theorem rowSumAt_line (d : Vec Ideal S4096x512 .f32) (u : Fin 1) (j : Fin 512) :
    rowSumAt d (ix2 u j) = ∑ a : Fin 64, ∑ l : Fin 64, d (ix2 ⟨l.val * 64 + a.val, by omega⟩ j) := sum_tokens _

/-- A row of the reversed weights. -/
theorem flip_apply (o : ℕ) (w : Vec Ideal S31x1024 .f32) (hs) (k : ℕ) (hk : k < 31) (j : Fin 512) (hj : o + j.val < 1024) :
    extractStridedSlice S31x512 ![0, o] (Host.reverse [0] w) hs (ix2 (Fin.ofNat 31 k) j) = w (ix2 (Fin.ofNat 31 (30 - k)) ⟨o + j.val, hj⟩) := by
  refine (extractStridedSlice_apply _ _ hs _ (ix2 (Fin.ofNat 31 k) (⟨o + j.val, hj⟩ : Fin 1024)) fun a => by fin_cases a <;> first | rfl | exact (Nat.zero_add _).symm).trans ?_
  pointwise
  refine congrArg w (congrArg₂ ix2 ((if_pos (List.mem_singleton.2 rfl)).trans (Fin.ext ?_)) (if_neg (by decide)))
  show 31 - (k % 31 + 1) = (30 - k) % 31
  omega

variable (V : Valuation Cert.ReferenceIdeal.τ Cert.ReferenceIdeal.sig (Elt Ideal))

/-- Two arrays over the tokens are equal when they are along every line. -/
theorem ext_lines {f g : Vec Ideal S4096x512 .f32} (h : ∀ (n l : Fin 64) (j : Fin 512), f (ix2 (⟨n.val * 64 + l.val, by omega⟩ : Fin 4096) j) = g (ix2 (⟨n.val * 64 + l.val, by omega⟩ : Fin 4096) j)) : f = g := by
  funext y
  rw [ValueIdx.eq_ix2 y]
  obtain ⟨n, l, e⟩ := token (y 0)
  have h' := h n l (y 1)
  rw [← e] at h'
  exact h'

theorem eq_lo (h) : swap (convAt (swap (argLo V)) (extractStridedSlice S31x512 ![0, 0] (Host.reverse [0] (argW V)) Gen.slices_S31x1024_S31x512_0_0))
    = extractStridedSlice S4096x512 ![0, 0] (Cert.ReferenceIdeal.Value.res_main_v506 V) h := by
  refine ext_lines fun n l j => ?_
  refine Eq.trans ?_ (du_lo V n l j h).symm
  rw [swap_apply]
  refine (convAt_line _ _ (fun k => argW V (ix2 k ⟨j.val, by omega⟩)) n l j fun k hk => ?_).trans (congrArg (lineConv _ · l) (funext fun p => ?_))
  · refine (flip_apply 0 _ _ k hk j (by omega)).trans ?_
    simp only [Nat.zero_add]
  · exact swap_apply _ p n j

theorem eq_hi (h) : convAt (argHi V) (extractStridedSlice S31x512 ![0, 512] (Host.reverse [0] (argW V)) Gen.slices_S31x1024_S31x512_0_512)
    = extractStridedSlice S4096x512 ![0, 512] (Cert.ReferenceIdeal.Value.res_main_v506 V) h := by
  refine ext_lines fun l n j => ?_
  refine Eq.trans ?_ (du_hi V n l j h).symm
  exact convAt_line _ _ (fun k => argW V (ix2 k ⟨512 + j.val, by omega⟩)) n l j fun k hk => flip_apply 512 _ _ k hk j (by omega)

/-- Two rows of channels side by side are equal to one when both halves are. -/
theorem ext_halves {m : ℕ} (a b : Vec Ideal ⟨2, ![m, 512]⟩ .f32) (f : Vec Ideal ⟨2, ![m, 1024]⟩ .f32) (h)
    (ha : ∀ (q : Fin m) (j : Fin 512), a (ix2 q j) = f (ix2 q (⟨j.val, by omega⟩ : Fin 1024)))
    (hb : ∀ (q : Fin m) (j : Fin 512), b (ix2 q j) = f (ix2 q (⟨512 + j.val, by omega⟩ : Fin 1024))) :
    concatenate ⟨2, ![m, 1024]⟩ 1 [⟨⟨2, ![m, 512]⟩, a⟩, ⟨⟨2, ![m, 512]⟩, b⟩] h = f := by
  funext y
  rw [ValueIdx.eq_ix2 y]
  have h1 : (y 1).val < 1024 := (y 1).isLt
  by_cases hy : (y 1).val < 512
  · exact (concatenate_pair_apply_left 1 _ _ h _ rfl (ix2 (y 0) (⟨(y 1).val, hy⟩ : Fin 512)) fun b => by fin_cases b <;> rfl).trans (ha _ _)
  · refine (concatenate_pair_apply_right 1 _ _ h _ rfl rfl (ix2 (y 0) (⟨(y 1).val - 512, by omega⟩ : Fin 512))
      (fun b hb => by fin_cases b <;> first | rfl | exact absurd rfl hb) (by show (y 1).val - 512 + 512 = (y 1).val; omega)).trans ((hb _ _).trans ?_)
    exact congrArg f (congrArg (ix2 (y 0)) (Fin.ext (by show 512 + ((y 1).val - 512) = (y 1).val; omega)))

theorem eq_w (h) : concatenate S31x1024 1 [⟨S31x512, tapSumAt 0 (swap (extractStridedSlice S4096x512 ![0, 0] (argX V) Gen.slices_S4096x1024_S4096x512_0_0)) (swap (argLo V)) (by decide)⟩,
        ⟨S31x512, tapSumAt 512 (argX V) (argHi V) (by decide)⟩] Gen.concatenates_S31x512_S31x512_S31x1024_d1
    = concatenate S31x1024 0 [⟨Cert.ReferenceIdeal.S16x1024, (Cert.ReferenceIdeal.Value.res_main_v494 V)⟩, ⟨Cert.ReferenceIdeal.S15x1024, (Cert.ReferenceIdeal.Value.res_main_v495 V)⟩] h := by
  refine ext_halves _ _ _ _ (fun q j => ?_) fun q j => ?_
  · refine Eq.trans ?_ (dw_apply V h q _).symm
    rw [tapSumAt_line]
    refine congrArg₂ (lineTap · · q.val) (funext fun n => funext fun l => ?_) (funext fun n => funext fun l => ?_)
    · rw [swap_apply]; unfold ctLine; rw [dif_pos j.isLt]
    · rw [swap_apply]; unfold xLine; rw [if_pos j.isLt]
      pointwise
  · refine Eq.trans ?_ (dw_apply V h q _).symm
    rw [tapSumAt_line]
    refine congrArg₂ (lineTap · · q.val) (funext fun n => funext fun l => ?_) (funext fun n => funext fun l => ?_)
    · unfold ctLine; simp only [show ¬ 512 + j.val < 512 from by omega, dite_false, Nat.add_sub_cancel_left]
    · unfold xLine; rw [if_neg (by show ¬ 512 + j.val < 512; omega)]

theorem eq_b (ha hb hc hd he hf) : concatenate S1x1024 1 [⟨S1x512, rowSumAt (swap (argLo V))⟩, ⟨S1x512, rowSumAt (argHi V)⟩] Gen.concatenates_S1x512_S1x512_S1x1024_d1
    = broadcastInDim Cert.ReferenceIdeal.S1x1024 ![1] ha (Host.reduceAdd (shapeCast Cert.ReferenceIdeal.S1x1x1024 (Host.reduceAdd (axes := [0, 1]) (Cert.ReferenceIdeal.Value.res_main_v212 V) (constant Cert.ReferenceIdeal.S_ .f32 0x00000000#32) hb hc : FVec Ideal Cert.ReferenceIdeal.S1024 .f32) hd)
      (constant Cert.ReferenceIdeal.S_ .f32 0x00000000#32) (axes := [0, 1]) he hf : FVec Ideal Cert.ReferenceIdeal.S1024 .f32) := by
  refine ext_halves _ _ _ _ (fun q j => ?_) fun q j => ?_
  · refine Eq.trans ?_ (db_apply V ha hb hc hd he hf q _).symm
    rw [rowSumAt_line]
    refine Finset.sum_congr rfl fun n _ => Finset.sum_congr rfl fun l _ => ?_
    rw [swap_apply]; unfold ctLine; rw [dif_pos j.isLt]
  · refine Eq.trans ?_ (db_apply V ha hb hc hd he hf q _).symm
    rw [rowSumAt_line]
    refine Finset.sum_congr rfl fun n _ => Finset.sum_congr rfl fun l _ => ?_
    unfold ctLine; simp only [show ¬ 512 + j.val < 512 from by omega, dite_false, Nat.add_sub_cancel_left]

end Cert.Proof.Conv

end
-- ==== Proof.Product.lean ====
/- Sums that a kernel keeps from one grid point to the next. -/
module

public import Idealize.ShloMosaic.Lib.Pointwise
public import Idealize.ShloMosaic.Lib.Pipeline.Value

@[expose] public section

noncomputable section

namespace Cert.Proof

open Idealize.ShloMosaic
open scoped BigOperators

/-- Two zero offsets are the zero offset. -/
theorem zero2 : (![0, 0] : Fin 2 → Nat) = fun _ => 0 := funext fun a => by fin_cases a <;> rfl

/-- A total that restarts at every `K`-th point and otherwise adds what its point contributes is, at point `t`, the sum of
    what the points since the restart contribute. -/
theorem total_eq_sum {M : Type*} [AddCommMonoid M] {N K : ℕ} (S g : (n : ℕ) → n < N → M)
    (h0 : ∀ n h, n % K = 0 → S n h = g n h)
    (h1 : ∀ n h, (n + 1) % K ≠ 0 → S (n + 1) h = S n (Nat.lt_of_succ_lt h) + g (n + 1) h) (b : ℕ) (hb : b % K = 0) :
    ∀ (j : ℕ) (_ : j < K) (h : b + j < N), S (b + j) h = ∑ i : Fin (j + 1), g (b + i) (lt_of_le_of_lt (Nat.add_le_add_left (Nat.lt_succ_iff.mp i.isLt) b) h)
  | 0, _, h => by rw [Fin.sum_univ_one]; exact h0 b h hb
  | j + 1, hj, h => by
    rw [Fin.sum_univ_castSucc]
    have e : (b + j + 1) % K = j + 1 := by
      rw [Nat.add_assoc, Nat.add_mod, hb, Nat.zero_add, Nat.mod_mod, Nat.mod_eq_of_lt hj]
    refine (h1 (b + j) h (by rw [e]; exact Nat.succ_ne_zero j)).trans ?_
    rw [total_eq_sum S g h0 h1 b hb j (Nat.lt_of_succ_lt hj) (Nat.lt_of_succ_lt h)]
    rfl

/-- So where a run of `J + 1` points each contributes `T` terms of one long sum, its last point holds that sum. -/
theorem accumulated {N J T L : ℕ} (hL : (J + 1) * T = L) (S : (n : ℕ) → n < N → EReal) (p : (n : ℕ) → n < N → Fin T → EReal)
    (start : ∀ n h, n % (J + 1) = 0 → S n h = ∑ k, p n h k)
    (step : ∀ n h, (n + 1) % (J + 1) ≠ 0 → S (n + 1) h = S n (Nat.lt_of_succ_lt h) + ∑ k, p (n + 1) h k)
    (q : ℕ) (h : (J + 1) * q + J < N) (f : Fin L → EReal)
    (terms : ∀ (j : Fin (J + 1)) (k : Fin T) (hj : (J + 1) * q + j.val < N) (l : Fin L), l.val = j.val * T + k.val → p ((J + 1) * q + j.val) hj k = f l) :
    S ((J + 1) * q + J) h = ∑ l, f l := by
  rw [total_eq_sum (K := J + 1) S (fun n h => ∑ k, p n h k) start step ((J + 1) * q) (Nat.mul_mod_right _ q) J (Nat.lt_succ_self J) h]
  rw [Fin.sum_univ_tiles (N := L) (J + 1) T hL]
  exact Finset.sum_congr rfl fun j _ => Finset.sum_congr rfl fun k _ => terms j k _ _ rfl

/-- An array of two axes, read at an index with these coordinates. -/
theorem at_ix2 {α : Type*} {n0 n1 : ℕ} (x : (⟨2, ![n0, n1]⟩ : Shape).Idx → α) (i : (⟨2, ![n0, n1]⟩ : Shape).Idx) (a : Fin n0) (b : Fin n1)
    (h0 : (i 0).val = a.val) (h1 : (i 1).val = b.val) : x i = x (ix2 a b) :=
  congrArg x ((eq_ix2 i).trans (congrArg₂ ix2 (Fin.ext h0) (Fin.ext h1)))

/-- An entry by its place in a tile: `e` is the tile's index, `h0` and `h1` the entry's place from the tile's. -/
theorem at_tile {α : Type*} {n0 n1 : ℕ} (x : (⟨2, ![n0, n1]⟩ : Shape).Idx → α) (i : (⟨2, ![n0, n1]⟩ : Shape).Idx) {q : Fin 2 → ℕ} {q0 q1 : ℕ}
    (e : q = ![q0, q1]) (s0 s1 y0 y1 : ℕ) (h0 : (i 0).val = q 0 * s0 + 1 * y0) (h1 : (i 1).val = q 1 * s1 + 1 * y1)
    (a : Fin n0) (b : Fin n1) (ha : a.val = q0 * s0 + y0) (hb : b.val = q1 * s1 + y1) : x i = x (ix2 a b) := by
  subst e
  exact at_ix2 x i a b (h0.trans (by rw [ha, one_mul]; rfl)) (h1.trans (by rw [hb, one_mul]; rfl))

/-- An entry of an array of three axes by its place in a tile. -/
theorem at_tile3 {α : Type*} {n0 n1 n2 : ℕ} (x : (⟨3, ![n0, n1, n2]⟩ : Shape).Idx → α) (i : (⟨3, ![n0, n1, n2]⟩ : Shape).Idx) {q : Fin 3 → ℕ} {q0 q1 q2 : ℕ}
    (e : q = ![q0, q1, q2]) (s0 s1 s2 y0 y1 y2 : ℕ) (h0 : (i 0).val = q 0 * s0 + 1 * y0) (h1 : (i 1).val = q 1 * s1 + 1 * y1) (h2 : (i 2).val = q 2 * s2 + 1 * y2)
    (a : Fin n0) (b : Fin n1) (c : Fin n2) (ha : a.val = q0 * s0 + y0) (hb : b.val = q1 * s1 + y1) (hc : c.val = q2 * s2 + y2) : x i = x (ix3 a b c) := by
  subst e
  refine congrArg x ((eq_ix3 i).trans ?_)
  rw [show i 0 = a from Fin.ext (h0.trans (by rw [ha, one_mul]; rfl)), show i 1 = b from Fin.ext (h1.trans (by rw [hb, one_mul]; rfl)),
    show i 2 = c from Fin.ext (h2.trans (by rw [hc, one_mul]; rfl))]

/-- Rows of the first array times columns of the second, -/
def rowsCols {n0 k n1 : ℕ} (x : (⟨2, ![n0, k]⟩ : Shape).Idx → EReal) (w : (⟨2, ![k, n1]⟩ : Shape).Idx → EReal) (y : (⟨2, ![n0, n1]⟩ : Shape).Idx) : EReal :=
  ∑ j : Fin k, x (ix2 (y 0) j) * w (ix2 j (y 1))

/-- rows times rows. -/
def rowsRows {n0 k n1 : ℕ} (x : (⟨2, ![n0, k]⟩ : Shape).Idx → EReal) (w : (⟨2, ![n1, k]⟩ : Shape).Idx → EReal) (y : (⟨2, ![n0, n1]⟩ : Shape).Idx) : EReal :=
  ∑ j : Fin k, x (ix2 (y 0) j) * w (ix2 (y 1) j)

/-- One row added to every row. -/
def plusRow {n0 n1 : ℕ} (x : (⟨2, ![n0, n1]⟩ : Shape).Idx → EReal) (b : (⟨2, ![1, n1]⟩ : Shape).Idx → EReal) (y : (⟨2, ![n0, n1]⟩ : Shape).Idx) : EReal :=
  x y + b (ix2 0 (y 1))

/-- An index lies in the tile its quotients name. -/
theorem mem_tile {n0 n1 s0 s1 : ℕ} {off size : Fin 2 → ℕ} (inb : ∀ a : Fin 2, off a + size a ≤ (⟨2, ![n0, n1]⟩ : Shape).size a)
    (i : (⟨2, ![n0, n1]⟩ : Shape).Idx) (e0 : size 0 = s0) (e1 : size 1 = s1) (p0 : 0 < s0) (p1 : 0 < s1)
    (h0 : off 0 = (i 0).val / s0 * s0) (h1 : off 1 = (i 1).val / s1 * s1) : i ∈ (Rect.unit (s := ⟨2, ![n0, n1]⟩) off size inb).set := by
  subst e0 e1
  rw [Rect.mem_set_unit]
  intro a
  match a with
  | ⟨0, _⟩ => exact ⟨h0.trans_le (Nat.div_mul_le_self _ _), (Nat.lt_div_mul_add p0).trans_eq (congrArg (· + size 0) h0.symm)⟩
  | ⟨1, _⟩ => exact ⟨h1.trans_le (Nat.div_mul_le_self _ _), (Nat.lt_div_mul_add p1).trans_eq (congrArg (· + size 1) h1.symm)⟩

/-- Sums that a point adds to. -/
theorem more {S : Shape} (h : S.ShapeCasts S) (x p : FVec Ideal S .f32) (j : S.Idx) : shapeCast S (addf p x) h j = p j + x j := by
  rw [shapeCast_self]
  rfl

/-- A point that writes an array whole writes every entry of it, -/
theorem all_at {n w : ℕ} (o a : (⟨2, ![n, w]⟩ : Shape).Idx → EReal) (v : ∀ b k, o (ix2 b k) = a (ix2 b k)) {q : Fin 2 → ℕ} (e : q = ![0, 0])
    (i j : (⟨2, ![n, w]⟩ : Shape).Idx) (h0 : (j 0).val = q 0 * n + 1 * (i 0).val) (h1 : (j 1).val = q 1 * w + 1 * (i 1).val) : o i = a j := by
  subst e
  refine (congrArg o (eq_ix2 i)).trans ((v _ _).trans (at_ix2 a j (i 0) (i 1) ?_ ?_).symm)
  · rw [h0]; show 0 * n + _ = _; omega
  · rw [h1]; show 0 * w + _ = _; omega

/-- in the array's one tile. -/
theorem in_all {n w : ℕ} {off size : Fin 2 → ℕ} (inb : ∀ a : Fin 2, off a + size a ≤ (⟨2, ![n, w]⟩ : Shape).size a) (i : (⟨2, ![n, w]⟩ : Shape).Idx)
    (e0 : size 0 = n) (e1 : size 1 = w) (hn : 0 < n) (hw : 0 < w) {q : Fin 2 → ℕ} (e : q = ![0, 0]) (h0 : off 0 = q 0 * n) (h1 : off 1 = q 1 * w) :
    i ∈ (Rect.unit (s := ⟨2, ![n, w]⟩) off size inb).set := by
  subst e
  have b0 : (i 0).val < n := (i 0).isLt
  have b1 : (i 1).val < w := (i 1).isLt
  refine mem_tile inb i e0 e1 hn hw (h0.trans ?_) (h1.trans ?_)
  · rw [Nat.div_eq_of_lt b0]; show 0 * n = 0 * n; rfl
  · rw [Nat.div_eq_of_lt b1]; show 0 * w = 0 * w; rfl

end Cert.Proof

end
-- ==== Proof.Dhid.lean ====
/- The gradient of the hidden values: one product a grid point. -/
module

public import proofs.«01_k».proof.Defs
public import proofs.«01_k».proof.Proof.Product
public import proofs.«01_k».proof.Proof.Gen.DhidIdeal.Value
public import proofs.«01_k».proof.Proof.Gen.DhidRefIdeal.Run
public import Idealize.ShloMosaic.Lib.Tactic
public import Idealize.ShloMosaic.Adequacy
public import Idealize.ShloMosaic.Init

@[expose] public section

set_option maxRecDepth 16384

noncomputable section

namespace Cert.Proof.Dhid

open Idealize.ShloMosaic Idealize.ShloMosaic.TcCoe Idealize.ShloMosaic.Tactic Idealize.SL.Sem
open Cert.DhidIdeal Cert.DhidIdeal.Gen Cert.DhidIdeal.Value
open scoped BigOperators

variable (m : (ℓ : Loc nD τ sig) → Buf (Elt Ideal) ℓ) (ρ : Dev nD → PrngReg)

abbrev lhs (c : Dev nD) : Vec Ideal S4096x1024 .bf16 := m ((c : Thread nD τ).loc main_arg0)
abbrev rhs (c : Dev nD) : Vec Ideal S2816x1024 .bf16 := m ((c : Thread nD τ).loc main_arg1)

/-- The blocks point `t` reads. -/
abbrev lhsAt (c : Dev nD) (t : Fin cfg0.N) : Vec Ideal S1024x1024 .bf16 := iblk m c 0 t
abbrev rhsAt (c : Dev nD) (t : Fin cfg0.N) : Vec Ideal S1408x1024 .bf16 := iblk m c 1 t

/-- Where the blocks of a point lie. -/
theorem blocks : ∀ t : Fin cfg0.N, win0_0.index t (0 : Fin 2) = win0_2.index t (0 : Fin 2) ∧ win0_0.index t (1 : Fin 2) = 0
    ∧ win0_1.index t (0 : Fin 2) = win0_2.index t (1 : Fin 2) ∧ win0_1.index t (1 : Fin 2) = 0 ∧ win0_2.flush t = true :=
  (by decide +kernel : ∀ t : Fin grid0.N, _)

/-- Every block of the result is some point's. -/
theorem covered : ∀ (p : Fin 4) (q : Fin 2), ∃ t : Fin cfg0.N, win0_2.index t = ![p.val, q.val] :=
  (by decide +kernel : ∀ (p : Fin 4) (q : Fin 2), ∃ t : Fin grid0.N, win0_2.index t = ![p.val, q.val])

/-- The product at an index. -/
def prod (a : Vec Ideal S4096x1024 .bf16) (b : Vec Ideal S2816x1024 .bf16) : Vec Ideal S4096x2816 .bf16 :=
  fun y => ∑ k : Fin 1024, a (ix2 (y 0) k) * b (ix2 (y 1) k)

/-- A point's product is its block of the whole product. -/
theorem flushed_eq (c : Dev nD) (t : Fin cfg0.N) :
    (dats m 0 c).flushed 2 t = ((cfg0.win 2).blk t).view.read (Elt Ideal) (prod (lhs m c) (rhs m c)) := by
  obtain ⟨e0, e1, e2, e3, -⟩ := blocks t
  rw [flushed2]
  unfold out0_2
  rw [View.canon_unit_zero zero2]
  simp only [View.ld_unit_zero (S := S1024x1024) zero2, View.ld_unit_zero (S := S1408x1024) zero2]
  funext y
  show k0_pay1 (lhsAt m c t) (rhsAt m c t) (ix2 (⟨(y 0).val, (y 0).isLt⟩ : Fin 1024) (⟨(y 1).val, (y 1).isLt⟩ : Fin 1408)) = prod (lhs m c) (rhs m c) (((cfg0.win 2).blk t).view.emb y)
  unfold k0_pay1
  simp only [pointwise, zero_add]
  refine Finset.sum_congr rfl fun k _ => congrArg₂ (· * ·) ?_ ?_
  · show V m c main_arg0 _ = _
    rw [V_main_arg0]
    exact at_ix2 (lhs m c) _ _ _ (congrArg (fun n => n * 1024 + 1 * (y 0).val) e0)
      (show win0_0.index t (1 : Fin 2) * 1024 + 1 * k.val = k.val by rw [e1]; omega)
  · show V m c main_arg1 _ = _
    rw [V_main_arg1]
    exact at_ix2 (rhs m c) _ _ _ (congrArg (fun n => n * 1408 + 1 * (y 1).val) e2)
      (show win0_1.index t (1 : Fin 2) * 1024 + 1 * k.val = k.val by rw [e3]; omega)

/-- The call leaves the whole product. -/
theorem result (c : Dev nD) : (dats m 0 c).arrAt 2 cfg0.N = prod (lhs m c) (rhs m c) :=
  (dats m 0 c).arrAt_eq_of_cover 2 (prod (lhs m c) (rhs m c)) (fun t _ => flushed_eq m c t) fun i => by
    have hi0 : (i 0).val < 4096 := (i 0).isLt
    have hi1 : (i 1).val < 2816 := (i 1).isLt
    obtain ⟨t, ht⟩ := covered ⟨(i 0).val / 1024, by omega⟩ ⟨(i 1).val / 1408, by omega⟩
    refine ⟨t, (blocks t).2.2.2.2, ?_⟩
    show i ∈ ((View.whole main_v0).slice (win0_2.rect t)).set
    rw [View.set_slice_whole]
    exact mem_tile _ i (s0 := 1024) (s1 := 1408) rfl rfl (by decide) (by decide) (congrArg (· * 1024) (congrFun ht 0)) (congrArg (· * 1408) (congrFun ht 1))

/-- The derivative of the product is the same sum. -/
theorem equal (a : Vec Ideal S4096x1024 .bf16) (b : Vec Ideal S2816x1024 .bf16) :
    (truncf (F := Ideal) .bf16 (Host.dotGeneral Cert.DhidRefIdeal.dot_S4096x1024_S2816x1024_S4096x2816_1_1_0_0_n_n none
      (extf .f32 a Cert.DhidRefIdeal.Gen.bitsLt_bf16_f32) (extf .f32 b Cert.DhidRefIdeal.Gen.bitsLt_bf16_f32)) Cert.DhidRefIdeal.Gen.bitsLt_bf16_f32) = prod a b := by
  refine funext fun y => (congrArg _ (eq_ix2 y)).trans ?_
  simp only [pointwise, zero_add]
  rfl

theorem frame_reference : Cert.quiescent_DhidRefIdeal := fun m ρ _ =>
  (θ_run Cert.DhidRefIdeal.defs _ _).mono (fun r h => ⟨fun c => (h c).2, sem_eq_zero_of_no_sems (by decide) r.2⟩)
    (Cert.DhidRefIdeal.Value.run m ρ)

theorem algebraic : Cert.algebraic_DhidIdeal_DhidRefIdeal := by
  intro m g m' g' _ h
  refine ⟨fun c => prod (lhs m c) (rhs m c), (θ_run Cert.DhidIdeal.defs _ _).mono (fun _ r c => ⟨(r c).1.trans (result m c), (r c).2⟩) (run_blocks m g),
    (θ_run Cert.DhidRefIdeal.defs _ _).mono (fun _ r c => ⟨(r c).1.trans ?_, (r c).2⟩) (Cert.DhidRefIdeal.Value.run m' g')⟩
  exact (equal _ _).trans (congrArg₂ prod (h c).1 (h c).2)

end Cert.Proof.Dhid

end
-- ==== Proof.Dwout.lean ====
/- The gradient of the second projection's weights: the product the call accumulates, block by block. -/
module

public import proofs.«01_k».proof.Defs
public import proofs.«01_k».proof.Proof.Product
public import proofs.«01_k».proof.Proof.Gen.DwoutIdeal.Value
public import proofs.«01_k».proof.Proof.Gen.DwoutRefIdeal.Run
public import Idealize.ShloMosaic.Lib.Tactic
public import Idealize.ShloMosaic.Adequacy
public import Idealize.ShloMosaic.Init

@[expose] public section

set_option maxRecDepth 16384

noncomputable section

namespace Cert.Proof.Dwout

open Idealize.ShloMosaic Idealize.ShloMosaic.TcCoe Idealize.ShloMosaic.Tactic Idealize.SL.Sem
open Cert.DwoutIdeal Cert.DwoutIdeal.Gen Cert.DwoutIdeal.Value
open scoped BigOperators

section Points

variable (c : Dev nD) (i : grid0.Coords) (a0 : Memref sig .tc .vmem S1024x1408 .bf16) (h0 : a0.IsWhole)
  (a1 : Memref sig .tc .vmem S1024x1024 .bf16) (h1 : a1.IsWhole) (a2 : Memref sig .tc .vmem S1408x1024 .bf16) (h2 : a2.IsWhole)
  (a3 : Memref sig .tc .vmem S1408x1024 .f32) (h3 : a3.IsWhole)
  (x0 : Vec Ideal S1024x1408 .bf16) (x1 : Vec Ideal S1024x1024 .bf16) (acc : Vec Ideal S1408x1024 .f32)

/-- The first point of a sum leaves the first product. -/
theorem first (hc : cond0_0 i) (hd : ¬cond0_1 i) :
    sout0_A_0 c i a0 h0 a1 h1 a2 h2 a3 h3 hc hd x0 x1 = k0_pay2 k0_pay1 x0 x1 := by
  unfold sout0_A_0
  rw [View.read_writes_eq_canon _ _ _ (scover0_A_0 c i a0 h0 a1 h1 a2 h2 a3 h3 hc hd x0 x1)]
  unfold kernelRun0_A
  dsimp only
  sl_unfold_words
  rw [View.canon_cons_unit_zero (S := S1408x1024) zero2, View.readCov_unit_zero (S := S1408x1024) _ zero2]
  simp only [View.readAt_eq_ld, h0.read_unread, h1.read_unread, View.ld_unit_zero (S := S1024x1408) zero2, View.ld_unit_zero (S := S1024x1024) zero2, View.ld_unit_zero (S := S1408x1024) zero2]

/-- A point in the middle adds its product. -/
theorem middle (hc : ¬cond0_0 i) (hd : ¬cond0_1 i) :
    sout0_B_0 c i a0 h0 a1 h1 a2 h2 a3 h3 hc hd x0 x1 acc = k0_pay2 acc x0 x1 := by
  unfold sout0_B_0
  rw [View.read_writes_eq_canon _ _ _ (scover0_B_0 c i a0 h0 a1 h1 a2 h2 a3 h3 hc hd x0 x1 acc)]
  unfold kernelRun0_B
  dsimp only
  rw [View.canon_unit_zero zero2]
  simp only [View.readAt_eq_ld, h0.read_unread, h1.read_unread, h3.read_unread, View.ld_unit_zero (S := S1024x1408) zero2, View.ld_unit_zero (S := S1024x1024) zero2, View.ld_unit_zero (S := S1408x1024) zero2]

/-- So does the last, -/
theorem last (hc : ¬cond0_0 i) (hd : cond0_1 i) :
    sout0_C_0 c i a0 h0 a1 h1 a2 h2 a3 h3 hc hd x0 x1 acc = k0_pay2 acc x0 x1 := by
  unfold sout0_C_0
  rw [View.read_writes_eq_canon _ _ _ (scover0_C_0 c i a0 h0 a1 h1 a2 h2 a3 h3 hc hd x0 x1 acc)]
  unfold kernelRun0_C
  dsimp only
  sl_unfold_words
  rw [View.canon_unit_zero zero2]
  simp only [View.readAt_eq_ld, h0.read_unread, h1.read_unread, h3.read_unread, View.ld_unit_zero (S := S1024x1408) zero2, View.ld_unit_zero (S := S1024x1024) zero2, View.ld_unit_zero (S := S1408x1024) zero2]

/-- which writes the sum out. -/
theorem stored (hc : ¬cond0_0 i) (hd : cond0_1 i) :
    out0_C_2 c i a0 h0 a1 h1 a2 h2 a3 h3 hc hd x0 x1 acc = k0_pay3 (k0_pay2 acc x0 x1) := by
  unfold out0_C_2
  rw [View.read_writes_eq_canon _ _ _ (cover0_C_2 c i a0 h0 a1 h1 a2 h2 a3 h3 hc hd x0 x1 acc)]
  unfold kernelRun0_C
  dsimp only
  sl_unfold_words
  rw [View.canon_unit_zero zero2, View.readCov_unit_zero (S := S1408x1024) _ zero2]
  simp only [View.readAt_eq_ld, h0.read_unread, h1.read_unread, h3.read_unread, View.ld_unit_zero (S := S1024x1408) zero2, View.ld_unit_zero (S := S1024x1024) zero2, View.ld_unit_zero (S := S1408x1024) zero2]

end Points

/-- A product at an index. -/
theorem product (acc : Vec Ideal S1408x1024 .f32) (x0 : Vec Ideal S1024x1408 .bf16) (x1 : Vec Ideal S1024x1024 .bf16) (r : Fin 1408) (s : Fin 1024) :
    k0_pay2 acc x0 x1 (ix2 r s) = acc (ix2 r s) + ∑ k : Fin 1024, x0 (ix2 k r) * x1 (ix2 k s) := by
  unfold k0_pay2
  simp only [pointwise, zero_add]

theorem zero (y : S1408x1024.Idx) : k0_pay1 (F := Ideal) y = 0 := by
  unfold k0_pay1
  simp only [pointwise]

variable (m : (ℓ : Loc nD τ sig) → Buf (Elt Ideal) ℓ) (ρ : Dev nD → PrngReg)

/-- The blocks point `t` reads. -/
abbrev lhsAt (c : Dev nD) (t : Fin cfg0.N) : Vec Ideal S1024x1408 .bf16 := iblk m c 0 t
abbrev rhsAt (c : Dev nD) (t : Fin cfg0.N) : Vec Ideal S1024x1024 .bf16 := iblk m c 1 t

abbrev lhs (c : Dev nD) : Vec Ideal S4096x2816 .bf16 := m ((c : Thread nD τ).loc main_arg0)
abbrev rhs (c : Dev nD) : Vec Ideal S4096x1024 .bf16 := m ((c : Thread nD τ).loc main_arg1)

/-- Where these blocks lie in the arguments. -/
theorem blocks : ∀ t : Fin cfg0.N, win0_0.index t = ![t.val % 4, t.val / 4] ∧ win0_1.index t = ![t.val % 4, 0] :=
  (by decide +kernel : ∀ t : Fin grid0.N, _)

/-- The terms point `n` adds. -/
def term (c : Dev nD) (r : Fin 1408) (s : Fin 1024) (n : ℕ) (h : n < cfg0.N) (k : Fin 1024) : EReal :=
  lhsAt m c ⟨n, h⟩ (ix2 k r) * rhsAt m c ⟨n, h⟩ (ix2 k s)

/-- They are terms of the whole sum. -/
theorem term_eq (c : Dev nD) (i : Fin 2816) (r : Fin 1408) (s : Fin 1024) (n : ℕ) (h : n < cfg0.N) (k : Fin 1024) (l : Fin 4096)
    (hi : i.val = n / 4 * 1408 + r.val) (hl : l.val = n % 4 * 1024 + k.val) :
    term m c r s n h k = lhs m c (ix2 l i) * rhs m c (ix2 l s) := by
  obtain ⟨e0, e1⟩ := blocks ⟨n, h⟩
  refine congrArg₂ (· * ·) ?_ ?_
  · show V m c main_arg0 _ = _
    rw [V_main_arg0]
    refine at_ix2 (lhs m c) _ _ _ ((congrArg (fun q => q * 1024 + 1 * k.val) (congrFun e0 0)).trans ?_) ((congrArg (fun q => q * 1408 + 1 * r.val) (congrFun e0 1)).trans ?_)
    · show n % 4 * 1024 + 1 * k.val = l.val; omega
    · show n / 4 * 1408 + 1 * r.val = i.val; omega
  · show V m c main_arg1 _ = _
    rw [V_main_arg1]
    refine at_ix2 (rhs m c) _ _ _ ((congrArg (fun q => q * 1024 + 1 * k.val) (congrFun e1 0)).trans ?_) ((congrArg (fun q => q * 1024 + 1 * s.val) (congrFun e1 1)).trans ?_)
    · show n % 4 * 1024 + 1 * k.val = l.val; omega
    · show 0 * 1024 + 1 * s.val = s.val; omega

/-- What the last point of a sum writes out. -/
theorem written (c : Dev nD) (i : Fin 2816) (r : Fin 1408) (s : Fin 1024) (q : ℕ) (h : 4 * q + 3 < cfg0.N) (hi : i.val = q * 1408 + r.val) :
    (outsAt0 m c (4 * q + 3) h).1 (ix2 r s) = ∑ l : Fin 4096, lhs m c (ix2 l i) * rhs m c (ix2 l s) := by
  refine Eq.trans ?_ (accumulated (J := 3) (T := 1024) rfl (fun n h => (outsAt0 m c n h).2 (ix2 r s)) (term m c r s)
    (fun n h h0 => ?_) (fun n h h0 => ?_) q h _ (fun p k hp l hl => term_eq m c i r s _ hp k l (by omega) (by omega)))
  · rw [outsAt0_C m c ⟨4 * q + 3, h⟩ (by dsimp only; omega) (by dsimp only; omega)]
    dsimp only
    rw [stored, last]
    unfold k0_pay3
    simp only [pointwise]
  · rw [outsAt0_A m c ⟨n, h⟩ h0 (by dsimp only; omega)]
    dsimp only
    rw [first, product, zero, zero_add]
    rfl
  · by_cases h1 : (n + 1) % 4 = 3
    · rw [outsAt0_C m c ⟨n + 1, h⟩ h0 h1]
      dsimp only
      rw [last, product]
      rfl
    · rw [outsAt0_B m c ⟨n + 1, h⟩ h0 h1]
      dsimp only
      rw [middle, product]
      rfl

/-- The call leaves the whole product. -/
theorem result (c : Dev nD) (i : Fin 2816) (j : Fin 1024) :
    (G2 m c : Vec Ideal S2816x1024 .bf16) (ix2 i j) = ∑ k : Fin 4096, lhs m c (ix2 k i) * rhs m c (ix2 k j) := by
  have hN : cfg0.N = 8 := N_0
  have hp : 4 * (i.val / 1408) + 3 < cfg0.N := by omega
  refine Eq.trans ?_ (written m c i ⟨i.val % 1408, Nat.mod_lt _ (by decide)⟩ j _ hp (by dsimp only; omega))
  have e : pt2Of (ix2 i j) = 4 * (i.val / 1408) + 3 := by
    show 4 * (1 * (i.val / 1408 - 0) + 1 * (j.val / 1024 - 0)) + 3 = _
    omega
  unfold G2
  rw [dif_pos (by rw [e]; exact hp), outsAt0_sweep, fold0_congr m c _ _ _ (by omega) e]
  exact at_ix2 _ _ _ _ rfl (Nat.mod_eq_of_lt j.isLt)

/-- So it agrees with the derivative of the product. -/
theorem equal (a : Vec Ideal S4096x2816 .bf16) (b : Vec Ideal S4096x1024 .bf16) (c : Dev nD) (ha : a = lhs m c) (hb : b = rhs m c) :
    (truncf (F := Ideal) .bf16 (transpose S2816x1024 [1, 0] (Host.dotGeneral Cert.DwoutRefIdeal.dot_S4096x1024_S4096x2816_S1024x2816_0_0_1_1_n_n none
      (extf .f32 b Cert.DwoutRefIdeal.Gen.bitsLt_bf16_f32) (extf .f32 a Cert.DwoutRefIdeal.Gen.bitsLt_bf16_f32)) Cert.DwoutRefIdeal.Gen.transposes_S1024x2816_S2816x1024_1_0)
      Cert.DwoutRefIdeal.Gen.bitsLt_bf16_f32) = (G2 m c : Vec Ideal S2816x1024 .bf16) := by
  subst ha hb
  refine funext fun y => (congrArg _ (eq_ix2 y)).trans (Eq.trans ?_ ((result m c (y 0) (y 1)).symm.trans (congrArg _ (eq_ix2 y).symm)))
  simp only [pointwise, zero_add]
  exact Finset.sum_congr rfl fun k _ => mul_comm _ _

theorem frame_reference : Cert.quiescent_DwoutRefIdeal := fun m ρ _ =>
  (θ_run Cert.DwoutRefIdeal.defs _ _).mono (fun r h => ⟨fun c => (h c).2, sem_eq_zero_of_no_sems (by decide) r.2⟩)
    (Cert.DwoutRefIdeal.Value.run m ρ)

theorem algebraic : Cert.algebraic_DwoutIdeal_DwoutRefIdeal := by
  intro m g m' g' _ h
  refine ⟨G2 m, run m g, (θ_run Cert.DwoutRefIdeal.defs _ _).mono (fun _ r c => ?_) (Cert.DwoutRefIdeal.Value.run m' g')⟩
  exact ⟨(r c).1.trans (equal m _ _ c (h c).1 (h c).2), (r c).2⟩

end Cert.Proof.Dwout

end
-- ==== Proof.Logistic.lean ====
/- The logistic function of the gates. -/
module

public import Idealize.ShloMosaic.Lib.IdealHost
public import Idealize.ShloMosaic.Lib.Pointwise

@[expose] public section

noncomputable section

namespace Cert.Proof

open Idealize.ShloMosaic

/-- The logistic function as both programs write it. -/
def logit (a : EReal) : EReal := Ideal.div 1 (1 + Ideal.exp (-a))

theorem logit_bot : logit ⊥ = 0 := by
  have h : (1 : EReal) + Ideal.exp (-⊥) = ⊤ := by
    rw [EReal.neg_bot]; exact EReal.coe_add_top 1
  unfold logit
  rw [h]
  simp [Ideal.div]

theorem logit_top : logit ⊤ = 1 := by
  have h : (1 : EReal) + Ideal.exp (-⊤) = 1 := by
    rw [EReal.neg_top]; exact add_zero 1
  simp [logit, Ideal.div, h]

theorem logit_coe (r : ℝ) : logit (r : EReal) = (((1 + Real.exp (-r))⁻¹ : ℝ) : EReal) := by
  have hp : (0 : ℝ) < 1 + Real.exp (-r) := by positivity
  have e : (1 : EReal) + Ideal.exp (-(r : EReal)) = ((1 + Real.exp (-r) : ℝ) : EReal) := by
    rw [← EReal.coe_neg]; show (1 : EReal) + ((Real.exp (-r) : ℝ) : EReal) = _; rw [EReal.coe_add]; rfl
  unfold logit Ideal.div
  rw [e, if_neg (by exact_mod_cast hp.ne'), one_mul, EReal.coe_inv]

/-- A gradient `c` taken through a gate: `c` times the derivative of `a * logit a`. -/
def grad (a c : EReal) : EReal := c * (logit a * (1 + a * (1 - logit a)))

/-- The derivative expanded, for a finite `c`. -/
theorem grad_expand (a : EReal) (c : ℝ) :
    c * logit a + (a * c) * (logit a * (1 - logit a)) = grad a c := by
  unfold grad
  induction a with
  | bot => simp [logit_bot]
  | top =>
    have h : (1 : EReal) - 1 = 0 := by rw [← EReal.coe_one, ← EReal.coe_sub]; simp
    simp [logit_top, h]
  | coe r =>
    rw [logit_coe]
    have e : (1 : EReal) = ((1 : ℝ) : EReal) := rfl
    rw [e]
    norm_cast
    ring

/-- It may be expanded too, whatever `c`, where the gate is shut. -/
theorem grad_shut (a c : EReal) (h : a * logit a = 0) : c * logit a + (a * c) * (logit a * (1 - logit a)) = grad a c := by
  unfold grad
  induction a with
  | bot => simp [logit_bot]
  | top => rw [logit_top, mul_one] at h; exact absurd h (by decide)
  | coe r =>
    rw [logit_coe, ← EReal.coe_mul] at h
    have hp : (1 + Real.exp (-r))⁻¹ ≠ 0 := by positivity
    have hr : r = 0 := (mul_eq_zero.mp (by exact_mod_cast h)).resolve_right hp
    subst hr
    simp

/-- The derivative of `t * (a * logit a)` by `a`, of a gradient `p` that is finite, and zero where the product is infinite. -/
theorem grad_times (t a p : EReal) (hp : ∃ r : ℝ, p = r) (h : (t = ⊥ ∨ t = ⊤) → a * logit a ≠ 0 → p = 0) :
    (t * p) * logit a + (a * (t * p)) * (logit a * (1 - logit a)) = grad a (p * t) := by
  rw [mul_comm p t]
  by_cases ha : a * logit a = 0
  · exact grad_shut a _ ha
  · obtain ⟨c, hc⟩ : ∃ c : ℝ, t * p = c := by
      induction t with
      | bot => exact ⟨0, by rw [h (.inl rfl) ha, mul_zero]; rfl⟩
      | top => exact ⟨0, by rw [h (.inr rfl) ha, mul_zero]; rfl⟩
      | coe r => obtain ⟨q, rfl⟩ := hp; exact ⟨r * q, (EReal.coe_mul r q).symm⟩
    rw [hc]
    exact grad_expand a c

/-- It is finite when `c` is. -/
theorem grad_real (a : EReal) (c : ℝ) : ∃ x : ℝ, grad a c = x := by
  unfold grad
  induction a with
  | bot => exact ⟨0, by simp [logit_bot]⟩
  | top =>
    have h : (1 : EReal) - 1 = 0 := by rw [← EReal.coe_one, ← EReal.coe_sub]; simp
    exact ⟨c, by simp [logit_top, h]⟩
  | coe r =>
    refine ⟨c * ((1 + Real.exp (-r))⁻¹ * (1 + r * (1 - (1 + Real.exp (-r))⁻¹))), ?_⟩
    rw [logit_coe]
    have e : (1 : EReal) = ((1 : ℝ) : EReal) := rfl
    rw [e]
    norm_cast

/-- A number below infinity in size is a real number. -/
theorem coe_of_abs_lt_top (x : EReal) (h : max x (-x) < ⊤) : ∃ r : ℝ, x = r := by
  induction x with
  | bot => simp at h
  | top => simp at h
  | coe r => exact ⟨r, rfl⟩

end Cert.Proof

end
-- ==== Proof.Dact.lean ====
/- The gradient of the gate: elementwise over blocks of rows, the two halves of the result from the two halves of the input.

   The one place where the reference groups its terms otherwise is the derivative of `a * s`, `s` the logistic function of
   `a`: the kernel multiplies the gradient `c` into `s * (1 + a * (1 - s))`, the reference adds `c * s` and
   `(a * c) * (s * (1 - s))`.  The two agree when `c` is finite, which is the precondition. -/
module

public import proofs.«01_k».proof.Defs
public import proofs.«01_k».proof.Proof.Product
public import proofs.«01_k».proof.Proof.Logistic
public import proofs.«01_k».proof.Proof.Gen.DactIdeal.Value
public import proofs.«01_k».proof.Proof.Gen.DactRefIdeal.Run
public import Idealize.ShloMosaic.Lib.Tactic
public import Idealize.ShloMosaic.Lib.IdealHost
public import Idealize.ShloMosaic.Lib.KernelVsHost
public import Idealize.ShloMosaic.Adequacy
public import Idealize.ShloMosaic.Init

@[expose] public section

set_option maxRecDepth 16384

noncomputable section

namespace Cert.Proof.Dact

open Idealize.ShloMosaic Idealize.ShloMosaic.TcCoe Idealize.ShloMosaic.Tactic Idealize.SL.Sem
open Cert.DactIdeal Cert.DactIdeal.Gen Cert.DactIdeal.Value

/-- The whole result: columns below 2816 the gradient of the gate's input, the others that of the ungated half. -/
def out (u : Vec Ideal S4096x5632 .bf16) (d : Vec Ideal S4096x2816 .bf16) : Vec Ideal S4096x5632 .bf16 := fun y =>
  if h : (y 1).val < 2816 then
    grad (u (ix2 (y 0) ⟨(y 1).val, by omega⟩)) (d (ix2 (y 0) ⟨(y 1).val, h⟩) * u (ix2 (y 0) ⟨(y 1).val + 2816, by omega⟩))
  else
    d (ix2 (y 0) ⟨(y 1).val - 2816, by have : (y 1).val < 5632 := (y 1).isLt; omega⟩)
      * (u (ix2 (y 0) ⟨(y 1).val - 2816, by have : (y 1).val < 5632 := (y 1).isLt; omega⟩)
        * logit (u (ix2 (y 0) ⟨(y 1).val - 2816, by have : (y 1).val < 5632 := (y 1).isLt; omega⟩)))

/-- What a point leaves at a column of the first half. -/
theorem left (p0 p1 p2 : Vec Ideal S256x2816 .bf16) (y : S256x5632.Idx) (h : (y 1).val < 2816) :
    E3 p0 p1 p2 y = grad (p2 (ix2 (⟨(y 0).val, (y 0).isLt⟩ : Fin 256) ⟨(y 1).val, h⟩))
      (p0 (ix2 (⟨(y 0).val, (y 0).isLt⟩ : Fin 256) ⟨(y 1).val, h⟩) * p1 (ix2 (⟨(y 0).val, (y 0).isLt⟩ : Fin 256) ⟨(y 1).val, h⟩)) := by
  have hs : csel3_0 y = (⟨0, by omega⟩ : Fin 2) := Fin.ext (show (y 1).val / 2816 = 0 by omega)
  have hi : ix3_0 y = ix2 (⟨(y 0).val, (y 0).isLt⟩ : Fin 256) (⟨(y 1).val, h⟩ : Fin 2816) := by
    funext a; match a with
    | ⟨0, _⟩ => rfl
    | ⟨1, _⟩ => exact Fin.ext (show (y 1).val % 2816 = (y 1).val by omega)
  show FloatOps.truncf (F := Ideal) .bf16 bitsLt_bf16_f32 (Cat3_0 p0 p1 p2 (csel3_0 y) (ix3_0 y)) = _
  rw [hs, hi]
  simp only [pointwise, zero_sub, Ideal.ofBits_one_f32]
  rfl

/-- What a point leaves at a column of the second half. -/
theorem right (p0 p1 p2 : Vec Ideal S256x2816 .bf16) (y : S256x5632.Idx) (h : ¬(y 1).val < 2816) (k : Fin 2816) (hk : k.val = (y 1).val - 2816) :
    E3 p0 p1 p2 y = p0 (ix2 (⟨(y 0).val, (y 0).isLt⟩ : Fin 256) k)
      * (p2 (ix2 (⟨(y 0).val, (y 0).isLt⟩ : Fin 256) k) * logit (p2 (ix2 (⟨(y 0).val, (y 0).isLt⟩ : Fin 256) k))) := by
  have hy : (y 1).val < 5632 := (y 1).isLt
  have hs : csel3_0 y = (⟨1, by omega⟩ : Fin 2) := Fin.ext (show (y 1).val / 2816 = 1 by omega)
  have hi : ix3_0 y = ix2 (⟨(y 0).val, (y 0).isLt⟩ : Fin 256) k := by
    funext a; match a with
    | ⟨0, _⟩ => rfl
    | ⟨1, _⟩ => exact Fin.ext (show (y 1).val % 2816 = k.val by omega)
  show FloatOps.truncf (F := Ideal) .bf16 bitsLt_bf16_f32 (Cat3_0 p0 p1 p2 (csel3_0 y) (ix3_0 y)) = _
  rw [hs, hi]
  simp only [pointwise, zero_sub, Ideal.ofBits_one_f32]
  rfl

variable (m : (ℓ : Loc nD τ sig) → Buf (Elt Ideal) ℓ) (ρ : Dev nD → PrngReg)

abbrev gate (c : Dev nD) : Vec Ideal S4096x5632 .bf16 := m ((c : Thread nD τ).loc main_arg0)
abbrev hid (c : Dev nD) : Vec Ideal S4096x2816 .bf16 := m ((c : Thread nD τ).loc main_arg1)

/-- The blocks point `t` reads: the two halves of the gate's input, and the gradient of the hidden values. -/
abbrev gateAt (c : Dev nD) (t : Fin cfg0.N) : Vec Ideal S256x2816 .bf16 := iblk m c 0 t
abbrev plainAt (c : Dev nD) (t : Fin cfg0.N) : Vec Ideal S256x2816 .bf16 := iblk m c 1 t
abbrev hidAt (c : Dev nD) (t : Fin cfg0.N) : Vec Ideal S256x2816 .bf16 := iblk m c 2 t

/-- Where the blocks of a point lie. -/
theorem blocks : ∀ t : Fin cfg0.N, win0_0.index t = ![t.val, 0] ∧ win0_1.index t = ![t.val, 1] ∧ win0_2.index t = ![t.val, 0]
    ∧ win0_3.index t = ![t.val, 0] ∧ win0_3.flush t = true :=
  (by decide +kernel : ∀ t : Fin grid0.N, _)

theorem gateAt_apply (c : Dev nD) (t : Fin cfg0.N) (r : Fin 256) (k : Fin 2816) (i : Fin 4096) (j : Fin 5632)
    (hi : i.val = t.val * 256 + r.val) (hj : j.val = k.val) : gateAt m c t (ix2 r k) = gate m c (ix2 i j) := by
  have e := (blocks t).1
  have e0 : win0_0.index t (0 : Fin 2) = t.val := congrFun e 0
  have e1 : win0_0.index t (1 : Fin 2) = 0 := congrFun e 1
  show V m c main_arg0 (((cfg0.win 0).blk t).view.emb _) = _
  rw [V_main_arg0]
  refine congrArg (gate m c) (funext fun a => Fin.ext ?_)
  match a with
  | ⟨0, _⟩ => show win0_0.index t (0 : Fin 2) * 256 + 1 * r.val = i.val; rw [e0]; omega
  | ⟨1, _⟩ => show win0_0.index t (1 : Fin 2) * 2816 + 1 * k.val = j.val; rw [e1]; omega

theorem plainAt_apply (c : Dev nD) (t : Fin cfg0.N) (r : Fin 256) (k : Fin 2816) (i : Fin 4096) (j : Fin 5632)
    (hi : i.val = t.val * 256 + r.val) (hj : j.val = k.val + 2816) : plainAt m c t (ix2 r k) = gate m c (ix2 i j) := by
  have e := (blocks t).2.1
  have e0 : win0_1.index t (0 : Fin 2) = t.val := congrFun e 0
  have e1 : win0_1.index t (1 : Fin 2) = 1 := congrFun e 1
  show V m c main_arg0 (((cfg0.win 1).blk t).view.emb _) = _
  rw [V_main_arg0]
  refine congrArg (gate m c) (funext fun a => Fin.ext ?_)
  match a with
  | ⟨0, _⟩ => show win0_1.index t (0 : Fin 2) * 256 + 1 * r.val = i.val; rw [e0]; omega
  | ⟨1, _⟩ => show win0_1.index t (1 : Fin 2) * 2816 + 1 * k.val = j.val; rw [e1]; omega

theorem hidAt_apply (c : Dev nD) (t : Fin cfg0.N) (r : Fin 256) (k : Fin 2816) (i : Fin 4096) (j : Fin 2816)
    (hi : i.val = t.val * 256 + r.val) (hj : j.val = k.val) : hidAt m c t (ix2 r k) = hid m c (ix2 i j) := by
  have e := (blocks t).2.2.1
  have e0 : win0_2.index t (0 : Fin 2) = t.val := congrFun e 0
  have e1 : win0_2.index t (1 : Fin 2) = 0 := congrFun e 1
  show V m c main_arg1 (((cfg0.win 2).blk t).view.emb _) = _
  rw [V_main_arg1]
  refine congrArg (hid m c) (funext fun a => Fin.ext ?_)
  match a with
  | ⟨0, _⟩ => show win0_2.index t (0 : Fin 2) * 256 + 1 * r.val = i.val; rw [e0]; omega
  | ⟨1, _⟩ => show win0_2.index t (1 : Fin 2) * 2816 + 1 * k.val = j.val; rw [e1]; omega

/-- A point's block is its rows of the whole result. -/
theorem flushed_eq (c : Dev nD) (t : Fin cfg0.N) :
    (dats m 0 c).flushed 3 t = ((cfg0.win 3).blk t).view.read (Elt Ideal) (out (gate m c) (hid m c)) := by
  have e := (blocks t).2.2.2.1
  have e0 : win0_3.index t (0 : Fin 2) = t.val := congrFun e 0
  have e1 : win0_3.index t (1 : Fin 2) = 0 := congrFun e 1
  rw [flushed3]
  unfold out0_3
  simp only [View.ld_unit_zero (S := S256x2816) zero2]
  funext y
  have hy : (y 1).val < 5632 := (y 1).isLt
  refine (canon3_eq (hidAt m c t) (plainAt m c t) (gateAt m c t) y).trans ?_
  show _ = out (gate m c) (hid m c) (((cfg0.win 3).blk t).view.emb y)
  have v0 : ((((cfg0.win 3).blk t).view.emb y) 0).val = t.val * 256 + (y 0).val := by
    show win0_3.index t (0 : Fin 2) * 256 + 1 * (y 0).val = _; rw [e0]; omega
  have v1 : ((((cfg0.win 3).blk t).view.emb y) 1).val = (y 1).val := by
    show win0_3.index t (1 : Fin 2) * 5632 + 1 * (y 1).val = _; rw [e1]; omega
  unfold out
  by_cases h : (y 1).val < 2816
  · rw [dif_pos (by rw [v1]; exact h), left _ _ _ y h]
    refine congrArg₂ grad (gateAt_apply m c t _ _ _ _ v0 v1) (congrArg₂ (· * ·) (hidAt_apply m c t _ _ _ _ v0 v1) (plainAt_apply m c t _ _ _ _ v0 ?_))
    exact congrArg (· + 2816) v1
  · rw [dif_neg (by rw [v1]; exact h), right _ _ _ y h ⟨(y 1).val - 2816, by omega⟩ rfl]
    have g := gateAt_apply m c t ⟨(y 0).val, (y 0).isLt⟩ ⟨(y 1).val - 2816, by omega⟩ _ ⟨((((cfg0.win 3).blk t).view.emb y) 1).val - 2816, by rw [v1]; omega⟩ v0 (congrArg (· - 2816) v1)
    exact congrArg₂ (· * ·) (hidAt_apply m c t _ _ _ _ v0 (congrArg (· - 2816) v1)) (congrArg₂ (· * ·) g (congrArg logit g))

/-- The call leaves the whole result. -/
theorem result (c : Dev nD) : (dats m 0 c).arrAt 3 cfg0.N = out (gate m c) (hid m c) :=
  (dats m 0 c).arrAt_eq_of_cover 3 (out (gate m c) (hid m c)) (fun t _ => flushed_eq m c t) fun i => by
    have hi0 : (i 0).val < 4096 := (i 0).isLt
    have hi1 : (i 1).val < 5632 := (i 1).isLt
    have hN : cfg0.N = 16 := (by decide +kernel : grid0.N = 16)
    obtain ⟨t, ht⟩ : ∃ t : Fin cfg0.N, t.val = (i 0).val / 256 := ⟨⟨(i 0).val / 256, by rw [hN]; omega⟩, rfl⟩
    obtain ⟨-, -, -, e, hf⟩ := blocks t
    have e0 : win0_3.index t (0 : Fin 2) = t.val := congrFun e 0
    have e1 : win0_3.index t (1 : Fin 2) = 0 := congrFun e 1
    refine ⟨t, hf, ?_⟩
    show i ∈ ((View.whole main_v0).slice (win0_3.rect t)).set
    rw [View.set_slice_whole, Rect.mem_set_unit]
    intro a
    match a with
    | ⟨0, _⟩ => show win0_3.index t (0 : Fin 2) * 256 ≤ (i 0).val ∧ (i 0).val < win0_3.index t (0 : Fin 2) * 256 + 256; omega
    | ⟨1, _⟩ => show win0_3.index t (1 : Fin 2) * 5632 ≤ (i 1).val ∧ (i 1).val < win0_3.index t (1 : Fin 2) * 5632 + 5632; omega

/-- The precondition's side conditions. -/
instance facts_pre : Cert.Pre_gate_finite.Facts where
  bitsLt_bf16_f32 := by decide
  slices_S4096x5632_S4096x2816_0_2816 := by decide
  bcast_S_S4096x2816 := by decide

/-- The precondition at an index: the gradient that reaches the gate there is a real number. -/
theorem finite (u : Vec Ideal S4096x5632 .bf16) (d : Vec Ideal S4096x2816 .bf16)
    (h : Cert.Pre_gate_finite.fn (F := Ideal) u d = fun _ => 1#1) (r : Fin 4096) (k : Fin 2816) (j : Fin 5632) (hj : j.val = k.val + 2816) :
    ∃ x : ℝ, d (ix2 r k) * u (ix2 r j) = x := by
  have e := congrFun h (ix2 r k)
  unfold Cert.Pre_gate_finite.fn at e
  have top : Ideal.ofBits .f32 0x7F800000#32 = ⊤ := by simp [Ideal.ofBits, Ideal.ieee]
  have ij : (⟨![0, 2816] (1 : Fin 2) + k.val, by show 2816 + k.val < 5632; omega⟩ : Fin 5632) = j :=
    Fin.ext ((Nat.add_comm 2816 k.val).trans hj.symm)
  have ir : (⟨![0, 2816] (0 : Fin 2) + r.val, by show 0 + r.val < 4096; omega⟩ : Fin 4096) = r := Fin.ext (Nat.zero_add _)
  simp only [pointwise, top] at e
  rw [ij, ir] at e
  refine coe_of_abs_lt_top _ ?_
  by_contra hn
  rw [show decide (FloatOps.absf (F := Ideal) (φ := .f32) (d (ix2 r k) * u (ix2 r j)) < ⊤) = false from decide_eq_false hn] at e
  exact absurd e (by decide)

namespace Reference
open Cert.DactRefIdeal.Gen (slices_S4096x5632_S4096x2816_0_0 slices_S4096x5632_S4096x2816_0_2816 bcast_S_S4096x2816 pads_S4096x2816_S4096x5632_000_281600 pads_S4096x2816_S4096x5632_000_028160 h_S_)

abbrev gateHalf (u : Vec Ideal S4096x5632 .bf16) : FVec Ideal S4096x2816 .f32 :=
  extractStridedSlice S4096x2816 ![0, 0] (extf (F := Ideal) .f32 u Cert.DactRefIdeal.Gen.bitsLt_bf16_f32) slices_S4096x5632_S4096x2816_0_0
abbrev plainHalf (u : Vec Ideal S4096x5632 .bf16) : FVec Ideal S4096x2816 .f32 :=
  extractStridedSlice S4096x2816 ![0, 2816] (extf (F := Ideal) .f32 u Cert.DactRefIdeal.Gen.bitsLt_bf16_f32) slices_S4096x5632_S4096x2816_0_2816
abbrev ones : FVec Ideal S4096x2816 .f32 := broadcastInDim S4096x2816 ![] bcast_S_S4096x2816 (constant (F := Ideal) Cert.DactRefIdeal.S_ .f32 0x3F800000#32)
abbrev logits (u : Vec Ideal S4096x5632 .bf16) : FVec Ideal S4096x2816 .f32 := Host.divf ones (addf ones (Host.exp (Host.negf (gateHalf u))))
abbrev wide (d : Vec Ideal S4096x2816 .bf16) : FVec Ideal S4096x2816 .f32 := extf (F := Ideal) .f32 d Cert.DactRefIdeal.Gen.bitsLt_bf16_f32

/-- The reference's gradient of the gate's input. -/
abbrev gateGrad (u : Vec Ideal S4096x5632 .bf16) (d : Vec Ideal S4096x2816 .bf16) : FVec Ideal S4096x2816 .f32 :=
  addf (mulf (mulf (wide d) (plainHalf u)) (logits u))
    (mulf (mulf (gateHalf u) (mulf (wide d) (plainHalf u))) (mulf (logits u) (subf ones (logits u))))

/-- The reference's gradient of the ungated half. -/
abbrev plainGrad (u : Vec Ideal S4096x5632 .bf16) (d : Vec Ideal S4096x2816 .bf16) : FVec Ideal S4096x2816 .f32 :=
  mulf (mulf (gateHalf u) (logits u)) (wide d)

theorem gateHalf_apply (u : Vec Ideal S4096x5632 .bf16) (r : Fin 4096) (k : Fin 2816) (j : Fin 5632) (hj : j.val = k.val) :
    gateHalf u (ix2 r k) = u (ix2 r j) := by
  show u (fun a => _) = _
  refine congrArg u (funext fun a => Fin.ext ?_)
  match a with
  | ⟨0, _⟩ => exact Nat.zero_add _
  | ⟨1, _⟩ => exact (Nat.zero_add _).trans hj.symm

theorem plainHalf_apply (u : Vec Ideal S4096x5632 .bf16) (r : Fin 4096) (k : Fin 2816) (j : Fin 5632) (hj : j.val = k.val + 2816) :
    plainHalf u (ix2 r k) = u (ix2 r j) := by
  show u (fun a => _) = _
  refine congrArg u (funext fun a => Fin.ext ?_)
  match a with
  | ⟨0, _⟩ => exact Nat.zero_add _
  | ⟨1, _⟩ => exact (Nat.add_comm _ _).trans hj.symm

theorem logits_apply (u : Vec Ideal S4096x5632 .bf16) (r : Fin 4096) (k : Fin 2816) (j : Fin 5632) (hj : j.val = k.val) :
    logits u (ix2 r k) = logit (u (ix2 r j)) := by
  rw [← gateHalf_apply u r k j hj]
  unfold logits ones
  simp only [pointwise, Ideal.ofBits_one_f32]
  rfl

theorem gateGrad_apply (u : Vec Ideal S4096x5632 .bf16) (d : Vec Ideal S4096x2816 .bf16) (r : Fin 4096) (k : Fin 2816)
    (j : Fin 5632) (hj : j.val = k.val) (j' : Fin 5632) (hj' : j'.val = k.val + 2816) (h : ∃ x : ℝ, d (ix2 r k) * u (ix2 r j') = x) :
    gateGrad u d (ix2 r k) = grad (u (ix2 r j)) (d (ix2 r k) * u (ix2 r j')) := by
  obtain ⟨x, hx⟩ := h
  have e : ones (ix2 r k) = (1 : EReal) := by unfold ones; simp only [pointwise, Ideal.ofBits_one_f32]
  have g := gateHalf_apply u r k j hj
  have p := plainHalf_apply u r k j' hj'
  have l := logits_apply u r k j hj
  rw [hx, ← grad_expand, ← hx, ← l, ← g, ← p, ← e]
  rfl

/-- The reference's result. -/
abbrev whole (u : Vec Ideal S4096x5632 .bf16) (d : Vec Ideal S4096x2816 .bf16) : Vec Ideal S4096x5632 .bf16 :=
  truncf .bf16 (addf (pad S4096x5632 ![0, 2816] ![0, 0] ![0, 0] (plainGrad u d) (constant (F := Ideal) Cert.DactRefIdeal.S_ .f32 0x00000000#32)
      pads_S4096x2816_S4096x5632_000_281600 h_S_)
    (pad S4096x5632 ![0, 0] ![0, 2816] ![0, 0] (gateGrad u d) (constant (F := Ideal) Cert.DactRefIdeal.S_ .f32 0x00000000#32)
      pads_S4096x2816_S4096x5632_000_028160 h_S_)) Cert.DactRefIdeal.Gen.bitsLt_bf16_f32

/-- The reference's result is the kernel's, where the precondition holds. -/
theorem equal (u : Vec Ideal S4096x5632 .bf16) (d : Vec Ideal S4096x2816 .bf16)
    (h : Cert.Pre_gate_finite.fn (F := Ideal) u d = fun _ => 1#1) : whole u d = out u d := by
  funext y
  have hy : (y 1).val < 5632 := (y 1).isLt
  have z : (constant (F := Ideal) Cert.DactRefIdeal.S_ .f32 0x00000000#32 (Shape.Idx.first h_S_) : EReal) = 0 := by
    simp only [pointwise]
  show (pad S4096x5632 ![0, 2816] ![0, 0] ![0, 0] (plainGrad u d) (constant (F := Ideal) Cert.DactRefIdeal.S_ .f32 0x00000000#32)
      pads_S4096x2816_S4096x5632_000_281600 h_S_ y : EReal)
    + pad S4096x5632 ![0, 0] ![0, 2816] ![0, 0] (gateGrad u d) (constant (F := Ideal) Cert.DactRefIdeal.S_ .f32 0x00000000#32)
      pads_S4096x2816_S4096x5632_000_028160 h_S_ y = _
  unfold out
  by_cases hl : (y 1).val < 2816
  · rw [dif_pos hl]
    have a : pad S4096x5632 ![0, 2816] ![0, 0] ![0, 0] (plainGrad u d) (constant (F := Ideal) Cert.DactRefIdeal.S_ .f32 0x00000000#32)
        pads_S4096x2816_S4096x5632_000_281600 h_S_ y = (0 : EReal) :=
      (pad_apply_of_not_inside _ _ _ _ _ _ _ y (1 : Fin 2) (fun q => absurd (show 2816 ≤ (y 1).val from q.1) (by omega))).trans z
    have b : pad S4096x5632 ![0, 0] ![0, 2816] ![0, 0] (gateGrad u d) (constant (F := Ideal) Cert.DactRefIdeal.S_ .f32 0x00000000#32)
        pads_S4096x2816_S4096x5632_000_028160 h_S_ y = gateGrad u d (ix2 (y 0) ⟨(y 1).val, hl⟩) :=
      pad_apply_of_inside _ _ _ _ _ _ _ y (ix2 (y 0) ⟨(y 1).val, hl⟩) (fun q => match q with
        | ⟨0, _⟩ => show (y 0).val = 0 + (y 0).val * (0 + 1) by omega
        | ⟨1, _⟩ => show (y 1).val = 0 + (y 1).val * (0 + 1) by omega)
    rw [a, b]
    exact (zero_add _).trans (gateGrad_apply u d (y 0) _ _ rfl _ rfl (finite u d h (y 0) ⟨(y 1).val, hl⟩ ⟨(y 1).val + 2816, by omega⟩ rfl))
  · rw [dif_neg hl]
    have k : (y 1).val - 2816 < 2816 := by omega
    have a : pad S4096x5632 ![0, 2816] ![0, 0] ![0, 0] (plainGrad u d) (constant (F := Ideal) Cert.DactRefIdeal.S_ .f32 0x00000000#32)
        pads_S4096x2816_S4096x5632_000_281600 h_S_ y = plainGrad u d (ix2 (y 0) ⟨(y 1).val - 2816, k⟩) :=
      pad_apply_of_inside _ _ _ _ _ _ _ y (ix2 (y 0) ⟨(y 1).val - 2816, k⟩) (fun q => match q with
        | ⟨0, _⟩ => show (y 0).val = 0 + (y 0).val * (0 + 1) by omega
        | ⟨1, _⟩ => show (y 1).val = 2816 + ((y 1).val - 2816) * (0 + 1) by omega)
    have b : pad S4096x5632 ![0, 0] ![0, 2816] ![0, 0] (gateGrad u d) (constant (F := Ideal) Cert.DactRefIdeal.S_ .f32 0x00000000#32)
        pads_S4096x2816_S4096x5632_000_028160 h_S_ y = (0 : EReal) :=
      (pad_apply_of_not_inside _ _ _ _ _ _ _ y (1 : Fin 2) (fun q => absurd
        (show ((y 1).val - 0) / (0 + 1) < 2816 from q.2.2) (by omega))).trans z
    rw [a, b]
    refine (add_zero _).trans ?_
    have g := gateHalf_apply u (y 0) ⟨(y 1).val - 2816, k⟩ ⟨(y 1).val - 2816, by omega⟩ rfl
    have l := logits_apply u (y 0) ⟨(y 1).val - 2816, k⟩ ⟨(y 1).val - 2816, by omega⟩ rfl
    rw [← l, ← g]
    exact mul_comm _ _

end Reference

theorem frame_reference : Cert.quiescent_DactRefIdeal := fun m ρ _ =>
  (θ_run Cert.DactRefIdeal.defs _ _).mono (fun r h => ⟨fun c => (h c).2, sem_eq_zero_of_no_sems (by decide) r.2⟩)
    (Cert.DactRefIdeal.Value.run m ρ)

theorem algebraic : Cert.algebraic_DactIdeal_DactRefIdeal_pre_gate_finite := by
  intro m g m' g' p h
  refine ⟨fun c => out (gate m c) (hid m c), (θ_run Cert.DactIdeal.defs _ _).mono (fun _ r c => ⟨(r c).1.trans (result m c), (r c).2⟩) (run_blocks m g),
    (θ_run Cert.DactRefIdeal.defs _ _).mono (fun _ r c => ⟨(r c).1.trans ?_, (r c).2⟩) (Cert.DactRefIdeal.Value.run m' g')⟩
  exact (congrArg₂ Reference.whole (h c).1 (h c).2).trans (Reference.equal _ _ (p c))

end Cert.Proof.Dact

end
-- ==== Proof.Dwin.lean ====
/- The gradient of the first projection's weights: the product the call accumulates, block by block. -/
module

public import proofs.«01_k».proof.Defs
public import proofs.«01_k».proof.Proof.Product
public import proofs.«01_k».proof.Proof.Gen.DwinIdeal.Value
public import proofs.«01_k».proof.Proof.Gen.DwinRefIdeal.Run
public import Idealize.ShloMosaic.Lib.Tactic
public import Idealize.ShloMosaic.Adequacy
public import Idealize.ShloMosaic.Init

@[expose] public section

set_option maxRecDepth 16384

noncomputable section

namespace Cert.Proof.Dwin

open Idealize.ShloMosaic Idealize.ShloMosaic.TcCoe Idealize.ShloMosaic.Tactic Idealize.SL.Sem
open Cert.DwinIdeal Cert.DwinIdeal.Gen Cert.DwinIdeal.Value
open scoped BigOperators

section Points

variable (c : Dev nD) (i : grid0.Coords) (a0 : Memref sig .tc .vmem S1024x1024 .bf16) (h0 : a0.IsWhole)
  (a1 : Memref sig .tc .vmem S1024x1408 .bf16) (h1 : a1.IsWhole) (a2 : Memref sig .tc .vmem S1024x1408 .bf16) (h2 : a2.IsWhole)
  (a3 : Memref sig .tc .vmem S1024x1408 .f32) (h3 : a3.IsWhole)
  (x0 : Vec Ideal S1024x1024 .bf16) (x1 : Vec Ideal S1024x1408 .bf16) (acc : Vec Ideal S1024x1408 .f32)

/-- The first point of a sum leaves the first product. -/
theorem first (hc : cond0_0 i) (hd : ¬cond0_1 i) :
    sout0_A_0 c i a0 h0 a1 h1 a2 h2 a3 h3 hc hd x0 x1 = k0_pay2 k0_pay1 x0 x1 := by
  unfold sout0_A_0
  rw [View.read_writes_eq_canon _ _ _ (scover0_A_0 c i a0 h0 a1 h1 a2 h2 a3 h3 hc hd x0 x1)]
  unfold kernelRun0_A
  dsimp only
  sl_unfold_words
  rw [View.canon_cons_unit_zero (S := S1024x1408) zero2, View.readCov_unit_zero (S := S1024x1408) _ zero2]
  simp only [View.readAt_eq_ld, h0.read_unread, h1.read_unread, View.ld_unit_zero (S := S1024x1024) zero2, View.ld_unit_zero (S := S1024x1408) zero2]

/-- A point in the middle adds its product. -/
theorem middle (hc : ¬cond0_0 i) (hd : ¬cond0_1 i) :
    sout0_B_0 c i a0 h0 a1 h1 a2 h2 a3 h3 hc hd x0 x1 acc = k0_pay2 acc x0 x1 := by
  unfold sout0_B_0
  rw [View.read_writes_eq_canon _ _ _ (scover0_B_0 c i a0 h0 a1 h1 a2 h2 a3 h3 hc hd x0 x1 acc)]
  unfold kernelRun0_B
  dsimp only
  rw [View.canon_unit_zero zero2]
  simp only [View.readAt_eq_ld, h0.read_unread, h1.read_unread, h3.read_unread, View.ld_unit_zero (S := S1024x1024) zero2, View.ld_unit_zero (S := S1024x1408) zero2]

/-- So does the last, -/
theorem last (hc : ¬cond0_0 i) (hd : cond0_1 i) :
    sout0_C_0 c i a0 h0 a1 h1 a2 h2 a3 h3 hc hd x0 x1 acc = k0_pay2 acc x0 x1 := by
  unfold sout0_C_0
  rw [View.read_writes_eq_canon _ _ _ (scover0_C_0 c i a0 h0 a1 h1 a2 h2 a3 h3 hc hd x0 x1 acc)]
  unfold kernelRun0_C
  dsimp only
  sl_unfold_words
  rw [View.canon_unit_zero zero2]
  simp only [View.readAt_eq_ld, h0.read_unread, h1.read_unread, h3.read_unread, View.ld_unit_zero (S := S1024x1024) zero2, View.ld_unit_zero (S := S1024x1408) zero2]

/-- which writes the sum out. -/
theorem stored (hc : ¬cond0_0 i) (hd : cond0_1 i) :
    out0_C_2 c i a0 h0 a1 h1 a2 h2 a3 h3 hc hd x0 x1 acc = k0_pay3 (k0_pay2 acc x0 x1) := by
  unfold out0_C_2
  rw [View.read_writes_eq_canon _ _ _ (cover0_C_2 c i a0 h0 a1 h1 a2 h2 a3 h3 hc hd x0 x1 acc)]
  unfold kernelRun0_C
  dsimp only
  sl_unfold_words
  rw [View.canon_unit_zero zero2, View.readCov_unit_zero (S := S1024x1408) _ zero2]
  simp only [View.readAt_eq_ld, h0.read_unread, h1.read_unread, h3.read_unread, View.ld_unit_zero (S := S1024x1024) zero2, View.ld_unit_zero (S := S1024x1408) zero2]

end Points

/-- A product at an index. -/
theorem product (acc : Vec Ideal S1024x1408 .f32) (x0 : Vec Ideal S1024x1024 .bf16) (x1 : Vec Ideal S1024x1408 .bf16) (r : Fin 1024) (s : Fin 1408) :
    k0_pay2 acc x0 x1 (ix2 r s) = acc (ix2 r s) + ∑ k : Fin 1024, x0 (ix2 k r) * x1 (ix2 k s) := by
  unfold k0_pay2
  simp only [pointwise, zero_add]

theorem zero (y : S1024x1408.Idx) : k0_pay1 (F := Ideal) y = 0 := by
  unfold k0_pay1
  simp only [pointwise]

variable (m : (ℓ : Loc nD τ sig) → Buf (Elt Ideal) ℓ) (ρ : Dev nD → PrngReg)

/-- The blocks point `t` reads. -/
abbrev lhsAt (c : Dev nD) (t : Fin cfg0.N) : Vec Ideal S1024x1024 .bf16 := iblk m c 0 t
abbrev rhsAt (c : Dev nD) (t : Fin cfg0.N) : Vec Ideal S1024x1408 .bf16 := iblk m c 1 t

abbrev lhs (c : Dev nD) : Vec Ideal S4096x1024 .bf16 := m ((c : Thread nD τ).loc main_arg0)
abbrev rhs (c : Dev nD) : Vec Ideal S4096x5632 .bf16 := m ((c : Thread nD τ).loc main_arg1)

/-- Where these blocks lie in the arguments. -/
theorem blocks : ∀ t : Fin cfg0.N, win0_0.index t = ![t.val % 4, t.val / 16] ∧ win0_1.index t = ![t.val % 4, t.val / 4 % 4] :=
  (by decide +kernel : ∀ t : Fin grid0.N, _)

/-- The terms point `n` adds. -/
def term (c : Dev nD) (r : Fin 1024) (s : Fin 1408) (n : ℕ) (h : n < cfg0.N) (k : Fin 1024) : EReal :=
  lhsAt m c ⟨n, h⟩ (ix2 k r) * rhsAt m c ⟨n, h⟩ (ix2 k s)

/-- They are terms of the whole sum. -/
theorem term_eq (c : Dev nD) (i : Fin 1024) (j : Fin 5632) (r : Fin 1024) (s : Fin 1408) (n : ℕ) (h : n < cfg0.N) (k : Fin 1024) (l : Fin 4096)
    (hi : i.val = n / 16 * 1024 + r.val) (hj : j.val = n / 4 % 4 * 1408 + s.val) (hl : l.val = n % 4 * 1024 + k.val) :
    term m c r s n h k = lhs m c (ix2 l i) * rhs m c (ix2 l j) := by
  obtain ⟨e0, e1⟩ := blocks ⟨n, h⟩
  refine congrArg₂ (· * ·) ?_ ?_
  · show V m c main_arg0 _ = _
    rw [V_main_arg0]
    refine at_ix2 (lhs m c) _ _ _ ((congrArg (fun q => q * 1024 + 1 * k.val) (congrFun e0 0)).trans ?_) ((congrArg (fun q => q * 1024 + 1 * r.val) (congrFun e0 1)).trans ?_)
    · show n % 4 * 1024 + 1 * k.val = l.val; omega
    · show n / 16 * 1024 + 1 * r.val = i.val; omega
  · show V m c main_arg1 _ = _
    rw [V_main_arg1]
    refine at_ix2 (rhs m c) _ _ _ ((congrArg (fun q => q * 1024 + 1 * k.val) (congrFun e1 0)).trans ?_) ((congrArg (fun q => q * 1408 + 1 * s.val) (congrFun e1 1)).trans ?_)
    · show n % 4 * 1024 + 1 * k.val = l.val; omega
    · show n / 4 % 4 * 1408 + 1 * s.val = j.val; omega

/-- What the last point of a sum writes out. -/
theorem written (c : Dev nD) (i : Fin 1024) (j : Fin 5632) (r : Fin 1024) (s : Fin 1408) (q : ℕ) (h : 4 * q + 3 < cfg0.N)
    (hi : i.val = q / 4 * 1024 + r.val) (hj : j.val = q % 4 * 1408 + s.val) :
    (outsAt0 m c (4 * q + 3) h).1 (ix2 r s) = ∑ l : Fin 4096, lhs m c (ix2 l i) * rhs m c (ix2 l j) := by
  refine Eq.trans ?_ (accumulated (J := 3) (T := 1024) rfl (fun n h => (outsAt0 m c n h).2 (ix2 r s)) (term m c r s)
    (fun n h h0 => ?_) (fun n h h0 => ?_) q h _ (fun p k hp l hl => term_eq m c i j r s _ hp k l (by omega) (by omega) (by omega)))
  · rw [outsAt0_C m c ⟨4 * q + 3, h⟩ (by dsimp only; omega) (by dsimp only; omega)]
    dsimp only
    rw [stored, last]
    unfold k0_pay3
    simp only [pointwise]
  · rw [outsAt0_A m c ⟨n, h⟩ h0 (by dsimp only; omega)]
    dsimp only
    rw [first, product, zero, zero_add]
    rfl
  · by_cases h1 : (n + 1) % 4 = 3
    · rw [outsAt0_C m c ⟨n + 1, h⟩ h0 h1]
      dsimp only
      rw [last, product]
      rfl
    · rw [outsAt0_B m c ⟨n + 1, h⟩ h0 h1]
      dsimp only
      rw [middle, product]
      rfl

/-- The call leaves the whole product. -/
theorem result (c : Dev nD) (i : Fin 1024) (j : Fin 5632) :
    (G2 m c : Vec Ideal S1024x5632 .bf16) (ix2 i j) = ∑ k : Fin 4096, lhs m c (ix2 k i) * rhs m c (ix2 k j) := by
  have hN : cfg0.N = 16 := N_0
  have hp : 4 * (i.val / 1024 * 4 + j.val / 1408) + 3 < cfg0.N := by omega
  refine Eq.trans ?_ (written m c i j ⟨i.val % 1024, Nat.mod_lt _ (by decide)⟩ ⟨j.val % 1408, Nat.mod_lt _ (by decide)⟩ _ hp (by dsimp only; omega) (by dsimp only; omega))
  have e : pt2Of (ix2 i j) = 4 * (i.val / 1024 * 4 + j.val / 1408) + 3 := by
    show 4 * (4 * (i.val / 1024 - 0) + 1 * (j.val / 1408 - 0)) + 3 = _
    omega
  unfold G2
  rw [dif_pos (by rw [e]; exact hp), outsAt0_sweep, fold0_congr m c _ _ _ (by omega) e]
  exact at_ix2 _ _ _ _ rfl rfl

/-- So it agrees with the derivative of the product. -/
theorem equal (a : Vec Ideal S4096x1024 .bf16) (b : Vec Ideal S4096x5632 .bf16) (c : Dev nD) (ha : a = lhs m c) (hb : b = rhs m c) :
    (truncf (F := Ideal) .bf16 (transpose S1024x5632 [1, 0] (Host.dotGeneral Cert.DwinRefIdeal.dot_S4096x5632_S4096x1024_S5632x1024_0_0_1_1_n_n none
      (extf .f32 b Cert.DwinRefIdeal.Gen.bitsLt_bf16_f32) (extf .f32 a Cert.DwinRefIdeal.Gen.bitsLt_bf16_f32)) Cert.DwinRefIdeal.Gen.transposes_S5632x1024_S1024x5632_1_0)
      Cert.DwinRefIdeal.Gen.bitsLt_bf16_f32) = (G2 m c : Vec Ideal S1024x5632 .bf16) := by
  subst ha hb
  refine funext fun y => (congrArg _ (eq_ix2 y)).trans (Eq.trans ?_ ((result m c (y 0) (y 1)).symm.trans (congrArg _ (eq_ix2 y).symm)))
  simp only [pointwise, zero_add]
  exact Finset.sum_congr rfl fun k _ => mul_comm _ _

theorem frame_reference : Cert.quiescent_DwinRefIdeal := fun m ρ _ =>
  (θ_run Cert.DwinRefIdeal.defs _ _).mono (fun r h => ⟨fun c => (h c).2, sem_eq_zero_of_no_sems (by decide) r.2⟩)
    (Cert.DwinRefIdeal.Value.run m ρ)

theorem algebraic : Cert.algebraic_DwinIdeal_DwinRefIdeal := by
  intro m g m' g' _ h
  refine ⟨G2 m, run m g, (θ_run Cert.DwinRefIdeal.defs _ _).mono (fun _ r c => ?_) (Cert.DwinRefIdeal.Value.run m' g')⟩
  exact ⟨(r c).1.trans (equal m _ _ c (h c).1 (h c).2), (r c).2⟩

end Cert.Proof.Dwin

end
-- ==== Proof.Dx.lean ====
/- The gradient of the feed-forward block's input: the product the call accumulates, block by block. -/
module

public import proofs.«01_k».proof.Defs
public import proofs.«01_k».proof.Proof.Product
public import proofs.«01_k».proof.Proof.Gen.DxIdeal.Value
public import proofs.«01_k».proof.Proof.Gen.DxRefIdeal.Run
public import Idealize.ShloMosaic.Lib.Tactic
public import Idealize.ShloMosaic.Adequacy
public import Idealize.ShloMosaic.Init

@[expose] public section

set_option maxRecDepth 16384

noncomputable section

namespace Cert.Proof.Dx

open Idealize.ShloMosaic Idealize.ShloMosaic.TcCoe Idealize.ShloMosaic.Tactic Idealize.SL.Sem
open Cert.DxIdeal Cert.DxIdeal.Gen Cert.DxIdeal.Value
open scoped BigOperators

section Points

variable (c : Dev nD) (i : grid0.Coords) (a0 : Memref sig .tc .vmem S1024x1408 .bf16) (h0 : a0.IsWhole)
  (a1 : Memref sig .tc .vmem S1024x1408 .bf16) (h1 : a1.IsWhole) (a2 : Memref sig .tc .vmem S1024x1024 .f32) (h2 : a2.IsWhole)
  (a3 : Memref sig .tc .vmem S1024x1024 .f32) (h3 : a3.IsWhole)
  (x0 : Vec Ideal S1024x1408 .bf16) (x1 : Vec Ideal S1024x1408 .bf16) (acc : Vec Ideal S1024x1024 .f32)

/-- The first point of a sum leaves the first product. -/
theorem first (hc : cond0_0 i) (hd : ¬cond0_1 i) :
    sout0_A_0 c i a0 h0 a1 h1 a2 h2 a3 h3 hc hd x0 x1 = k0_pay2 k0_pay1 x0 x1 := by
  unfold sout0_A_0
  rw [View.read_writes_eq_canon _ _ _ (scover0_A_0 c i a0 h0 a1 h1 a2 h2 a3 h3 hc hd x0 x1)]
  unfold kernelRun0_A
  dsimp only
  sl_unfold_words
  rw [View.canon_cons_unit_zero (S := S1024x1024) zero2, View.readCov_unit_zero (S := S1024x1024) _ zero2]
  simp only [View.readAt_eq_ld, h0.read_unread, h1.read_unread, View.ld_unit_zero (S := S1024x1408) zero2, View.ld_unit_zero (S := S1024x1024) zero2]

/-- A point in the middle adds its product. -/
theorem middle (hc : ¬cond0_0 i) (hd : ¬cond0_1 i) :
    sout0_B_0 c i a0 h0 a1 h1 a2 h2 a3 h3 hc hd x0 x1 acc = k0_pay2 acc x0 x1 := by
  unfold sout0_B_0
  rw [View.read_writes_eq_canon _ _ _ (scover0_B_0 c i a0 h0 a1 h1 a2 h2 a3 h3 hc hd x0 x1 acc)]
  unfold kernelRun0_B
  dsimp only
  rw [View.canon_unit_zero zero2]
  simp only [View.readAt_eq_ld, h0.read_unread, h1.read_unread, h3.read_unread, View.ld_unit_zero (S := S1024x1408) zero2, View.ld_unit_zero (S := S1024x1024) zero2]

/-- So does the last, -/
theorem last (hc : ¬cond0_0 i) (hd : cond0_1 i) :
    sout0_C_0 c i a0 h0 a1 h1 a2 h2 a3 h3 hc hd x0 x1 acc = k0_pay2 acc x0 x1 := by
  unfold sout0_C_0
  rw [View.read_writes_eq_canon _ _ _ (scover0_C_0 c i a0 h0 a1 h1 a2 h2 a3 h3 hc hd x0 x1 acc)]
  unfold kernelRun0_C
  dsimp only
  sl_unfold_words
  rw [View.canon_unit_zero zero2]
  simp only [View.readAt_eq_ld, h0.read_unread, h1.read_unread, h3.read_unread, View.ld_unit_zero (S := S1024x1408) zero2, View.ld_unit_zero (S := S1024x1024) zero2]

/-- which writes the sum out. -/
theorem stored (hc : ¬cond0_0 i) (hd : cond0_1 i) :
    out0_C_2 c i a0 h0 a1 h1 a2 h2 a3 h3 hc hd x0 x1 acc = k0_pay3 (k0_pay2 acc x0 x1) := by
  unfold out0_C_2
  rw [View.read_writes_eq_canon _ _ _ (cover0_C_2 c i a0 h0 a1 h1 a2 h2 a3 h3 hc hd x0 x1 acc)]
  unfold kernelRun0_C
  dsimp only
  sl_unfold_words
  rw [View.canon_unit_zero zero2, View.readCov_unit_zero (S := S1024x1024) _ zero2]
  simp only [View.readAt_eq_ld, h0.read_unread, h1.read_unread, h3.read_unread, View.ld_unit_zero (S := S1024x1408) zero2, View.ld_unit_zero (S := S1024x1024) zero2]

end Points

/-- A product at an index. -/
theorem product (acc : Vec Ideal S1024x1024 .f32) (x0 : Vec Ideal S1024x1408 .bf16) (x1 : Vec Ideal S1024x1408 .bf16) (r : Fin 1024) (s : Fin 1024) :
    k0_pay2 acc x0 x1 (ix2 r s) = acc (ix2 r s) + ∑ k : Fin 1408, x0 (ix2 r k) * x1 (ix2 s k) := by
  unfold k0_pay2
  simp only [pointwise, zero_add]

theorem zero (y : S1024x1024.Idx) : k0_pay1 (F := Ideal) y = 0 := by
  unfold k0_pay1
  simp only [pointwise]

variable (m : (ℓ : Loc nD τ sig) → Buf (Elt Ideal) ℓ) (ρ : Dev nD → PrngReg)

/-- The blocks point `t` reads. -/
abbrev lhsAt (c : Dev nD) (t : Fin cfg0.N) : Vec Ideal S1024x1408 .bf16 := iblk m c 0 t
abbrev rhsAt (c : Dev nD) (t : Fin cfg0.N) : Vec Ideal S1024x1408 .bf16 := iblk m c 1 t

abbrev lhs (c : Dev nD) : Vec Ideal S4096x5632 .bf16 := m ((c : Thread nD τ).loc main_arg0)
abbrev rhs (c : Dev nD) : Vec Ideal S1024x5632 .bf16 := m ((c : Thread nD τ).loc main_arg1)

/-- Where these blocks lie in the arguments. -/
theorem blocks : ∀ t : Fin cfg0.N, win0_0.index t = ![t.val / 4, t.val % 4] ∧ win0_1.index t = ![0, t.val % 4] :=
  (by decide +kernel : ∀ t : Fin grid0.N, _)

/-- The terms point `n` adds. -/
def term (c : Dev nD) (r s : Fin 1024) (n : ℕ) (h : n < cfg0.N) (k : Fin 1408) : EReal :=
  lhsAt m c ⟨n, h⟩ (ix2 r k) * rhsAt m c ⟨n, h⟩ (ix2 s k)

/-- They are terms of the whole sum. -/
theorem term_eq (c : Dev nD) (i : Fin 4096) (r s : Fin 1024) (n : ℕ) (h : n < cfg0.N) (k : Fin 1408) (l : Fin 5632)
    (hi : i.val = n / 4 * 1024 + r.val) (hl : l.val = n % 4 * 1408 + k.val) :
    term m c r s n h k = lhs m c (ix2 i l) * rhs m c (ix2 s l) := by
  obtain ⟨e0, e1⟩ := blocks ⟨n, h⟩
  refine congrArg₂ (· * ·) ?_ ?_
  · show V m c main_arg0 _ = _
    rw [V_main_arg0]
    refine at_ix2 (lhs m c) _ _ _ ((congrArg (fun q => q * 1024 + 1 * r.val) (congrFun e0 0)).trans ?_) ((congrArg (fun q => q * 1408 + 1 * k.val) (congrFun e0 1)).trans ?_)
    · show n / 4 * 1024 + 1 * r.val = i.val; omega
    · show n % 4 * 1408 + 1 * k.val = l.val; omega
  · show V m c main_arg1 _ = _
    rw [V_main_arg1]
    refine at_ix2 (rhs m c) _ _ _ ((congrArg (fun q => q * 1024 + 1 * s.val) (congrFun e1 0)).trans ?_) ((congrArg (fun q => q * 1408 + 1 * k.val) (congrFun e1 1)).trans ?_)
    · show 0 * 1024 + 1 * s.val = s.val; omega
    · show n % 4 * 1408 + 1 * k.val = l.val; omega

/-- What the last point of a sum writes out. -/
theorem written (c : Dev nD) (i : Fin 4096) (r s : Fin 1024) (q : ℕ) (h : 4 * q + 3 < cfg0.N) (hi : i.val = q * 1024 + r.val) :
    (outsAt0 m c (4 * q + 3) h).1 (ix2 r s) = ∑ l : Fin 5632, lhs m c (ix2 i l) * rhs m c (ix2 s l) := by
  refine Eq.trans ?_ (accumulated (J := 3) (T := 1408) rfl (fun n h => (outsAt0 m c n h).2 (ix2 r s)) (term m c r s)
    (fun n h h0 => ?_) (fun n h h0 => ?_) q h _ (fun p k hp l hl => term_eq m c i r s _ hp k l (by omega) (by omega)))
  · rw [outsAt0_C m c ⟨4 * q + 3, h⟩ (by dsimp only; omega) (by dsimp only; omega)]
    dsimp only
    rw [stored, last]
    unfold k0_pay3
    simp only [pointwise]
  · rw [outsAt0_A m c ⟨n, h⟩ h0 (by dsimp only; omega)]
    dsimp only
    rw [first, product, zero, zero_add]
    rfl
  · by_cases h1 : (n + 1) % 4 = 3
    · rw [outsAt0_C m c ⟨n + 1, h⟩ h0 h1]
      dsimp only
      rw [last, product]
      rfl
    · rw [outsAt0_B m c ⟨n + 1, h⟩ h0 h1]
      dsimp only
      rw [middle, product]
      rfl

/-- The call leaves the whole product. -/
theorem result (c : Dev nD) (i : Fin 4096) (j : Fin 1024) :
    (G2 m c : Vec Ideal S4096x1024 .f32) (ix2 i j) = ∑ k : Fin 5632, lhs m c (ix2 i k) * rhs m c (ix2 j k) := by
  have hN : cfg0.N = 16 := N_0
  have hp : 4 * (i.val / 1024) + 3 < cfg0.N := by omega
  refine Eq.trans ?_ (written m c i ⟨i.val % 1024, Nat.mod_lt _ (by decide)⟩ j _ hp (by dsimp only; omega))
  have e : pt2Of (ix2 i j) = 4 * (i.val / 1024) + 3 := by
    show 4 * (1 * (i.val / 1024 - 0) + 1 * (j.val / 1024 - 0)) + 3 = _
    omega
  unfold G2
  rw [dif_pos (by rw [e]; exact hp), outsAt0_sweep, fold0_congr m c _ _ _ (by omega) e]
  exact at_ix2 _ _ _ _ rfl (Nat.mod_eq_of_lt j.isLt)

/-- So it agrees with the derivative of the product. -/
theorem equal (a : Vec Ideal S4096x5632 .bf16) (b : Vec Ideal S1024x5632 .bf16) (c : Dev nD) (ha : a = lhs m c) (hb : b = rhs m c) :
    Host.dotGeneral (F := Ideal) Cert.DxRefIdeal.dot_S4096x5632_S1024x5632_S4096x1024_1_1_0_0_n_n none
      (extf .f32 a Cert.DxRefIdeal.Gen.bitsLt_bf16_f32) (extf .f32 b Cert.DxRefIdeal.Gen.bitsLt_bf16_f32) = (G2 m c : Vec Ideal S4096x1024 .f32) := by
  subst ha hb
  refine funext fun y => (congrArg _ (eq_ix2 y)).trans (Eq.trans ?_ ((result m c (y 0) (y 1)).symm.trans (congrArg _ (eq_ix2 y).symm)))
  simp only [pointwise, zero_add]

theorem frame_reference : Cert.quiescent_DxRefIdeal := fun m ρ _ =>
  (θ_run Cert.DxRefIdeal.defs _ _).mono (fun r h => ⟨fun c => (h c).2, sem_eq_zero_of_no_sems (by decide) r.2⟩)
    (Cert.DxRefIdeal.Value.run m ρ)

theorem algebraic : Cert.algebraic_DxIdeal_DxRefIdeal := by
  intro m g m' g' _ h
  refine ⟨G2 m, run m g, (θ_run Cert.DxRefIdeal.defs _ _).mono (fun _ r c => ?_) (Cert.DxRefIdeal.Value.run m' g')⟩
  exact ⟨(r c).1.trans (equal m _ _ c (h c).1 (h c).2), (r c).2⟩

end Cert.Proof.Dx

end
-- ==== Proof.Uin.lean ====
/- The feed-forward layer's first product. The call gives each grid point one tile of the result: rows of the input times
   columns of the weights, over the whole of the contracted axis. -/
module

public import proofs.«01_k».proof.Defs
public import proofs.«01_k».proof.Proof.Product
public import proofs.«01_k».proof.Proof.Gen.UinIdeal.Value
public import proofs.«01_k».proof.Proof.Gen.UinRefIdeal.Run
public import Idealize.ShloMosaic.Lib.Tactic
public import Idealize.ShloMosaic.Adequacy
public import Idealize.ShloMosaic.Init

@[expose] public section

set_option maxRecDepth 16384

noncomputable section

namespace Cert.Proof.Uin

open Idealize.ShloMosaic Idealize.ShloMosaic.TcCoe Idealize.ShloMosaic.Tactic Idealize.SL.Sem
open Cert.UinIdeal Cert.UinIdeal.Gen Cert.UinIdeal.Value
open scoped BigOperators

variable (m : (ℓ : Loc nD τ sig) → Buf (Elt Ideal) ℓ)

abbrev input (c : Dev nD) : Vec Ideal S4096x1024 .bf16 := m ((c : Thread nD τ).loc main_arg0)
abbrev weights (c : Dev nD) : Vec Ideal S1024x5632 .bf16 := m ((c : Thread nD τ).loc main_arg1)

/-- What point `t` reads of them. -/
abbrev inputAt (c : Dev nD) (t : Fin cfg0.N) : Vec Ideal S1024x1024 .bf16 := iblk m c 0 t
abbrev weightsAt (c : Dev nD) (t : Fin cfg0.N) : Vec Ideal S1024x1408 .bf16 := iblk m c 1 t

/-- Rows of the input times columns of the weights. -/
def prod (x : Vec Ideal S4096x1024 .bf16) (w : Vec Ideal S1024x5632 .bf16) : Vec Ideal S4096x5632 .bf16 :=
  fun y => ∑ k : Fin 1024, x (ix2 (y 0) k) * w (ix2 k (y 1))

/-- A point reads the rows and the columns of its own tile, and writes that tile back. -/
theorem tiles : ∀ t : Fin cfg0.N, win0_2.flush t = true ∧ win0_0.index t = ![win0_2.index t (0 : Fin 2), 0]
    ∧ win0_1.index t = ![0, win0_2.index t (1 : Fin 2)] :=
  (by decide +kernel : ∀ t : Fin grid0.N, _)

theorem onto : ∀ (p q : Fin 4), ∃ t : Fin cfg0.N, win0_2.index t = ![p.val, q.val] :=
  (by decide +kernel : ∀ (p q : Fin 4), ∃ t : Fin grid0.N, _)

theorem flushed_eq (c : Dev nD) (t : Fin cfg0.N) :
    (dats m 0 c).flushed 2 t = ((cfg0.win 2).blk t).view.read (Elt Ideal) (prod (input m c) (weights m c)) := by
  obtain ⟨-, e0, e1⟩ := tiles t
  rw [flushed2]
  unfold out0_2
  rw [View.canon_unit_zero zero2]
  simp only [View.ld_unit_zero (S := S1024x1024) zero2, View.ld_unit_zero (S := S1024x1408) zero2]
  funext y
  show k0_pay1 (inputAt m c t) (weightsAt m c t) (ix2 (⟨(y 0).val, (y 0).isLt⟩ : Fin 1024) (⟨(y 1).val, (y 1).isLt⟩ : Fin 1408)) = prod (input m c) (weights m c) (((cfg0.win 2).blk t).view.emb y)
  unfold k0_pay1
  simp only [pointwise, zero_add]
  refine Finset.sum_congr rfl fun k _ => congrArg₂ (· * ·) ?_ ?_
  · show V m c main_arg0 _ = _
    rw [V_main_arg0]
    exact at_ix2 (input m c) _ _ _ (congrArg (fun n => n * 1024 + 1 * (y 0).val) (congrFun e0 0))
      ((congrArg (fun n => n * 1024 + 1 * k.val) (congrFun e0 1)).trans (by simp))
  · show V m c main_arg1 _ = _
    rw [V_main_arg1]
    exact at_ix2 (weights m c) _ _ _ ((congrArg (fun n => n * 1024 + 1 * k.val) (congrFun e1 0)).trans (by simp))
      (congrArg (fun n => n * 1408 + 1 * (y 1).val) (congrFun e1 1))

theorem result (c : Dev nD) : (dats m 0 c).arrAt 2 cfg0.N = prod (input m c) (weights m c) :=
  (dats m 0 c).arrAt_eq_of_cover 2 _ (fun t _ => flushed_eq m c t) fun i => by
    have h0 := (show (i 0).val < 4096 from (i 0).isLt)
    have h1 := (show (i 1).val < 5632 from (i 1).isLt)
    obtain ⟨t, ht⟩ := onto ⟨(i 0).val / 1024, by omega⟩ ⟨(i 1).val / 1408, by omega⟩
    refine ⟨t, (tiles t).1, ?_⟩
    show i ∈ ((View.whole main_v0).slice (win0_2.rect t)).set
    rw [View.set_slice_whole]
    exact mem_tile _ i (s0 := 1024) (s1 := 1408) rfl rfl (by decide) (by decide) (congrArg (· * 1024) (congrFun ht 0)) (congrArg (· * 1408) (congrFun ht 1))

/-- The reference's product, at an index. -/
theorem equal (x : Vec Ideal S4096x1024 .bf16) (w : Vec Ideal S1024x5632 .bf16) :
    (truncf (F := Ideal) .bf16 (Host.dotGeneral Cert.UinRefIdeal.dot_S4096x1024_S1024x5632_S4096x5632_1_0_0_1_n_n none
      (extf .f32 x Cert.UinRefIdeal.Gen.bitsLt_bf16_f32) (extf .f32 w Cert.UinRefIdeal.Gen.bitsLt_bf16_f32)) Cert.UinRefIdeal.Gen.bitsLt_bf16_f32) = prod x w := by
  refine funext fun y => (congrArg _ (eq_ix2 y)).trans ?_
  simp only [pointwise, zero_add]
  rfl

theorem frame_reference : Cert.quiescent_UinRefIdeal := fun m ρ _ =>
  (θ_run Cert.UinRefIdeal.defs _ _).mono (fun r h => ⟨fun c => (h c).2, sem_eq_zero_of_no_sems (by decide) r.2⟩)
    (Cert.UinRefIdeal.Value.run m ρ)

theorem algebraic : Cert.algebraic_UinIdeal_UinRefIdeal := by
  intro m g m' g' _ h
  refine ⟨fun c => prod (input m c) (weights m c), (θ_run Cert.UinIdeal.defs _ _).mono (fun _ r c => ⟨(r c).1.trans (result m c), (r c).2⟩) (run_blocks m g),
    (θ_run Cert.UinRefIdeal.defs _ _).mono (fun _ r c => ⟨(r c).1.trans ?_, (r c).2⟩) (Cert.UinRefIdeal.Value.run m' g')⟩
  exact (equal _ _).trans (congrArg₂ prod (h c).1 (h c).2)

end Cert.Proof.Uin

end
-- ==== Proof.Act.lean ====
/- The feed-forward layer's gate: `a * logit a * b` for the two halves `a`, `b` of a row. -/
module

public import proofs.«01_k».proof.Defs
public import proofs.«01_k».proof.Proof.Dact
public import proofs.«01_k».proof.Proof.Gen.ActIdeal.Value
public import proofs.«01_k».proof.Proof.Gen.ActRefIdeal.Run

@[expose] public section

set_option maxRecDepth 16384

noncomputable section

namespace Cert.Proof.Act

open Idealize.ShloMosaic Idealize.ShloMosaic.TcCoe Idealize.ShloMosaic.Tactic Idealize.SL.Sem
open Cert.ActIdeal Cert.ActIdeal.Gen Cert.ActIdeal.Value

/-- The gated value of a pair. -/
def gated (a b : EReal) : EReal := a * logit a * b

/-- The whole result: column `k` is gated from columns `k` and `k + 2816`. -/
def out (u : Vec Ideal S4096x5632 .bf16) : Vec Ideal S4096x2816 .bf16 := fun y =>
  gated (u (ix2 (y 0) ⟨(y 1).val, by have : (y 1).val < 2816 := (y 1).isLt; omega⟩))
    (u (ix2 (y 0) ⟨(y 1).val + 2816, by have : (y 1).val < 2816 := (y 1).isLt; omega⟩))

/-- What a point leaves at an index. -/
theorem pair (p0 p1 : Vec Ideal S256x2816 .bf16) (r : Fin 256) (k : Fin 2816) :
    k0_pay1 p0 p1 (ix2 r k) = gated (p0 (ix2 r k)) (p1 (ix2 r k)) := by
  unfold k0_pay1
  simp only [pointwise, zero_sub, Ideal.ofBits_one_f32]
  rfl

variable (m : (ℓ : Loc nD τ sig) → Buf (Elt Ideal) ℓ)

abbrev halves (c : Dev nD) : Vec Ideal S4096x5632 .bf16 := m ((c : Thread nD τ).loc main_arg0)
abbrev gateAt (c : Dev nD) (t : Fin cfg0.N) : Vec Ideal S256x2816 .bf16 := iblk m c 0 t
abbrev plainAt (c : Dev nD) (t : Fin cfg0.N) : Vec Ideal S256x2816 .bf16 := iblk m c 1 t

/-- Point `t` takes the `t`-th rows: of the left half, of the right half, of the result. -/
theorem rows : ∀ t : Fin cfg0.N, win0_0.index t = ![t.val, 0] ∧ win0_1.index t = ![t.val, 1] ∧ win0_2.index t = ![t.val, 0]
    ∧ win0_2.flush t = true :=
  (by decide +kernel : ∀ t : Fin grid0.N, _)

theorem flushed_eq (c : Dev nD) (t : Fin cfg0.N) :
    (dats m 0 c).flushed 2 t = ((cfg0.win 2).blk t).view.read (Elt Ideal) (out (halves m c)) := by
  obtain ⟨e0, e1, e2, -⟩ := rows t
  rw [flushed2]
  unfold out0_2
  rw [View.canon_unit_zero zero2]
  simp only [View.ld_unit_zero (S := S256x2816) zero2]
  funext y
  show k0_pay1 (gateAt m c t) (plainAt m c t) (ix2 (⟨(y 0).val, (y 0).isLt⟩ : Fin 256) (⟨(y 1).val, (y 1).isLt⟩ : Fin 2816)) = out (halves m c) (((cfg0.win 2).blk t).view.emb y)
  rw [pair]
  have r (n : ℕ) (h : n = t.val) : n * 256 + 1 * (y 0).val = win0_2.index t (0 : Fin 2) * 256 + 1 * (y 0).val := by
    rw [h, show win0_2.index t (0 : Fin 2) = t.val from congrFun e2 0]
  have k (n : ℕ) (h : n = 0) : n * 2816 + 1 * (y 1).val = (y 1).val := by omega
  have v : win0_2.index t (1 : Fin 2) * 2816 + 1 * (y 1).val = (y 1).val := k _ (congrFun e2 1)
  refine congrArg₂ gated ?_ ?_
  · show V m c main_arg0 _ = _
    rw [V_main_arg0]
    exact at_ix2 (halves m c) _ _ _ (r _ (congrFun e0 0)) ((k _ (congrFun e0 1)).trans v.symm)
  · show V m c main_arg0 _ = _
    rw [V_main_arg0]
    refine at_ix2 (halves m c) _ _ _ (r _ (congrFun e1 0)) ?_
    show win0_1.index t (1 : Fin 2) * 2816 + 1 * (y 1).val = win0_2.index t (1 : Fin 2) * 2816 + 1 * (y 1).val + 2816
    rw [v, show win0_1.index t (1 : Fin 2) = 1 from congrFun e1 1]
    omega

theorem result (c : Dev nD) : (dats m 0 c).arrAt 2 cfg0.N = out (halves m c) :=
  (dats m 0 c).arrAt_eq_of_cover 2 _ (fun t _ => flushed_eq m c t) fun i => by
    have h0 : (i 0).val < 4096 := (i 0).isLt
    have h1 : (i 1).val < 2816 := (i 1).isLt
    have hN : cfg0.N = 16 := (by decide +kernel : grid0.N = 16)
    obtain ⟨t, ht⟩ : ∃ t : Fin cfg0.N, t.val = (i 0).val / 256 := ⟨⟨(i 0).val / 256, by rw [hN]; omega⟩, rfl⟩
    obtain ⟨-, -, e, hf⟩ := rows t
    refine ⟨t, hf, ?_⟩
    show i ∈ ((View.whole main_v0).slice (win0_2.rect t)).set
    rw [View.set_slice_whole]
    exact mem_tile _ i (s0 := 256) (s1 := 2816) rfl rfl (by decide) (by decide) (congrArg (· * 256) ((congrFun e 0).trans ht))
      (congrArg (· * 2816) ((congrFun e 1).trans (Nat.div_eq_of_lt h1).symm))

/-- The reference's result, in the terms of its gradient's proof. -/
theorem equal (u : Vec Ideal S4096x5632 .bf16) :
    (truncf .bf16 (mulf (mulf (Dact.Reference.gateHalf u) (Dact.Reference.logits u)) (Dact.Reference.plainHalf u)) Cert.ActRefIdeal.Gen.bitsLt_bf16_f32 : Vec Ideal S4096x2816 .bf16)
      = out u := by
  refine funext fun y => (congrArg _ (eq_ix2 y)).trans ?_
  have hy : (y 1).val < 2816 := (y 1).isLt
  exact congrArg₂ (· * ·) (congrArg₂ (· * ·) (Dact.Reference.gateHalf_apply u (y 0) (y 1) ⟨(y 1).val, by omega⟩ rfl) (Dact.Reference.logits_apply u (y 0) (y 1) ⟨(y 1).val, by omega⟩ rfl))
    (Dact.Reference.plainHalf_apply u (y 0) (y 1) ⟨(y 1).val + 2816, by omega⟩ rfl)

theorem frame_reference : Cert.quiescent_ActRefIdeal := fun m ρ _ =>
  (θ_run Cert.ActRefIdeal.defs _ _).mono (fun r h => ⟨fun c => (h c).2, sem_eq_zero_of_no_sems (by decide) r.2⟩)
    (Cert.ActRefIdeal.Value.run m ρ)

theorem algebraic : Cert.algebraic_ActIdeal_ActRefIdeal := by
  intro m g m' g' _ h
  refine ⟨fun c => out (halves m c), (θ_run Cert.ActIdeal.defs _ _).mono (fun _ r c => ⟨(r c).1.trans (result m c), (r c).2⟩) (run_blocks m g),
    (θ_run Cert.ActRefIdeal.defs _ _).mono (fun _ r c => ⟨(r c).1.trans ?_, (r c).2⟩) (Cert.ActRefIdeal.Value.run m' g')⟩
  exact (equal _).trans (congrArg out (h c))

end Cert.Proof.Act

end
-- ==== Proof.Fout.lean ====
/- The feed-forward layer's second product. Two points share a tile of rows: the first leaves the product over one half of
   the contracted axis, the second adds the other half and writes the sum out. -/
module

public import proofs.«01_k».proof.Defs
public import proofs.«01_k».proof.Proof.Product
public import proofs.«01_k».proof.Proof.Gen.FoutIdeal.Value
public import proofs.«01_k».proof.Proof.Gen.FoutRefIdeal.Run
public import Idealize.ShloMosaic.Lib.Tactic
public import Idealize.ShloMosaic.Adequacy
public import Idealize.ShloMosaic.Init

@[expose] public section

set_option maxRecDepth 16384

noncomputable section

namespace Cert.Proof.Fout

open Idealize.ShloMosaic Idealize.ShloMosaic.TcCoe Idealize.ShloMosaic.Tactic Idealize.SL.Sem
open Cert.FoutIdeal Cert.FoutIdeal.Gen Cert.FoutIdeal.Value
open scoped BigOperators

section Points

variable (c : Dev nD) (i : grid0.Coords) (a0 : Memref sig .tc .vmem S1024x1408 .bf16) (h0 : a0.IsWhole)
  (a1 : Memref sig .tc .vmem S1408x1024 .bf16) (h1 : a1.IsWhole) (a2 : Memref sig .tc .vmem S1024x1024 .f32) (h2 : a2.IsWhole)
  (a3 : Memref sig .tc .vmem S1024x1024 .f32) (h3 : a3.IsWhole)
  (x0 : Vec Ideal S1024x1408 .bf16) (x1 : Vec Ideal S1408x1024 .bf16) (acc : Vec Ideal S1024x1024 .f32)

/-- The first point leaves its product. -/
theorem first (hc : cond0_0 i) (hd : ¬cond0_1 i) :
    sout0_A_0 c i a0 h0 a1 h1 a2 h2 a3 h3 hc hd x0 x1 = k0_pay2 k0_pay1 x0 x1 := by
  unfold sout0_A_0
  rw [View.read_writes_eq_canon _ _ _ (scover0_A_0 c i a0 h0 a1 h1 a2 h2 a3 h3 hc hd x0 x1)]
  unfold kernelRun0_A
  dsimp only
  sl_unfold_words
  rw [View.canon_cons_unit_zero (S := S1024x1024) zero2, View.readCov_unit_zero (S := S1024x1024) _ zero2]
  simp only [View.readAt_eq_ld, h0.read_unread, h1.read_unread, View.ld_unit_zero (S := S1024x1408) zero2, View.ld_unit_zero (S := S1408x1024) zero2, View.ld_unit_zero (S := S1024x1024) zero2]

/-- The second adds its own, -/
theorem second (hc : ¬cond0_0 i) (hd : cond0_1 i) :
    sout0_B_0 c i a0 h0 a1 h1 a2 h2 a3 h3 hc hd x0 x1 acc = k0_pay2 acc x0 x1 := by
  unfold sout0_B_0
  rw [View.read_writes_eq_canon _ _ _ (scover0_B_0 c i a0 h0 a1 h1 a2 h2 a3 h3 hc hd x0 x1 acc)]
  unfold kernelRun0_B
  dsimp only
  sl_unfold_words
  rw [View.canon_unit_zero zero2]
  simp only [View.readAt_eq_ld, h0.read_unread, h1.read_unread, h3.read_unread, View.ld_unit_zero (S := S1024x1408) zero2, View.ld_unit_zero (S := S1408x1024) zero2, View.ld_unit_zero (S := S1024x1024) zero2]

/-- and writes the sum out. -/
theorem stored (hc : ¬cond0_0 i) (hd : cond0_1 i) :
    out0_B_2 c i a0 h0 a1 h1 a2 h2 a3 h3 hc hd x0 x1 acc = k0_pay3 (k0_pay2 acc x0 x1) := by
  unfold out0_B_2
  rw [View.read_writes_eq_canon _ _ _ (cover0_B_2 c i a0 h0 a1 h1 a2 h2 a3 h3 hc hd x0 x1 acc)]
  unfold kernelRun0_B
  dsimp only
  sl_unfold_words
  rw [View.canon_unit_zero zero2, View.readCov_unit_zero (S := S1024x1024) _ zero2]
  simp only [View.readAt_eq_ld, h0.read_unread, h1.read_unread, h3.read_unread, View.ld_unit_zero (S := S1024x1408) zero2, View.ld_unit_zero (S := S1408x1024) zero2, View.ld_unit_zero (S := S1024x1024) zero2]

end Points

theorem product (acc : Vec Ideal S1024x1024 .f32) (x0 : Vec Ideal S1024x1408 .bf16) (x1 : Vec Ideal S1408x1024 .bf16) (r s : Fin 1024) :
    k0_pay2 acc x0 x1 (ix2 r s) = acc (ix2 r s) + ∑ k : Fin 1408, x0 (ix2 r k) * x1 (ix2 k s) := by
  unfold k0_pay2
  simp only [pointwise, zero_add]

theorem zero (y : S1024x1024.Idx) : k0_pay1 (F := Ideal) y = 0 := by
  unfold k0_pay1
  simp only [pointwise]

variable (m : (ℓ : Loc nD τ sig) → Buf (Elt Ideal) ℓ)

abbrev hidden (c : Dev nD) : Vec Ideal S4096x2816 .bf16 := m ((c : Thread nD τ).loc main_arg0)
abbrev weights (c : Dev nD) : Vec Ideal S2816x1024 .bf16 := m ((c : Thread nD τ).loc main_arg1)
abbrev hiddenAt (c : Dev nD) (t : Fin cfg0.N) : Vec Ideal S1024x1408 .bf16 := iblk m c 0 t
abbrev weightsAt (c : Dev nD) (t : Fin cfg0.N) : Vec Ideal S1408x1024 .bf16 := iblk m c 1 t

theorem blocks : ∀ t : Fin cfg0.N, win0_0.index t = ![t.val / 2, t.val % 2] ∧ win0_1.index t = ![t.val % 2, 0] :=
  (by decide +kernel : ∀ t : Fin grid0.N, _)

/-- The terms a point's product contributes at row `r`, column `s` of its tile. -/
def term (c : Dev nD) (r s : Fin 1024) (n : ℕ) (h : n < cfg0.N) (k : Fin 1408) : EReal :=
  hiddenAt m c ⟨n, h⟩ (ix2 r k) * weightsAt m c ⟨n, h⟩ (ix2 k s)

/-- They are terms of the whole sum. -/
theorem term_eq (c : Dev nD) (i : Fin 4096) (r s : Fin 1024) (n : ℕ) (h : n < cfg0.N) (k : Fin 1408) (l : Fin 2816)
    (hi : i.val = n / 2 * 1024 + r.val) (hl : l.val = n % 2 * 1408 + k.val) :
    term m c r s n h k = hidden m c (ix2 i l) * weights m c (ix2 l s) := by
  obtain ⟨e0, e1⟩ := blocks ⟨n, h⟩
  refine congrArg₂ (· * ·) ?_ ?_
  · show V m c main_arg0 _ = _
    rw [V_main_arg0]
    refine at_ix2 (hidden m c) _ _ _ ((congrArg (fun q => q * 1024 + 1 * r.val) (congrFun e0 0)).trans ?_) ((congrArg (fun q => q * 1408 + 1 * k.val) (congrFun e0 1)).trans ?_)
    · show n / 2 * 1024 + 1 * r.val = i.val; omega
    · show n % 2 * 1408 + 1 * k.val = l.val; omega
  · show V m c main_arg1 _ = _
    rw [V_main_arg1]
    refine at_ix2 (weights m c) _ _ _ ((congrArg (fun q => q * 1408 + 1 * k.val) (congrFun e1 0)).trans ?_) ((congrArg (fun q => q * 1024 + 1 * s.val) (congrFun e1 1)).trans ?_)
    · show n % 2 * 1408 + 1 * k.val = l.val; omega
    · show 0 * 1024 + 1 * s.val = s.val; omega

/-- What the second point of a pair writes out. -/
theorem written (c : Dev nD) (i : Fin 4096) (r s : Fin 1024) (q : ℕ) (h : 2 * q + 1 < cfg0.N) (hi : i.val = q * 1024 + r.val) :
    (outsAt0 m c (2 * q + 1) h).1 (ix2 r s) = ∑ l : Fin 2816, hidden m c (ix2 i l) * weights m c (ix2 l s) := by
  refine Eq.trans ?_ (accumulated (J := 1) (T := 1408) rfl (fun n h => (outsAt0 m c n h).2 (ix2 r s)) (term m c r s)
    (fun n h h0 => ?_) (fun n h h0 => ?_) q h _ (fun j k hj l hl => term_eq m c i r s _ hj k l (by omega) (by omega)))
  · rw [outsAt0_B m c ⟨2 * q + 1, h⟩ (by dsimp only; omega) (by dsimp only; omega)]
    dsimp only
    rw [stored, second]
    unfold k0_pay3
    simp only [pointwise]
  · rw [outsAt0_A m c ⟨n, h⟩ h0 (by dsimp only; omega)]
    dsimp only
    rw [first, product, zero, zero_add]
    rfl
  · rw [outsAt0_B m c ⟨n + 1, h⟩ h0 (by dsimp only; omega)]
    dsimp only
    rw [second, product]
    rfl

theorem result (c : Dev nD) (i : Fin 4096) (j : Fin 1024) :
    (G2 m c : Vec Ideal S4096x1024 .f32) (ix2 i j) = ∑ l : Fin 2816, hidden m c (ix2 i l) * weights m c (ix2 l j) := by
  have hN : cfg0.N = 8 := N_0
  have hp : 2 * (i.val / 1024) + 1 < cfg0.N := by omega
  refine Eq.trans ?_ (written m c i ⟨i.val % 1024, Nat.mod_lt _ (by decide)⟩ j (i.val / 1024) hp (by dsimp only; omega))
  have e : pt2Of (ix2 i j) = 2 * (i.val / 1024) + 1 := by
    show 2 * (1 * (i.val / 1024 - 0) + 1 * (j.val / 1024 - 0)) + 1 = _
    omega
  unfold G2
  rw [dif_pos (by rw [e]; exact hp), outsAt0_sweep, fold0_congr m c _ _ _ (by omega) e]
  exact at_ix2 _ _ _ _ rfl (Nat.mod_eq_of_lt j.isLt)

theorem equal (x : Vec Ideal S4096x2816 .bf16) (w : Vec Ideal S2816x1024 .bf16) (c : Dev nD) (hx : x = hidden m c) (hw : w = weights m c) :
    Host.dotGeneral (F := Ideal) Cert.FoutRefIdeal.dot_S4096x2816_S2816x1024_S4096x1024_1_0_0_1_n_n none
      (extf .f32 x Cert.FoutRefIdeal.Gen.bitsLt_bf16_f32) (extf .f32 w Cert.FoutRefIdeal.Gen.bitsLt_bf16_f32) = (G2 m c : Vec Ideal S4096x1024 .f32) := by
  subst hx hw
  refine funext fun y => (congrArg _ (eq_ix2 y)).trans (Eq.trans ?_ ((result m c (y 0) (y 1)).symm.trans (congrArg _ (eq_ix2 y).symm)))
  simp only [pointwise, zero_add]

theorem frame_reference : Cert.quiescent_FoutRefIdeal := fun m ρ _ =>
  (θ_run Cert.FoutRefIdeal.defs _ _).mono (fun r h => ⟨fun c => (h c).2, sem_eq_zero_of_no_sems (by decide) r.2⟩)
    (Cert.FoutRefIdeal.Value.run m ρ)

theorem algebraic : Cert.algebraic_FoutIdeal_FoutRefIdeal := by
  intro m g m' g' _ h
  refine ⟨G2 m, run m g, (θ_run Cert.FoutRefIdeal.defs _ _).mono (fun _ r c => ?_) (Cert.FoutRefIdeal.Value.run m' g')⟩
  exact ⟨(r c).1.trans (equal m _ _ c (h c).1 (h c).2), (r c).2⟩

end Cert.Proof.Fout

end
-- ==== Proof.Zx.lean ====
/- The state-space layer's input product, forward: every point takes one tile of the result, from rows of the input and the
   leading columns of the weights. -/
module

public import proofs.«01_k».proof.Defs
public import proofs.«01_k».proof.Proof.Product
public import proofs.«01_k».proof.Proof.Gen.ZxIdeal.Value
public import proofs.«01_k».proof.Proof.Gen.ZxRefIdeal.Run
public import Idealize.ShloMosaic.Lib.Tactic
public import Idealize.ShloMosaic.Adequacy
public import Idealize.ShloMosaic.Init

@[expose] public section

set_option maxRecDepth 16384

noncomputable section

namespace Cert.Proof.Zx

open Idealize.ShloMosaic Idealize.ShloMosaic.TcCoe Idealize.ShloMosaic.Tactic Idealize.SL.Sem
open Cert.ZxIdeal Cert.ZxIdeal.Gen Cert.ZxIdeal.Value
open scoped BigOperators

/-- Rows of the input times the leading columns of the weights. -/
def prod (x : Vec Ideal S4352x1024 .bf16) (w : Vec Ideal S1024x6208 .bf16) : Vec Ideal S4352x6144 .bf16 :=
  fun y => ∑ k : Fin 1024, x (ix2 (y 0) k) * w (ix2 k ⟨(y 1).val, by have : (y 1).val < 6144 := (y 1).isLt; omega⟩)

/-- A point leaves the product of the blocks it reads. -/
theorem left (c : Dev nD) (i : grid0.Coords) (a0 : Memref sig .tc .vmem S1088x1024 .bf16) (h0 : a0.IsWhole)
    (a1 : Memref sig .tc .vmem S1024x2048 .bf16) (h1 : a1.IsWhole) (a2 : Memref sig .tc .vmem S1088x2048 .bf16) (h2 : a2.IsWhole)
    (x0 : Vec Ideal S1088x1024 .bf16) (x1 : Vec Ideal S1024x2048 .bf16) :
    out0_A_2 c i a0 h0 a1 h1 a2 h2 x0 x1 = k0_pay1 x0 x1 := by
  unfold out0_A_2
  rw [View.read_writes_eq_canon _ _ _ (cover0_A_2 c i a0 h0 a1 h1 a2 h2 x0 x1)]
  unfold kernelRun0_A
  dsimp only
  rw [View.canon_unit_zero zero2]
  simp only [View.readAt_eq_ld, h0.read_unread, h1.read_unread, View.ld_unit_zero (S := S1088x1024) zero2, View.ld_unit_zero (S := S1024x2048) zero2]

variable (m : (ℓ : Loc nD τ sig) → Buf (Elt Ideal) ℓ)

abbrev input (c : Dev nD) : Vec Ideal S4352x1024 .bf16 := m ((c : Thread nD τ).loc main_arg0)
abbrev weights (c : Dev nD) : Vec Ideal S1024x6208 .bf16 := m ((c : Thread nD τ).loc main_arg1)
abbrev inputAt (c : Dev nD) (t : Fin cfg0.N) : Vec Ideal S1088x1024 .bf16 := iblk m c 0 t
abbrev weightsAt (c : Dev nD) (t : Fin cfg0.N) : Vec Ideal S1024x2048 .bf16 := X0_1 m c t

theorem tiles : ∀ t : Fin cfg0.N, win0_2.flush t = true ∧ win0_0.index t = ![win0_2.index t (0 : Fin 2), 0]
    ∧ win0_1.index t = ![0, win0_2.index t (1 : Fin 2)] :=
  (by decide +kernel : ∀ t : Fin grid0.N, _)

theorem onto : ∀ (p : Fin 4) (q : Fin 3), ∃ t : Fin cfg0.N, win0_2.index t = ![p.val, q.val] :=
  (by decide +kernel : ∀ (p : Fin 4) (q : Fin 3), ∃ t : Fin grid0.N, _)

theorem flushed_eq (c : Dev nD) (t : Fin cfg0.N) :
    (dats m 0 c).flushed 2 t = ((cfg0.win 2).blk t).view.read (Elt Ideal) (prod (input m c) (weights m c)) := by
  obtain ⟨-, e0, e1⟩ := tiles t
  rw [flushed2_A, left]
  funext y
  show k0_pay1 (inputAt m c t) (weightsAt m c t) (ix2 (⟨(y 0).val, (y 0).isLt⟩ : Fin 1088) (⟨(y 1).val, (y 1).isLt⟩ : Fin 2048)) = prod (input m c) (weights m c) (((cfg0.win 2).blk t).view.emb y)
  unfold k0_pay1
  simp only [pointwise, zero_add]
  refine Finset.sum_congr rfl fun k _ => congrArg₂ (· * ·) ?_ ?_
  · show V m c main_arg0 _ = _
    rw [V_main_arg0]
    exact at_ix2 (input m c) _ _ _ (congrArg (fun n => n * 1088 + 1 * (y 0).val) (congrFun e0 0))
      ((congrArg (fun n => n * 1024 + 1 * k.val) (congrFun e0 1)).trans (by simp))
  · unfold weightsAt X0_1 Pipeline.Window.fill
    rw [dif_pos (moved0_1 t _)]
    show V m c main_arg1 _ = _
    rw [V_main_arg1]
    exact at_ix2 (weights m c) _ _ _ ((congrArg (fun n => n * 1024 + 1 * k.val) (congrFun e1 0)).trans (by simp))
      (congrArg (fun n => n * 2048 + 1 * (y 1).val) (congrFun e1 1))

theorem result (c : Dev nD) : (dats m 0 c).arrAt 2 cfg0.N = prod (input m c) (weights m c) :=
  (dats m 0 c).arrAt_eq_of_cover 2 _ (fun t _ => flushed_eq m c t) fun i => by
    have h0 : (i 0).val < 4352 := (i 0).isLt
    have h1 : (i 1).val < 6144 := (i 1).isLt
    obtain ⟨t, ht⟩ := onto ⟨(i 0).val / 1088, by omega⟩ ⟨(i 1).val / 2048, by omega⟩
    refine ⟨t, (tiles t).1, ?_⟩
    show i ∈ ((View.whole main_v0).slice (win0_2.rect t)).set
    rw [View.set_slice_whole]
    exact mem_tile _ i (s0 := 1088) (s1 := 2048) rfl rfl (by decide) (by decide) (congrArg (· * 1088) (congrFun ht 0)) (congrArg (· * 2048) (congrFun ht 1))

/-- The weights' leading columns. -/
theorem leading (w : Vec Ideal S1024x6208 .bf16) (k : Fin 1024) (j : Fin 6144) :
    extractStridedSlice Cert.ZxRefIdeal.S1024x6144 ![0, 0] w Cert.ZxRefIdeal.Gen.slices_S1024x6208_S1024x6144_0_0 (ix2 k j) = w (ix2 k ⟨j.val, by omega⟩) :=
  at_ix2 w _ _ _ (Nat.zero_add _) (Nat.zero_add _)

/-- The reference's product, at an index. -/
theorem equal (x : Vec Ideal S4352x1024 .bf16) (w : Vec Ideal S1024x6208 .bf16) :
    (truncf (F := Ideal) .bf16 (Host.dotGeneral Cert.ZxRefIdeal.dot_S4352x1024_S1024x6144_S4352x6144_1_0_0_1_n_n none
      (extf .f32 x Cert.ZxRefIdeal.Gen.bitsLt_bf16_f32)
      (extf .f32 (extractStridedSlice Cert.ZxRefIdeal.S1024x6144 ![0, 0] w Cert.ZxRefIdeal.Gen.slices_S1024x6208_S1024x6144_0_0) Cert.ZxRefIdeal.Gen.bitsLt_bf16_f32))
      Cert.ZxRefIdeal.Gen.bitsLt_bf16_f32) = prod x w := by
  refine funext fun y => (congrArg _ (eq_ix2 y)).trans ?_
  refine Eq.trans ?_ (Finset.sum_congr rfl fun k _ => congrArg (x (ix2 (y 0) k) * ·) (leading w k (y 1)))
  generalize extractStridedSlice Cert.ZxRefIdeal.S1024x6144 ![0, 0] w Cert.ZxRefIdeal.Gen.slices_S1024x6208_S1024x6144_0_0 = w
  simp only [pointwise, zero_add]

theorem frame_reference : Cert.quiescent_ZxRefIdeal := fun m ρ _ =>
  (θ_run Cert.ZxRefIdeal.defs _ _).mono (fun r h => ⟨fun c => (h c).2, sem_eq_zero_of_no_sems (by decide) r.2⟩)
    (Cert.ZxRefIdeal.Value.run m ρ)

theorem algebraic : Cert.algebraic_ZxIdeal_ZxRefIdeal := by
  intro m g m' g' _ h
  refine ⟨fun c => prod (input m c) (weights m c), (θ_run Cert.ZxIdeal.defs _ _).mono (fun _ r c => ⟨(r c).1.trans (result m c), (r c).2⟩) (run_blocks m g),
    (θ_run Cert.ZxRefIdeal.defs _ _).mono (fun _ r c => ⟨(r c).1.trans ?_, (r c).2⟩) (Cert.ZxRefIdeal.Value.run m' g')⟩
  exact (equal _ _).trans (congrArg₂ prod (h c).1 (h c).2)

end Cert.Proof.Zx

end
-- ==== Proof.Dwzx.lean ====
/- The gradient of the state-space layer's input weights: the input's transpose times the gradient of the projected values.
   Two points share a tile of columns, each taking half of the rows. -/
module

public import proofs.«01_k».proof.Defs
public import proofs.«01_k».proof.Proof.Product
public import proofs.«01_k».proof.Proof.Gen.DwzxIdeal.Value
public import proofs.«01_k».proof.Proof.Gen.DwzxRefIdeal.Run
public import Idealize.ShloMosaic.Lib.Tactic
public import Idealize.ShloMosaic.Adequacy
public import Idealize.ShloMosaic.Init

@[expose] public section

set_option maxRecDepth 16384

noncomputable section

namespace Cert.Proof.Dwzx

open Idealize.ShloMosaic Idealize.ShloMosaic.TcCoe Idealize.ShloMosaic.Tactic Idealize.SL.Sem
open Cert.DwzxIdeal Cert.DwzxIdeal.Gen Cert.DwzxIdeal.Value
open scoped BigOperators

section Points

variable (c : Dev nD) (i : grid0.Coords) (a0 : Memref sig .tc .vmem S2176x1024 .bf16) (h0 : a0.IsWhole)
  (a1 : Memref sig .tc .vmem S2176x1024 .bf16) (h1 : a1.IsWhole) (a2 : Memref sig .tc .vmem S1024x1024 .bf16) (h2 : a2.IsWhole)
  (a3 : Memref sig .tc .vmem S1024x1024 .f32) (h3 : a3.IsWhole)
  (x0 x1 : Vec Ideal S2176x1024 .bf16) (acc : Vec Ideal S1024x1024 .f32)

/-- The first point leaves its product. -/
theorem first (hc : cond0_0 i) (hd : ¬cond0_1 i) :
    sout0_A_0 c i a0 h0 a1 h1 a2 h2 a3 h3 hc hd x0 x1 = k0_pay2 k0_pay1 x0 x1 := by
  unfold sout0_A_0
  rw [View.read_writes_eq_canon _ _ _ (scover0_A_0 c i a0 h0 a1 h1 a2 h2 a3 h3 hc hd x0 x1)]
  unfold kernelRun0_A
  dsimp only
  sl_unfold_words
  rw [View.canon_cons_unit_zero (S := S1024x1024) zero2, View.readCov_unit_zero (S := S1024x1024) _ zero2]
  simp only [View.readAt_eq_ld, h0.read_unread, h1.read_unread, View.ld_unit_zero (S := S2176x1024) zero2, View.ld_unit_zero (S := S1024x1024) zero2]

/-- The second adds its own, -/
theorem second (hc : ¬cond0_0 i) (hd : cond0_1 i) :
    sout0_B_0 c i a0 h0 a1 h1 a2 h2 a3 h3 hc hd x0 x1 acc = k0_pay2 acc x0 x1 := by
  unfold sout0_B_0
  rw [View.read_writes_eq_canon _ _ _ (scover0_B_0 c i a0 h0 a1 h1 a2 h2 a3 h3 hc hd x0 x1 acc)]
  unfold kernelRun0_B
  dsimp only
  sl_unfold_words
  rw [View.canon_unit_zero zero2]
  simp only [View.readAt_eq_ld, h0.read_unread, h1.read_unread, h3.read_unread, View.ld_unit_zero (S := S2176x1024) zero2, View.ld_unit_zero (S := S1024x1024) zero2]

/-- and writes the sum out. -/
theorem stored (hc : ¬cond0_0 i) (hd : cond0_1 i) :
    out0_B_2 c i a0 h0 a1 h1 a2 h2 a3 h3 hc hd x0 x1 acc = k0_pay3 (k0_pay2 acc x0 x1) := by
  unfold out0_B_2
  rw [View.read_writes_eq_canon _ _ _ (cover0_B_2 c i a0 h0 a1 h1 a2 h2 a3 h3 hc hd x0 x1 acc)]
  unfold kernelRun0_B
  dsimp only
  sl_unfold_words
  rw [View.canon_unit_zero zero2, View.readCov_unit_zero (S := S1024x1024) _ zero2]
  simp only [View.readAt_eq_ld, h0.read_unread, h1.read_unread, h3.read_unread, View.ld_unit_zero (S := S2176x1024) zero2, View.ld_unit_zero (S := S1024x1024) zero2]

end Points

theorem product (acc : Vec Ideal S1024x1024 .f32) (x0 x1 : Vec Ideal S2176x1024 .bf16) (r s : Fin 1024) :
    k0_pay2 acc x0 x1 (ix2 r s) = acc (ix2 r s) + ∑ k : Fin 2176, x0 (ix2 k r) * x1 (ix2 k s) := by
  unfold k0_pay2
  simp only [pointwise, zero_add]

theorem zero (y : S1024x1024.Idx) : k0_pay1 (F := Ideal) y = 0 := by
  unfold k0_pay1
  simp only [pointwise]

variable (m : (ℓ : Loc nD τ sig) → Buf (Elt Ideal) ℓ)

abbrev input (c : Dev nD) : Vec Ideal S4352x1024 .bf16 := m ((c : Thread nD τ).loc main_arg0)
abbrev grads (c : Dev nD) : Vec Ideal S4352x6144 .bf16 := m ((c : Thread nD τ).loc main_arg1)
abbrev inputAt (c : Dev nD) (t : Fin cfg0.N) : Vec Ideal S2176x1024 .bf16 := iblk m c 0 t
abbrev gradsAt (c : Dev nD) (t : Fin cfg0.N) : Vec Ideal S2176x1024 .bf16 := iblk m c 1 t

theorem blocks : ∀ t : Fin cfg0.N, win0_0.index t = ![t.val % 2, 0] ∧ win0_1.index t = ![t.val % 2, t.val / 2] :=
  (by decide +kernel : ∀ t : Fin grid0.N, _)

/-- The terms a point's product contributes at row `r`, column `s` of its tile. -/
def term (c : Dev nD) (r s : Fin 1024) (n : ℕ) (h : n < cfg0.N) (k : Fin 2176) : EReal :=
  inputAt m c ⟨n, h⟩ (ix2 k r) * gradsAt m c ⟨n, h⟩ (ix2 k s)

/-- They are terms of the whole sum. -/
theorem term_eq (c : Dev nD) (j : Fin 6144) (r s : Fin 1024) (n : ℕ) (h : n < cfg0.N) (k : Fin 2176) (l : Fin 4352)
    (hj : j.val = n / 2 * 1024 + s.val) (hl : l.val = n % 2 * 2176 + k.val) :
    term m c r s n h k = input m c (ix2 l r) * grads m c (ix2 l j) := by
  obtain ⟨e0, e1⟩ := blocks ⟨n, h⟩
  refine congrArg₂ (· * ·) ?_ ?_
  · show V m c main_arg0 _ = _
    rw [V_main_arg0]
    refine at_ix2 (input m c) _ _ _ ((congrArg (fun q => q * 2176 + 1 * k.val) (congrFun e0 0)).trans ?_) ((congrArg (fun q => q * 1024 + 1 * r.val) (congrFun e0 1)).trans ?_)
    · show n % 2 * 2176 + 1 * k.val = l.val; omega
    · show 0 * 1024 + 1 * r.val = r.val; omega
  · show V m c main_arg1 _ = _
    rw [V_main_arg1]
    refine at_ix2 (grads m c) _ _ _ ((congrArg (fun q => q * 2176 + 1 * k.val) (congrFun e1 0)).trans ?_) ((congrArg (fun q => q * 1024 + 1 * s.val) (congrFun e1 1)).trans ?_)
    · show n % 2 * 2176 + 1 * k.val = l.val; omega
    · show n / 2 * 1024 + 1 * s.val = j.val; omega

/-- What the second point of a pair writes out. -/
theorem written (c : Dev nD) (j : Fin 6144) (r s : Fin 1024) (q : ℕ) (h : 2 * q + 1 < cfg0.N) (hj : j.val = q * 1024 + s.val) :
    (outsAt0 m c (2 * q + 1) h).1 (ix2 r s) = ∑ l : Fin 4352, input m c (ix2 l r) * grads m c (ix2 l j) := by
  refine Eq.trans ?_ (accumulated (J := 1) (T := 2176) rfl (fun n h => (outsAt0 m c n h).2 (ix2 r s)) (term m c r s)
    (fun n h h0 => ?_) (fun n h h0 => ?_) q h _ (fun p k hp l hl => term_eq m c j r s _ hp k l (by omega) (by omega)))
  · rw [outsAt0_B m c ⟨2 * q + 1, h⟩ (by dsimp only; omega) (by dsimp only; omega)]
    dsimp only
    rw [stored, second]
    unfold k0_pay3
    simp only [pointwise]
  · rw [outsAt0_A m c ⟨n, h⟩ h0 (by dsimp only; omega)]
    dsimp only
    rw [first, product, zero, zero_add]
    rfl
  · rw [outsAt0_B m c ⟨n + 1, h⟩ h0 (by dsimp only; omega)]
    dsimp only
    rw [second, product]
    rfl

theorem result (c : Dev nD) (i : Fin 1024) (j : Fin 6144) :
    (G2 m c : Vec Ideal S1024x6144 .bf16) (ix2 i j) = ∑ l : Fin 4352, input m c (ix2 l i) * grads m c (ix2 l j) := by
  have hN : cfg0.N = 12 := N_0
  have hp : 2 * (j.val / 1024) + 1 < cfg0.N := by omega
  refine Eq.trans ?_ (written m c j i ⟨j.val % 1024, Nat.mod_lt _ (by decide)⟩ (j.val / 1024) hp (by dsimp only; omega))
  have e : pt2Of (ix2 i j) = 2 * (j.val / 1024) + 1 := by
    show 2 * (6 * (i.val / 1024 - 0) + 1 * (j.val / 1024 - 0)) + 1 = _
    omega
  unfold G2
  rw [dif_pos (by rw [e]; exact hp), outsAt0_sweep, fold0_congr m c _ _ _ (by omega) e]
  exact at_ix2 _ _ _ _ (Nat.mod_eq_of_lt i.isLt) rfl

/-- So it agrees with the derivative of the product. -/
theorem equal (x : Vec Ideal S4352x1024 .bf16) (d : Vec Ideal S4352x6144 .bf16) (c : Dev nD) (hx : x = input m c) (hd : d = grads m c) :
    (truncf (F := Ideal) .bf16 (transpose S1024x6144 [1, 0] (Host.dotGeneral Cert.DwzxRefIdeal.dot_S4352x6144_S4352x1024_S6144x1024_0_0_1_1_n_n none
      (extf .f32 d Cert.DwzxRefIdeal.Gen.bitsLt_bf16_f32) (extf .f32 x Cert.DwzxRefIdeal.Gen.bitsLt_bf16_f32)) Cert.DwzxRefIdeal.Gen.transposes_S6144x1024_S1024x6144_1_0)
      Cert.DwzxRefIdeal.Gen.bitsLt_bf16_f32) = (G2 m c : Vec Ideal S1024x6144 .bf16) := by
  subst hx hd
  refine funext fun y => (congrArg _ (eq_ix2 y)).trans (Eq.trans ?_ ((result m c (y 0) (y 1)).symm.trans (congrArg _ (eq_ix2 y).symm)))
  simp only [pointwise, zero_add]
  exact Finset.sum_congr rfl fun k _ => mul_comm _ _

theorem frame_reference : Cert.quiescent_DwzxRefIdeal := fun m ρ _ =>
  (θ_run Cert.DwzxRefIdeal.defs _ _).mono (fun r h => ⟨fun c => (h c).2, sem_eq_zero_of_no_sems (by decide) r.2⟩)
    (Cert.DwzxRefIdeal.Value.run m ρ)

theorem algebraic : Cert.algebraic_DwzxIdeal_DwzxRefIdeal := by
  intro m g m' g' _ h
  refine ⟨G2 m, run m g, (θ_run Cert.DwzxRefIdeal.defs _ _).mono (fun _ r c => ?_) (Cert.DwzxRefIdeal.Value.run m' g')⟩
  exact ⟨(r c).1.trans (equal m _ _ c (h c).1 (h c).2), (r c).2⟩

end Cert.Proof.Dwzx

end
-- ==== Proof.Dzx.lean ====
/- The gradient of the state-space layer's input: the gradient of the projected values times the transpose of the weights'
   leading columns. Four points share a tile of rows, each taking a quarter of those columns. -/
module

public import proofs.«01_k».proof.Defs
public import proofs.«01_k».proof.Proof.Product
public import proofs.«01_k».proof.Proof.Gen.DzxIdeal.Value
public import proofs.«01_k».proof.Proof.Gen.DzxRefIdeal.Run
public import Idealize.ShloMosaic.Lib.Tactic
public import Idealize.ShloMosaic.Adequacy
public import Idealize.ShloMosaic.Init

@[expose] public section

set_option maxRecDepth 16384

noncomputable section

namespace Cert.Proof.Dzx

open Idealize.ShloMosaic Idealize.ShloMosaic.TcCoe Idealize.ShloMosaic.Tactic Idealize.SL.Sem
open Cert.DzxIdeal Cert.DzxIdeal.Gen Cert.DzxIdeal.Value
open scoped BigOperators

section Points

variable (c : Dev nD) (i : grid0.Coords) (a0 : Memref sig .tc .vmem S1088x1536 .bf16) (h0 : a0.IsWhole)
  (a1 : Memref sig .tc .vmem S1024x1536 .bf16) (h1 : a1.IsWhole) (a2 : Memref sig .tc .vmem S1088x1024 .f32) (h2 : a2.IsWhole)
  (a3 : Memref sig .tc .vmem S1088x1024 .f32) (h3 : a3.IsWhole)
  (x0 : Vec Ideal S1088x1536 .bf16) (x1 : Vec Ideal S1024x1536 .bf16) (acc : Vec Ideal S1088x1024 .f32)

/-- The first point of a sum leaves the first product. -/
theorem first (hc : cond0_0 i) (hd : ¬cond0_1 i) :
    sout0_A_0 c i a0 h0 a1 h1 a2 h2 a3 h3 hc hd x0 x1 = k0_pay2 k0_pay1 x0 x1 := by
  unfold sout0_A_0
  rw [View.read_writes_eq_canon _ _ _ (scover0_A_0 c i a0 h0 a1 h1 a2 h2 a3 h3 hc hd x0 x1)]
  unfold kernelRun0_A
  dsimp only
  sl_unfold_words
  rw [View.canon_cons_unit_zero (S := S1088x1024) zero2, View.readCov_unit_zero (S := S1088x1024) _ zero2]
  simp only [View.readAt_eq_ld, h0.read_unread, h1.read_unread, View.ld_unit_zero (S := S1088x1536) zero2, View.ld_unit_zero (S := S1024x1536) zero2]

/-- A point in the middle adds its product. -/
theorem middle (hc : ¬cond0_0 i) (hd : ¬cond0_1 i) :
    sout0_B_0 c i a0 h0 a1 h1 a2 h2 a3 h3 hc hd x0 x1 acc = k0_pay2 acc x0 x1 := by
  unfold sout0_B_0
  rw [View.read_writes_eq_canon _ _ _ (scover0_B_0 c i a0 h0 a1 h1 a2 h2 a3 h3 hc hd x0 x1 acc)]
  unfold kernelRun0_B
  dsimp only
  rw [View.canon_unit_zero zero2]
  simp only [View.readAt_eq_ld, h0.read_unread, h1.read_unread, h3.read_unread, View.ld_unit_zero (S := S1088x1536) zero2, View.ld_unit_zero (S := S1024x1536) zero2, View.ld_unit_zero (S := S1088x1024) zero2]

/-- So does the last, -/
theorem last (hc : ¬cond0_0 i) (hd : cond0_1 i) :
    sout0_C_0 c i a0 h0 a1 h1 a2 h2 a3 h3 hc hd x0 x1 acc = k0_pay2 acc x0 x1 := by
  unfold sout0_C_0
  rw [View.read_writes_eq_canon _ _ _ (scover0_C_0 c i a0 h0 a1 h1 a2 h2 a3 h3 hc hd x0 x1 acc)]
  unfold kernelRun0_C
  dsimp only
  sl_unfold_words
  rw [View.canon_unit_zero zero2]
  simp only [View.readAt_eq_ld, h0.read_unread, h1.read_unread, h3.read_unread, View.ld_unit_zero (S := S1088x1536) zero2, View.ld_unit_zero (S := S1024x1536) zero2, View.ld_unit_zero (S := S1088x1024) zero2]

/-- which writes the sum out. -/
theorem stored (hc : ¬cond0_0 i) (hd : cond0_1 i) :
    out0_C_2 c i a0 h0 a1 h1 a2 h2 a3 h3 hc hd x0 x1 acc = k0_pay3 (k0_pay2 acc x0 x1) := by
  unfold out0_C_2
  rw [View.read_writes_eq_canon _ _ _ (cover0_C_2 c i a0 h0 a1 h1 a2 h2 a3 h3 hc hd x0 x1 acc)]
  unfold kernelRun0_C
  dsimp only
  sl_unfold_words
  rw [View.canon_unit_zero zero2, View.readCov_unit_zero (S := S1088x1024) _ zero2]
  simp only [View.readAt_eq_ld, h0.read_unread, h1.read_unread, h3.read_unread, View.ld_unit_zero (S := S1088x1536) zero2, View.ld_unit_zero (S := S1024x1536) zero2, View.ld_unit_zero (S := S1088x1024) zero2]

end Points

theorem product (acc : Vec Ideal S1088x1024 .f32) (x0 : Vec Ideal S1088x1536 .bf16) (x1 : Vec Ideal S1024x1536 .bf16) (r : Fin 1088) (s : Fin 1024) :
    k0_pay2 acc x0 x1 (ix2 r s) = acc (ix2 r s) + ∑ k : Fin 1536, x0 (ix2 r k) * x1 (ix2 s k) := by
  unfold k0_pay2
  simp only [pointwise, zero_add]

theorem zero (y : S1088x1024.Idx) : k0_pay1 (F := Ideal) y = 0 := by
  unfold k0_pay1
  simp only [pointwise]

variable (m : (ℓ : Loc nD τ sig) → Buf (Elt Ideal) ℓ)

abbrev grads (c : Dev nD) : Vec Ideal S4352x6144 .bf16 := m ((c : Thread nD τ).loc main_arg0)
abbrev weights (c : Dev nD) : Vec Ideal S1024x6208 .bf16 := m ((c : Thread nD τ).loc main_arg1)
abbrev gradsAt (c : Dev nD) (t : Fin cfg0.N) : Vec Ideal S1088x1536 .bf16 := iblk m c 0 t
abbrev weightsAt (c : Dev nD) (t : Fin cfg0.N) : Vec Ideal S1024x1536 .bf16 := X0_1 m c t

theorem blocks : ∀ t : Fin cfg0.N, win0_0.index t = ![t.val / 4, t.val % 4] ∧ win0_1.index t = ![0, t.val % 4] :=
  (by decide +kernel : ∀ t : Fin grid0.N, _)

/-- The terms point `n` adds. -/
def term (c : Dev nD) (r : Fin 1088) (s : Fin 1024) (n : ℕ) (h : n < cfg0.N) (k : Fin 1536) : EReal :=
  gradsAt m c ⟨n, h⟩ (ix2 r k) * weightsAt m c ⟨n, h⟩ (ix2 s k)

/-- They are terms of the whole sum; none of them reads the weights' trailing columns. -/
theorem term_eq (c : Dev nD) (i : Fin 4352) (r : Fin 1088) (s : Fin 1024) (n : ℕ) (h : n < cfg0.N) (k : Fin 1536) (l : Fin 6144)
    (hi : i.val = n / 4 * 1088 + r.val) (hl : l.val = n % 4 * 1536 + k.val) :
    term m c r s n h k = grads m c (ix2 i l) * weights m c (ix2 s ⟨l.val, by omega⟩) := by
  obtain ⟨e0, e1⟩ := blocks ⟨n, h⟩
  refine congrArg₂ (· * ·) ?_ ?_
  · show V m c main_arg0 _ = _
    rw [V_main_arg0]
    refine at_ix2 (grads m c) _ _ _ ((congrArg (fun q => q * 1088 + 1 * r.val) (congrFun e0 0)).trans ?_) ((congrArg (fun q => q * 1536 + 1 * k.val) (congrFun e0 1)).trans ?_)
    · show n / 4 * 1088 + 1 * r.val = i.val; omega
    · show n % 4 * 1536 + 1 * k.val = l.val; omega
  · unfold weightsAt X0_1 Pipeline.Window.fill
    rw [dif_pos (moved0_1 ⟨n, h⟩ (ix2 s k))]
    show V m c main_arg1 _ = _
    rw [V_main_arg1]
    refine at_ix2 (weights m c) _ _ _ ((congrArg (fun q => q * 1024 + 1 * s.val) (congrFun e1 0)).trans ?_) ((congrArg (fun q => q * 1536 + 1 * k.val) (congrFun e1 1)).trans ?_)
    · show 0 * 1024 + 1 * s.val = s.val; omega
    · show n % 4 * 1536 + 1 * k.val = l.val; omega

/-- What the last point of a sum writes out. -/
theorem written (c : Dev nD) (i : Fin 4352) (r : Fin 1088) (s : Fin 1024) (q : ℕ) (h : 4 * q + 3 < cfg0.N) (hi : i.val = q * 1088 + r.val) :
    (outsAt0 m c (4 * q + 3) h).1 (ix2 r s) = ∑ l : Fin 6144, grads m c (ix2 i l) * weights m c (ix2 s ⟨l.val, by omega⟩) := by
  refine Eq.trans ?_ (accumulated (J := 3) (T := 1536) rfl (fun n h => (outsAt0 m c n h).2 (ix2 r s)) (term m c r s)
    (fun n h h0 => ?_) (fun n h h0 => ?_) q h _ (fun p k hp l hl => term_eq m c i r s _ hp k l (by omega) (by omega)))
  · rw [outsAt0_C m c ⟨4 * q + 3, h⟩ (by dsimp only; omega) (by dsimp only; omega)]
    dsimp only
    rw [stored, last]
    unfold k0_pay3
    simp only [pointwise]
  · rw [outsAt0_A m c ⟨n, h⟩ h0 (by dsimp only; omega)]
    dsimp only
    rw [first, product, zero, zero_add]
    rfl
  · by_cases h1 : (n + 1) % 4 = 3
    · rw [outsAt0_C m c ⟨n + 1, h⟩ h0 h1]
      dsimp only
      rw [last, product]
      rfl
    · rw [outsAt0_B m c ⟨n + 1, h⟩ h0 h1]
      dsimp only
      rw [middle, product]
      rfl

theorem result (c : Dev nD) (i : Fin 4352) (j : Fin 1024) :
    (G2 m c : Vec Ideal S4352x1024 .f32) (ix2 i j) = ∑ l : Fin 6144, grads m c (ix2 i l) * weights m c (ix2 j ⟨l.val, by omega⟩) := by
  have hN : cfg0.N = 16 := N_0
  have hp : 4 * (i.val / 1088) + 3 < cfg0.N := by omega
  refine Eq.trans ?_ (written m c i ⟨i.val % 1088, Nat.mod_lt _ (by decide)⟩ j _ hp (by dsimp only; omega))
  have e : pt2Of (ix2 i j) = 4 * (i.val / 1088) + 3 := by
    show 4 * (1 * (i.val / 1088 - 0) + 1 * (j.val / 1024 - 0)) + 3 = _
    omega
  unfold G2
  rw [dif_pos (by rw [e]; exact hp), outsAt0_sweep, fold0_congr m c _ _ _ (by omega) e]
  exact at_ix2 _ _ _ _ rfl (Nat.mod_eq_of_lt j.isLt)

/-- The weights' leading columns. -/
theorem leading (w : Vec Ideal S1024x6208 .bf16) (j : Fin 1024) (l : Fin 6144) :
    extractStridedSlice Cert.DzxRefIdeal.S1024x6144 ![0, 0] w Cert.DzxRefIdeal.Gen.slices_S1024x6208_S1024x6144_0_0 (ix2 j l) = w (ix2 j ⟨l.val, by omega⟩) :=
  at_ix2 w _ _ _ (Nat.zero_add _) (Nat.zero_add _)

/-- So it agrees with the derivative of the product. -/
theorem equal (d : Vec Ideal S4352x6144 .bf16) (w : Vec Ideal S1024x6208 .bf16) (c : Dev nD) (hd : d = grads m c) (hw : w = weights m c) :
    Host.dotGeneral (F := Ideal) Cert.DzxRefIdeal.dot_S4352x6144_S1024x6144_S4352x1024_1_1_0_0_n_n none
      (extf .f32 d Cert.DzxRefIdeal.Gen.bitsLt_bf16_f32)
      (extf .f32 (extractStridedSlice Cert.DzxRefIdeal.S1024x6144 ![0, 0] w Cert.DzxRefIdeal.Gen.slices_S1024x6208_S1024x6144_0_0) Cert.DzxRefIdeal.Gen.bitsLt_bf16_f32)
      = (G2 m c : Vec Ideal S4352x1024 .f32) := by
  subst hd hw
  refine funext fun y => (congrArg _ (eq_ix2 y)).trans (Eq.trans ?_ ((result m c (y 0) (y 1)).symm.trans (congrArg _ (eq_ix2 y).symm)))
  refine Eq.trans ?_ (Finset.sum_congr rfl fun l _ => congrArg (grads m c (ix2 (y 0) l) * ·) (leading (weights m c) (y 1) l))
  generalize extractStridedSlice Cert.DzxRefIdeal.S1024x6144 ![0, 0] (weights m c) Cert.DzxRefIdeal.Gen.slices_S1024x6208_S1024x6144_0_0 = w
  simp only [pointwise, zero_add]

theorem frame_reference : Cert.quiescent_DzxRefIdeal := fun m ρ _ =>
  (θ_run Cert.DzxRefIdeal.defs _ _).mono (fun r h => ⟨fun c => (h c).2, sem_eq_zero_of_no_sems (by decide) r.2⟩)
    (Cert.DzxRefIdeal.Value.run m ρ)

theorem algebraic : Cert.algebraic_DzxIdeal_DzxRefIdeal := by
  intro m g m' g' _ h
  refine ⟨G2 m, run m g, (θ_run Cert.DzxRefIdeal.defs _ _).mono (fun _ r c => ?_) (Cert.DzxRefIdeal.Value.run m' g')⟩
  exact ⟨(r c).1.trans (equal m _ _ c (h c).1 (h c).2), (r c).2⟩

end Cert.Proof.Dzx

end
-- ==== Proof.Columns.lean ====
/- Arrays laid side by side, and arrays widened by columns of padding. -/
module

public import proofs.«01_k».proof.Proof.Product
public import Idealize.ShloMosaic.Lib.Pointwise
public import Idealize.ShloMosaic.Lib.Pipeline.Value
public import Idealize.ShloMosaic.Lib.KernelVsHost

@[expose] public section

noncomputable section

namespace Cert.Proof

open Idealize.ShloMosaic

section
variable {α : Type} {n p q w : ℕ} (x : (⟨2, ![n, p]⟩ : Shape).Idx → α) (y : (⟨2, ![n, q]⟩ : Shape).Idx → α)

/-- Of two arrays side by side, the columns of the first, -/
theorem beside_left (h : Shape.Concatenates [⟨2, ![n, p]⟩, ⟨2, ![n, q]⟩] ⟨2, ![n, w]⟩ 1) (r : Fin n) (j : Fin w) (k : Fin p) (e : j.val = k.val) :
    concatenate ⟨2, ![n, w]⟩ 1 [⟨⟨2, ![n, p]⟩, x⟩, ⟨⟨2, ![n, q]⟩, y⟩] h (ix2 r j) = x (ix2 r k) :=
  concatenate_pair_apply_left (t := ⟨2, ![n, w]⟩) 1 x y h (ix2 r j) rfl (ix2 r k) fun b => match b with
    | ⟨0, _⟩ => rfl
    | ⟨1, _⟩ => e.symm

/-- and of the second. -/
theorem beside_right (h : Shape.Concatenates [⟨2, ![n, p]⟩, ⟨2, ![n, q]⟩] ⟨2, ![n, w]⟩ 1) (r : Fin n) (j : Fin w) (k : Fin q) (e : j.val = k.val + p) :
    concatenate ⟨2, ![n, w]⟩ 1 [⟨⟨2, ![n, p]⟩, x⟩, ⟨⟨2, ![n, q]⟩, y⟩] h (ix2 r j) = y (ix2 r k) :=
  concatenate_pair_apply_right (t := ⟨2, ![n, w]⟩) 1 x y h (ix2 r j) rfl rfl (ix2 r k) (fun b hb => match b, hb with
    | ⟨0, _⟩, _ => rfl
    | ⟨1, _⟩, hb => absurd rfl hb) e.symm

/-- Two pairs agree side by side at a column when they agree, at their own rows, in every column. -/
theorem beside_congr {n' : ℕ} {x' : (⟨2, ![n', p]⟩ : Shape).Idx → α} {y' : (⟨2, ![n', q]⟩ : Shape).Idx → α}
    (h : Shape.Concatenates [⟨2, ![n, p]⟩, ⟨2, ![n, q]⟩] ⟨2, ![n, w]⟩ 1) (h' : Shape.Concatenates [⟨2, ![n', p]⟩, ⟨2, ![n', q]⟩] ⟨2, ![n', w]⟩ 1)
    (hw : w = p + q) (r : Fin n) (r' : Fin n') (ex : ∀ k, x (ix2 r k) = x' (ix2 r' k)) (ey : ∀ k, y (ix2 r k) = y' (ix2 r' k)) (j : Fin w) :
    concatenate ⟨2, ![n, w]⟩ 1 [⟨⟨2, ![n, p]⟩, x⟩, ⟨⟨2, ![n, q]⟩, y⟩] h (ix2 r j)
      = concatenate ⟨2, ![n', w]⟩ 1 [⟨⟨2, ![n', p]⟩, x'⟩, ⟨⟨2, ![n', q]⟩, y'⟩] h' (ix2 r' j) := by
  by_cases hj : j.val < p
  · rw [beside_left x y h r j ⟨j.val, hj⟩ rfl, beside_left x' y' h' r' j ⟨j.val, hj⟩ rfl, ex]
  · have e : j.val = j.val - p + p := by omega
    rw [beside_right x y h r j ⟨j.val - p, by omega⟩ e, beside_right x' y' h' r' j ⟨j.val - p, by omega⟩ e, ey]
end

section
variable {α : Type} {n p q w : ℕ} {u : Shape} (x : (⟨2, ![n, p]⟩ : Shape).Idx → α) (z : u.Idx → α) (hu : 0 < u.numel)

/-- An array with `q` columns of padding after it, in its own columns, -/
theorem widened_after (h : Shape.Pads ⟨2, ![n, p]⟩ ![0, 0] ![0, q] ![0, 0] ⟨2, ![n, w]⟩) (r : Fin n) (j : Fin w) (k : Fin p) (e : j.val = k.val) :
    pad ⟨2, ![n, w]⟩ ![0, 0] ![0, q] ![0, 0] x z h hu (ix2 r j) = x (ix2 r k) :=
  pad_apply_of_inside _ _ _ _ _ _ _ _ (ix2 r k) fun b => match b with
    | ⟨0, _⟩ => show r.val = 0 + r.val * (0 + 1) by omega
    | ⟨1, _⟩ => show j.val = 0 + k.val * (0 + 1) by omega

/-- and in the padding. -/
theorem padding_after (h : Shape.Pads ⟨2, ![n, p]⟩ ![0, 0] ![0, q] ![0, 0] ⟨2, ![n, w]⟩) (r : Fin n) (j : Fin w) (e : p ≤ j.val) :
    pad ⟨2, ![n, w]⟩ ![0, 0] ![0, q] ![0, 0] x z h hu (ix2 r j) = z (Shape.Idx.first hu) :=
  pad_apply_of_not_inside _ _ _ _ _ _ _ _ (1 : Fin 2) fun b =>
    absurd (show (j.val - 0) / (0 + 1) < p from b.2.2) (by rw [Nat.sub_zero, Nat.zero_add, Nat.div_one]; omega)

/-- An array with `q` columns of padding before it, in its own columns, -/
theorem widened_before (h : Shape.Pads ⟨2, ![n, p]⟩ ![0, q] ![0, 0] ![0, 0] ⟨2, ![n, w]⟩) (r : Fin n) (j : Fin w) (k : Fin p) (e : j.val = k.val + q) :
    pad ⟨2, ![n, w]⟩ ![0, q] ![0, 0] ![0, 0] x z h hu (ix2 r j) = x (ix2 r k) :=
  pad_apply_of_inside _ _ _ _ _ _ _ _ (ix2 r k) fun b => match b with
    | ⟨0, _⟩ => show r.val = 0 + r.val * (0 + 1) by omega
    | ⟨1, _⟩ => show j.val = q + k.val * (0 + 1) by omega

/-- and in the padding. -/
theorem padding_before (h : Shape.Pads ⟨2, ![n, p]⟩ ![0, q] ![0, 0] ![0, 0] ⟨2, ![n, w]⟩) (r : Fin n) (j : Fin w) (e : j.val < q) :
    pad ⟨2, ![n, w]⟩ ![0, q] ![0, 0] ![0, 0] x z h hu (ix2 r j) = z (Shape.Idx.first hu) :=
  pad_apply_of_not_inside _ _ _ _ _ _ _ _ (1 : Fin 2) fun b => absurd (show q ≤ j.val from b.1) (by omega)
end

/-- One row of padding over a row. -/
theorem stacked_padding {α : Type} {w : ℕ} (x : (⟨2, ![1, w]⟩ : Shape).Idx → α) {u : Shape} (z : u.Idx → α) (hu : 0 < u.numel)
    (h : Shape.Pads ⟨2, ![1, w]⟩ ![1, 0] ![0, 0] ![0, 0] ⟨2, ![2, w]⟩) (b : Fin 2) (k : Fin w) :
    pad ⟨2, ![2, w]⟩ ![1, 0] ![0, 0] ![0, 0] x z h hu (ix2 b k) = if b.val = 0 then z (Shape.Idx.first hu) else x (ix2 0 k) := by
  match b with
  | ⟨0, _⟩ => exact pad_apply_of_not_inside _ _ _ _ _ _ _ _ (0 : Fin 2) fun b => absurd (show 1 ≤ 0 from b.1) (by omega)
  | ⟨1, _⟩ => exact pad_apply_of_inside _ _ _ _ _ _ _ _ (ix2 0 k) fun b => match b with
    | ⟨0, _⟩ => rfl
    | ⟨1, _⟩ => show k.val = 0 + k.val * (0 + 1) by omega

/-- One row over another. -/
theorem stacked {α : Type} {w : ℕ} (x y : (⟨2, ![1, w]⟩ : Shape).Idx → α) (h : Shape.Concatenates [⟨2, ![1, w]⟩, ⟨2, ![1, w]⟩] ⟨2, ![2, w]⟩ 0) (b : Fin 2) (k : Fin w) :
    concatenate ⟨2, ![2, w]⟩ 0 [⟨⟨2, ![1, w]⟩, x⟩, ⟨⟨2, ![1, w]⟩, y⟩] h (ix2 b k) = if b.val = 0 then x (ix2 0 k) else y (ix2 0 k) := by
  match b with
  | ⟨0, _⟩ =>
    exact concatenate_pair_apply_left (t := ⟨2, ![2, w]⟩) 0 x y h (ix2 0 k) rfl (ix2 0 k) fun a => match a with
      | ⟨0, _⟩ => rfl
      | ⟨1, _⟩ => rfl
  | ⟨1, _⟩ =>
    exact concatenate_pair_apply_right (t := ⟨2, ![2, w]⟩) 0 x y h (ix2 1 k) rfl rfl (ix2 0 k) (fun a ha => match a, ha with
      | ⟨0, _⟩, ha => absurd rfl ha
      | ⟨1, _⟩, _ => rfl) rfl

/-- The second of two rows. -/
theorem second_row {α : Type} {w : ℕ} (x : (⟨2, ![2, w]⟩ : Shape).Idx → α) (h : Shape.Slices ⟨2, ![2, w]⟩ ![1, 0] ⟨2, ![1, w]⟩) (z : Fin 1) (k : Fin w) :
    extractStridedSlice ⟨2, ![1, w]⟩ ![1, 0] x h (ix2 z k) = x (ix2 1 k) :=
  at_ix2 x _ 1 k (show 1 + z.val = 1 by omega) (Nat.zero_add _)

end Cert.Proof

end
-- ==== Proof.Dglu.lean ====
/- The gradient of the convolution module's gated linear unit, and of the bias under it. Each point writes the gradient of its
   rows and adds their columns' sums to the bias gradient, which the last point writes out. -/
module

public import proofs.«01_k».proof.Defs
public import proofs.«01_k».proof.Proof.Product
public import proofs.«01_k».proof.Proof.Columns
public import proofs.«01_k».proof.Proof.Logistic
public import proofs.«01_k».proof.Proof.Gen.DgluIdeal.Value
public import proofs.«01_k».proof.Proof.Gen.DgluRefIdeal.Run
public import Idealize.ShloMosaic.Lib.Tactic
public import Idealize.ShloMosaic.Lib.IdealHost
public import Idealize.ShloMosaic.Adequacy
public import Idealize.ShloMosaic.Init

@[expose] public section

set_option maxRecDepth 16384

noncomputable section

namespace Cert.Proof.Dglu

open Idealize.ShloMosaic Idealize.ShloMosaic.TcCoe Idealize.ShloMosaic.Tactic Idealize.SL.Sem
open Cert.DgluIdeal Cert.DgluIdeal.Gen Cert.DgluIdeal.Value
open Cert.DgluRefIdeal (S4096x1024)
open scoped BigOperators

/-- The gradient of the gated value `a * logit b` in its gate `b`. -/
def slope (d a b : EReal) : EReal := d * a * logit b * (1 - logit b)

section Payload

variable (a b : Vec Ideal S256x1024 .bf16) (p q : Vec Ideal S256x512 .f32)

/-- The gradient of the module's output that a point reads. -/
abbrev outputs : FVec Ideal S256x1024 .f32 :=
  concatenate S256x1024 1 [⟨S256x512, p⟩, ⟨S256x512, q⟩] concatenates_S256x512_S256x512_S256x1024_d1

/-- A point's gradient of the gated half, -/
theorem left (r : Fin 256) (j : Fin 2048) (k : Fin 1024) (e : j.val = k.val) :
    k0_pay1 a b p q (ix2 r j) = outputs p q (ix2 r k) * logit (b (ix2 r k)) := by
  refine (beside_left _ _ concatenates_S256x1024_S256x1024_S256x2048_d1 r j k e).trans ?_
  show outputs p q (ix2 r k) * _ = _
  refine congrArg (outputs p q (ix2 r k) * ·) ?_
  simp only [pointwise, zero_sub, Ideal.ofBits_one_f32]
  rfl

/-- and of the gates. -/
theorem right (r : Fin 256) (j : Fin 2048) (k : Fin 1024) (e : j.val = k.val + 1024) :
    k0_pay1 a b p q (ix2 r j) = slope (outputs p q (ix2 r k)) (a (ix2 r k)) (b (ix2 r k)) := by
  refine (beside_right _ _ concatenates_S256x1024_S256x1024_S256x2048_d1 r j k e).trans ?_
  unfold slope outputs
  generalize concatenate S256x1024 1 [⟨S256x512, p⟩, ⟨S256x512, q⟩] concatenates_S256x512_S256x512_S256x1024_d1 = d
  simp only [pointwise, zero_sub, Ideal.ofBits_one_f32]
  rfl

/-- The sums of its columns. -/
theorem columns (j : Fin 2048) : k0_pay2 a b p q (ix2 (0 : Fin 1) j) = ∑ r : Fin 256, k0_pay1 a b p q (ix2 r j) := by
  unfold k0_pay2
  generalize k0_pay1 a b p q = d
  simp only [pointwise, zero_add]

end Payload

section Points

variable (c : Dev nD) (i : grid0.Coords) (a0 : Memref sig .tc .vmem S256x1024 .bf16) (h0 : a0.IsWhole)
  (a1 : Memref sig .tc .vmem S256x1024 .bf16) (h1 : a1.IsWhole) (a2 : Memref sig .tc .vmem S256x512 .f32) (h2 : a2.IsWhole)
  (a3 : Memref sig .tc .vmem S256x512 .f32) (h3 : a3.IsWhole) (a4 : Memref sig .tc .vmem S256x2048 .bf16) (h4 : a4.IsWhole)
  (a5 : Memref sig .tc .vmem S1x2048 .f32) (h5 : a5.IsWhole)
  (a b : Vec Ideal S256x1024 .bf16) (p q : Vec Ideal S256x512 .f32) (acc : Vec Ideal S1x2048 .f32)

/-- The first point writes its rows' gradient -/
theorem first_rows (hc : cond0_0 i) (hd : ¬cond0_1 i) :
    out0_A_4 c i a0 h0 a1 h1 a2 h2 a3 h3 a4 h4 a5 h5 hc hd a b p q = k0_pay3 a b p q := by
  unfold out0_A_4
  rw [View.read_writes_eq_canon _ _ _ (cover0_A_4 c i a0 h0 a1 h1 a2 h2 a3 h3 a4 h4 a5 h5 hc hd a b p q)]
  unfold kernelRun0_A
  dsimp only
  sl_unfold_words
  rw [View.canon_unit_zero zero2]
  simp only [View.readAt_eq_ld, h0.read_unread, h1.read_unread, h2.read_unread, h3.read_unread, View.ld_unit_zero (S := S256x1024) zero2, View.ld_unit_zero (S := S256x512) zero2]

/-- and starts the bias gradient; -/
theorem first_sums (hc : cond0_0 i) (hd : ¬cond0_1 i) :
    out0_A_5 c i a0 h0 a1 h1 a2 h2 a3 h3 a4 h4 a5 h5 hc hd a b p q = k0_pay4 a b p q := by
  unfold out0_A_5
  rw [View.read_writes_eq_canon _ _ _ (cover0_A_5 c i a0 h0 a1 h1 a2 h2 a3 h3 a4 h4 a5 h5 hc hd a b p q)]
  unfold kernelRun0_A
  dsimp only
  sl_unfold_words
  rw [View.canon_unit_zero zero2]
  simp only [View.readAt_eq_ld, h0.read_unread, h1.read_unread, h2.read_unread, h3.read_unread, View.ld_unit_zero (S := S256x1024) zero2, View.ld_unit_zero (S := S256x512) zero2]

/-- every later one writes its own rows -/
theorem later_rows (hc : ¬cond0_0 i) (hd : cond0_1 i) :
    out0_B_4 c i a0 h0 a1 h1 a2 h2 a3 h3 a4 h4 a5 h5 hc hd a b p q acc = k0_pay3 a b p q := by
  unfold out0_B_4
  rw [View.read_writes_eq_canon _ _ _ (cover0_B_4 c i a0 h0 a1 h1 a2 h2 a3 h3 a4 h4 a5 h5 hc hd a b p q acc)]
  unfold kernelRun0_B
  dsimp only
  sl_unfold_words
  rw [View.canon_unit_zero zero2]
  simp only [View.readAt_eq_ld, h0.read_unread, h1.read_unread, h2.read_unread, h3.read_unread, View.ld_unit_zero (S := S256x1024) zero2, View.ld_unit_zero (S := S256x512) zero2]

/-- and adds their sums. -/
theorem later_sums (hc : ¬cond0_0 i) (hd : cond0_1 i) :
    out0_B_5 c i a0 h0 a1 h1 a2 h2 a3 h3 a4 h4 a5 h5 hc hd a b p q acc = k0_pay5 a b p q acc := by
  unfold out0_B_5
  rw [View.read_writes_eq_canon _ _ _ (cover0_B_5 c i a0 h0 a1 h1 a2 h2 a3 h3 a4 h4 a5 h5 hc hd a b p q acc)]
  unfold kernelRun0_B
  dsimp only
  sl_unfold_words
  rw [View.canon_unit_zero zero2]
  simp only [View.readAt_eq_ld, h0.read_unread, h1.read_unread, h2.read_unread, h3.read_unread, h5.read_unread, View.ld_unit_zero (S := S256x1024) zero2, View.ld_unit_zero (S := S256x512) zero2, View.ld_unit_zero (S := S1x2048) zero2]

end Points

/-- The whole gradient: columns below 1024 the gated half's, the others the gates'. -/
def whole (u : Vec Ideal S4096x2048 .bf16) (d : FVec Ideal S4096x1024 .f32) : Vec Ideal S4096x2048 .f32 := fun y =>
  if h : (y 1).val < 1024 then
    d (ix2 (y 0) ⟨(y 1).val, h⟩) * logit (u (ix2 (y 0) ⟨(y 1).val + 1024, by omega⟩))
  else
    slope (d (ix2 (y 0) ⟨(y 1).val - 1024, by have : (y 1).val < 2048 := (y 1).isLt; omega⟩))
      (u (ix2 (y 0) ⟨(y 1).val - 1024, by have : (y 1).val < 2048 := (y 1).isLt; omega⟩)) (u y)

/-- The sums of its columns. -/
def sums (x : Vec Ideal S4096x2048 .f32) : Vec Ideal S1x2048 .f32 := fun y => ∑ l : Fin 4096, x (ix2 l (y 1))

variable (m : (ℓ : Loc nD τ sig) → Buf (Elt Ideal) ℓ)

abbrev gates (c : Dev nD) : Vec Ideal S4096x2048 .bf16 := m ((c : Thread nD τ).loc main_arg0)
abbrev low (c : Dev nD) : Vec Ideal S4096x512 .f32 := m ((c : Thread nD τ).loc main_arg1)
abbrev high (c : Dev nD) : Vec Ideal S4096x512 .f32 := m ((c : Thread nD τ).loc main_arg2)

/-- The gradient of the module's output, its two halves side by side. -/
abbrev both (p q : Vec Ideal S4096x512 .f32) : FVec Ideal S4096x1024 .f32 :=
  concatenate S4096x1024 1 [⟨S4096x512, p⟩, ⟨S4096x512, q⟩] Cert.DgluRefIdeal.Gen.concatenates_S4096x512_S4096x512_S4096x1024_d1

/-- The gradient the call computes. -/
abbrev target (c : Dev nD) : Vec Ideal S4096x2048 .f32 := whole (gates m c) (both (low m c) (high m c))

abbrev valueAt (c : Dev nD) (t : Fin cfg0.N) : Vec Ideal S256x1024 .bf16 := iblk m c 0 t
abbrev gateAt (c : Dev nD) (t : Fin cfg0.N) : Vec Ideal S256x1024 .bf16 := iblk m c 1 t
abbrev lowAt (c : Dev nD) (t : Fin cfg0.N) : Vec Ideal S256x512 .f32 := iblk m c 2 t
abbrev highAt (c : Dev nD) (t : Fin cfg0.N) : Vec Ideal S256x512 .f32 := iblk m c 3 t

theorem blocks : ∀ t : Fin cfg0.N, win0_0.index t = ![t.val, 0] ∧ win0_1.index t = ![t.val, 1] ∧ win0_2.index t = ![t.val, 0]
    ∧ win0_3.index t = ![t.val, 0] ∧ win0_4.index t = ![t.val, 0] ∧ win0_4.flush t = true ∧ win0_5.index t = ![0, 0] :=
  (by decide +kernel : ∀ t : Fin grid0.N, _)

section Read
variable (c : Dev nD) (t : Fin cfg0.N) (r : Fin 256) (i : Fin 4096) (hi : i.val = t.val * 256 + r.val)
include hi

theorem valueAt_apply (k : Fin 1024) (j : Fin 2048) (hj : j.val = k.val) : valueAt m c t (ix2 r k) = gates m c (ix2 i j) := by
  have e := (blocks t).1
  show V m c main_arg0 _ = _
  rw [V_main_arg0]
  refine at_ix2 (gates m c) _ _ _ ((congrArg (fun q => q * 256 + 1 * r.val) (congrFun e 0)).trans ?_) ((congrArg (fun q => q * 1024 + 1 * k.val) (congrFun e 1)).trans ?_)
  · show t.val * 256 + 1 * r.val = i.val; omega
  · show 0 * 1024 + 1 * k.val = j.val; omega

theorem gateAt_apply (k : Fin 1024) (j : Fin 2048) (hj : j.val = k.val + 1024) : gateAt m c t (ix2 r k) = gates m c (ix2 i j) := by
  have e := (blocks t).2.1
  show V m c main_arg0 _ = _
  rw [V_main_arg0]
  refine at_ix2 (gates m c) _ _ _ ((congrArg (fun q => q * 256 + 1 * r.val) (congrFun e 0)).trans ?_) ((congrArg (fun q => q * 1024 + 1 * k.val) (congrFun e 1)).trans ?_)
  · show t.val * 256 + 1 * r.val = i.val; omega
  · show 1 * 1024 + 1 * k.val = j.val; omega

theorem outputsAt_apply (k : Fin 1024) : outputs (lowAt m c t) (highAt m c t) (ix2 r k) = both (low m c) (high m c) (ix2 i k) := by
  obtain ⟨-, -, e2, e3, -⟩ := blocks t
  refine beside_congr _ _ _ _ (by decide) r i (fun k => ?_) (fun k => ?_) k
  · show V m c main_arg1 _ = _
    rw [V_main_arg1]
    refine at_ix2 (low m c) _ _ _ ((congrArg (fun q => q * 256 + 1 * r.val) (congrFun e2 0)).trans ?_) ((congrArg (fun q => q * 512 + 1 * k.val) (congrFun e2 1)).trans ?_)
    · show t.val * 256 + 1 * r.val = i.val; omega
    · show 0 * 512 + 1 * k.val = k.val; omega
  · show V m c main_arg2 _ = _
    rw [V_main_arg2]
    refine at_ix2 (high m c) _ _ _ ((congrArg (fun q => q * 256 + 1 * r.val) (congrFun e3 0)).trans ?_) ((congrArg (fun q => q * 512 + 1 * k.val) (congrFun e3 1)).trans ?_)
    · show t.val * 256 + 1 * r.val = i.val; omega
    · show 0 * 512 + 1 * k.val = k.val; omega

/-- A point's gradient is that of its rows. -/
theorem rows (j : Fin 2048) : k0_pay1 (valueAt m c t) (gateAt m c t) (lowAt m c t) (highAt m c t) (ix2 r j) = target m c (ix2 i j) := by
  unfold target whole
  by_cases h : j.val < 1024
  · rw [dif_pos (show ((ix2 i j : S4096x2048.Idx) 1).val < 1024 from h), left _ _ _ _ r j ⟨j.val, h⟩ rfl]
    exact congrArg₂ (· * ·) (outputsAt_apply m c t r i hi _) (congrArg logit (gateAt_apply m c t r i hi _ _ rfl))
  · have e : j.val = j.val - 1024 + 1024 := by omega
    rw [dif_neg (show ¬((ix2 i j : S4096x2048.Idx) 1).val < 1024 from h), right _ _ _ _ r j ⟨j.val - 1024, by omega⟩ e]
    rw [outputsAt_apply m c t r i hi, valueAt_apply m c t r i hi _ ⟨j.val - 1024, by omega⟩ rfl, gateAt_apply m c t r i hi _ j e]
    rfl

end Read

/-- What a point leaves in the rows it writes. -/
theorem flushed_eq (c : Dev nD) (t : Fin cfg0.N) :
    (dats m 0 c).flushed 4 t = ((cfg0.win 4).blk t).view.read (Elt Ideal) (target m c) := by
  obtain ⟨-, -, -, -, e, -⟩ := blocks t
  have hN : cfg0.N = 16 := N_0
  have ht := t.isLt
  have p : (dats m 0 c).flushed 4 t = k0_pay3 (valueAt m c t) (gateAt m c t) (lowAt m c t) (highAt m c t) := by
    by_cases h : t.val = 0
    · rw [flushed4_A m c t (by omega) (by omega), first_rows]
      rfl
    · rw [flushed4_B m c t (by omega) (by omega), later_rows]
      rfl
  rw [p]
  funext y
  show k0_pay3 (valueAt m c t) (gateAt m c t) (lowAt m c t) (highAt m c t) y = target m c (((cfg0.win 4).blk t).view.emb y)
  have hr : (y 0).val < 256 := (y 0).isLt
  have hj : (y 1).val < 2048 := (y 1).isLt
  have k3 : k0_pay3 (valueAt m c t) (gateAt m c t) (lowAt m c t) (highAt m c t) y = k0_pay1 (valueAt m c t) (gateAt m c t) (lowAt m c t) (highAt m c t) (ix2 (⟨(y 0).val, hr⟩ : Fin 256) (⟨(y 1).val, hj⟩ : Fin 2048)) := by
    rw [← at_ix2 (k0_pay1 (valueAt m c t) (gateAt m c t) (lowAt m c t) (highAt m c t)) y ⟨(y 0).val, hr⟩ ⟨(y 1).val, hj⟩ rfl rfl]
    unfold k0_pay3
    simp only [pointwise]
  refine k3.trans ((rows m c t _ ⟨t.val * 256 + (y 0).val, by omega⟩ rfl _).trans (at_ix2 (target m c) _ _ _ ?_ ?_).symm)
  · refine (congrArg (fun q => q * 256 + 1 * (y 0).val) (congrFun e 0)).trans ?_
    show t.val * 256 + 1 * (y 0).val = t.val * 256 + (y 0).val; omega
  · refine (congrArg (fun q => q * 2048 + 1 * (y 1).val) (congrFun e 1)).trans ?_
    show 0 * 2048 + 1 * (y 1).val = (y 1).val; omega

/-- The call leaves the whole gradient. -/
theorem result (c : Dev nD) : (dats m 0 c).arrAt 4 cfg0.N = target m c :=
  (dats m 0 c).arrAt_eq_of_cover 4 (target m c) (fun t _ => flushed_eq m c t) fun i => by
    have h0 : (i 0).val < 4096 := (i 0).isLt
    have h1 : (i 1).val < 2048 := (i 1).isLt
    have hN : cfg0.N = 16 := N_0
    obtain ⟨t, ht⟩ : ∃ t : Fin cfg0.N, t.val = (i 0).val / 256 := ⟨⟨(i 0).val / 256, by rw [hN]; omega⟩, rfl⟩
    obtain ⟨-, -, -, -, e, hf, -⟩ := blocks t
    refine ⟨t, hf, ?_⟩
    show i ∈ ((View.whole main_v0_0).slice (win0_4.rect t)).set
    rw [View.set_slice_whole]
    refine mem_tile _ i (s0 := 256) (s1 := 2048) rfl rfl (by decide) (by decide) ((congrArg (· * 256) (congrFun e 0)).trans ?_) ((congrArg (· * 2048) (congrFun e 1)).trans ?_)
    · show t.val * 256 = _; rw [ht]
    · show 0 * 2048 = (i 1).val / 2048 * 2048; omega

/-- The bias gradient after the last point. -/
theorem summed (c : Dev nD) (h : 15 < cfg0.N) (j : Fin 2048) :
    (outsAt0 m c 15 h).2 (ix2 (0 : Fin 1) j) = ∑ l : Fin 4096, target m c (ix2 l j) := by
  refine accumulated (J := 15) (T := 256) rfl (fun n h => (outsAt0 m c n h).2 (ix2 (0 : Fin 1) j))
    (fun n h r => k0_pay1 (valueAt m c ⟨n, h⟩) (gateAt m c ⟨n, h⟩) (lowAt m c ⟨n, h⟩) (highAt m c ⟨n, h⟩) (ix2 r j))
    (fun n h h0 => ?_) (fun n h h0 => ?_) 0 h (fun l => target m c (ix2 l j)) (fun a r ha l hl => rows m c ⟨_, ha⟩ r l (by dsimp only; omega) j)
  · have hN : cfg0.N = 16 := N_0
    rw [outsAt0_A m c ⟨n, h⟩ h0 (by dsimp only; omega)]
    dsimp only
    rw [first_sums, ← columns]
    unfold k0_pay4
    simp only [pointwise]
  · rw [outsAt0_B m c ⟨n + 1, h⟩ h0 (by dsimp only; omega)]
    dsimp only
    rw [later_sums, ← columns]
    unfold k0_pay5
    simp only [pointwise]
    rfl

theorem last : ∀ t : Fin cfg0.N, win0_5.flush t = true ↔ t.val = 15 := (by decide +kernel : ∀ t : Fin grid0.N, _)

/-- What the last point leaves in the bias gradient. -/
theorem flushed_bias (c : Dev nD) (t : Fin cfg0.N) (ht : t.val = 15) :
    (dats m 0 c).flushed 5 t = ((cfg0.win 5).blk t).view.read (Elt Ideal) (sums (target m c)) := by
  obtain ⟨-, -, -, -, -, -, e⟩ := blocks t
  rw [flushed5]
  funext y
  have h0 : (y 0).val < 1 := (y 0).isLt
  have h1 : (y 1).val < 2048 := (y 1).isLt
  have v : (outsAt0 m c t.val t.isLt).2 (ix2 (0 : Fin 1) (⟨(y 1).val, h1⟩ : Fin 2048)) = ∑ l : Fin 4096, target m c (ix2 l ⟨(y 1).val, h1⟩) := by
    obtain ⟨n, hn⟩ := t
    subst ht
    exact summed m c hn _
  generalize (outsAt0 m c t.val t.isLt).2 = x at v ⊢
  generalize hz : sums (target m c) = z
  have vz : z (ix2 (0 : Fin 1) (⟨(y 1).val, h1⟩ : Fin 2048)) = ∑ l : Fin 4096, target m c (ix2 l ⟨(y 1).val, h1⟩) := by rw [← hz]; rfl
  refine (show (cfg0.win 5).cut (grid0.coords t) x y = x (ix2 (⟨(y 0).val, h0⟩ : Fin 1) (⟨(y 1).val, h1⟩ : Fin 2048)) from at_ix2 x _ _ _ rfl rfl).trans ?_
  rw [show (⟨(y 0).val, h0⟩ : Fin 1) = 0 from Subsingleton.elim _ _, v, ← vz]
  refine (at_ix2 z _ (0 : Fin 1) ⟨(y 1).val, h1⟩ ((congrArg (fun q => q * 1 + 1 * (y 0).val) (congrFun e 0)).trans ?_) ((congrArg (fun q => q * 2048 + 1 * (y 1).val) (congrFun e 1)).trans ?_)).symm
  · show 0 * 1 + 1 * (y 0).val = 0; omega
  · show 0 * 2048 + 1 * (y 1).val = (y 1).val; omega

/-- The call leaves the bias gradient. -/
theorem result_bias (c : Dev nD) : (dats m 0 c).arrAt 5 cfg0.N = sums (target m c) :=
  (dats m 0 c).arrAt_eq_of_cover 5 (sums (target m c)) (fun t hf => flushed_bias m c t ((last t).mp hf)) fun i => by
    have h0 : (i 0).val < 1 := (i 0).isLt
    have h1 : (i 1).val < 2048 := (i 1).isLt
    have hN : cfg0.N = 16 := N_0
    obtain ⟨t, ht⟩ : ∃ t : Fin cfg0.N, t.val = 15 := ⟨⟨15, by rw [hN]; omega⟩, rfl⟩
    obtain ⟨-, -, -, -, -, -, e⟩ := blocks t
    refine ⟨t, (last t).mpr ht, ?_⟩
    show i ∈ ((View.whole main_v0_1).slice (win0_5.rect t)).set
    rw [View.set_slice_whole]
    refine mem_tile _ i (s0 := 1) (s1 := 2048) rfl rfl (by decide) (by decide) ((congrArg (· * 1) (congrFun e 0)).trans ?_) ((congrArg (· * 2048) (congrFun e 1)).trans ?_)
    · show 0 * 1 = (i 0).val / 1 * 1; omega
    · show 0 * 2048 = (i 1).val / 2048 * 2048; omega

namespace Reference
open Cert.DgluRefIdeal.Gen (bcast_S1x2048_S4096x2048_0_1 bcast_S_S1x2048 slices_S4096x2048_S4096x1024_0_0
  slices_S4096x2048_S4096x1024_0_1024 bcast_S_S4096x1024 pads_S4096x1024_S4096x2048_000_102400 pads_S4096x1024_S4096x2048_000_010240 h_S_
  reducesTo_S4096x2048_S2048_d0)

variable (u : Vec Ideal S4096x2048 .bf16) (p q : Vec Ideal S4096x512 .f32)

abbrev zeros : FVec Ideal Cert.DgluRefIdeal.S_ .f32 := constant (F := Ideal) Cert.DgluRefIdeal.S_ .f32 0x00000000#32
abbrev ones : FVec Ideal S4096x1024 .f32 := broadcastInDim S4096x1024 ![] bcast_S_S4096x1024 (constant (F := Ideal) Cert.DgluRefIdeal.S_ .f32 0x3F800000#32)
abbrev biased : FVec Ideal S4096x2048 .f32 :=
  addf (extf (F := Ideal) .f32 u Cert.DgluRefIdeal.Gen.bitsLt_bf16_f32) (broadcastInDim S4096x2048 ![0, 1] bcast_S1x2048_S4096x2048_0_1 (broadcastInDim S1x2048 ![] bcast_S_S1x2048 zeros))
abbrev values : FVec Ideal S4096x1024 .f32 := extractStridedSlice S4096x1024 ![0, 0] (biased u) slices_S4096x2048_S4096x1024_0_0
abbrev logits : FVec Ideal S4096x1024 .f32 :=
  Host.divf ones (addf ones (Host.exp (Host.negf (extractStridedSlice S4096x1024 ![0, 1024] (biased u) slices_S4096x2048_S4096x1024_0_1024))))

/-- The reference's gradient of the gates, and of the gated half. -/
abbrev gateGrad : FVec Ideal S4096x1024 .f32 := mulf (mulf (values u) (both p q)) (mulf (logits u) (subf ones (logits u)))
abbrev valueGrad : FVec Ideal S4096x1024 .f32 := mulf (both p q) (logits u)

/-- The two side by side. -/
abbrev grad : FVec Ideal S4096x2048 .f32 :=
  addf (pad S4096x2048 ![0, 1024] ![0, 0] ![0, 0] (gateGrad u p q) zeros pads_S4096x1024_S4096x2048_000_102400 h_S_)
    (pad S4096x2048 ![0, 0] ![0, 1024] ![0, 0] (valueGrad u p q) zeros pads_S4096x1024_S4096x2048_000_010240 h_S_)

theorem values_apply (r : Fin 4096) (k : Fin 1024) (j : Fin 2048) (hj : j.val = k.val) : values u (ix2 r k) = u (ix2 r j) := by
  refine (at_ix2 (biased u) _ r j (Nat.zero_add _) ((Nat.zero_add _).trans hj.symm)).trans ?_
  simp only [pointwise, add_zero]

theorem logits_apply (r : Fin 4096) (k : Fin 1024) (j : Fin 2048) (hj : j.val = k.val + 1024) : logits u (ix2 r k) = logit (u (ix2 r j)) := by
  have g : extractStridedSlice S4096x1024 ![0, 1024] (biased u) slices_S4096x2048_S4096x1024_0_1024 (ix2 r k) = u (ix2 r j) := by
    refine (at_ix2 (biased u) _ r j (Nat.zero_add _) ((Nat.add_comm _ _).trans hj.symm)).trans ?_
    simp only [pointwise, add_zero]
  unfold logits
  generalize extractStridedSlice S4096x1024 ![0, 1024] (biased u) slices_S4096x2048_S4096x1024_0_1024 = x at g ⊢
  rw [← g]
  simp only [pointwise, Ideal.ofBits_one_f32]
  rfl

/-- The reference's gradient is the kernel's. -/
theorem grad_eq : grad u p q = whole u (both p q) := by
  funext y
  obtain ⟨r, j, rfl⟩ : ∃ (r : Fin 4096) (j : Fin 2048), y = ix2 r j := ⟨y 0, y 1, eq_ix2 y⟩
  have z : (zeros (Shape.Idx.first h_S_) : EReal) = 0 := by simp only [pointwise]
  show (pad S4096x2048 ![0, 1024] ![0, 0] ![0, 0] (gateGrad u p q) zeros pads_S4096x1024_S4096x2048_000_102400 h_S_ (ix2 r j) : EReal)
    + pad S4096x2048 ![0, 0] ![0, 1024] ![0, 0] (valueGrad u p q) zeros pads_S4096x1024_S4096x2048_000_010240 h_S_ (ix2 r j) = _
  unfold whole
  by_cases h : j.val < 1024
  · rw [dif_pos (show ((ix2 r j : S4096x2048.Idx) 1).val < 1024 from h)]
    rw [padding_before _ _ _ pads_S4096x1024_S4096x2048_000_102400 r j h, z, zero_add, widened_after _ _ _ pads_S4096x1024_S4096x2048_000_010240 r j ⟨j.val, h⟩ rfl]
    exact congrArg (both p q (ix2 r ⟨j.val, h⟩) * ·) (logits_apply u r _ _ rfl)
  · have e : j.val = j.val - 1024 + 1024 := by omega
    rw [dif_neg (show ¬((ix2 r j : S4096x2048.Idx) 1).val < 1024 from h)]
    rw [padding_after _ _ _ pads_S4096x1024_S4096x2048_000_010240 r j (by omega), z, add_zero, widened_before _ _ _ pads_S4096x1024_S4096x2048_000_102400 r j ⟨j.val - 1024, by omega⟩ e]
    have o : ones (ix2 r (⟨j.val - 1024, by omega⟩ : Fin 1024)) = (1 : EReal) := by unfold ones; simp only [pointwise, Ideal.ofBits_one_f32]
    show values u _ * both p q _ * (logits u _ * (ones _ - logits u _)) = slope (both p q _) (u _) (u _)
    rw [o, logits_apply u r _ j e, values_apply u r _ ⟨j.val - 1024, by omega⟩ rfl, mul_comm (u _) (both p q _), ← mul_assoc]
    rfl

/-- So is its bias gradient. -/
theorem sums_eq : shapeCast S1x2048 (Host.reduceAdd (grad u p q) zeros reducesTo_S4096x2048_S2048_d0 h_S_) shapeCasts_S2048_S1x2048 = sums (whole u (both p q)) := by
  rw [grad_eq]
  generalize whole u (both p q) = x
  funext y
  rw [eq_ix2 y]
  unfold sums
  simp only [pointwise, zero_add]

end Reference

theorem frame_reference : Cert.quiescent_DgluRefIdeal := fun m ρ _ =>
  (θ_run Cert.DgluRefIdeal.defs _ _).mono (fun r h => ⟨fun c => (h c).2.2, sem_eq_zero_of_no_sems (by decide) r.2⟩)
    (Cert.DgluRefIdeal.Value.run m ρ)

/-- The reference's two results, of arguments that hold what the kernel's do. -/
theorem equal (u : Vec Ideal S4096x2048 .bf16) (p q : Vec Ideal S4096x512 .f32) (c : Dev nD) (hu : u = gates m c) (hp : p = low m c) (hq : q = high m c) :
    truncf .bf16 (Reference.grad u p q) Cert.DgluRefIdeal.Gen.bitsLt_bf16_f32 = target m c
      ∧ shapeCast S1x2048 (Host.reduceAdd (Reference.grad u p q) Reference.zeros Cert.DgluRefIdeal.Gen.reducesTo_S4096x2048_S2048_d0 Cert.DgluRefIdeal.Gen.h_S_)
        Cert.DgluRefIdeal.Gen.shapeCasts_S2048_S1x2048 = sums (target m c) := by
  subst hu hp hq
  exact ⟨Reference.grad_eq _ _ _, Reference.sums_eq _ _ _⟩

theorem algebraic : Cert.algebraic_DgluIdeal_DgluRefIdeal := by
  intro m g m' g' _ h
  refine ⟨target m, fun c => sums (target m c),
    (θ_run Cert.DgluIdeal.defs _ _).mono (fun _ r c => ⟨(r c).1.trans (result m c), (r c).2.1.trans (result_bias m c), (r c).2.2⟩) (run_blocks m g),
    (θ_run Cert.DgluRefIdeal.defs _ _).mono (fun _ r c => ?_) (Cert.DgluRefIdeal.Value.run m' g')⟩
  have e := equal m _ _ _ c (h c).1 (h c).2.1 (h c).2.2
  exact ⟨(r c).1.trans e.1, (r c).2.1.trans e.2, (r c).2.2⟩

end Cert.Proof.Dglu

end
-- ==== Proof.Norm.lean ====
/- The layer norm of a row of 1024 numbers, and its gradient.

   A row is `x`, and `e` what its normed values receive.  The kernel writes the gradient in closed form (`back`); the reference
   takes it through the mean and the variance (`chain`).  On a row of real numbers the two are equal by real arithmetic, the
   centred row having sum zero.  A row with an infinity in it has an infinite variance, whose inverse root is zero, and both
   gradients are zero. -/
module

public import Idealize.ShloMosaic.Lib.IdealHost
public import Idealize.ShloMosaic.Lib.Pointwise

@[expose] public section

noncomputable section

namespace Cert.Proof.Norm

open Idealize.ShloMosaic
open scoped BigOperators

/-- A sum of real numbers, taken in the reals or in the extended reals. -/
theorem coe_sum {ι : Type*} (s : Finset ι) (f : ι → ℝ) : (∑ k ∈ s, (f k : EReal)) = ((∑ k ∈ s, f k : ℝ) : EReal) := by
  classical
  induction s using Finset.induction_on with
  | empty => simp
  | insert a s ha h => rw [Finset.sum_insert ha, Finset.sum_insert ha, h, EReal.coe_add]

/-- A sum with `⊥` among its terms is `⊥`; -/
theorem sum_bot {ι : Type*} [Fintype ι] [DecidableEq ι] (f : ι → EReal) (k : ι) (h : f k = ⊥) : ∑ k, f k = ⊥ := by
  rw [← Finset.add_sum_erase _ _ (Finset.mem_univ k), h, EReal.bot_add]

theorem sum_ne_bot {ι : Type*} (s : Finset ι) (f : ι → EReal) (h : ∀ k, f k ≠ ⊥) : ∑ k ∈ s, f k ≠ ⊥ := by
  classical
  induction s using Finset.induction_on with
  | empty => simp
  | insert a s ha hs => rw [Finset.sum_insert ha]; exact fun e => (EReal.add_eq_bot_iff.mp e).elim (h a) hs

/-- with `⊤` among them and no `⊥`, it is `⊤`. -/
theorem sum_top {ι : Type*} [Fintype ι] [DecidableEq ι] (f : ι → EReal) (k : ι) (h : f k = ⊤) (hb : ∀ k, f k ≠ ⊥) : ∑ k, f k = ⊤ := by
  rw [← Finset.add_sum_erase _ _ (Finset.mem_univ k), h, EReal.top_add_of_ne_bot (sum_ne_bot _ f hb)]

/-- The numbers both programs write. -/
theorem bits_width : Ideal.ofBits .f32 0x44800000#32 = ((1024 : ℝ) : EReal) := by
  simp [Ideal.ofBits, Ideal.ieee, -EReal.coe_mul]; norm_num
theorem bits_wide : Ideal.ofBits .f32 0x45000000#32 = ((2048 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_half : Ideal.ofBits .f32 0xBF000000#32 = ((-(1 / 2) : ℝ) : EReal) := by
  simp [Ideal.ofBits, Ideal.ieee, -EReal.coe_mul, -EReal.coe_neg]; norm_num
theorem bits_small : ∃ s : ℝ, 0 < s ∧ Ideal.ofBits .f32 0x358637BD#32 = (s : EReal) := by
  refine ⟨_, ?_, by simp [Ideal.ofBits, Ideal.ieee, -EReal.coe_mul]; rfl⟩
  positivity

/-- The mean of a row, -/
def mean (x : Fin 1024 → EReal) : EReal := Ideal.div (∑ k, x k) (Ideal.ofBits .f32 0x44800000#32)

/-- the row less its mean, -/
def centred (x : Fin 1024 → EReal) (k : Fin 1024) : EReal := x k - mean x

/-- the variance, kept off zero, -/
def spread (x : Fin 1024 → EReal) : EReal := mean (fun k => centred x k * centred x k) + Ideal.ofBits .f32 0x358637BD#32

/-- and the normed row. -/
def inv (x : Fin 1024 → EReal) : EReal := Ideal.rsqrt (spread x)
def normed (x : Fin 1024 → EReal) (k : Fin 1024) : EReal := centred x k * inv x

/-- The gradient in closed form, -/
def back (x e : Fin 1024 → EReal) (k : Fin 1024) : EReal :=
  inv x * (e k - mean e - normed x k * mean fun j => e j * normed x j)

/-- and through the mean and the variance: what the variance's mean receives, what a centred value receives, and the two together. -/
def varied (x e : Fin 1024 → EReal) : EReal :=
  Ideal.div ((∑ j, centred x j * e j) * (Ideal.ofBits .f32 0xBF000000#32 * Ideal.div (inv x) (spread x))) (Ideal.ofBits .f32 0x44800000#32)
def shifted (x e : Fin 1024 → EReal) (k : Fin 1024) : EReal := varied x e * (Ideal.ofBits .f32 0x40000000#32 * centred x k)
def chain (x e : Fin 1024 → EReal) (k : Fin 1024) : EReal :=
  e k * inv x + shifted x e k + Ideal.div ((∑ j, -(e j * inv x)) + ∑ j, -shifted x e j) (Ideal.ofBits .f32 0x44800000#32)

theorem div_width (a : ℝ) : Ideal.div (a : EReal) (Ideal.ofBits .f32 0x44800000#32) = ((a / 1024 : ℝ) : EReal) := by
  rw [bits_width, Ideal.div_coe (by norm_num), ← EReal.coe_mul, mul_one_div]

theorem mean_coe (x : Fin 1024 → ℝ) : mean (fun k => (x k : EReal)) = (((∑ k, x k) / 1024 : ℝ) : EReal) := by
  unfold mean
  rw [coe_sum, div_width]

/-- The two gradients over the reals. -/
theorem back_eq_real (z e : Fin 1024 → ℝ) (hz : ∑ j, z j = 0) (r v : ℝ) (hr : r / v = r * r * r) (k : Fin 1024) :
    r * (e k - (∑ j, e j) / 1024 - z k * r * ((∑ j, e j * (z j * r)) / 1024))
      = e k * r + (∑ j, z j * e j) * (-(1 / 2) * (r / v)) / 1024 * (2 * z k)
        + ((∑ j, -(e j * r)) + ∑ j, -((∑ j, z j * e j) * (-(1 / 2) * (r / v)) / 1024 * (2 * z j))) / 1024 := by
  have a : ∑ j, e j * (z j * r) = (∑ j, z j * e j) * r := by
    rw [Finset.sum_mul]; exact Finset.sum_congr rfl fun j _ => by ring
  have b : ∑ j, -(e j * r) = -((∑ j, e j) * r) := by rw [Finset.sum_neg_distrib, Finset.sum_mul]
  have c : ∑ j, -((∑ j, z j * e j) * (-(1 / 2) * (r / v)) / 1024 * (2 * z j)) = 0 := by
    rw [Finset.sum_neg_distrib, ← Finset.mul_sum, ← Finset.mul_sum, hz]; ring
  rw [a, b, c, hr]
  ring

/-- A row of real numbers. -/
theorem back_eq_of_real (x e : Fin 1024 → ℝ) (k : Fin 1024) :
    back (fun k => (x k : EReal)) (fun k => (e k : EReal)) k = chain (fun k => (x k : EReal)) (fun k => (e k : EReal)) k := by
  obtain ⟨s, hs, es⟩ := bits_small
  have ez : centred (fun k => (x k : EReal)) = fun k => ((x k - (∑ j, x j) / 1024 : ℝ) : EReal) := by
    funext k
    unfold centred
    rw [mean_coe, EReal.coe_sub]
  generalize hz : (fun k => x k - (∑ j, x j) / 1024) = z
  replace ez : centred (fun k => (x k : EReal)) = fun k => (z k : EReal) := by rw [ez, ← hz]
  have z0 : ∑ j, z j = 0 := by
    rw [← hz, Finset.sum_sub_distrib, Finset.sum_const, Finset.card_univ, Fintype.card_fin, nsmul_eq_mul]
    push_cast; ring
  have ev : spread (fun k => (x k : EReal)) = (((∑ j, z j * z j) / 1024 + s : ℝ) : EReal) := by
    unfold spread
    rw [ez, es, EReal.coe_add, ← mean_coe]
    simp only [EReal.coe_mul]
  have pv : 0 < (∑ j, z j * z j) / 1024 + s := by
    have : 0 ≤ ∑ j, z j * z j := Finset.sum_nonneg fun j _ => mul_self_nonneg _
    positivity
  generalize (∑ j, z j * z j) / 1024 + s = v at ev pv
  have er : inv (fun k => (x k : EReal)) = (((√v)⁻¹ : ℝ) : EReal) := by
    unfold inv
    rw [ev, Ideal.rsqrt_coe, if_neg pv.le.not_gt, if_neg pv.ne']
  have hr : (√v)⁻¹ / v = (√v)⁻¹ * (√v)⁻¹ * (√v)⁻¹ := by
    have : √v * √v = v := Real.mul_self_sqrt pv.le
    have h : √v ≠ 0 := (Real.sqrt_pos.mpr pv).ne'
    field_simp
    rw [pow_two, this]
  generalize (√v)⁻¹ = r at er hr
  have eu : varied (fun k => (x k : EReal)) (fun k => (e k : EReal)) = (((∑ j, z j * e j) * (-(1 / 2) * (r / v)) / 1024 : ℝ) : EReal) := by
    unfold varied
    rw [er, ev, ez, bits_half, Ideal.div_coe pv.ne', ← EReal.coe_mul, mul_one_div, ← EReal.coe_mul]
    simp only [← EReal.coe_mul]
    rw [coe_sum, ← EReal.coe_mul, div_width]
  have ec := congrArg (fun a : ℝ => (a : EReal)) (back_eq_real z e z0 r v hr k)
  refine Eq.trans ?_ (ec.trans ?_)
  · unfold back normed
    rw [er, ez]
    simp only [← EReal.coe_mul]
    rw [mean_coe, mean_coe]
    simp only [← EReal.coe_mul, ← EReal.coe_sub]
  · unfold chain shifted
    rw [er, eu, ez, bits_two]
    simp only [← EReal.coe_mul, ← EReal.coe_neg]
    rw [coe_sum, coe_sum, ← EReal.coe_add (∑ j, -(e j * r)), div_width]
    simp only [← EReal.coe_add]

/-- A row with an infinity in it has an infinite variance. -/
theorem spread_top (x : Fin 1024 → EReal) (k : Fin 1024) (h : x k = ⊥ ∨ x k = ⊤) : spread x = ⊤ := by
  obtain ⟨s, hs, es⟩ := bits_small
  have pw : (0 : ℝ) < 1 / 1024 := by norm_num
  have hm : mean x = ⊥ ∨ mean x = ⊤ := by
    unfold mean
    rw [bits_width, Ideal.div_coe (by norm_num)]
    by_cases hb : ∃ j, x j = ⊥
    · obtain ⟨j, hj⟩ := hb
      rw [sum_bot x j hj, EReal.bot_mul_coe_of_pos pw]
      exact .inl rfl
    · push Not at hb
      rw [sum_top x k (h.resolve_left (hb k)) hb, EReal.top_mul_coe_of_pos pw]
      exact .inr rfl
  have hz : ∀ j, centred x j = ⊥ ∨ centred x j = ⊤ := fun j => by
    unfold centred
    rcases hm with e | e <;> rw [e]
    · rw [sub_eq_add_neg, EReal.neg_bot]
      by_cases hj : x j = ⊥
      · left; rw [hj, EReal.bot_add]
      · right; exact EReal.add_top_of_ne_bot hj
    · left; rw [sub_eq_add_neg, EReal.neg_top, EReal.add_bot]
  have hq : ∀ j, centred x j * centred x j = ⊤ := fun j => by
    rcases hz j with e | e <;> rw [e] <;> rfl
  unfold spread mean
  rw [sum_top _ k (hq k) fun j => by rw [hq j]; exact top_ne_bot, bits_width, Ideal.div_coe (by norm_num), EReal.top_mul_coe_of_pos pw, es]
  rfl

theorem inv_top (x : Fin 1024 → EReal) (h : spread x = ⊤) : inv x = 0 := by
  unfold inv
  rw [h, Ideal.rsqrt_top]

/-- The two gradients agree, `e` being finite. -/
theorem back_eq (x e : Fin 1024 → EReal) (he : ∀ k, ∃ r : ℝ, e k = r) (k : Fin 1024) : back x e k = chain x e k := by
  by_cases hx : ∀ k, ∃ r : ℝ, x k = r
  · choose f hf using hx
    choose g hg using he
    rw [show x = fun k => (f k : EReal) from funext hf, show e = fun k => (g k : EReal) from funext hg]
    exact back_eq_of_real f g k
  · push Not at hx
    obtain ⟨j, hj⟩ := hx
    have hv : spread x = ⊤ := spread_top x j <| by
      generalize x j = a at hj
      induction a with
      | bot => exact .inl rfl
      | top => exact .inr rfl
      | coe r => exact absurd rfl (hj r)
    have hi := inv_top x hv
    have d0 : Ideal.div 0 (Ideal.ofBits .f32 0x44800000#32) = 0 := by
      rw [bits_width, Ideal.div_coe (by norm_num), zero_mul]
    have h0 : Ideal.div (0 : EReal) ⊤ = 0 := by unfold Ideal.div; rw [if_neg EReal.top_ne_zero, zero_mul]
    have hu : varied x e = 0 := by unfold varied; rw [hi, hv, h0, mul_zero, mul_zero, d0]
    unfold back chain shifted
    rw [hi, hu]
    simp only [zero_mul, mul_zero, neg_zero, Finset.sum_const_zero, add_zero, d0]

end Cert.Proof.Norm

end
-- ==== Proof.Dnorm.lean ====
/- The gradient of the convolution module's layer norm and of the gate after it. Each point writes the gradient of its rows, in
   two halves of columns, and adds their columns' sums to the gradients of the norm's scale and shift, which the last point
   writes out.

   The kernel's gradient is in closed form and the reference's goes through the mean and the variance (`Norm`); through the
   gate the reference expands the derivative (`grad_expand`).  Both steps need finite numbers to come down: the precondition
   says that the gradient of the module's output is finite and the norm's scale too. -/
module

public import proofs.«01_k».proof.Defs
public import proofs.«01_k».proof.Proof.Product
public import proofs.«01_k».proof.Proof.Columns
public import proofs.«01_k».proof.Proof.Logistic
public import proofs.«01_k».proof.Proof.Norm
public import proofs.«01_k».proof.Proof.Gen.DnormIdeal.Value
public import proofs.«01_k».proof.Proof.Gen.DnormRefIdeal.Run
public import Idealize.ShloMosaic.Lib.Tactic
public import Idealize.ShloMosaic.Lib.IdealHost
public import Idealize.ShloMosaic.Lib.KernelVsHost
public import Idealize.ShloMosaic.Adequacy
public import Idealize.ShloMosaic.Init

@[expose] public section

set_option maxRecDepth 16384

noncomputable section

namespace Cert.Proof.Dnorm

open Idealize.ShloMosaic Idealize.ShloMosaic.TcCoe Idealize.ShloMosaic.Tactic Idealize.SL.Sem
open Cert.DnormIdeal Cert.DnormIdeal.Gen Cert.DnormIdeal.Value
open scoped BigOperators

/-- Row `r` of an array. -/
abbrev row {n : ℕ} (x : (⟨2, ![n, 1024]⟩ : Shape).Idx → EReal) (r : Fin n) : Fin 1024 → EReal := fun k => x (ix2 r k)

/-- What the norm's output receives, for the norm's input `x`, scale `g`, shift `b`, and the gradient `d` of the gated value; -/
def received (x d g b : Fin 1024 → EReal) (k : Fin 1024) : EReal := grad (Norm.normed x k * g k + b k) (d k)

/-- and what the normed values receive. -/
def scaled (x d g b : Fin 1024 → EReal) (k : Fin 1024) : EReal := received x d g b k * g k

section Payload

variable (p q : Vec Ideal S256x512 .f32) (d : Vec Ideal S256x1024 .f32) (g b : Vec Ideal S1x1024 .f32)

/-- The values that a point reads. -/
abbrev inputs : FVec Ideal S256x1024 .f32 :=
  concatenate S256x1024 1 [⟨S256x512, p⟩, ⟨S256x512, q⟩] concatenates_S256x512_S256x512_S256x1024_d1

theorem centred_at (r : Fin 256) (k : Fin 1024) : k0_pay3 p q (ix2 r k) = Norm.centred (row (inputs p q) r) k := by
  unfold k0_pay3 row inputs
  generalize concatenate S256x1024 1 [⟨S256x512, p⟩, ⟨S256x512, q⟩] concatenates_S256x512_S256x512_S256x1024_d1 = x
  simp only [pointwise, zero_add]
  rfl

theorem inv_at (r : Fin 256) (z : Fin 1) : k0_pay4 p q (ix2 r z) = Norm.inv (row (inputs p q) r) := by
  have e := centred_at p q r
  unfold k0_pay4 Norm.inv Norm.spread
  rw [← funext e]
  generalize k0_pay3 p q = x
  simp only [pointwise, zero_add]
  rfl

theorem normed_at (r : Fin 256) (k : Fin 1024) : k0_pay5 p q (ix2 r k) = Norm.normed (row (inputs p q) r) k := by
  have e := inv_at p q r
  have e' := centred_at p q r k
  unfold k0_pay5 Norm.normed
  rw [← e', ← e 0]
  generalize k0_pay3 p q = x
  generalize k0_pay4 p q = y
  simp only [pointwise]
  rfl

theorem received_at (r : Fin 256) (k : Fin 1024) :
    k0_pay7 d (k0_pay6 p q g b) (ix2 r k) = received (row (inputs p q) r) (row d r) (row g 0) (row b 0) k := by
  have e := normed_at p q r k
  unfold k0_pay7 k0_pay6 received row
  rw [← e]
  generalize k0_pay5 p q = x
  simp only [pointwise, zero_sub, Ideal.ofBits_one_f32]
  rfl

theorem back_at (r : Fin 256) (k : Fin 1024) :
    k0_pay8 d g (k0_pay4 p q) (k0_pay5 p q) (k0_pay6 p q g b) (ix2 r k)
      = Norm.back (row (inputs p q) r) (scaled (row (inputs p q) r) (row d r) (row g 0) (row b 0)) k := by
  have e : ∀ k, scaled (row (inputs p q) r) (row d r) (row g 0) (row b 0) k = k0_pay7 d (k0_pay6 p q g b) (ix2 r k) * g (ix2 0 k) :=
    fun k => congrArg (· * g (ix2 0 k)) (received_at p q d g b r k).symm
  have ei := inv_at p q r 0
  have en := normed_at p q r
  unfold k0_pay8 Norm.back
  rw [← ei, funext e]
  simp only [← en]
  generalize k0_pay7 d (k0_pay6 p q g b) = x
  generalize k0_pay5 p q = y
  generalize k0_pay4 p q = z
  simp only [pointwise, zero_add]
  rfl

/-- The columns' sums, for the scale's gradient -/
theorem scale_at (k : Fin 1024) :
    k0_pay9 d (k0_pay5 p q) (k0_pay6 p q g b) (ix2 (0 : Fin 1) k)
      = ∑ r : Fin 256, received (row (inputs p q) r) (row d r) (row g 0) (row b 0) k * Norm.normed (row (inputs p q) r) k := by
  simp only [← received_at, ← normed_at]
  unfold k0_pay9
  generalize k0_pay7 d (k0_pay6 p q g b) = x
  generalize k0_pay5 p q = y
  simp only [pointwise, zero_add]

/-- and the shift's. -/
theorem shift_at (k : Fin 1024) :
    k0_pay10 d (k0_pay6 p q g b) (ix2 (0 : Fin 1) k) = ∑ r : Fin 256, received (row (inputs p q) r) (row d r) (row g 0) (row b 0) k := by
  simp only [← received_at]
  unfold k0_pay10
  generalize k0_pay7 d (k0_pay6 p q g b) = x
  simp only [pointwise, zero_add]

end Payload

section Points

variable (c : Dev nD) (i : grid0.Coords) (a0 : Memref sig .tc .vmem S256x512 .f32) (h0 : a0.IsWhole)
  (a1 : Memref sig .tc .vmem S256x512 .f32) (h1 : a1.IsWhole) (a2 : Memref sig .tc .vmem S256x1024 .f32) (h2 : a2.IsWhole)
  (a3 : Memref sig .tc .vmem S1x1024 .f32) (h3 : a3.IsWhole) (a4 : Memref sig .tc .vmem S1x1024 .f32) (h4 : a4.IsWhole)
  (a5 : Memref sig .tc .vmem S256x512 .f32) (h5 : a5.IsWhole) (a6 : Memref sig .tc .vmem S256x512 .f32) (h6 : a6.IsWhole)
  (a7 : Memref sig .tc .vmem S1x1024 .f32) (h7 : a7.IsWhole) (a8 : Memref sig .tc .vmem S1x1024 .f32) (h8 : a8.IsWhole)
  (p q : Vec Ideal S256x512 .f32) (d : Vec Ideal S256x1024 .f32) (g b : Vec Ideal S1x1024 .f32) (u v : Vec Ideal S1x1024 .f32)

/-- The first point writes the two halves of its rows' gradient, and starts the scale's and the shift's; -/
theorem first (hc : cond0_0 i) (hd : ¬cond0_1 i) (he : cond0_2 i) (hf : ¬cond0_3 i) :
    out0_A_5 c i a0 h0 a1 h1 a2 h2 a3 h3 a4 h4 a5 h5 a6 h6 a7 h7 a8 h8 hc hd he hf p q d g b = k0_pay11 d g (k0_pay4 p q) (k0_pay5 p q) (k0_pay6 p q g b)
    ∧ out0_A_6 c i a0 h0 a1 h1 a2 h2 a3 h3 a4 h4 a5 h5 a6 h6 a7 h7 a8 h8 hc hd he hf p q d g b = k0_pay12 d g (k0_pay4 p q) (k0_pay5 p q) (k0_pay6 p q g b)
    ∧ out0_A_7 c i a0 h0 a1 h1 a2 h2 a3 h3 a4 h4 a5 h5 a6 h6 a7 h7 a8 h8 hc hd he hf p q d g b = k0_pay13 d (k0_pay5 p q) (k0_pay6 p q g b)
    ∧ out0_A_8 c i a0 h0 a1 h1 a2 h2 a3 h3 a4 h4 a5 h5 a6 h6 a7 h7 a8 h8 hc hd he hf p q d g b = k0_pay1 (k0_pay10 d (k0_pay6 p q g b)) := by
  refine ⟨(View.read_writes_eq_canon _ _ _ (cover0_A_5 c i a0 h0 a1 h1 a2 h2 a3 h3 a4 h4 a5 h5 a6 h6 a7 h7 a8 h8 hc hd he hf p q d g b)).trans ?_,
    (View.read_writes_eq_canon _ _ _ (cover0_A_6 c i a0 h0 a1 h1 a2 h2 a3 h3 a4 h4 a5 h5 a6 h6 a7 h7 a8 h8 hc hd he hf p q d g b)).trans ?_,
    (View.read_writes_eq_canon _ _ _ (cover0_A_7 c i a0 h0 a1 h1 a2 h2 a3 h3 a4 h4 a5 h5 a6 h6 a7 h7 a8 h8 hc hd he hf p q d g b)).trans ?_,
    (View.read_writes_eq_canon _ _ _ (cover0_A_8 c i a0 h0 a1 h1 a2 h2 a3 h3 a4 h4 a5 h5 a6 h6 a7 h7 a8 h8 hc hd he hf p q d g b)).trans ?_⟩ <;>
  · unfold kernelRun0_A
    dsimp only
    sl_unfold_words
    rw [View.canon_unit_zero zero2]
    simp only [View.readAt_eq_ld, h0.read_unread, h1.read_unread, h2.read_unread, h3.read_unread, h4.read_unread,
      View.ld_unit_zero (S := S256x512) zero2, View.ld_unit_zero (S := S256x1024) zero2, View.ld_unit_zero (S := S1x1024) zero2]

/-- every later one writes its own rows' and adds to both. -/
theorem later (hc : ¬cond0_0 i) (hd : cond0_1 i) (he : ¬cond0_2 i) (hf : cond0_3 i) :
    out0_B_5 c i a0 h0 a1 h1 a2 h2 a3 h3 a4 h4 a5 h5 a6 h6 a7 h7 a8 h8 hc hd he hf p q d g b u v = k0_pay11 d g (k0_pay4 p q) (k0_pay5 p q) (k0_pay6 p q g b)
    ∧ out0_B_6 c i a0 h0 a1 h1 a2 h2 a3 h3 a4 h4 a5 h5 a6 h6 a7 h7 a8 h8 hc hd he hf p q d g b u v = k0_pay12 d g (k0_pay4 p q) (k0_pay5 p q) (k0_pay6 p q g b)
    ∧ out0_B_7 c i a0 h0 a1 h1 a2 h2 a3 h3 a4 h4 a5 h5 a6 h6 a7 h7 a8 h8 hc hd he hf p q d g b u v = k0_pay14 d (k0_pay5 p q) (k0_pay6 p q g b) u
    ∧ out0_B_8 c i a0 h0 a1 h1 a2 h2 a3 h3 a4 h4 a5 h5 a6 h6 a7 h7 a8 h8 hc hd he hf p q d g b u v = k0_pay2 (k0_pay10 d (k0_pay6 p q g b)) v := by
  refine ⟨(View.read_writes_eq_canon _ _ _ (cover0_B_5 c i a0 h0 a1 h1 a2 h2 a3 h3 a4 h4 a5 h5 a6 h6 a7 h7 a8 h8 hc hd he hf p q d g b u v)).trans ?_,
    (View.read_writes_eq_canon _ _ _ (cover0_B_6 c i a0 h0 a1 h1 a2 h2 a3 h3 a4 h4 a5 h5 a6 h6 a7 h7 a8 h8 hc hd he hf p q d g b u v)).trans ?_,
    (View.read_writes_eq_canon _ _ _ (cover0_B_7 c i a0 h0 a1 h1 a2 h2 a3 h3 a4 h4 a5 h5 a6 h6 a7 h7 a8 h8 hc hd he hf p q d g b u v)).trans ?_,
    (View.read_writes_eq_canon _ _ _ (cover0_B_8 c i a0 h0 a1 h1 a2 h2 a3 h3 a4 h4 a5 h5 a6 h6 a7 h7 a8 h8 hc hd he hf p q d g b u v)).trans ?_⟩ <;>
  · unfold kernelRun0_B
    dsimp only
    sl_unfold_words
    rw [View.canon_unit_zero zero2]
    simp only [View.readAt_eq_ld, h0.read_unread, h1.read_unread, h2.read_unread, h3.read_unread, h4.read_unread, h7.read_unread, h8.read_unread,
      View.ld_unit_zero (S := S256x512) zero2, View.ld_unit_zero (S := S256x1024) zero2, View.ld_unit_zero (S := S1x1024) zero2]

end Points

variable (m : (ℓ : Loc nD τ sig) → Buf (Elt Ideal) ℓ)

abbrev low (c : Dev nD) : Vec Ideal S4096x512 .f32 := m ((c : Thread nD τ).loc main_arg0)
abbrev high (c : Dev nD) : Vec Ideal S4096x512 .f32 := m ((c : Thread nD τ).loc main_arg1)
abbrev gated (c : Dev nD) : Vec Ideal S4096x1024 .f32 := m ((c : Thread nD τ).loc main_arg2)
abbrev scale (c : Dev nD) : Vec Ideal S1x1024 .f32 := m ((c : Thread nD τ).loc main_arg3)
abbrev shift (c : Dev nD) : Vec Ideal S1x1024 .f32 := m ((c : Thread nD τ).loc main_arg4)

/-- The norm's input, its two halves side by side. -/
abbrev both (p q : Vec Ideal S4096x512 .f32) : FVec Ideal S4096x1024 .f32 :=
  concatenate S4096x1024 1 [⟨S4096x512, p⟩, ⟨S4096x512, q⟩] Cert.DnormRefIdeal.Gen.concatenates_S4096x512_S4096x512_S4096x1024_d1

section Whole

variable (x d : FVec Ideal S4096x1024 .f32) (g b : Vec Ideal S1x1024 .f32)

/-- The gradient of entry `(r, k)` of the norm's input, -/
def entry (r : Fin 4096) (k : Fin 1024) : EReal := Norm.back (row x r) (scaled (row x r) (row d r) (row g 0) (row b 0)) k

/-- the two halves of columns, -/
def lowGrad : Vec Ideal S4096x512 .f32 := fun y => entry x d g b (y 0) ⟨(y 1).val, by have : (y 1).val < 512 := (y 1).isLt; omega⟩
def highGrad : Vec Ideal S4096x512 .f32 := fun y => entry x d g b (y 0) ⟨(y 1).val + 512, by have : (y 1).val < 512 := (y 1).isLt; omega⟩

/-- and the gradients of the scale and of the shift. -/
def scaleGrad : Vec Ideal S1x1024 .f32 := fun y =>
  ∑ r : Fin 4096, received (row x r) (row d r) (row g 0) (row b 0) (y 1) * Norm.normed (row x r) (y 1)
def shiftGrad : Vec Ideal S1x1024 .f32 := fun y => ∑ r : Fin 4096, received (row x r) (row d r) (row g 0) (row b 0) (y 1)

end Whole

abbrev lowAt (c : Dev nD) (t : Fin cfg0.N) : Vec Ideal S256x512 .f32 := iblk m c 0 t
abbrev highAt (c : Dev nD) (t : Fin cfg0.N) : Vec Ideal S256x512 .f32 := iblk m c 1 t
abbrev gatedAt (c : Dev nD) (t : Fin cfg0.N) : Vec Ideal S256x1024 .f32 := iblk m c 2 t
abbrev scaleAt (c : Dev nD) (t : Fin cfg0.N) : Vec Ideal S1x1024 .f32 := iblk m c 3 t
abbrev shiftAt (c : Dev nD) (t : Fin cfg0.N) : Vec Ideal S1x1024 .f32 := iblk m c 4 t

theorem blocks : ∀ t : Fin cfg0.N, (win0_0.index t = ![t.val, 0] ∧ win0_1.index t = ![t.val, 0] ∧ win0_2.index t = ![t.val, 0]
      ∧ win0_3.index t = ![0, 0] ∧ win0_4.index t = ![0, 0])
    ∧ (win0_5.index t = ![t.val, 0] ∧ win0_5.flush t = true) ∧ (win0_6.index t = ![t.val, 0] ∧ win0_6.flush t = true)
    ∧ (win0_7.index t = ![0, 0] ∧ (win0_7.flush t = true ↔ t.val = 15)) ∧ win0_8.index t = ![0, 0] ∧ (win0_8.flush t = true ↔ t.val = 15) :=
  (by decide +kernel : ∀ t : Fin grid0.N, _)

section Read
variable (c : Dev nD) (t : Fin cfg0.N) (r : Fin 256) (i : Fin 4096) (hi : i.val = t.val * 256 + r.val)

include hi in
theorem inputsAt_row : row (inputs (lowAt m c t) (highAt m c t)) r = row (both (low m c) (high m c)) i := by
  obtain ⟨⟨e0, e1, -⟩, -⟩ := blocks t
  funext k
  refine beside_congr _ _ _ _ (by decide) r i (fun k => ?_) (fun k => ?_) k
  · show V m c main_arg0 _ = _
    rw [V_main_arg0]
    refine at_ix2 (low m c) _ _ _ ((congrArg (fun q => q * 256 + 1 * r.val) (congrFun e0 0)).trans ?_) ((congrArg (fun q => q * 512 + 1 * k.val) (congrFun e0 1)).trans ?_)
    · show t.val * 256 + 1 * r.val = i.val; omega
    · show 0 * 512 + 1 * k.val = k.val; omega
  · show V m c main_arg1 _ = _
    rw [V_main_arg1]
    refine at_ix2 (high m c) _ _ _ ((congrArg (fun q => q * 256 + 1 * r.val) (congrFun e1 0)).trans ?_) ((congrArg (fun q => q * 512 + 1 * k.val) (congrFun e1 1)).trans ?_)
    · show t.val * 256 + 1 * r.val = i.val; omega
    · show 0 * 512 + 1 * k.val = k.val; omega

include hi in
theorem gatedAt_row : row (gatedAt m c t) r = row (gated m c) i := by
  obtain ⟨⟨-, -, e, -⟩, -⟩ := blocks t
  funext k
  show V m c main_arg2 _ = _
  rw [V_main_arg2]
  refine at_ix2 (gated m c) _ _ _ ((congrArg (fun q => q * 256 + 1 * r.val) (congrFun e 0)).trans ?_) ((congrArg (fun q => q * 1024 + 1 * k.val) (congrFun e 1)).trans ?_)
  · show t.val * 256 + 1 * r.val = i.val; omega
  · show 0 * 1024 + 1 * k.val = k.val; omega

theorem scaleAt_row : row (scaleAt m c t) 0 = row (scale m c) 0 := by
  obtain ⟨⟨-, -, -, e, -⟩, -⟩ := blocks t
  funext k
  show V m c main_arg3 _ = _
  rw [V_main_arg3]
  refine at_ix2 (scale m c) _ _ _ ((congrArg (fun q => q * 1 + 1 * 0) (congrFun e 0)).trans ?_) ((congrArg (fun q => q * 1024 + 1 * k.val) (congrFun e 1)).trans ?_)
  · show 0 * 1 + 1 * 0 = 0; rfl
  · show 0 * 1024 + 1 * k.val = k.val; omega

theorem shiftAt_row : row (shiftAt m c t) 0 = row (shift m c) 0 := by
  obtain ⟨⟨-, -, -, -, e⟩, -⟩ := blocks t
  funext k
  show V m c main_arg4 _ = _
  rw [V_main_arg4]
  refine at_ix2 (shift m c) _ _ _ ((congrArg (fun q => q * 1 + 1 * 0) (congrFun e 0)).trans ?_) ((congrArg (fun q => q * 1024 + 1 * k.val) (congrFun e 1)).trans ?_)
  · show 0 * 1 + 1 * 0 = 0; rfl
  · show 0 * 1024 + 1 * k.val = k.val; omega

end Read

/-- What a point writes. -/
theorem written (c : Dev nD) (t : Fin cfg0.N) :
    (dats m 0 c).flushed 5 t = k0_pay11 (gatedAt m c t) (scaleAt m c t) (k0_pay4 (lowAt m c t) (highAt m c t)) (k0_pay5 (lowAt m c t) (highAt m c t))
        (k0_pay6 (lowAt m c t) (highAt m c t) (scaleAt m c t) (shiftAt m c t))
    ∧ (dats m 0 c).flushed 6 t = k0_pay12 (gatedAt m c t) (scaleAt m c t) (k0_pay4 (lowAt m c t) (highAt m c t)) (k0_pay5 (lowAt m c t) (highAt m c t))
        (k0_pay6 (lowAt m c t) (highAt m c t) (scaleAt m c t) (shiftAt m c t)) := by
  have hN : cfg0.N = 16 := N_0
  have ht := t.isLt
  by_cases h : t.val = 0
  · rw [flushed5_A m c t (by omega) (by omega) (by omega) (by omega), flushed6_A m c t (by omega) (by omega) (by omega) (by omega), (first ..).1, (first ..).2.1]
    exact ⟨rfl, rfl⟩
  · rw [flushed5_B m c t (by omega) (by omega) (by omega) (by omega), flushed6_B m c t (by omega) (by omega) (by omega) (by omega), (later ..).1, (later ..).2.1]
    exact ⟨rfl, rfl⟩

/-- The gradient a point computes is that of its rows. -/
theorem entry_at (c : Dev nD) (t : Fin cfg0.N) (r : Fin 256) (i : Fin 4096) (hi : i.val = t.val * 256 + r.val) (k : Fin 1024) :
    k0_pay8 (gatedAt m c t) (scaleAt m c t) (k0_pay4 (lowAt m c t) (highAt m c t)) (k0_pay5 (lowAt m c t) (highAt m c t))
        (k0_pay6 (lowAt m c t) (highAt m c t) (scaleAt m c t) (shiftAt m c t)) (ix2 r k)
      = entry (both (low m c) (high m c)) (gated m c) (scale m c) (shift m c) i k := by
  rw [back_at, inputsAt_row m c t r i hi, gatedAt_row m c t r i hi, scaleAt_row, shiftAt_row]
  rfl

theorem flushed_low (c : Dev nD) (t : Fin cfg0.N) :
    (dats m 0 c).flushed 5 t = ((cfg0.win 5).blk t).view.read (Elt Ideal) (lowGrad (both (low m c) (high m c)) (gated m c) (scale m c) (shift m c)) := by
  obtain ⟨-, ⟨e, -⟩, -⟩ := blocks t
  have hN : cfg0.N = 16 := N_0
  have ht := t.isLt
  rw [(written m c t).1]
  funext y
  have hr : (y 0).val < 256 := (y 0).isLt
  have hk : (y 1).val < 512 := (y 1).isLt
  have v := entry_at m c t ⟨(y 0).val, hr⟩ ⟨t.val * 256 + (y 0).val, by omega⟩ rfl ⟨(y 1).val, by omega⟩
  show k0_pay11 (gatedAt m c t) (scaleAt m c t) (k0_pay4 (lowAt m c t) (highAt m c t)) (k0_pay5 (lowAt m c t) (highAt m c t))
    (k0_pay6 (lowAt m c t) (highAt m c t) (scaleAt m c t) (shiftAt m c t)) y = lowGrad _ _ _ _ (((cfg0.win 5).blk t).view.emb y)
  rw [at_ix2 (lowGrad _ _ _ _) (((cfg0.win 5).blk t).view.emb y) ⟨t.val * 256 + (y 0).val, by omega⟩ ⟨(y 1).val, hk⟩
    ((congrArg (fun q => q * 256 + 1 * (y 0).val) (congrFun e 0)).trans (by show t.val * 256 + 1 * (y 0).val = t.val * 256 + (y 0).val; omega))
    ((congrArg (fun q => q * 512 + 1 * (y 1).val) (congrFun e 1)).trans (by show 0 * 512 + 1 * (y 1).val = (y 1).val; omega))]
  refine Eq.trans ?_ v
  unfold k0_pay11
  rw [shapeCast_self]
  exact at_ix2 (k0_pay8 _ _ _ _ _) _ ⟨(y 0).val, hr⟩ ⟨(y 1).val, by omega⟩ (Nat.zero_add _) (Nat.zero_add _)

theorem flushed_high (c : Dev nD) (t : Fin cfg0.N) :
    (dats m 0 c).flushed 6 t = ((cfg0.win 6).blk t).view.read (Elt Ideal) (highGrad (both (low m c) (high m c)) (gated m c) (scale m c) (shift m c)) := by
  obtain ⟨-, -, ⟨e, -⟩, -⟩ := blocks t
  have hN : cfg0.N = 16 := N_0
  have ht := t.isLt
  rw [(written m c t).2]
  funext y
  have hr : (y 0).val < 256 := (y 0).isLt
  have hk : (y 1).val < 512 := (y 1).isLt
  have v := entry_at m c t ⟨(y 0).val, hr⟩ ⟨t.val * 256 + (y 0).val, by omega⟩ rfl ⟨(y 1).val + 512, by omega⟩
  show k0_pay12 (gatedAt m c t) (scaleAt m c t) (k0_pay4 (lowAt m c t) (highAt m c t)) (k0_pay5 (lowAt m c t) (highAt m c t))
    (k0_pay6 (lowAt m c t) (highAt m c t) (scaleAt m c t) (shiftAt m c t)) y = highGrad _ _ _ _ (((cfg0.win 6).blk t).view.emb y)
  rw [at_ix2 (highGrad _ _ _ _) (((cfg0.win 6).blk t).view.emb y) ⟨t.val * 256 + (y 0).val, by omega⟩ ⟨(y 1).val, hk⟩
    ((congrArg (fun q => q * 256 + 1 * (y 0).val) (congrFun e 0)).trans (by show t.val * 256 + 1 * (y 0).val = t.val * 256 + (y 0).val; omega))
    ((congrArg (fun q => q * 512 + 1 * (y 1).val) (congrFun e 1)).trans (by show 0 * 512 + 1 * (y 1).val = (y 1).val; omega))]
  refine Eq.trans ?_ v
  unfold k0_pay12
  rw [shapeCast_self]
  exact at_ix2 (k0_pay8 _ _ _ _ _) _ ⟨(y 0).val, hr⟩ ⟨(y 1).val + 512, by omega⟩ (Nat.zero_add _) (Nat.add_comm _ _)

/-- The call leaves the two halves of the gradient. -/
theorem result_low (c : Dev nD) : (dats m 0 c).arrAt 5 cfg0.N = lowGrad (both (low m c) (high m c)) (gated m c) (scale m c) (shift m c) :=
  (dats m 0 c).arrAt_eq_of_cover 5 _ (fun t _ => flushed_low m c t) fun i => by
    have h0 : (i 0).val < 4096 := (i 0).isLt
    have h1 : (i 1).val < 512 := (i 1).isLt
    have hN : cfg0.N = 16 := N_0
    obtain ⟨t, ht⟩ : ∃ t : Fin cfg0.N, t.val = (i 0).val / 256 := ⟨⟨(i 0).val / 256, by rw [hN]; omega⟩, rfl⟩
    obtain ⟨-, ⟨e, hf⟩, -⟩ := blocks t
    refine ⟨t, hf, ?_⟩
    show i ∈ ((View.whole main_v0_0).slice (win0_5.rect t)).set
    rw [View.set_slice_whole]
    refine mem_tile _ i (s0 := 256) (s1 := 512) rfl rfl (by decide) (by decide) ((congrArg (· * 256) (congrFun e 0)).trans ?_) ((congrArg (· * 512) (congrFun e 1)).trans ?_)
    · show t.val * 256 = _; rw [ht]
    · show 0 * 512 = (i 1).val / 512 * 512; omega

theorem result_high (c : Dev nD) : (dats m 0 c).arrAt 6 cfg0.N = highGrad (both (low m c) (high m c)) (gated m c) (scale m c) (shift m c) :=
  (dats m 0 c).arrAt_eq_of_cover 6 _ (fun t _ => flushed_high m c t) fun i => by
    have h0 : (i 0).val < 4096 := (i 0).isLt
    have h1 : (i 1).val < 512 := (i 1).isLt
    have hN : cfg0.N = 16 := N_0
    obtain ⟨t, ht⟩ : ∃ t : Fin cfg0.N, t.val = (i 0).val / 256 := ⟨⟨(i 0).val / 256, by rw [hN]; omega⟩, rfl⟩
    obtain ⟨-, -, ⟨e, hf⟩, -⟩ := blocks t
    refine ⟨t, hf, ?_⟩
    show i ∈ ((View.whole main_v0_1).slice (win0_6.rect t)).set
    rw [View.set_slice_whole]
    refine mem_tile _ i (s0 := 256) (s1 := 512) rfl rfl (by decide) (by decide) ((congrArg (· * 256) (congrFun e 0)).trans ?_) ((congrArg (· * 512) (congrFun e 1)).trans ?_)
    · show t.val * 256 = _; rw [ht]
    · show 0 * 512 = (i 1).val / 512 * 512; omega

/-- The scale's gradient after the last point, -/
theorem summed_scale (c : Dev nD) (n : ℕ) (h : n < cfg0.N) (hn : n = 15) (k : Fin 1024) :
    (outsAt0 m c n h).2.2.1 (ix2 (0 : Fin 1) k) = scaleGrad (both (low m c) (high m c)) (gated m c) (scale m c) (shift m c) (ix2 (0 : Fin 1) k) := by
  have hN : cfg0.N = 16 := N_0
  subst hn
  refine accumulated (J := 15) (T := 256) rfl (fun n h => (outsAt0 m c n h).2.2.1 (ix2 (0 : Fin 1) k))
    (fun n h r => received (row (inputs (lowAt m c ⟨n, h⟩) (highAt m c ⟨n, h⟩)) r) (row (gatedAt m c ⟨n, h⟩) r) (row (scaleAt m c ⟨n, h⟩) 0) (row (shiftAt m c ⟨n, h⟩) 0) k
      * Norm.normed (row (inputs (lowAt m c ⟨n, h⟩) (highAt m c ⟨n, h⟩)) r) k)
    (fun n h h0 => ?_) (fun n h h0 => ?_) 0 h
    (fun i => received (row (both (low m c) (high m c)) i) (row (gated m c) i) (row (scale m c) 0) (row (shift m c) 0) k * Norm.normed (row (both (low m c) (high m c)) i) k)
    (fun a r ha l hl => ?_)
  · rw [outsAt0_A m c ⟨n, h⟩ h0 (by dsimp only; omega) h0 (by dsimp only; omega)]
    dsimp only
    rw [(first ..).2.2.1, ← scale_at]
    unfold k0_pay13
    rw [shapeCast_self]
  · rw [outsAt0_B m c ⟨n + 1, h⟩ h0 (by dsimp only; omega) h0 (by dsimp only; omega)]
    dsimp only
    rw [(later ..).2.2.1, ← scale_at]
    unfold k0_pay14
    rw [shapeCast_self]
    rfl
  · rw [inputsAt_row m c ⟨_, ha⟩ r l (by dsimp only; omega), gatedAt_row m c ⟨_, ha⟩ r l (by dsimp only; omega), scaleAt_row, shiftAt_row]

/-- and the shift's. -/
theorem summed_shift (c : Dev nD) (n : ℕ) (h : n < cfg0.N) (hn : n = 15) (k : Fin 1024) :
    (outsAt0 m c n h).2.2.2 (ix2 (0 : Fin 1) k) = shiftGrad (both (low m c) (high m c)) (gated m c) (scale m c) (shift m c) (ix2 (0 : Fin 1) k) := by
  have hN : cfg0.N = 16 := N_0
  subst hn
  refine accumulated (J := 15) (T := 256) rfl (fun n h => (outsAt0 m c n h).2.2.2 (ix2 (0 : Fin 1) k))
    (fun n h r => received (row (inputs (lowAt m c ⟨n, h⟩) (highAt m c ⟨n, h⟩)) r) (row (gatedAt m c ⟨n, h⟩) r) (row (scaleAt m c ⟨n, h⟩) 0) (row (shiftAt m c ⟨n, h⟩) 0) k)
    (fun n h h0 => ?_) (fun n h h0 => ?_) 0 h
    (fun i => received (row (both (low m c) (high m c)) i) (row (gated m c) i) (row (scale m c) 0) (row (shift m c) 0) k)
    (fun a r ha l hl => ?_)
  · rw [outsAt0_A m c ⟨n, h⟩ h0 (by dsimp only; omega) h0 (by dsimp only; omega)]
    dsimp only
    rw [(first ..).2.2.2, ← shift_at]
    unfold k0_pay1
    rw [shapeCast_self]
  · rw [outsAt0_B m c ⟨n + 1, h⟩ h0 (by dsimp only; omega) h0 (by dsimp only; omega)]
    dsimp only
    rw [(later ..).2.2.2, ← shift_at]
    unfold k0_pay2
    rw [shapeCast_self]
    rfl
  · rw [inputsAt_row m c ⟨_, ha⟩ r l (by dsimp only; omega), gatedAt_row m c ⟨_, ha⟩ r l (by dsimp only; omega), scaleAt_row, shiftAt_row]

/-- What the last point leaves in them. -/
theorem flushed_scale (c : Dev nD) (t : Fin cfg0.N) (ht : t.val = 15) :
    (dats m 0 c).flushed 7 t = ((cfg0.win 7).blk t).view.read (Elt Ideal) (scaleGrad (both (low m c) (high m c)) (gated m c) (scale m c) (shift m c)) := by
  obtain ⟨-, -, -, ⟨e, -⟩, -⟩ := blocks t
  rw [flushed7]
  have v : ∀ k, (outsAt0 m c t.val t.isLt).2.2.1 (ix2 (0 : Fin 1) k) = scaleGrad (both (low m c) (high m c)) (gated m c) (scale m c) (shift m c) (ix2 (0 : Fin 1) k) :=
    summed_scale m c t.val t.isLt ht
  generalize (outsAt0 m c t.val t.isLt).2.2.1 = x at v ⊢
  generalize scaleGrad (both (low m c) (high m c)) (gated m c) (scale m c) (shift m c) = z at v ⊢
  funext y
  have h0 : (y 0).val < 1 := (y 0).isLt
  have h1 : (y 1).val < 1024 := (y 1).isLt
  refine (show (cfg0.win 7).cut (grid0.coords t) x y = x (ix2 (0 : Fin 1) (⟨(y 1).val, h1⟩ : Fin 1024)) from at_ix2 x _ _ _ (show (y 0).val = 0 by omega) rfl).trans ((v _).trans ?_)
  refine (at_ix2 z _ (0 : Fin 1) ⟨(y 1).val, h1⟩ ((congrArg (fun q => q * 1 + 1 * (y 0).val) (congrFun e 0)).trans ?_) ((congrArg (fun q => q * 1024 + 1 * (y 1).val) (congrFun e 1)).trans ?_)).symm
  · show 0 * 1 + 1 * (y 0).val = 0; omega
  · show 0 * 1024 + 1 * (y 1).val = (y 1).val; omega

theorem flushed_shift (c : Dev nD) (t : Fin cfg0.N) (ht : t.val = 15) :
    (dats m 0 c).flushed 8 t = ((cfg0.win 8).blk t).view.read (Elt Ideal) (shiftGrad (both (low m c) (high m c)) (gated m c) (scale m c) (shift m c)) := by
  obtain ⟨-, -, -, -, e, -⟩ := blocks t
  rw [flushed8]
  have v : ∀ k, (outsAt0 m c t.val t.isLt).2.2.2 (ix2 (0 : Fin 1) k) = shiftGrad (both (low m c) (high m c)) (gated m c) (scale m c) (shift m c) (ix2 (0 : Fin 1) k) :=
    summed_shift m c t.val t.isLt ht
  generalize (outsAt0 m c t.val t.isLt).2.2.2 = x at v ⊢
  generalize shiftGrad (both (low m c) (high m c)) (gated m c) (scale m c) (shift m c) = z at v ⊢
  funext y
  have h0 : (y 0).val < 1 := (y 0).isLt
  have h1 : (y 1).val < 1024 := (y 1).isLt
  refine (show (cfg0.win 8).cut (grid0.coords t) x y = x (ix2 (0 : Fin 1) (⟨(y 1).val, h1⟩ : Fin 1024)) from at_ix2 x _ _ _ (show (y 0).val = 0 by omega) rfl).trans ((v _).trans ?_)
  refine (at_ix2 z _ (0 : Fin 1) ⟨(y 1).val, h1⟩ ((congrArg (fun q => q * 1 + 1 * (y 0).val) (congrFun e 0)).trans ?_) ((congrArg (fun q => q * 1024 + 1 * (y 1).val) (congrFun e 1)).trans ?_)).symm
  · show 0 * 1 + 1 * (y 0).val = 0; omega
  · show 0 * 1024 + 1 * (y 1).val = (y 1).val; omega

/-- The call leaves the scale's gradient and the shift's. -/
theorem result_scale (c : Dev nD) : (dats m 0 c).arrAt 7 cfg0.N = scaleGrad (both (low m c) (high m c)) (gated m c) (scale m c) (shift m c) :=
  (dats m 0 c).arrAt_eq_of_cover 7 _ (fun t hf => flushed_scale m c t ((blocks t).2.2.2.1.2.mp hf)) fun i => by
    have h0 : (i 0).val < 1 := (i 0).isLt
    have h1 : (i 1).val < 1024 := (i 1).isLt
    have hN : cfg0.N = 16 := N_0
    obtain ⟨t, ht⟩ : ∃ t : Fin cfg0.N, t.val = 15 := ⟨⟨15, by rw [hN]; omega⟩, rfl⟩
    obtain ⟨-, -, -, ⟨e, hf⟩, -⟩ := blocks t
    refine ⟨t, hf.mpr ht, ?_⟩
    show i ∈ ((View.whole main_v0_2).slice (win0_7.rect t)).set
    rw [View.set_slice_whole]
    refine mem_tile _ i (s0 := 1) (s1 := 1024) rfl rfl (by decide) (by decide) ((congrArg (· * 1) (congrFun e 0)).trans ?_) ((congrArg (· * 1024) (congrFun e 1)).trans ?_)
    · show 0 * 1 = (i 0).val / 1 * 1; omega
    · show 0 * 1024 = (i 1).val / 1024 * 1024; omega

theorem result_shift (c : Dev nD) : (dats m 0 c).arrAt 8 cfg0.N = shiftGrad (both (low m c) (high m c)) (gated m c) (scale m c) (shift m c) :=
  (dats m 0 c).arrAt_eq_of_cover 8 _ (fun t hf => flushed_shift m c t ((blocks t).2.2.2.2.2.mp hf)) fun i => by
    have h0 : (i 0).val < 1 := (i 0).isLt
    have h1 : (i 1).val < 1024 := (i 1).isLt
    have hN : cfg0.N = 16 := N_0
    obtain ⟨t, ht⟩ : ∃ t : Fin cfg0.N, t.val = 15 := ⟨⟨15, by rw [hN]; omega⟩, rfl⟩
    obtain ⟨-, -, -, -, e, hf⟩ := blocks t
    refine ⟨t, hf.mpr ht, ?_⟩
    show i ∈ ((View.whole main_v0_3).slice (win0_8.rect t)).set
    rw [View.set_slice_whole]
    refine mem_tile _ i (s0 := 1) (s1 := 1024) rfl rfl (by decide) (by decide) ((congrArg (· * 1) (congrFun e 0)).trans ?_) ((congrArg (· * 1024) (congrFun e 1)).trans ?_)
    · show 0 * 1 = (i 0).val / 1 * 1; omega
    · show 0 * 1024 = (i 1).val / 1024 * 1024; omega

/-- The precondition's side conditions. -/
instance facts_pre : Cert.Pre_norm_finite.Facts where
  bcast_S_S4096x1024 := by decide
  bcast_S_S1x1024 := by decide
  bcast_S1x1024_S4096x1024_0_1 := by decide

/-- The precondition at an index: the gradient there and the scale of its column are real numbers. -/
theorem finite (p q : Vec Ideal S4096x512 .f32) (d : Vec Ideal S4096x1024 .f32) (g b : Vec Ideal S1x1024 .f32)
    (h : Cert.Pre_norm_finite.fn (F := Ideal) p q d g b = fun _ => 1#1) (r : Fin 4096) (k : Fin 1024) :
    (∃ x : ℝ, d (ix2 r k) = x) ∧ ∃ x : ℝ, g (ix2 0 k) = x := by
  have e := congrFun h (ix2 r k)
  unfold Cert.Pre_norm_finite.fn at e
  have top : Ideal.ofBits .f32 0x7F800000#32 = ⊤ := by simp [Ideal.ofBits, Ideal.ieee]
  have num : ∀ a : EReal, decide (FloatOps.absf (F := Ideal) (φ := .f32) a < ⊤) = true → ∃ x : ℝ, a = x :=
    fun a ha => coe_of_abs_lt_top a (of_decide_eq_true ha)
  simp only [pointwise, top] at e
  have s := (by decide : ∀ a b : Bool, IntOp.andi (BitVec.ofBool a) (BitVec.ofBool b) = 1#1 → a = true ∧ b = true) _ _ e
  exact ⟨num _ s.1, num _ s.2⟩

namespace Reference
open Cert.DnormRefIdeal (S4096x1 S4096)
open Cert.DnormRefIdeal.Gen (bcast_S4096_S4096x1_0 bcast_S4096_S4096x1024_0 reducesTo_S4096x1024_S4096_d1 reducesTo_S4096x1_S4096_d1 reducesTo_S4096x1024_S1024_d0
  bcast_S_S4096x1 bcast_S4096x1_S4096x1024_0_1 bcast_S1x1024_S4096x1024_0_1 bcast_S_S4096x1024 shapeCasts_S4096_S4096x1 h_S_
  slices_S4096x1024_S4096x512_0_0 slices_S4096x1024_S4096x512_0_512)

variable (x d : FVec Ideal S4096x1024 .f32) (g b : Vec Ideal S1x1024 .f32)

abbrev number (w : BitVec 32) : FVec Ideal Cert.DnormRefIdeal.S_ .f32 := constant (F := Ideal) Cert.DnormRefIdeal.S_ .f32 w
abbrev column (w : BitVec 32) : FVec Ideal S4096x1 .f32 := broadcastInDim S4096x1 ![] bcast_S_S4096x1 (number w)
abbrev array (w : BitVec 32) : FVec Ideal S4096x1024 .f32 := broadcastInDim S4096x1024 ![] bcast_S_S4096x1024 (number w)
abbrev along (z : FVec Ideal S4096x1 .f32) : FVec Ideal S4096x1024 .f32 := broadcastInDim S4096x1024 ![0, 1] bcast_S4096x1_S4096x1024_0_1 z
abbrev down (z : Vec Ideal S1x1024 .f32) : FVec Ideal S4096x1024 .f32 := broadcastInDim S4096x1024 ![0, 1] bcast_S1x1024_S4096x1024_0_1 z
abbrev sums : FVec Ideal S4096 .f32 := Host.reduceAdd x (number 0x00000000#32) reducesTo_S4096x1024_S4096_d1 h_S_
abbrev spreadOut (z : FVec Ideal S4096x1 .f32) : FVec Ideal S4096x1024 .f32 :=
  broadcastInDim S4096x1024 ![0] bcast_S4096_S4096x1024_0 (Host.reduceAdd z (number 0x00000000#32) reducesTo_S4096x1_S4096_d1 h_S_)

/-- The reference's norm, -/
def mean : FVec Ideal S4096x1 .f32 := Host.divf (broadcastInDim S4096x1 ![0] bcast_S4096_S4096x1_0 (sums x)) (column 0x44800000#32)
def centred : FVec Ideal S4096x1024 .f32 := subf x (along (mean x))
def spread : FVec Ideal S4096x1 .f32 := addf (mean (mulf (centred x) (centred x))) (column 0x358637BD#32)
def inv : FVec Ideal S4096x1 .f32 := Host.rsqrt (spread x)
def normed : FVec Ideal S4096x1024 .f32 := mulf (centred x) (along (inv x))

/-- its gradient through the gate and the scale, -/
def output : FVec Ideal S4096x1024 .f32 := addf (mulf (normed x) (down g)) (down b)
def logits (y : FVec Ideal S4096x1024 .f32) : FVec Ideal S4096x1024 .f32 :=
  Host.divf (array 0x3F800000#32) (addf (array 0x3F800000#32) (Host.exp (Host.negf y)))
def gateGrad (y : FVec Ideal S4096x1024 .f32) : FVec Ideal S4096x1024 .f32 :=
  addf (mulf d (logits y)) (mulf (mulf y d) (mulf (logits y) (subf (array 0x3F800000#32) (logits y))))
def valueGrad : FVec Ideal S4096x1024 .f32 := mulf (gateGrad d (output x g b)) (down g)

/-- and through the variance and the mean, of `e` that the normed values receive. -/
def varied (e : FVec Ideal S4096x1024 .f32) : FVec Ideal S4096x1 .f32 :=
  Host.divf (mulf (shapeCast S4096x1 (sums (mulf (centred x) e)) shapeCasts_S4096_S4096x1) (mulf (column 0xBF000000#32) (Host.divf (inv x) (spread x)))) (column 0x44800000#32)
def shifted (e : FVec Ideal S4096x1024 .f32) : FVec Ideal S4096x1024 .f32 :=
  mulf (spreadOut (varied x e)) (mulf (array 0x40000000#32) (centred x))
def direct (e : FVec Ideal S4096x1024 .f32) : FVec Ideal S4096x1024 .f32 := mulf e (along (inv x))
def chain (e : FVec Ideal S4096x1024 .f32) : FVec Ideal S4096x1024 .f32 :=
  addf (addf (direct x e) (shifted x e))
    (spreadOut (Host.divf (addf (shapeCast S4096x1 (sums (Host.negf (direct x e))) shapeCasts_S4096_S4096x1)
      (shapeCast S4096x1 (sums (Host.negf (shifted x e))) shapeCasts_S4096_S4096x1)) (column 0x44800000#32)))

theorem mean_apply (r : Fin 4096) (z : Fin 1) : mean x (ix2 r z) = Norm.mean (row x r) := by
  unfold mean
  simp only [pointwise, zero_add]
  rfl

theorem centred_apply (r : Fin 4096) (k : Fin 1024) : centred x (ix2 r k) = Norm.centred (row x r) k := by
  unfold centred Norm.centred
  rw [← mean_apply x r 0]
  generalize mean x = y
  simp only [pointwise]
  rfl

theorem spread_apply (r : Fin 4096) (z : Fin 1) : spread x (ix2 r z) = Norm.spread (row x r) := by
  have e := mean_apply (mulf (centred x) (centred x)) r z
  have ec := centred_apply x r
  unfold spread Norm.spread
  rw [show (fun k => Norm.centred (row x r) k * Norm.centred (row x r) k) = row (mulf (centred x) (centred x)) r from funext fun k => by rw [← ec]; rfl, ← e]
  generalize mean (mulf (centred x) (centred x)) = y
  simp only [pointwise]

theorem inv_apply (r : Fin 4096) (z : Fin 1) : inv x (ix2 r z) = Norm.inv (row x r) := by
  unfold inv Norm.inv
  rw [← spread_apply x r z]
  rfl

theorem normed_apply (r : Fin 4096) (k : Fin 1024) : normed x (ix2 r k) = Norm.normed (row x r) k := by
  unfold normed Norm.normed
  rw [← centred_apply x r k, ← inv_apply x r 0]
  generalize inv x = y
  generalize centred x = z
  simp only [pointwise]
  rfl

theorem output_apply (r : Fin 4096) (k : Fin 1024) : output x g b (ix2 r k) = Norm.normed (row x r) k * g (ix2 0 k) + b (ix2 0 k) := by
  unfold output
  rw [← normed_apply x r k]
  generalize normed x = y
  simp only [pointwise]
  rfl

theorem gateGrad_apply (y : FVec Ideal S4096x1024 .f32) (r : Fin 4096) (k : Fin 1024) (h : ∃ a : ℝ, d (ix2 r k) = a) :
    gateGrad d y (ix2 r k) = grad (y (ix2 r k)) (d (ix2 r k)) := by
  obtain ⟨a, ha⟩ := h
  have e : logits y (ix2 r k) = logit (y (ix2 r k)) := by
    unfold logits
    simp only [pointwise, Ideal.ofBits_one_f32]
    rfl
  rw [ha, ← grad_expand, ← ha, ← e]
  unfold gateGrad
  generalize logits y = l
  simp only [pointwise, Ideal.ofBits_one_f32]

theorem valueGrad_apply (r : Fin 4096) (k : Fin 1024) (h : ∃ a : ℝ, d (ix2 r k) = a) :
    valueGrad x d g b (ix2 r k) = scaled (row x r) (row d r) (row g 0) (row b 0) k := by
  unfold valueGrad scaled received
  rw [← output_apply, ← gateGrad_apply d _ r k h]
  generalize gateGrad d (output x g b) = y
  simp only [pointwise]
  rfl

theorem varied_apply (e : FVec Ideal S4096x1024 .f32) (r : Fin 4096) (z : Fin 1) : varied x e (ix2 r z) = Norm.varied (row x r) (row e r) := by
  unfold varied Norm.varied
  rw [← inv_apply x r z, ← spread_apply x r z]
  simp only [← centred_apply]
  generalize centred x = y
  generalize spread x = v
  generalize inv x = w
  simp only [pointwise, zero_add]

theorem shifted_apply (e : FVec Ideal S4096x1024 .f32) (r : Fin 4096) (k : Fin 1024) : shifted x e (ix2 r k) = Norm.shifted (row x r) (row e r) k := by
  unfold shifted Norm.shifted
  rw [← varied_apply x e r 0, ← centred_apply]
  generalize centred x = y
  generalize varied x e = v
  simp only [pointwise, zero_add, Fin.sum_univ_one]
  rfl

theorem direct_apply (e : FVec Ideal S4096x1024 .f32) (r : Fin 4096) (k : Fin 1024) : direct x e (ix2 r k) = e (ix2 r k) * Norm.inv (row x r) := by
  unfold direct
  rw [← inv_apply x r 0]
  generalize inv x = y
  simp only [pointwise]
  rfl

theorem chain_apply (e : FVec Ideal S4096x1024 .f32) (r : Fin 4096) (k : Fin 1024) : chain x e (ix2 r k) = Norm.chain (row x r) (row e r) k := by
  unfold chain Norm.chain
  simp only [← shifted_apply]
  rw [← direct_apply]
  simp only [row, ← direct_apply]
  generalize shifted x e = y
  generalize direct x e = v
  simp only [pointwise, zero_add, Fin.sum_univ_one]
  rfl

/-- The reference's results, where the precondition holds. -/
theorem entry_eq (h : ∀ r k, (∃ a : ℝ, d (ix2 r k) = a) ∧ ∃ a : ℝ, g (ix2 0 k) = a) (r : Fin 4096) (k : Fin 1024) :
    chain x (valueGrad x d g b) (ix2 r k) = entry x d g b r k := by
  rw [chain_apply, show row (valueGrad x d g b) r = scaled (row x r) (row d r) (row g 0) (row b 0) from funext fun k => valueGrad_apply x d g b r k (h r k).1]
  refine (Norm.back_eq _ _ (fun k => ?_) k).symm
  obtain ⟨⟨a, ha⟩, ⟨a', ha'⟩⟩ := h r k
  obtain ⟨v, hv⟩ := grad_real (Norm.normed (row x r) k * g (ix2 0 k) + b (ix2 0 k)) a
  refine ⟨v * a', ?_⟩
  show grad _ (d (ix2 r k)) * g (ix2 0 k) = _
  rw [ha, hv, ha', EReal.coe_mul]

theorem low_eq (h : ∀ r k, (∃ a : ℝ, d (ix2 r k) = a) ∧ ∃ a : ℝ, g (ix2 0 k) = a) :
    extractStridedSlice S4096x512 ![0, 0] (chain x (valueGrad x d g b)) slices_S4096x1024_S4096x512_0_0 = lowGrad x d g b := by
  funext y
  have hk : (y 1).val < 512 := (y 1).isLt
  exact (at_ix2 (chain x (valueGrad x d g b)) _ (y 0) ⟨(y 1).val, by omega⟩ (Nat.zero_add _) (Nat.zero_add _)).trans (entry_eq x d g b h _ _)

theorem high_eq (h : ∀ r k, (∃ a : ℝ, d (ix2 r k) = a) ∧ ∃ a : ℝ, g (ix2 0 k) = a) :
    extractStridedSlice S4096x512 ![0, 512] (chain x (valueGrad x d g b)) slices_S4096x1024_S4096x512_0_512 = highGrad x d g b := by
  funext y
  have hk : (y 1).val < 512 := (y 1).isLt
  exact (at_ix2 (chain x (valueGrad x d g b)) _ (y 0) ⟨(y 1).val + 512, by omega⟩ (Nat.zero_add _) (Nat.add_comm _ _)).trans (entry_eq x d g b h _ _)

theorem received_apply (h : ∀ r k, (∃ a : ℝ, d (ix2 r k) = a) ∧ ∃ a : ℝ, g (ix2 0 k) = a) (r : Fin 4096) (k : Fin 1024) :
    gateGrad d (output x g b) (ix2 r k) = received (row x r) (row d r) (row g 0) (row b 0) k := by
  rw [gateGrad_apply d _ r k (h r k).1, output_apply]
  rfl

theorem scale_eq (h : ∀ r k, (∃ a : ℝ, d (ix2 r k) = a) ∧ ∃ a : ℝ, g (ix2 0 k) = a) :
    shapeCast S1x1024 (Host.reduceAdd (mulf (normed x) (gateGrad d (output x g b))) (number 0x00000000#32) reducesTo_S4096x1024_S1024_d0 h_S_) shapeCasts_S1024_S1x1024
      = scaleGrad x d g b := by
  funext y
  obtain ⟨z, j, rfl⟩ : ∃ (z : Fin 1) (j : Fin 1024), y = ix2 z j := ⟨y 0, y 1, eq_ix2 y⟩
  show _ = ∑ r : Fin 4096, received (row x r) (row d r) (row g 0) (row b 0) j * Norm.normed (row x r) j
  simp only [← received_apply x d g b h, ← normed_apply]
  generalize gateGrad d (output x g b) = v
  generalize normed x = w
  simp only [pointwise, zero_add, mul_comm]

theorem shift_eq (h : ∀ r k, (∃ a : ℝ, d (ix2 r k) = a) ∧ ∃ a : ℝ, g (ix2 0 k) = a) :
    shapeCast S1x1024 (Host.reduceAdd (gateGrad d (output x g b)) (number 0x00000000#32) reducesTo_S4096x1024_S1024_d0 h_S_) shapeCasts_S1024_S1x1024
      = shiftGrad x d g b := by
  funext y
  obtain ⟨z, j, rfl⟩ : ∃ (z : Fin 1) (j : Fin 1024), y = ix2 z j := ⟨y 0, y 1, eq_ix2 y⟩
  show _ = ∑ r : Fin 4096, received (row x r) (row d r) (row g 0) (row b 0) j
  simp only [← received_apply x d g b h]
  generalize gateGrad d (output x g b) = v
  simp only [pointwise, zero_add]

end Reference

theorem frame_reference : Cert.quiescent_DnormRefIdeal := fun m ρ _ =>
  (θ_run Cert.DnormRefIdeal.defs _ _).mono (fun r h => ⟨fun c => (h c).2.2.2.2, sem_eq_zero_of_no_sems (by decide) r.2⟩)
    (Cert.DnormRefIdeal.Value.run m ρ)

section Equal
variable (m' : (ℓ : Loc Cert.DnormRefIdeal.nD Cert.DnormRefIdeal.τ Cert.DnormRefIdeal.sig) → Buf (Elt Ideal) ℓ) (c : Dev nD)

/-- The reference's arguments. -/
abbrev rlow : Vec Ideal S4096x512 .f32 := m' ((c.tc : Thread Cert.DnormRefIdeal.nD Cert.DnormRefIdeal.τ).loc Cert.DnormRefIdeal.main_arg0)
abbrev rhigh : Vec Ideal S4096x512 .f32 := m' ((c.tc : Thread Cert.DnormRefIdeal.nD Cert.DnormRefIdeal.τ).loc Cert.DnormRefIdeal.main_arg1)
abbrev rgated : Vec Ideal S4096x1024 .f32 := m' ((c.tc : Thread Cert.DnormRefIdeal.nD Cert.DnormRefIdeal.τ).loc Cert.DnormRefIdeal.main_arg2)
abbrev rscale : Vec Ideal S1x1024 .f32 := m' ((c.tc : Thread Cert.DnormRefIdeal.nD Cert.DnormRefIdeal.τ).loc Cert.DnormRefIdeal.main_arg3)
abbrev rshift : Vec Ideal S1x1024 .f32 := m' ((c.tc : Thread Cert.DnormRefIdeal.nD Cert.DnormRefIdeal.τ).loc Cert.DnormRefIdeal.main_arg4)

/-- The reference's results, of its arguments. -/
theorem out0_eq : Cert.DnormRefIdeal.Value.res_out0 m' c = extractStridedSlice S4096x512 ![0, 0] (Reference.chain (both (rlow m' c) (rhigh m' c))
    (Reference.valueGrad (both (rlow m' c) (rhigh m' c)) (rgated m' c) (rscale m' c) (rshift m' c))) Cert.DnormRefIdeal.Gen.slices_S4096x1024_S4096x512_0_0 := rfl
theorem out1_eq : Cert.DnormRefIdeal.Value.res_out1 m' c = extractStridedSlice S4096x512 ![0, 512] (Reference.chain (both (rlow m' c) (rhigh m' c))
    (Reference.valueGrad (both (rlow m' c) (rhigh m' c)) (rgated m' c) (rscale m' c) (rshift m' c))) Cert.DnormRefIdeal.Gen.slices_S4096x1024_S4096x512_0_512 := rfl
theorem out2_eq : Cert.DnormRefIdeal.Value.res_out2 m' c = shapeCast S1x1024 (Host.reduceAdd (mulf (Reference.normed (both (rlow m' c) (rhigh m' c)))
    (Reference.gateGrad (rgated m' c) (Reference.output (both (rlow m' c) (rhigh m' c)) (rscale m' c) (rshift m' c)))) (Reference.number 0x00000000#32)
    Cert.DnormRefIdeal.Gen.reducesTo_S4096x1024_S1024_d0 Cert.DnormRefIdeal.Gen.h_S_) shapeCasts_S1024_S1x1024 := rfl
theorem out3_eq : Cert.DnormRefIdeal.Value.res_out3 m' c = shapeCast S1x1024 (Host.reduceAdd
    (Reference.gateGrad (rgated m' c) (Reference.output (both (rlow m' c) (rhigh m' c)) (rscale m' c) (rshift m' c))) (Reference.number 0x00000000#32)
    Cert.DnormRefIdeal.Gen.reducesTo_S4096x1024_S1024_d0 Cert.DnormRefIdeal.Gen.h_S_) shapeCasts_S1024_S1x1024 := rfl

/-- They are the kernel's, of arguments that hold the same. -/
theorem equal (p q : Vec Ideal S4096x512 .f32) (d : Vec Ideal S4096x1024 .f32) (g b : Vec Ideal S1x1024 .f32)
    (hp : rlow m' c = p) (hq : rhigh m' c = q) (hd : rgated m' c = d) (hg : rscale m' c = g) (hb : rshift m' c = b)
    (h : Cert.Pre_norm_finite.fn (F := Ideal) p q d g b = fun _ => 1#1) :
    Cert.DnormRefIdeal.Value.res_out0 m' c = lowGrad (both p q) d g b ∧ Cert.DnormRefIdeal.Value.res_out1 m' c = highGrad (both p q) d g b
      ∧ Cert.DnormRefIdeal.Value.res_out2 m' c = scaleGrad (both p q) d g b ∧ Cert.DnormRefIdeal.Value.res_out3 m' c = shiftGrad (both p q) d g b := by
  rw [out0_eq, out1_eq, out2_eq, out3_eq, hp, hq, hd, hg, hb]
  have f := finite p q d g b h
  exact ⟨Reference.low_eq _ d g b f, Reference.high_eq _ d g b f, Reference.scale_eq _ d g b f, Reference.shift_eq _ d g b f⟩

end Equal

theorem algebraic : Cert.algebraic_DnormIdeal_DnormRefIdeal_pre_norm_finite := by
  intro m g m' g' p h
  refine ⟨fun c => lowGrad (both (low m c) (high m c)) (gated m c) (scale m c) (shift m c), fun c => highGrad (both (low m c) (high m c)) (gated m c) (scale m c) (shift m c),
    fun c => scaleGrad (both (low m c) (high m c)) (gated m c) (scale m c) (shift m c), fun c => shiftGrad (both (low m c) (high m c)) (gated m c) (scale m c) (shift m c),
    (θ_run Cert.DnormIdeal.defs _ _).mono (fun _ r c => ⟨(r c).1.trans (result_low m c), (r c).2.1.trans (result_high m c), (r c).2.2.1.trans (result_scale m c),
      (r c).2.2.2.1.trans (result_shift m c), (r c).2.2.2.2⟩) (run_blocks m g),
    (θ_run Cert.DnormRefIdeal.defs _ _).mono (fun _ r c => ?_) (Cert.DnormRefIdeal.Value.run m' g')⟩
  have e := equal m' c _ _ _ _ _ (h c).1 (h c).2.1 (h c).2.2.1 (h c).2.2.2.1 (h c).2.2.2.2 (p c)
  exact ⟨(r c).1.trans e.1, (r c).2.1.trans e.2.1, (r c).2.2.1.trans e.2.2.1, (r c).2.2.2.1.trans e.2.2.2, (r c).2.2.2.2⟩

end Cert.Proof.Dnorm

end
-- ==== Proof.Dpwin.lean ====
/- The gradient of the convolution module's first weight. A tile of columns takes two points, half the rows of the two
   arguments each. -/
module

public import proofs.«01_k».proof.Defs
public import proofs.«01_k».proof.Proof.Product
public import proofs.«01_k».proof.Proof.Gen.DpwinIdeal.Value
public import proofs.«01_k».proof.Proof.Gen.DpwinRefIdeal.Run
public import Idealize.ShloMosaic.Lib.Tactic
public import Idealize.ShloMosaic.Adequacy
public import Idealize.ShloMosaic.Init

@[expose] public section

set_option maxRecDepth 16384

noncomputable section

namespace Cert.Proof.Dpwin

open Idealize.ShloMosaic Idealize.ShloMosaic.TcCoe Idealize.ShloMosaic.Tactic Idealize.SL.Sem
open Cert.DpwinIdeal Cert.DpwinIdeal.Gen Cert.DpwinIdeal.Value
open scoped BigOperators

section Points

variable (c : Dev nD) (i : grid0.Coords) (a0 : Memref sig .tc .vmem S2048x1024 .bf16) (h0 : a0.IsWhole)
  (a1 : Memref sig .tc .vmem S2048x1024 .bf16) (h1 : a1.IsWhole) (a2 : Memref sig .tc .vmem S1024x1024 .bf16) (h2 : a2.IsWhole)
  (a3 : Memref sig .tc .vmem S1024x1024 .f32) (h3 : a3.IsWhole)
  (x0 : Vec Ideal S2048x1024 .bf16) (x1 : Vec Ideal S2048x1024 .bf16) (acc : Vec Ideal S1024x1024 .f32)

theorem first (hc : cond0_0 i) (hd : ¬cond0_1 i) : sout0_A_0 c i a0 h0 a1 h1 a2 h2 a3 h3 hc hd x0 x1 = k0_pay2 k0_pay1 x0 x1 := by
  unfold sout0_A_0
  rw [View.read_writes_eq_canon _ _ _ (scover0_A_0 c i a0 h0 a1 h1 a2 h2 a3 h3 hc hd x0 x1)]
  unfold kernelRun0_A
  dsimp only
  sl_unfold_words
  rw [View.canon_cons_unit_zero (S := S1024x1024) zero2, View.readCov_unit_zero (S := S1024x1024) _ zero2]
  simp only [View.readAt_eq_ld, h0.read_unread, h1.read_unread, View.ld_unit_zero (S := S2048x1024) zero2, View.ld_unit_zero (S := S1024x1024) zero2]

/-- The second of the two points both keeps and writes out the sum. -/
theorem second (hc : ¬cond0_0 i) (hd : cond0_1 i) : sout0_B_0 c i a0 h0 a1 h1 a2 h2 a3 h3 hc hd x0 x1 acc = k0_pay2 acc x0 x1
    ∧ out0_B_2 c i a0 h0 a1 h1 a2 h2 a3 h3 hc hd x0 x1 acc = k0_pay3 (k0_pay2 acc x0 x1) := by
  refine ⟨(View.read_writes_eq_canon _ _ _ (scover0_B_0 c i a0 h0 a1 h1 a2 h2 a3 h3 hc hd x0 x1 acc)).trans ?_,
    (View.read_writes_eq_canon _ _ _ (cover0_B_2 c i a0 h0 a1 h1 a2 h2 a3 h3 hc hd x0 x1 acc)).trans ?_⟩ <;>
    unfold kernelRun0_B <;> dsimp only <;> sl_unfold_words <;> rw [View.canon_unit_zero zero2]
  · simp only [View.readAt_eq_ld, h0.read_unread, h1.read_unread, h3.read_unread, View.ld_unit_zero (S := S2048x1024) zero2, View.ld_unit_zero (S := S1024x1024) zero2]
  · rw [View.readCov_unit_zero (S := S1024x1024) _ zero2]
    simp only [View.readAt_eq_ld, h0.read_unread, h1.read_unread, h3.read_unread, View.ld_unit_zero (S := S2048x1024) zero2, View.ld_unit_zero (S := S1024x1024) zero2]

end Points

theorem product (acc : Vec Ideal S1024x1024 .f32) (x0 x1 : Vec Ideal S2048x1024 .bf16) (r s : Fin 1024) :
    k0_pay2 acc x0 x1 (ix2 r s) = acc (ix2 r s) + ∑ k : Fin 2048, x0 (ix2 k r) * x1 (ix2 k s) := by
  unfold k0_pay2
  simp only [pointwise, zero_add]

theorem zero (y : S1024x1024.Idx) : k0_pay1 (F := Ideal) y = 0 := by
  unfold k0_pay1
  simp only [pointwise]

variable (m : (ℓ : Loc nD τ sig) → Buf (Elt Ideal) ℓ)

abbrev input (c : Dev nD) : Vec Ideal S4096x1024 .bf16 := m ((c : Thread nD τ).loc main_arg0)
abbrev grad (c : Dev nD) : Vec Ideal S4096x2048 .bf16 := m ((c : Thread nD τ).loc main_arg1)

abbrev inputAt (c : Dev nD) (t : Fin cfg0.N) : Vec Ideal S2048x1024 .bf16 := iblk m c 0 t
abbrev gradAt (c : Dev nD) (t : Fin cfg0.N) : Vec Ideal S2048x1024 .bf16 := iblk m c 1 t

theorem blocks : ∀ t : Fin cfg0.N, win0_0.index t = ![t.val % 2, 0] ∧ win0_1.index t = ![t.val % 2, t.val / 2] :=
  (by decide +kernel : ∀ t : Fin grid0.N, _)

/-- The terms a point's product contributes at row `r`, column `s` of its tile, -/
def term (c : Dev nD) (r s : Fin 1024) (n : ℕ) (h : n < cfg0.N) (k : Fin 2048) : EReal :=
  inputAt m c ⟨n, h⟩ (ix2 k r) * gradAt m c ⟨n, h⟩ (ix2 k s)

/-- which are terms of the whole sum. -/
theorem term_eq (c : Dev nD) (r s : Fin 1024) (j : Fin 2048) (n : ℕ) (h : n < cfg0.N) (k : Fin 2048) (l : Fin 4096)
    (hj : j.val = n / 2 * 1024 + s.val) (hl : l.val = n % 2 * 2048 + k.val) :
    term m c r s n h k = input m c (ix2 l r) * grad m c (ix2 l j) := by
  obtain ⟨e0, e1⟩ := blocks ⟨n, h⟩
  refine congrArg₂ (· * ·) ((congrFun (V_main_arg0 m c) _).trans (at_ix2 (input m c) _ _ _ ?_ ?_)) ((congrFun (V_main_arg1 m c) _).trans (at_ix2 (grad m c) _ _ _ ?_ ?_))
  · exact (congrArg (fun q => q * 2048 + 1 * k.val) (congrFun e0 0)).trans (show n % 2 * 2048 + 1 * k.val = l.val by omega)
  · exact (congrArg (fun q => q * 1024 + 1 * r.val) (congrFun e0 1)).trans (show 0 * 1024 + 1 * r.val = r.val by omega)
  · exact (congrArg (fun q => q * 2048 + 1 * k.val) (congrFun e1 0)).trans (show n % 2 * 2048 + 1 * k.val = l.val by omega)
  · exact (congrArg (fun q => q * 1024 + 1 * s.val) (congrFun e1 1)).trans (show n / 2 * 1024 + 1 * s.val = j.val by omega)

theorem written (c : Dev nD) (r s : Fin 1024) (j : Fin 2048) (q : ℕ) (h : 2 * q + 1 < cfg0.N) (hj : j.val = q * 1024 + s.val) :
    (outsAt0 m c (2 * q + 1) h).1 (ix2 r s) = ∑ l : Fin 4096, input m c (ix2 l r) * grad m c (ix2 l j) := by
  refine Eq.trans ?_ (accumulated (J := 1) (T := 2048) rfl (fun n h => (outsAt0 m c n h).2 (ix2 r s)) (term m c r s)
    (fun n h h0 => ?_) (fun n h h0 => ?_) q h _ (fun p k hp l hl => term_eq m c r s j _ hp k l (by omega) (by omega)))
  · rw [outsAt0_B m c ⟨2 * q + 1, h⟩ (by dsimp only; omega) (by dsimp only; omega)]
    dsimp only
    rw [(second _ _ _ _ _ _ _ _ _ _ _ _ _ _ _).1, (second _ _ _ _ _ _ _ _ _ _ _ _ _ _ _).2]
    unfold k0_pay3
    simp only [pointwise]
  · rw [outsAt0_A m c ⟨n, h⟩ h0 (by dsimp only; omega)]
    dsimp only
    rw [first, product, zero, zero_add]
    rfl
  · rw [outsAt0_B m c ⟨n + 1, h⟩ h0 (by dsimp only; omega)]
    dsimp only
    rw [(second _ _ _ _ _ _ _ _ _ _ _ _ _ _ _).1, product]
    rfl

theorem result (c : Dev nD) (i : Fin 1024) (j : Fin 2048) :
    (G2 m c : Vec Ideal S1024x2048 .bf16) (ix2 i j) = ∑ l : Fin 4096, input m c (ix2 l i) * grad m c (ix2 l j) := by
  have hN : cfg0.N = 4 := N_0
  have hp : 2 * (j.val / 1024) + 1 < cfg0.N := by omega
  refine Eq.trans ?_ (written m c i ⟨j.val % 1024, Nat.mod_lt _ (by decide)⟩ j (j.val / 1024) hp (by dsimp only; omega))
  have e : pt2Of (ix2 i j) = 2 * (j.val / 1024) + 1 := by
    show 2 * (2 * (i.val / 1024 - 0) + 1 * (j.val / 1024 - 0)) + 1 = _
    omega
  unfold G2
  rw [dif_pos (by rw [e]; exact hp), outsAt0_sweep, fold0_congr m c _ _ _ (by omega) e]
  exact at_ix2 _ _ _ _ (Nat.mod_eq_of_lt i.isLt) rfl

theorem equal (x : Vec Ideal S4096x1024 .bf16) (d : Vec Ideal S4096x2048 .bf16) (c : Dev nD) (hx : x = input m c) (hd : d = grad m c) :
    (truncf (F := Ideal) .bf16 (transpose S1024x2048 [1, 0] (Host.dotGeneral Cert.DpwinRefIdeal.dot_S4096x2048_S4096x1024_S2048x1024_0_0_1_1_n_n none
      (extf .f32 d Cert.DpwinRefIdeal.Gen.bitsLt_bf16_f32) (extf .f32 x Cert.DpwinRefIdeal.Gen.bitsLt_bf16_f32)) Cert.DpwinRefIdeal.Gen.transposes_S2048x1024_S1024x2048_1_0)
      Cert.DpwinRefIdeal.Gen.bitsLt_bf16_f32) = (G2 m c : Vec Ideal S1024x2048 .bf16) := by
  subst hx hd
  refine funext fun y => (congrArg _ (eq_ix2 y)).trans (Eq.trans ?_ ((result m c (y 0) (y 1)).symm.trans (congrArg _ (eq_ix2 y).symm)))
  simp only [pointwise, zero_add]
  exact Finset.sum_congr rfl fun k _ => mul_comm _ _

theorem frame_reference : Cert.quiescent_DpwinRefIdeal := fun m ρ _ =>
  (θ_run Cert.DpwinRefIdeal.defs _ _).mono (fun r h => ⟨fun c => (h c).2, sem_eq_zero_of_no_sems (by decide) r.2⟩)
    (Cert.DpwinRefIdeal.Value.run m ρ)

theorem algebraic : Cert.algebraic_DpwinIdeal_DpwinRefIdeal := by
  intro m g m' g' _ h
  refine ⟨G2 m, run m g, (θ_run Cert.DpwinRefIdeal.defs _ _).mono (fun _ r c => ?_) (Cert.DpwinRefIdeal.Value.run m' g')⟩
  exact ⟨(r c).1.trans (equal m _ _ c (h c).1 (h c).2), (r c).2⟩

end Cert.Proof.Dpwin

end
-- ==== Proof.Dpwout.lean ====
/- The gradient of the convolution module's second weight. Each of the four points has a quarter of the rows of the two
   arguments, and the last writes the sum out. -/
module

public import proofs.«01_k».proof.Defs
public import proofs.«01_k».proof.Proof.Product
public import proofs.«01_k».proof.Proof.Gen.DpwoutIdeal.Value
public import proofs.«01_k».proof.Proof.Gen.DpwoutRefIdeal.Run
public import Idealize.ShloMosaic.Lib.Tactic
public import Idealize.ShloMosaic.Adequacy
public import Idealize.ShloMosaic.Init

@[expose] public section

set_option maxRecDepth 16384

noncomputable section

namespace Cert.Proof.Dpwout

open Idealize.ShloMosaic Idealize.ShloMosaic.TcCoe Idealize.ShloMosaic.Tactic Idealize.SL.Sem
open Cert.DpwoutIdeal Cert.DpwoutIdeal.Gen Cert.DpwoutIdeal.Value
open scoped BigOperators

section Points

variable (c : Dev nD) (i : grid0.Coords) (a0 : Memref sig .tc .vmem S1024x1024 .bf16) (h0 : a0.IsWhole)
  (a1 : Memref sig .tc .vmem S1024x1024 .bf16) (h1 : a1.IsWhole) (a2 : Memref sig .tc .vmem S1024x1024 .bf16) (h2 : a2.IsWhole)
  (a3 : Memref sig .tc .vmem S1024x1024 .f32) (h3 : a3.IsWhole)
  (x0 : Vec Ideal S1024x1024 .bf16) (x1 : Vec Ideal S1024x1024 .bf16) (acc : Vec Ideal S1024x1024 .f32)

theorem first (hc : cond0_0 i) (hd : ¬cond0_1 i) : sout0_A_0 c i a0 h0 a1 h1 a2 h2 a3 h3 hc hd x0 x1 = k0_pay2 k0_pay1 x0 x1 := by
  unfold sout0_A_0
  rw [View.read_writes_eq_canon _ _ _ (scover0_A_0 c i a0 h0 a1 h1 a2 h2 a3 h3 hc hd x0 x1)]
  unfold kernelRun0_A
  dsimp only
  sl_unfold_words
  rw [View.canon_cons_unit_zero (S := S1024x1024) zero2, View.readCov_unit_zero (S := S1024x1024) _ zero2]
  simp only [View.readAt_eq_ld, h0.read_unread, h1.read_unread, View.ld_unit_zero (S := S1024x1024) zero2]

theorem middle (hc : ¬cond0_0 i) (hd : ¬cond0_1 i) : sout0_B_0 c i a0 h0 a1 h1 a2 h2 a3 h3 hc hd x0 x1 acc = k0_pay2 acc x0 x1 := by
  unfold sout0_B_0
  rw [View.read_writes_eq_canon _ _ _ (scover0_B_0 c i a0 h0 a1 h1 a2 h2 a3 h3 hc hd x0 x1 acc)]
  unfold kernelRun0_B
  dsimp only
  rw [View.canon_unit_zero zero2]
  simp only [View.readAt_eq_ld, h0.read_unread, h1.read_unread, h3.read_unread, View.ld_unit_zero (S := S1024x1024) zero2]

theorem last (hc : ¬cond0_0 i) (hd : cond0_1 i) : sout0_C_0 c i a0 h0 a1 h1 a2 h2 a3 h3 hc hd x0 x1 acc = k0_pay2 acc x0 x1
    ∧ out0_C_2 c i a0 h0 a1 h1 a2 h2 a3 h3 hc hd x0 x1 acc = k0_pay3 (k0_pay2 acc x0 x1) := by
  refine ⟨(View.read_writes_eq_canon _ _ _ (scover0_C_0 c i a0 h0 a1 h1 a2 h2 a3 h3 hc hd x0 x1 acc)).trans ?_,
    (View.read_writes_eq_canon _ _ _ (cover0_C_2 c i a0 h0 a1 h1 a2 h2 a3 h3 hc hd x0 x1 acc)).trans ?_⟩ <;>
    unfold kernelRun0_C <;> dsimp only <;> sl_unfold_words <;> rw [View.canon_unit_zero zero2]
  · simp only [View.readAt_eq_ld, h0.read_unread, h1.read_unread, h3.read_unread, View.ld_unit_zero (S := S1024x1024) zero2]
  · rw [View.readCov_unit_zero (S := S1024x1024) _ zero2]
    simp only [View.readAt_eq_ld, h0.read_unread, h1.read_unread, h3.read_unread, View.ld_unit_zero (S := S1024x1024) zero2]

end Points

theorem product (acc : Vec Ideal S1024x1024 .f32) (x0 x1 : Vec Ideal S1024x1024 .bf16) (r s : Fin 1024) :
    k0_pay2 acc x0 x1 (ix2 r s) = acc (ix2 r s) + ∑ k : Fin 1024, x0 (ix2 k r) * x1 (ix2 k s) := by
  unfold k0_pay2
  simp only [pointwise, zero_add]

theorem zero (y : S1024x1024.Idx) : k0_pay1 (F := Ideal) y = 0 := by
  unfold k0_pay1
  simp only [pointwise]

variable (m : (ℓ : Loc nD τ sig) → Buf (Elt Ideal) ℓ)

abbrev input (c : Dev nD) : Vec Ideal S4096x1024 .bf16 := m ((c : Thread nD τ).loc main_arg0)
abbrev grad (c : Dev nD) : Vec Ideal S4096x1024 .bf16 := m ((c : Thread nD τ).loc main_arg1)
abbrev inputAt (c : Dev nD) (t : Fin cfg0.N) : Vec Ideal S1024x1024 .bf16 := iblk m c 0 t
abbrev gradAt (c : Dev nD) (t : Fin cfg0.N) : Vec Ideal S1024x1024 .bf16 := iblk m c 1 t

theorem blocks : ∀ t : Fin cfg0.N, win0_0.index t = ![t.val, 0] ∧ win0_1.index t = ![t.val, 0] :=
  (by decide +kernel : ∀ t : Fin grid0.N, _)

def term (c : Dev nD) (r s : Fin 1024) (n : ℕ) (h : n < cfg0.N) (k : Fin 1024) : EReal :=
  inputAt m c ⟨n, h⟩ (ix2 k r) * gradAt m c ⟨n, h⟩ (ix2 k s)

theorem term_eq (c : Dev nD) (r s : Fin 1024) (n : ℕ) (h : n < cfg0.N) (k : Fin 1024) (l : Fin 4096) (hl : l.val = n * 1024 + k.val) :
    term m c r s n h k = input m c (ix2 l r) * grad m c (ix2 l s) := by
  obtain ⟨e0, e1⟩ := blocks ⟨n, h⟩
  refine congrArg₂ (· * ·) ((congrFun (V_main_arg0 m c) _).trans (at_ix2 (input m c) _ _ _ ?_ ?_)) ((congrFun (V_main_arg1 m c) _).trans (at_ix2 (grad m c) _ _ _ ?_ ?_))
  · exact (congrArg (fun q => q * 1024 + 1 * k.val) (congrFun e0 0)).trans (show n * 1024 + 1 * k.val = l.val by omega)
  · exact (congrArg (fun q => q * 1024 + 1 * r.val) (congrFun e0 1)).trans (show 0 * 1024 + 1 * r.val = r.val by omega)
  · exact (congrArg (fun q => q * 1024 + 1 * k.val) (congrFun e1 0)).trans (show n * 1024 + 1 * k.val = l.val by omega)
  · exact (congrArg (fun q => q * 1024 + 1 * s.val) (congrFun e1 1)).trans (show 0 * 1024 + 1 * s.val = s.val by omega)

theorem written (c : Dev nD) (r s : Fin 1024) (q : ℕ) (h : 4 * q + 3 < cfg0.N) :
    (outsAt0 m c (4 * q + 3) h).1 (ix2 r s) = ∑ l : Fin 4096, input m c (ix2 l r) * grad m c (ix2 l s) := by
  have hN : cfg0.N = 4 := N_0
  refine Eq.trans ?_ (accumulated (J := 3) (T := 1024) rfl (fun n h => (outsAt0 m c n h).2 (ix2 r s)) (term m c r s)
    (fun n h h0 => ?_) (fun n h h0 => ?_) q h _ (fun p k hp l hl => term_eq m c r s _ hp k l (by omega)))
  · rw [outsAt0_C m c ⟨4 * q + 3, h⟩ (by dsimp only; omega) (by dsimp only; omega)]
    dsimp only
    rw [(last _ _ _ _ _ _ _ _ _ _ _ _ _ _ _).1, (last _ _ _ _ _ _ _ _ _ _ _ _ _ _ _).2]
    unfold k0_pay3
    simp only [pointwise]
  · rw [outsAt0_A m c ⟨n, h⟩ h0 (by dsimp only; omega)]
    dsimp only
    rw [first, product, zero, zero_add]
    rfl
  · by_cases h1 : (n + 1) % 4 = 3
    · rw [outsAt0_C m c ⟨n + 1, h⟩ h0 h1]
      dsimp only
      rw [(last _ _ _ _ _ _ _ _ _ _ _ _ _ _ _).1, product]
      rfl
    · rw [outsAt0_B m c ⟨n + 1, h⟩ h0 h1]
      dsimp only
      rw [middle, product]
      rfl

theorem result (c : Dev nD) (i j : Fin 1024) :
    (G2 m c : Vec Ideal S1024x1024 .bf16) (ix2 i j) = ∑ l : Fin 4096, input m c (ix2 l i) * grad m c (ix2 l j) := by
  have hp : 4 * 0 + 3 < cfg0.N := lt_of_lt_of_eq (by decide) N_0.symm
  refine Eq.trans ?_ (written m c i j 0 hp)
  have e : pt2Of (ix2 i j) = 4 * 0 + 3 := by
    show 4 * (1 * (i.val / 1024 - 0) + 1 * (j.val / 1024 - 0)) + 3 = _
    omega
  unfold G2
  rw [dif_pos (by rw [e]; exact hp), outsAt0_sweep, fold0_congr m c _ _ _ (by omega) e]
  exact at_ix2 _ _ _ _ (Nat.mod_eq_of_lt i.isLt) (Nat.mod_eq_of_lt j.isLt)

theorem equal (x d : Vec Ideal S4096x1024 .bf16) (c : Dev nD) (hx : x = input m c) (hd : d = grad m c) :
    (truncf (F := Ideal) .bf16 (transpose S1024x1024 [1, 0] (Host.dotGeneral Cert.DpwoutRefIdeal.dot_S4096x1024_S4096x1024_S1024x1024_0_0_1_1_n_n none
      (extf .f32 d Cert.DpwoutRefIdeal.Gen.bitsLt_bf16_f32) (extf .f32 x Cert.DpwoutRefIdeal.Gen.bitsLt_bf16_f32)) Cert.DpwoutRefIdeal.Gen.transposes_S1024x1024_S1024x1024_1_0)
      Cert.DpwoutRefIdeal.Gen.bitsLt_bf16_f32) = (G2 m c : Vec Ideal S1024x1024 .bf16) := by
  subst hx hd
  refine funext fun y => (congrArg _ (eq_ix2 y)).trans (Eq.trans ?_ ((result m c (y 0) (y 1)).symm.trans (congrArg _ (eq_ix2 y).symm)))
  simp only [pointwise, zero_add]
  exact Finset.sum_congr rfl fun k _ => mul_comm _ _

theorem frame_reference : Cert.quiescent_DpwoutRefIdeal := fun m ρ _ =>
  (θ_run Cert.DpwoutRefIdeal.defs _ _).mono (fun r h => ⟨fun c => (h c).2, sem_eq_zero_of_no_sems (by decide) r.2⟩)
    (Cert.DpwoutRefIdeal.Value.run m ρ)

theorem algebraic : Cert.algebraic_DpwoutIdeal_DpwoutRefIdeal := by
  intro m g m' g' _ h
  refine ⟨G2 m, run m g, (θ_run Cert.DpwoutRefIdeal.defs _ _).mono (fun _ r c => ?_) (Cert.DpwoutRefIdeal.Value.run m' g')⟩
  exact ⟨(r c).1.trans (equal m _ _ c (h c).1 (h c).2), (r c).2⟩

end Cert.Proof.Dpwout

end
-- ==== Proof.Dpwx.lean ====
/- The gradient of the convolution module's first product with respect to its input. The contracted axis, the product's
   2048 columns, is taken whole at each point. -/
module

public import proofs.«01_k».proof.Defs
public import proofs.«01_k».proof.Proof.Product
public import proofs.«01_k».proof.Proof.Gen.DpwxIdeal.Value
public import proofs.«01_k».proof.Proof.Gen.DpwxRefIdeal.Run
public import Idealize.ShloMosaic.Lib.Tactic
public import Idealize.ShloMosaic.Adequacy
public import Idealize.ShloMosaic.Init

@[expose] public section

set_option maxRecDepth 16384

noncomputable section

namespace Cert.Proof.Dpwx

open Idealize.ShloMosaic Idealize.ShloMosaic.TcCoe Idealize.ShloMosaic.Tactic Idealize.SL.Sem
open Cert.DpwxIdeal Cert.DpwxIdeal.Gen Cert.DpwxIdeal.Value
open scoped BigOperators

variable (m : (ℓ : Loc nD τ sig) → Buf (Elt Ideal) ℓ)

abbrev left (c : Dev nD) : Vec Ideal S4096x1024 .f32 :=
  rowsRows (m ((c : Thread nD τ).loc main_arg0) : Vec Ideal S4096x2048 .bf16) (m ((c : Thread nD τ).loc main_arg1) : Vec Ideal S1024x2048 .bf16)

theorem tiles : ∀ t : Fin cfg0.N, win0_2.flush t = true ∧ win0_0.index t = ![t.val, 0] ∧ win0_1.index t = ![0, 0] ∧ win0_2.index t = ![t.val, 0] :=
  (by decide +kernel : ∀ t : Fin grid0.N, _)

theorem flushed_eq (c : Dev nD) (t : Fin cfg0.N) : (dats m 0 c).flushed 2 t = ((cfg0.win 2).blk t).view.read (Elt Ideal) (left m c) := by
  obtain ⟨-, e0, e1, e2⟩ := tiles t
  rw [flushed2]
  unfold out0_2
  rw [View.canon_unit_zero zero2]
  simp only [View.ld_unit_zero (S := S1024x2048) zero2]
  funext y
  obtain ⟨r, s, rfl⟩ : ∃ (r s : Fin 1024), y = ix2 r s := ⟨y 0, y 1, eq_ix2 y⟩
  show k0_pay1 (iblk m c 0 t : Vec Ideal S1024x2048 .bf16) (iblk m c 1 t : Vec Ideal S1024x2048 .bf16) (ix2 r s) = left m c (((cfg0.win 2).blk t).view.emb (ix2 r s))
  unfold k0_pay1
  simp only [pointwise, zero_add]
  refine Finset.sum_congr rfl fun k _ => congrArg₂ (· * ·) ((congrFun (V_main_arg0 m c) _).trans (at_ix2 _ _ _ _ ?_ ?_)) ((congrFun (V_main_arg1 m c) _).trans (at_ix2 _ _ _ _ ?_ ?_))
  · show win0_0.index t (0 : Fin 2) * 1024 + 1 * r.val = win0_2.index t (0 : Fin 2) * 1024 + 1 * r.val; rw [e0, e2]
  · show win0_0.index t (1 : Fin 2) * 2048 + 1 * k.val = k.val; rw [e0]; simp
  · show win0_1.index t (0 : Fin 2) * 1024 + 1 * s.val = win0_2.index t (1 : Fin 2) * 1024 + 1 * s.val; rw [e1, e2]; rfl
  · show win0_1.index t (1 : Fin 2) * 2048 + 1 * k.val = k.val; rw [e1]; simp

theorem result (c : Dev nD) : (dats m 0 c).arrAt 2 cfg0.N = left m c :=
  (dats m 0 c).arrAt_eq_of_cover 2 _ (fun t _ => flushed_eq m c t) fun i => by
    have h0 := (show (i 0).val < 4096 from (i 0).isLt)
    have h1 := (show (i 1).val < 1024 from (i 1).isLt)
    have hN : cfg0.N = 4 := N_0
    obtain ⟨t, ht⟩ : ∃ t : Fin cfg0.N, t.val = (i 0).val / 1024 := ⟨⟨_, by omega⟩, rfl⟩
    obtain ⟨f, -, -, e⟩ := tiles t
    refine ⟨t, f, ?_⟩
    show i ∈ ((View.whole main_v0).slice (win0_2.rect t)).set
    rw [View.set_slice_whole]
    exact mem_tile _ i (s0 := 1024) (s1 := 1024) rfl rfl (by decide) (by decide) (congrArg (· * 1024) ((congrFun e 0).trans ht))
      ((congrArg (· * 1024) (congrFun e 1)).trans (show 0 * 1024 = (i 1).val / 1024 * 1024 by omega))

theorem equal (x : Vec Ideal S4096x2048 .bf16) (w : Vec Ideal S1024x2048 .bf16) :
    (Host.dotGeneral (F := Ideal) Cert.DpwxRefIdeal.dot_S4096x2048_S1024x2048_S4096x1024_1_1_0_0_n_n none
      (extf .f32 x Cert.DpwxRefIdeal.Gen.bitsLt_bf16_f32) (extf .f32 w Cert.DpwxRefIdeal.Gen.bitsLt_bf16_f32) : Vec Ideal S4096x1024 .f32) = rowsRows x w := by
  refine funext fun y => (congrArg _ (eq_ix2 y)).trans ?_
  simp only [pointwise, zero_add]
  rfl

theorem frame_reference : Cert.quiescent_DpwxRefIdeal := fun m ρ _ =>
  (θ_run Cert.DpwxRefIdeal.defs _ _).mono (fun r h => ⟨fun c => (h c).2, sem_eq_zero_of_no_sems (by decide) r.2⟩)
    (Cert.DpwxRefIdeal.Value.run m ρ)

theorem algebraic : Cert.algebraic_DpwxIdeal_DpwxRefIdeal := by
  intro m g m' g' _ h
  refine ⟨left m, (θ_run Cert.DpwxIdeal.defs _ _).mono (fun _ r c => ⟨(r c).1.trans (result m c), (r c).2⟩) (run_blocks m g),
    (θ_run Cert.DpwxRefIdeal.defs _ _).mono (fun _ r c => ⟨(r c).1.trans ((equal _ _).trans ?_), (r c).2⟩) (Cert.DpwxRefIdeal.Value.run m' g')⟩
  exact congrArg₂ rowsRows (h c).1 (h c).2

end Cert.Proof.Dpwx

end
-- ==== Proof.Dpwsl.lean ====
/- The gradient of the convolution module's second product with respect to its input: rows of the cotangent times rows of
   the weight. -/
module

public import proofs.«01_k».proof.Defs
public import proofs.«01_k».proof.Proof.Product
public import proofs.«01_k».proof.Proof.Gen.DpwslIdeal.Value
public import proofs.«01_k».proof.Proof.Gen.DpwslRefIdeal.Run
public import Idealize.ShloMosaic.Lib.Tactic
public import Idealize.ShloMosaic.Adequacy
public import Idealize.ShloMosaic.Init

@[expose] public section

set_option maxRecDepth 16384

noncomputable section

namespace Cert.Proof.Dpwsl

open Idealize.ShloMosaic Idealize.ShloMosaic.TcCoe Idealize.ShloMosaic.Tactic Idealize.SL.Sem
open Cert.DpwslIdeal Cert.DpwslIdeal.Gen Cert.DpwslIdeal.Value
open scoped BigOperators

variable (m : (ℓ : Loc nD τ sig) → Buf (Elt Ideal) ℓ)

abbrev left (c : Dev nD) : Vec Ideal S4096x1024 .f32 :=
  rowsRows (m ((c : Thread nD τ).loc main_arg0) : Vec Ideal S4096x1024 .bf16) (m ((c : Thread nD τ).loc main_arg1) : Vec Ideal S1024x1024 .bf16)

theorem tiles : ∀ t : Fin cfg0.N, win0_2.flush t = true ∧ win0_0.index t = ![t.val, 0] ∧ win0_1.index t = ![0, 0] ∧ win0_2.index t = ![t.val, 0] :=
  (by decide +kernel : ∀ t : Fin grid0.N, _)

theorem flushed_eq (c : Dev nD) (t : Fin cfg0.N) : (dats m 0 c).flushed 2 t = ((cfg0.win 2).blk t).view.read (Elt Ideal) (left m c) := by
  obtain ⟨-, e0, e1, e2⟩ := tiles t
  rw [flushed2]
  unfold out0_2
  rw [View.canon_unit_zero zero2]
  simp only [View.ld_unit_zero (S := S1024x1024) zero2]
  funext y
  obtain ⟨r, s, rfl⟩ : ∃ (r s : Fin 1024), y = ix2 r s := ⟨y 0, y 1, eq_ix2 y⟩
  show k0_pay1 (iblk m c 0 t : Vec Ideal S1024x1024 .bf16) (iblk m c 1 t : Vec Ideal S1024x1024 .bf16) (ix2 r s) = left m c (((cfg0.win 2).blk t).view.emb (ix2 r s))
  unfold k0_pay1
  simp only [pointwise, zero_add]
  refine Finset.sum_congr rfl fun k _ => congrArg₂ (· * ·) ((congrFun (V_main_arg0 m c) _).trans (at_ix2 _ _ _ _ ?_ ?_)) ((congrFun (V_main_arg1 m c) _).trans (at_ix2 _ _ _ _ ?_ ?_))
  · show win0_0.index t (0 : Fin 2) * 1024 + 1 * r.val = win0_2.index t (0 : Fin 2) * 1024 + 1 * r.val; rw [e0, e2]
  · show win0_0.index t (1 : Fin 2) * 1024 + 1 * k.val = k.val; rw [e0]; simp
  · show win0_1.index t (0 : Fin 2) * 1024 + 1 * s.val = win0_2.index t (1 : Fin 2) * 1024 + 1 * s.val; rw [e1, e2]; rfl
  · show win0_1.index t (1 : Fin 2) * 1024 + 1 * k.val = k.val; rw [e1]; simp

theorem result (c : Dev nD) : (dats m 0 c).arrAt 2 cfg0.N = left m c :=
  (dats m 0 c).arrAt_eq_of_cover 2 _ (fun t _ => flushed_eq m c t) fun i => by
    have h0 := (show (i 0).val < 4096 from (i 0).isLt)
    have h1 := (show (i 1).val < 1024 from (i 1).isLt)
    have hN : cfg0.N = 4 := N_0
    obtain ⟨t, ht⟩ : ∃ t : Fin cfg0.N, t.val = (i 0).val / 1024 := ⟨⟨_, by omega⟩, rfl⟩
    obtain ⟨f, -, -, e⟩ := tiles t
    refine ⟨t, f, ?_⟩
    show i ∈ ((View.whole main_v0).slice (win0_2.rect t)).set
    rw [View.set_slice_whole]
    exact mem_tile _ i (s0 := 1024) (s1 := 1024) rfl rfl (by decide) (by decide) (congrArg (· * 1024) ((congrFun e 0).trans ht))
      ((congrArg (· * 1024) (congrFun e 1)).trans (show 0 * 1024 = (i 1).val / 1024 * 1024 by omega))

theorem equal (x : Vec Ideal S4096x1024 .bf16) (w : Vec Ideal S1024x1024 .bf16) :
    (Host.dotGeneral (F := Ideal) Cert.DpwslRefIdeal.dot_S4096x1024_S1024x1024_S4096x1024_1_1_0_0_n_n none
      (extf .f32 x Cert.DpwslRefIdeal.Gen.bitsLt_bf16_f32) (extf .f32 w Cert.DpwslRefIdeal.Gen.bitsLt_bf16_f32) : Vec Ideal S4096x1024 .f32) = rowsRows x w := by
  refine funext fun y => (congrArg _ (eq_ix2 y)).trans ?_
  simp only [pointwise, zero_add]
  rfl

theorem frame_reference : Cert.quiescent_DpwslRefIdeal := fun m ρ _ =>
  (θ_run Cert.DpwslRefIdeal.defs _ _).mono (fun r h => ⟨fun c => (h c).2, sem_eq_zero_of_no_sems (by decide) r.2⟩)
    (Cert.DpwslRefIdeal.Value.run m ρ)

theorem algebraic : Cert.algebraic_DpwslIdeal_DpwslRefIdeal := by
  intro m g m' g' _ h
  refine ⟨left m, (θ_run Cert.DpwslIdeal.defs _ _).mono (fun _ r c => ⟨(r c).1.trans (result m c), (r c).2⟩) (run_blocks m g),
    (θ_run Cert.DpwslRefIdeal.defs _ _).mono (fun _ r c => ⟨(r c).1.trans ((equal _ _).trans ?_), (r c).2⟩) (Cert.DpwslRefIdeal.Value.run m' g')⟩
  exact congrArg₂ rowsRows (h c).1 (h c).2

end Cert.Proof.Dpwsl

end
-- ==== Proof.Dmixw.lean ====
/- The gradient of the state-space layer's output weight. A tile of its rows takes two points, half the rows of the two
   arguments each. -/
module

public import proofs.«01_k».proof.Defs
public import proofs.«01_k».proof.Proof.Product
public import proofs.«01_k».proof.Proof.Gen.DmixwIdeal.Value
public import proofs.«01_k».proof.Proof.Gen.DmixwRefIdeal.Run
public import Idealize.ShloMosaic.Lib.Tactic
public import Idealize.ShloMosaic.Adequacy
public import Idealize.ShloMosaic.Init

@[expose] public section

set_option maxRecDepth 16384

noncomputable section

namespace Cert.Proof.Dmixw

open Idealize.ShloMosaic Idealize.ShloMosaic.TcCoe Idealize.ShloMosaic.Tactic Idealize.SL.Sem
open Cert.DmixwIdeal Cert.DmixwIdeal.Gen Cert.DmixwIdeal.Value
open scoped BigOperators

section Points

variable (c : Dev nD) (i : grid0.Coords) (a0 : Memref sig .tc .vmem S2048x1024 .bf16) (h0 : a0.IsWhole)
  (a1 : Memref sig .tc .vmem S2048x1024 .bf16) (h1 : a1.IsWhole) (a2 : Memref sig .tc .vmem S1024x1024 .bf16) (h2 : a2.IsWhole)
  (a3 : Memref sig .tc .vmem S1024x1024 .f32) (h3 : a3.IsWhole)
  (x0 : Vec Ideal S2048x1024 .bf16) (x1 : Vec Ideal S2048x1024 .bf16) (acc : Vec Ideal S1024x1024 .f32)

theorem first (hc : cond0_0 i) (hd : ¬cond0_1 i) : sout0_A_0 c i a0 h0 a1 h1 a2 h2 a3 h3 hc hd x0 x1 = k0_pay2 k0_pay1 x0 x1 := by
  unfold sout0_A_0
  rw [View.read_writes_eq_canon _ _ _ (scover0_A_0 c i a0 h0 a1 h1 a2 h2 a3 h3 hc hd x0 x1)]
  unfold kernelRun0_A
  dsimp only
  sl_unfold_words
  rw [View.canon_cons_unit_zero (S := S1024x1024) zero2, View.readCov_unit_zero (S := S1024x1024) _ zero2]
  simp only [View.readAt_eq_ld, h0.read_unread, h1.read_unread, View.ld_unit_zero (S := S2048x1024) zero2, View.ld_unit_zero (S := S1024x1024) zero2]

theorem second (hc : ¬cond0_0 i) (hd : cond0_1 i) : sout0_B_0 c i a0 h0 a1 h1 a2 h2 a3 h3 hc hd x0 x1 acc = k0_pay2 acc x0 x1
    ∧ out0_B_2 c i a0 h0 a1 h1 a2 h2 a3 h3 hc hd x0 x1 acc = k0_pay3 (k0_pay2 acc x0 x1) := by
  refine ⟨(View.read_writes_eq_canon _ _ _ (scover0_B_0 c i a0 h0 a1 h1 a2 h2 a3 h3 hc hd x0 x1 acc)).trans ?_,
    (View.read_writes_eq_canon _ _ _ (cover0_B_2 c i a0 h0 a1 h1 a2 h2 a3 h3 hc hd x0 x1 acc)).trans ?_⟩ <;>
    unfold kernelRun0_B <;> dsimp only <;> sl_unfold_words <;> rw [View.canon_unit_zero zero2]
  · simp only [View.readAt_eq_ld, h0.read_unread, h1.read_unread, h3.read_unread, View.ld_unit_zero (S := S2048x1024) zero2, View.ld_unit_zero (S := S1024x1024) zero2]
  · rw [View.readCov_unit_zero (S := S1024x1024) _ zero2]
    simp only [View.readAt_eq_ld, h0.read_unread, h1.read_unread, h3.read_unread, View.ld_unit_zero (S := S2048x1024) zero2, View.ld_unit_zero (S := S1024x1024) zero2]

end Points

theorem product (acc : Vec Ideal S1024x1024 .f32) (x0 x1 : Vec Ideal S2048x1024 .bf16) (r s : Fin 1024) :
    k0_pay2 acc x0 x1 (ix2 r s) = acc (ix2 r s) + ∑ k : Fin 2048, x0 (ix2 k r) * x1 (ix2 k s) := by
  unfold k0_pay2
  simp only [pointwise, zero_add]

theorem zero (y : S1024x1024.Idx) : k0_pay1 (F := Ideal) y = 0 := by
  unfold k0_pay1
  simp only [pointwise]

variable (m : (ℓ : Loc nD τ sig) → Buf (Elt Ideal) ℓ)

abbrev gated (c : Dev nD) : Vec Ideal S4096x2048 .bf16 := m ((c : Thread nD τ).loc main_arg0)
abbrev grad (c : Dev nD) : Vec Ideal S4096x1024 .bf16 := m ((c : Thread nD τ).loc main_arg1)
abbrev gatedAt (c : Dev nD) (t : Fin cfg0.N) : Vec Ideal S2048x1024 .bf16 := iblk m c 0 t
abbrev gradAt (c : Dev nD) (t : Fin cfg0.N) : Vec Ideal S2048x1024 .bf16 := iblk m c 1 t

theorem blocks : ∀ t : Fin cfg0.N, win0_0.index t = ![t.val % 2, t.val / 2] ∧ win0_1.index t = ![t.val % 2, 0] :=
  (by decide +kernel : ∀ t : Fin grid0.N, _)

/-- The terms a point's product contributes at row `r`, column `s` of its tile, -/
def term (c : Dev nD) (r s : Fin 1024) (n : ℕ) (h : n < cfg0.N) (k : Fin 2048) : EReal :=
  gatedAt m c ⟨n, h⟩ (ix2 k r) * gradAt m c ⟨n, h⟩ (ix2 k s)

/-- which are terms of the whole sum. -/
theorem term_eq (c : Dev nD) (i : Fin 2048) (r s : Fin 1024) (n : ℕ) (h : n < cfg0.N) (k : Fin 2048) (l : Fin 4096)
    (hi : i.val = n / 2 * 1024 + r.val) (hl : l.val = n % 2 * 2048 + k.val) :
    term m c r s n h k = gated m c (ix2 l i) * grad m c (ix2 l s) := by
  obtain ⟨e0, e1⟩ := blocks ⟨n, h⟩
  refine congrArg₂ (· * ·) ((congrFun (V_main_arg0 m c) _).trans (at_ix2 (gated m c) _ _ _ ?_ ?_)) ((congrFun (V_main_arg1 m c) _).trans (at_ix2 (grad m c) _ _ _ ?_ ?_))
  · exact (congrArg (fun q => q * 2048 + 1 * k.val) (congrFun e0 0)).trans (show n % 2 * 2048 + 1 * k.val = l.val by omega)
  · exact (congrArg (fun q => q * 1024 + 1 * r.val) (congrFun e0 1)).trans (show n / 2 * 1024 + 1 * r.val = i.val by omega)
  · exact (congrArg (fun q => q * 2048 + 1 * k.val) (congrFun e1 0)).trans (show n % 2 * 2048 + 1 * k.val = l.val by omega)
  · exact (congrArg (fun q => q * 1024 + 1 * s.val) (congrFun e1 1)).trans (show 0 * 1024 + 1 * s.val = s.val by omega)

theorem written (c : Dev nD) (i : Fin 2048) (r s : Fin 1024) (q : ℕ) (h : 2 * q + 1 < cfg0.N) (hi : i.val = q * 1024 + r.val) :
    (outsAt0 m c (2 * q + 1) h).1 (ix2 r s) = ∑ l : Fin 4096, gated m c (ix2 l i) * grad m c (ix2 l s) := by
  refine Eq.trans ?_ (accumulated (J := 1) (T := 2048) rfl (fun n h => (outsAt0 m c n h).2 (ix2 r s)) (term m c r s)
    (fun n h h0 => ?_) (fun n h h0 => ?_) q h _ (fun p k hp l hl => term_eq m c i r s _ hp k l (by omega) (by omega)))
  · rw [outsAt0_B m c ⟨2 * q + 1, h⟩ (by dsimp only; omega) (by dsimp only; omega)]
    dsimp only
    rw [(second _ _ _ _ _ _ _ _ _ _ _ _ _ _ _).1, (second _ _ _ _ _ _ _ _ _ _ _ _ _ _ _).2]
    unfold k0_pay3
    simp only [pointwise]
  · rw [outsAt0_A m c ⟨n, h⟩ h0 (by dsimp only; omega)]
    dsimp only
    rw [first, product, zero, zero_add]
    rfl
  · rw [outsAt0_B m c ⟨n + 1, h⟩ h0 (by dsimp only; omega)]
    dsimp only
    rw [(second _ _ _ _ _ _ _ _ _ _ _ _ _ _ _).1, product]
    rfl

theorem result (c : Dev nD) (i : Fin 2048) (j : Fin 1024) :
    (G2 m c : Vec Ideal S2048x1024 .bf16) (ix2 i j) = ∑ l : Fin 4096, gated m c (ix2 l i) * grad m c (ix2 l j) := by
  have hN : cfg0.N = 4 := N_0
  have hp : 2 * (i.val / 1024) + 1 < cfg0.N := by omega
  refine Eq.trans ?_ (written m c i ⟨i.val % 1024, Nat.mod_lt _ (by decide)⟩ j (i.val / 1024) hp (by dsimp only; omega))
  have e : pt2Of (ix2 i j) = 2 * (i.val / 1024) + 1 := by
    show 2 * (1 * (i.val / 1024 - 0) + 1 * (j.val / 1024 - 0)) + 1 = _
    omega
  unfold G2
  rw [dif_pos (by rw [e]; exact hp), outsAt0_sweep, fold0_congr m c _ _ _ (by omega) e]
  exact at_ix2 _ _ _ _ rfl (Nat.mod_eq_of_lt j.isLt)

theorem equal (x : Vec Ideal S4096x2048 .bf16) (d : Vec Ideal S4096x1024 .bf16) (c : Dev nD) (hx : x = gated m c) (hd : d = grad m c) :
    (truncf (F := Ideal) .bf16 (transpose S2048x1024 [1, 0] (Host.dotGeneral Cert.DmixwRefIdeal.dot_S4096x1024_S4096x2048_S1024x2048_0_0_1_1_n_n none
      (extf .f32 d Cert.DmixwRefIdeal.Gen.bitsLt_bf16_f32) (extf .f32 x Cert.DmixwRefIdeal.Gen.bitsLt_bf16_f32)) Cert.DmixwRefIdeal.Gen.transposes_S1024x2048_S2048x1024_1_0)
      Cert.DmixwRefIdeal.Gen.bitsLt_bf16_f32) = (G2 m c : Vec Ideal S2048x1024 .bf16) := by
  subst hx hd
  refine funext fun y => (congrArg _ (eq_ix2 y)).trans (Eq.trans ?_ ((result m c (y 0) (y 1)).symm.trans (congrArg _ (eq_ix2 y).symm)))
  simp only [pointwise, zero_add]
  exact Finset.sum_congr rfl fun k _ => mul_comm _ _

theorem frame_reference : Cert.quiescent_DmixwRefIdeal := fun m ρ _ =>
  (θ_run Cert.DmixwRefIdeal.defs _ _).mono (fun r h => ⟨fun c => (h c).2, sem_eq_zero_of_no_sems (by decide) r.2⟩)
    (Cert.DmixwRefIdeal.Value.run m ρ)

theorem algebraic : Cert.algebraic_DmixwIdeal_DmixwRefIdeal := by
  intro m g m' g' _ h
  refine ⟨G2 m, run m g, (θ_run Cert.DmixwRefIdeal.defs _ _).mono (fun _ r c => ?_) (Cert.DmixwRefIdeal.Value.run m' g')⟩
  exact ⟨(r c).1.trans (equal m _ _ c (h c).1 (h c).2), (r c).2⟩

end Cert.Proof.Dmixw

end
-- ==== Proof.Dmixy.lean ====
/- The gradient of the state-space layer's output product with respect to its input. A point's tile is a quarter of the rows
   and a half of the columns. -/
module

public import proofs.«01_k».proof.Defs
public import proofs.«01_k».proof.Proof.Product
public import proofs.«01_k».proof.Proof.Gen.DmixyIdeal.Value
public import proofs.«01_k».proof.Proof.Gen.DmixyRefIdeal.Run
public import Idealize.ShloMosaic.Lib.Tactic
public import Idealize.ShloMosaic.Adequacy
public import Idealize.ShloMosaic.Init

@[expose] public section

set_option maxRecDepth 16384

noncomputable section

namespace Cert.Proof.Dmixy

open Idealize.ShloMosaic Idealize.ShloMosaic.TcCoe Idealize.ShloMosaic.Tactic Idealize.SL.Sem
open Cert.DmixyIdeal Cert.DmixyIdeal.Gen Cert.DmixyIdeal.Value
open scoped BigOperators

variable (m : (ℓ : Loc nD τ sig) → Buf (Elt Ideal) ℓ)

abbrev left (c : Dev nD) : Vec Ideal S4096x2048 .f32 :=
  rowsRows (m ((c : Thread nD τ).loc main_arg0) : Vec Ideal S4096x1024 .bf16) (m ((c : Thread nD τ).loc main_arg1) : Vec Ideal S2048x1024 .bf16)

theorem tiles : ∀ t : Fin cfg0.N, win0_2.flush t = true ∧ win0_0.index t = ![t.val / 2, 0] ∧ win0_1.index t = ![t.val % 2, 0]
    ∧ win0_2.index t = ![t.val / 2, t.val % 2] :=
  (by decide +kernel : ∀ t : Fin grid0.N, _)

theorem flushed_eq (c : Dev nD) (t : Fin cfg0.N) : (dats m 0 c).flushed 2 t = ((cfg0.win 2).blk t).view.read (Elt Ideal) (left m c) := by
  obtain ⟨-, e0, e1, e2⟩ := tiles t
  rw [flushed2]
  unfold out0_2
  rw [View.canon_unit_zero zero2]
  simp only [View.ld_unit_zero (S := S1024x1024) zero2]
  funext y
  obtain ⟨r, s, rfl⟩ : ∃ (r s : Fin 1024), y = ix2 r s := ⟨y 0, y 1, eq_ix2 y⟩
  show k0_pay1 (iblk m c 0 t : Vec Ideal S1024x1024 .bf16) (iblk m c 1 t : Vec Ideal S1024x1024 .bf16) (ix2 r s) = left m c (((cfg0.win 2).blk t).view.emb (ix2 r s))
  unfold k0_pay1
  simp only [pointwise, zero_add]
  refine Finset.sum_congr rfl fun k _ => congrArg₂ (· * ·) ((congrFun (V_main_arg0 m c) _).trans (at_ix2 _ _ _ _ ?_ ?_)) ((congrFun (V_main_arg1 m c) _).trans (at_ix2 _ _ _ _ ?_ ?_))
  · show win0_0.index t (0 : Fin 2) * 1024 + 1 * r.val = win0_2.index t (0 : Fin 2) * 1024 + 1 * r.val; rw [e0, e2]; rfl
  · show win0_0.index t (1 : Fin 2) * 1024 + 1 * k.val = k.val; rw [e0]; simp
  · show win0_1.index t (0 : Fin 2) * 1024 + 1 * s.val = win0_2.index t (1 : Fin 2) * 1024 + 1 * s.val; rw [e1, e2]; rfl
  · show win0_1.index t (1 : Fin 2) * 1024 + 1 * k.val = k.val; rw [e1]; simp

theorem result (c : Dev nD) : (dats m 0 c).arrAt 2 cfg0.N = left m c :=
  (dats m 0 c).arrAt_eq_of_cover 2 _ (fun t _ => flushed_eq m c t) fun i => by
    have h0 := (show (i 0).val < 4096 from (i 0).isLt)
    have h1 := (show (i 1).val < 2048 from (i 1).isLt)
    have hN : cfg0.N = 8 := N_0
    obtain ⟨t, ht⟩ : ∃ t : Fin cfg0.N, t.val = 2 * ((i 0).val / 1024) + (i 1).val / 1024 := ⟨⟨_, by omega⟩, rfl⟩
    obtain ⟨f, -, -, e⟩ := tiles t
    refine ⟨t, f, ?_⟩
    show i ∈ ((View.whole main_v0).slice (win0_2.rect t)).set
    rw [View.set_slice_whole]
    exact mem_tile _ i (s0 := 1024) (s1 := 1024) rfl rfl (by decide) (by decide)
      (congrArg (· * 1024) ((congrFun e 0).trans (show t.val / 2 = (i 0).val / 1024 by omega)))
      (congrArg (· * 1024) ((congrFun e 1).trans (show t.val % 2 = (i 1).val / 1024 by omega)))

theorem equal (x : Vec Ideal S4096x1024 .bf16) (w : Vec Ideal S2048x1024 .bf16) :
    (Host.dotGeneral (F := Ideal) Cert.DmixyRefIdeal.dot_S4096x1024_S2048x1024_S4096x2048_1_1_0_0_n_n none
      (extf .f32 x Cert.DmixyRefIdeal.Gen.bitsLt_bf16_f32) (extf .f32 w Cert.DmixyRefIdeal.Gen.bitsLt_bf16_f32) : Vec Ideal S4096x2048 .f32) = rowsRows x w := by
  refine funext fun y => (congrArg _ (eq_ix2 y)).trans ?_
  simp only [pointwise, zero_add]
  rfl

theorem frame_reference : Cert.quiescent_DmixyRefIdeal := fun m ρ _ =>
  (θ_run Cert.DmixyRefIdeal.defs _ _).mono (fun r h => ⟨fun c => (h c).2, sem_eq_zero_of_no_sems (by decide) r.2⟩)
    (Cert.DmixyRefIdeal.Value.run m ρ)

theorem algebraic : Cert.algebraic_DmixyIdeal_DmixyRefIdeal := by
  intro m g m' g' _ h
  refine ⟨left m, (θ_run Cert.DmixyIdeal.defs _ _).mono (fun _ r c => ⟨(r c).1.trans (result m c), (r c).2⟩) (run_blocks m g),
    (θ_run Cert.DmixyRefIdeal.defs _ _).mono (fun _ r c => ⟨(r c).1.trans ((equal _ _).trans ?_), (r c).2⟩) (Cert.DmixyRefIdeal.Value.run m' g')⟩
  exact congrArg₂ rowsRows (h c).1 (h c).2

end Cert.Proof.Dmixy

end
-- ==== Proof.Pwin.lean ====
/- The convolution module's first product, with its bias. A point takes a tile of rows times the whole weight. -/
module

public import proofs.«01_k».proof.Defs
public import proofs.«01_k».proof.Proof.Product
public import proofs.«01_k».proof.Proof.Gen.PwinIdeal.Value
public import proofs.«01_k».proof.Proof.Gen.PwinRefIdeal.Run
public import Idealize.ShloMosaic.Lib.Tactic
public import Idealize.ShloMosaic.Adequacy
public import Idealize.ShloMosaic.Init

@[expose] public section

set_option maxRecDepth 16384

noncomputable section

namespace Cert.Proof.Pwin

open Idealize.ShloMosaic Idealize.ShloMosaic.TcCoe Idealize.ShloMosaic.Tactic Idealize.SL.Sem
open Cert.PwinIdeal Cert.PwinIdeal.Gen Cert.PwinIdeal.Value
open scoped BigOperators

variable (m : (ℓ : Loc nD τ sig) → Buf (Elt Ideal) ℓ)

abbrev input (c : Dev nD) : Vec Ideal S4096x1024 .bf16 := m ((c : Thread nD τ).loc main_arg0)
abbrev weights (c : Dev nD) : Vec Ideal S1024x2048 .bf16 := m ((c : Thread nD τ).loc main_arg1)
abbrev bias (c : Dev nD) : Vec Ideal S1x2048 .f32 := m ((c : Thread nD τ).loc main_arg2)

theorem tiles : ∀ t : Fin cfg0.N, win0_3.flush t = true ∧ win0_0.index t = ![t.val, 0] ∧ win0_1.index t = ![0, 0] ∧ win0_2.index t = ![0, 0]
    ∧ win0_3.index t = ![t.val, 0] :=
  (by decide +kernel : ∀ t : Fin grid0.N, _)

theorem flushed_eq (c : Dev nD) (t : Fin cfg0.N) :
    (dats m 0 c).flushed 3 t = ((cfg0.win 3).blk t).view.read (Elt Ideal) (plusRow (rowsCols (input m c) (weights m c)) (bias m c)) := by
  obtain ⟨-, e0, e1, e2, e3⟩ := tiles t
  rw [flushed3]
  unfold out0_3
  rw [View.canon_unit_zero zero2]
  simp only [View.ld_unit_zero (S := S1024x1024) zero2, View.ld_unit_zero (S := S1024x2048) zero2, View.ld_unit_zero (S := S1x2048) zero2]
  funext y
  obtain ⟨r, s, rfl⟩ : ∃ (r : Fin 1024) (s : Fin 2048), y = ix2 r s := ⟨y 0, y 1, eq_ix2 y⟩
  show k0_pay1 (iblk m c 0 t : Vec Ideal S1024x1024 .bf16) (iblk m c 1 t : Vec Ideal S1024x2048 .bf16) (iblk m c 2 t : Vec Ideal S1x2048 .f32) (ix2 r s)
    = plusRow (rowsCols (input m c) (weights m c)) (bias m c) (((cfg0.win 3).blk t).view.emb (ix2 r s))
  unfold k0_pay1
  simp only [pointwise, zero_add]
  refine congrArg₂ (· + ·) (Finset.sum_congr rfl fun k _ => congrArg₂ (· * ·) ((congrFun (V_main_arg0 m c) _).trans (at_ix2 (input m c) _ _ _ ?_ ?_))
    ((congrFun (V_main_arg1 m c) _).trans (at_ix2 (weights m c) _ _ _ ?_ ?_))) ((congrFun (V_main_arg2 m c) _).trans (at_ix2 (bias m c) _ _ _ ?_ ?_))
  · show win0_0.index t (0 : Fin 2) * 1024 + 1 * r.val = win0_3.index t (0 : Fin 2) * 1024 + 1 * r.val; rw [e0, e3]
  · show win0_0.index t (1 : Fin 2) * 1024 + 1 * k.val = k.val; rw [e0]; simp
  · show win0_1.index t (0 : Fin 2) * 1024 + 1 * k.val = k.val; rw [e1]; simp
  · show win0_1.index t (1 : Fin 2) * 2048 + 1 * s.val = win0_3.index t (1 : Fin 2) * 2048 + 1 * s.val; rw [e1, e3]; rfl
  · show win0_2.index t (0 : Fin 2) * 1 + 1 * 0 = 0; rw [e2]; rfl
  · show win0_2.index t (1 : Fin 2) * 2048 + 1 * s.val = win0_3.index t (1 : Fin 2) * 2048 + 1 * s.val; rw [e2, e3]; rfl

theorem result (c : Dev nD) : (dats m 0 c).arrAt 3 cfg0.N = plusRow (rowsCols (input m c) (weights m c)) (bias m c) :=
  (dats m 0 c).arrAt_eq_of_cover 3 _ (fun t _ => flushed_eq m c t) fun i => by
    have h0 := (show (i 0).val < 4096 from (i 0).isLt)
    have h1 := (show (i 1).val < 2048 from (i 1).isLt)
    have hN : cfg0.N = 4 := N_0
    obtain ⟨t, ht⟩ : ∃ t : Fin cfg0.N, t.val = (i 0).val / 1024 := ⟨⟨_, by omega⟩, rfl⟩
    obtain ⟨f, -, -, -, e⟩ := tiles t
    refine ⟨t, f, ?_⟩
    show i ∈ ((View.whole main_v0).slice (win0_3.rect t)).set
    rw [View.set_slice_whole]
    exact mem_tile _ i (s0 := 1024) (s1 := 2048) rfl rfl (by decide) (by decide) (congrArg (· * 1024) ((congrFun e 0).trans ht))
      ((congrArg (· * 2048) (congrFun e 1)).trans (show 0 * 2048 = (i 1).val / 2048 * 2048 by omega))

theorem equal (x : Vec Ideal S4096x1024 .bf16) (w : Vec Ideal S1024x2048 .bf16) (b : Vec Ideal S1x2048 .f32) :
    (truncf (F := Ideal) .bf16 (addf (Host.dotGeneral Cert.PwinRefIdeal.dot_S4096x1024_S1024x2048_S4096x2048_1_0_0_1_n_n none
      (extf .f32 x Cert.PwinRefIdeal.Gen.bitsLt_bf16_f32) (extf .f32 w Cert.PwinRefIdeal.Gen.bitsLt_bf16_f32))
      (broadcastInDim Cert.PwinRefIdeal.S4096x2048 ![0, 1] Cert.PwinRefIdeal.Gen.bcast_S1x2048_S4096x2048_0_1 b)) Cert.PwinRefIdeal.Gen.bitsLt_bf16_f32)
      = plusRow (rowsCols x w) b := by
  refine funext fun y => (congrArg _ (eq_ix2 y)).trans ?_
  simp only [pointwise, zero_add]
  rfl

theorem frame_reference : Cert.quiescent_PwinRefIdeal := fun m ρ _ =>
  (θ_run Cert.PwinRefIdeal.defs _ _).mono (fun r h => ⟨fun c => (h c).2, sem_eq_zero_of_no_sems (by decide) r.2⟩)
    (Cert.PwinRefIdeal.Value.run m ρ)

theorem algebraic : Cert.algebraic_PwinIdeal_PwinRefIdeal := by
  intro m g m' g' _ h
  refine ⟨fun c => plusRow (rowsCols (input m c) (weights m c)) (bias m c),
    (θ_run Cert.PwinIdeal.defs _ _).mono (fun _ r c => ⟨(r c).1.trans (result m c), (r c).2⟩) (run_blocks m g),
    (θ_run Cert.PwinRefIdeal.defs _ _).mono (fun _ r c => ⟨(r c).1.trans ?_, (r c).2⟩) (Cert.PwinRefIdeal.Value.run m' g')⟩
  exact (equal _ _ _).trans (congrArg₂ plusRow (congrArg₂ rowsCols (h c).1 (h c).2.1) (h c).2.2)

end Cert.Proof.Pwin

end
-- ==== Proof.Pwout.lean ====
/- The convolution module's second product, with its bias. -/
module

public import proofs.«01_k».proof.Defs
public import proofs.«01_k».proof.Proof.Product
public import proofs.«01_k».proof.Proof.Gen.PwoutIdeal.Value
public import proofs.«01_k».proof.Proof.Gen.PwoutRefIdeal.Run
public import Idealize.ShloMosaic.Lib.Tactic
public import Idealize.ShloMosaic.Adequacy
public import Idealize.ShloMosaic.Init

@[expose] public section

set_option maxRecDepth 16384

noncomputable section

namespace Cert.Proof.Pwout

open Idealize.ShloMosaic Idealize.ShloMosaic.TcCoe Idealize.ShloMosaic.Tactic Idealize.SL.Sem
open Cert.PwoutIdeal Cert.PwoutIdeal.Gen Cert.PwoutIdeal.Value
open scoped BigOperators

variable (m : (ℓ : Loc nD τ sig) → Buf (Elt Ideal) ℓ)

/-- What the call leaves. -/
def out (x : Vec Ideal S4096x1024 .bf16) (w : Vec Ideal S1024x1024 .bf16) (b : Vec Ideal S1x1024 .f32) : Vec Ideal S4096x1024 .f32 :=
  plusRow (rowsCols x w) b

abbrev left (c : Dev nD) : Vec Ideal S4096x1024 .f32 :=
  out (m ((c : Thread nD τ).loc main_arg0)) (m ((c : Thread nD τ).loc main_arg1)) (m ((c : Thread nD τ).loc main_arg2))

/-- A point has a tile of rows, the whole weight and the whole bias. -/
theorem tiles : ∀ t : Fin cfg0.N, win0_3.flush t = true ∧ win0_0.index t = ![t.val, 0] ∧ win0_1.index t = ![0, 0] ∧ win0_2.index t = ![0, 0]
    ∧ win0_3.index t = ![t.val, 0] :=
  (by decide +kernel : ∀ t : Fin grid0.N, _)

theorem flushed_eq (c : Dev nD) (t : Fin cfg0.N) : (dats m 0 c).flushed 3 t = ((cfg0.win 3).blk t).view.read (Elt Ideal) (left m c) := by
  obtain ⟨-, e0, e1, e2, e3⟩ := tiles t
  rw [flushed3]
  unfold out0_3
  rw [View.canon_unit_zero zero2]
  simp only [View.ld_unit_zero (S := S1024x1024) zero2, View.ld_unit_zero (S := S1x1024) zero2]
  funext y
  obtain ⟨r, s, rfl⟩ : ∃ (r s : Fin 1024), y = ix2 r s := ⟨y 0, y 1, eq_ix2 y⟩
  show k0_pay1 (iblk m c 0 t : Vec Ideal S1024x1024 .bf16) (iblk m c 1 t : Vec Ideal S1024x1024 .bf16) (iblk m c 2 t : Vec Ideal S1x1024 .f32) (ix2 r s)
    = left m c (((cfg0.win 3).blk t).view.emb (ix2 r s))
  unfold k0_pay1
  simp only [pointwise, zero_add]
  refine congrArg₂ (· + ·) (Finset.sum_congr rfl fun k _ => congrArg₂ (· * ·) ((congrFun (V_main_arg0 m c) _).trans (at_ix2 _ _ _ _ ?_ ?_))
    ((congrFun (V_main_arg1 m c) _).trans (at_ix2 _ _ _ _ ?_ ?_))) ((congrFun (V_main_arg2 m c) _).trans (at_ix2 _ _ _ _ ?_ ?_))
  · show win0_0.index t (0 : Fin 2) * 1024 + 1 * r.val = win0_3.index t (0 : Fin 2) * 1024 + 1 * r.val; rw [e0, e3]
  · show win0_0.index t (1 : Fin 2) * 1024 + 1 * k.val = k.val; rw [e0]; simp
  · show win0_1.index t (0 : Fin 2) * 1024 + 1 * k.val = k.val; rw [e1]; simp
  · show win0_1.index t (1 : Fin 2) * 1024 + 1 * s.val = win0_3.index t (1 : Fin 2) * 1024 + 1 * s.val; rw [e1, e3]; rfl
  · show win0_2.index t (0 : Fin 2) * 1 + 1 * 0 = 0; rw [e2]; rfl
  · show win0_2.index t (1 : Fin 2) * 1024 + 1 * s.val = win0_3.index t (1 : Fin 2) * 1024 + 1 * s.val; rw [e2, e3]; rfl

theorem result (c : Dev nD) : (dats m 0 c).arrAt 3 cfg0.N = left m c :=
  (dats m 0 c).arrAt_eq_of_cover 3 _ (fun t _ => flushed_eq m c t) fun i => by
    have h0 := (show (i 0).val < 4096 from (i 0).isLt)
    have h1 := (show (i 1).val < 1024 from (i 1).isLt)
    have hN : cfg0.N = 4 := N_0
    obtain ⟨t, ht⟩ : ∃ t : Fin cfg0.N, t.val = (i 0).val / 1024 := ⟨⟨_, by omega⟩, rfl⟩
    obtain ⟨f, -, -, -, e⟩ := tiles t
    refine ⟨t, f, ?_⟩
    show i ∈ ((View.whole main_v0).slice (win0_3.rect t)).set
    rw [View.set_slice_whole]
    exact mem_tile _ i (s0 := 1024) (s1 := 1024) rfl rfl (by decide) (by decide) (congrArg (· * 1024) ((congrFun e 0).trans ht))
      ((congrArg (· * 1024) (congrFun e 1)).trans (show 0 * 1024 = (i 1).val / 1024 * 1024 by omega))

theorem equal (x : Vec Ideal S4096x1024 .bf16) (w : Vec Ideal S1024x1024 .bf16) (b : Vec Ideal S1x1024 .f32) :
    (addf (F := Ideal) (Host.dotGeneral Cert.PwoutRefIdeal.dot_S4096x1024_S1024x1024_S4096x1024_1_0_0_1_n_n none
      (extf .f32 x Cert.PwoutRefIdeal.Gen.bitsLt_bf16_f32) (extf .f32 w Cert.PwoutRefIdeal.Gen.bitsLt_bf16_f32))
      (broadcastInDim Cert.PwoutRefIdeal.S4096x1024 ![0, 1] Cert.PwoutRefIdeal.Gen.bcast_S1x1024_S4096x1024_0_1 b)) = out x w b := by
  refine funext fun y => (congrArg _ (eq_ix2 y)).trans ?_
  simp only [pointwise, zero_add]
  rfl

theorem frame_reference : Cert.quiescent_PwoutRefIdeal := fun m ρ _ =>
  (θ_run Cert.PwoutRefIdeal.defs _ _).mono (fun r h => ⟨fun c => (h c).2, sem_eq_zero_of_no_sems (by decide) r.2⟩)
    (Cert.PwoutRefIdeal.Value.run m ρ)

theorem algebraic : Cert.algebraic_PwoutIdeal_PwoutRefIdeal := by
  intro m g m' g' _ h
  refine ⟨left m, (θ_run Cert.PwoutIdeal.defs _ _).mono (fun _ r c => ⟨(r c).1.trans (result m c), (r c).2⟩) (run_blocks m g),
    (θ_run Cert.PwoutRefIdeal.defs _ _).mono (fun _ r c => ⟨(r c).1.trans ((equal _ _ _).trans ?_), (r c).2⟩) (Cert.PwoutRefIdeal.Value.run m' g')⟩
  rw [(h c).1, (h c).2.1, (h c).2.2]

end Cert.Proof.Pwout

end
-- ==== Proof.Mix.lean ====
/- The state-space layer's output product. A point takes a tile of rows times the whole weight. -/
module

public import proofs.«01_k».proof.Defs
public import proofs.«01_k».proof.Proof.Product
public import proofs.«01_k».proof.Proof.Gen.MixIdeal.Value
public import proofs.«01_k».proof.Proof.Gen.MixRefIdeal.Run
public import Idealize.ShloMosaic.Lib.Tactic
public import Idealize.ShloMosaic.Adequacy
public import Idealize.ShloMosaic.Init

@[expose] public section

set_option maxRecDepth 16384

noncomputable section

namespace Cert.Proof.Mix

open Idealize.ShloMosaic Idealize.ShloMosaic.TcCoe Idealize.ShloMosaic.Tactic Idealize.SL.Sem
open Cert.MixIdeal Cert.MixIdeal.Gen Cert.MixIdeal.Value
open scoped BigOperators

variable (m : (ℓ : Loc nD τ sig) → Buf (Elt Ideal) ℓ)

abbrev input (c : Dev nD) : Vec Ideal S4096x2048 .bf16 := m ((c : Thread nD τ).loc main_arg0)
abbrev weights (c : Dev nD) : Vec Ideal S2048x1024 .bf16 := m ((c : Thread nD τ).loc main_arg1)

theorem tiles : ∀ t : Fin cfg0.N, win0_2.flush t = true ∧ win0_0.index t = ![t.val, 0] ∧ win0_1.index t = ![0, 0] ∧ win0_2.index t = ![t.val, 0] :=
  (by decide +kernel : ∀ t : Fin grid0.N, _)

theorem flushed_eq (c : Dev nD) (t : Fin cfg0.N) :
    (dats m 0 c).flushed 2 t = ((cfg0.win 2).blk t).view.read (Elt Ideal) (rowsCols (input m c) (weights m c)) := by
  obtain ⟨-, e0, e1, e2⟩ := tiles t
  rw [flushed2]
  unfold out0_2
  rw [View.canon_unit_zero zero2]
  simp only [View.ld_unit_zero (S := S1024x2048) zero2, View.ld_unit_zero (S := S2048x1024) zero2]
  funext y
  obtain ⟨r, s, rfl⟩ : ∃ (r s : Fin 1024), y = ix2 r s := ⟨y 0, y 1, eq_ix2 y⟩
  show k0_pay1 (iblk m c 0 t : Vec Ideal S1024x2048 .bf16) (iblk m c 1 t : Vec Ideal S2048x1024 .bf16) (ix2 r s) = rowsCols (input m c) (weights m c) (((cfg0.win 2).blk t).view.emb (ix2 r s))
  unfold k0_pay1
  simp only [pointwise, zero_add]
  refine Finset.sum_congr rfl fun k _ => congrArg₂ (· * ·) ((congrFun (V_main_arg0 m c) _).trans (at_ix2 (input m c) _ _ _ ?_ ?_)) ((congrFun (V_main_arg1 m c) _).trans (at_ix2 (weights m c) _ _ _ ?_ ?_))
  · show win0_0.index t (0 : Fin 2) * 1024 + 1 * r.val = win0_2.index t (0 : Fin 2) * 1024 + 1 * r.val; rw [e0, e2]
  · show win0_0.index t (1 : Fin 2) * 2048 + 1 * k.val = k.val; rw [e0]; simp
  · show win0_1.index t (0 : Fin 2) * 2048 + 1 * k.val = k.val; rw [e1]; simp
  · show win0_1.index t (1 : Fin 2) * 1024 + 1 * s.val = win0_2.index t (1 : Fin 2) * 1024 + 1 * s.val; rw [e1, e2]; rfl

theorem result (c : Dev nD) : (dats m 0 c).arrAt 2 cfg0.N = rowsCols (input m c) (weights m c) :=
  (dats m 0 c).arrAt_eq_of_cover 2 _ (fun t _ => flushed_eq m c t) fun i => by
    have h0 := (show (i 0).val < 4096 from (i 0).isLt)
    have h1 := (show (i 1).val < 1024 from (i 1).isLt)
    have hN : cfg0.N = 4 := N_0
    obtain ⟨t, ht⟩ : ∃ t : Fin cfg0.N, t.val = (i 0).val / 1024 := ⟨⟨_, by omega⟩, rfl⟩
    obtain ⟨f, -, -, e⟩ := tiles t
    refine ⟨t, f, ?_⟩
    show i ∈ ((View.whole main_v0).slice (win0_2.rect t)).set
    rw [View.set_slice_whole]
    exact mem_tile _ i (s0 := 1024) (s1 := 1024) rfl rfl (by decide) (by decide) (congrArg (· * 1024) ((congrFun e 0).trans ht))
      ((congrArg (· * 1024) (congrFun e 1)).trans (show 0 * 1024 = (i 1).val / 1024 * 1024 by omega))

theorem equal (x : Vec Ideal S4096x2048 .bf16) (w : Vec Ideal S2048x1024 .bf16) :
    (Host.dotGeneral (F := Ideal) Cert.MixRefIdeal.dot_S4096x2048_S2048x1024_S4096x1024_1_0_0_1_n_n none
      (extf .f32 x Cert.MixRefIdeal.Gen.bitsLt_bf16_f32) (extf .f32 w Cert.MixRefIdeal.Gen.bitsLt_bf16_f32) : Vec Ideal S4096x1024 .f32) = rowsCols x w := by
  refine funext fun y => (congrArg _ (eq_ix2 y)).trans ?_
  simp only [pointwise, zero_add]
  rfl

theorem frame_reference : Cert.quiescent_MixRefIdeal := fun m ρ _ =>
  (θ_run Cert.MixRefIdeal.defs _ _).mono (fun r h => ⟨fun c => (h c).2, sem_eq_zero_of_no_sems (by decide) r.2⟩)
    (Cert.MixRefIdeal.Value.run m ρ)

theorem algebraic : Cert.algebraic_MixIdeal_MixRefIdeal := by
  intro m g m' g' _ h
  refine ⟨fun c => rowsCols (input m c) (weights m c), (θ_run Cert.MixIdeal.defs _ _).mono (fun _ r c => ⟨(r c).1.trans (result m c), (r c).2⟩) (run_blocks m g),
    (θ_run Cert.MixRefIdeal.defs _ _).mono (fun _ r c => ⟨(r c).1.trans ?_, (r c).2⟩) (Cert.MixRefIdeal.Value.run m' g')⟩
  exact (equal _ _).trans (congrArg₂ rowsCols (h c).1 (h c).2)

end Cert.Proof.Mix

end
-- ==== Proof.Rms.lean ====
/- The gradient of a row's root-mean-square norm, at any width: in closed form, and through the mean of the squares.  They
   agree on every extended real: a row of real numbers has a positive mean square, and both are then multiples of one sum by
   real numbers; a row with an infinity in it has an infinite mean square, and both are zero.

   The width enters as the number `w` that the means divide by. -/
module

public import proofs.«01_k».proof.Defs
public import proofs.«01_k».proof.Proof.Norm
public import Idealize.ShloMosaic.Lib.IdealHost
public import Idealize.ShloMosaic.Init

@[expose] public section

noncomputable section

namespace Cert.Proof.Rms

open Idealize.ShloMosaic
open scoped BigOperators

variable {n : ℕ} (w : EReal) (x e : Fin n → EReal)

/-- The mean of the squares, kept off zero, -/
def spread : EReal := Ideal.div (∑ k, x k * x k) w + Ideal.ofBits .f32 0x358637BD#32

/-- and what the norm multiplies the row by. -/
def inv : EReal := Ideal.rsqrt (spread w x)

/-- The gradient in closed form, of `e` that the normed row receives, -/
def back (k : Fin n) : EReal :=
  inv w x * e k - x k * inv w x * (inv w x * inv w x) * Ideal.div (∑ j, e j * x j) w

/-- and what each square receives, through the mean. -/
def square : EReal := Ideal.div ((∑ j, x j * e j) * (Ideal.ofBits .f32 0xBF000000#32 * Ideal.div (inv w x) (spread w x))) w

/-- Twice a real multiple. -/
theorem double (s : EReal) (a : ℝ) : s * a + s * a = s * ((a + a : ℝ) : EReal) := by
  have d : ∀ b : ℝ, (0 < b + b ↔ 0 < b) ∧ (b + b < 0 ↔ b < 0) := fun b => ⟨by constructor <;> intro h <;> linarith, by constructor <;> intro h <;> linarith⟩
  induction s with
  | coe r => simp only [← EReal.coe_mul, ← EReal.coe_add, mul_add]
  | top =>
    rcases lt_trichotomy a 0 with h | h | h
    · rw [EReal.top_mul_coe_of_neg h, EReal.top_mul_coe_of_neg ((d a).2.mpr h)]; rfl
    · rw [h]; simp
    · rw [EReal.top_mul_coe_of_pos h, EReal.top_mul_coe_of_pos ((d a).1.mpr h)]; rfl
  | bot =>
    rcases lt_trichotomy a 0 with h | h | h
    · rw [EReal.bot_mul_coe_of_neg h, EReal.bot_mul_coe_of_neg ((d a).2.mpr h)]; rfl
    · rw [h]; simp
    · rw [EReal.bot_mul_coe_of_pos h, EReal.bot_mul_coe_of_pos ((d a).1.mpr h)]; rfl

/-- A row of real numbers has a real, positive mean square. -/
theorem inv_real (b : ℝ) (hb : 0 < b) (hw : w = b) (f : Fin n → ℝ) :
    ∃ r v : ℝ, inv w (fun k => (f k : EReal)) = r ∧ spread w (fun k => (f k : EReal)) = v ∧ v ≠ 0 ∧ r / v = r * r * r := by
  obtain ⟨s, hs, es⟩ := Norm.bits_small
  have ev : spread w (fun k => (f k : EReal)) = (((∑ k, f k * f k) * (1 / b) + s : ℝ) : EReal) := by
    unfold spread
    simp only [← EReal.coe_mul]
    rw [Norm.coe_sum, hw, Ideal.div_coe hb.ne', es, ← EReal.coe_mul, ← EReal.coe_add]
  have pv : 0 < (∑ k, f k * f k) * (1 / b) + s := by
    have : 0 ≤ ∑ k, f k * f k := Finset.sum_nonneg fun k _ => mul_self_nonneg _
    positivity
  generalize (∑ k, f k * f k) * (1 / b) + s = v at ev pv
  refine ⟨(√v)⁻¹, v, ?_, ev, pv.ne', ?_⟩
  · unfold inv
    rw [ev, Ideal.rsqrt_coe, if_neg pv.le.not_gt, if_neg pv.ne']
  · have : √v * √v = v := Real.mul_self_sqrt pv.le
    have h : √v ≠ 0 := (Real.sqrt_pos.mpr pv).ne'
    field_simp
    rw [pow_two, this]

/-- A row with an infinity in it has an infinite one. -/
theorem spread_top (b : ℝ) (hb : 0 < b) (hw : w = b) (k : Fin n) (h : x k = ⊥ ∨ x k = ⊤) : spread w x = ⊤ := by
  obtain ⟨s, hs, es⟩ := Norm.bits_small
  have nonneg : ∀ j, x j * x j ≠ ⊥ := fun j => by
    generalize x j = a
    induction a with
    | bot => exact top_ne_bot
    | top => exact top_ne_bot
    | coe r => rw [← EReal.coe_mul]; exact EReal.coe_ne_bot _
  unfold spread
  rw [Norm.sum_top _ k (by rcases h with h | h <;> rw [h] <;> rfl) nonneg, hw, Ideal.div_coe hb.ne', EReal.top_mul_coe_of_pos (by positivity), es]
  rfl

theorem inv_top (h : spread w x = ⊤) : inv w x = 0 := by unfold inv; rw [h, Ideal.rsqrt_top]

/-- So the gradient of such a row is zero, -/
theorem back_top (b : ℝ) (hb : 0 < b) (hw : w = b) (k : Fin n) (h : x k = ⊥ ∨ x k = ⊤) (j : Fin n) : back w x e j = 0 := by
  unfold back
  rw [inv_top w x (spread_top w x b hb hw k h)]
  simp only [zero_mul, mul_zero, sub_zero]

/-- and every row's is real where what it receives is. -/
theorem back_real (b : ℝ) (hb : 0 < b) (hw : w = b) (he : ∀ k, ∃ r : ℝ, e k = r) (j : Fin n) : ∃ r : ℝ, back w x e j = r := by
  by_cases hx : ∃ k, x k = ⊥ ∨ x k = ⊤
  · obtain ⟨k, h⟩ := hx
    exact ⟨0, back_top w x e b hb hw k h j⟩
  · have hf : ∀ k, ∃ r : ℝ, x k = r := fun k => by
      have h := fun a => hx ⟨k, a⟩
      generalize x k = a at h
      induction a with
      | bot => exact absurd (.inl rfl) h
      | top => exact absurd (.inr rfl) h
      | coe r => exact ⟨r, rfl⟩
    choose f hf using hf
    choose g hg using he
    obtain ⟨r, v, er, -⟩ := inv_real w b hb hw f
    rw [← show x = fun k => (f k : EReal) from funext hf] at er
    refine ⟨r * g j - f j * r * (r * r) * ((∑ k, g k * f k) * (1 / b)), ?_⟩
    unfold back
    simp only [er, hf, hg, ← EReal.coe_mul]
    rw [Norm.coe_sum, hw, Ideal.div_coe hb.ne']
    simp only [← EReal.coe_mul, ← EReal.coe_sub]

/-- The two gradients agree, added to any other. -/
theorem back_eq (b : ℝ) (hb : 0 < b) (hw : w = b) (d : EReal) (k : Fin n) :
    back w x e k + d = d + e k * inv w x + x k * square w x e + square w x e * x k := by
  have hs : ∑ j, e j * x j = ∑ j, x j * e j := Finset.sum_congr rfl fun j _ => mul_comm _ _
  by_cases hx : ∀ k, ∃ r : ℝ, x k = r
  · choose f hf using hx
    obtain ⟨r, v, er, ev, hv, hr⟩ := inv_real w b hb hw f
    rw [← show x = fun k => (f k : EReal) from funext hf] at er ev
    unfold back square
    rw [hs, er, ev, hf k, hw, Norm.bits_half, Ideal.div_coe hb.ne', Ideal.div_coe hv, Ideal.div_coe hb.ne']
    generalize ∑ j, x j * e j = S
    rw [show (f k : EReal) * r * (r * r) * (S * ((1 / b : ℝ) : EReal)) = S * ((f k * r * (r * r) * (1 / b) : ℝ) : EReal) by
        simp only [EReal.coe_mul]; ac_rfl,
      show (f k : EReal) * (S * (((-(1 / 2) : ℝ) : EReal) * (r * ((1 / v : ℝ) : EReal))) * ((1 / b : ℝ) : EReal))
        = S * ((f k * (-(1 / 2) * (r * (1 / v))) * (1 / b) : ℝ) : EReal) by simp only [EReal.coe_mul]; ac_rfl,
      show S * (((-(1 / 2) : ℝ) : EReal) * (r * ((1 / v : ℝ) : EReal))) * ((1 / b : ℝ) : EReal) * (f k : EReal)
        = S * ((f k * (-(1 / 2) * (r * (1 / v))) * (1 / b) : ℝ) : EReal) by simp only [EReal.coe_mul]; ac_rfl,
      add_assoc, double, sub_eq_add_neg, ← mul_neg, ← EReal.coe_neg,
      show -(f k * r * (r * r) * (1 / b)) = f k * (-(1 / 2) * (r * (1 / v))) * (1 / b) + f k * (-(1 / 2) * (r * (1 / v))) * (1 / b) by
        rw [mul_one_div r v, hr]; ring]
    ac_rfl
  · push Not at hx
    obtain ⟨j, hj⟩ := hx
    have hv : spread w x = ⊤ := spread_top w x b hb hw j <| by
      generalize x j = a at hj
      induction a with
      | bot => exact .inl rfl
      | top => exact .inr rfl
      | coe r => exact absurd rfl (hj r)
    have hi : inv w x = 0 := inv_top w x hv
    have h0 : Ideal.div (0 : EReal) ⊤ = 0 := by unfold Ideal.div; rw [if_neg EReal.top_ne_zero, zero_mul]
    have hq : square w x e = 0 := by
      unfold square
      rw [hi, hv, h0, mul_zero, mul_zero, hw, Ideal.div_coe hb.ne', zero_mul]
    unfold back
    rw [hi, hq]
    simp only [zero_mul, mul_zero, sub_zero, add_zero, zero_add]

end Cert.Proof.Rms

end
-- ==== Proof.Drms.lean ====
/- The gradient of a block's root-mean-square norm, of its modulation, and of the branch added before it. Each point writes the
   gradients of its rows, of the norm's input and of the branch, and adds its rows' sums to the gradients of the modulation, of
   the norm's scale, and of the branch's gate and bias, which the last point writes out.

   The modulation and the scale have two rows, for two kinds of rows of the input; this call has rows of the second kind
   alone, and leaves zeros in the first row of their gradients.  The kernel's gradient is in closed form and the reference's
   goes through the mean of the squares (`Rms`). -/
module

public import proofs.«01_k».proof.Defs
public import proofs.«01_k».proof.Proof.Product
public import proofs.«01_k».proof.Proof.Columns
public import proofs.«01_k».proof.Proof.Rms
public import proofs.«01_k».proof.Proof.Gen.DrmsIdeal.Value
public import proofs.«01_k».proof.Proof.Gen.DrmsRefIdeal.Run
public import Idealize.ShloMosaic.Lib.Tactic
public import Idealize.ShloMosaic.Lib.IdealHost
public import Idealize.ShloMosaic.Lib.KernelVsHost
public import Idealize.ShloMosaic.Adequacy
public import Idealize.ShloMosaic.Init

@[expose] public section

set_option maxRecDepth 16384

noncomputable section

namespace Cert.Proof.Drms

open Idealize.ShloMosaic Idealize.ShloMosaic.TcCoe Idealize.ShloMosaic.Tactic Idealize.SL.Sem
open Cert.DrmsIdeal Cert.DrmsIdeal.Gen Cert.DrmsIdeal.Value
open scoped BigOperators

/-- Row `r` of an array. -/
abbrev row {n : ℕ} (x : (⟨2, ![n, 1024]⟩ : Shape).Idx → EReal) (r : Fin n) : Fin 1024 → EReal := fun k => x (ix2 r k)

/-- The row's width, as both programs write it. -/
abbrev width : EReal := Ideal.ofBits .f32 0x44800000#32

/-- What the normed row receives, of the gradient `d` of the modulated one, the scale `g` and the modulation `s`, -/
def carried (d g s : Fin 1024 → EReal) (k : Fin 1024) : EReal := d k * (1 + s k) * g k

/-- the gradient of the row `x`, of which `e` goes around the norm, -/
def rowGrad (x d e g s : Fin 1024 → EReal) (k : Fin 1024) : EReal := Rms.back width x (carried d g s) k + e k

/-- and a row of zeros over another. -/
def under (a : Fin 2) (v : EReal) : EReal := if a.val = 0 then 0 else v

theorem under_sum {n : ℕ} (a : Fin 2) (f : Fin n → EReal) : under a (∑ r, f r) = ∑ r, under a (f r) := by
  unfold under
  split <;> simp

/-- Every row is of the second kind. -/
abbrev kind (i : grid0.Coords) : BitVec 1 := Scalar.cmpi .slt (BitVec.ofNat 32 (i 0).val) 0#32
theorem kind_eq (i : grid0.Coords) : kind i = 0#1 := (by decide +kernel : ∀ k : Fin 16, Scalar.cmpi .slt (BitVec.ofNat 32 k.val) 0#32 = 0#1) (i 0)

section Payload

variable (i : grid0.Coords) (x d e y : Vec Ideal S256x1024 .f32) (g a : Vec Ideal S1x1024 .f32) (s : Vec Ideal S2x1024 .f32)

/-- The gradient of the norm's input, that a point computes. -/
abbrev grads : FVec Ideal S256x1024 .f32 := k0_pay9 e (kind i) (k0_pay6 i x d g s) (k0_pay7 x) (k0_pay8 i x d g s)

theorem inv_at (r : Fin 256) (z : Fin 1) : k0_pay2 x (ix2 r z) = Rms.inv width (row x r) := by
  unfold k0_pay2 Rms.inv Rms.spread row
  simp only [pointwise, zero_add]

theorem normed_at (r : Fin 256) (k : Fin 1024) : k0_pay3 x (ix2 r k) = x (ix2 r k) * Rms.inv width (row x r) := by
  rw [← inv_at x r 0]
  unfold k0_pay3
  generalize k0_pay2 x = v
  simp only [pointwise]
  rfl

theorem modulated_at (r : Fin 256) (k : Fin 1024) : k0_pay4 i d s (ix2 r k) = d (ix2 r k) * (1 + s (ix2 1 k)) := by
  have e := kind_eq i
  rw [← second_row s slices_S2x1024_o1_0_S1x1024 0 k]
  unfold k0_pay4
  dsimp only
  rw [show Scalar.cmpi .slt (BitVec.ofNat 32 (i 0).val) 0#32 = 0#1 from e, ValueIdx.select_zero]
  generalize extractStridedSlice S1x1024 ![1, 0] s slices_S2x1024_o1_0_S1x1024 = v
  simp only [pointwise, Ideal.ofBits_one_f32]
  rfl

theorem carried_at (r : Fin 256) (k : Fin 1024) : k0_pay5 i d g s (ix2 r k) = carried (row d r) (row g 0) (row s 1) k := by
  unfold carried row
  rw [← modulated_at i d s]
  unfold k0_pay5
  generalize k0_pay4 i d s = v
  simp only [pointwise]
  rfl

theorem grads_at (r : Fin 256) (k : Fin 1024) : grads i x d e g s (ix2 r k) = rowGrad (row x r) (row d r) (row e r) (row g 0) (row s 1) k := by
  have h := carried_at i d g s r
  unfold rowGrad Rms.back
  rw [← inv_at x r 0]
  simp only [← h]
  unfold grads k0_pay9 k0_pay6 k0_pay7 k0_pay8 k0_pay3
  rw [kind_eq i]
  generalize k0_pay2 x = v
  generalize k0_pay5 i d g s = u
  simp only [pointwise, zero_add]
  rfl

/-- A row that a point writes under a row of zeros. -/
theorem zeros_over (v : FVec Ideal S1x1024 .f32) (b : Fin 2) (k : Fin 1024) :
    concatenate S2x1024 0 [⟨S1x1024, Scalar.select 0#1 v (broadcast S1x1024 (Scalar.ofBits (F := Ideal) .f32 0x00000000#32))⟩,
      ⟨S1x1024, Scalar.select 0#1 (broadcast S1x1024 (Scalar.ofBits (F := Ideal) .f32 0x00000000#32)) v⟩] concatenates_S1x1024_S1x1024_S2x1024_d0 (ix2 b k)
      = under b (v (ix2 0 k)) := by
  refine (stacked _ _ _ b k).trans ?_
  unfold under
  rw [ValueIdx.select_zero, ValueIdx.select_zero]
  simp only [pointwise]

/-- The columns' sums: the gradients of the modulation, -/
theorem shift_at (b : Fin 2) (k : Fin 1024) : k0_pay10 d (kind i) (ix2 b k) = ∑ r : Fin 256, under b (d (ix2 r k)) := by
  rw [kind_eq i, ← under_sum]
  unfold k0_pay10
  refine (zeros_over _ b k).trans (congrArg (under b) ?_)
  simp only [pointwise, zero_add]

theorem stretch_at (b : Fin 2) (k : Fin 1024) :
    k0_pay11 d g (kind i) (k0_pay3 x) (ix2 b k) = ∑ r : Fin 256, under b (d (ix2 r k) * (x (ix2 r k) * Rms.inv width (row x r)) * g (ix2 0 k)) := by
  simp only [kind_eq i, ← under_sum, ← normed_at x]
  unfold k0_pay11
  generalize k0_pay3 x = v
  refine (zeros_over _ b k).trans (congrArg (under b) ?_)
  simp only [pointwise, zero_add]
  rfl

/-- of the scale, -/
theorem scale_at (b : Fin 2) (k : Fin 1024) :
    k0_pay12 (kind i) (k0_pay3 x) (k0_pay4 i d s) (ix2 b k) = ∑ r : Fin 256, under b (d (ix2 r k) * (1 + s (ix2 1 k)) * (x (ix2 r k) * Rms.inv width (row x r))) := by
  simp only [← under_sum, ← normed_at x, ← modulated_at i d s]
  rw [kind_eq i]
  unfold k0_pay12
  generalize k0_pay3 x = v
  generalize k0_pay4 i d s = u
  refine (zeros_over _ b k).trans (congrArg (under b) ?_)
  simp only [pointwise, zero_add]

/-- of the branch's gate, -/
theorem gate_at (k : Fin 1024) :
    k0_pay14 e y (kind i) (k0_pay6 i x d g s) (k0_pay7 x) (k0_pay8 i x d g s) (ix2 (0 : Fin 1) k)
      = ∑ r : Fin 256, rowGrad (row x r) (row d r) (row e r) (row g 0) (row s 1) k * y (ix2 r k) := by
  simp only [← grads_at i x d e g s]
  unfold k0_pay14 grads
  generalize k0_pay9 e (kind i) (k0_pay6 i x d g s) (k0_pay7 x) (k0_pay8 i x d g s) = v
  simp only [pointwise, zero_add]

/-- of the branch, -/
theorem branch_at (r : Fin 256) (k : Fin 1024) :
    k0_pay13 e a (kind i) (k0_pay6 i x d g s) (k0_pay7 x) (k0_pay8 i x d g s) (ix2 r k)
      = rowGrad (row x r) (row d r) (row e r) (row g 0) (row s 1) k * a (ix2 0 k) := by
  rw [← grads_at i x d e g s]
  unfold k0_pay13 grads
  generalize k0_pay9 e (kind i) (k0_pay6 i x d g s) (k0_pay7 x) (k0_pay8 i x d g s) = v
  simp only [pointwise]
  rfl

/-- and of its bias. -/
theorem bias_at (k : Fin 1024) :
    k0_pay15 e a (kind i) (k0_pay6 i x d g s) (k0_pay7 x) (k0_pay8 i x d g s) (ix2 (0 : Fin 1) k)
      = ∑ r : Fin 256, rowGrad (row x r) (row d r) (row e r) (row g 0) (row s 1) k * a (ix2 0 k) := by
  simp only [← branch_at i x d e g a s]
  unfold k0_pay15
  generalize k0_pay13 e a (kind i) (k0_pay6 i x d g s) (k0_pay7 x) (k0_pay8 i x d g s) = v
  simp only [pointwise, zero_add]

end Payload

variable (m : (ℓ : Loc nD τ sig) → Buf (Elt Ideal) ℓ)

section Points
variable (c : Dev nD) (t : Fin cfg0.N)

/-- What a point reads. -/
abbrev xAt : Vec Ideal S256x1024 .f32 := iblk m c 0 t
abbrev dAt : Vec Ideal S256x1024 .f32 := iblk m c 1 t
abbrev eAt : Vec Ideal S256x1024 .f32 := iblk m c 2 t
abbrev yAt : Vec Ideal S256x1024 .f32 := iblk m c 3 t
abbrev gAt : Vec Ideal S1x1024 .f32 := iblk m c 4 t
abbrev sAt : Vec Ideal S2x1024 .f32 := iblk m c 5 t
abbrev aAt : Vec Ideal S1x1024 .f32 := iblk m c 6 t

/-- What it computes, -/
abbrev gradsAt : FVec Ideal S256x1024 .f32 := grads (grid0.coords t) (xAt m c t) (dAt m c t) (eAt m c t) (gAt m c t) (sAt m c t)
abbrev branchAt : FVec Ideal S256x1024 .f32 :=
  k0_pay13 (eAt m c t) (aAt m c t) (kind (grid0.coords t)) (k0_pay6 (grid0.coords t) (xAt m c t) (dAt m c t) (gAt m c t) (sAt m c t)) (k0_pay7 (xAt m c t))
    (k0_pay8 (grid0.coords t) (xAt m c t) (dAt m c t) (gAt m c t) (sAt m c t))

/-- and its columns' sums. -/
abbrev shiftAt : FVec Ideal S2x1024 .f32 := k0_pay10 (dAt m c t) (kind (grid0.coords t))
abbrev stretchAt : FVec Ideal S2x1024 .f32 := k0_pay11 (dAt m c t) (gAt m c t) (kind (grid0.coords t)) (k0_pay3 (xAt m c t))
abbrev scaleAt : FVec Ideal S2x1024 .f32 := k0_pay12 (kind (grid0.coords t)) (k0_pay3 (xAt m c t)) (k0_pay4 (grid0.coords t) (dAt m c t) (sAt m c t))
abbrev gateAt : FVec Ideal S1x1024 .f32 :=
  k0_pay14 (eAt m c t) (yAt m c t) (kind (grid0.coords t)) (k0_pay6 (grid0.coords t) (xAt m c t) (dAt m c t) (gAt m c t) (sAt m c t)) (k0_pay7 (xAt m c t))
    (k0_pay8 (grid0.coords t) (xAt m c t) (dAt m c t) (gAt m c t) (sAt m c t))
abbrev biasAt : FVec Ideal S1x1024 .f32 :=
  k0_pay15 (eAt m c t) (aAt m c t) (kind (grid0.coords t)) (k0_pay6 (grid0.coords t) (xAt m c t) (dAt m c t) (gAt m c t) (sAt m c t)) (k0_pay7 (xAt m c t))
    (k0_pay8 (grid0.coords t) (xAt m c t) (dAt m c t) (gAt m c t) (sAt m c t))

/-- The first point writes the gradients of its rows, and starts the sums; -/
theorem first (h : t.val = 0) : outsAt0 m c t.val t.isLt
    = (gradsAt m c t, branchAt m c t, shiftAt m c t, stretchAt m c t, scaleAt m c t, gateAt m c t, biasAt m c t) := by
  rw [outsAt0_A m c t (by omega) (by omega) (by omega) (by omega) (by omega) (by omega) (by omega) (by omega) (by omega) (by omega)]
  refine congrArg₂ Prod.mk ((View.read_writes_eq_canon _ _ _ fun _ => cover0_A_7 ..).trans ?_)
    (congrArg₂ Prod.mk ((View.read_writes_eq_canon _ _ _ fun _ => cover0_A_8 ..).trans ?_)
    (congrArg₂ Prod.mk ((View.read_writes_eq_canon _ _ _ fun _ => cover0_A_9 ..).trans ?_)
    (congrArg₂ Prod.mk ((View.read_writes_eq_canon _ _ _ fun _ => cover0_A_10 ..).trans ?_)
    (congrArg₂ Prod.mk ((View.read_writes_eq_canon _ _ _ fun _ => cover0_A_11 ..).trans ?_)
    (congrArg₂ Prod.mk ((View.read_writes_eq_canon _ _ _ fun _ => cover0_A_12 ..).trans ?_)
      ((View.read_writes_eq_canon _ _ _ fun _ => cover0_A_13 ..).trans ?_)))))) <;>
  · unfold kernelRun0_A
    dsimp only
    sl_unfold_words
    rw [View.canon_unit_zero zero2]
    simp only [View.readAt_eq_ld, (hs0_0 t).read_unread, (hs0_1 t).read_unread, (hs0_2 t).read_unread, (hs0_3 t).read_unread, (hs0_4 t).read_unread, (hs0_5 t).read_unread, (hs0_6 t).read_unread,
      View.ld_unit_zero (S := S256x1024) zero2, View.ld_unit_zero (S := S1x1024) zero2, View.ld_unit_zero (S := S2x1024) zero2]
    first | exact shapeCast_self _ _ | rfl

/-- every later one writes those of its rows, and adds to the sums. -/
theorem later (h : t.val ≠ 0) : outsAt0 m c t.val t.isLt
    = (gradsAt m c t, branchAt m c t,
      k0_pay20 (shiftAt m c t) (outsAt0 m c (t.val - 1) (Nat.lt_of_le_of_lt (Nat.sub_le _ _) t.isLt)).2.2.1,
      k0_pay22 (stretchAt m c t) (outsAt0 m c (t.val - 1) (Nat.lt_of_le_of_lt (Nat.sub_le _ _) t.isLt)).2.2.2.1,
      k0_pay24 (scaleAt m c t) (outsAt0 m c (t.val - 1) (Nat.lt_of_le_of_lt (Nat.sub_le _ _) t.isLt)).2.2.2.2.1,
      k0_pay26 (gateAt m c t) (outsAt0 m c (t.val - 1) (Nat.lt_of_le_of_lt (Nat.sub_le _ _) t.isLt)).2.2.2.2.2.1,
      k0_pay1 (biasAt m c t) (outsAt0 m c (t.val - 1) (Nat.lt_of_le_of_lt (Nat.sub_le _ _) t.isLt)).2.2.2.2.2.2) := by
  have hN : t.val < 16 := lt_of_lt_of_eq t.isLt N_0
  rw [outsAt0_B m c t (by omega) (by omega) (by omega) (by omega) (by omega) (by omega) (by omega) (by omega) (by omega) (by omega)]
  generalize outsAt0 m c (t.val - 1) _ = o
  refine congrArg₂ Prod.mk ((View.read_writes_eq_canon _ _ _ fun _ => cover0_B_7 ..).trans ?_)
    (congrArg₂ Prod.mk ((View.read_writes_eq_canon _ _ _ fun _ => cover0_B_8 ..).trans ?_)
    (congrArg₂ Prod.mk ((View.read_writes_eq_canon _ _ _ fun _ => cover0_B_9 ..).trans ?_)
    (congrArg₂ Prod.mk ((View.read_writes_eq_canon _ _ _ fun _ => cover0_B_10 ..).trans ?_)
    (congrArg₂ Prod.mk ((View.read_writes_eq_canon _ _ _ fun _ => cover0_B_11 ..).trans ?_)
    (congrArg₂ Prod.mk ((View.read_writes_eq_canon _ _ _ fun _ => cover0_B_12 ..).trans ?_)
      ((View.read_writes_eq_canon _ _ _ fun _ => cover0_B_13 ..).trans ?_)))))) <;>
  · unfold kernelRun0_B
    dsimp only
    sl_unfold_words
    rw [View.canon_unit_zero zero2]
    simp only [View.readAt_eq_ld, (hs0_0 t).read_unread, (hs0_1 t).read_unread, (hs0_2 t).read_unread, (hs0_3 t).read_unread, (hs0_4 t).read_unread, (hs0_5 t).read_unread, (hs0_6 t).read_unread,
      (hs0_9 t).read_unread, (hs0_10 t).read_unread, (hs0_11 t).read_unread, (hs0_12 t).read_unread, (hs0_13 t).read_unread,
      View.ld_unit_zero (S := S256x1024) zero2, View.ld_unit_zero (S := S1x1024) zero2, View.ld_unit_zero (S := S2x1024) zero2] <;>
    first | exact shapeCast_self _ _ | rfl

end Points

/-- The arguments. -/
abbrev input (c : Dev nD) : Vec Ideal S4096x1024 .f32 := m ((c : Thread nD τ).loc main_arg0)
abbrev outer (c : Dev nD) : Vec Ideal S4096x1024 .f32 := m ((c : Thread nD τ).loc main_arg1)
abbrev around (c : Dev nD) : Vec Ideal S4096x1024 .f32 := m ((c : Thread nD τ).loc main_arg2)
abbrev scale (c : Dev nD) : Vec Ideal S1x1024 .f32 := m ((c : Thread nD τ).loc main_arg3)
abbrev stretch (c : Dev nD) : Vec Ideal S2x1024 .f32 := m ((c : Thread nD τ).loc main_arg4)
abbrev branch (c : Dev nD) : Vec Ideal S4096x1024 .f32 := m ((c : Thread nD τ).loc main_arg5)
abbrev gate (c : Dev nD) : Vec Ideal S1x1024 .f32 := m ((c : Thread nD τ).loc main_arg6)

section Whole
variable (x d e : Vec Ideal S4096x1024 .f32) (g : Vec Ideal S1x1024 .f32) (s : Vec Ideal S2x1024 .f32) (y : Vec Ideal S4096x1024 .f32) (a : Vec Ideal S1x1024 .f32)

/-- The gradient of entry `(r, k)` of the norm's input, -/
def entry (r : Fin 4096) (k : Fin 1024) : EReal := rowGrad (row x r) (row d r) (row e r) (row g 0) (row s 1) k

/-- of the input, of the branch, of the modulation, of the scale, and of the branch's gate and bias. -/
def inputGrad : Vec Ideal S4096x1024 .f32 := fun j => entry x d e g s (j 0) (j 1)
def branchGrad : Vec Ideal S4096x1024 .bf16 := fun j => entry x d e g s (j 0) (j 1) * a (ix2 0 (j 1))
def shiftGrad : Vec Ideal S2x1024 .f32 := fun j => ∑ r : Fin 4096, under (j 0) (d (ix2 r (j 1)))
def stretchGrad : Vec Ideal S2x1024 .f32 := fun j => ∑ r : Fin 4096, under (j 0) (d (ix2 r (j 1)) * (x (ix2 r (j 1)) * Rms.inv width (row x r)) * g (ix2 0 (j 1)))
def scaleGrad : Vec Ideal S2x1024 .f32 := fun j =>
  ∑ r : Fin 4096, under (j 0) (d (ix2 r (j 1)) * (1 + s (ix2 1 (j 1))) * (x (ix2 r (j 1)) * Rms.inv width (row x r)))
def gateGrad : Vec Ideal S1x1024 .f32 := fun j => ∑ r : Fin 4096, entry x d e g s r (j 1) * y (ix2 r (j 1))
def biasGrad : Vec Ideal S1x1024 .f32 := fun j => ∑ r : Fin 4096, entry x d e g s r (j 1) * a (ix2 0 (j 1))
end Whole

theorem reads : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] :=
  (by decide +kernel : ∀ t : Fin grid0.N, _)

theorem writes : ∀ t : Fin cfg0.N, (win0_7.index t = ![t.val, 0] ∧ win0_7.flush t = true) ∧ (win0_8.index t = ![t.val, 0] ∧ win0_8.flush t = true)
    ∧ (win0_9.index t = ![0, 0] ∧ (win0_9.flush t = true ↔ t.val = 15)) ∧ (win0_10.index t = ![0, 0] ∧ (win0_10.flush t = true ↔ t.val = 15))
    ∧ (win0_11.index t = ![0, 0] ∧ (win0_11.flush t = true ↔ t.val = 15)) ∧ (win0_12.index t = ![0, 0] ∧ (win0_12.flush t = true ↔ t.val = 15))
    ∧ win0_13.index t = ![0, 0] ∧ (win0_13.flush t = true ↔ t.val = 15) :=
  (by decide +kernel : ∀ t : Fin grid0.N, _)

section Read
variable (c : Dev nD) (t : Fin cfg0.N)

/-- The rows that a point reads, -/
theorem rows_at (r : Fin 256) (i : Fin 4096) (hi : i.val = t.val * 256 + r.val) :
    row (xAt m c t) r = row (input m c) i ∧ row (dAt m c t) r = row (outer m c) i ∧ row (eAt m c t) r = row (around m c) i
      ∧ row (yAt m c t) r = row (branch m c) i := by
  obtain ⟨e0, e1, e2, e3, -⟩ := reads t
  refine ⟨funext fun k => ?_, funext fun k => ?_, funext fun k => ?_, funext fun k => ?_⟩
  · show V m c main_arg0 _ = _
    rw [V_main_arg0]
    exact at_tile (input m c) _ e0 256 1024 r.val k.val rfl rfl i k hi (by omega)
  · show V m c main_arg1 _ = _
    rw [V_main_arg1]
    exact at_tile (outer m c) _ e1 256 1024 r.val k.val rfl rfl i k hi (by omega)
  · show V m c main_arg2 _ = _
    rw [V_main_arg2]
    exact at_tile (around m c) _ e2 256 1024 r.val k.val rfl rfl i k hi (by omega)
  · show V m c main_arg5 _ = _
    rw [V_main_arg5]
    exact at_tile (branch m c) _ e3 256 1024 r.val k.val rfl rfl i k hi (by omega)

/-- and the small arrays. -/
theorem small_at : gAt m c t = scale m c ∧ sAt m c t = stretch m c ∧ aAt m c t = gate m c := by
  obtain ⟨-, -, -, -, e4, e5, e6⟩ := reads t
  refine ⟨funext fun j => ?_, funext fun j => ?_, funext fun j => ?_⟩ <;>
  obtain ⟨z, k, rfl⟩ : ∃ z k, j = ix2 z k := ⟨j 0, j 1, eq_ix2 j⟩
  · show V m c main_arg3 _ = _
    rw [V_main_arg3]
    exact at_tile (scale m c) _ e4 1 1024 z.val k.val rfl rfl z k (by omega) (by omega)
  · show V m c main_arg4 _ = _
    rw [V_main_arg4]
    exact at_tile (stretch m c) _ e5 2 1024 z.val k.val rfl rfl z k (by omega) (by omega)
  · show V m c main_arg6 _ = _
    rw [V_main_arg6]
    exact at_tile (gate m c) _ e6 1 1024 z.val k.val rfl rfl z k (by omega) (by omega)

end Read

/-- The gradients that a point writes. -/
theorem written (c : Dev nD) (t : Fin cfg0.N) : (outsAt0 m c t.val t.isLt).1 = gradsAt m c t ∧ (outsAt0 m c t.val t.isLt).2.1 = branchAt m c t := by
  by_cases h : t.val = 0
  · rw [first m c t h]; exact ⟨rfl, rfl⟩
  · rw [later m c t h]; exact ⟨rfl, rfl⟩

theorem gradsAt_eq (c : Dev nD) (t : Fin cfg0.N) (r : Fin 256) (i : Fin 4096) (hi : i.val = t.val * 256 + r.val) (k : Fin 1024) :
    gradsAt m c t (ix2 r k) = entry (input m c) (outer m c) (around m c) (scale m c) (stretch m c) i k := by
  obtain ⟨h0, h1, h2, -⟩ := rows_at m c t r i hi
  obtain ⟨h4, h5, -⟩ := small_at m c t
  refine (grads_at ..).trans ?_
  rw [h0, h1, h2, h4, h5]
  rfl

theorem branchAt_eq (c : Dev nD) (t : Fin cfg0.N) (r : Fin 256) (i : Fin 4096) (hi : i.val = t.val * 256 + r.val) (k : Fin 1024) :
    branchAt m c t (ix2 r k) = entry (input m c) (outer m c) (around m c) (scale m c) (stretch m c) i k * gate m c (ix2 0 k) := by
  obtain ⟨h0, h1, h2, -⟩ := rows_at m c t r i hi
  obtain ⟨h4, h5, h6⟩ := small_at m c t
  refine (branch_at ..).trans ?_
  rw [h0, h1, h2, h4, h5, h6]
  rfl

/-- The call leaves the gradient of the norm's input -/
theorem result_input (c : Dev nD) : (dats m 0 c).arrAt 7 cfg0.N = inputGrad (input m c) (outer m c) (around m c) (scale m c) (stretch m c) := by
  have hN : cfg0.N = 16 := N_0
  refine (dats m 0 c).arrAt_eq_of_cover 7 _ (fun t _ => ?_) fun i => ?_
  · obtain ⟨⟨e, -⟩, -⟩ := writes t
    have ht : t.val < 16 := lt_of_lt_of_eq t.isLt hN
    rw [flushed7, (written m c t).1]
    funext y
    have h0 : (y 0).val < 256 := (y 0).isLt
    have h1 : (y 1).val < 1024 := (y 1).isLt
    refine (at_ix2 (gradsAt m c t) _ ⟨(y 0).val, h0⟩ ⟨(y 1).val, h1⟩ rfl rfl).trans ((gradsAt_eq m c t _ ⟨t.val * 256 + (y 0).val, by omega⟩ rfl _).trans ?_)
    exact (at_tile (inputGrad (input m c) (outer m c) (around m c) (scale m c) (stretch m c)) _ e 256 1024 (y 0).val (y 1).val rfl rfl
      ⟨t.val * 256 + (y 0).val, by omega⟩ ⟨(y 1).val, h1⟩ rfl (by dsimp only; omega)).symm
  · have h0 : (i 0).val < 4096 := (i 0).isLt
    have h1 : (i 1).val < 1024 := (i 1).isLt
    obtain ⟨t, ht⟩ : ∃ t : Fin cfg0.N, t.val = (i 0).val / 256 := ⟨⟨(i 0).val / 256, by rw [hN]; omega⟩, rfl⟩
    obtain ⟨⟨e, hf⟩, -⟩ := writes t
    refine ⟨t, hf, ?_⟩
    show i ∈ ((View.whole main_v0_0).slice (win0_7.rect t)).set
    rw [View.set_slice_whole]
    refine mem_tile _ i (s0 := 256) (s1 := 1024) rfl rfl (by decide) (by decide) ((congrArg (· * 256) (congrFun e 0)).trans ?_) ((congrArg (· * 1024) (congrFun e 1)).trans ?_)
    · show t.val * 256 = _; rw [ht]
    · show 0 * 1024 = (i 1).val / 1024 * 1024; omega

/-- and of the branch. -/
theorem result_branch (c : Dev nD) : (dats m 0 c).arrAt 8 cfg0.N = branchGrad (input m c) (outer m c) (around m c) (scale m c) (stretch m c) (gate m c) := by
  have hN : cfg0.N = 16 := N_0
  refine (dats m 0 c).arrAt_eq_of_cover 8 _ (fun t _ => ?_) fun i => ?_
  · obtain ⟨-, ⟨e, -⟩, -⟩ := writes t
    have ht : t.val < 16 := lt_of_lt_of_eq t.isLt hN
    rw [flushed8, (written m c t).2]
    funext y
    have h0 : (y 0).val < 256 := (y 0).isLt
    have h1 : (y 1).val < 1024 := (y 1).isLt
    refine (at_ix2 (branchAt m c t) _ ⟨(y 0).val, h0⟩ ⟨(y 1).val, h1⟩ rfl rfl).trans ((branchAt_eq m c t _ ⟨t.val * 256 + (y 0).val, by omega⟩ rfl _).trans ?_)
    exact (at_tile (branchGrad (input m c) (outer m c) (around m c) (scale m c) (stretch m c) (gate m c)) _ e 256 1024 (y 0).val (y 1).val rfl rfl
      ⟨t.val * 256 + (y 0).val, by omega⟩ ⟨(y 1).val, h1⟩ rfl (by dsimp only; omega)).symm
  · have h0 : (i 0).val < 4096 := (i 0).isLt
    have h1 : (i 1).val < 1024 := (i 1).isLt
    obtain ⟨t, ht⟩ : ∃ t : Fin cfg0.N, t.val = (i 0).val / 256 := ⟨⟨(i 0).val / 256, by rw [hN]; omega⟩, rfl⟩
    obtain ⟨-, ⟨e, hf⟩, -⟩ := writes t
    refine ⟨t, hf, ?_⟩
    show i ∈ ((View.whole main_v0_1).slice (win0_8.rect t)).set
    rw [View.set_slice_whole]
    refine mem_tile _ i (s0 := 256) (s1 := 1024) rfl rfl (by decide) (by decide) ((congrArg (· * 256) (congrFun e 0)).trans ?_) ((congrArg (· * 1024) (congrFun e 1)).trans ?_)
    · show t.val * 256 = _; rw [ht]
    · show 0 * 1024 = (i 1).val / 1024 * 1024; omega

/-- The sums after the last point: the gradients of the modulation, -/
theorem summed_shift (c : Dev nD) (n : ℕ) (h : n < cfg0.N) (hn : n = 15) (b : Fin 2) (k : Fin 1024) :
    (outsAt0 m c n h).2.2.1 (ix2 b k) = shiftGrad (outer m c) (ix2 b k) := by
  have hN : cfg0.N = 16 := N_0
  subst hn
  refine accumulated (J := 15) (T := 256) rfl (fun n h => (outsAt0 m c n h).2.2.1 (ix2 b k)) (fun n h r => under b (dAt m c ⟨n, h⟩ (ix2 r k)))
    (fun n h h0 => ?_) (fun n h h0 => ?_) 0 h (fun i => under b (outer m c (ix2 i k))) fun a r ha l hl => ?_
  · exact (congrArg (fun o => o.2.2.1 (ix2 b k)) (first m c ⟨n, h⟩ (by dsimp only; omega))).trans (shift_at ..)
  · exact (congrArg (fun o => o.2.2.1 (ix2 b k)) (later m c ⟨n + 1, h⟩ (Nat.succ_ne_zero n))).trans
      ((more ..).trans (congrArg (_ + ·) (shift_at ..)))
  · exact congrArg (under b) (congrFun (rows_at m c ⟨_, ha⟩ r l (by dsimp only; omega)).2.1 k)

theorem summed_stretch (c : Dev nD) (n : ℕ) (h : n < cfg0.N) (hn : n = 15) (b : Fin 2) (k : Fin 1024) :
    (outsAt0 m c n h).2.2.2.1 (ix2 b k) = stretchGrad (input m c) (outer m c) (scale m c) (ix2 b k) := by
  have hN : cfg0.N = 16 := N_0
  subst hn
  refine accumulated (J := 15) (T := 256) rfl (fun n h => (outsAt0 m c n h).2.2.2.1 (ix2 b k))
    (fun n h r => under b (row (dAt m c ⟨n, h⟩) r k * (row (xAt m c ⟨n, h⟩) r k * Rms.inv width (row (xAt m c ⟨n, h⟩) r)) * gAt m c ⟨n, h⟩ (ix2 0 k)))
    (fun n h h0 => ?_) (fun n h h0 => ?_) 0 h
    (fun i => under b (row (outer m c) i k * (row (input m c) i k * Rms.inv width (row (input m c) i)) * scale m c (ix2 0 k))) fun a r ha l hl => ?_
  · exact (congrArg (fun o => o.2.2.2.1 (ix2 b k)) (first m c ⟨n, h⟩ (by dsimp only; omega))).trans (stretch_at ..)
  · exact (congrArg (fun o => o.2.2.2.1 (ix2 b k)) (later m c ⟨n + 1, h⟩ (Nat.succ_ne_zero n))).trans
      ((more ..).trans (congrArg (_ + ·) (stretch_at ..)))
  · obtain ⟨h0, h1, -⟩ := rows_at m c ⟨_, ha⟩ r l (by dsimp only; omega)
    rw [h0, h1, (small_at m c ⟨_, ha⟩).1]

/-- of the scale, -/
theorem summed_scale (c : Dev nD) (n : ℕ) (h : n < cfg0.N) (hn : n = 15) (b : Fin 2) (k : Fin 1024) :
    (outsAt0 m c n h).2.2.2.2.1 (ix2 b k) = scaleGrad (input m c) (outer m c) (stretch m c) (ix2 b k) := by
  have hN : cfg0.N = 16 := N_0
  subst hn
  refine accumulated (J := 15) (T := 256) rfl (fun n h => (outsAt0 m c n h).2.2.2.2.1 (ix2 b k))
    (fun n h r => under b (row (dAt m c ⟨n, h⟩) r k * (1 + sAt m c ⟨n, h⟩ (ix2 1 k)) * (row (xAt m c ⟨n, h⟩) r k * Rms.inv width (row (xAt m c ⟨n, h⟩) r))))
    (fun n h h0 => ?_) (fun n h h0 => ?_) 0 h
    (fun i => under b (row (outer m c) i k * (1 + stretch m c (ix2 1 k)) * (row (input m c) i k * Rms.inv width (row (input m c) i)))) fun a r ha l hl => ?_
  · exact (congrArg (fun o => o.2.2.2.2.1 (ix2 b k)) (first m c ⟨n, h⟩ (by dsimp only; omega))).trans (scale_at ..)
  · exact (congrArg (fun o => o.2.2.2.2.1 (ix2 b k)) (later m c ⟨n + 1, h⟩ (Nat.succ_ne_zero n))).trans
      ((more ..).trans (congrArg (_ + ·) (scale_at ..)))
  · obtain ⟨h0, h1, -⟩ := rows_at m c ⟨_, ha⟩ r l (by dsimp only; omega)
    rw [h0, h1, (small_at m c ⟨_, ha⟩).2.1]

/-- of the branch's gate, -/
theorem summed_gate (c : Dev nD) (n : ℕ) (h : n < cfg0.N) (hn : n = 15) (z : Fin 1) (k : Fin 1024) :
    (outsAt0 m c n h).2.2.2.2.2.1 (ix2 z k) = gateGrad (input m c) (outer m c) (around m c) (scale m c) (stretch m c) (branch m c) (ix2 z k) := by
  have hN : cfg0.N = 16 := N_0
  subst hn
  obtain rfl : z = 0 := Subsingleton.elim _ _
  refine accumulated (J := 15) (T := 256) rfl (fun n h => (outsAt0 m c n h).2.2.2.2.2.1 (ix2 (0 : Fin 1) k))
    (fun n h r => rowGrad (row (xAt m c ⟨n, h⟩) r) (row (dAt m c ⟨n, h⟩) r) (row (eAt m c ⟨n, h⟩) r) (row (gAt m c ⟨n, h⟩) 0) (row (sAt m c ⟨n, h⟩) 1) k
      * row (yAt m c ⟨n, h⟩) r k)
    (fun n h h0 => ?_) (fun n h h0 => ?_) 0 h
    (fun i => entry (input m c) (outer m c) (around m c) (scale m c) (stretch m c) i k * row (branch m c) i k) fun a r ha l hl => ?_
  · exact (congrArg (fun o => o.2.2.2.2.2.1 (ix2 (0 : Fin 1) k)) (first m c ⟨n, h⟩ (by dsimp only; omega))).trans (gate_at ..)
  · exact (congrArg (fun o => o.2.2.2.2.2.1 (ix2 (0 : Fin 1) k)) (later m c ⟨n + 1, h⟩ (Nat.succ_ne_zero n))).trans
      ((more ..).trans (congrArg (_ + ·) (gate_at ..)))
  · obtain ⟨h0, h1, h2, h3⟩ := rows_at m c ⟨_, ha⟩ r l (by dsimp only; omega)
    obtain ⟨h4, h5, -⟩ := small_at m c ⟨_, ha⟩
    rw [h0, h1, h2, h3, h4, h5]
    rfl

/-- and of its bias. -/
theorem summed_bias (c : Dev nD) (n : ℕ) (h : n < cfg0.N) (hn : n = 15) (z : Fin 1) (k : Fin 1024) :
    (outsAt0 m c n h).2.2.2.2.2.2 (ix2 z k) = biasGrad (input m c) (outer m c) (around m c) (scale m c) (stretch m c) (gate m c) (ix2 z k) := by
  have hN : cfg0.N = 16 := N_0
  subst hn
  obtain rfl : z = 0 := Subsingleton.elim _ _
  refine accumulated (J := 15) (T := 256) rfl (fun n h => (outsAt0 m c n h).2.2.2.2.2.2 (ix2 (0 : Fin 1) k))
    (fun n h r => rowGrad (row (xAt m c ⟨n, h⟩) r) (row (dAt m c ⟨n, h⟩) r) (row (eAt m c ⟨n, h⟩) r) (row (gAt m c ⟨n, h⟩) 0) (row (sAt m c ⟨n, h⟩) 1) k
      * aAt m c ⟨n, h⟩ (ix2 0 k))
    (fun n h h0 => ?_) (fun n h h0 => ?_) 0 h
    (fun i => entry (input m c) (outer m c) (around m c) (scale m c) (stretch m c) i k * gate m c (ix2 0 k)) fun a r ha l hl => ?_
  · exact (congrArg (fun o => o.2.2.2.2.2.2 (ix2 (0 : Fin 1) k)) (first m c ⟨n, h⟩ (by dsimp only; omega))).trans (bias_at ..)
  · exact (congrArg (fun o => o.2.2.2.2.2.2 (ix2 (0 : Fin 1) k)) (later m c ⟨n + 1, h⟩ (Nat.succ_ne_zero n))).trans
      ((more ..).trans (congrArg (_ + ·) (bias_at ..)))
  · obtain ⟨h0, h1, h2, -⟩ := rows_at m c ⟨_, ha⟩ r l (by dsimp only; omega)
    obtain ⟨h4, h5, h6⟩ := small_at m c ⟨_, ha⟩
    rw [h0, h1, h2, h4, h5, h6]
    rfl

/-- The last point. -/
abbrev last : Fin cfg0.N := ⟨15, by rw [show cfg0.N = 16 from N_0]; omega⟩

/-- The call leaves the sums. -/
theorem result_shift (c : Dev nD) : (dats m 0 c).arrAt 9 cfg0.N = shiftGrad (outer m c) :=
  (dats m 0 c).arrAt_eq_of_cover 9 _
    (fun t hf => (flushed9 m c t).trans (funext fun _ => all_at _ _ (summed_shift m c t.val t.isLt ((writes t).2.2.1.2.mp hf)) (writes t).2.2.1.1 _ _ rfl rfl))
    fun i => ⟨last, (writes last).2.2.1.2.mpr rfl, (View.set_slice_whole (b := main_v0_2) (win0_9.rect last)).symm ▸ in_all _ i rfl rfl (by decide) (by decide) (writes last).2.2.1.1 rfl rfl⟩

theorem result_stretch (c : Dev nD) : (dats m 0 c).arrAt 10 cfg0.N = stretchGrad (input m c) (outer m c) (scale m c) :=
  (dats m 0 c).arrAt_eq_of_cover 10 _
    (fun t hf => (flushed10 m c t).trans (funext fun _ => all_at _ _ (summed_stretch m c t.val t.isLt ((writes t).2.2.2.1.2.mp hf)) (writes t).2.2.2.1.1 _ _ rfl rfl))
    fun i => ⟨last, (writes last).2.2.2.1.2.mpr rfl, (View.set_slice_whole (b := main_v0_3) (win0_10.rect last)).symm ▸ in_all _ i rfl rfl (by decide) (by decide) (writes last).2.2.2.1.1 rfl rfl⟩

theorem result_scale (c : Dev nD) : (dats m 0 c).arrAt 11 cfg0.N = scaleGrad (input m c) (outer m c) (stretch m c) :=
  (dats m 0 c).arrAt_eq_of_cover 11 _
    (fun t hf => (flushed11 m c t).trans (funext fun _ => all_at _ _ (summed_scale m c t.val t.isLt ((writes t).2.2.2.2.1.2.mp hf)) (writes t).2.2.2.2.1.1 _ _ rfl rfl))
    fun i => ⟨last, (writes last).2.2.2.2.1.2.mpr rfl, (View.set_slice_whole (b := main_v0_4) (win0_11.rect last)).symm ▸ in_all _ i rfl rfl (by decide) (by decide) (writes last).2.2.2.2.1.1 rfl rfl⟩

theorem result_gate (c : Dev nD) : (dats m 0 c).arrAt 12 cfg0.N = gateGrad (input m c) (outer m c) (around m c) (scale m c) (stretch m c) (branch m c) :=
  (dats m 0 c).arrAt_eq_of_cover 12 _
    (fun t hf => (flushed12 m c t).trans (funext fun _ => all_at _ _ (summed_gate m c t.val t.isLt ((writes t).2.2.2.2.2.1.2.mp hf)) (writes t).2.2.2.2.2.1.1 _ _ rfl rfl))
    fun i => ⟨last, (writes last).2.2.2.2.2.1.2.mpr rfl, (View.set_slice_whole (b := main_v0_5) (win0_12.rect last)).symm ▸ in_all _ i rfl rfl (by decide) (by decide) (writes last).2.2.2.2.2.1.1 rfl rfl⟩

theorem result_bias (c : Dev nD) : (dats m 0 c).arrAt 13 cfg0.N = biasGrad (input m c) (outer m c) (around m c) (scale m c) (stretch m c) (gate m c) :=
  (dats m 0 c).arrAt_eq_of_cover 13 _
    (fun t hf => (flushed13 m c t).trans (funext fun _ => all_at _ _ (summed_bias m c t.val t.isLt ((writes t).2.2.2.2.2.2.2.mp hf)) (writes t).2.2.2.2.2.2.1 _ _ rfl rfl))
    fun i => ⟨last, (writes last).2.2.2.2.2.2.2.mpr rfl, (View.set_slice_whole (b := main_v0_6) (win0_13.rect last)).symm ▸ in_all _ i rfl rfl (by decide) (by decide) (writes last).2.2.2.2.2.2.1 rfl rfl⟩

namespace Reference
open Cert.DrmsRefIdeal (S4096x1 S4096 S1024)
open Cert.DrmsRefIdeal.Gen (bcast_S4096_S4096x1_0 bcast_S4096_S4096x1024_0 reducesTo_S4096x1024_S4096_d1 reducesTo_S4096x1_S4096_d1 reducesTo_S4096x1024_S1024_d0
  bcast_S_S4096x1 bcast_S_S1x1024 bcast_S4096x1_S4096x1024_0_1 bcast_S1x1024_S4096x1024_0_1 shapeCasts_S4096_S4096x1
  shapeCasts_S4096x1024_S4096x1024 slices_S2x1024_S1x1024_1_0 pads_S1x1024_S2x1024_100_000 h_S_)

variable (x d e : Vec Ideal S4096x1024 .f32) (g : Vec Ideal S1x1024 .f32) (s : Vec Ideal S2x1024 .f32) (y : Vec Ideal S4096x1024 .f32) (a : Vec Ideal S1x1024 .f32)

abbrev number (w : BitVec 32) : FVec Ideal Cert.DrmsRefIdeal.S_ .f32 := constant (F := Ideal) Cert.DrmsRefIdeal.S_ .f32 w
abbrev column (w : BitVec 32) : FVec Ideal S4096x1 .f32 := broadcastInDim S4096x1 ![] bcast_S_S4096x1 (number w)
abbrev line (w : BitVec 32) : FVec Ideal S1x1024 .f32 := broadcastInDim S1x1024 ![] bcast_S_S1x1024 (number w)
abbrev along (z : FVec Ideal S4096x1 .f32) : FVec Ideal S4096x1024 .f32 := broadcastInDim S4096x1024 ![0, 1] bcast_S4096x1_S4096x1024_0_1 z
abbrev down (z : Vec Ideal S1x1024 .f32) : FVec Ideal S4096x1024 .f32 := broadcastInDim S4096x1024 ![0, 1] bcast_S1x1024_S4096x1024_0_1 z
abbrev sums (z : FVec Ideal S4096x1024 .f32) : FVec Ideal S4096 .f32 := Host.reduceAdd z (number 0x00000000#32) reducesTo_S4096x1024_S4096_d1 h_S_
abbrev spreadOut (z : FVec Ideal S4096x1 .f32) : FVec Ideal S4096x1024 .f32 :=
  broadcastInDim S4096x1024 ![0] bcast_S4096_S4096x1024_0 (Host.reduceAdd z (number 0x00000000#32) reducesTo_S4096x1_S4096_d1 h_S_)

/-- Sums over the rows, a row of zeros over a row, and the second row of two. -/
def total (z : FVec Ideal S4096x1024 .f32) : FVec Ideal S1x1024 .f32 :=
  shapeCast S1x1024 (Host.reduceAdd z (number 0x00000000#32) reducesTo_S4096x1024_S1024_d0 h_S_) shapeCasts_S1024_S1x1024
def over (z : FVec Ideal S1x1024 .f32) : FVec Ideal S2x1024 .f32 := pad S2x1024 ![1, 0] ![0, 0] ![0, 0] z (number 0x00000000#32) pads_S1x1024_S2x1024_100_000 h_S_
def second (z : Vec Ideal S2x1024 .f32) : FVec Ideal S1x1024 .f32 := extractStridedSlice S1x1024 ![1, 0] z slices_S2x1024_S1x1024_1_0

/-- The reference's norm, -/
def spread : FVec Ideal S4096x1 .f32 :=
  addf (Host.divf (broadcastInDim S4096x1 ![0] bcast_S4096_S4096x1_0 (sums (mulf x x))) (column 0x44800000#32)) (column 0x358637BD#32)
def inv : FVec Ideal S4096x1 .f32 := Host.rsqrt (spread x)
def normed : FVec Ideal S4096x1024 .f32 := mulf x (along (inv x))
def scales : FVec Ideal S1x1024 .f32 := second (Cert.DrmsRefIdeal.Value.fn_main_v1 g g)
def scaled : FVec Ideal S4096x1024 .f32 := mulf (normed x) (down (scales g))
def stretched : FVec Ideal S4096x1024 .f32 := mulf (shapeCast S4096x1024 d shapeCasts_S4096x1024_S4096x1024) (down (addf (line 0x3F800000#32) (second s)))

/-- and its gradient, of `z` that the normed values receive. -/
def square (z : FVec Ideal S4096x1024 .f32) : FVec Ideal S4096x1 .f32 :=
  Host.divf (mulf (shapeCast S4096x1 (sums (mulf x z)) shapeCasts_S4096_S4096x1) (mulf (column 0xBF000000#32) (Host.divf (inv x) (spread x)))) (column 0x44800000#32)
def chain (z : FVec Ideal S4096x1024 .f32) : FVec Ideal S4096x1024 .f32 :=
  addf (addf (addf e (mulf z (along (inv x)))) (mulf x (spreadOut (square x z)))) (mulf (spreadOut (square x z)) x)
def grads : FVec Ideal S4096x1024 .f32 := chain x e (mulf (stretched d s) (down (scales g)))
def biased : FVec Ideal S4096x1024 .f32 := addf y (down (line 0x00000000#32))

theorem total_apply (v : FVec Ideal S4096x1024 .f32) (j : S1x1024.Idx) : total v j = ∑ r : Fin 4096, v (ix2 r (j 1)) := by
  obtain ⟨z, k, rfl⟩ : ∃ z k, j = ix2 z k := ⟨j 0, j 1, eq_ix2 j⟩
  unfold total
  simp only [pointwise, zero_add]

theorem over_total (v : FVec Ideal S4096x1024 .f32) (j : S2x1024.Idx) : over (total v) j = ∑ r : Fin 4096, under (j 0) (v (ix2 r (j 1))) := by
  obtain ⟨b, k, rfl⟩ : ∃ b k, j = ix2 b k := ⟨j 0, j 1, eq_ix2 j⟩
  refine ((stacked_padding ..).trans ?_).trans (under_sum b _)
  rw [total_apply]
  unfold under
  simp only [pointwise]

theorem second_apply (z : Fin 1) (k : Fin 1024) : second s (ix2 z k) = s (ix2 1 k) := second_row ..

theorem scales_apply (z : Fin 1) (k : Fin 1024) : scales g (ix2 z k) = g (ix2 0 k) := (second_apply ..).trans (stacked ..)

theorem spread_apply (r : Fin 4096) (z : Fin 1) : spread x (ix2 r z) = Rms.spread width (row x r) := by
  unfold spread
  simp only [pointwise, zero_add]
  rfl

theorem inv_apply (r : Fin 4096) (z : Fin 1) : inv x (ix2 r z) = Rms.inv width (row x r) := congrArg Ideal.rsqrt (spread_apply x r z)

theorem normed_apply (r : Fin 4096) (k : Fin 1024) : normed x (ix2 r k) = x (ix2 r k) * Rms.inv width (row x r) := by
  unfold normed
  rw [← inv_apply x r 0]
  generalize inv x = v
  simp only [pointwise]
  rfl

theorem scaled_apply (r : Fin 4096) (k : Fin 1024) : scaled x g (ix2 r k) = x (ix2 r k) * Rms.inv width (row x r) * g (ix2 0 k) := by
  unfold scaled
  rw [← normed_apply, ← scales_apply g 0 k]
  generalize normed x = v
  generalize scales g = w
  simp only [pointwise]
  rfl

theorem stretched_apply (r : Fin 4096) (k : Fin 1024) : stretched d s (ix2 r k) = d (ix2 r k) * (1 + s (ix2 1 k)) := by
  unfold stretched
  rw [← second_apply s 0 k, shapeCast_self]
  generalize second s = v
  simp only [pointwise, Ideal.ofBits_one_f32]
  rfl

theorem square_apply (z : FVec Ideal S4096x1024 .f32) (r : Fin 4096) (j : Fin 1) : square x z (ix2 r j) = Rms.square width (row x r) (row z r) := by
  unfold square Rms.square
  rw [← inv_apply x r j, ← spread_apply x r j]
  generalize inv x = v
  generalize spread x = w
  simp only [pointwise, zero_add]

theorem chain_apply (z : FVec Ideal S4096x1024 .f32) (r : Fin 4096) (k : Fin 1024) :
    chain x e z (ix2 r k) = Rms.back width (row x r) (row z r) k + e (ix2 r k) := by
  refine Eq.trans ?_ (Rms.back_eq width (row x r) (row z r) 1024 (by norm_num) Norm.bits_width (e (ix2 r k)) k).symm
  unfold chain
  rw [← inv_apply x r 0, ← square_apply x z r 0]
  generalize inv x = v
  generalize square x z = w
  simp only [pointwise, zero_add, Fin.sum_univ_one]
  rfl

/-- The reference's results. -/
theorem grads_apply (r : Fin 4096) (k : Fin 1024) : grads x d e g s (ix2 r k) = entry x d e g s r k := by
  refine (chain_apply ..).trans (congrArg (fun z => Rms.back width (row x r) z k + e (ix2 r k)) (funext fun j => ?_))
  show _ = d (ix2 r j) * (1 + s (ix2 1 j)) * g (ix2 0 j)
  rw [← stretched_apply, ← scales_apply g 0 j]
  generalize stretched d s = v
  generalize scales g = w
  simp only [row, pointwise]
  rfl

theorem grads_eq : grads x d e g s = inputGrad x d e g s := funext fun j => (congrArg _ (eq_ix2 j)).trans (grads_apply ..)

theorem shift_eq : over (total d) = shiftGrad d := funext fun j => over_total d j

theorem stretch_eq : over (total (mulf (scaled x g) (shapeCast S4096x1024 d shapeCasts_S4096x1024_S4096x1024))) = stretchGrad x d g := by
  rw [shapeCast_self]
  refine funext fun j => (over_total _ j).trans (Finset.sum_congr rfl fun r _ => congrArg (under _) ?_)
  refine (congrArg (· * _) (scaled_apply x g r (j 1))).trans ?_
  rw [mul_comm, ← mul_assoc]

theorem scale_eq : over (total (mulf (normed x) (stretched d s))) = scaleGrad x d s :=
  funext fun j => (over_total _ j).trans (Finset.sum_congr rfl fun r _ => congrArg (under _)
    ((congrArg₂ (· * ·) (normed_apply x r (j 1)) (stretched_apply d s r (j 1))).trans (mul_comm _ _)))

theorem biased_eq : biased y = y := funext fun j => by
  obtain ⟨r, k, rfl⟩ : ∃ r k, j = ix2 r k := ⟨j 0, j 1, eq_ix2 j⟩
  unfold biased
  simp only [pointwise, add_zero]

theorem gate_eq : total (mulf (grads x d e g s) (biased y)) = gateGrad x d e g s y := by
  rw [biased_eq]
  exact funext fun j => (total_apply _ j).trans (Finset.sum_congr rfl fun r _ => congrArg (· * _) (grads_apply x d e g s r (j 1)))

theorem branch_apply (r : Fin 4096) (k : Fin 1024) : mulf (down a) (grads x d e g s) (ix2 r k) = entry x d e g s r k * a (ix2 0 k) := by
  rw [← grads_apply]
  generalize grads x d e g s = v
  simp only [pointwise]
  exact mul_comm _ _

theorem branch_eq : truncf .bf16 (mulf (down a) (grads x d e g s)) Cert.DrmsRefIdeal.Gen.bitsLt_bf16_f32 = branchGrad x d e g s a :=
  funext fun j => (congrArg (mulf (down a) (grads x d e g s)) (eq_ix2 j)).trans (branch_apply ..)

theorem bias_eq : total (mulf (down a) (grads x d e g s)) = biasGrad x d e g s a :=
  funext fun j => (total_apply _ j).trans (Finset.sum_congr rfl fun r _ => branch_apply x d e g s a r (j 1))

end Reference

theorem frame_reference : Cert.quiescent_DrmsRefIdeal := fun m ρ _ =>
  (θ_run Cert.DrmsRefIdeal.defs _ _).mono (fun r h => ⟨fun c => (h c).2.2.2.2.2.2.2, sem_eq_zero_of_no_sems (by decide) r.2⟩)
    (Cert.DrmsRefIdeal.Value.run m ρ)

/-- The reference's results, of arguments that hold what the kernel's do. -/
theorem equal (m' : (ℓ : Loc Cert.DrmsRefIdeal.nD Cert.DrmsRefIdeal.τ Cert.DrmsRefIdeal.sig) → Buf (Elt Ideal) ℓ) (c : Dev nD)
    (x d e : Vec Ideal S4096x1024 .f32) (g : Vec Ideal S1x1024 .f32) (s : Vec Ideal S2x1024 .f32) (y : Vec Ideal S4096x1024 .f32) (a : Vec Ideal S1x1024 .f32)
    (hx : m' ((c.tc : Thread Cert.DrmsRefIdeal.nD Cert.DrmsRefIdeal.τ).loc Cert.DrmsRefIdeal.main_arg0) = x)
    (hd : m' ((c.tc : Thread Cert.DrmsRefIdeal.nD Cert.DrmsRefIdeal.τ).loc Cert.DrmsRefIdeal.main_arg1) = d)
    (he : m' ((c.tc : Thread Cert.DrmsRefIdeal.nD Cert.DrmsRefIdeal.τ).loc Cert.DrmsRefIdeal.main_arg2) = e)
    (hg : m' ((c.tc : Thread Cert.DrmsRefIdeal.nD Cert.DrmsRefIdeal.τ).loc Cert.DrmsRefIdeal.main_arg3) = g)
    (hs : m' ((c.tc : Thread Cert.DrmsRefIdeal.nD Cert.DrmsRefIdeal.τ).loc Cert.DrmsRefIdeal.main_arg4) = s)
    (hy : m' ((c.tc : Thread Cert.DrmsRefIdeal.nD Cert.DrmsRefIdeal.τ).loc Cert.DrmsRefIdeal.main_arg5) = y)
    (ha : m' ((c.tc : Thread Cert.DrmsRefIdeal.nD Cert.DrmsRefIdeal.τ).loc Cert.DrmsRefIdeal.main_arg6) = a) :
    Cert.DrmsRefIdeal.Value.res_out0 m' c = inputGrad x d e g s ∧ Cert.DrmsRefIdeal.Value.res_out4 m' c = branchGrad x d e g s a
      ∧ Cert.DrmsRefIdeal.Value.res_out5 m' c = gateGrad x d e g s y ∧ Cert.DrmsRefIdeal.Value.res_out6 m' c = biasGrad x d e g s a := by
  subst hx hd he hg hs hy ha
  exact ⟨Reference.grads_eq .., Reference.branch_eq .., Reference.gate_eq .., Reference.bias_eq ..⟩

theorem algebraic : Cert.algebraic_DrmsIdeal_DrmsRefIdeal := by
  intro m g m' g' _ h
  refine ⟨fun c => inputGrad (input m c) (outer m c) (around m c) (scale m c) (stretch m c), fun c => shiftGrad (outer m c),
    fun c => stretchGrad (input m c) (outer m c) (scale m c), fun c => scaleGrad (input m c) (outer m c) (stretch m c),
    fun c => branchGrad (input m c) (outer m c) (around m c) (scale m c) (stretch m c) (gate m c),
    fun c => gateGrad (input m c) (outer m c) (around m c) (scale m c) (stretch m c) (branch m c),
    fun c => biasGrad (input m c) (outer m c) (around m c) (scale m c) (stretch m c) (gate m c),
    (θ_run Cert.DrmsIdeal.defs _ _).mono (fun _ r c => ?_) (run_blocks m g),
    (θ_run Cert.DrmsRefIdeal.defs _ _).mono (fun _ r c => ?_) (Cert.DrmsRefIdeal.Value.run m' g')⟩
  · obtain ⟨r0, r1, r2, r3, r4, r5, r6, kept⟩ := r c
    exact ⟨r0.trans (result_input m c), r2.trans (result_shift m c), r3.trans (result_stretch m c), r4.trans (result_scale m c), r1.trans (result_branch m c),
      r5.trans (result_gate m c), r6.trans (result_bias m c), kept⟩
  · obtain ⟨r0, r1, r2, r3, r4, r5, r6, kept⟩ := r c
    obtain ⟨h0, h1, h2, h3, h4, h5, h6⟩ := h c
    obtain ⟨e0, e4, e5, e6⟩ := equal m' c _ _ _ _ _ _ _ h0 h1 h2 h3 h4 h5 h6
    refine ⟨r0.trans e0, r1.trans ((Reference.shift_eq _).trans (congrArg shiftGrad h1)), r2.trans ((Reference.stretch_eq ..).trans ?_),
      r3.trans ((Reference.scale_eq ..).trans ?_), r4.trans e4, r5.trans e5, r6.trans e6, kept⟩
    · rw [h0, h1, h3]
    · rw [h0, h1, h4]

end Cert.Proof.Drms

end
-- ==== Proof.DgateRun.lean ====
/- The run of the gradient of the state-space layer's gate, over any float values. The first point starts the two sums that the
   call returns beside its rows, and every later point adds to them. -/
module

public import proofs.«01_k».proof.Proof.Gen.DgateIdeal.Frame.RunB
public import Idealize.ShloMosaic.Lib.Claim
public import Idealize.ShloMosaic.Lib.Pipeline.Value

@[expose] public section

set_option maxRecDepth 16384

noncomputable section

namespace Cert.Proof.Dgate

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.DgateIdeal Cert.DgateIdeal.Gen

variable {F : FTy → Type} [FloatOps F]
variable (m : (ℓ : Loc nD τ sig) → Buf (Elt F) ℓ) (ρ : Dev nD → PrngReg)

/-- What the body's conditions are at the first point, -/
theorem at_first (t : Fin cfg0.N) (h : t.val = 0) :
    cond0_0 (grid0.coords t) ∧ ¬cond0_1 (grid0.coords t) ∧ cond0_2 (grid0.coords t) ∧ ¬cond0_3 (grid0.coords t) :=
  ⟨(hcond0_0 t).mpr (by omega), fun a => absurd ((hcond0_1 t).mp a) (by omega), (hcond0_2 t).mpr (by omega), fun a => absurd ((hcond0_3 t).mp a) (by omega)⟩

/-- and at the others. -/
theorem at_later (t : Fin cfg0.N) (h : 1 ≤ t.val) :
    ¬cond0_0 (grid0.coords t) ∧ cond0_1 (grid0.coords t) ∧ ¬cond0_2 (grid0.coords t) ∧ cond0_3 (grid0.coords t) := by
  have ht : t.val < 17 := lt_of_lt_of_eq t.isLt N_0
  exact ⟨fun a => absurd ((hcond0_0 t).mp a) (by omega), (hcond0_1 t).mpr h, fun a => absurd ((hcond0_2 t).mp a) (by omega), (hcond0_3 t).mpr h⟩

/-- The body's run at the first point, -/
abbrev firstRun (c : Dev nD) (t : Fin cfg0.N) (h : t.val = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (ms0_9 t) (hs0_9 t) (ms0_10 t) (hs0_10 t)
    (at_first t h).1 (at_first t h).2.1 (at_first t h).2.2.1 (at_first t h).2.2.2
    (iblk m c 0 t) (iblk m c 1 t) (iblk m c 2 t) (iblk m c 3 t) (iblk m c 4 t) (iblk m c 5 t) (iblk m c 6 t)

/-- and at another, which finds the sums `g` and `b`. -/
abbrev laterRun (c : Dev nD) (t : Fin cfg0.N) (h : 1 ≤ t.val) (g b : Vec F S1x2048 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (ms0_9 t) (hs0_9 t) (ms0_10 t) (hs0_10 t)
    (at_later t h).1 (at_later t h).2.1 (at_later t h).2.2.1 (at_later t h).2.2.2
    (iblk m c 0 t) (iblk m c 1 t) (iblk m c 2 t) (iblk m c 3 t) (iblk m c 4 t) (iblk m c 5 t) (iblk m c 6 t) g b

/-- Each covers what it writes. -/
theorem first_covers (c : Dev nD) (t : Fin cfg0.N) (h : t.val = 0) :
    (∀ y, ∃ p ∈ (firstRun m c t h).1, y ∈ p.1.set) ∧ (∀ y, ∃ p ∈ (firstRun m c t h).2.1, y ∈ p.1.set)
      ∧ (∀ y, ∃ p ∈ (firstRun m c t h).2.2.1, y ∈ p.1.set) ∧ ∀ y, ∃ p ∈ (firstRun m c t h).2.2.2.1, y ∈ p.1.set :=
  ⟨View.cover_of_tiledL _ S256x2048.size (by sl_kernel_rfl), View.cover_of_tiledL _ S256x2048.size (by sl_kernel_rfl),
    View.cover_of_tiledL _ S1x2048.size (by sl_kernel_rfl), View.cover_of_tiledL _ S1x2048.size (by sl_kernel_rfl)⟩

theorem later_covers (c : Dev nD) (t : Fin cfg0.N) (h : 1 ≤ t.val) (g b : Vec F S1x2048 .f32) :
    (∀ y, ∃ p ∈ (laterRun m c t h g b).1, y ∈ p.1.set) ∧ (∀ y, ∃ p ∈ (laterRun m c t h g b).2.1, y ∈ p.1.set)
      ∧ (∀ y, ∃ p ∈ (laterRun m c t h g b).2.2.1, y ∈ p.1.set) ∧ ∀ y, ∃ p ∈ (laterRun m c t h g b).2.2.2.1, y ∈ p.1.set :=
  ⟨View.cover_of_tiledL _ S256x2048.size (by sl_kernel_rfl), View.cover_of_tiledL _ S256x2048.size (by sl_kernel_rfl),
    View.cover_of_tiledL _ S1x2048.size (by sl_kernel_rfl), View.cover_of_tiledL _ S1x2048.size (by sl_kernel_rfl)⟩

/-- What the outputs' buffers hold after a run. -/
abbrev Held (F : FTy → Type) : Type := Vec F S256x2048 .f32 × Vec F S256x2048 .bf16 × Vec F S1x2048 .f32 × Vec F S1x2048 .f32

def firstHeld (c : Dev nD) (t : Fin cfg0.N) (h : t.val = 0) : Held F :=
  (View.canon (firstRun m c t h).1, View.canon (firstRun m c t h).2.1, View.canon (firstRun m c t h).2.2.1, View.canon (firstRun m c t h).2.2.2.1)

def laterHeld (c : Dev nD) (t : Fin cfg0.N) (h : 1 ≤ t.val) (o : Held F) : Held F :=
  (View.canon (laterRun m c t h o.2.2.1 o.2.2.2).1, View.canon (laterRun m c t h o.2.2.1 o.2.2.2).2.1,
    View.canon (laterRun m c t h o.2.2.1 o.2.2.2).2.2.1, View.canon (laterRun m c t h o.2.2.1 o.2.2.2).2.2.2.1)

/-- So what they hold after each point. -/
def outs (c : Dev nD) : (n : ℕ) → n < cfg0.N → Held F
  | 0, hn => firstHeld m c ⟨0, hn⟩ rfl
  | n + 1, hn => laterHeld m c ⟨n + 1, hn⟩ (Nat.succ_le_succ (Nat.zero_le n)) (outs c n (Nat.lt_of_succ_lt hn))

/-- The point before. -/
theorem before_lt (t : Fin cfg0.N) : t.val - 1 < cfg0.N := lt_of_le_of_lt (Nat.sub_le _ _) t.isLt

theorem outs_first (c : Dev nD) (t : Fin cfg0.N) (h : t.val = 0) : outs m c t.val t.isLt = firstHeld m c t h := by
  obtain ⟨n, hn⟩ := t
  obtain rfl : n = 0 := h
  rfl

theorem outs_later (c : Dev nD) (t : Fin cfg0.N) (h : 1 ≤ t.val) : outs m c t.val t.isLt = laterHeld m c t h (outs m c (t.val - 1) (before_lt t)) := by
  obtain ⟨n, hn⟩ := t
  cases n with
  | zero => exact absurd h (Nat.not_succ_le_zero 0)
  | succ n => rfl

/-- The pipeline's arrays and buffers: the inputs' buffers hold their blocks throughout. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outs m c t.val t.isLt).1
    | ⟨8, _⟩ => (outs m c t.val t.isLt).2.1
    | ⟨9, _⟩ => (outs m c t.val t.isLt).2.2.1
    | ⟨10, _⟩ => (outs m c t.val t.isLt).2.2.2
  Φ _ := Pipeline.ΦA spec0 c
  q w := Pipeline.shareOf spec0 w
  owed _ := 0

theorem arrays (c : Dev nD) (w : Fin cfg0.W) : (dats m 0 c).A w = V m c (Pipeline.arrRef spec0 w) := by
  dsimp only [dats]

section Point
variable (c : Dev nD) (t : Fin cfg0.N)

/-- Each input's buffer holds its block before the body. -/
theorem before_in : (∀ d, (dats m 0 c).before 0 t d = iblk m c 0 t) ∧ (∀ d, (dats m 0 c).before 1 t d = iblk m c 1 t)
    ∧ (∀ d, (dats m 0 c).before 2 t d = iblk m c 2 t) ∧ (∀ d, (dats m 0 c).before 3 t d = iblk m c 3 t) ∧ (∀ d, (dats m 0 c).before 4 t d = iblk m c 4 t)
    ∧ (∀ d, (dats m 0 c).before 5 t d = iblk m c 5 t) ∧ ∀ d, (dats m 0 c).before 6 t d = iblk m c 6 t :=
  ⟨before0_0_of m (dats m 0 c) (arrays m c 0) (fun _ => rfl) t, before0_1_of m (dats m 0 c) (arrays m c 1) (fun _ => rfl) t,
    before0_2_of m (dats m 0 c) (arrays m c 2) (fun _ => rfl) t, before0_3_of m (dats m 0 c) (arrays m c 3) (fun _ => rfl) t,
    before0_4_of m (dats m 0 c) (arrays m c 4) (fun _ => rfl) t, before0_5_of m (dats m 0 c) (arrays m c 5) (fun _ => rfl) t,
    before0_6_of m (dats m 0 c) (arrays m c 6) (fun _ => rfl) t⟩

/-- Every point stores into the sums' buffers, -/
theorem live : cfg0.idle 9 (grid0.coords t) = false ∧ cfg0.idle 10 (grid0.coords t) = false := by
  rcases Nat.eq_zero_or_pos t.val with h | h
  · obtain ⟨h0, h1, h2, h3⟩ := at_first t h
    exact ⟨liveAt0_9_A t h0 h1 h2 h3, liveAt0_10_A t h0 h1 h2 h3⟩
  · obtain ⟨h0, h1, h2, h3⟩ := at_later t h
    exact ⟨liveAt0_9_B t h0 h1 h2 h3, liveAt0_10_B t h0 h1 h2 h3⟩

/-- so a later point finds there what the point before left. -/
theorem before_later (h : 1 ≤ t.val) : (∀ d, (dats m 0 c).before 9 t d = (outs m c (t.val - 1) (before_lt t)).2.2.1)
    ∧ ∀ d, (dats m 0 c).before 10 t d = (outs m c (t.val - 1) (before_lt t)).2.2.2 := by
  obtain ⟨h0, h1, h2, h3⟩ := at_later t h
  constructor <;> intro d
  · rw [Dat.before_out_traj _ 9 rfl (fun _ _ => rfl) (fun t _ hi _ => absurd (hi.symm.trans (live t).1) (by decide)) t.val t rfl d,
      if_neg (by rw [notFresh0_9_B t h0 h1 h2 h3]; exact Bool.false_ne_true)]
    dsimp only [dats]
  · rw [Dat.before_out_traj _ 10 rfl (fun _ _ => rfl) (fun t _ hi _ => absurd (hi.symm.trans (live t).2) (by decide)) t.val t rfl d,
      if_neg (by rw [notFresh0_10_B t h0 h1 h2 h3]; exact Bool.false_ne_true)]
    dsimp only [dats]

/-- What the body is called with, -/
def bodyPre : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- what it leaves, -/
def bodyPost : sProp (MT nD τ sig Unit (Elt F) ℕ (UR sig nD τ) ℕ) :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t
    ∗ (dats m 0 c).leavesExact 8 t ∗ (dats m 0 c).leavesExact 9 t ∗ (dats m 0 c).leavesExact 10 t)

/-- and that by a buffer where the body stores into it. -/
theorem leaves (w : Fin cfg0.W) (h : cfg0.idle w (grid0.coords t) = false) :
    (dats m 0 c).leavesExact w t = owns (c : Thread nD τ) ((cfg0.win w).stage (cfg0.slots t w)) fullShare ((dats m 0 c).after w t) := by
  unfold Dat.leavesExact
  rw [h]

set_option maxHeartbeats 1600000 in
/-- The body's triple, of a run that leaves the outputs' buffers with `L7` to `L10` stored and needs `P9` and `P10` of the sums' buffers. -/
theorem body_of {L7 : List (View.Piece (Elt F) S256x2048 .f32)} {L8 : List (View.Piece (Elt F) S256x2048 .bf16)} {L9 L10 : List (View.Piece (Elt F) S1x2048 .f32)}
    {P9 P10 : sProp (MT nD τ sig Unit (Elt F) ℕ (UR sig nD τ) ℕ)}
    (h9 : ∀ d, owns (c : Thread nD τ) (ms0_9 t) fullShare ((dats m 0 c).before 9 t d) ⊢ P9)
    (h10 : ∀ d, owns (c : Thread nD τ) (ms0_10 t) fullShare ((dats m 0 c).before 10 t d) ⊢ P10)
    (run : ∀ (E : Set ℕ) (K : PUnit → sProp (MT nD τ sig Unit (Elt F) ℕ (UR sig nD τ) ℕ)),
      iprop(owns (c : Thread nD τ) (ms0_0 t) fullShare (iblk m c 0 t) ∗ owns (c : Thread nD τ) (ms0_1 t) fullShare (iblk m c 1 t)
          ∗ owns (c : Thread nD τ) (ms0_2 t) fullShare (iblk m c 2 t) ∗ owns (c : Thread nD τ) (ms0_3 t) fullShare (iblk m c 3 t)
          ∗ owns (c : Thread nD τ) (ms0_4 t) fullShare (iblk m c 4 t) ∗ owns (c : Thread nD τ) (ms0_5 t) fullShare (iblk m c 5 t)
          ∗ owns (c : Thread nD τ) (ms0_6 t) fullShare (iblk m c 6 t) ∗ (∃ d, owns (c : Thread nD τ) (ms0_7 t) fullShare d)
          ∗ (∃ d, owns (c : Thread nD τ) (ms0_8 t) fullShare d) ∗ P9 ∗ P10
          ∗ (iprop(owns (c : Thread nD τ) (ms0_0 t) fullShare (iblk m c 0 t) ∗ owns (c : Thread nD τ) (ms0_1 t) fullShare (iblk m c 1 t)
            ∗ owns (c : Thread nD τ) (ms0_2 t) fullShare (iblk m c 2 t) ∗ owns (c : Thread nD τ) (ms0_3 t) fullShare (iblk m c 3 t)
            ∗ owns (c : Thread nD τ) (ms0_4 t) fullShare (iblk m c 4 t) ∗ owns (c : Thread nD τ) (ms0_5 t) fullShare (iblk m c 5 t)
            ∗ owns (c : Thread nD τ) (ms0_6 t) fullShare (iblk m c 6 t)
            ∗ (∃ f, (ms0_7 t).view.loc (c : Thread nD τ) ↦[(ms0_7 t).view.set]{fullShare} (ms0_7 t).view.writes (Elt F) f L7)
            ∗ (∃ f, (ms0_8 t).view.loc (c : Thread nD τ) ↦[(ms0_8 t).view.set]{fullShare} (ms0_8 t).view.writes (Elt F) f L8)
            ∗ (∃ f, (ms0_9 t).view.loc (c : Thread nD τ) ↦[(ms0_9 t).view.set]{fullShare} (ms0_9 t).view.writes (Elt F) f L9)
            ∗ (∃ f, (ms0_10 t).view.loc (c : Thread nD τ) ↦[(ms0_10 t).view.set]{fullShare} (ms0_10 t).view.writes (Elt F) f L10)) -∗ K ⟨⟩))
        ⊢ wp frame (wpE (defs₀ (F := F)) Variants.none c none) E (bodyAt0 t) K)
    (c7 : ∀ y, ∃ p ∈ L7, y ∈ p.1.set) (c8 : ∀ y, ∃ p ∈ L8, y ∈ p.1.set) (c9 : ∀ y, ∃ p ∈ L9, y ∈ p.1.set) (c10 : ∀ y, ∃ p ∈ L10, y ∈ p.1.set)
    (o : outs m c t.val t.isLt = (View.canon L7, View.canon L8, View.canon L9, View.canon L10)) :
    bodyPre m c t ⊢ wp frame (wpE (defs₀ (F := F)) Variants.none c none) Set.univ (bodyAt0 t) (fun _ => bodyPost m c t) := by
  obtain ⟨b0, b1, b2, b3, b4, b5, b6⟩ := before_in m c t
  unfold bodyPre bodyPost
  simp only [b0, b1, b2, b3, b4, b5, b6]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (ms0_0 t) fullShare (iblk m c 0 t) from leaves m c t 0 (liveAt0_0 t),
    show (dats m 0 c).leavesExact 1 t = owns (c : Thread nD τ) (ms0_1 t) fullShare (iblk m c 1 t) from leaves m c t 1 (liveAt0_1 t),
    show (dats m 0 c).leavesExact 2 t = owns (c : Thread nD τ) (ms0_2 t) fullShare (iblk m c 2 t) from leaves m c t 2 (liveAt0_2 t),
    show (dats m 0 c).leavesExact 3 t = owns (c : Thread nD τ) (ms0_3 t) fullShare (iblk m c 3 t) from leaves m c t 3 (liveAt0_3 t),
    show (dats m 0 c).leavesExact 4 t = owns (c : Thread nD τ) (ms0_4 t) fullShare (iblk m c 4 t) from leaves m c t 4 (liveAt0_4 t),
    show (dats m 0 c).leavesExact 5 t = owns (c : Thread nD τ) (ms0_5 t) fullShare (iblk m c 5 t) from leaves m c t 5 (liveAt0_5 t),
    show (dats m 0 c).leavesExact 6 t = owns (c : Thread nD τ) (ms0_6 t) fullShare (iblk m c 6 t) from leaves m c t 6 (liveAt0_6 t),
    show (dats m 0 c).leavesExact 7 t = owns (c : Thread nD τ) (ms0_7 t) fullShare (outs m c t.val t.isLt).1 from leaves m c t 7 (liveAt0_7 t),
    show (dats m 0 c).leavesExact 8 t = owns (c : Thread nD τ) (ms0_8 t) fullShare (outs m c t.val t.isLt).2.1 from leaves m c t 8 (liveAt0_8 t),
    show (dats m 0 c).leavesExact 9 t = owns (c : Thread nD τ) (ms0_9 t) fullShare (outs m c t.val t.isLt).2.2.1 from leaves m c t 9 (live t).1,
    show (dats m 0 c).leavesExact 10 t = owns (c : Thread nD τ) (ms0_10 t) fullShare (outs m c t.val t.isLt).2.2.2 from leaves m c t 10 (live t).2, o]
  dsimp only
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iapply (h9 _); iexact H9
  isplitl [H10]; · iapply (h10 _); iexact H10
  iintro ⟨H0, H1, H2, H3, H4, H5, H6, ⟨%e7, H7⟩, ⟨%e8, H8⟩, ⟨%e9, H9⟩, ⟨%e10, H10⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_eq_canon _ _ _ c7
  isplitl [H8]
  · unfold owns; iexists _; isplitr
    swap; · iexact H8
    ipureintro; exact View.read_writes_eq_canon _ _ _ c8
  isplitl [H9]
  · unfold owns; iexists _; isplitr
    swap; · iexact H9
    ipureintro; exact View.read_writes_eq_canon _ _ _ c9
  unfold owns; iexists _; isplitr
  swap; · iexact H10
  ipureintro; exact View.read_writes_eq_canon _ _ _ c10

theorem some_contents (r : Memref sig .tc .vmem S1x2048 .f32) (v : Vec F S1x2048 .f32) :
    (owns (c : Thread nD τ) r fullShare v : sProp (MT nD τ sig Unit (Elt F) ℕ (UR sig nD τ) ℕ)) ⊢ iprop(∃ d, owns (c : Thread nD τ) r fullShare d) := by
  iintro H
  iexists _
  iexact H

/-- The body at any point. -/
theorem body : bodyPre m c t ⊢ wp frame (wpE (defs₀ (F := F)) Variants.none c none) Set.univ (bodyAt0 t) (fun _ => bodyPost m c t) := by
  rcases Nat.eq_zero_or_pos t.val with h | h
  · obtain ⟨c7, c8, c9, c10⟩ := first_covers m c t h
    exact body_of m c t (fun d => some_contents c _ _) (fun d => some_contents c _ _) (firstRun m c t h).2.2.2.2 c7 c8 c9 c10 (outs_first m c t h)
  · obtain ⟨b9, b10⟩ := before_later m c t h
    obtain ⟨c7, c8, c9, c10⟩ := later_covers m c t h (outs m c (t.val - 1) (before_lt t)).2.2.1 (outs m c (t.val - 1) (before_lt t)).2.2.2
    exact body_of m c t (fun d => by rw [b9]) (fun d => by rw [b10]) (laterRun m c t h _ _).2.2.2.2 c7 c8 c9 c10 (outs_later m c t h)

end Point

theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (body m c t) rfl .rfl fun _ => .rfl

set_option backward.isDefEq.respectTransparency.types false in
/-- The run, with the arrays it leaves, and the counters it leaves at zero. -/
theorem run_main : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := arrays m) (hΦ := fun _ _ => rfl)

/-- The arguments end as they were. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (arrays m) ((θ_run defs _ _).mono (fun _ h => h.1) (run_main m ρ))) ((θ_run defs _ _).mono (fun _ h => h.2) (run_main m ρ))

/-- What a point writes back is what its buffer holds, -/
theorem flushed (c : Dev nD) (t : Fin cfg0.N) : (dats m 0 c).flushed 7 t = (cfg0.win 7).cut (grid0.coords t) (outs m c t.val t.isLt).1
    ∧ (dats m 0 c).flushed 8 t = (cfg0.win 8).cut (grid0.coords t) (outs m c t.val t.isLt).2.1
    ∧ (dats m 0 c).flushed 9 t = (cfg0.win 9).cut (grid0.coords t) (outs m c t.val t.isLt).2.2.1
    ∧ (dats m 0 c).flushed 10 t = (cfg0.win 10).cut (grid0.coords t) (outs m c t.val t.isLt).2.2.2 := ⟨rfl, rfl, rfl, rfl⟩

/-- and the results are the arrays written back. -/
theorem run_results : θ_run defs (onTc (τ := τ) (main (F := F))) ⟨m, fun _ => 0, ρ⟩ fun r => ∀ c : Dev nD,
      r.2.mem ((c : Thread nD τ).loc main_v0_0) = (dats m 0 c).arrAt 7 cfg0.N
      ∧ r.2.mem ((c : Thread nD τ).loc main_v0_1) = (dats m 0 c).arrAt 8 cfg0.N
      ∧ r.2.mem ((c : Thread nD τ).loc main_v0_2) = (dats m 0 c).arrAt 9 cfg0.N
      ∧ r.2.mem ((c : Thread nD τ).loc main_v0_3) = (dats m 0 c).arrAt 10 cfg0.N :=
  (θ_run defs _ _).mono (fun _ h c => ⟨(h.1 c).1 7, (h.1 c).1 8, (h.1 c).1 9, (h.1 c).1 10⟩) (run_main m ρ)

end Cert.Proof.Dgate

end
-- ==== Proof.Dgate.lean ====
/- The gradient of the state-space layer's gate and norm.  The sum of the two directions and of the skip goes through the
   gate, and the rows after the context through a root-mean-square norm: each point writes the gradients of its rows, of the
   sum and of the gate's input, and adds its rows' sums to the gradients of the norm's scale and of the skip's factor, which
   the last point writes out.

   The first point has the context's rows: the kernel sets what it has computed of them to zero, the reference pads the
   norm's gradient with zeros.  The norm's gradient is in two forms (`Rms`) and so is the gate's (`Logistic`); those of the
   gate agree where what the norm receives is finite, which is the precondition. -/
module

public import proofs.«01_k».proof.Defs
public import proofs.«01_k».proof.Proof.Product
public import proofs.«01_k».proof.Proof.Logistic
public import proofs.«01_k».proof.Proof.Rms
public import proofs.«01_k».proof.Proof.DgateRun
public import proofs.«01_k».proof.Proof.Gen.Dgate
public import proofs.«01_k».proof.Proof.Gen.DgateRefIdeal.Run
public import Idealize.ShloMosaic.Lib.Tactic
public import Idealize.ShloMosaic.Lib.IdealHost
public import Idealize.ShloMosaic.Lib.KernelVsHost
public import Idealize.ShloMosaic.Adequacy
public import Idealize.ShloMosaic.Init

@[expose] public section

set_option maxRecDepth 16384

noncomputable section

namespace Cert.Proof.Dgate

open Idealize.ShloMosaic Idealize.ShloMosaic.TcCoe Idealize.ShloMosaic.Tactic Idealize.SL.Sem
open Cert.DgateIdeal Cert.DgateIdeal.Gen
open scoped BigOperators

/-- Row `r` of an array. -/
abbrev row {n : ℕ} (x : (⟨2, ![n, 2048]⟩ : Shape).Idx → EReal) (r : Fin n) : Fin 2048 → EReal := fun k => x (ix2 r k)

/-- The row's width, as both programs write it. -/
abbrev width : EReal := Ideal.ofBits .f32 0x45000000#32

/-- A row `t` through the gate of `z`, -/
def gated (t z : Fin 2048 → EReal) (k : Fin 2048) : EReal := t k * (z k * logit (z k))

/-- what the normed row receives, of the gradient `d` of the scaled one and the scale `w`, -/
def carried (d w : Fin 2048 → EReal) (k : Fin 2048) : EReal := d k * w k

/-- what is kept of a row, or zero, -/
def keep (b : BitVec 1) (v : EReal) : EReal := Scalar.select b v 0

/-- and what the gated row receives of the norm. -/
def entry (b : BitVec 1) (t z d w : Fin 2048 → EReal) (k : Fin 2048) : EReal := keep b (Rms.back width (gated t z) (carried d w) k)

theorem keep_zero (v : EReal) : keep 0#1 v = 0 := rfl

theorem keep_mul (b : BitVec 1) (v u : EReal) : keep b (v * u) = keep b v * u := by
  unfold keep
  rcases BitVec.eq_zero_or_eq_one b with rfl | rfl
  · exact (zero_mul u).symm
  · rfl

theorem keep_sum {n : ℕ} (b : BitVec 1) (f : Fin n → EReal) : keep b (∑ r, f r) = ∑ r, keep b (f r) := by
  unfold keep
  rcases BitVec.eq_zero_or_eq_one b with rfl | rfl
  · exact Finset.sum_const_zero.symm
  · rfl

theorem keep_keep (b : BitVec 1) (v : EReal) : keep b (keep b v) = keep b v := by
  unfold keep
  rcases BitVec.eq_zero_or_eq_one b with rfl | rfl <;> rfl

/-- Whether a point's rows come after the context. -/
abbrev kind (i : grid0.Coords) : BitVec 1 := Scalar.cmpi .sge (BitVec.ofNat 32 (i 0).val) 1#32

section Payload

variable (i : grid0.Coords) (d : Vec Ideal S256x2048 .f32) (y y' : Vec Ideal S1x256x2048 .f32) (x z : Vec Ideal S256x2048 .bf16) (s w : Vec Ideal S1x2048 .f32)

/-- Row `r` of the sum, -/
def total (r : Fin 256) (k : Fin 2048) : EReal := y (ix3 0 r k) + y' (ix3 0 r k) + s (ix2 0 k) * x (ix2 r k)

theorem total_at (r : Fin 256) (k : Fin 2048) : k0_pay9 y y' x s (ix2 r k) = total y y' x s r k := by
  unfold k0_pay9 k0_pay7 total
  simp only [pointwise]
  rfl

theorem silu_at (r : Fin 256) (k : Fin 2048) : k0_pay10 z (ix2 r k) = z (ix2 r k) * logit (z (ix2 r k)) := by
  unfold k0_pay10 k0_pay8
  simp only [pointwise, zero_sub, Ideal.ofBits_one_f32]
  rfl

/-- through the gate, -/
theorem gated_at (r : Fin 256) (k : Fin 2048) : k0_pay11 y y' x z s (ix2 r k) = gated (total y y' x s r) (row z r) k := by
  unfold gated
  rw [← total_at, ← silu_at]
  rfl

theorem inv_at (r : Fin 256) (j : Fin 1) : k0_pay12 y y' x z s (ix2 r j) = Rms.inv width (gated (total y y' x s r) (row z r)) := by
  unfold k0_pay12 Rms.inv Rms.spread
  simp only [← gated_at]
  generalize k0_pay11 y y' x z s = v
  simp only [pointwise, zero_add]

theorem carried_at (r : Fin 256) (k : Fin 2048) : k0_pay13 d w (ix2 r k) = carried (row d r) (row w 0) k := by
  unfold k0_pay13 carried
  simp only [pointwise]
  rfl

/-- and the norm's gradient. -/
theorem back_at (r : Fin 256) (k : Fin 2048) :
    k0_pay15 (k0_pay11 y y' x z s) (k0_pay12 y y' x z s) (k0_pay13 d w) (k0_pay14 y y' x z s) (ix2 r k)
      = Rms.back width (gated (total y y' x s r) (row z r)) (carried (row d r) (row w 0)) k := by
  unfold Rms.back
  rw [← inv_at y y' x z s r 0, mul_assoc (gated _ _ k), mul_comm (k0_pay12 y y' x z s (ix2 r 0)) (k0_pay12 y y' x z s (ix2 r 0) * k0_pay12 y y' x z s (ix2 r 0))]
  simp only [← gated_at, ← carried_at]
  unfold k0_pay15 k0_pay14
  generalize k0_pay11 y y' x z s = v
  generalize k0_pay12 y y' x z s = u
  generalize k0_pay13 d w = e
  simp only [pointwise, zero_add]
  rfl

/-- The gradient of the sum, -/
abbrev sumGrads : FVec Ideal S256x2048 .f32 :=
  k0_pay16 (kind i) (k0_pay10 z) (k0_pay11 y y' x z s) (k0_pay12 y y' x z s) (k0_pay13 d w) (k0_pay14 y y' x z s)

theorem sum_at (r : Fin 256) (k : Fin 2048) :
    sumGrads i d y y' x z s w (ix2 r k) = entry (kind i) (total y y' x s r) (row z r) (row d r) (row w 0) k * (z (ix2 r k) * logit (z (ix2 r k))) := by
  unfold entry
  rw [← back_at, ← silu_at, ← keep_mul]
  unfold sumGrads k0_pay16 keep
  generalize k0_pay15 (k0_pay11 y y' x z s) (k0_pay12 y y' x z s) (k0_pay13 d w) (k0_pay14 y y' x z s) = v
  generalize k0_pay10 z = u
  generalize kind i = b
  rcases BitVec.eq_zero_or_eq_one b with rfl | rfl
  · rw [ValueIdx.select_zero, ValueIdx.select_zero]; simp only [pointwise]
  · rw [ValueIdx.select_one, ValueIdx.select_one]; rfl

/-- of the gate's input, -/
theorem gate_at (r : Fin 256) (k : Fin 2048) :
    k0_pay17 (k0_pay8 z) (kind i) (k0_pay9 y y' x s) (k0_pay11 y y' x z s) (k0_pay12 y y' x z s) (k0_pay13 d w) (k0_pay14 y y' x z s) (ix2 r k)
      = grad (z (ix2 r k)) (entry (kind i) (total y y' x s r) (row z r) (row d r) (row w 0) k * total y y' x s r k) := by
  unfold entry grad
  rw [← back_at, ← total_at, ← keep_mul, ← keep_mul]
  unfold k0_pay17 k0_pay8 keep
  generalize k0_pay15 (k0_pay11 y y' x z s) (k0_pay12 y y' x z s) (k0_pay13 d w) (k0_pay14 y y' x z s) = v
  generalize k0_pay9 y y' x s = u
  generalize kind i = b
  rcases BitVec.eq_zero_or_eq_one b with rfl | rfl
  · dsimp only
    rw [ValueIdx.select_zero, ValueIdx.select_zero]; simp only [pointwise]
  · dsimp only
    rw [ValueIdx.select_one, ValueIdx.select_one]
    simp only [pointwise, zero_sub, Ideal.ofBits_one_f32]
    rfl

/-- and the columns' sums: the gradients of the norm's scale -/
theorem scale_at (k : Fin 2048) :
    k0_pay18 d (kind i) (k0_pay11 y y' x z s) (k0_pay12 y y' x z s) (ix2 (0 : Fin 1) k)
      = ∑ r : Fin 256, keep (kind i) (d (ix2 r k) * gated (total y y' x s r) (row z r) k * Rms.inv width (gated (total y y' x s r) (row z r))) := by
  rw [← keep_sum]
  simp only [← inv_at y y' x z s _ 0, ← gated_at]
  unfold k0_pay18 keep
  generalize k0_pay11 y y' x z s = v
  generalize k0_pay12 y y' x z s = u
  generalize kind i = b
  rcases BitVec.eq_zero_or_eq_one b with rfl | rfl
  · dsimp only
    rw [ValueIdx.select_zero, ValueIdx.select_zero]; simp only [pointwise]
  · dsimp only
    rw [ValueIdx.select_one, ValueIdx.select_one]
    simp only [pointwise, zero_add]
    rfl

/-- and of the skip's factor. -/
theorem skip_at (k : Fin 2048) :
    k0_pay19 (k0_pay7 x) (kind i) (k0_pay10 z) (k0_pay11 y y' x z s) (k0_pay12 y y' x z s) (k0_pay13 d w) (k0_pay14 y y' x z s) (ix2 (0 : Fin 1) k)
      = ∑ r : Fin 256, sumGrads i d y y' x z s w (ix2 r k) * x (ix2 r k) := by
  rw [Finset.sum_congr rfl fun r _ => show _ = keep (kind i) (sumGrads i d y y' x z s w (ix2 r k) * x (ix2 r k)) by
    rw [keep_mul, sum_at, keep_mul, entry, keep_keep]]
  rw [← keep_sum]
  unfold k0_pay19 keep sumGrads k0_pay7
  generalize k0_pay16 (kind i) (k0_pay10 z) (k0_pay11 y y' x z s) (k0_pay12 y y' x z s) (k0_pay13 d w) (k0_pay14 y y' x z s) = v
  generalize kind i = b
  rcases BitVec.eq_zero_or_eq_one b with rfl | rfl
  · dsimp only
    rw [ValueIdx.select_zero, ValueIdx.select_zero]; simp only [pointwise]
  · dsimp only
    rw [ValueIdx.select_one, ValueIdx.select_one]
    simp only [pointwise, zero_add]

end Payload

variable (m : (ℓ : Loc nD τ sig) → Buf (Elt Ideal) ℓ)

theorem zero3 : (![0, 0, 0] : Fin 3 → ℕ) = fun _ => 0 := by decide

section Points
variable (c : Dev nD) (t : Fin cfg0.N)

/-- What a point reads. -/
abbrev dAt : Vec Ideal S256x2048 .f32 := iblk m c 0 t
abbrev yAt : Vec Ideal S1x256x2048 .f32 := iblk m c 1 t
abbrev backAt : Vec Ideal S1x256x2048 .f32 := iblk m c 2 t
abbrev xAt : Vec Ideal S256x2048 .bf16 := iblk m c 3 t
abbrev zAt : Vec Ideal S256x2048 .bf16 := iblk m c 4 t
abbrev sAt : Vec Ideal S1x2048 .f32 := iblk m c 5 t
abbrev wAt : Vec Ideal S1x2048 .f32 := iblk m c 6 t

/-- What it computes: the gradients of the sum and of the gate's input, -/
abbrev sumAt : FVec Ideal S256x2048 .f32 :=
  sumGrads (grid0.coords t) (dAt m c t) (yAt m c t) (backAt m c t) (xAt m c t) (zAt m c t) (sAt m c t) (wAt m c t)
abbrev gateAt : FVec Ideal S256x2048 .f32 :=
  k0_pay17 (k0_pay8 (zAt m c t)) (kind (grid0.coords t)) (k0_pay9 (yAt m c t) (backAt m c t) (xAt m c t) (sAt m c t))
    (k0_pay11 (yAt m c t) (backAt m c t) (xAt m c t) (zAt m c t) (sAt m c t)) (k0_pay12 (yAt m c t) (backAt m c t) (xAt m c t) (zAt m c t) (sAt m c t))
    (k0_pay13 (dAt m c t) (wAt m c t)) (k0_pay14 (yAt m c t) (backAt m c t) (xAt m c t) (zAt m c t) (sAt m c t))

/-- and its columns' sums. -/
abbrev scaleAt : FVec Ideal S1x2048 .f32 :=
  k0_pay18 (dAt m c t) (kind (grid0.coords t)) (k0_pay11 (yAt m c t) (backAt m c t) (xAt m c t) (zAt m c t) (sAt m c t))
    (k0_pay12 (yAt m c t) (backAt m c t) (xAt m c t) (zAt m c t) (sAt m c t))
abbrev skipAt : FVec Ideal S1x2048 .f32 :=
  k0_pay19 (k0_pay7 (xAt m c t)) (kind (grid0.coords t)) (k0_pay10 (zAt m c t)) (k0_pay11 (yAt m c t) (backAt m c t) (xAt m c t) (zAt m c t) (sAt m c t))
    (k0_pay12 (yAt m c t) (backAt m c t) (xAt m c t) (zAt m c t) (sAt m c t)) (k0_pay13 (dAt m c t) (wAt m c t))
    (k0_pay14 (yAt m c t) (backAt m c t) (xAt m c t) (zAt m c t) (sAt m c t))

/-- The first point writes the gradients of its rows, and starts the sums; -/
theorem first (h : t.val = 0) : outs m c t.val t.isLt = (sumAt m c t, gateAt m c t, scaleAt m c t, skipAt m c t) := by
  rw [outs_first m c t h]
  unfold firstHeld firstRun
  refine congrArg₂ Prod.mk ?_ (congrArg₂ Prod.mk ?_ (congrArg₂ Prod.mk ?_ ?_)) <;>
  · unfold kernelRun0_A
    dsimp only
    sl_unfold_words
    rw [View.canon_unit_zero zero2]
    simp only [View.readAt_eq_ld, (hs0_0 t).read_unread, (hs0_1 t).read_unread, (hs0_2 t).read_unread, (hs0_3 t).read_unread, (hs0_4 t).read_unread,
      (hs0_5 t).read_unread, (hs0_6 t).read_unread,
      View.ld_unit_zero (S := S256x2048) zero2, View.ld_unit_zero (S := S1x2048) zero2, View.ld_unit_zero (S := S1x256x2048) zero3]
    first | exact shapeCast_self _ _ | rfl

/-- every later one writes those of its rows, and adds to the sums. -/
theorem later (h : 1 ≤ t.val) (o : Held Ideal) :
    laterHeld m c t h o = (sumAt m c t, gateAt m c t, k0_pay4 (scaleAt m c t) o.2.2.1, k0_pay6 (skipAt m c t) o.2.2.2) := by
  unfold laterHeld laterRun
  refine congrArg₂ Prod.mk ?_ (congrArg₂ Prod.mk ?_ (congrArg₂ Prod.mk ?_ ?_)) <;>
  · unfold kernelRun0_B
    dsimp only
    sl_unfold_words
    rw [View.canon_unit_zero zero2]
    simp only [View.readAt_eq_ld, (hs0_0 t).read_unread, (hs0_1 t).read_unread, (hs0_2 t).read_unread, (hs0_3 t).read_unread, (hs0_4 t).read_unread,
      (hs0_5 t).read_unread, (hs0_6 t).read_unread, (hs0_9 t).read_unread, (hs0_10 t).read_unread,
      View.ld_unit_zero (S := S256x2048) zero2, View.ld_unit_zero (S := S1x2048) zero2, View.ld_unit_zero (S := S1x256x2048) zero3] <;>
    first | exact shapeCast_self _ _ | rfl

/-- Either way, the gradients that a point writes. -/
theorem written : (outs m c t.val t.isLt).1 = sumAt m c t ∧ (outs m c t.val t.isLt).2.1 = gateAt m c t := by
  rcases Nat.eq_zero_or_pos t.val with h | h
  · rw [first m c t h]; exact ⟨rfl, rfl⟩
  · rw [outs_later m c t h, later m c t h]; exact ⟨rfl, rfl⟩

end Points

theorem next (c : Dev nD) (n : ℕ) (h : n + 1 < cfg0.N) : outs m c (n + 1) h
    = (sumAt m c ⟨n + 1, h⟩, gateAt m c ⟨n + 1, h⟩, k0_pay4 (scaleAt m c ⟨n + 1, h⟩) (outs m c n (Nat.lt_of_succ_lt h)).2.2.1,
      k0_pay6 (skipAt m c ⟨n + 1, h⟩) (outs m c n (Nat.lt_of_succ_lt h)).2.2.2) := by
  rw [outs]
  exact later ..

/-- The arguments. -/
abbrev outer (c : Dev nD) : Vec Ideal S4096x2048 .f32 := m ((c : Thread nD τ).loc main_arg0)
abbrev ways (c : Dev nD) : Vec Ideal S2x4352x2048 .f32 := m ((c : Thread nD τ).loc main_arg1)
abbrev skipped (c : Dev nD) : Vec Ideal S4352x4096 .bf16 := m ((c : Thread nD τ).loc main_arg2)
abbrev gate (c : Dev nD) : Vec Ideal S4352x2048 .bf16 := m ((c : Thread nD τ).loc main_arg3)
abbrev factor (c : Dev nD) : Vec Ideal S1x2048 .f32 := m ((c : Thread nD τ).loc main_arg4)
abbrev scale (c : Dev nD) : Vec Ideal S1x2048 .f32 := m ((c : Thread nD τ).loc main_arg5)

/-- Whether a row comes after the context, -/
def late (i : Fin 4352) : BitVec 1 := if i.val < 256 then 0#1 else 1#1

/-- the row's place among those that do, or, before, the one that the first point reads, -/
def below (i : Fin 4352) : Fin 4096 := ⟨if i.val < 256 then i.val else i.val - 256, by split <;> omega⟩

/-- and a column's among the wider rows of what is skipped. -/
def wide (k : Fin 2048) : Fin 4096 := ⟨k.val, by omega⟩

section Whole
variable (d : Vec Ideal S4096x2048 .f32) (y : Vec Ideal S2x4352x2048 .f32) (x : Vec Ideal S4352x4096 .bf16) (z : Vec Ideal S4352x2048 .bf16) (s w : Vec Ideal S1x2048 .f32)

/-- Row `i` of the sum, -/
def sums (i : Fin 4352) (k : Fin 2048) : EReal := y (ix3 0 i k) + y (ix3 1 i k) + s (ix2 0 k) * x (ix2 i (wide k))

/-- and what it receives, gated, of the norm. -/
def received (i : Fin 4352) (k : Fin 2048) : EReal := entry (late i) (sums y x s i) (row z i) (row d (below i)) (row w 0) k

/-- The gradients of the sum, of the gate's input, of the norm's scale and of the skip's factor. -/
def sumGrad : Vec Ideal S4352x2048 .f32 := fun j => received d y x z s w (j 0) (j 1) * (z (ix2 (j 0) (j 1)) * logit (z (ix2 (j 0) (j 1))))
def gateGrad : Vec Ideal S4352x2048 .bf16 := fun j => grad (z (ix2 (j 0) (j 1))) (received d y x z s w (j 0) (j 1) * sums y x s (j 0) (j 1))
def scaleGrad : Vec Ideal S1x2048 .f32 := fun j =>
  ∑ i : Fin 4352, keep (late i) (d (ix2 (below i) (j 1)) * gated (sums y x s i) (row z i) (j 1) * Rms.inv width (gated (sums y x s i) (row z i)))
def skipGrad : Vec Ideal S1x2048 .f32 := fun j =>
  ∑ i : Fin 4352, received d y x z s w i (j 1) * (z (ix2 i (j 1)) * logit (z (ix2 i (j 1)))) * x (ix2 i (wide (j 1)))
end Whole

theorem reads : ∀ t : Fin cfg0.N, win0_0.index t = ![t.val - 1, 0] ∧ win0_1.index t = ![0, t.val, 0] ∧ win0_2.index t = ![1, t.val, 0]
    ∧ win0_3.index t = ![t.val, 0] ∧ win0_4.index t = ![t.val, 0] ∧ win0_5.index t = ![0, 0] ∧ win0_6.index t = ![0, 0]
    ∧ kind (grid0.coords t) = if t.val = 0 then 0#1 else 1#1 :=
  (by decide +kernel : ∀ t : Fin grid0.N, _)

theorem writes : ∀ t : Fin cfg0.N, (win0_7.index t = ![t.val, 0] ∧ win0_7.flush t = true) ∧ (win0_8.index t = ![t.val, 0] ∧ win0_8.flush t = true)
    ∧ (win0_9.index t = ![0, 0] ∧ (win0_9.flush t = true ↔ t.val = 16)) ∧ win0_10.index t = ![0, 0] ∧ (win0_10.flush t = true ↔ t.val = 16) :=
  (by decide +kernel : ∀ t : Fin grid0.N, _)

section Read
variable (c : Dev nD) (t : Fin cfg0.N) (r : Fin 256)

/-- A row of the sum, as a point reads it. -/
abbrev totalAt : Fin 2048 → EReal := total (yAt m c t) (backAt m c t) (xAt m c t) (sAt m c t) r

variable (i : Fin 4352) (hi : i.val = t.val * 256 + r.val)

include hi

/-- The rows that a point reads: of what the normed rows receive, -/
theorem outer_at : row (dAt m c t) r = row (outer m c) (below i) := by
  obtain ⟨e, -⟩ := reads t
  funext k
  show V m c main_arg0 _ = _
  rw [V_main_arg0]
  refine at_tile (outer m c) _ e 256 2048 r.val k.val rfl rfl (below i) k ?_ (by omega)
  show (if i.val < 256 then i.val else i.val - 256) = _
  split <;> omega

/-- of the sum, -/
theorem skipped_at (k : Fin 2048) : xAt m c t (ix2 r k) = skipped m c (ix2 i (wide k)) := by
  obtain ⟨-, -, -, e, -⟩ := reads t
  show V m c main_arg2 _ = _
  rw [V_main_arg2]
  exact at_tile (skipped m c) _ e 256 2048 r.val k.val rfl rfl i (wide k) hi (by show k.val = _; omega)

theorem factor_at (j : Fin 1) (k : Fin 2048) : sAt m c t (ix2 j k) = factor m c (ix2 j k) := by
  obtain ⟨-, -, -, -, -, e, -⟩ := reads t
  show V m c main_arg4 _ = _
  rw [V_main_arg4]
  exact at_tile (factor m c) _ e 1 2048 j.val k.val rfl rfl j k (by omega) (by omega)

theorem total_row : total (yAt m c t) (backAt m c t) (xAt m c t) (sAt m c t) r = sums (ways m c) (skipped m c) (factor m c) i := by
  obtain ⟨-, e1, e2, -⟩ := reads t
  funext k
  unfold total sums
  rw [skipped_at m c t r i hi, factor_at m c t r i hi]
  refine congrArg (· + _) (congrArg₂ (· + ·) ?_ ?_)
  · show V m c main_arg1 _ = _
    rw [V_main_arg1]
    exact at_tile3 (ways m c) _ e1 1 256 2048 0 r.val k.val rfl rfl rfl 0 i k rfl hi (by omega)
  · show V m c main_arg1 _ = _
    rw [V_main_arg1]
    exact at_tile3 (ways m c) _ e2 1 256 2048 0 r.val k.val rfl rfl rfl 1 i k rfl hi (by omega)

/-- of the gate, and of the norm's scale; -/
theorem gate_row : row (zAt m c t) r = row (gate m c) i := by
  obtain ⟨-, -, -, -, e, -⟩ := reads t
  funext k
  show V m c main_arg3 _ = _
  rw [V_main_arg3]
  exact at_tile (gate m c) _ e 256 2048 r.val k.val rfl rfl i k hi (by omega)

theorem scale_row : row (wAt m c t) 0 = row (scale m c) 0 := by
  obtain ⟨-, -, -, -, -, -, e, -⟩ := reads t
  funext k
  show V m c main_arg5 _ = _
  rw [V_main_arg5]
  exact at_tile (scale m c) _ e 1 2048 0 k.val rfl rfl 0 k rfl (by omega)

/-- and they are kept where they come after the context. -/
theorem kind_row : kind (grid0.coords t) = late i := by
  obtain ⟨-, -, -, -, -, -, -, e⟩ := reads t
  rw [e]
  unfold late
  by_cases h : t.val = 0
  · rw [if_pos h, if_pos (by omega)]
  · rw [if_neg h, if_neg (by omega)]

theorem sumAt_eq (k : Fin 2048) : sumAt m c t (ix2 r k) = sumGrad (outer m c) (ways m c) (skipped m c) (gate m c) (factor m c) (scale m c) (ix2 i k) := by
  have hz : zAt m c t (ix2 r k) = gate m c (ix2 i k) := congrFun (gate_row m c t r i hi) k
  refine (sum_at ..).trans ?_
  rw [outer_at m c t r i hi, total_row m c t r i hi, gate_row m c t r i hi, scale_row m c t r i hi, kind_row t r i hi, hz]
  rfl

theorem gateAt_eq (k : Fin 2048) : gateAt m c t (ix2 r k) = gateGrad (outer m c) (ways m c) (skipped m c) (gate m c) (factor m c) (scale m c) (ix2 i k) := by
  have hz : zAt m c t (ix2 r k) = gate m c (ix2 i k) := congrFun (gate_row m c t r i hi) k
  refine (gate_at ..).trans ?_
  rw [outer_at m c t r i hi, total_row m c t r i hi, gate_row m c t r i hi, scale_row m c t r i hi, kind_row t r i hi, hz]
  rfl

end Read

/-- Entries of a tile of rows, -/
theorem tile_at {n L w t : ℕ} (o : (⟨2, ![n, w]⟩ : Shape).Idx → EReal) (a : (⟨2, ![L, w]⟩ : Shape).Idx → EReal) (hL : t * n + n ≤ L)
    (v : ∀ (r : Fin n) (i : Fin L), i.val = t * n + r.val → ∀ k, o (ix2 r k) = a (ix2 i k)) {q : Fin 2 → ℕ} (e : q = ![t, 0])
    (i : (⟨2, ![n, w]⟩ : Shape).Idx) (j : (⟨2, ![L, w]⟩ : Shape).Idx) (h0 : (j 0).val = q 0 * n + 1 * (i 0).val) (h1 : (j 1).val = q 1 * w + 1 * (i 1).val) : o i = a j := by
  have b0 : (i 0).val < n := (i 0).isLt
  refine (congrArg o (eq_ix2 i)).trans ((v (i 0) ⟨t * n + (i 0).val, by omega⟩ rfl (i 1)).trans ?_)
  exact (at_tile a j e n w (i 0).val (i 1).val h0 h1 ⟨t * n + (i 0).val, by omega⟩ (i 1) rfl (by omega)).symm

/-- and the tile that an entry is in. -/
theorem in_tile {n L w t : ℕ} {off size : Fin 2 → ℕ} (inb : ∀ a : Fin 2, off a + size a ≤ (⟨2, ![L, w]⟩ : Shape).size a) (i : (⟨2, ![L, w]⟩ : Shape).Idx)
    (e0 : size 0 = n) (e1 : size 1 = w) (hn : 0 < n) (hw : 0 < w) {q : Fin 2 → ℕ} (e : q = ![t, 0]) (ht : t = (i 0).val / n)
    (h0 : off 0 = q 0 * n) (h1 : off 1 = q 1 * w) : i ∈ (Rect.unit (s := ⟨2, ![L, w]⟩) off size inb).set := by
  subst e ht
  have b1 : (i 1).val < w := (i 1).isLt
  refine mem_tile inb i e0 e1 hn hw h0 (h1.trans ?_)
  rw [Nat.div_eq_of_lt b1]
  show 0 * w = 0 * w
  rfl

/-- The point that has an entry's row. -/
def pointOf (i : (⟨2, ![4352, 2048]⟩ : Shape).Idx) : Fin cfg0.N :=
  ⟨(i 0).val / 256, by have h : (i 0).val < 4352 := (i 0).isLt; rw [show cfg0.N = 17 from N_0]; omega⟩

theorem fits (t : Fin cfg0.N) : t.val * 256 + 256 ≤ 4352 := by
  have ht : t.val < 17 := lt_of_lt_of_eq t.isLt N_0
  omega

/-- The call leaves the gradients of the sum -/
theorem result_sum (c : Dev nD) :
    (dats m 0 c).arrAt 7 cfg0.N = sumGrad (outer m c) (ways m c) (skipped m c) (gate m c) (factor m c) (scale m c) :=
  (dats m 0 c).arrAt_eq_of_cover 7 _
    (fun t _ => (flushed m c t).1.trans (funext fun _ => tile_at _ _ (fits t)
      (fun r i hi k => (congrFun (written m c t).1 _).trans (sumAt_eq m c t r i hi k)) (writes t).1.1 _ _ rfl rfl))
    fun i => ⟨pointOf i, (writes _).1.2, (View.set_slice_whole (b := main_v0_0) (win0_7.rect (pointOf i))).symm ▸
      in_tile (n := 256) (w := 2048) _ i rfl rfl (by decide) (by decide) (writes (pointOf i)).1.1 rfl rfl rfl⟩

/-- and of the gate's input, -/
theorem result_gate (c : Dev nD) :
    (dats m 0 c).arrAt 8 cfg0.N = gateGrad (outer m c) (ways m c) (skipped m c) (gate m c) (factor m c) (scale m c) :=
  (dats m 0 c).arrAt_eq_of_cover 8 _
    (fun t _ => (flushed m c t).2.1.trans (funext fun _ => tile_at _ _ (fits t)
      (fun r i hi k => (congrFun (written m c t).2 _).trans (gateAt_eq m c t r i hi k)) (writes t).2.1.1 _ _ rfl rfl))
    fun i => ⟨pointOf i, (writes _).2.1.2, (View.set_slice_whole (b := main_v0_1) (win0_8.rect (pointOf i))).symm ▸
      in_tile (n := 256) (w := 2048) _ i rfl rfl (by decide) (by decide) (writes (pointOf i)).2.1.1 rfl rfl rfl⟩

/-- The sums after the last point: the gradients of the norm's scale -/
theorem summed_scale (c : Dev nD) (n : ℕ) (h : n < cfg0.N) (hn : n = 16) (z : Fin 1) (k : Fin 2048) :
    (outs m c n h).2.2.1 (ix2 z k) = scaleGrad (outer m c) (ways m c) (skipped m c) (gate m c) (factor m c) (ix2 z k) := by
  have hN : cfg0.N = 17 := N_0
  subst hn
  obtain rfl : z = 0 := Subsingleton.elim _ _
  refine accumulated (J := 16) (T := 256) rfl (fun n h => (outs m c n h).2.2.1 (ix2 (0 : Fin 1) k))
    (fun n h r => keep (kind (grid0.coords ⟨n, h⟩)) (row (dAt m c ⟨n, h⟩) r k * gated (totalAt m c ⟨n, h⟩ r) (row (zAt m c ⟨n, h⟩) r) k
      * Rms.inv width (gated (totalAt m c ⟨n, h⟩ r) (row (zAt m c ⟨n, h⟩) r))))
    (fun n h h0 => ?_) (fun n h h0 => ?_) 0 h
    (fun i => keep (late i) (row (outer m c) (below i) k * gated (sums (ways m c) (skipped m c) (factor m c) i) (row (gate m c) i) k
      * Rms.inv width (gated (sums (ways m c) (skipped m c) (factor m c) i) (row (gate m c) i)))) fun a r ha l hl => ?_
  · exact (congrArg (fun o => o.2.2.1 (ix2 (0 : Fin 1) k)) (first m c ⟨n, h⟩ (by dsimp only; omega))).trans (scale_at ..)
  · exact (congrArg (fun o => o.2.2.1 (ix2 (0 : Fin 1) k)) (next m c n h)).trans
      ((more ..).trans (congrArg (_ + ·) (scale_at ..)))
  · have hi : l.val = (⟨_, ha⟩ : Fin cfg0.N).val * 256 + r.val := by dsimp only; omega
    unfold totalAt
    rw [total_row m c _ r l hi, gate_row m c _ r l hi, kind_row _ r l hi, outer_at m c _ r l hi]

/-- and of the skip's factor. -/
theorem summed_skip (c : Dev nD) (n : ℕ) (h : n < cfg0.N) (hn : n = 16) (z : Fin 1) (k : Fin 2048) :
    (outs m c n h).2.2.2 (ix2 z k) = skipGrad (outer m c) (ways m c) (skipped m c) (gate m c) (factor m c) (scale m c) (ix2 z k) := by
  have hN : cfg0.N = 17 := N_0
  subst hn
  obtain rfl : z = 0 := Subsingleton.elim _ _
  refine accumulated (J := 16) (T := 256) rfl (fun n h => (outs m c n h).2.2.2 (ix2 (0 : Fin 1) k))
    (fun n h r => sumAt m c ⟨n, h⟩ (ix2 r k) * xAt m c ⟨n, h⟩ (ix2 r k)) (fun n h h0 => ?_) (fun n h h0 => ?_) 0 h
    (fun i => sumGrad (outer m c) (ways m c) (skipped m c) (gate m c) (factor m c) (scale m c) (ix2 i k) * skipped m c (ix2 i (wide k))) fun a r ha l hl => ?_
  · exact (congrArg (fun o => o.2.2.2 (ix2 (0 : Fin 1) k)) (first m c ⟨n, h⟩ (by dsimp only; omega))).trans (skip_at ..)
  · exact (congrArg (fun o => o.2.2.2 (ix2 (0 : Fin 1) k)) (next m c n h)).trans
      ((more ..).trans (congrArg (_ + ·) (skip_at ..)))
  · have hi : l.val = (⟨_, ha⟩ : Fin cfg0.N).val * 256 + r.val := by dsimp only; omega
    exact congrArg₂ (· * ·) (sumAt_eq m c _ r l hi k) (skipped_at m c _ r l hi k)

/-- The last point. -/
abbrev last : Fin cfg0.N := ⟨16, by rw [show cfg0.N = 17 from N_0]; omega⟩

/-- The call leaves the sums. -/
theorem result_scale (c : Dev nD) : (dats m 0 c).arrAt 9 cfg0.N = scaleGrad (outer m c) (ways m c) (skipped m c) (gate m c) (factor m c) :=
  (dats m 0 c).arrAt_eq_of_cover 9 _
    (fun t hf => (flushed m c t).2.2.1.trans (funext fun _ => all_at _ _ (summed_scale m c t.val t.isLt ((writes t).2.2.1.2.mp hf)) (writes t).2.2.1.1 _ _ rfl rfl))
    fun i => ⟨last, (writes last).2.2.1.2.mpr rfl, (View.set_slice_whole (b := main_v0_2) (win0_9.rect last)).symm ▸ in_all _ i rfl rfl (by decide) (by decide) (writes last).2.2.1.1 rfl rfl⟩

theorem result_skip (c : Dev nD) :
    (dats m 0 c).arrAt 10 cfg0.N = skipGrad (outer m c) (ways m c) (skipped m c) (gate m c) (factor m c) (scale m c) :=
  (dats m 0 c).arrAt_eq_of_cover 10 _
    (fun t hf => (flushed m c t).2.2.2.trans (funext fun _ => all_at _ _ (summed_skip m c t.val t.isLt ((writes t).2.2.2.2.mp hf)) (writes t).2.2.2.1 _ _ rfl rfl))
    fun i => ⟨last, (writes last).2.2.2.2.mpr rfl, (View.set_slice_whole (b := main_v0_3) (win0_10.rect last)).symm ▸ in_all _ i rfl rfl (by decide) (by decide) (writes last).2.2.2.1 rfl rfl⟩

/-- A row after the context, among all of them. -/
def above (r : Fin 4096) : Fin 4352 := ⟨256 + r.val, by omega⟩

theorem late_above (r : Fin 4096) : late (above r) = 1#1 := if_neg (show ¬ 256 + r.val < 256 by omega)

theorem below_above (r : Fin 4096) : below (above r) = r := Fin.ext <| by
  show (if 256 + r.val < 256 then 256 + r.val else 256 + r.val - 256) = r.val
  rw [if_neg (by omega)]
  omega

/-- A row comes before the context's end or after it. -/
theorem before_or_after (i : Fin 4352) : late i = 0#1 ∧ i.val < 256 ∨ ∃ r, i = above r := by
  by_cases h : i.val < 256
  · exact .inl ⟨if_pos h, h⟩
  · exact .inr ⟨⟨i.val - 256, by omega⟩, Fin.ext (show i.val = 256 + (i.val - 256) by omega)⟩

/-- Only those after count in a sum. -/
theorem late_sum (f : Fin 4352 → EReal) : ∑ i : Fin 4352, keep (late i) (f i) = ∑ r : Fin 4096, f (above r) := by
  refine (Fin.sum_univ_add (a := 256) (b := 4096) fun i : Fin (256 + 4096) => keep (late i) (f i)).trans ?_
  rw [Finset.sum_eq_zero fun i _ => ?_, zero_add]
  · exact Finset.sum_congr rfl fun r _ => (congrArg (fun b => keep b (f (above r))) (late_above r))
  · show keep (late ⟨i.val, _⟩) _ = 0
    rw [show late ⟨i.val, by omega⟩ = 0#1 from if_pos i.isLt]
    rfl

namespace Reference
open Cert.DgateRefIdeal (S4096x1 S4096)
open Cert.DgateRefIdeal.Gen (bcast_S_S4352x2048 bcast_S1x2048_S4352x2048_0_1 bcast_S1x2048_S4096x2048_0_1 bcast_S4096_S4096x1_0 bcast_S4096_S4096x2048_0
  bcast_S_S4096x1 bcast_S4096x1_S4096x2048_0_1 reducesTo_S4096x2048_S4096_d1 reducesTo_S4096x1_S4096_d1 reducesTo_S4096x2048_S2048_d0
  reducesTo_S4352x2048_S2048_d0 shapeCasts_S4096_S4096x1 shapeCasts_S1x4352x2048_S4352x2048 slices_S2x4352x2048_S1x4352x2048_0_0_0
  slices_S2x4352x2048_S1x4352x2048_1_0_0 slices_S4352x4096_S4352x2048_0_0 slices_S4352x2048_S4096x2048_256_0 pads_S4096x2048_S4352x2048_25600_000 h_S_)

variable (d : Vec Ideal S4096x2048 .f32) (y : Vec Ideal S2x4352x2048 .f32) (x : Vec Ideal S4352x4096 .bf16) (z : Vec Ideal S4352x2048 .bf16) (s w : Vec Ideal S1x2048 .f32)

abbrev number (w : BitVec 32) : FVec Ideal Cert.DgateRefIdeal.S_ .f32 := constant (F := Ideal) Cert.DgateRefIdeal.S_ .f32 w
abbrev column (w : BitVec 32) : FVec Ideal S4096x1 .f32 := broadcastInDim S4096x1 ![] bcast_S_S4096x1 (number w)
abbrev ones : FVec Ideal S4352x2048 .f32 := broadcastInDim S4352x2048 ![] bcast_S_S4352x2048 (number 0x3F800000#32)
abbrev along (v : FVec Ideal S4096x1 .f32) : FVec Ideal S4096x2048 .f32 := broadcastInDim S4096x2048 ![0, 1] bcast_S4096x1_S4096x2048_0_1 v
abbrev rowSums (v : FVec Ideal S4096x2048 .f32) : FVec Ideal S4096 .f32 := Host.reduceAdd v (number 0x00000000#32) reducesTo_S4096x2048_S4096_d1 h_S_
abbrev spreadOut (v : FVec Ideal S4096x1 .f32) : FVec Ideal S4096x2048 .f32 :=
  broadcastInDim S4096x2048 ![0] bcast_S4096_S4096x2048_0 (Host.reduceAdd v (number 0x00000000#32) reducesTo_S4096x1_S4096_d1 h_S_)
abbrev real (z : Vec Ideal S4352x2048 .bf16) : FVec Ideal S4352x2048 .f32 := extf .f32 z Cert.DgateRefIdeal.Gen.bitsLt_bf16_f32

/-- The reference's sum, of the two directions and of the skip, -/
def taken : FVec Ideal S4352x2048 .f32 := real (extractStridedSlice S4352x2048 ![0, 0] x slices_S4352x4096_S4352x2048_0_0)
def total : FVec Ideal S4352x2048 .f32 :=
  addf (addf (shapeCast S4352x2048 (extractStridedSlice Cert.DgateRefIdeal.S1x4352x2048 ![0, 0, 0] y slices_S2x4352x2048_S1x4352x2048_0_0_0) shapeCasts_S1x4352x2048_S4352x2048)
      (shapeCast S4352x2048 (extractStridedSlice Cert.DgateRefIdeal.S1x4352x2048 ![1, 0, 0] y slices_S2x4352x2048_S1x4352x2048_1_0_0) shapeCasts_S1x4352x2048_S4352x2048))
    (mulf (broadcastInDim S4352x2048 ![0, 1] bcast_S1x2048_S4352x2048_0_1 s) (taken x))

/-- the gate, and the rows that are normed. -/
def sigma : FVec Ideal S4352x2048 .f32 := Host.divf ones (addf ones (Host.exp (Host.negf (real z))))
def silu : FVec Ideal S4352x2048 .f32 := mulf (real z) (sigma z)
def normed : FVec Ideal S4096x2048 .f32 := extractStridedSlice S4096x2048 ![256, 0] (mulf (total y x s) (silu z)) slices_S4352x2048_S4096x2048_256_0

/-- The norm of rows `v`, and its gradient, of `e` that the normed values receive, -/
def spread (v : FVec Ideal S4096x2048 .f32) : FVec Ideal S4096x1 .f32 :=
  addf (Host.divf (broadcastInDim S4096x1 ![0] bcast_S4096_S4096x1_0 (rowSums (mulf v v))) (column 0x45000000#32)) (column 0x358637BD#32)
def inv (v : FVec Ideal S4096x2048 .f32) : FVec Ideal S4096x1 .f32 := Host.rsqrt (spread v)
def square (v e : FVec Ideal S4096x2048 .f32) : FVec Ideal S4096x1 .f32 :=
  Host.divf (mulf (shapeCast S4096x1 (rowSums (mulf v e)) shapeCasts_S4096_S4096x1) (mulf (column 0xBF000000#32) (Host.divf (inv v) (spread v)))) (column 0x45000000#32)
def chain (v e : FVec Ideal S4096x2048 .f32) : FVec Ideal S4096x2048 .f32 :=
  addf (addf (mulf e (along (inv v))) (mulf v (spreadOut (square v e)))) (mulf (spreadOut (square v e)) v)
def passed : FVec Ideal S4096x2048 .f32 := mulf d (broadcastInDim S4096x2048 ![0, 1] bcast_S1x2048_S4096x2048_0_1 w)

/-- under the context's rows of zeros. -/
def padded (v : FVec Ideal S4096x2048 .f32) : FVec Ideal S4352x2048 .f32 :=
  pad S4352x2048 ![256, 0] ![0, 0] ![0, 0] v (number 0x00000000#32) pads_S4096x2048_S4352x2048_25600_000 h_S_
def back : FVec Ideal S4352x2048 .f32 := padded (chain (normed y x z s) (passed d w))

theorem taken_apply (i : Fin 4352) (k : Fin 2048) : taken x (ix2 i k) = x (ix2 i (wide k)) :=
  at_ix2 x _ i (wide k) (Nat.zero_add _) (Nat.zero_add _)

theorem total_apply (i : Fin 4352) (k : Fin 2048) : total y x s (ix2 i k) = sums y x s i k := by
  unfold total sums
  rw [← taken_apply x]
  generalize taken x = v
  simp only [pointwise]
  exact congrArg (· + _) (congrArg₂ (fun a b => a + b) (congrArg y (congrArg₂ (ix3 0) (Fin.ext (Nat.zero_add _)) (Fin.ext (Nat.zero_add _))))
    (congrArg y (congrArg₂ (ix3 1) (Fin.ext (Nat.zero_add _)) (Fin.ext (Nat.zero_add _)))))

theorem sigma_apply (i : Fin 4352) (k : Fin 2048) : sigma z (ix2 i k) = logit (z (ix2 i k)) := by
  unfold sigma
  simp only [pointwise, Ideal.ofBits_one_f32]
  rfl

theorem silu_apply (i : Fin 4352) (k : Fin 2048) : silu z (ix2 i k) = z (ix2 i k) * logit (z (ix2 i k)) := by
  rw [← sigma_apply]
  rfl

theorem normed_row (r : Fin 4096) : row (normed y x z s) r = gated (sums y x s (above r)) (row z (above r)) := funext fun k => by
  refine (at_ix2 (mulf (total y x s) (silu z)) _ (above r) k rfl (Nat.zero_add _)).trans ?_
  exact congrArg₂ (· * ·) (total_apply ..) (silu_apply ..)

theorem passed_row (r : Fin 4096) : row (passed d w) r = carried (row d r) (row w 0) := funext fun k => by
  unfold passed carried
  simp only [row, pointwise]
  rfl

theorem spread_apply (v : FVec Ideal S4096x2048 .f32) (r : Fin 4096) (j : Fin 1) : spread v (ix2 r j) = Rms.spread width (row v r) := by
  unfold spread
  simp only [pointwise, zero_add]
  rfl

theorem inv_apply (v : FVec Ideal S4096x2048 .f32) (r : Fin 4096) (j : Fin 1) : inv v (ix2 r j) = Rms.inv width (row v r) :=
  congrArg Ideal.rsqrt (spread_apply v r j)

theorem square_apply (v e : FVec Ideal S4096x2048 .f32) (r : Fin 4096) (j : Fin 1) : square v e (ix2 r j) = Rms.square width (row v r) (row e r) := by
  unfold square Rms.square
  rw [← inv_apply v r j, ← spread_apply v r j]
  generalize inv v = a
  generalize spread v = b
  simp only [pointwise, zero_add]

theorem chain_apply (v e : FVec Ideal S4096x2048 .f32) (r : Fin 4096) (k : Fin 2048) : chain v e (ix2 r k) = Rms.back width (row v r) (row e r) k := by
  have h := Rms.back_eq width (row v r) (row e r) 2048 (by norm_num) Norm.bits_wide 0 k
  rw [add_zero, zero_add] at h
  rw [h]
  unfold chain
  rw [← inv_apply v r 0, ← square_apply v e r 0]
  generalize inv v = a
  generalize square v e = b
  simp only [pointwise, zero_add, Fin.sum_univ_one]
  rfl

theorem padded_apply (v : FVec Ideal S4096x2048 .f32) (i : Fin 4352) (k : Fin 2048) : padded v (ix2 i k) = keep (late i) (v (ix2 (below i) k)) := by
  rcases before_or_after i with ⟨h, hi⟩ | ⟨r, rfl⟩
  · rw [h]
    refine (pad_apply_of_not_inside _ _ _ _ _ _ _ _ (0 : Fin 2) fun b => absurd (show 256 ≤ i.val from b.1) (by omega)).trans ?_
    simp only [pointwise]
    rfl
  · rw [late_above, below_above]
    exact pad_apply_of_inside _ _ _ _ _ _ _ _ (ix2 r k) fun b => match b with
      | ⟨0, _⟩ => show 256 + r.val = 256 + r.val * (0 + 1) by omega
      | ⟨1, _⟩ => show k.val = 0 + k.val * (0 + 1) by omega

/-- What the gated rows receive. -/
theorem back_apply (i : Fin 4352) (k : Fin 2048) : back d y x z s w (ix2 i k) = received d y x z s w i k := by
  unfold back received entry
  rw [padded_apply, chain_apply]
  rcases before_or_after i with ⟨h, -⟩ | ⟨r, rfl⟩
  · rw [h, keep_zero, keep_zero]
  · rw [below_above, normed_row, passed_row]

/-- It is finite where what the norm receives is, -/
theorem received_real (hf : ∀ r k, ∃ a : ℝ, carried (row d r) (row w 0) k = a) (i : Fin 4352) (k : Fin 2048) : ∃ a : ℝ, received d y x z s w i k = a := by
  unfold received entry
  rcases BitVec.eq_zero_or_eq_one (late i) with h | h <;> rw [h]
  · exact ⟨0, rfl⟩
  · exact Rms.back_real width _ _ 2048 (by norm_num) Norm.bits_wide (hf _) k

/-- and zero where the sum is not and the gate lets it through. -/
theorem received_zero (i : Fin 4352) (k : Fin 2048) (h : sums y x s i k = ⊥ ∨ sums y x s i k = ⊤) (hz : z (ix2 i k) * logit (z (ix2 i k)) ≠ 0) :
    received d y x z s w i k = 0 := by
  have hg : gated (sums y x s i) (row z i) k = ⊥ ∨ gated (sums y x s i) (row z i) k = ⊤ := by
    unfold gated
    rcases h with h | h <;> rw [h] <;> rcases lt_or_gt_of_ne hz with hs | hs
    · exact .inr (EReal.bot_mul_of_neg hs)
    · exact .inl (EReal.bot_mul_of_pos hs)
    · exact .inl (EReal.top_mul_of_neg hs)
    · exact .inr (EReal.top_mul_of_pos hs)
  unfold received entry
  rw [Rms.back_top width _ _ 2048 (by norm_num) Norm.bits_wide k hg k]
  rcases BitVec.eq_zero_or_eq_one (late i) with h | h <;> rw [h] <;> rfl

/-- The reference's results. -/
theorem sum_eq : mulf (back d y x z s w) (silu z) = sumGrad d y x z s w := funext fun j => by
  obtain ⟨i, k, rfl⟩ : ∃ i k, j = ix2 i k := ⟨j 0, j 1, eq_ix2 j⟩
  exact congrArg₂ (· * ·) (back_apply ..) (silu_apply ..)

theorem gate_eq (hf : ∀ r k, ∃ a : ℝ, carried (row d r) (row w 0) k = a) :
    truncf .bf16 (addf (mulf (mulf (total y x s) (back d y x z s w)) (sigma z))
        (mulf (mulf (real z) (mulf (total y x s) (back d y x z s w))) (mulf (sigma z) (subf ones (sigma z))))) Cert.DgateRefIdeal.Gen.bitsLt_bf16_f32
      = gateGrad d y x z s w := funext fun j => by
  obtain ⟨i, k, rfl⟩ : ∃ i k, j = ix2 i k := ⟨j 0, j 1, eq_ix2 j⟩
  refine Eq.trans ?_ (grad_times (sums y x s i k) (z (ix2 i k)) (received d y x z s w i k) (received_real d y x z s w hf i k)
    (received_zero d y x z s w i k))
  rw [← total_apply, ← back_apply, ← sigma_apply]
  generalize total y x s = t
  generalize back d y x z s w = b
  generalize sigma z = v
  simp only [pointwise, Ideal.ofBits_one_f32]

theorem scale_eq : shapeCast S1x2048 (Host.reduceAdd (mulf (mulf (normed y x z s) (along (inv (normed y x z s)))) d) (number 0x00000000#32)
      reducesTo_S4096x2048_S2048_d0 h_S_) Cert.DgateRefIdeal.Gen.shapeCasts_S2048_S1x2048 = scaleGrad d y x z s := funext fun j => by
  obtain ⟨b, k, rfl⟩ : ∃ b k, j = ix2 b k := ⟨j 0, j 1, eq_ix2 j⟩
  refine Eq.trans ?_ (late_sum fun i => d (ix2 (below i) k) * gated (sums y x s i) (row z i) k * Rms.inv width (gated (sums y x s i) (row z i))).symm
  simp only [below_above, ← normed_row, ← inv_apply _ _ 0]
  generalize normed y x z s = v
  generalize inv v = a
  simp only [pointwise, zero_add]
  refine Finset.sum_congr rfl fun r _ => ?_
  show v (ix2 r k) * a (ix2 r 0) * d (ix2 r k) = d (ix2 r k) * v (ix2 r k) * a (ix2 r 0)
  rw [mul_comm, ← mul_assoc]

theorem skip_eq : shapeCast S1x2048 (Host.reduceAdd (mulf (mulf (back d y x z s w) (silu z)) (taken x)) (number 0x00000000#32)
      reducesTo_S4352x2048_S2048_d0 h_S_) Cert.DgateRefIdeal.Gen.shapeCasts_S2048_S1x2048 = skipGrad d y x z s w := funext fun j => by
  obtain ⟨b, k, rfl⟩ : ∃ b k, j = ix2 b k := ⟨j 0, j 1, eq_ix2 j⟩
  rw [sum_eq]
  refine Eq.trans ?_ (Finset.sum_congr rfl fun i _ => congrArg (sumGrad d y x z s w (ix2 i k) * ·) (taken_apply x i k))
  generalize sumGrad d y x z s w = v
  generalize taken x = u
  simp only [pointwise, zero_add]

end Reference

instance facts_pre : Cert.Pre_gated_finite.Facts where
  bcast_S1x2048_S4096x2048_0_1 := by decide
  bcast_S_S4096x2048 := by decide

/-- Where the precondition holds, what the normed rows receive is finite. -/
theorem finite (d : Vec Ideal S4096x2048 .f32) (y : Vec Ideal S2x4352x2048 .f32) (x : Vec Ideal S4352x4096 .bf16) (z : Vec Ideal S4352x2048 .bf16) (s w : Vec Ideal S1x2048 .f32)
    (h : Cert.Pre_gated_finite.fn (F := Ideal) d y x z s w = fun _ => 1#1) (r : Fin 4096) (k : Fin 2048) : ∃ a : ℝ, carried (row d r) (row w 0) k = a := by
  have e := congrFun h (ix2 r k)
  unfold Cert.Pre_gated_finite.fn at e
  have top : Ideal.ofBits .f32 0x7F800000#32 = ⊤ := by simp [Ideal.ofBits, Ideal.ieee]
  simp only [pointwise, top] at e
  have e : BitVec.ofBool (decide (max (carried (row d r) (row w 0) k) (-carried (row d r) (row w 0) k) < ⊤)) = 1#1 := e
  refine coe_of_abs_lt_top _ ?_
  by_contra hn
  rw [decide_eq_false hn] at e
  exact absurd e (by decide)

/-- The kernel and its idealization have the same table of bodies, -/
theorem bodies_eq {F : FTy → Type} [FloatOps F] : Cert.Dgate.defs₀ (F := F) = Cert.DgateIdeal.defs₀ :=
  congrArg Defs.onTc <| funext fun l => funext fun a => match l, a with
    | ⟨0, _⟩, (_, _) => rfl
    | ⟨_ + 1, h⟩, _ => absurd h (Nat.not_lt.2 (Nat.le_add_left ..))

theorem defs_eq {F : FTy → Type} [FloatOps F] : Cert.Dgate.defs (F := F) = Cert.DgateIdeal.defs :=
  congrArg (Pipeline.defs _) bodies_eq

/-- so the one run is the frame of both. -/
theorem frame_kernel : Cert.quiescent_Dgate := fun m ρ _ =>
  (congrArg (fun d => θ_run d _ _ _) defs_eq).mpr (frame_run (F := Bits) m ρ)

theorem frame_reference : Cert.quiescent_DgateRefIdeal := fun m ρ _ =>
  (θ_run Cert.DgateRefIdeal.defs _ _).mono (fun r h => ⟨fun c => (h c).2.2.2.2, sem_eq_zero_of_no_sems (by decide) r.2⟩)
    (Cert.DgateRefIdeal.Value.run m ρ)

/-- The reference's results, of arguments that hold what the kernel's do. -/
theorem equal (m' : (ℓ : Loc Cert.DgateRefIdeal.nD Cert.DgateRefIdeal.τ Cert.DgateRefIdeal.sig) → Buf (Elt Ideal) ℓ) (c : Dev nD)
    (d : Vec Ideal S4096x2048 .f32) (y : Vec Ideal S2x4352x2048 .f32) (x : Vec Ideal S4352x4096 .bf16) (z : Vec Ideal S4352x2048 .bf16) (s w : Vec Ideal S1x2048 .f32)
    (hd : m' ((c.tc : Thread Cert.DgateRefIdeal.nD Cert.DgateRefIdeal.τ).loc Cert.DgateRefIdeal.main_arg0) = d)
    (hy : m' ((c.tc : Thread Cert.DgateRefIdeal.nD Cert.DgateRefIdeal.τ).loc Cert.DgateRefIdeal.main_arg1) = y)
    (hx : m' ((c.tc : Thread Cert.DgateRefIdeal.nD Cert.DgateRefIdeal.τ).loc Cert.DgateRefIdeal.main_arg2) = x)
    (hz : m' ((c.tc : Thread Cert.DgateRefIdeal.nD Cert.DgateRefIdeal.τ).loc Cert.DgateRefIdeal.main_arg3) = z)
    (hs : m' ((c.tc : Thread Cert.DgateRefIdeal.nD Cert.DgateRefIdeal.τ).loc Cert.DgateRefIdeal.main_arg4) = s)
    (hw : m' ((c.tc : Thread Cert.DgateRefIdeal.nD Cert.DgateRefIdeal.τ).loc Cert.DgateRefIdeal.main_arg5) = w)
    (hf : ∀ r k, ∃ a : ℝ, carried (row d r) (row w 0) k = a) :
    Cert.DgateRefIdeal.Value.res_out0 m' c = sumGrad d y x z s w ∧ Cert.DgateRefIdeal.Value.res_out1 m' c = gateGrad d y x z s w
      ∧ Cert.DgateRefIdeal.Value.res_out3 m' c = skipGrad d y x z s w := by
  subst hd hy hx hz hs hw
  exact ⟨Reference.sum_eq .., Reference.gate_eq _ _ _ _ _ _ hf, Reference.skip_eq ..⟩

theorem algebraic : Cert.algebraic_DgateIdeal_DgateRefIdeal_pre_gated_finite := by
  intro m g m' g' p h
  refine ⟨fun c => sumGrad (outer m c) (ways m c) (skipped m c) (gate m c) (factor m c) (scale m c),
    fun c => gateGrad (outer m c) (ways m c) (skipped m c) (gate m c) (factor m c) (scale m c),
    fun c => scaleGrad (outer m c) (ways m c) (skipped m c) (gate m c) (factor m c),
    fun c => skipGrad (outer m c) (ways m c) (skipped m c) (gate m c) (factor m c) (scale m c),
    (θ_run Cert.DgateIdeal.defs _ _).mono (fun _ r c => ?_) (θ_run_and (run_results m g) (frame_run m g)),
    (θ_run Cert.DgateRefIdeal.defs _ _).mono (fun _ r c => ?_) (Cert.DgateRefIdeal.Value.run m' g')⟩
  · obtain ⟨r0, r1, r2, r3⟩ := r.1 c
    exact ⟨r0.trans (result_sum m c), r1.trans (result_gate m c), r2.trans (result_scale m c), r3.trans (result_skip m c), r.2.1 c⟩
  · obtain ⟨r0, r1, r2, r3, kept⟩ := r c
    obtain ⟨h0, h1, h2, h3, h4, h5⟩ := h c
    obtain ⟨e0, e1, e3⟩ := equal m' c _ _ _ _ _ _ h0 h1 h2 h3 h4 h5 (finite _ _ _ _ _ _ (p c))
    refine ⟨r0.trans e0, r1.trans e1, r2.trans ((Reference.scale_eq ..).trans ?_), r3.trans e3, kept⟩
    rw [h0, h1, h2, h3, h4]

end Cert.Proof.Dgate

end
-- ==== Proof.Glu.lean ====
/- The convolution module's gate: `a * logit b` for the two halves `a`, `b` of a row. -/
module

public import proofs.«01_k».proof.Defs
public import proofs.«01_k».proof.Proof.Dglu
public import proofs.«01_k».proof.Proof.Gen.GluIdeal.Value
public import proofs.«01_k».proof.Proof.Gen.GluRefIdeal.Run

@[expose] public section

set_option maxRecDepth 16384

noncomputable section

namespace Cert.Proof.Glu

open Idealize.ShloMosaic Idealize.ShloMosaic.TcCoe Idealize.ShloMosaic.Tactic Idealize.SL.Sem
open Cert.GluIdeal Cert.GluIdeal.Gen Cert.GluIdeal.Value

/-- The whole result: column `k` is gated from columns `k` and `k + 1024`. -/
def out (u : Vec Ideal S4096x2048 .bf16) : Vec Ideal S4096x1024 .f32 := fun y =>
  u (ix2 (y 0) ⟨(y 1).val, by have : (y 1).val < 1024 := (y 1).isLt; omega⟩)
    * logit (u (ix2 (y 0) ⟨(y 1).val + 1024, by have : (y 1).val < 1024 := (y 1).isLt; omega⟩))

/-- What a point leaves at an index. -/
theorem pair (p q : Vec Ideal S256x1024 .bf16) (r : Fin 256) (k : Fin 1024) : k0_pay1 p q (ix2 r k) = p (ix2 r k) * logit (q (ix2 r k)) := by
  unfold k0_pay1
  simp only [pointwise, zero_sub, Ideal.ofBits_one_f32]
  rfl

variable (m : (ℓ : Loc nD τ sig) → Buf (Elt Ideal) ℓ)

abbrev halves (c : Dev nD) : Vec Ideal S4096x2048 .bf16 := m ((c : Thread nD τ).loc main_arg0)

/-- Point `t` takes the `t`-th rows: of the left half, of the right half, of the result. -/
theorem rows : ∀ t : Fin cfg0.N, win0_0.index t = ![t.val, 0] ∧ win0_1.index t = ![t.val, 1] ∧ win0_2.index t = ![t.val, 0]
    ∧ win0_2.flush t = true :=
  (by decide +kernel : ∀ t : Fin grid0.N, _)

theorem flushed_eq (c : Dev nD) (t : Fin cfg0.N) :
    (dats m 0 c).flushed 2 t = ((cfg0.win 2).blk t).view.read (Elt Ideal) (out (halves m c)) := by
  obtain ⟨e0, e1, e2, -⟩ := rows t
  rw [flushed2]
  unfold out0_2
  rw [View.canon_unit_zero zero2]
  simp only [View.ld_unit_zero (S := S256x1024) zero2]
  funext y
  obtain ⟨r, k, rfl⟩ : ∃ (r : Fin 256) (k : Fin 1024), y = ix2 r k := ⟨y 0, y 1, eq_ix2 y⟩
  show k0_pay1 (iblk m c 0 t : Vec Ideal S256x1024 .bf16) (iblk m c 1 t : Vec Ideal S256x1024 .bf16) (ix2 r k) = out (halves m c) (((cfg0.win 2).blk t).view.emb (ix2 r k))
  rw [pair]
  refine congrArg₂ (fun a b => a * logit b) ((congrFun (V_main_arg0 m c) _).trans (at_ix2 (halves m c) _ _ _ ?_ ?_))
    ((congrFun (V_main_arg0 m c) _).trans (at_ix2 (halves m c) _ _ _ ?_ ?_))
  · show win0_0.index t (0 : Fin 2) * 256 + 1 * r.val = win0_2.index t (0 : Fin 2) * 256 + 1 * r.val; rw [e0, e2]
  · show win0_0.index t (1 : Fin 2) * 1024 + 1 * k.val = win0_2.index t (1 : Fin 2) * 1024 + 1 * k.val; rw [e0, e2]
  · show win0_1.index t (0 : Fin 2) * 256 + 1 * r.val = win0_2.index t (0 : Fin 2) * 256 + 1 * r.val; rw [e1, e2]; rfl
  · show win0_1.index t (1 : Fin 2) * 1024 + 1 * k.val = win0_2.index t (1 : Fin 2) * 1024 + 1 * k.val + 1024
    rw [e1, e2]
    show 1 * 1024 + 1 * k.val = 0 * 1024 + 1 * k.val + 1024
    omega

theorem result (c : Dev nD) : (dats m 0 c).arrAt 2 cfg0.N = out (halves m c) :=
  (dats m 0 c).arrAt_eq_of_cover 2 _ (fun t _ => flushed_eq m c t) fun i => by
    have h0 : (i 0).val < 4096 := (i 0).isLt
    have h1 : (i 1).val < 1024 := (i 1).isLt
    have hN : cfg0.N = 16 := (by decide +kernel : grid0.N = 16)
    obtain ⟨t, ht⟩ : ∃ t : Fin cfg0.N, t.val = (i 0).val / 256 := ⟨⟨(i 0).val / 256, by rw [hN]; omega⟩, rfl⟩
    obtain ⟨-, -, e, hf⟩ := rows t
    refine ⟨t, hf, ?_⟩
    show i ∈ ((View.whole main_v0).slice (win0_2.rect t)).set
    rw [View.set_slice_whole]
    exact mem_tile _ i (s0 := 256) (s1 := 1024) rfl rfl (by decide) (by decide) (congrArg (· * 256) ((congrFun e 0).trans ht))
      (congrArg (· * 1024) ((congrFun e 1).trans (Nat.div_eq_of_lt h1).symm))

namespace Reference
open Cert.GluRefIdeal.Gen (bcast_S_S4096x1024 slices_S4096x2048_S4096x1024_0_0 slices_S4096x2048_S4096x1024_0_1024)

variable (u : Vec Ideal S4096x2048 .bf16)

abbrev real : FVec Ideal S4096x2048 .f32 := extf (F := Ideal) .f32 u Cert.GluRefIdeal.Gen.bitsLt_bf16_f32
abbrev values : FVec Ideal S4096x1024 .f32 := extractStridedSlice S4096x1024 ![0, 0] (real u) slices_S4096x2048_S4096x1024_0_0
abbrev gates : FVec Ideal S4096x1024 .f32 := extractStridedSlice S4096x1024 ![0, 1024] (real u) slices_S4096x2048_S4096x1024_0_1024
abbrev ones : FVec Ideal S4096x1024 .f32 := broadcastInDim S4096x1024 ![] bcast_S_S4096x1024 (constant (F := Ideal) Cert.GluRefIdeal.S_ .f32 0x3F800000#32)

/-- The reference's result is the kernel's. -/
theorem equal : mulf (values u) (Host.divf ones (addf ones (Host.exp (Host.negf (gates u))))) = out u := by
  funext y
  obtain ⟨r, k, rfl⟩ : ∃ (r : Fin 4096) (k : Fin 1024), y = ix2 r k := ⟨y 0, y 1, eq_ix2 y⟩
  have v : values u (ix2 r k) = u (ix2 r ⟨k.val, by omega⟩) := at_ix2 u _ _ _ (Nat.zero_add _) (Nat.zero_add _)
  have g : gates u (ix2 r k) = u (ix2 r ⟨k.val + 1024, by omega⟩) := at_ix2 u _ _ _ (Nat.zero_add _) (Nat.add_comm _ _)
  refine Eq.trans ?_ (congrArg₂ (fun a b => a * logit b) v g)
  generalize values u = p
  generalize gates u = q
  simp only [pointwise, Ideal.ofBits_one_f32]
  rfl

end Reference

theorem frame_reference : Cert.quiescent_GluRefIdeal := fun m ρ _ =>
  (θ_run Cert.GluRefIdeal.defs _ _).mono (fun r h => ⟨fun c => (h c).2, sem_eq_zero_of_no_sems (by decide) r.2⟩)
    (Cert.GluRefIdeal.Value.run m ρ)

theorem algebraic : Cert.algebraic_GluIdeal_GluRefIdeal := by
  intro m g m' g' _ h
  refine ⟨fun c => out (halves m c), (θ_run Cert.GluIdeal.defs _ _).mono (fun _ r c => ⟨(r c).1.trans (result m c), (r c).2⟩) (run_blocks m g),
    (θ_run Cert.GluRefIdeal.defs _ _).mono (fun _ r c => ⟨(r c).1.trans ?_, (r c).2⟩) (Cert.GluRefIdeal.Value.run m' g')⟩
  exact (Reference.equal _).trans (congrArg out (h c))

end Cert.Proof.Glu

end
-- ==== Proof.Lnorm.lean ====
/- The convolution module's layer norm, of two halves of columns side by side, and the gate `a * logit a` after it. -/
module

public import proofs.«01_k».proof.Defs
public import proofs.«01_k».proof.Proof.Dnorm
public import proofs.«01_k».proof.Proof.Gen.LnormIdeal.Value
public import proofs.«01_k».proof.Proof.Gen.LnormRefIdeal.Run

@[expose] public section

set_option maxRecDepth 16384

noncomputable section

namespace Cert.Proof.Lnorm

open Idealize.ShloMosaic Idealize.ShloMosaic.TcCoe Idealize.ShloMosaic.Tactic Idealize.SL.Sem
open Cert.LnormIdeal Cert.LnormIdeal.Gen Cert.LnormIdeal.Value
open Cert.Proof.Dnorm (row inputs both)

/-- The normed row `x` scaled by `g` and shifted by `b`, -/
def output (x g b : Fin 1024 → EReal) (k : Fin 1024) : EReal := Norm.normed x k * g k + b k

/-- through the gate; -/
def gated (x g b : Fin 1024 → EReal) (k : Fin 1024) : EReal := output x g b k * logit (output x g b k)

/-- so for every row. -/
def out (x : FVec Ideal S4096x1024 .f32) (g b : Vec Ideal S1x1024 .f32) : Vec Ideal S4096x1024 .bf16 := fun j => gated (row x (j 0)) (row g 0) (row b 0) (j 1)

/-- What a point leaves at an index. -/
theorem gated_at (p q : Vec Ideal S256x512 .f32) (g b : Vec Ideal S1x1024 .f32) (r : Fin 256) (k : Fin 1024) :
    k0_pay1 p q g b (ix2 r k) = gated (row (inputs p q) r) (row g 0) (row b 0) k := by
  unfold k0_pay1
  show _ = gated (row (concatenate S256x1024 1 [⟨S256x512, p⟩, ⟨S256x512, q⟩] concatenates_S256x512_S256x512_S256x1024_d1) r) (row g 0) (row b 0) k
  generalize concatenate S256x1024 1 [⟨S256x512, p⟩, ⟨S256x512, q⟩] concatenates_S256x512_S256x512_S256x1024_d1 = x
  simp only [pointwise, zero_add, zero_sub, Ideal.ofBits_one_f32]
  rfl

variable (m : (ℓ : Loc nD τ sig) → Buf (Elt Ideal) ℓ)

abbrev low (c : Dev nD) : Vec Ideal S4096x512 .f32 := m ((c : Thread nD τ).loc main_arg0)
abbrev high (c : Dev nD) : Vec Ideal S4096x512 .f32 := m ((c : Thread nD τ).loc main_arg1)
abbrev scale (c : Dev nD) : Vec Ideal S1x1024 .f32 := m ((c : Thread nD τ).loc main_arg2)
abbrev shift (c : Dev nD) : Vec Ideal S1x1024 .f32 := m ((c : Thread nD τ).loc main_arg3)

abbrev lowAt (c : Dev nD) (t : Fin cfg0.N) : Vec Ideal S256x512 .f32 := iblk m c 0 t
abbrev highAt (c : Dev nD) (t : Fin cfg0.N) : Vec Ideal S256x512 .f32 := iblk m c 1 t
abbrev scaleAt (c : Dev nD) (t : Fin cfg0.N) : Vec Ideal S1x1024 .f32 := iblk m c 2 t
abbrev shiftAt (c : Dev nD) (t : Fin cfg0.N) : Vec Ideal S1x1024 .f32 := iblk m c 3 t

/-- Point `t` takes the `t`-th rows of both halves and of the result. -/
theorem rows : ∀ t : Fin cfg0.N, win0_0.index t = ![t.val, 0] ∧ win0_1.index t = ![t.val, 0] ∧ win0_2.index t = ![0, 0] ∧ win0_3.index t = ![0, 0]
    ∧ win0_4.index t = ![t.val, 0] ∧ win0_4.flush t = true :=
  (by decide +kernel : ∀ t : Fin grid0.N, _)

section Read
variable (c : Dev nD) (t : Fin cfg0.N)

theorem inputs_row (r : Fin 256) (i : Fin 4096) (hi : i.val = t.val * 256 + r.val) :
    row (inputs (lowAt m c t) (highAt m c t)) r = row (both (low m c) (high m c)) i := by
  obtain ⟨e0, e1, -⟩ := rows t
  funext k
  exact beside_congr _ _ _ _ (by decide) r i
    (fun k => (congrFun (V_main_arg0 m c) _).trans (at_tile (low m c) _ e0 256 512 r.val k.val rfl rfl i k hi (by omega)))
    (fun k => (congrFun (V_main_arg1 m c) _).trans (at_tile (high m c) _ e1 256 512 r.val k.val rfl rfl i k hi (by omega))) k

theorem scale_row : row (scaleAt m c t) 0 = row (scale m c) 0 := funext fun k => by
  obtain ⟨-, -, e, -⟩ := rows t
  exact (congrFun (V_main_arg2 m c) _).trans (at_tile (scale m c) _ e 1 1024 0 k.val rfl rfl 0 k rfl (by omega))

theorem shift_row : row (shiftAt m c t) 0 = row (shift m c) 0 := funext fun k => by
  obtain ⟨-, -, -, e, -⟩ := rows t
  exact (congrFun (V_main_arg3 m c) _).trans (at_tile (shift m c) _ e 1 1024 0 k.val rfl rfl 0 k rfl (by omega))

end Read

theorem flushed_eq (c : Dev nD) (t : Fin cfg0.N) :
    (dats m 0 c).flushed 4 t = ((cfg0.win 4).blk t).view.read (Elt Ideal) (out (both (low m c) (high m c)) (scale m c) (shift m c)) := by
  obtain ⟨-, -, -, -, e, -⟩ := rows t
  rw [flushed4]
  unfold out0_4
  rw [View.canon_unit_zero zero2]
  simp only [View.ld_unit_zero (S := S256x512) zero2, View.ld_unit_zero (S := S1x1024) zero2]
  funext j
  obtain ⟨r, k, rfl⟩ : ∃ (r : Fin 256) (k : Fin 1024), j = ix2 r k := ⟨j 0, j 1, eq_ix2 j⟩
  have hN : cfg0.N = 16 := (by decide +kernel : grid0.N = 16)
  have ht := t.isLt
  show k0_pay1 (lowAt m c t) (highAt m c t) (scaleAt m c t) (shiftAt m c t) (ix2 r k)
    = out (both (low m c) (high m c)) (scale m c) (shift m c) (((cfg0.win 4).blk t).view.emb (ix2 r k))
  rw [gated_at, scale_row, shift_row, inputs_row m c t r ⟨t.val * 256 + r.val, by omega⟩ rfl,
    at_tile (out (both (low m c) (high m c)) (scale m c) (shift m c)) _ e 256 1024 r.val k.val rfl rfl ⟨t.val * 256 + r.val, by omega⟩ k rfl (by omega)]
  rfl

theorem result (c : Dev nD) : (dats m 0 c).arrAt 4 cfg0.N = out (both (low m c) (high m c)) (scale m c) (shift m c) :=
  (dats m 0 c).arrAt_eq_of_cover 4 _ (fun t _ => flushed_eq m c t) fun i => by
    have h0 : (i 0).val < 4096 := (i 0).isLt
    have h1 : (i 1).val < 1024 := (i 1).isLt
    have hN : cfg0.N = 16 := (by decide +kernel : grid0.N = 16)
    obtain ⟨t, ht⟩ : ∃ t : Fin cfg0.N, t.val = (i 0).val / 256 := ⟨⟨(i 0).val / 256, by rw [hN]; omega⟩, rfl⟩
    obtain ⟨-, -, -, -, e, hf⟩ := rows t
    refine ⟨t, hf, ?_⟩
    show i ∈ ((View.whole main_v0).slice (win0_4.rect t)).set
    rw [View.set_slice_whole]
    exact mem_tile _ i (s0 := 256) (s1 := 1024) rfl rfl (by decide) (by decide) (congrArg (· * 256) ((congrFun e 0).trans ht))
      (congrArg (· * 1024) ((congrFun e 1).trans (Nat.div_eq_of_lt h1).symm))

/-- The reference's result, in the terms of its gradient's proof. -/
theorem equal (x : FVec Ideal S4096x1024 .f32) (g b : Vec Ideal S1x1024 .f32) :
    (truncf .bf16 (mulf (Dnorm.Reference.output x g b) (Dnorm.Reference.logits (Dnorm.Reference.output x g b))) Cert.LnormRefIdeal.Gen.bitsLt_bf16_f32 : Vec Ideal S4096x1024 .bf16)
      = out x g b := by
  funext j
  obtain ⟨r, k, rfl⟩ : ∃ (r : Fin 4096) (k : Fin 1024), j = ix2 r k := ⟨j 0, j 1, eq_ix2 j⟩
  refine Eq.trans ?_ (congrArg (fun a => a * logit a) (Dnorm.Reference.output_apply x g b r k))
  generalize Dnorm.Reference.output x g b = v
  unfold Dnorm.Reference.logits
  simp only [pointwise, Ideal.ofBits_one_f32]
  rfl

theorem frame_reference : Cert.quiescent_LnormRefIdeal := fun m ρ _ =>
  (θ_run Cert.LnormRefIdeal.defs _ _).mono (fun r h => ⟨fun c => (h c).2, sem_eq_zero_of_no_sems (by decide) r.2⟩)
    (Cert.LnormRefIdeal.Value.run m ρ)

theorem algebraic : Cert.algebraic_LnormIdeal_LnormRefIdeal := by
  intro m g m' g' _ h
  refine ⟨fun c => out (both (low m c) (high m c)) (scale m c) (shift m c),
    (θ_run Cert.LnormIdeal.defs _ _).mono (fun _ r c => ⟨(r c).1.trans (result m c), (r c).2⟩) (run_blocks m g),
    (θ_run Cert.LnormRefIdeal.defs _ _).mono (fun _ r c => ⟨(r c).1.trans ?_, (r c).2⟩) (Cert.LnormRefIdeal.Value.run m' g')⟩
  obtain ⟨h0, h1, h2, h3⟩ := h c
  refine (equal (both (m' ((c.tc : Thread Cert.LnormRefIdeal.nD Cert.LnormRefIdeal.τ).loc Cert.LnormRefIdeal.main_arg0))
    (m' ((c.tc : Thread Cert.LnormRefIdeal.nD Cert.LnormRefIdeal.τ).loc Cert.LnormRefIdeal.main_arg1))) _ _).trans ?_
  rw [h0, h1, h2, h3]

end Cert.Proof.Lnorm

end
-- ==== Proof.Rnorm.lean ====
/- The residual sum `h + gate * y` of a block, and the next block's root-mean-square norm of it with its scale and shift. -/
module

public import proofs.«01_k».proof.Defs
public import proofs.«01_k».proof.Proof.Drms
public import proofs.«01_k».proof.Proof.Gen.RnormIdeal.Value
public import proofs.«01_k».proof.Proof.Gen.RnormRefIdeal.Run

@[expose] public section

set_option maxRecDepth 16384

noncomputable section

namespace Cert.Proof.Rnorm

open Idealize.ShloMosaic Idealize.ShloMosaic.TcCoe Idealize.ShloMosaic.Tactic Idealize.SL.Sem
open Cert.RnormIdeal Cert.RnormIdeal.Gen Cert.RnormIdeal.Value
open Cert.Proof.Drms (row width)

/-- The sum, -/
def total {n : ℕ} (h y : (⟨2, ![n, 1024]⟩ : Shape).Idx → EReal) (a : Vec Ideal S1x1024 .f32) : (⟨2, ![n, 1024]⟩ : Shape).Idx → EReal :=
  fun j => h j + a (ix2 0 (j 1)) * y j

/-- and its norm. -/
def normed {n : ℕ} (x : (⟨2, ![n, 1024]⟩ : Shape).Idx → EReal) (g s b : Vec Ideal S1x1024 .f32) : (⟨2, ![n, 1024]⟩ : Shape).Idx → EReal :=
  fun j => x j * Rms.inv width (row x (j 0)) * g (ix2 0 (j 1)) * (1 + s (ix2 0 (j 1))) + b (ix2 0 (j 1))

section Payload
variable (h y : Vec Ideal S256x1024 .f32) (a g s b : Vec Ideal S1x1024 .f32)

theorem total_at : k0_pay1 h y a = total h y a := by
  funext j
  obtain ⟨r, k, rfl⟩ : ∃ (r : Fin 256) (k : Fin 1024), j = ix2 r k := ⟨j 0, j 1, eq_ix2 j⟩
  unfold k0_pay1
  simp only [pointwise]
  rfl

theorem sum_at : k0_pay2 h y a = total h y a := (shapeCast_self ..).trans (total_at h y a)

theorem normed_at : k0_pay3 h y a g s b = normed (total h y a) g s b := by
  funext j
  obtain ⟨r, k, rfl⟩ : ∃ (r : Fin 256) (k : Fin 1024), j = ix2 r k := ⟨j 0, j 1, eq_ix2 j⟩
  unfold k0_pay3
  rw [total_at]
  generalize total h y a = x
  simp only [pointwise, zero_add, Ideal.ofBits_one_f32]
  rfl

end Payload

variable (m : (ℓ : Loc nD τ sig) → Buf (Elt Ideal) ℓ)

abbrev stream (c : Dev nD) : Vec Ideal S4096x1024 .f32 := m ((c : Thread nD τ).loc main_arg0)
abbrev branch (c : Dev nD) : Vec Ideal S4096x1024 .f32 := m ((c : Thread nD τ).loc main_arg1)
abbrev gate (c : Dev nD) : Vec Ideal S1x1024 .f32 := m ((c : Thread nD τ).loc main_arg2)
abbrev weight (c : Dev nD) : Vec Ideal S1x1024 .f32 := m ((c : Thread nD τ).loc main_arg3)
abbrev scale (c : Dev nD) : Vec Ideal S1x1024 .f32 := m ((c : Thread nD τ).loc main_arg4)
abbrev shift (c : Dev nD) : Vec Ideal S1x1024 .f32 := m ((c : Thread nD τ).loc main_arg5)

abbrev sums (c : Dev nD) : Vec Ideal S4096x1024 .f32 := total (stream m c) (branch m c) (gate m c)
abbrev norms (c : Dev nD) : Vec Ideal S4096x1024 .bf16 := normed (sums m c) (weight m c) (scale m c) (shift m c)

abbrev streamAt (c : Dev nD) (t : Fin cfg0.N) : Vec Ideal S256x1024 .f32 := iblk m c 0 t
abbrev branchAt (c : Dev nD) (t : Fin cfg0.N) : Vec Ideal S256x1024 .f32 := iblk m c 1 t
abbrev gateAt (c : Dev nD) (t : Fin cfg0.N) : Vec Ideal S1x1024 .f32 := iblk m c 2 t
abbrev weightAt (c : Dev nD) (t : Fin cfg0.N) : Vec Ideal S1x1024 .f32 := iblk m c 3 t
abbrev scaleAt (c : Dev nD) (t : Fin cfg0.N) : Vec Ideal S1x1024 .f32 := iblk m c 4 t
abbrev shiftAt (c : Dev nD) (t : Fin cfg0.N) : Vec Ideal S1x1024 .f32 := iblk m c 5 t

/-- Point `t` takes the `t`-th rows of the arrays and the whole of the four rows. -/
theorem rows : ∀ t : Fin cfg0.N, (win0_0.index t = ![t.val, 0] ∧ win0_1.index t = ![t.val, 0])
    ∧ (win0_2.index t = ![0, 0] ∧ win0_3.index t = ![0, 0] ∧ win0_4.index t = ![0, 0] ∧ win0_5.index t = ![0, 0])
    ∧ (win0_6.index t = ![t.val, 0] ∧ win0_6.flush t = true) ∧ win0_7.index t = ![t.val, 0] ∧ win0_7.flush t = true :=
  (by decide +kernel : ∀ t : Fin grid0.N, _)

section Read
variable (c : Dev nD) (t : Fin cfg0.N)

theorem four : gateAt m c t = gate m c ∧ weightAt m c t = weight m c ∧ scaleAt m c t = scale m c ∧ shiftAt m c t = shift m c := by
  obtain ⟨-, ⟨e2, e3, e4, e5⟩, -⟩ := rows t
  refine ⟨funext fun j => ?_, funext fun j => ?_, funext fun j => ?_, funext fun j => ?_⟩ <;>
    obtain ⟨z, k, rfl⟩ : ∃ (z : Fin 1) (k : Fin 1024), j = ix2 z k := ⟨j 0, j 1, eq_ix2 j⟩
  · exact (congrFun (V_main_arg2 m c) _).trans (at_tile (gate m c) _ e2 1 1024 z.val k.val rfl rfl z k (by omega) (by omega))
  · exact (congrFun (V_main_arg3 m c) _).trans (at_tile (weight m c) _ e3 1 1024 z.val k.val rfl rfl z k (by omega) (by omega))
  · exact (congrFun (V_main_arg4 m c) _).trans (at_tile (scale m c) _ e4 1 1024 z.val k.val rfl rfl z k (by omega) (by omega))
  · exact (congrFun (V_main_arg5 m c) _).trans (at_tile (shift m c) _ e5 1 1024 z.val k.val rfl rfl z k (by omega) (by omega))

/-- A row of the point's sums is the whole's. -/
theorem total_row (r : Fin 256) (i : Fin 4096) (hi : i.val = t.val * 256 + r.val) :
    row (total (streamAt m c t) (branchAt m c t) (gate m c)) r = row (sums m c) i := funext fun k => by
  obtain ⟨⟨e0, e1⟩, -⟩ := rows t
  exact congrArg₂ (fun a b => a + gate m c (ix2 0 k) * b)
    ((congrFun (V_main_arg0 m c) _).trans (at_tile (stream m c) _ e0 256 1024 r.val k.val rfl rfl i k hi (by omega)))
    ((congrFun (V_main_arg1 m c) _).trans (at_tile (branch m c) _ e1 256 1024 r.val k.val rfl rfl i k hi (by omega)))

end Read

theorem flushed_sum (c : Dev nD) (t : Fin cfg0.N) : (dats m 0 c).flushed 6 t = ((cfg0.win 6).blk t).view.read (Elt Ideal) (sums m c) := by
  obtain ⟨-, -, ⟨e, -⟩, -⟩ := rows t
  rw [flushed6]
  unfold out0_6
  rw [View.canon_unit_zero zero2]
  simp only [View.ld_unit_zero (S := S256x1024) zero2, View.ld_unit_zero (S := S1x1024) zero2]
  funext j
  obtain ⟨r, k, rfl⟩ : ∃ (r : Fin 256) (k : Fin 1024), j = ix2 r k := ⟨j 0, j 1, eq_ix2 j⟩
  have hN : cfg0.N = 16 := (by decide +kernel : grid0.N = 16)
  have ht := t.isLt
  show k0_pay2 (streamAt m c t) (branchAt m c t) (gateAt m c t) (ix2 r k) = sums m c (((cfg0.win 6).blk t).view.emb (ix2 r k))
  rw [sum_at, (four m c t).1, at_tile (sums m c) _ e 256 1024 r.val k.val rfl rfl ⟨t.val * 256 + r.val, by omega⟩ k rfl (by omega)]
  exact congrFun (total_row m c t r _ rfl) k

theorem flushed_norm (c : Dev nD) (t : Fin cfg0.N) : (dats m 0 c).flushed 7 t = ((cfg0.win 7).blk t).view.read (Elt Ideal) (norms m c) := by
  obtain ⟨-, -, -, e, -⟩ := rows t
  obtain ⟨f2, f3, f4, f5⟩ := four m c t
  rw [flushed7]
  unfold out0_7
  rw [View.canon_unit_zero zero2]
  simp only [View.ld_unit_zero (S := S256x1024) zero2, View.ld_unit_zero (S := S1x1024) zero2]
  funext j
  obtain ⟨r, k, rfl⟩ : ∃ (r : Fin 256) (k : Fin 1024), j = ix2 r k := ⟨j 0, j 1, eq_ix2 j⟩
  have hN : cfg0.N = 16 := (by decide +kernel : grid0.N = 16)
  have ht := t.isLt
  show k0_pay3 (streamAt m c t) (branchAt m c t) (gateAt m c t) (weightAt m c t) (scaleAt m c t) (shiftAt m c t) (ix2 r k)
    = norms m c (((cfg0.win 7).blk t).view.emb (ix2 r k))
  rw [normed_at, f2, f3, f4, f5, at_tile (norms m c) _ e 256 1024 r.val k.val rfl rfl ⟨t.val * 256 + r.val, by omega⟩ k rfl (by omega)]
  exact congrArg (fun x : Fin 1024 → EReal => x k * Rms.inv width x * weight m c (ix2 0 k) * (1 + scale m c (ix2 0 k)) + shift m c (ix2 0 k))
    (total_row m c t r _ rfl)

/-- The call leaves the sums and their norms. -/
theorem result (c : Dev nD) : (dats m 0 c).arrAt 6 cfg0.N = sums m c ∧ (dats m 0 c).arrAt 7 cfg0.N = norms m c := by
  have point (i : Fin 4096) : ∃ t : Fin cfg0.N, t.val = i.val / 256 := by
    have hN : cfg0.N = 16 := (by decide +kernel : grid0.N = 16)
    exact ⟨⟨i.val / 256, by rw [hN]; omega⟩, rfl⟩
  refine ⟨(dats m 0 c).arrAt_eq_of_cover 6 _ (fun t _ => flushed_sum m c t) fun i => ?_, (dats m 0 c).arrAt_eq_of_cover 7 _ (fun t _ => flushed_norm m c t) fun i => ?_⟩ <;>
    obtain ⟨t, ht⟩ := point (i 0)
  · obtain ⟨-, -, ⟨e, hf⟩, -⟩ := rows t
    refine ⟨t, hf, ?_⟩
    show i ∈ ((View.whole main_v0_0).slice (win0_6.rect t)).set
    rw [View.set_slice_whole]
    exact mem_tile _ i (s0 := 256) (s1 := 1024) rfl rfl (by decide) (by decide) (congrArg (· * 256) ((congrFun e 0).trans ht))
      (congrArg (· * 1024) ((congrFun e 1).trans (Nat.div_eq_of_lt (show (i 1).val < 1024 from (i 1).isLt)).symm))
  · obtain ⟨-, -, -, e, hf⟩ := rows t
    refine ⟨t, hf, ?_⟩
    show i ∈ ((View.whole main_v0_1).slice (win0_7.rect t)).set
    rw [View.set_slice_whole]
    exact mem_tile _ i (s0 := 256) (s1 := 1024) rfl rfl (by decide) (by decide) (congrArg (· * 256) ((congrFun e 0).trans ht))
      (congrArg (· * 1024) ((congrFun e 1).trans (Nat.div_eq_of_lt (show (i 1).val < 1024 from (i 1).isLt)).symm))

namespace Reference

variable (h y x : Vec Ideal S4096x1024 .f32) (a g s b : Vec Ideal S1x1024 .f32)

theorem sum_eq : addf h (mulf (Drms.Reference.down a) y) = total h y a := by
  funext j
  obtain ⟨r, k, rfl⟩ : ∃ (r : Fin 4096) (k : Fin 1024), j = ix2 r k := ⟨j 0, j 1, eq_ix2 j⟩
  simp only [pointwise]
  rfl

/-- The reference's norm, in the terms of its gradient's proof. -/
theorem norm_eq :
    (truncf .bf16 (addf (mulf (mulf (Drms.Reference.normed x) (Drms.Reference.down g)) (Drms.Reference.down (addf (Drms.Reference.line 0x3F800000#32) s))) (Drms.Reference.down b))
      Cert.RnormRefIdeal.Gen.bitsLt_bf16_f32 : Vec Ideal S4096x1024 .bf16) = normed x g s b := by
  funext j
  obtain ⟨r, k, rfl⟩ : ∃ (r : Fin 4096) (k : Fin 1024), j = ix2 r k := ⟨j 0, j 1, eq_ix2 j⟩
  have e := Drms.Reference.normed_apply x r k
  refine Eq.trans ?_ (congrArg (fun v => v * g (ix2 0 k) * (1 + s (ix2 0 k)) + b (ix2 0 k)) e)
  generalize Drms.Reference.normed x = v
  simp only [pointwise, Ideal.ofBits_one_f32]
  rfl

end Reference

theorem frame_reference : Cert.quiescent_RnormRefIdeal := fun m ρ _ =>
  (θ_run Cert.RnormRefIdeal.defs _ _).mono (fun r h => ⟨fun c => (h c).2.2, sem_eq_zero_of_no_sems (by decide) r.2⟩)
    (Cert.RnormRefIdeal.Value.run m ρ)

theorem algebraic : Cert.algebraic_RnormIdeal_RnormRefIdeal := by
  intro m g m' g' _ h
  refine ⟨fun c => sums m c, fun c => norms m c,
    (θ_run Cert.RnormIdeal.defs _ _).mono (fun _ r c => ⟨(r c).1.trans (result m c).1, (r c).2.1.trans (result m c).2, (r c).2.2⟩) (run_blocks m g),
    (θ_run Cert.RnormRefIdeal.defs _ _).mono (fun _ r c => ?_) (Cert.RnormRefIdeal.Value.run m' g')⟩
  obtain ⟨h0, h1, h2, h3, h4, h5⟩ := h c
  have e : addf (F := Ideal) (m' ((c.tc : Thread Cert.RnormRefIdeal.nD Cert.RnormRefIdeal.τ).loc Cert.RnormRefIdeal.main_arg0))
      (mulf (Drms.Reference.down (m' ((c.tc : Thread Cert.RnormRefIdeal.nD Cert.RnormRefIdeal.τ).loc Cert.RnormRefIdeal.main_arg2)))
        (m' ((c.tc : Thread Cert.RnormRefIdeal.nD Cert.RnormRefIdeal.τ).loc Cert.RnormRefIdeal.main_arg1))) = sums m c := by
    rw [h0, h1, h2]
    exact Reference.sum_eq ..
  refine ⟨(r c).1.trans e, (r c).2.1.trans ((Reference.norm_eq (addf (F := Ideal) (m' ((c.tc : Thread Cert.RnormRefIdeal.nD Cert.RnormRefIdeal.τ).loc Cert.RnormRefIdeal.main_arg0)) _) _ _ _).trans ?_), (r c).2.2⟩
  refine (congrArg (fun x => normed x _ _ _) e).trans ?_
  rw [h3, h4, h5]

end Cert.Proof.Rnorm

end
-- ==== Proof.Sgate.lean ====
/- The state-space layer's gate and norm: the sum of the two directions and of the skip goes through the gate, and the rows after
   the context through a root-mean-square norm. -/
module

public import proofs.«01_k».proof.Defs
public import proofs.«01_k».proof.Proof.Dgate
public import proofs.«01_k».proof.Proof.Gen.SgateIdeal.Value
public import proofs.«01_k».proof.Proof.Gen.SgateRefIdeal.Run

@[expose] public section

set_option maxRecDepth 16384

noncomputable section

namespace Cert.Proof.Sgate

open Idealize.ShloMosaic Idealize.ShloMosaic.TcCoe Idealize.ShloMosaic.Tactic Idealize.SL.Sem
open Cert.SgateIdeal Cert.SgateIdeal.Gen Cert.SgateIdeal.Value
open Cert.Proof.Dgate (row width gated total sums wide above zero3)

/-- The normed row of a sum `v`, gated by `z` and scaled by `w`. -/
def scaled (v z w : Fin 2048 → EReal) (k : Fin 2048) : EReal := gated v z k * Rms.inv width (gated v z) * w k

section Payload
variable (y y' : Vec Ideal S1x256x2048 .f32) (x z : Vec Ideal S256x2048 .bf16) (s w : Vec Ideal S1x2048 .f32)

theorem scaled_at (r : Fin 256) (k : Fin 2048) : k0_pay1 (k0_pay2 y y' x z s w) (ix2 r k) = scaled (total y y' x s r) (row z r) (row w 0) k := by
  unfold k0_pay1 k0_pay2
  rw [shapeCast_self]
  simp only [pointwise, zero_add, zero_sub, Ideal.ofBits_one_f32]
  rfl

end Payload

/-- The gate's input has more columns, of which the first are taken. -/
def first (k : Fin 2048) : Fin 6144 := ⟨k.val, by omega⟩

/-- The whole result. -/
def out (y : Vec Ideal S2x4352x2048 .f32) (x : Vec Ideal S4352x4096 .bf16) (z : Vec Ideal S4352x6144 .bf16) (s w : Vec Ideal S1x2048 .f32) : Vec Ideal S4096x2048 .bf16 :=
  fun j => scaled (sums y x s (above (j 0))) (fun k => z (ix2 (above (j 0)) (first k))) (row w 0) (j 1)

variable (m : (ℓ : Loc nD τ sig) → Buf (Elt Ideal) ℓ)

abbrev ways (c : Dev nD) : Vec Ideal S2x4352x2048 .f32 := m ((c : Thread nD τ).loc main_arg0)
abbrev skipped (c : Dev nD) : Vec Ideal S4352x4096 .bf16 := m ((c : Thread nD τ).loc main_arg1)
abbrev gate (c : Dev nD) : Vec Ideal S4352x6144 .bf16 := m ((c : Thread nD τ).loc main_arg2)
abbrev factor (c : Dev nD) : Vec Ideal S1x2048 .f32 := m ((c : Thread nD τ).loc main_arg3)
abbrev scale (c : Dev nD) : Vec Ideal S1x2048 .f32 := m ((c : Thread nD τ).loc main_arg4)
abbrev result (c : Dev nD) : Vec Ideal S4096x2048 .bf16 := out (ways m c) (skipped m c) (gate m c) (factor m c) (scale m c)

abbrev yAt (c : Dev nD) (t : Fin cfg0.N) : Vec Ideal S1x256x2048 .f32 := iblk m c 0 t
abbrev backAt (c : Dev nD) (t : Fin cfg0.N) : Vec Ideal S1x256x2048 .f32 := iblk m c 1 t
abbrev xAt (c : Dev nD) (t : Fin cfg0.N) : Vec Ideal S256x2048 .bf16 := iblk m c 2 t
abbrev zAt (c : Dev nD) (t : Fin cfg0.N) : Vec Ideal S256x2048 .bf16 := iblk m c 3 t
abbrev sAt (c : Dev nD) (t : Fin cfg0.N) : Vec Ideal S1x2048 .f32 := iblk m c 4 t
abbrev wAt (c : Dev nD) (t : Fin cfg0.N) : Vec Ideal S1x2048 .f32 := iblk m c 5 t

/-- Point `t` takes the rows that come `t`-th after the context, which is as many rows, and writes the `t`-th. -/
theorem rows : ∀ t : Fin cfg0.N, (win0_0.index t = ![0, t.val + 1, 0] ∧ win0_1.index t = ![1, t.val + 1, 0])
    ∧ (win0_2.index t = ![t.val + 1, 0] ∧ win0_3.index t = ![t.val + 1, 0]) ∧ (win0_4.index t = ![0, 0] ∧ win0_5.index t = ![0, 0])
    ∧ win0_6.index t = ![t.val, 0] ∧ win0_6.flush t = true :=
  (by decide +kernel : ∀ t : Fin grid0.N, _)

section Read
variable (c : Dev nD) (t : Fin cfg0.N) (r : Fin 256) (i : Fin 4352) (hi : i.val = (t.val + 1) * 256 + r.val)

include hi

theorem total_row : total (yAt m c t) (backAt m c t) (xAt m c t) (sAt m c t) r = sums (ways m c) (skipped m c) (factor m c) i := funext fun k => by
  obtain ⟨⟨e0, e1⟩, ⟨e2, -⟩, ⟨e4, -⟩, -⟩ := rows t
  unfold total sums
  exact congrArg₂ (· + ·)
    (congrArg₂ (· + ·) ((congrFun (V_main_arg0 m c) _).trans (at_tile3 (ways m c) _ e0 1 256 2048 0 r.val k.val rfl rfl rfl 0 i k rfl hi (by omega)))
      ((congrFun (V_main_arg0 m c) _).trans (at_tile3 (ways m c) _ e1 1 256 2048 0 r.val k.val rfl rfl rfl 1 i k rfl hi (by omega))))
    (congrArg₂ (· * ·) ((congrFun (V_main_arg3 m c) _).trans (at_tile (factor m c) _ e4 1 2048 0 k.val rfl rfl 0 k rfl (by omega)))
      ((congrFun (V_main_arg1 m c) _).trans (at_tile (skipped m c) _ e2 256 2048 r.val k.val rfl rfl i (wide k) hi (by show k.val = _; omega))))

theorem gate_row : row (zAt m c t) r = fun k => gate m c (ix2 i (first k)) := funext fun k => by
  obtain ⟨-, ⟨-, e⟩, -⟩ := rows t
  exact (congrFun (V_main_arg2 m c) _).trans (at_tile (gate m c) _ e 256 2048 r.val k.val rfl rfl i (first k) hi (by show k.val = _; omega))

omit hi
theorem scale_row : row (wAt m c t) 0 = row (scale m c) 0 := funext fun k => by
  obtain ⟨-, -, ⟨-, e⟩, -⟩ := rows t
  exact (congrFun (V_main_arg4 m c) _).trans (at_tile (scale m c) _ e 1 2048 0 k.val rfl rfl 0 k rfl (by omega))

end Read

theorem flushed_eq (c : Dev nD) (t : Fin cfg0.N) : (dats m 0 c).flushed 6 t = ((cfg0.win 6).blk t).view.read (Elt Ideal) (result m c) := by
  obtain ⟨-, -, -, e, -⟩ := rows t
  rw [flushed6]
  unfold out0_6
  rw [View.canon_unit_zero zero2]
  simp only [View.ld_unit_zero (S := S256x2048) zero2, View.ld_unit_zero (S := S1x2048) zero2, View.ld_unit_zero (S := S1x256x2048) zero3]
  funext j
  obtain ⟨r, k, rfl⟩ : ∃ (r : Fin 256) (k : Fin 2048), j = ix2 r k := ⟨j 0, j 1, eq_ix2 j⟩
  have hN : cfg0.N = 16 := (by decide +kernel : grid0.N = 16)
  have ht := t.isLt
  have hi : (above ⟨t.val * 256 + r.val, by omega⟩).val = (t.val + 1) * 256 + r.val := by show 256 + (t.val * 256 + r.val) = _; omega
  show k0_pay1 (k0_pay2 (yAt m c t) (backAt m c t) (xAt m c t) (zAt m c t) (sAt m c t) (wAt m c t)) (ix2 r k) = result m c (((cfg0.win 6).blk t).view.emb (ix2 r k))
  rw [scaled_at, scale_row, total_row m c t r _ hi, gate_row m c t r _ hi,
    at_tile (result m c) _ e 256 2048 r.val k.val rfl rfl ⟨t.val * 256 + r.val, by omega⟩ k rfl (by omega)]
  rfl

theorem left (c : Dev nD) : (dats m 0 c).arrAt 6 cfg0.N = result m c :=
  (dats m 0 c).arrAt_eq_of_cover 6 _ (fun t _ => flushed_eq m c t) fun i => by
    have h0 : (i 0).val < 4096 := (i 0).isLt
    have h1 : (i 1).val < 2048 := (i 1).isLt
    have hN : cfg0.N = 16 := (by decide +kernel : grid0.N = 16)
    obtain ⟨t, ht⟩ : ∃ t : Fin cfg0.N, t.val = (i 0).val / 256 := ⟨⟨(i 0).val / 256, by rw [hN]; omega⟩, rfl⟩
    obtain ⟨-, -, -, e, hf⟩ := rows t
    refine ⟨t, hf, ?_⟩
    show i ∈ ((View.whole main_v0).slice (win0_6.rect t)).set
    rw [View.set_slice_whole]
    exact mem_tile _ i (s0 := 256) (s1 := 2048) rfl rfl (by decide) (by decide) (congrArg (· * 256) ((congrFun e 0).trans ht))
      (congrArg (· * 2048) ((congrFun e 1).trans (Nat.div_eq_of_lt h1).symm))

namespace Reference
open Cert.Proof.Dgate.Reference (normed inv along passed normed_row inv_apply)

variable (y : Vec Ideal S2x4352x2048 .f32) (x : Vec Ideal S4352x4096 .bf16) (z : Vec Ideal S4352x6144 .bf16) (s w : Vec Ideal S1x2048 .f32)

/-- The columns that the gate takes. -/
abbrev taken : Vec Ideal Cert.SgateRefIdeal.S4352x2048 .bf16 := extractStridedSlice Cert.SgateRefIdeal.S4352x2048 ![0, 0] z Cert.SgateRefIdeal.Gen.slices_S4352x6144_S4352x2048_0_0

theorem taken_row (i : Fin 4352) : row (taken z) i = fun k => z (ix2 i (first k)) := funext fun k => at_ix2 z _ i (first k) (Nat.zero_add _) (Nat.zero_add _)

/-- The reference's result, in the terms of its gradient's proof. -/
theorem equal :
    (truncf .bf16 (passed (mulf (normed y x (taken z) s) (along (inv (normed y x (taken z) s)))) w) Cert.SgateRefIdeal.Gen.bitsLt_bf16_f32 : Vec Ideal S4096x2048 .bf16)
      = out y x z s w := by
  funext j
  obtain ⟨r, k, rfl⟩ : ∃ (r : Fin 4096) (k : Fin 2048), j = ix2 r k := ⟨j 0, j 1, eq_ix2 j⟩
  have e := normed_row y x (taken z) s r
  rw [taken_row] at e
  have ei := inv_apply (normed y x (taken z) s) r 0
  rw [e] at ei
  refine Eq.trans ?_ (congrArg₂ (fun a b => a * b * w (ix2 0 k)) (congrFun e k) ei)
  generalize inv (normed y x (taken z) s) = u
  generalize normed y x (taken z) s = v
  unfold passed
  simp only [row, pointwise]
  rfl

end Reference

theorem frame_reference : Cert.quiescent_SgateRefIdeal := fun m ρ _ =>
  (θ_run Cert.SgateRefIdeal.defs _ _).mono (fun r h => ⟨fun c => (h c).2, sem_eq_zero_of_no_sems (by decide) r.2⟩)
    (Cert.SgateRefIdeal.Value.run m ρ)

theorem algebraic : Cert.algebraic_SgateIdeal_SgateRefIdeal := by
  intro m g m' g' _ h
  refine ⟨fun c => result m c, (θ_run Cert.SgateIdeal.defs _ _).mono (fun _ r c => ⟨(r c).1.trans (left m c), (r c).2⟩) (run_blocks m g),
    (θ_run Cert.SgateRefIdeal.defs _ _).mono (fun _ r c => ⟨(r c).1.trans ?_, (r c).2⟩) (Cert.SgateRefIdeal.Value.run m' g')⟩
  obtain ⟨h0, h1, h2, h3, h4⟩ := h c
  refine (Reference.equal _ _ _ _ _).trans ?_
  rw [h0, h1, h2, h3, h4]

end Cert.Proof.Sgate

end
-- ==== Proof.Dtp.lean ====
/- The state-space layer's step-size product: rows of the input times columns of the padded weight. -/
module

public import proofs.«01_k».proof.Defs
public import proofs.«01_k».proof.Proof.Product
public import proofs.«01_k».proof.Proof.Gen.DtpIdeal.Value
public import proofs.«01_k».proof.Proof.Gen.DtpRefIdeal.Run
public import Idealize.ShloMosaic.Lib.Tactic
public import Idealize.ShloMosaic.Adequacy
public import Idealize.ShloMosaic.Init

@[expose] public section

set_option maxRecDepth 16384

noncomputable section

namespace Cert.Proof.Dtp

open Idealize.ShloMosaic Idealize.ShloMosaic.TcCoe Idealize.ShloMosaic.Tactic Idealize.SL.Sem
open Cert.DtpIdeal Cert.DtpIdeal.Gen Cert.DtpIdeal.Value
open scoped BigOperators

variable (m : (ℓ : Loc nD τ sig) → Buf (Elt Ideal) ℓ)

abbrev input (c : Dev nD) : Vec Ideal S4352x1024 .bf16 := m ((c : Thread nD τ).loc main_arg0)
abbrev weights (c : Dev nD) : Vec Ideal S1024x128 .bf16 := m ((c : Thread nD τ).loc main_arg1)

theorem tiles : ∀ t : Fin cfg0.N, win0_2.flush t = true ∧ win0_0.index t = ![t.val, 0] ∧ win0_1.index t = ![0, 0] ∧ win0_2.index t = ![t.val, 0] :=
  (by decide +kernel : ∀ t : Fin grid0.N, _)

theorem flushed_eq (c : Dev nD) (t : Fin cfg0.N) :
    (dats m 0 c).flushed 2 t = ((cfg0.win 2).blk t).view.read (Elt Ideal) (rowsCols (input m c) (weights m c)) := by
  obtain ⟨-, e0, e1, e2⟩ := tiles t
  rw [flushed2]
  unfold out0_2
  rw [View.canon_unit_zero zero2]
  simp only [View.ld_unit_zero (S := S1088x1024) zero2, View.ld_unit_zero (S := S1024x128) zero2]
  funext y
  obtain ⟨r, s, rfl⟩ : ∃ (r : Fin 1088) (s : Fin 128), y = ix2 r s := ⟨y 0, y 1, eq_ix2 y⟩
  show k0_pay1 (iblk m c 0 t : Vec Ideal S1088x1024 .bf16) (iblk m c 1 t : Vec Ideal S1024x128 .bf16) (ix2 r s) = rowsCols (input m c) (weights m c) (((cfg0.win 2).blk t).view.emb (ix2 r s))
  unfold k0_pay1
  simp only [pointwise, zero_add]
  refine Finset.sum_congr rfl fun k _ => congrArg₂ (· * ·) ((congrFun (V_main_arg0 m c) _).trans (at_ix2 (input m c) _ _ _ ?_ ?_)) ((congrFun (V_main_arg1 m c) _).trans (at_ix2 (weights m c) _ _ _ ?_ ?_))
  · show win0_0.index t (0 : Fin 2) * 1088 + 1 * r.val = win0_2.index t (0 : Fin 2) * 1088 + 1 * r.val; rw [e0, e2]
  · show win0_0.index t (1 : Fin 2) * 1024 + 1 * k.val = k.val; rw [e0]; simp
  · show win0_1.index t (0 : Fin 2) * 1024 + 1 * k.val = k.val; rw [e1]; simp
  · show win0_1.index t (1 : Fin 2) * 128 + 1 * s.val = win0_2.index t (1 : Fin 2) * 128 + 1 * s.val; rw [e1, e2]; rfl

theorem result (c : Dev nD) : (dats m 0 c).arrAt 2 cfg0.N = rowsCols (input m c) (weights m c) :=
  (dats m 0 c).arrAt_eq_of_cover 2 _ (fun t _ => flushed_eq m c t) fun i => by
    have h0 := (show (i 0).val < 4352 from (i 0).isLt)
    have h1 := (show (i 1).val < 128 from (i 1).isLt)
    have hN : cfg0.N = 4 := N_0
    obtain ⟨t, ht⟩ : ∃ t : Fin cfg0.N, t.val = (i 0).val / 1088 := ⟨⟨_, by omega⟩, rfl⟩
    obtain ⟨f, -, -, e⟩ := tiles t
    refine ⟨t, f, ?_⟩
    show i ∈ ((View.whole main_v0).slice (win0_2.rect t)).set
    rw [View.set_slice_whole]
    exact mem_tile _ i (s0 := 1088) (s1 := 128) rfl rfl (by decide) (by decide) (congrArg (· * 1088) ((congrFun e 0).trans ht))
      ((congrArg (· * 128) (congrFun e 1)).trans (show 0 * 128 = (i 1).val / 128 * 128 by omega))

theorem equal (x : Vec Ideal S4352x1024 .bf16) (w : Vec Ideal S1024x128 .bf16) :
    (Host.dotGeneral (F := Ideal) Cert.DtpRefIdeal.dot_S4352x1024_S1024x128_S4352x128_1_0_0_1_n_n none
      (extf .f32 x Cert.DtpRefIdeal.Gen.bitsLt_bf16_f32) (extf .f32 w Cert.DtpRefIdeal.Gen.bitsLt_bf16_f32) : Vec Ideal S4352x128 .f32) = rowsCols x w := by
  refine funext fun y => (congrArg _ (eq_ix2 y)).trans ?_
  simp only [pointwise, zero_add]
  rfl

theorem frame_reference : Cert.quiescent_DtpRefIdeal := fun m ρ _ =>
  (θ_run Cert.DtpRefIdeal.defs _ _).mono (fun r h => ⟨fun c => (h c).2, sem_eq_zero_of_no_sems (by decide) r.2⟩)
    (Cert.DtpRefIdeal.Value.run m ρ)

theorem algebraic : Cert.algebraic_DtpIdeal_DtpRefIdeal := by
  intro m g m' g' _ h
  refine ⟨fun c => rowsCols (input m c) (weights m c), (θ_run Cert.DtpIdeal.defs _ _).mono (fun _ r c => ⟨(r c).1.trans (result m c), (r c).2⟩) (run_blocks m g),
    (θ_run Cert.DtpRefIdeal.defs _ _).mono (fun _ r c => ⟨(r c).1.trans ?_, (r c).2⟩) (Cert.DtpRefIdeal.Value.run m' g')⟩
  exact (equal _ _).trans (congrArg₂ rowsCols (h c).1 (h c).2)

end Cert.Proof.Dtp

end
-- ==== Proof.Dwdt.lean ====
/- The gradient of the state-space layer's step-size weight. A tile of rows takes two points, half the rows of the two
   arguments each. -/
module

public import proofs.«01_k».proof.Defs
public import proofs.«01_k».proof.Proof.Product
public import proofs.«01_k».proof.Proof.Gen.DwdtIdeal.Value
public import proofs.«01_k».proof.Proof.Gen.DwdtRefIdeal.Run
public import Idealize.ShloMosaic.Lib.Tactic
public import Idealize.ShloMosaic.Adequacy
public import Idealize.ShloMosaic.Init

@[expose] public section

set_option maxRecDepth 16384

noncomputable section

namespace Cert.Proof.Dwdt

open Idealize.ShloMosaic Idealize.ShloMosaic.TcCoe Idealize.ShloMosaic.Tactic Idealize.SL.Sem
open Cert.DwdtIdeal Cert.DwdtIdeal.Gen Cert.DwdtIdeal.Value
open scoped BigOperators

section Points

variable (c : Dev nD) (i : grid0.Coords) (a0 : Memref sig .tc .vmem S2176x512 .bf16) (h0 : a0.IsWhole)
  (a1 : Memref sig .tc .vmem S2176x128 .bf16) (h1 : a1.IsWhole) (a2 : Memref sig .tc .vmem S512x128 .bf16) (h2 : a2.IsWhole)
  (a3 : Memref sig .tc .vmem S512x128 .f32) (h3 : a3.IsWhole)
  (x0 : Vec Ideal S2176x512 .bf16) (x1 : Vec Ideal S2176x128 .bf16) (acc : Vec Ideal S512x128 .f32)

theorem first (hc : cond0_0 i) (hd : ¬cond0_1 i) : sout0_A_0 c i a0 h0 a1 h1 a2 h2 a3 h3 hc hd x0 x1 = k0_pay2 k0_pay1 x0 x1 := by
  unfold sout0_A_0
  rw [View.read_writes_eq_canon _ _ _ (scover0_A_0 c i a0 h0 a1 h1 a2 h2 a3 h3 hc hd x0 x1)]
  unfold kernelRun0_A
  dsimp only
  sl_unfold_words
  rw [View.canon_cons_unit_zero (S := S512x128) zero2, View.readCov_unit_zero (S := S512x128) _ zero2]
  simp only [View.readAt_eq_ld, h0.read_unread, h1.read_unread, View.ld_unit_zero (S := S2176x512) zero2, View.ld_unit_zero (S := S2176x128) zero2, View.ld_unit_zero (S := S512x128) zero2]

/-- The second of the two points both keeps and writes out the sum. -/
theorem second (hc : ¬cond0_0 i) (hd : cond0_1 i) : sout0_B_0 c i a0 h0 a1 h1 a2 h2 a3 h3 hc hd x0 x1 acc = k0_pay2 acc x0 x1
    ∧ out0_B_2 c i a0 h0 a1 h1 a2 h2 a3 h3 hc hd x0 x1 acc = k0_pay3 (k0_pay2 acc x0 x1) := by
  refine ⟨(View.read_writes_eq_canon _ _ _ (scover0_B_0 c i a0 h0 a1 h1 a2 h2 a3 h3 hc hd x0 x1 acc)).trans ?_,
    (View.read_writes_eq_canon _ _ _ (cover0_B_2 c i a0 h0 a1 h1 a2 h2 a3 h3 hc hd x0 x1 acc)).trans ?_⟩ <;>
    unfold kernelRun0_B <;> dsimp only <;> sl_unfold_words <;> rw [View.canon_unit_zero zero2]
  · simp only [View.readAt_eq_ld, h0.read_unread, h1.read_unread, h3.read_unread, View.ld_unit_zero (S := S2176x512) zero2, View.ld_unit_zero (S := S2176x128) zero2, View.ld_unit_zero (S := S512x128) zero2]
  · rw [View.readCov_unit_zero (S := S512x128) _ zero2]
    simp only [View.readAt_eq_ld, h0.read_unread, h1.read_unread, h3.read_unread, View.ld_unit_zero (S := S2176x512) zero2, View.ld_unit_zero (S := S2176x128) zero2, View.ld_unit_zero (S := S512x128) zero2]

end Points

theorem product (acc : Vec Ideal S512x128 .f32) (x0 : Vec Ideal S2176x512 .bf16) (x1 : Vec Ideal S2176x128 .bf16) (r : Fin 512) (s : Fin 128) :
    k0_pay2 acc x0 x1 (ix2 r s) = acc (ix2 r s) + ∑ k : Fin 2176, x0 (ix2 k r) * x1 (ix2 k s) := by
  unfold k0_pay2
  simp only [pointwise, zero_add]

theorem zero (y : S512x128.Idx) : k0_pay1 (F := Ideal) y = 0 := by
  unfold k0_pay1
  simp only [pointwise]

variable (m : (ℓ : Loc nD τ sig) → Buf (Elt Ideal) ℓ)

abbrev input (c : Dev nD) : Vec Ideal S4352x1024 .bf16 := m ((c : Thread nD τ).loc main_arg0)
abbrev grad (c : Dev nD) : Vec Ideal S4352x128 .bf16 := m ((c : Thread nD τ).loc main_arg1)

abbrev inputAt (c : Dev nD) (t : Fin cfg0.N) : Vec Ideal S2176x512 .bf16 := iblk m c 0 t
abbrev gradAt (c : Dev nD) (t : Fin cfg0.N) : Vec Ideal S2176x128 .bf16 := iblk m c 1 t

theorem blocks : ∀ t : Fin cfg0.N, win0_0.index t = ![t.val % 2, t.val / 2] ∧ win0_1.index t = ![t.val % 2, 0] :=
  (by decide +kernel : ∀ t : Fin grid0.N, _)

/-- The terms a point's product contributes at row `r`, column `s` of its tile, -/
def term (c : Dev nD) (r : Fin 512) (s : Fin 128) (n : ℕ) (h : n < cfg0.N) (k : Fin 2176) : EReal :=
  inputAt m c ⟨n, h⟩ (ix2 k r) * gradAt m c ⟨n, h⟩ (ix2 k s)

/-- which are terms of the whole sum. -/
theorem term_eq (c : Dev nD) (r : Fin 512) (s : Fin 128) (i : Fin 1024) (n : ℕ) (h : n < cfg0.N) (k : Fin 2176) (l : Fin 4352)
    (hi : i.val = n / 2 * 512 + r.val) (hl : l.val = n % 2 * 2176 + k.val) :
    term m c r s n h k = input m c (ix2 l i) * grad m c (ix2 l s) := by
  obtain ⟨e0, e1⟩ := blocks ⟨n, h⟩
  refine congrArg₂ (· * ·) ((congrFun (V_main_arg0 m c) _).trans (at_ix2 (input m c) _ _ _ ?_ ?_)) ((congrFun (V_main_arg1 m c) _).trans (at_ix2 (grad m c) _ _ _ ?_ ?_))
  · exact (congrArg (fun q => q * 2176 + 1 * k.val) (congrFun e0 0)).trans (show n % 2 * 2176 + 1 * k.val = l.val by omega)
  · exact (congrArg (fun q => q * 512 + 1 * r.val) (congrFun e0 1)).trans (show n / 2 * 512 + 1 * r.val = i.val by omega)
  · exact (congrArg (fun q => q * 2176 + 1 * k.val) (congrFun e1 0)).trans (show n % 2 * 2176 + 1 * k.val = l.val by omega)
  · exact (congrArg (fun q => q * 128 + 1 * s.val) (congrFun e1 1)).trans (show 0 * 128 + 1 * s.val = s.val by omega)

theorem written (c : Dev nD) (r : Fin 512) (s : Fin 128) (i : Fin 1024) (q : ℕ) (h : 2 * q + 1 < cfg0.N) (hi : i.val = q * 512 + r.val) :
    (outsAt0 m c (2 * q + 1) h).1 (ix2 r s) = ∑ l : Fin 4352, input m c (ix2 l i) * grad m c (ix2 l s) := by
  refine Eq.trans ?_ (accumulated (J := 1) (T := 2176) rfl (fun n h => (outsAt0 m c n h).2 (ix2 r s)) (term m c r s)
    (fun n h h0 => ?_) (fun n h h0 => ?_) q h _ (fun p k hp l hl => term_eq m c r s i _ hp k l (by omega) (by omega)))
  · rw [outsAt0_B m c ⟨2 * q + 1, h⟩ (by dsimp only; omega) (by dsimp only; omega)]
    dsimp only
    rw [(second _ _ _ _ _ _ _ _ _ _ _ _ _ _ _).1, (second _ _ _ _ _ _ _ _ _ _ _ _ _ _ _).2]
    unfold k0_pay3
    simp only [pointwise]
  · rw [outsAt0_A m c ⟨n, h⟩ h0 (by dsimp only; omega)]
    dsimp only
    rw [first, product, zero, zero_add]
    rfl
  · rw [outsAt0_B m c ⟨n + 1, h⟩ h0 (by dsimp only; omega)]
    dsimp only
    rw [(second _ _ _ _ _ _ _ _ _ _ _ _ _ _ _).1, product]
    rfl

theorem result (c : Dev nD) (i : Fin 1024) (j : Fin 128) :
    (G2 m c : Vec Ideal S1024x128 .bf16) (ix2 i j) = ∑ l : Fin 4352, input m c (ix2 l i) * grad m c (ix2 l j) := by
  have hN : cfg0.N = 4 := N_0
  have hp : 2 * (i.val / 512) + 1 < cfg0.N := by omega
  refine Eq.trans ?_ (written m c ⟨i.val % 512, Nat.mod_lt _ (by decide)⟩ j i (i.val / 512) hp (by dsimp only; omega))
  have e : pt2Of (ix2 i j) = 2 * (i.val / 512) + 1 := by
    show 2 * (1 * (i.val / 512 - 0) + 1 * (j.val / 128 - 0)) + 1 = _
    omega
  unfold G2
  rw [dif_pos (by rw [e]; exact hp), outsAt0_sweep, fold0_congr m c _ _ _ (by omega) e]
  exact at_ix2 _ _ _ _ rfl (Nat.mod_eq_of_lt j.isLt)

theorem equal (x : Vec Ideal S4352x1024 .bf16) (d : Vec Ideal S4352x128 .bf16) (c : Dev nD) (hx : x = input m c) (hd : d = grad m c) :
    (truncf (F := Ideal) .bf16 (transpose S1024x128 [1, 0] (Host.dotGeneral Cert.DwdtRefIdeal.dot_S4352x128_S4352x1024_S128x1024_0_0_1_1_n_n none
      (extf .f32 d Cert.DwdtRefIdeal.Gen.bitsLt_bf16_f32) (extf .f32 x Cert.DwdtRefIdeal.Gen.bitsLt_bf16_f32)) Cert.DwdtRefIdeal.Gen.transposes_S128x1024_S1024x128_1_0)
      Cert.DwdtRefIdeal.Gen.bitsLt_bf16_f32) = (G2 m c : Vec Ideal S1024x128 .bf16) := by
  subst hx hd
  refine funext fun y => (congrArg _ (eq_ix2 y)).trans (Eq.trans ?_ ((result m c (y 0) (y 1)).symm.trans (congrArg _ (eq_ix2 y).symm)))
  simp only [pointwise, zero_add]
  exact Finset.sum_congr rfl fun k _ => mul_comm _ _

theorem frame_reference : Cert.quiescent_DwdtRefIdeal := fun m ρ _ =>
  (θ_run Cert.DwdtRefIdeal.defs _ _).mono (fun r h => ⟨fun c => (h c).2, sem_eq_zero_of_no_sems (by decide) r.2⟩)
    (Cert.DwdtRefIdeal.Value.run m ρ)

theorem algebraic : Cert.algebraic_DwdtIdeal_DwdtRefIdeal := by
  intro m g m' g' _ h
  refine ⟨G2 m, run m g, (θ_run Cert.DwdtRefIdeal.defs _ _).mono (fun _ r c => ?_) (Cert.DwdtRefIdeal.Value.run m' g')⟩
  exact ⟨(r c).1.trans (equal m _ _ c (h c).1 (h c).2), (r c).2⟩

end Cert.Proof.Dwdt

end
-- ==== Proof.Dxdt.lean ====
/- The rest of the gradient of the state-space layer's input: rows of the step sizes' gradient times rows of the padded weight,
   added to the gradient through the other columns. -/
module

public import proofs.«01_k».proof.Defs
public import proofs.«01_k».proof.Proof.Product
public import proofs.«01_k».proof.Proof.Gen.DxdtIdeal.Value
public import proofs.«01_k».proof.Proof.Gen.DxdtRefIdeal.Run
public import Idealize.ShloMosaic.Lib.Tactic
public import Idealize.ShloMosaic.Adequacy
public import Idealize.ShloMosaic.Init

@[expose] public section

set_option maxRecDepth 16384

noncomputable section

namespace Cert.Proof.Dxdt

open Idealize.ShloMosaic Idealize.ShloMosaic.TcCoe Idealize.ShloMosaic.Tactic Idealize.SL.Sem
open Cert.DxdtIdeal Cert.DxdtIdeal.Gen Cert.DxdtIdeal.Value
open scoped BigOperators

variable (m : (ℓ : Loc nD τ sig) → Buf (Elt Ideal) ℓ)

/-- What the call leaves. -/
def out (d : Vec Ideal S4352x128 .bf16) (w : Vec Ideal S1024x128 .bf16) (x : Vec Ideal S4352x1024 .f32) : Vec Ideal S4352x1024 .f32 := fun y =>
  rowsRows d w y + x y

abbrev left (c : Dev nD) : Vec Ideal S4352x1024 .f32 :=
  out (m ((c : Thread nD τ).loc main_arg0)) (m ((c : Thread nD τ).loc main_arg1)) (m ((c : Thread nD τ).loc main_arg2))

/-- A point has a tile of rows, the whole weight. -/
theorem tiles : ∀ t : Fin cfg0.N, win0_3.flush t = true ∧ win0_0.index t = ![t.val, 0] ∧ win0_1.index t = ![0, 0] ∧ win0_2.index t = ![t.val, 0]
    ∧ win0_3.index t = ![t.val, 0] :=
  (by decide +kernel : ∀ t : Fin grid0.N, _)

theorem flushed_eq (c : Dev nD) (t : Fin cfg0.N) : (dats m 0 c).flushed 3 t = ((cfg0.win 3).blk t).view.read (Elt Ideal) (left m c) := by
  obtain ⟨-, e0, e1, e2, e3⟩ := tiles t
  rw [flushed3]
  unfold out0_3
  rw [View.canon_unit_zero zero2]
  simp only [View.ld_unit_zero (S := S1088x128) zero2, View.ld_unit_zero (S := S1024x128) zero2, View.ld_unit_zero (S := S1088x1024) zero2]
  funext y
  obtain ⟨r, s, rfl⟩ : ∃ (r : Fin 1088) (s : Fin 1024), y = ix2 r s := ⟨y 0, y 1, eq_ix2 y⟩
  show k0_pay1 (iblk m c 0 t : Vec Ideal S1088x128 .bf16) (iblk m c 1 t : Vec Ideal S1024x128 .bf16) (iblk m c 2 t : Vec Ideal S1088x1024 .f32) (ix2 r s)
    = left m c (((cfg0.win 3).blk t).view.emb (ix2 r s))
  unfold k0_pay1
  simp only [pointwise, zero_add]
  refine congrArg₂ (· + ·) (Finset.sum_congr rfl fun k _ => congrArg₂ (· * ·) ((congrFun (V_main_arg0 m c) _).trans (at_ix2 _ _ _ _ ?_ ?_))
    ((congrFun (V_main_arg1 m c) _).trans (at_ix2 _ _ _ _ ?_ ?_))) ((congrFun (V_main_arg2 m c) _).trans ((at_ix2 _ _ _ _ ?_ ?_).trans (congrArg _ (eq_ix2 _).symm)))
  · show win0_0.index t (0 : Fin 2) * 1088 + 1 * r.val = win0_3.index t (0 : Fin 2) * 1088 + 1 * r.val; rw [e0, e3]
  · show win0_0.index t (1 : Fin 2) * 128 + 1 * k.val = k.val; rw [e0]; simp
  · show win0_1.index t (0 : Fin 2) * 1024 + 1 * s.val = win0_3.index t (1 : Fin 2) * 1024 + 1 * s.val; rw [e1, e3]; rfl
  · show win0_1.index t (1 : Fin 2) * 128 + 1 * k.val = k.val; rw [e1]; simp
  · show win0_2.index t (0 : Fin 2) * 1088 + 1 * r.val = win0_3.index t (0 : Fin 2) * 1088 + 1 * r.val; rw [e2, e3]
  · show win0_2.index t (1 : Fin 2) * 1024 + 1 * s.val = win0_3.index t (1 : Fin 2) * 1024 + 1 * s.val; rw [e2, e3]

theorem result (c : Dev nD) : (dats m 0 c).arrAt 3 cfg0.N = left m c :=
  (dats m 0 c).arrAt_eq_of_cover 3 _ (fun t _ => flushed_eq m c t) fun i => by
    have h0 := (show (i 0).val < 4352 from (i 0).isLt)
    have h1 := (show (i 1).val < 1024 from (i 1).isLt)
    have hN : cfg0.N = 4 := N_0
    obtain ⟨t, ht⟩ : ∃ t : Fin cfg0.N, t.val = (i 0).val / 1088 := ⟨⟨_, by omega⟩, rfl⟩
    obtain ⟨f, -, -, -, e⟩ := tiles t
    refine ⟨t, f, ?_⟩
    show i ∈ ((View.whole main_v0).slice (win0_3.rect t)).set
    rw [View.set_slice_whole]
    exact mem_tile _ i (s0 := 1088) (s1 := 1024) rfl rfl (by decide) (by decide) (congrArg (· * 1088) ((congrFun e 0).trans ht))
      ((congrArg (· * 1024) (congrFun e 1)).trans (show 0 * 1024 = (i 1).val / 1024 * 1024 by omega))

theorem equal (d : Vec Ideal S4352x128 .bf16) (w : Vec Ideal S1024x128 .bf16) (x : Vec Ideal S4352x1024 .f32) :
    (addf (F := Ideal) x (Host.dotGeneral Cert.DxdtRefIdeal.dot_S4352x128_S1024x128_S4352x1024_1_1_0_0_n_n none
      (extf .f32 d Cert.DxdtRefIdeal.Gen.bitsLt_bf16_f32) (extf .f32 w Cert.DxdtRefIdeal.Gen.bitsLt_bf16_f32))) = out d w x := by
  refine funext fun y => (congrArg _ (eq_ix2 y)).trans (Eq.trans ?_ (congrArg _ (eq_ix2 y).symm))
  simp only [pointwise, zero_add]
  exact add_comm _ _

theorem frame_reference : Cert.quiescent_DxdtRefIdeal := fun m ρ _ =>
  (θ_run Cert.DxdtRefIdeal.defs _ _).mono (fun r h => ⟨fun c => (h c).2, sem_eq_zero_of_no_sems (by decide) r.2⟩)
    (Cert.DxdtRefIdeal.Value.run m ρ)

theorem algebraic : Cert.algebraic_DxdtIdeal_DxdtRefIdeal := by
  intro m g m' g' _ h
  refine ⟨left m, (θ_run Cert.DxdtIdeal.defs _ _).mono (fun _ r c => ⟨(r c).1.trans (result m c), (r c).2⟩) (run_blocks m g),
    (θ_run Cert.DxdtRefIdeal.defs _ _).mono (fun _ r c => ⟨(r c).1.trans ((equal _ _ _).trans ?_), (r c).2⟩) (Cert.DxdtRefIdeal.Value.run m' g')⟩
  rw [(h c).1, (h c).2.1, (h c).2.2]

end Cert.Proof.Dxdt

end
-- ==== Proof.Cnorm.lean ====
/- The first block's norm: the root-mean-square norm of the context's rows and of the latent's, one after the other, each kind
   with its own row of the scale and of the shift.  The first point has the context's rows, each later one the next of the
   latent's. -/
module

public import proofs.«01_k».proof.Defs
public import proofs.«01_k».proof.Proof.Drms
public import proofs.«01_k».proof.Proof.Gen.CnormIdeal.Value
public import proofs.«01_k».proof.Proof.Gen.CnormRefIdeal.Run

@[expose] public section

set_option maxRecDepth 16384

noncomputable section

namespace Cert.Proof.Cnorm

open Idealize.ShloMosaic Idealize.ShloMosaic.TcCoe Idealize.ShloMosaic.Tactic Idealize.SL.Sem
open Cert.CnormIdeal Cert.CnormIdeal.Gen Cert.CnormIdeal.Value
open Cert.Proof.Drms (row width)

/-- A row `x` of kind `q`, normed, scaled and shifted. -/
def normed (g : Vec Ideal S1x1024 .f32) (s b : Vec Ideal S2x1024 .f32) (q : Fin 2) (x : Fin 1024 → EReal) (k : Fin 1024) : EReal :=
  x k * Rms.inv width x * g (ix2 0 k) * (1 + s (ix2 q k)) + b (ix2 q k)

/-- Row `i` of the context and the latent together, -/
def joined (y : Vec Ideal S256x1024 .f32) (x : Vec Ideal S4096x1024 .f32) (i : Fin 4352) : Fin 1024 → EReal :=
  if h : i.val < 256 then row y ⟨i.val, h⟩ else row x ⟨i.val - 256, by omega⟩

/-- and its kind. -/
def kind (i : Fin 4352) : Fin 2 := if i.val < 256 then 0 else 1

section Payload
variable (i : grid0.Coords) (y x : Vec Ideal S256x1024 .f32) (g : Vec Ideal S1x1024 .f32) (s b : Vec Ideal S2x1024 .f32)

theorem select_first {α : Type} (u v : α) : Scalar.select 1#1 u v = u := rfl
theorem select_second {α : Type} (u v : α) : Scalar.select 0#1 u v = v := by simp [Scalar.select]

/-- A row of the scale or of the shift, cut out. -/
theorem cut_row (o : ℕ) (q : Fin 2) (hq : o = q.val) (v : Vec Ideal S2x1024 .f32) (h : S2x1024.Slices ![o, 0] S1x1024) (k : Fin 1024) :
    extractStridedSlice S1x1024 ![o, 0] v h (ix2 0 k) = v (ix2 q k) :=
  extractStridedSlice_apply _ _ h _ (ix2 q k) fun a => by
    fin_cases a
    · exact hq.symm
    · exact (Nat.zero_add _).symm

/-- The norm with such rows. -/
theorem normed_cut (o : ℕ) (q : Fin 2) (hq : o = q.val) (h : S2x1024.Slices ![o, 0] S1x1024) (x : Fin 1024 → EReal) (k : Fin 1024) :
    x k * Rms.inv width x * g (ix2 0 k) * (1 + extractStridedSlice S1x1024 ![o, 0] s h (ix2 0 k)) + extractStridedSlice S1x1024 ![o, 0] b h (ix2 0 k) = normed g s b q x k := by
  rw [cut_row o q hq, cut_row o q hq]
  rfl

theorem first_at (h : Scalar.cmpi .slt (BitVec.ofNat 32 (i 0).val) 1#32 = 1#1) (r : Fin 256) (k : Fin 1024) :
    k0_pay1 i y x g s b (ix2 r k) = normed g s b 0 (row y r) k := by
  unfold k0_pay1
  simp only [h, select_first]
  rw [← normed_cut g s b 0 0 rfl slices_S2x1024_o0_0_S1x1024]
  generalize extractStridedSlice S1x1024 ![0, 0] s _ = u
  generalize extractStridedSlice S1x1024 ![0, 0] b _ = v
  simp only [pointwise, zero_add, Ideal.ofBits_one_f32]
  rfl

theorem later_at (h : Scalar.cmpi .slt (BitVec.ofNat 32 (i 0).val) 1#32 = 0#1) (r : Fin 256) (k : Fin 1024) :
    k0_pay1 i y x g s b (ix2 r k) = normed g s b 1 (row x r) k := by
  unfold k0_pay1
  simp only [h, select_second]
  rw [← normed_cut g s b 1 1 rfl slices_S2x1024_o1_0_S1x1024]
  generalize extractStridedSlice S1x1024 ![1, 0] s _ = u
  generalize extractStridedSlice S1x1024 ![1, 0] b _ = v
  simp only [pointwise, zero_add, Ideal.ofBits_one_f32]
  rfl

end Payload

variable (m : (ℓ : Loc nD τ sig) → Buf (Elt Ideal) ℓ)

abbrev context (c : Dev nD) : Vec Ideal S256x1024 .f32 := m ((c : Thread nD τ).loc main_arg0)
abbrev latent (c : Dev nD) : Vec Ideal S4096x1024 .f32 := m ((c : Thread nD τ).loc main_arg1)
abbrev weight (c : Dev nD) : Vec Ideal S1x1024 .f32 := m ((c : Thread nD τ).loc main_arg2)
abbrev scale (c : Dev nD) : Vec Ideal S2x1024 .f32 := m ((c : Thread nD τ).loc main_arg3)
abbrev shift (c : Dev nD) : Vec Ideal S2x1024 .f32 := m ((c : Thread nD τ).loc main_arg4)

/-- What the call leaves. -/
abbrev norms (c : Dev nD) : Vec Ideal S4352x1024 .bf16 :=
  fun j => normed (weight m c) (scale m c) (shift m c) (kind (j 0)) (joined (context m c) (latent m c) (j 0)) (j 1)

/-- Point 0 takes the context, point `t` after it the `t - 1`-th rows of the latent; each takes the whole of the rest. -/
theorem rows : ∀ t : Fin cfg0.N, (win0_0.index t = ![0, 0] ∧ win0_1.index t = ![t.val - 1, 0])
    ∧ (win0_2.index t = ![0, 0] ∧ win0_3.index t = ![0, 0] ∧ win0_4.index t = ![0, 0])
    ∧ (win0_5.index t = ![t.val, 0] ∧ win0_5.flush t = true)
    ∧ Scalar.cmpi .slt (BitVec.ofNat 32 (grid0.coords t 0).val) 1#32 = if t.val = 0 then 1#1 else 0#1 :=
  (by decide +kernel : ∀ t : Fin grid0.N, _)

section Read
variable (c : Dev nD) (t : Fin cfg0.N)

abbrev contextAt : Vec Ideal S256x1024 .f32 := iblk m c 0 t
abbrev latentAt : Vec Ideal S256x1024 .f32 := iblk m c 1 t
abbrev weightAt : Vec Ideal S1x1024 .f32 := iblk m c 2 t
abbrev scaleAt : Vec Ideal S2x1024 .f32 := iblk m c 3 t
abbrev shiftAt : Vec Ideal S2x1024 .f32 := iblk m c 4 t

theorem three : weightAt m c t = weight m c ∧ scaleAt m c t = scale m c ∧ shiftAt m c t = shift m c := by
  obtain ⟨-, ⟨e2, e3, e4⟩, -⟩ := rows t
  refine ⟨funext fun j => ?_, funext fun j => ?_, funext fun j => ?_⟩
  · obtain ⟨z, k, rfl⟩ : ∃ (z : Fin 1) (k : Fin 1024), j = ix2 z k := ⟨j 0, j 1, eq_ix2 j⟩
    exact (congrFun (V_main_arg2 m c) _).trans (at_tile (weight m c) _ e2 1 1024 z.val k.val rfl rfl z k (by omega) (by omega))
  · obtain ⟨z, k, rfl⟩ : ∃ (z : Fin 2) (k : Fin 1024), j = ix2 z k := ⟨j 0, j 1, eq_ix2 j⟩
    exact (congrFun (V_main_arg3 m c) _).trans (at_tile (scale m c) _ e3 2 1024 z.val k.val rfl rfl z k (by omega) (by omega))
  · obtain ⟨z, k, rfl⟩ : ∃ (z : Fin 2) (k : Fin 1024), j = ix2 z k := ⟨j 0, j 1, eq_ix2 j⟩
    exact (congrFun (V_main_arg4 m c) _).trans (at_tile (shift m c) _ e4 2 1024 z.val k.val rfl rfl z k (by omega) (by omega))

/-- The point's payload, row by row. -/
theorem payload_row (r : Fin 256) (i : Fin 4352) (hi : i.val = t.val * 256 + r.val) (k : Fin 1024) :
    k0_pay1 (grid0.coords t) (contextAt m c t) (latentAt m c t) (weightAt m c t) (scaleAt m c t) (shiftAt m c t) (ix2 r k) = norms m c (ix2 i k) := by
  obtain ⟨⟨e0, e1⟩, -, -, hk⟩ := rows t
  obtain ⟨f2, f3, f4⟩ := three m c t
  rw [f2, f3, f4]
  show _ = normed (weight m c) (scale m c) (shift m c) (kind i) (joined (context m c) (latent m c) i) k
  unfold kind joined
  by_cases ht : t.val = 0
  · have hlt : i.val < 256 := by omega
    rw [if_pos ht] at hk
    rw [first_at _ _ _ _ _ _ hk, if_pos hlt, dif_pos hlt]
    refine congrArg (fun x => normed _ _ _ 0 x k) (funext fun k' => ?_)
    exact (congrFun (V_main_arg0 m c) _).trans (at_tile (context m c) _ e0 256 1024 r.val k'.val rfl rfl ⟨i.val, hlt⟩ k' (by show i.val = _; omega) (by omega))
  · have hge : ¬ i.val < 256 := by omega
    rw [if_neg ht] at hk
    rw [later_at _ _ _ _ _ _ hk, if_neg hge, dif_neg hge]
    refine congrArg (fun x => normed _ _ _ 1 x k) (funext fun k' => ?_)
    exact (congrFun (V_main_arg1 m c) _).trans (at_tile (latent m c) _ e1 256 1024 r.val k'.val rfl rfl ⟨i.val - 256, by omega⟩ k'
      (by show i.val - 256 = (t.val - 1) * 256 + r.val; omega) (by omega))

end Read

theorem flushed_eq (c : Dev nD) (t : Fin cfg0.N) : (dats m 0 c).flushed 5 t = ((cfg0.win 5).blk t).view.read (Elt Ideal) (norms m c) := by
  obtain ⟨-, -, ⟨e, -⟩, -⟩ := rows t
  rw [flushed5]
  unfold out0_5
  rw [View.canon_unit_zero zero2]
  simp only [View.ld_unit_zero (S := S256x1024) zero2, View.ld_unit_zero (S := S1x1024) zero2, View.ld_unit_zero (S := S2x1024) zero2]
  funext j
  obtain ⟨r, k, rfl⟩ : ∃ (r : Fin 256) (k : Fin 1024), j = ix2 r k := ⟨j 0, j 1, eq_ix2 j⟩
  have hN : cfg0.N = 17 := (by decide +kernel : grid0.N = 17)
  have ht := t.isLt
  show k0_pay1 (grid0.coords t) (contextAt m c t) (latentAt m c t) (weightAt m c t) (scaleAt m c t) (shiftAt m c t) (ix2 r k)
    = norms m c (((cfg0.win 5).blk t).view.emb (ix2 r k))
  rw [at_tile (norms m c) _ e 256 1024 r.val k.val rfl rfl ⟨t.val * 256 + r.val, by omega⟩ k rfl (by omega)]
  exact payload_row m c t r _ rfl k

theorem result (c : Dev nD) : (dats m 0 c).arrAt 5 cfg0.N = norms m c := by
  refine (dats m 0 c).arrAt_eq_of_cover 5 _ (fun t _ => flushed_eq m c t) fun i => ?_
  have hN : cfg0.N = 17 := (by decide +kernel : grid0.N = 17)
  have hi : (i 0).val < 4352 := (i 0).isLt
  obtain ⟨t, ht⟩ : ∃ t : Fin cfg0.N, t.val = (i 0).val / 256 := ⟨⟨(i 0).val / 256, by rw [hN]; omega⟩, rfl⟩
  obtain ⟨-, -, ⟨e, hf⟩, -⟩ := rows t
  refine ⟨t, hf, ?_⟩
  show i ∈ ((View.whole main_v0).slice (win0_5.rect t)).set
  rw [View.set_slice_whole]
  exact mem_tile _ i (s0 := 256) (s1 := 1024) rfl rfl (by decide) (by decide) (congrArg (· * 256) ((congrFun e 0).trans ht))
    (congrArg (· * 1024) ((congrFun e 1).trans (Nat.div_eq_of_lt (show (i 1).val < 1024 from (i 1).isLt)).symm))

namespace Reference

open Cert.CnormRefIdeal.Gen

variable (y : Vec Ideal S256x1024 .f32) (x : Vec Ideal S4096x1024 .f32) (g : Vec Ideal S1x1024 .f32) (s b : Vec Ideal S2x1024 .f32)

/-- The reference's norm of the context, -/
def early : FVec Ideal S256x1024 .f32 :=
  addf (mulf (mulf (mulf y (broadcastInDim S256x1024 ![0, 1] bcast_S256x1_S256x1024_0_1 (Host.rsqrt (addf (Host.divf (broadcastInDim Cert.CnormRefIdeal.S256x1 ![0] bcast_S256_S256x1_0
      (Host.reduceAdd (mulf y y) (constant Cert.CnormRefIdeal.S_ .f32 0x00000000#32) reducesTo_S256x1024_S256_d1 h_S_))
      (broadcastInDim Cert.CnormRefIdeal.S256x1 ![] bcast_S_S256x1 (constant Cert.CnormRefIdeal.S_ .f32 0x44800000#32)))
      (broadcastInDim Cert.CnormRefIdeal.S256x1 ![] bcast_S_S256x1 (constant Cert.CnormRefIdeal.S_ .f32 0x358637BD#32))))))
    (broadcastInDim S256x1024 ![0, 1] bcast_S1x1024_S256x1024_0_1 g))
    (broadcastInDim S256x1024 ![0, 1] bcast_S1x1024_S256x1024_0_1 (addf (broadcastInDim S1x1024 ![] bcast_S_S1x1024 (constant Cert.CnormRefIdeal.S_ .f32 0x3F800000#32))
      (extractStridedSlice S1x1024 ![0, 0] s slices_S2x1024_S1x1024_0_0))))
    (broadcastInDim S256x1024 ![0, 1] bcast_S1x1024_S256x1024_0_1 (extractStridedSlice S1x1024 ![0, 0] b slices_S2x1024_S1x1024_0_0))

/-- and of the latent. -/
def late : FVec Ideal S4096x1024 .f32 :=
  addf (mulf (mulf (Drms.Reference.normed x) (broadcastInDim S4096x1024 ![0, 1] bcast_S1x1024_S4096x1024_0_1 g))
    (broadcastInDim S4096x1024 ![0, 1] bcast_S1x1024_S4096x1024_0_1 (addf (broadcastInDim S1x1024 ![] bcast_S_S1x1024 (constant Cert.CnormRefIdeal.S_ .f32 0x3F800000#32))
      (extractStridedSlice S1x1024 ![1, 0] s slices_S2x1024_S1x1024_1_0))))
    (broadcastInDim S4096x1024 ![0, 1] bcast_S1x1024_S4096x1024_0_1 (extractStridedSlice S1x1024 ![1, 0] b slices_S2x1024_S1x1024_1_0))

theorem early_apply (r : Fin 256) (k : Fin 1024) : early y g s b (ix2 r k) = normed g s b 0 (row y r) k := by
  rw [← normed_cut g s b 0 0 rfl slices_S2x1024_S1x1024_0_0]
  unfold early
  generalize extractStridedSlice S1x1024 ![0, 0] s _ = u
  generalize extractStridedSlice S1x1024 ![0, 0] b _ = v
  simp only [pointwise, zero_add, Ideal.ofBits_one_f32]
  rfl

theorem late_apply (r : Fin 4096) (k : Fin 1024) : late x g s b (ix2 r k) = normed g s b 1 (row x r) k := by
  rw [← normed_cut g s b 1 1 rfl slices_S2x1024_S1x1024_1_0, ← Drms.Reference.normed_apply x r k]
  unfold late
  generalize extractStridedSlice S1x1024 ![1, 0] s _ = u
  generalize extractStridedSlice S1x1024 ![1, 0] b _ = w
  generalize Drms.Reference.normed x = v
  simp only [pointwise, Ideal.ofBits_one_f32]
  rfl

theorem joined_eq (hc : Shape.Concatenates [S256x1024, S4096x1024] S4352x1024 0) : (truncf .bf16 (concatenate S4352x1024 0 [⟨S256x1024, early y g s b⟩, ⟨S4096x1024, late x g s b⟩] hc)
    Cert.CnormRefIdeal.Gen.bitsLt_bf16_f32 : Vec Ideal S4352x1024 .bf16) = fun j => normed g s b (kind (j 0)) (joined y x (j 0)) (j 1) := by
  funext j
  obtain ⟨i, k, rfl⟩ : ∃ (i : Fin 4352) (k : Fin 1024), j = ix2 i k := ⟨j 0, j 1, eq_ix2 j⟩
  show concatenate S4352x1024 0 [⟨S256x1024, early y g s b⟩, ⟨S4096x1024, late x g s b⟩] hc (ix2 i k) = normed g s b (kind i) (joined y x i) k
  unfold kind joined
  by_cases h : i.val < 256
  · rw [if_pos h, dif_pos h]
    exact (concatenate_pair_apply_left 0 _ _ hc _ rfl (ix2 (⟨i.val, h⟩ : Fin 256) k) fun b => by fin_cases b <;> rfl).trans (early_apply ..)
  · rw [if_neg h, dif_neg h]
    exact (concatenate_pair_apply_right 0 _ _ hc _ rfl rfl (ix2 (⟨i.val - 256, by omega⟩ : Fin 4096) k) (fun b hb => by fin_cases b <;> first | rfl | exact absurd rfl hb)
      (by show i.val - 256 + 256 = i.val; omega)).trans (late_apply ..)

end Reference

theorem frame_reference : Cert.quiescent_CnormRefIdeal := fun m ρ _ =>
  (θ_run Cert.CnormRefIdeal.defs _ _).mono (fun r h => ⟨fun c => (h c).2, sem_eq_zero_of_no_sems (by decide) r.2⟩)
    (Cert.CnormRefIdeal.Value.run m ρ)

theorem algebraic : Cert.algebraic_CnormIdeal_CnormRefIdeal := by
  intro m g m' g' _ h
  refine ⟨fun c => norms m c,
    (θ_run Cert.CnormIdeal.defs _ _).mono (fun _ r c => ⟨(r c).1.trans (result m c), (r c).2⟩) (run_blocks m g),
    (θ_run Cert.CnormRefIdeal.defs _ _).mono (fun _ r c => ⟨(r c).1.trans ((Reference.joined_eq _ _ _ _ _ _).trans ?_), (r c).2⟩) (Cert.CnormRefIdeal.Value.run m' g')⟩
  obtain ⟨h0, h1, h2, h3, h4⟩ := h c
  rw [h0, h1, h2, h3, h4]

end Cert.Proof.Cnorm

end
-- ==== Proof.Ada.lean ====
/- The modulations of the layers: each layer's product of the gated conditioning with its weights, and its bias.  Every point
   has one layer. -/
module

public import proofs.«01_k».proof.Defs
public import proofs.«01_k».proof.Proof.Product
public import proofs.«01_k».proof.Proof.Logistic
public import proofs.«01_k».proof.Proof.Gen.AdaIdeal.Value
public import proofs.«01_k».proof.Proof.Gen.AdaRefIdeal.Run
public import Idealize.ShloMosaic.Lib.Tactic
public import Idealize.ShloMosaic.Lib.Pointwise
public import Idealize.ShloMosaic.Lib.KernelVsHost
public import Idealize.ShloMosaic.Adequacy
public import Idealize.ShloMosaic.Init

@[expose] public section

set_option maxRecDepth 16384

noncomputable section

namespace Cert.Proof.Ada

open Idealize.ShloMosaic Idealize.ShloMosaic.TcCoe Idealize.ShloMosaic.Tactic Idealize.SL.Sem
open Cert.AdaIdeal Cert.AdaIdeal.Gen Cert.AdaIdeal.Value
open scoped BigOperators

/-- The conditioning through its gate, -/
def gated (x : Vec Ideal S16x1024 .f32) : Vec Ideal S16x1024 .f32 := fun j => x j * logit (x j)

/-- and a layer's modulation of it. -/
def modulation (x : Vec Ideal S16x1024 .f32) {n : ℕ} (w : Vec Ideal ⟨3, ![n, 1024, 768]⟩ .f32) (b : Vec Ideal ⟨3, ![n, 1, 768]⟩ .f32) (l : Fin n) (r : Fin 16) (k : Fin 768) : EReal :=
  (∑ d : Fin 1024, gated x (ix2 r d) * w (ix3 l d k)) + b (ix3 l 0 k)

theorem payload_at (x : Vec Ideal S16x1024 .f32) (w : Vec Ideal S1x1024x768 .f32) (b : Vec Ideal S1x1x768 .f32) (z : Fin 1) (r : Fin 16) (k : Fin 768) :
    k0_pay1 x w b (ix3 z r k) = modulation x w b 0 r k := by
  unfold k0_pay1
  simp only [pointwise, zero_add, zero_sub, Ideal.ofBits_one_f32]
  rfl

variable (m : (ℓ : Loc nD τ sig) → Buf (Elt Ideal) ℓ)

abbrev conditioning (c : Dev nD) : Vec Ideal S16x1024 .f32 := m ((c : Thread nD τ).loc main_arg0)
abbrev weights (c : Dev nD) : Vec Ideal S2x1024x768 .f32 := m ((c : Thread nD τ).loc main_arg1)
abbrev biases (c : Dev nD) : Vec Ideal S2x1x768 .f32 := m ((c : Thread nD τ).loc main_arg2)

/-- What the call leaves. -/
abbrev modulations (c : Dev nD) : Vec Ideal S2x16x768 .f32 := fun j => modulation (conditioning m c) (weights m c) (biases m c) (j 0) (j 1) (j 2)

theorem layers : ∀ t : Fin cfg0.N, (win0_0.index t = ![0, 0] ∧ win0_1.index t = ![t.val, 0, 0] ∧ win0_2.index t = ![t.val, 0, 0])
    ∧ win0_3.index t = ![t.val, 0, 0] ∧ win0_3.flush t = true :=
  (by decide +kernel : ∀ t : Fin grid0.N, _)

theorem zero3 : (![0, 0, 0] : Fin 3 → ℕ) = fun _ => 0 := by decide

section Read
variable (c : Dev nD) (t : Fin cfg0.N)

abbrev conditioningAt : Vec Ideal S16x1024 .f32 := iblk m c 0 t
abbrev weightsAt : Vec Ideal S1x1024x768 .f32 := iblk m c 1 t
abbrev biasesAt : Vec Ideal S1x1x768 .f32 := iblk m c 2 t

theorem modulation_at (l : Fin 2) (hl : l.val = t.val) (r : Fin 16) (k : Fin 768) :
    modulation (conditioningAt m c t) (weightsAt m c t) (biasesAt m c t) 0 r k = modulations m c (ix3 l r k) := by
  obtain ⟨⟨e0, e1, e2⟩, -⟩ := layers t
  have h : conditioningAt m c t = conditioning m c := funext fun j => by
    obtain ⟨r, k, rfl⟩ : ∃ (r : Fin 16) (k : Fin 1024), j = ix2 r k := ⟨j 0, j 1, eq_ix2 j⟩
    exact (congrFun (V_main_arg0 m c) _).trans (at_tile (conditioning m c) _ e0 16 1024 r.val k.val rfl rfl r k (by omega) (by omega))
  rw [h]
  exact congrArg₂ (· + ·) (Finset.sum_congr rfl fun d _ => congrArg (_ * ·)
      ((congrFun (V_main_arg1 m c) _).trans (at_tile3 (weights m c) _ e1 1 1024 768 0 d.val k.val rfl rfl rfl l d k (by omega) (by omega) (by omega))))
    ((congrFun (V_main_arg2 m c) _).trans (at_tile3 (biases m c) _ e2 1 1 768 0 0 k.val rfl rfl rfl l 0 k (by omega) rfl (by omega)))

end Read

theorem flushed_eq (c : Dev nD) (t : Fin cfg0.N) : (dats m 0 c).flushed 3 t = ((cfg0.win 3).blk t).view.read (Elt Ideal) (modulations m c) := by
  obtain ⟨-, e, -⟩ := layers t
  rw [flushed3]
  unfold out0_3
  rw [View.canon_unit_zero zero3]
  simp only [View.ld_unit_zero (S := S16x1024) zero2, View.ld_unit_zero (S := S1x1024x768) zero3, View.ld_unit_zero (S := S1x1x768) zero3]
  funext j
  obtain ⟨z, r, k, rfl⟩ : ∃ (z : Fin 1) (r : Fin 16) (k : Fin 768), j = ix3 z r k := ⟨j 0, j 1, j 2, eq_ix3 j⟩
  have hN : cfg0.N = 2 := (by decide +kernel : grid0.N = 2)
  have ht := t.isLt
  show k0_pay1 (conditioningAt m c t) (weightsAt m c t) (biasesAt m c t) (ix3 z r k) = modulations m c (((cfg0.win 3).blk t).view.emb (ix3 z r k))
  rw [payload_at, at_tile3 (modulations m c) _ e 1 16 768 z.val r.val k.val rfl rfl rfl ⟨t.val, by omega⟩ r k (by show t.val = t.val * 1 + z.val; omega) (by omega) (by omega)]
  exact modulation_at m c t _ rfl r k

theorem result (c : Dev nD) : (dats m 0 c).arrAt 3 cfg0.N = modulations m c := by
  refine (dats m 0 c).arrAt_eq_of_cover 3 _ (fun t _ => flushed_eq m c t) fun i => ?_
  have hN : cfg0.N = 2 := (by decide +kernel : grid0.N = 2)
  have h0 : (i 0).val < 2 := (i 0).isLt
  have h1 : (i 1).val < 16 := (i 1).isLt
  have h2 : (i 2).val < 768 := (i 2).isLt
  obtain ⟨t, ht⟩ : ∃ t : Fin cfg0.N, t.val = (i 0).val := ⟨⟨(i 0).val, by rw [hN]; omega⟩, rfl⟩
  obtain ⟨-, e, hf⟩ := layers t
  refine ⟨t, hf, ?_⟩
  show i ∈ ((View.whole main_v0).slice (win0_3.rect t)).set
  rw [View.set_slice_whole, Rect.mem_set_unit]
  have e0 : win0_3.index t (0 : Fin 3) = t.val := congrFun e 0
  have e1 : win0_3.index t (1 : Fin 3) = 0 := congrFun e 1
  have e2 : win0_3.index t (2 : Fin 3) = 0 := congrFun e 2
  intro a
  fin_cases a
  · show win0_3.index t (0 : Fin 3) * 1 ≤ (i 0).val ∧ (i 0).val < win0_3.index t (0 : Fin 3) * 1 + 1
    omega
  · show win0_3.index t (1 : Fin 3) * 16 ≤ (i 1).val ∧ (i 1).val < win0_3.index t (1 : Fin 3) * 16 + 16
    omega
  · show win0_3.index t (2 : Fin 3) * 768 ≤ (i 2).val ∧ (i 2).val < win0_3.index t (2 : Fin 3) * 768 + 768
    omega

namespace Reference

open Cert.AdaRefIdeal (S_)
open Cert.AdaRefIdeal.Gen

variable (x : Vec Ideal S16x1024 .f32) (w : Vec Ideal S2x1024x768 .f32) (b : Vec Ideal S2x1x768 .f32)

/-- The reference's gate, -/
def gate : FVec Ideal S16x1024 .f32 :=
  mulf x (Host.divf (broadcastInDim S16x1024 ![] bcast_S_S16x1024 (constant S_ .f32 0x3F800000#32))
    (addf (broadcastInDim S16x1024 ![] bcast_S_S16x1024 (constant S_ .f32 0x3F800000#32)) (Host.exp (Host.negf x))))

/-- and a layer's modulation. -/
def layer (o : ℕ) (hw : S2x1024x768.Slices ![o, 0, 0] S1x1024x768) (hb : S2x1x768.Slices ![o, 0, 0] S1x1x768) : FVec Ideal S1x16x768 .f32 :=
  broadcastInDim S1x16x768 ![1, 2] bcast_S16x768_S1x16x768_1_2 (addf (F := Ideal)
    (Host.dotGeneral (F := Ideal) (φ₁ := .f32) (φ₂ := .f32) Cert.AdaRefIdeal.dot_S16x1024_S1024x768_S16x768_1_0_0_1_n_n none (gate x)
      (shapeCast S1024x768 (extractStridedSlice S1x1024x768 ![o, 0, 0] w hw) Cert.AdaRefIdeal.Gen.shapeCasts_S1x1024x768_S1024x768))
    (broadcastInDim S16x768 ![0, 1] bcast_S1x768_S16x768_0_1 (shapeCast S1x768 (extractStridedSlice S1x1x768 ![o, 0, 0] b hb) Cert.AdaRefIdeal.Gen.shapeCasts_S1x1x768_S1x768)))

theorem gate_eq : gate x = gated x := by
  funext j
  obtain ⟨r, k, rfl⟩ : ∃ (r : Fin 16) (k : Fin 1024), j = ix2 r k := ⟨j 0, j 1, eq_ix2 j⟩
  unfold gate
  simp only [pointwise, Ideal.ofBits_one_f32]
  rfl

theorem cut {p q : ℕ} (v : Vec Ideal ⟨3, ![2, p, q]⟩ .f32) (o : ℕ) (l : Fin 2) (hl : o = l.val)
    (h : (⟨3, ![2, p, q]⟩ : Shape).Slices ![o, 0, 0] ⟨3, ![1, p, q]⟩) (u : Fin p) (k : Fin q) :
    extractStridedSlice ⟨3, ![1, p, q]⟩ ![o, 0, 0] v h (ix3 0 u k) = v (ix3 l u k) :=
  extractStridedSlice_apply _ _ h _ (ix3 l u k) fun a => by
    fin_cases a
    · exact hl.symm
    · exact (Nat.zero_add _).symm
    · exact (Nat.zero_add _).symm

theorem layer_apply (o : ℕ) (l : Fin 2) (hl : o = l.val) (hw hb) (z : Fin 1) (r : Fin 16) (k : Fin 768) : layer x w b o hw hb (ix3 z r k) = modulation x w b l r k := by
  refine Eq.trans ?_ (congrArg₂ (· + ·) (Finset.sum_congr rfl fun d _ => congrArg (gated x (ix2 r d) * ·) (cut w o l hl hw d k)) (cut b o l hl hb 0 k))
  unfold layer
  rw [gate_eq]
  generalize extractStridedSlice S1x1024x768 ![o, 0, 0] w hw = w'
  generalize extractStridedSlice S1x1x768 ![o, 0, 0] b hb = b'
  generalize gated x = x'
  simp only [pointwise, zero_add]
  rfl

theorem both_eq (h : Shape.Concatenates [S1x16x768, S1x16x768] S2x16x768 0) :
    (concatenate S2x16x768 0 [⟨S1x16x768, layer x w b 0 slices_S2x1024x768_S1x1024x768_0_0_0 slices_S2x1x768_S1x1x768_0_0_0⟩,
      ⟨S1x16x768, layer x w b 1 slices_S2x1024x768_S1x1024x768_1_0_0 slices_S2x1x768_S1x1x768_1_0_0⟩] h : Vec Ideal S2x16x768 .f32)
      = fun j => modulation x w b (j 0) (j 1) (j 2) := by
  funext j
  obtain ⟨l, r, k, rfl⟩ : ∃ (l : Fin 2) (r : Fin 16) (k : Fin 768), j = ix3 l r k := ⟨j 0, j 1, j 2, eq_ix3 j⟩
  fin_cases l
  · exact (concatenate_pair_apply_left 0 _ _ h _ rfl (ix3 (0 : Fin 1) r k) fun b => by fin_cases b <;> rfl).trans (layer_apply x w b 0 0 rfl _ _ 0 r k)
  · exact (concatenate_pair_apply_right 0 _ _ h _ rfl rfl (ix3 (0 : Fin 1) r k) (fun b hb => by fin_cases b <;> first | rfl | exact absurd rfl hb) rfl).trans
      (layer_apply x w b 1 1 rfl _ _ 0 r k)

end Reference

theorem frame_reference : Cert.quiescent_AdaRefIdeal := fun m ρ _ =>
  (θ_run Cert.AdaRefIdeal.defs _ _).mono (fun r h => ⟨fun c => (h c).2, sem_eq_zero_of_no_sems (by decide) r.2⟩)
    (Cert.AdaRefIdeal.Value.run m ρ)

theorem algebraic : Cert.algebraic_AdaIdeal_AdaRefIdeal := by
  intro m g m' g' _ h
  refine ⟨fun c => modulations m c,
    (θ_run Cert.AdaIdeal.defs _ _).mono (fun _ r c => ⟨(r c).1.trans (result m c), (r c).2⟩) (run_blocks m g),
    (θ_run Cert.AdaRefIdeal.defs _ _).mono (fun _ r c => ⟨(r c).1.trans ?_, (r c).2⟩) (Cert.AdaRefIdeal.Value.run m' g')⟩
  obtain ⟨h0, h1, h2⟩ := h c
  rw [h0, h1, h2]
  exact Reference.both_eq (conditioning m c) (weights m c) (biases m c) Cert.AdaRefIdeal.Gen.concatenates_S1x16x768_S1x16x768_S2x16x768_d0

end Cert.Proof.Ada

end
-- ==== Proof.Axial.lean ====
/- The run of the forward axial convolution's two calls, and what they leave: every buffer of the program ends at what the fold
   through its lines and regions leaves, and the two results are, at each token, the bias and the sum over the 31 taps. -/
module

public import proofs.«01_k».proof.Proof.Equal
public import proofs.«01_k».proof.Proof.Gen.AxialIdeal.Frame
public import Idealize.ShloMosaic.Lib.Tactic
public import Idealize.ShloMosaic.Lib.StableHlo.RunRead

@[expose] public section

set_option maxRecDepth 16384

noncomputable section

namespace Cert.Proof.Axial

section Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AxialIdeal Cert.AxialIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The run, from any memory: every unscoped buffer at its last contents, every counter at zero. -/
theorem run_main : θ_run defs (onTc (τ := τ) (main (F := F))) ⟨m, fun _ => 0, ρ⟩ (fun r => (∀ c : Dev nD,
      ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

end Run

open Idealize.ShloMosaic Idealize.ShloMosaic.TcCoe Idealize.ShloMosaic.Tactic
open Idealize.ShloMosaic.ValueIdx (mulf_apply addf_apply)
open Cert.AxialIdeal Cert.AxialIdeal.Gen
open Cert.Proof.Conv (taps padRow padCol padRows readAt_row readAt_whole readCov_pad convAt swap)

/-- `n` terms added one after the other to `b`. -/
def accum (b : EReal) (f : ℕ → EReal) : ℕ → EReal
  | 0 => b
  | n + 1 => accum b f n + f n

theorem accum_eq (b : EReal) (f : ℕ → EReal) (n : ℕ) : accum b f n = b + ∑ k ∈ Finset.range n, f k := by
  induction n with
  | zero => exact (add_zero b).symm
  | succ n ih => rw [Finset.sum_range_succ, ← add_assoc, ← ih]; rfl

theorem pad_lo (j) : (k0_pay2 (F := Ideal)) j = 0 := Ideal.ofBits_zero_f32
theorem pad_hi (j) : (k0_pay3 (F := Ideal)) j = 0 := Ideal.ofBits_zero_f32

theorem scratch0 (c : Dev nD) (arg1 : Memref sig .tc .vmem S4096x128 .f32) (harg1 : arg1.IsWhole)
    (x : Vec Ideal S4096x128 .f32) (v : View sig .tc .vmem S6016x128 .f32) (o : ℕ) (io) :
    v.readCov (kernelRun0_A.sl.HS0_3 c arg1 harg1 x) (Rect.unit ![o, 0] ![4096, 128] io).toLoadRect = padRows x o := by
  unfold kernelRun0_A.sl.HS0_3 k0_pay4
  rw [readAt_whole]
  simp only [shapeCast_self]
  exact readCov_pad v x _ _ pad_lo pad_hi _ _ _ o io

/-- The one row of a block of one row. -/
theorem readAt_one (mr : Memref sig .tc .vmem S1x128 .f32) (h : mr.IsWhole) (x : Vec Ideal S1x128 .f32) (i0) :
    View.readAt (Elt Ideal) mr.view (Rect.unit (s := S1x128) ![0, 0] ![1, 128] i0).toLoadRect (h.unread x) = x := by
  funext j
  have e := congrFun (View.readAt_eq_ld mr.view (h.unread x) (Rect.unit (s := S1x128) ![0, 0] ![1, 128] i0)) j
  refine e.trans ?_
  rw [h.read_unread]
  show x _ = x _
  congr 1
  funext a; apply Fin.ext; fin_cases a
  · show 0 + 1 * (j 0).val = (j 0).val; omega
  · show 0 + 1 * (j 1).val = (j 1).val; omega

/-- One row spread over the block's rows. -/
theorem bcast_row (f : FVec Ideal S1x128 .f32) (h) (j : S4096x128.Idx) : broadcastTo S4096x128 f h j = f (ix2 0 (j 1)) := by
  idx_vars j
  pointwise

set_option maxHeartbeats 1000000 in
theorem out0_apply (c : Dev nD) (i : grid0.Coords) (arg1 : Memref sig .tc .vmem S4096x128 .f32) (harg1 : arg1.IsWhole)
    (arg2 : Memref sig .tc .vmem S31x128 .f32) (harg2 : arg2.IsWhole) (arg3 : Memref sig .tc .vmem S1x128 .f32) (harg3 : arg3.IsWhole)
    (arg4 : Memref sig .tc .vmem S4096x128 .f32) (harg4 : arg4.IsWhole) (arg5 : Memref sig .tc .vmem S6016x128 .f32) (harg5 : arg5.IsWhole)
    (x : Vec Ideal S4096x128 .f32) (w : Vec Ideal S31x128 .f32) (b : Vec Ideal S1x128 .f32) (j : S4096x128.Idx) :
    out0_A_3 c i arg1 harg1 arg2 harg2 arg3 harg3 arg4 harg4 arg5 harg5 x w b j = b (ix2 0 (j 1)) + taps x w (j 0).val (j 1) := by
  unfold out0_A_3
  rw [View.read_writes_junk_eq_canon]
  unfold kernelRun0_A
  dsimp only
  rw [View.canon_cons_unit_lit (h := fun a => by fin_cases a <;> rfl)]
  unfold kernelRun0_A.sl.r_9 kernelRun0_A.sl.r_8 kernelRun0_A.sl.r_7 kernelRun0_A.sl.r_6 kernelRun0_A.sl.r_5 kernelRun0_A.sl.r_4 kernelRun0_A.sl.r_3 kernelRun0_A.sl.r_2 kernelRun0_A.sl.r_1 kernelRun0_A.sl.r
  unfold kernelRun0_A.sl.v19 kernelRun0_A.sl.v25 kernelRun0_A.sl.v31 kernelRun0_A.sl.v37 kernelRun0_A.sl.v43 kernelRun0_A.sl.v49 kernelRun0_A.sl.v55 kernelRun0_A.sl.v61 kernelRun0_A.sl.v67 kernelRun0_A.sl.v73 kernelRun0_A.sl.v79 kernelRun0_A.sl.v85 kernelRun0_A.sl.v91 kernelRun0_A.sl.v97 kernelRun0_A.sl.v103 kernelRun0_A.sl.v109 kernelRun0_A.sl.v115 kernelRun0_A.sl.v121 kernelRun0_A.sl.v127 kernelRun0_A.sl.v133 kernelRun0_A.sl.v139 kernelRun0_A.sl.v145 kernelRun0_A.sl.v151 kernelRun0_A.sl.v157 kernelRun0_A.sl.v163 kernelRun0_A.sl.v169 kernelRun0_A.sl.v175 kernelRun0_A.sl.v181 kernelRun0_A.sl.v187 kernelRun0_A.sl.v193 kernelRun0_A.sl.v199
  unfold k0_pay1 k0_pay14 k0_pay13 k0_pay12 k0_pay11 k0_pay10 k0_pay9 k0_pay8 k0_pay7 k0_pay6 k0_pay5
  dsimp only
  simp only [shapeCast_self, addf_apply, mulf_apply, bcast_row]
  simp only [scratch0, readAt_row, readAt_one, padRows]
  unfold taps
  rw [← accum_eq]
  simp only [accum]
  rfl

/-! The second call: the same at its own block. -/

theorem pad_lo' (j) : (k1_pay2 (F := Ideal)) j = 0 := Ideal.ofBits_zero_f32
theorem pad_hi' (j) : (k1_pay3 (F := Ideal)) j = 0 := Ideal.ofBits_zero_f32

theorem scratch1 (c : Dev nD) (arg1 : Memref sig .tc .vmem S4096x128 .f32) (harg1 : arg1.IsWhole)
    (x : Vec Ideal S4096x128 .f32) (v : View sig .tc .vmem S6016x128 .f32) (o : ℕ) (io) :
    v.readCov (kernelRun1_A.sl.HS0_3 c arg1 harg1 x) (Rect.unit ![o, 0] ![4096, 128] io).toLoadRect = padRows x o := by
  unfold kernelRun1_A.sl.HS0_3 k1_pay4
  rw [readAt_whole]
  simp only [shapeCast_self]
  exact readCov_pad v x _ _ pad_lo' pad_hi' _ _ _ o io

set_option maxHeartbeats 1000000 in
theorem out1_apply (c : Dev nD) (i : grid1.Coords) (arg1 : Memref sig .tc .vmem S4096x128 .f32) (harg1 : arg1.IsWhole)
    (arg2 : Memref sig .tc .vmem S31x128 .f32) (harg2 : arg2.IsWhole) (arg3 : Memref sig .tc .vmem S1x128 .f32) (harg3 : arg3.IsWhole)
    (arg4 : Memref sig .tc .vmem S4096x128 .f32) (harg4 : arg4.IsWhole) (arg5 : Memref sig .tc .vmem S6016x128 .f32) (harg5 : arg5.IsWhole)
    (x : Vec Ideal S4096x128 .f32) (w : Vec Ideal S31x128 .f32) (b : Vec Ideal S1x128 .f32) (j : S4096x128.Idx) :
    out1_A_3 c i arg1 harg1 arg2 harg2 arg3 harg3 arg4 harg4 arg5 harg5 x w b j = b (ix2 0 (j 1)) + taps x w (j 0).val (j 1) := by
  unfold out1_A_3
  rw [View.read_writes_junk_eq_canon]
  unfold kernelRun1_A
  dsimp only
  rw [View.canon_cons_unit_lit (h := fun a => by fin_cases a <;> rfl)]
  unfold kernelRun1_A.sl.r_9 kernelRun1_A.sl.r_8 kernelRun1_A.sl.r_7 kernelRun1_A.sl.r_6 kernelRun1_A.sl.r_5 kernelRun1_A.sl.r_4 kernelRun1_A.sl.r_3 kernelRun1_A.sl.r_2 kernelRun1_A.sl.r_1 kernelRun1_A.sl.r
  unfold kernelRun1_A.sl.v18 kernelRun1_A.sl.v24 kernelRun1_A.sl.v30 kernelRun1_A.sl.v36 kernelRun1_A.sl.v42 kernelRun1_A.sl.v48 kernelRun1_A.sl.v54 kernelRun1_A.sl.v60 kernelRun1_A.sl.v66 kernelRun1_A.sl.v72 kernelRun1_A.sl.v78 kernelRun1_A.sl.v84 kernelRun1_A.sl.v90 kernelRun1_A.sl.v96 kernelRun1_A.sl.v102 kernelRun1_A.sl.v108 kernelRun1_A.sl.v114 kernelRun1_A.sl.v120 kernelRun1_A.sl.v126 kernelRun1_A.sl.v132 kernelRun1_A.sl.v138 kernelRun1_A.sl.v144 kernelRun1_A.sl.v150 kernelRun1_A.sl.v156 kernelRun1_A.sl.v162 kernelRun1_A.sl.v168 kernelRun1_A.sl.v174 kernelRun1_A.sl.v180 kernelRun1_A.sl.v186 kernelRun1_A.sl.v192 kernelRun1_A.sl.v198
  unfold k1_pay1 k1_pay14 k1_pay13 k1_pay12 k1_pay11 k1_pay10 k1_pay9 k1_pay8 k1_pay7 k1_pay6 k1_pay5
  dsimp only
  simp only [shapeCast_self, addf_apply, mulf_apply, bcast_row]
  simp only [scratch1, readAt_row, readAt_one, padRows]
  unfold taps
  rw [← accum_eq]
  simp only [accum]
  rfl

/-- The columns of `x` from `o` on. -/
def colsFrom {n : ℕ} (o : ℕ) (x : Vec Ideal ⟨2, ![4096, n]⟩ .f32) (ho : o + 512 ≤ n) : Vec Ideal S4096x512 .f32 := fun y =>
  x (ix2 (y 0) (⟨o + (y 1).val, by have : (y 1).val < 512 := (y 1).isLt; omega⟩ : Fin n))

/-- The convolution with its bias, at a row and a channel. -/
def convBias (x : Vec Ideal S4096x512 .f32) (w : Vec Ideal S31x512 .f32) (b : Vec Ideal S1x512 .f32) : Vec Ideal S4096x512 .f32 := fun y =>
  b (ix2 0 (y 1)) + convAt x w y

section Arrays

variable (V : (c : Dev nD) → (b : Ref sig .tc) → Buf (Elt Ideal) ((c : Thread nD τ).loc b))

theorem idx0 : ∀ t, win0_0.index t = ![0, (grid0.coords t 0).val] ∧ win0_1.index t = ![0, (grid0.coords t 0).val]
    ∧ win0_2.index t = ![0, (grid0.coords t 0).val] ∧ win0_3.index t = ![0, (grid0.coords t 0).val] := by
  decide +kernel

theorem arr0 (c : Dev nD) : (dat0 V c).arrAt 3 cfg0.N = convBias (V c main_v3) (V c main_v4) (V c main_v5) := by
  refine (dat0 V c).arrAt_eq_of_covers 3 _ (by decide +kernel) fun t hf y => ?_
  rw [after0_3]; unfold outsAt0
  rw [out0_apply]
  unfold convBias convAt taps padRow iblk0
  blk_simp [(idx0 t).1, (idx0 t).2.1, (idx0 t).2.2.1, (idx0 t).2.2.2]
  change @Eq EReal _ _
  refine congrArg₂ (fun a b : EReal => a + b) ?_ (Finset.sum_congr rfl fun k _ => congrArg₂ (· * ·) ?_ (congrArg₂ padCol (funext fun r => ?_) ?_))
  · blk_ext [(idx0 t).1, (idx0 t).2.1, (idx0 t).2.2.1, (idx0 t).2.2.2]
  · blk_ext [(idx0 t).1, (idx0 t).2.1, (idx0 t).2.2.1, (idx0 t).2.2.2]
  · blk_ext [(idx0 t).1, (idx0 t).2.1, (idx0 t).2.2.1, (idx0 t).2.2.2]
  · blk_simp [(idx0 t).1, (idx0 t).2.1, (idx0 t).2.2.1, (idx0 t).2.2.2]

theorem idx1 : ∀ t, win1_0.index t = ![0, (grid1.coords t 0).val + 4] ∧ win1_1.index t = ![0, (grid1.coords t 0).val]
    ∧ win1_2.index t = ![0, (grid1.coords t 0).val] ∧ win1_3.index t = ![0, (grid1.coords t 0).val] := by
  decide +kernel

theorem arr1 (c : Dev nD) : (dat1 V c).arrAt 3 cfg1.N = convBias (colsFrom 512 (V c main_arg0) (by decide)) (V c main_v7) (V c main_v8) := by
  refine (dat1 V c).arrAt_eq_of_covers 3 _ (by decide +kernel) fun t hf y => ?_
  rw [after1_3]; unfold outsAt1
  rw [out1_apply]
  unfold convBias convAt colsFrom taps padRow iblk1
  blk_simp [(idx1 t).1, (idx1 t).2.1, (idx1 t).2.2.1, (idx1 t).2.2.2]
  change @Eq EReal _ _
  refine congrArg₂ (fun a b : EReal => a + b) ?_ (Finset.sum_congr rfl fun k _ => congrArg₂ (· * ·) ?_ (congrArg₂ padCol (funext fun r => ?_) ?_))
  · blk_ext [(idx1 t).1, (idx1 t).2.1, (idx1 t).2.2.1, (idx1 t).2.2.2]
  · blk_ext [(idx1 t).1, (idx1 t).2.1, (idx1 t).2.2.1, (idx1 t).2.2.2]
  · blk_ext [(idx1 t).1, (idx1 t).2.1, (idx1 t).2.2.1, (idx1 t).2.2.2]
  · blk_simp [(idx1 t).1, (idx1 t).2.1, (idx1 t).2.2.1, (idx1 t).2.2.2]

end Arrays

/-! The two results, as functions of the arguments. -/

variable (m : (ℓ : Loc nD τ sig) → Buf (Elt Ideal) ℓ) (ρ : Dev nD → PrngReg)

/-- The arguments. -/
abbrev input (c : Dev nD) : Vec Ideal S4096x1024 .f32 := m ((c : Thread nD τ).loc main_arg0)
abbrev weight (c : Dev nD) : Vec Ideal S31x1024 .f32 := m ((c : Thread nD τ).loc main_arg1)
abbrev bias (c : Dev nD) : Vec Ideal S1x1024 .f32 := m ((c : Thread nD τ).loc main_arg2)

theorem V1_v3 (c : Dev nD) : V1 m ρ c main_v3 = swap (extractStridedSlice S4096x512 ![0, 0] (input m c) slices_S4096x1024_S4096x512_0_0) := by
  show StableHlo.after hostOps0 (W0 m ρ c) (Proc.devRef .tc main_v3) = _
  after_reads_simp
  rfl

theorem V1_v4 (c : Dev nD) : V1 m ρ c main_v4 = extractStridedSlice S31x512 ![0, 0] (weight m c) slices_S31x1024_S31x512_0_0 := by
  show StableHlo.after hostOps0 (W0 m ρ c) (Proc.devRef .tc main_v4) = _
  after_reads_simp

theorem V1_v5 (c : Dev nD) : V1 m ρ c main_v5 = extractStridedSlice S1x512 ![0, 0] (bias m c) slices_S1x1024_S1x512_0_0 := by
  show StableHlo.after hostOps0 (W0 m ρ c) (Proc.devRef .tc main_v5) = _
  after_reads_simp

theorem V3_v7 (c : Dev nD) : V3 m ρ c main_v7 = extractStridedSlice S31x512 ![0, 512] (weight m c) slices_S31x1024_S31x512_0_512 := by
  show StableHlo.after hostOps1 (W2 m ρ c) (Proc.devRef .tc main_v7) = _
  after_reads_simp
  rw [W2_args m ρ c _ (by decide)]

theorem V3_v8 (c : Dev nD) : V3 m ρ c main_v8 = extractStridedSlice S1x512 ![0, 512] (bias m c) slices_S1x1024_S1x512_0_512 := by
  show StableHlo.after hostOps1 (W2 m ρ c) (Proc.devRef .tc main_v8) = _
  after_reads_simp
  rw [W2_args m ρ c _ (by decide)]

theorem V3_arg0 (c : Dev nD) : V3 m ρ c main_arg0 = input m c := W3_args m ρ c _ (by decide)

/-- The second call's result. -/
theorem W5_v9 (c : Dev nD) : W5 m ρ c (Proc.devRef .tc main_v9)
    = convBias (colsFrom 512 (input m c) (by decide)) (extractStridedSlice S31x512 ![0, 512] (weight m c) slices_S31x1024_S31x512_0_512)
        (extractStridedSlice S1x512 ![0, 512] (bias m c) slices_S1x1024_S1x512_0_512) := by
  rw [W5_of m ρ c main_v9 (by decide)]
  refine (W4_arr m ρ c 3).trans ?_
  rw [arr1, V3_v7, V3_v8, V3_arg0]

/-- The first call's result, its grid exchanged back. -/
theorem W5_v12 (c : Dev nD) : W5 m ρ c (Proc.devRef .tc main_v12)
    = swap (convBias (swap (extractStridedSlice S4096x512 ![0, 0] (input m c) slices_S4096x1024_S4096x512_0_0))
        (extractStridedSlice S31x512 ![0, 0] (weight m c) slices_S31x1024_S31x512_0_0)
        (extractStridedSlice S1x512 ![0, 0] (bias m c) slices_S1x1024_S1x512_0_0)) := by
  have e : W4 m ρ c (Proc.devRef .tc main_v6) = convBias (swap (extractStridedSlice S4096x512 ![0, 0] (input m c) slices_S4096x1024_S4096x512_0_0))
        (extractStridedSlice S31x512 ![0, 0] (weight m c) slices_S31x1024_S31x512_0_0)
        (extractStridedSlice S1x512 ![0, 0] (bias m c) slices_S1x1024_S1x512_0_0) := by
    rw [W4_of m ρ c main_v6 (by decide), W3_of m ρ c main_v6 (by decide)]
    refine (W2_arr m ρ c 3).trans ?_
    rw [arr0, V1_v3, V1_v4, V1_v5]
  show StableHlo.after hostOps2 (W4 m ρ c) (Proc.devRef .tc main_v12) = _
  after_reads_simp
  rw [e]
  rfl

end Cert.Proof.Axial

end
-- ==== Proof.AxialEqual.lean ====
/- The forward axial convolution: the reference's lines, read entry by entry, and the two calls' results are one. -/
module

public import proofs.«01_k».proof.Defs
public import proofs.«01_k».proof.Proof.Axial
public import proofs.«01_k».proof.Proof.Gen.AxialRefIdeal.Run
public import Idealize.ShloMosaic.Lib.KernelVsHost

@[expose] public section

set_option maxRecDepth 16384

noncomputable section

namespace Cert.Proof.Axial

open Idealize.ShloMosaic Idealize.ShloMosaic.TcCoe Idealize.ShloMosaic.Tactic Idealize.ShloMosaic.StableHlo Idealize.SL.Sem
open Idealize.ShloMosaic.ValueIdx (mulf_apply addf_apply)
open Cert.Proof.Conv (padLine padCol padCol_line convAt swap swap_apply ext_lines)

/-- The convolution along a line, with its bias, at position `p`. -/
def lineSum (w : Fin 31 → EReal) (b : EReal) (f : Fin 64 → EReal) (p : Fin 64) : EReal :=
  b + ∑ k ∈ Finset.range 31, w (Fin.ofNat 31 k) * padLine f (k + p.val)

/-- A column of tokens is convolved line by line. -/
theorem convBias_line (x : Vec Ideal ⟨2, ![4096, 512]⟩ .f32) (w : Vec Ideal ⟨2, ![31, 512]⟩ .f32) (b : Vec Ideal ⟨2, ![1, 512]⟩ .f32) (n l : Fin 64) (j : Fin 512) :
    convBias x w b (ix2 (⟨l.val * 64 + n.val, by omega⟩ : Fin 4096) j)
      = lineSum (fun k => w (ix2 k j)) (b (ix2 0 j)) (fun p => x (ix2 ⟨p.val * 64 + n.val, by omega⟩ j)) l := by
  unfold convBias convAt lineSum
  change @Eq EReal _ _
  refine congrArg₂ (fun a b : EReal => a + b) rfl (Finset.sum_congr rfl fun k _ => congrArg₂ (· * ·) rfl ?_)
  rw [← padCol_line (fun r => x (ix2 r j))]
  exact congrArg (padCol _) (by show 64 * k + (l.val * 64 + n.val) = _; omega)

section Reference

open Cert.AxialRefIdeal Cert.AxialRefIdeal.Value

variable (V : Valuation τ sig (Elt Ideal))

/-- The arguments, as the reference's contents hold them. -/
abbrev argX : FVec Ideal ⟨2, ![4096, 1024]⟩ .f32 := V (Proc.devRef .tc main_arg0)
abbrev argW : FVec Ideal ⟨2, ![31, 1024]⟩ .f32 := V (Proc.devRef .tc main_arg1)
abbrev argB : FVec Ideal ⟨2, ![1, 1024]⟩ .f32 := V (Proc.devRef .tc main_arg2)

/-- The argument at position `l` of line `n`: a row of the grid for the first half of the channels, a column for the second. -/
def xLine (n l : Fin 64) (c : Fin 1024) : EReal :=
  if c.val < 512 then argX V (ix2 ⟨n.val * 64 + l.val, by omega⟩ c) else argX V (ix2 ⟨l.val * 64 + n.val, by omega⟩ c)

theorem x_apply (n : Fin 64) (m : Fin 94) (c : Fin 1024) : res_main_v7 V (ix3 n m c) = padLine (fun p => xLine V n p c) m.val := by
  unfold res_main_v7 res_main_v6 res_main_v1 padLine xLine
  pointwise
  by_cases h : 15 ≤ m.val ∧ m.val < 79
  · rw [dif_neg (by omega), dif_pos (by omega), dif_pos h]
    by_cases hc : c.val < 512
    · rw [dif_pos hc, if_pos hc]
    · have e : ∀ (r : Fin 4096) (q : Fin 1024), q = c → argX V (ix2 r q) = argX V (ix2 r c) := fun _ _ h => by rw [h]
      rw [dif_neg hc, if_neg hc]
      refine e ⟨(m.val - 15) * 64 + n.val, by omega⟩ ⟨512 + (c.val - 512), by omega⟩ ?_
      exact Fin.eq_of_val_eq (Nat.add_sub_of_le (Nat.le_of_not_lt hc))
  · refine Eq.trans ?_ (dif_neg h).symm
    by_cases h' : m.val < 15
    · exact dif_pos h'
    · exact (dif_neg h').trans (dif_neg (by omega))

/-- One tap's term: the tap times the padded line, read `k` places on. -/
theorem tap_apply (k : ℕ) (hs hw hb) (hx : S64x94x1024.Slices ![0, k, 0] S64x64x1024) (n p : Fin 64) (c : Fin 1024) (hk : k < 31) :
    (mulf (broadcastInDim S64x64x1024 ![0, 1, 2] hb (broadcastInDim S1x1x1024 ![1, 2] hw (extractStridedSlice S1x1024 ![k, 0] (argW V) hs)))
      (extractStridedSlice S64x64x1024 ![0, k, 0] (res_main_v7 V) hx) : FVec Ideal S64x64x1024 .f32) (ix3 n p c)
      = argW V (ix2 (Fin.ofNat 31 k) c) * padLine (fun l => xLine V n l c) (k + p.val) := by
  rw [mulf_apply]
  refine congrArg₂ (fun a b : EReal => a * b) ?_ ?_
  · pointwise
    have e : ∀ hlt, (⟨k, hlt⟩ : Fin 31) = Fin.ofNat 31 k := fun _ => Fin.ext (Nat.mod_eq_of_lt hk).symm
    rw [e]
  · refine (extractStridedSlice_apply _ _ hx _ (ix3 n (⟨k + p.val, by omega⟩ : Fin 94) c) fun a => ?_).trans (x_apply V n _ c)
    fin_cases a
    · exact (Nat.zero_add _).symm
    · rfl
    · exact (Nat.zero_add _).symm

theorem zero_apply (h) (i) : (broadcastInDim S64x64x1024 ![] h (constant S_ .f32 0x00000000#32 : FVec Ideal S_ .f32) : FVec Ideal S64x64x1024 .f32) i = 0 :=
  Ideal.ofBits_zero_f32

theorem bias_apply (ha hb hc) (n p : Fin 64) (c : Fin 1024) :
    (broadcastInDim S64x64x1024 ![0, 1, 2] ha (broadcastInDim S1x1x1024 ![2] hb (shapeCast S1024 (argB V) hc)) : FVec Ideal S64x64x1024 .f32) (ix3 n p c)
      = argB V (ix2 0 c) := by
  pointwise

set_option maxHeartbeats 2000000 in
/-- The convolution along line `n`, at position `p`. -/
theorem line_apply (n p : Fin 64) (c : Fin 1024) :
    res_main_v197 V (ix3 n p c) = lineSum (fun k => argW V (ix2 k c)) (argB V (ix2 0 c)) (fun l => xLine V n l c) p := by
  unfold lineSum
  rw [add_comm (_ : EReal)]
  unfold res_main_v197 res_main_v159 res_main_v99
  simp only [Finset.sum_range_succ, Finset.sum_range_zero]
  repeat' first
    | exact tap_apply V _ _ _ _ _ n p c (by decide)
    | exact zero_apply _ _
    | exact bias_apply V _ _ _ n p c
    | refine congrArg₂ (fun a b : EReal => a + b) ?_ ?_

/-- The result at a token, first half of the channels. -/
theorem lo_apply (n l : Fin 64) (j : Fin 512) (h) :
    (extractStridedSlice S4096x512 ![0, 0] (res_main_v202 V) h : FVec Ideal S4096x512 .f32) (ix2 (⟨n.val * 64 + l.val, by omega⟩ : Fin 4096) j)
      = lineSum (fun k => argW V (ix2 k ⟨j.val, by omega⟩)) (argB V (ix2 0 ⟨j.val, by omega⟩)) (fun l => argX V (ix2 ⟨n.val * 64 + l.val, by omega⟩ ⟨j.val, by omega⟩)) l := by
  have e : (extractStridedSlice S4096x512 ![0, 0] (res_main_v202 V) h : FVec Ideal S4096x512 .f32) (ix2 (⟨n.val * 64 + l.val, by omega⟩ : Fin 4096) j)
      = res_main_v197 V (ix3 n l (⟨j.val, by omega⟩ : Fin 1024)) := by
    unfold res_main_v202
    pointwise
  rw [e, line_apply]
  unfold xLine
  simp only [j.isLt, if_true]

/-- The result at a token, second half of the channels. -/
theorem hi_apply (n l : Fin 64) (j : Fin 512) (h) :
    (extractStridedSlice S4096x512 ![0, 512] (res_main_v202 V) h : FVec Ideal S4096x512 .f32) (ix2 (⟨l.val * 64 + n.val, by omega⟩ : Fin 4096) j)
      = lineSum (fun k => argW V (ix2 k ⟨512 + j.val, by omega⟩)) (argB V (ix2 0 ⟨512 + j.val, by omega⟩)) (fun l => argX V (ix2 ⟨l.val * 64 + n.val, by omega⟩ ⟨512 + j.val, by omega⟩)) l := by
  have e : (extractStridedSlice S4096x512 ![0, 512] (res_main_v202 V) h : FVec Ideal S4096x512 .f32) (ix2 (⟨l.val * 64 + n.val, by omega⟩ : Fin 4096) j)
      = res_main_v197 V (ix3 n l (⟨512 + j.val, by omega⟩ : Fin 1024)) := by
    unfold res_main_v202
    pointwise
  rw [e, line_apply]
  unfold xLine
  simp only [show ¬ 512 + j.val < 512 from by omega, if_false]

/-- The first half, convolved along the grid's rows: the kernel's result and the reference's. -/
theorem eq_lo (h) : swap (convBias (swap (extractStridedSlice S4096x512 ![0, 0] (argX V) Cert.AxialIdeal.Gen.slices_S4096x1024_S4096x512_0_0))
      (extractStridedSlice Cert.AxialIdeal.S31x512 ![0, 0] (argW V) Cert.AxialIdeal.Gen.slices_S31x1024_S31x512_0_0)
      (extractStridedSlice Cert.AxialIdeal.S1x512 ![0, 0] (argB V) Cert.AxialIdeal.Gen.slices_S1x1024_S1x512_0_0))
    = extractStridedSlice S4096x512 ![0, 0] (res_main_v202 V) h := by
  refine ext_lines fun n l j => ?_
  refine Eq.trans ?_ (lo_apply V n l j h).symm
  rw [swap_apply, convBias_line]
  have hw : (fun k => extractStridedSlice Cert.AxialIdeal.S31x512 ![0, 0] (argW V) Cert.AxialIdeal.Gen.slices_S31x1024_S31x512_0_0 (ix2 k j))
      = fun k => argW V (ix2 k ⟨j.val, by omega⟩) := by
    funext k
    pointwise
  have hb : extractStridedSlice Cert.AxialIdeal.S1x512 ![0, 0] (argB V) Cert.AxialIdeal.Gen.slices_S1x1024_S1x512_0_0 (ix2 0 j)
      = argB V (ix2 0 ⟨j.val, by omega⟩) := by
    pointwise
  rw [hw, hb]
  refine congrArg (lineSum _ _ · l) (funext fun p => ?_)
  rw [swap_apply]
  pointwise

/-- The second half, convolved along the grid's columns. -/
theorem eq_hi (h) : convBias (colsFrom 512 (argX V) (by decide))
      (extractStridedSlice Cert.AxialIdeal.S31x512 ![0, 512] (argW V) Cert.AxialIdeal.Gen.slices_S31x1024_S31x512_0_512)
      (extractStridedSlice Cert.AxialIdeal.S1x512 ![0, 512] (argB V) Cert.AxialIdeal.Gen.slices_S1x1024_S1x512_0_512)
    = extractStridedSlice S4096x512 ![0, 512] (res_main_v202 V) h := by
  refine ext_lines fun l n j => ?_
  refine Eq.trans ?_ (hi_apply V n l j h).symm
  rw [convBias_line]
  have hw : (fun k => extractStridedSlice Cert.AxialIdeal.S31x512 ![0, 512] (argW V) Cert.AxialIdeal.Gen.slices_S31x1024_S31x512_0_512 (ix2 k j))
      = fun k => argW V (ix2 k ⟨512 + j.val, by omega⟩) := by
    funext k
    pointwise
  have hb : extractStridedSlice Cert.AxialIdeal.S1x512 ![0, 512] (argB V) Cert.AxialIdeal.Gen.slices_S1x1024_S1x512_0_512 (ix2 0 j)
      = argB V (ix2 0 ⟨512 + j.val, by omega⟩) := by
    pointwise
  rw [hw, hb]
  exact congrArg (lineSum _ _ · l) (funext fun p => rfl)

end Reference

theorem frame_reference : Cert.quiescent_AxialRefIdeal := fun m ρ _ =>
  (θ_run Cert.AxialRefIdeal.defs _ _).mono (fun r h => ⟨fun c => (h c).2.2, sem_eq_zero_of_no_sems (by decide) r.2⟩)
    (Cert.AxialRefIdeal.Value.run m ρ)

theorem algebraic : Cert.algebraic_AxialIdeal_AxialRefIdeal := by
  intro m g m' g' _ h
  refine ⟨fun c => Cert.AxialIdeal.Gen.W5 m g c (Proc.devRef .tc Cert.AxialIdeal.main_v12), fun c => Cert.AxialIdeal.Gen.W5 m g c (Proc.devRef .tc Cert.AxialIdeal.main_v9), ?_, ?_⟩
  · refine (θ_run Cert.AxialIdeal.defs _ _).mono (fun _ r c => ?_) (run_main m g)
    exact ⟨r.1 c _ (Cert.AxialIdeal.Gen.mem_uc Cert.AxialIdeal.main_v12 (by decide)), r.1 c _ (Cert.AxialIdeal.Gen.mem_uc Cert.AxialIdeal.main_v9 (by decide)),
      (r.1 c _ (Cert.AxialIdeal.Gen.mem_uc Cert.AxialIdeal.main_arg0 (by decide))).trans (Cert.AxialIdeal.Gen.W5_main_arg0 m g c),
      (r.1 c _ (Cert.AxialIdeal.Gen.mem_uc Cert.AxialIdeal.main_arg1 (by decide))).trans (Cert.AxialIdeal.Gen.W5_main_arg1 m g c),
      (r.1 c _ (Cert.AxialIdeal.Gen.mem_uc Cert.AxialIdeal.main_arg2 (by decide))).trans (Cert.AxialIdeal.Gen.W5_main_arg2 m g c)⟩
  · refine (θ_run Cert.AxialRefIdeal.defs _ _).mono (fun _ r c => ?_) (Cert.AxialRefIdeal.Value.run m' g')
    obtain ⟨r0, r1, k⟩ := r c
    obtain ⟨h0, h1, h2⟩ := h c
    have h0' : argX (launchContents m' c) = input m c := h0
    have h1' : argW (launchContents m' c) = weight m c := h1
    have h2' : argB (launchContents m' c) = bias m c := h2
    refine ⟨r0.trans ?_, r1.trans ?_, k⟩
    · refine (eq_lo _ _).symm.trans (Eq.trans ?_ (W5_v12 m g c).symm)
      rw [h0', h1', h2']
    · refine (eq_hi _ _).symm.trans (Eq.trans ?_ (W5_v9 m g c).symm)
      rw [h0', h1', h2']

end Cert.Proof.Axial

end
-- ==== Proof.Adam.lean ====
/- The optimiser's step, element by element: the devices' gradients are added, both moments are moved towards the sum and its
   square, and the weight's change is the first over the root of the second, each corrected for its start, with the decay.

   The lemmas are for any number of devices and any array, so that each weight's call is an instance. -/
module

public import proofs.«01_k».proof.Proof.Product
public import Idealize.ShloMosaic.Lib.Tactic
public import Idealize.ShloMosaic.Lib.Pointwise
public import Idealize.ShloMosaic.Lib.IdealHost

@[expose] public section

set_option maxRecDepth 16384

noncomputable section

namespace Cert.Proof.Adam

open Idealize.ShloMosaic Idealize.ShloMosaic.Tactic
open scoped BigOperators

/-- A number that the programs write. -/
abbrev word (b : BitVec 32) : EReal := Ideal.ofBits .f32 b

/-- The first moment after the step, -/
def first (m g : EReal) : EReal := word 0x3F666666#32 * m + word 0x3DCCCCCD#32 * g

/-- the second, -/
def second (v g : EReal) : EReal := word 0x3F7FBE77#32 * v + word 0x3A83126F#32 * (g * g)

/-- and the weight's change, of the moments after the step. -/
def change (w m v : EReal) : EReal :=
  word 0xBA83126F#32 * (Ideal.div (Ideal.div m (word 0x3F26BD02#32)) (Ideal.sqrt (Ideal.div v (word 0x3C231ACC#32)) + word 0x322BCC77#32) + word 0x3C23D70A#32 * w)

variable {n r c : ℕ}

/-- The devices' gradients' sum. -/
def gradient (s : (⟨3, ![n, r, c]⟩ : Shape).Idx → EReal) : FVec Ideal ⟨2, ![r, c]⟩ .f32 := fun y => ∑ k : Fin n, (s (ix3 k (y 0) (y 1)) : EReal)

def firsts {sh : Shape} (g m : FVec Ideal sh .f32) : FVec Ideal sh .f32 := fun y => first (m y) (g y)
def seconds {sh : Shape} (g v : FVec Ideal sh .f32) : FVec Ideal sh .f32 := fun y => second (v y) (g y)
def changes {sh : Shape} (g w m v : FVec Ideal sh .f32) : FVec Ideal sh .f32 := fun y => change (w y) (first (m y) (g y)) (second (v y) (g y))

/-- One device's gradient, taken out of the devices'. -/
theorem slot {φ : FTy} (s : FVec Ideal ⟨3, ![n, r, c]⟩ φ) (k : Fin n) (p : Fin r) (q : Fin c) {j : ℕ} (hj : j = k.val)
    (h : (⟨3, ![n, r, c]⟩ : Shape).Slices ![j, 0, 0] ⟨3, ![1, r, c]⟩) : extractStridedSlice ⟨3, ![1, r, c]⟩ ![j, 0, 0] s h (ix3 0 p q) = s (ix3 k p q) := by
  subst hj
  exact congrArg s (funext fun a => Fin.ext (by fin_cases a <;> simp))

/-- Eight devices' gradients, added from the first on. -/
theorem eight {φ : FTy} (s : FVec Ideal ⟨3, ![8, r, c]⟩ φ) (p : Fin r) (q : Fin c)
    (h0 : (⟨3, ![8, r, c]⟩ : Shape).Slices ![0, 0, 0] ⟨3, ![1, r, c]⟩) (h1 : (⟨3, ![8, r, c]⟩ : Shape).Slices ![1, 0, 0] ⟨3, ![1, r, c]⟩) (h2 : (⟨3, ![8, r, c]⟩ : Shape).Slices ![2, 0, 0] ⟨3, ![1, r, c]⟩) (h3 : (⟨3, ![8, r, c]⟩ : Shape).Slices ![3, 0, 0] ⟨3, ![1, r, c]⟩)
    (h4 : (⟨3, ![8, r, c]⟩ : Shape).Slices ![4, 0, 0] ⟨3, ![1, r, c]⟩) (h5 : (⟨3, ![8, r, c]⟩ : Shape).Slices ![5, 0, 0] ⟨3, ![1, r, c]⟩) (h6 : (⟨3, ![8, r, c]⟩ : Shape).Slices ![6, 0, 0] ⟨3, ![1, r, c]⟩) (h7 : (⟨3, ![8, r, c]⟩ : Shape).Slices ![7, 0, 0] ⟨3, ![1, r, c]⟩) :
    (extractStridedSlice ⟨3, ![1, r, c]⟩ ![0, 0, 0] s h0 (ix3 0 p q)
      + extractStridedSlice ⟨3, ![1, r, c]⟩ ![1, 0, 0] s h1 (ix3 0 p q)
      + extractStridedSlice ⟨3, ![1, r, c]⟩ ![2, 0, 0] s h2 (ix3 0 p q)
      + extractStridedSlice ⟨3, ![1, r, c]⟩ ![3, 0, 0] s h3 (ix3 0 p q)
      + extractStridedSlice ⟨3, ![1, r, c]⟩ ![4, 0, 0] s h4 (ix3 0 p q)
      + extractStridedSlice ⟨3, ![1, r, c]⟩ ![5, 0, 0] s h5 (ix3 0 p q)
      + extractStridedSlice ⟨3, ![1, r, c]⟩ ![6, 0, 0] s h6 (ix3 0 p q)
      + extractStridedSlice ⟨3, ![1, r, c]⟩ ![7, 0, 0] s h7 (ix3 0 p q) : EReal) = gradient s (ix2 p q) := by
  rw [slot s 0 p q (j := 0) rfl, slot s 1 p q (j := 1) rfl, slot s 2 p q (j := 2) rfl, slot s 3 p q (j := 3) rfl, slot s 4 p q (j := 4) rfl, slot s 5 p q (j := 5) rfl, slot s 6 p q (j := 6) rfl, slot s 7 p q (j := 7) rfl]
  exact (Fin.sum_univ_eight fun k => (s (ix3 k p q) : EReal)).symm

section Below

variable {h : ℕ} (x y : (⟨3, ![n, h, c]⟩ : Shape).Idx → EReal) (hc : Shape.Concatenates [⟨3, ![n, h, c]⟩, ⟨3, ![n, h, c]⟩] ⟨3, ![n, r, c]⟩ 1)
  (k : Fin n) (p' : Fin r) (p : Fin h) (q : Fin c)

/-- Two layers' rows one below the other: the upper ones, -/
theorem upper (e : p.val = p'.val) : concatenate ⟨3, ![n, r, c]⟩ 1 [⟨⟨3, ![n, h, c]⟩, x⟩, ⟨⟨3, ![n, h, c]⟩, y⟩] hc (ix3 k p' q) = x (ix3 k p q) :=
  concatenate_pair_apply_left (t := ⟨3, ![n, r, c]⟩) 1 x y hc (ix3 k p' q) rfl (ix3 k p q) fun b => match b with
    | ⟨0, _⟩ => rfl
    | ⟨1, _⟩ => e
    | ⟨2, _⟩ => rfl

/-- and the lower ones. -/
theorem lower (e : p.val + h = p'.val) : concatenate ⟨3, ![n, r, c]⟩ 1 [⟨⟨3, ![n, h, c]⟩, x⟩, ⟨⟨3, ![n, h, c]⟩, y⟩] hc (ix3 k p' q) = y (ix3 k p q) :=
  concatenate_pair_apply_right (t := ⟨3, ![n, r, c]⟩) 1 x y hc (ix3 k p' q) rfl rfl (ix3 k p q) (fun b hb => match b, hb with
    | ⟨0, _⟩, _ => rfl
    | ⟨1, _⟩, hb => absurd rfl hb
    | ⟨2, _⟩, _ => rfl) e

end Below

section Reference

variable {sh : Shape} (h : (⟨0, ![]⟩ : Shape).BroadcastsInDim sh ![]) (g w m v : FVec Ideal sh .f32)

/-- A number, as an array. -/
abbrev every (b : BitVec 32) : FVec Ideal sh .f32 := broadcastInDim sh ![] h (constant (F := Ideal) ⟨0, ![]⟩ .f32 b)

abbrev refFirst : FVec Ideal sh .f32 := addf (mulf (every h 0x3F666666#32) m) (mulf (every h 0x3DCCCCCD#32) g)
abbrev refSecond : FVec Ideal sh .f32 := addf (mulf (every h 0x3F7FBE77#32) v) (mulf (every h 0x3A83126F#32) (mulf g g))
abbrev refChange : FVec Ideal sh .f32 :=
  mulf (every h 0xBA83126F#32) (addf (Host.divf (Host.divf (refFirst h g m) (every h 0x3F26BD02#32))
    (addf (Host.sqrt (Host.divf (refSecond h g v) (every h 0x3C231ACC#32))) (every h 0x322BCC77#32))) (mulf (every h 0x3C23D70A#32) w))

/-- The reference's moments and change are these. -/
theorem first_eq : refFirst h g m = firsts g m := rfl
theorem second_eq : refSecond h g v = seconds g v := rfl
theorem change_eq : refChange h g w m v = changes g w m v := rfl

theorem gradient_eq (s : FVec Ideal ⟨3, ![n, r, c]⟩ .f32) (hr : (⟨3, ![n, r, c]⟩ : Shape).ReducesTo [0] ⟨2, ![r, c]⟩) (hz : 0 < (⟨0, ![]⟩ : Shape).numel) :
    Host.reduceAdd s (constant (F := Ideal) ⟨0, ![]⟩ .f32 0x00000000#32) hr hz = gradient s := by
  funext y
  obtain ⟨p, q, rfl⟩ : ∃ (p : Fin r) (q : Fin c), y = ix2 p q := ⟨y 0, y 1, eq_ix2 y⟩
  simp only [pointwise, Ideal.ofBits_zero_f32, zero_add]
  rfl

end Reference

end Cert.Proof.Adam

end
-- ==== Proof.AdamIn.lean ====
/- The optimiser's step of the state-space layer's input weight (`Adam`): every point has 256 rows. -/
module

public import proofs.«01_k».proof.Defs
public import proofs.«01_k».proof.Proof.Adam
public import proofs.«01_k».proof.Proof.Gen.AdamInIdeal.Value
public import proofs.«01_k».proof.Proof.Gen.AdamInRefIdeal.Run
public import Idealize.ShloMosaic.Lib.KernelVsHost
public import Idealize.ShloMosaic.Adequacy
public import Idealize.ShloMosaic.Init

@[expose] public section

set_option maxRecDepth 16384

noncomputable section

namespace Cert.Proof.AdamIn

open Idealize.ShloMosaic Idealize.ShloMosaic.TcCoe Idealize.ShloMosaic.Tactic Idealize.SL.Sem
open Cert.AdamInIdeal Cert.AdamInIdeal.Gen Cert.AdamInIdeal.Value
open Cert.Proof.Adam
open scoped BigOperators

/-- What a point leaves, of the blocks it takes. -/
theorem sums_eq (s : Vec Ideal S8x256x776 .bf16) (w m v : Vec Ideal S256x776 .f32) : k0_pay8 s w m v = gradient s := by
  funext y
  obtain ⟨p, q, rfl⟩ : ∃ (p : Fin 256) (q : Fin 776), y = ix2 p q := ⟨y 0, y 1, eq_ix2 y⟩
  unfold k0_pay8 k0_pay2
  simp only [View.ld_unit, pointwise]
  exact eight s p q _ _ _ _ _ _ _ _

variable (m : (ℓ : Loc nD τ sig) → Buf (Elt Ideal) ℓ) (c : Dev nD)

abbrev slots : Vec Ideal S8x1024x776 .bf16 := m ((c : Thread nD τ).loc main_arg0)
abbrev weight : Vec Ideal S1024x776 .f32 := m ((c : Thread nD τ).loc main_arg1)
abbrev mean : Vec Ideal S1024x776 .f32 := m ((c : Thread nD τ).loc main_arg2)
abbrev spread : Vec Ideal S1024x776 .f32 := m ((c : Thread nD τ).loc main_arg3)

theorem rows : ∀ t : Fin cfg0.N, win0_0.index t = ![0, t.val, 0] ∧ win0_4.index t = ![t.val, 0] ∧ win0_4.flush t = true
    ∧ win0_5.flush t = true ∧ win0_6.flush t = true ∧ win0_7.flush t = true :=
  (by decide +kernel : ∀ t : Fin grid0.N, _)

section Point
variable (t : Fin cfg0.N)

/-- A block of an array of the weight's shape: all of them have the same place. -/
abbrev at_ (x : Vec Ideal S1024x776 .f32) : Vec Ideal S256x776 .f32 := ((cfg0.win 4).blk t).view.read (Elt Ideal) x

theorem weight_at : (iblk m c 1 t : Vec Ideal S256x776 .f32) = at_ t (weight m c) := funext fun _ => congrFun (V_main_arg1 m c) _
theorem mean_at : (iblk m c 2 t : Vec Ideal S256x776 .f32) = at_ t (mean m c) := funext fun _ => congrFun (V_main_arg2 m c) _
theorem spread_at : (iblk m c 3 t : Vec Ideal S256x776 .f32) = at_ t (spread m c) := funext fun _ => congrFun (V_main_arg3 m c) _

theorem gradient_at : gradient (iblk m c 0 t : Vec Ideal S8x256x776 .bf16) = at_ t (gradient (slots m c)) := by
  obtain ⟨e0, e4, -⟩ := rows t
  have hN : cfg0.N = 4 := (by decide +kernel : grid0.N = 4)
  have ht := t.isLt
  funext y
  obtain ⟨p, q, rfl⟩ : ∃ (p : Fin 256) (q : Fin 776), y = ix2 p q := ⟨y 0, y 1, eq_ix2 y⟩
  refine Eq.trans ?_ (at_tile (gradient (slots m c)) _ e4 256 776 p.val q.val rfl rfl ⟨t.val * 256 + p.val, by omega⟩ q rfl (by omega)).symm
  exact Finset.sum_congr rfl fun k _ => (congrFun (V_main_arg0 m c) _).trans
    (at_tile3 (slots m c) _ e0 8 256 776 k.val p.val q.val rfl rfl rfl k ⟨t.val * 256 + p.val, by omega⟩ q (by omega) rfl (by omega))

end Point

/-- The call leaves the gradient, the change and both moments. -/
theorem result : (dats m 0 c).arrAt 4 cfg0.N = gradient (slots m c) ∧ (dats m 0 c).arrAt 5 cfg0.N = changes (gradient (slots m c)) (weight m c) (mean m c) (spread m c)
    ∧ (dats m 0 c).arrAt 6 cfg0.N = firsts (gradient (slots m c)) (mean m c) ∧ (dats m 0 c).arrAt 7 cfg0.N = seconds (gradient (slots m c)) (spread m c) := by
  have cover (i : S1024x776.Idx) : ∃ t : Fin cfg0.N, i ∈ ((cfg0.win 4).blk t).view.set := by
    have hN : cfg0.N = 4 := (by decide +kernel : grid0.N = 4)
    have h0 : (i 0).val < 1024 := (i 0).isLt
    have h1 : (i 1).val < 776 := (i 1).isLt
    obtain ⟨t, ht⟩ : ∃ t : Fin cfg0.N, t.val = (i 0).val / 256 := ⟨⟨(i 0).val / 256, by rw [hN]; omega⟩, rfl⟩
    obtain ⟨-, e, -⟩ := rows t
    refine ⟨t, ?_⟩
    show i ∈ ((View.whole main_v0_0).slice (win0_4.rect t)).set
    rw [View.set_slice_whole]
    exact mem_tile _ i (s0 := 256) (s1 := 776) rfl rfl (by decide) (by decide) (congrArg (· * 256) ((congrFun e 0).trans ht))
      (congrArg (· * 776) ((congrFun e 1).trans (Nat.div_eq_of_lt h1).symm))
  refine ⟨(dats m 0 c).arrAt_eq_of_cover 4 _ (fun t _ => ?_) fun i => (cover i).imp fun t h => ⟨(rows t).2.2.1, h⟩,
    (dats m 0 c).arrAt_eq_of_cover 5 _ (fun t _ => ?_) fun i => (cover i).imp fun t h => ⟨(rows t).2.2.2.1, h⟩,
    (dats m 0 c).arrAt_eq_of_cover 6 _ (fun t _ => ?_) fun i => (cover i).imp fun t h => ⟨(rows t).2.2.2.2.1, h⟩,
    (dats m 0 c).arrAt_eq_of_cover 7 _ (fun t _ => ?_) fun i => (cover i).imp fun t h => ⟨(rows t).2.2.2.2.2, h⟩⟩
  · rw [flushed4]
    unfold out0_4
    rw [View.canon_unit_zero zero2, sums_eq, gradient_at]
    unfold k0_pay5
    rw [shapeCast_self]
  · rw [flushed5]
    unfold out0_5
    rw [View.canon_unit_zero zero2, sums_eq, gradient_at, weight_at, mean_at, spread_at]
    simp only [View.ld_unit_zero (S := S256x776) zero2]
    unfold k0_pay6 k0_pay3 k0_pay4
    simp only [shapeCast_self]
    rfl
  · rw [flushed6]
    unfold out0_6
    rw [View.canon_unit_zero zero2, sums_eq, gradient_at, mean_at]
    simp only [View.ld_unit_zero (S := S256x776) zero2]
    unfold k0_pay7 k0_pay3
    simp only [shapeCast_self]
    rfl
  · rw [flushed7]
    unfold out0_7
    rw [View.canon_unit_zero zero2, sums_eq, gradient_at, spread_at]
    simp only [View.ld_unit_zero (S := S256x776) zero2]
    unfold k0_pay1 k0_pay4
    simp only [shapeCast_self]
    rfl

theorem frame_reference : Cert.quiescent_AdamInRefIdeal := fun m ρ _ =>
  (θ_run Cert.AdamInRefIdeal.defs _ _).mono (fun r h => ⟨fun c => (h c).2.2.2.2, sem_eq_zero_of_no_sems (by decide) r.2⟩)
    (Cert.AdamInRefIdeal.Value.run m ρ)

theorem algebraic : Cert.algebraic_AdamInIdeal_AdamInRefIdeal := by
  intro m g m' g' _ h
  refine ⟨fun c => gradient (slots m c), fun c => changes (gradient (slots m c)) (weight m c) (mean m c) (spread m c),
    fun c => firsts (gradient (slots m c)) (mean m c), fun c => seconds (gradient (slots m c)) (spread m c),
    (θ_run Cert.AdamInIdeal.defs _ _).mono (fun _ r c => ?_) (run_blocks m g), (θ_run Cert.AdamInRefIdeal.defs _ _).mono (fun _ r c => ?_) (Cert.AdamInRefIdeal.Value.run m' g')⟩
  · obtain ⟨r4, r5, r6, r7, k⟩ := r c
    obtain ⟨e4, e5, e6, e7⟩ := result m c
    exact ⟨r4.trans e4, r5.trans e5, r6.trans e6, r7.trans e7, k⟩
  · obtain ⟨r0, r1, r2, r3, k⟩ := r c
    obtain ⟨h0, h1, h2, h3⟩ := h c
    rw [h0] at r0
    rw [h0, h1, h2, h3] at r1
    rw [h0, h2] at r2
    rw [h0, h3] at r3
    have e := gradient_eq (extf (F := Ideal) .f32 (slots m c) Cert.AdamInRefIdeal.Gen.bitsLt_bf16_f32) Cert.AdamInRefIdeal.Gen.reducesTo_S8x1024x776_S1024x776_d0 Cert.AdamInRefIdeal.Gen.h_S_
    refine ⟨r0.trans e, r1.trans ?_, r2.trans ?_, r3.trans ?_, k⟩
    · exact (congrArg (refChange Cert.AdamInRefIdeal.Gen.bcast_S_S1024x776 · (weight m c) (mean m c) (spread m c)) e).trans (change_eq _ _ _ _ _)
    · exact (congrArg (refFirst Cert.AdamInRefIdeal.Gen.bcast_S_S1024x776 · (mean m c)) e).trans (first_eq _ _ _)
    · exact (congrArg (refSecond Cert.AdamInRefIdeal.Gen.bcast_S_S1024x776 · (spread m c)) e).trans (second_eq _ _ _)

end Cert.Proof.AdamIn

end
-- ==== Proof.AdamOut.lean ====
/- The optimiser's step of the state-space layer's output weight (`Adam`): the one point has all rows. -/
module

public import proofs.«01_k».proof.Defs
public import proofs.«01_k».proof.Proof.Adam
public import proofs.«01_k».proof.Proof.Gen.AdamOutIdeal.Value
public import proofs.«01_k».proof.Proof.Gen.AdamOutRefIdeal.Run
public import Idealize.ShloMosaic.Lib.KernelVsHost
public import Idealize.ShloMosaic.Adequacy
public import Idealize.ShloMosaic.Init

@[expose] public section

set_option maxRecDepth 16384

noncomputable section

namespace Cert.Proof.AdamOut

open Idealize.ShloMosaic Idealize.ShloMosaic.TcCoe Idealize.ShloMosaic.Tactic Idealize.SL.Sem
open Cert.AdamOutIdeal Cert.AdamOutIdeal.Gen Cert.AdamOutIdeal.Value
open Cert.Proof.Adam
open scoped BigOperators

/-- What a point leaves, of the blocks it takes. -/
theorem sums_eq (s : Vec Ideal S8x256x1024 .bf16) (w m v : Vec Ideal S256x1024 .f32) : k0_pay8 s w m v = gradient s := by
  funext y
  obtain ⟨p, q, rfl⟩ : ∃ (p : Fin 256) (q : Fin 1024), y = ix2 p q := ⟨y 0, y 1, eq_ix2 y⟩
  unfold k0_pay8 k0_pay2
  simp only [View.ld_unit, pointwise]
  exact eight s p q _ _ _ _ _ _ _ _

variable (m : (ℓ : Loc nD τ sig) → Buf (Elt Ideal) ℓ) (c : Dev nD)

abbrev slots : Vec Ideal S8x256x1024 .bf16 := m ((c : Thread nD τ).loc main_arg0)
abbrev weight : Vec Ideal S256x1024 .f32 := m ((c : Thread nD τ).loc main_arg1)
abbrev mean : Vec Ideal S256x1024 .f32 := m ((c : Thread nD τ).loc main_arg2)
abbrev spread : Vec Ideal S256x1024 .f32 := m ((c : Thread nD τ).loc main_arg3)

theorem rows : ∀ t : Fin cfg0.N, win0_0.index t = ![0, t.val, 0] ∧ win0_4.index t = ![t.val, 0] ∧ win0_4.flush t = true
    ∧ win0_5.flush t = true ∧ win0_6.flush t = true ∧ win0_7.flush t = true :=
  (by decide +kernel : ∀ t : Fin grid0.N, _)

section Point
variable (t : Fin cfg0.N)

/-- A block of an array of the weight's shape: all of them have the same place. -/
abbrev at_ (x : Vec Ideal S256x1024 .f32) : Vec Ideal S256x1024 .f32 := ((cfg0.win 4).blk t).view.read (Elt Ideal) x

theorem weight_at : (iblk m c 1 t : Vec Ideal S256x1024 .f32) = at_ t (weight m c) := funext fun _ => congrFun (V_main_arg1 m c) _
theorem mean_at : (iblk m c 2 t : Vec Ideal S256x1024 .f32) = at_ t (mean m c) := funext fun _ => congrFun (V_main_arg2 m c) _
theorem spread_at : (iblk m c 3 t : Vec Ideal S256x1024 .f32) = at_ t (spread m c) := funext fun _ => congrFun (V_main_arg3 m c) _

theorem gradient_at : gradient (iblk m c 0 t : Vec Ideal S8x256x1024 .bf16) = at_ t (gradient (slots m c)) := by
  obtain ⟨e0, e4, -⟩ := rows t
  have hN : cfg0.N = 1 := (by decide +kernel : grid0.N = 1)
  have ht := t.isLt
  funext y
  obtain ⟨p, q, rfl⟩ : ∃ (p : Fin 256) (q : Fin 1024), y = ix2 p q := ⟨y 0, y 1, eq_ix2 y⟩
  refine Eq.trans ?_ (at_tile (gradient (slots m c)) _ e4 256 1024 p.val q.val rfl rfl ⟨t.val * 256 + p.val, by omega⟩ q rfl (by omega)).symm
  exact Finset.sum_congr rfl fun k _ => (congrFun (V_main_arg0 m c) _).trans
    (at_tile3 (slots m c) _ e0 8 256 1024 k.val p.val q.val rfl rfl rfl k ⟨t.val * 256 + p.val, by omega⟩ q (by omega) rfl (by omega))

end Point

/-- The call leaves the gradient, the change and both moments. -/
theorem result : (dats m 0 c).arrAt 4 cfg0.N = gradient (slots m c) ∧ (dats m 0 c).arrAt 5 cfg0.N = changes (gradient (slots m c)) (weight m c) (mean m c) (spread m c)
    ∧ (dats m 0 c).arrAt 6 cfg0.N = firsts (gradient (slots m c)) (mean m c) ∧ (dats m 0 c).arrAt 7 cfg0.N = seconds (gradient (slots m c)) (spread m c) := by
  have cover (i : S256x1024.Idx) : ∃ t : Fin cfg0.N, i ∈ ((cfg0.win 4).blk t).view.set := by
    have hN : cfg0.N = 1 := (by decide +kernel : grid0.N = 1)
    have h0 : (i 0).val < 256 := (i 0).isLt
    have h1 : (i 1).val < 1024 := (i 1).isLt
    obtain ⟨t, ht⟩ : ∃ t : Fin cfg0.N, t.val = (i 0).val / 256 := ⟨⟨(i 0).val / 256, by rw [hN]; omega⟩, rfl⟩
    obtain ⟨-, e, -⟩ := rows t
    refine ⟨t, ?_⟩
    show i ∈ ((View.whole main_v0_0).slice (win0_4.rect t)).set
    rw [View.set_slice_whole]
    exact mem_tile _ i (s0 := 256) (s1 := 1024) rfl rfl (by decide) (by decide) (congrArg (· * 256) ((congrFun e 0).trans ht))
      (congrArg (· * 1024) ((congrFun e 1).trans (Nat.div_eq_of_lt h1).symm))
  refine ⟨(dats m 0 c).arrAt_eq_of_cover 4 _ (fun t _ => ?_) fun i => (cover i).imp fun t h => ⟨(rows t).2.2.1, h⟩,
    (dats m 0 c).arrAt_eq_of_cover 5 _ (fun t _ => ?_) fun i => (cover i).imp fun t h => ⟨(rows t).2.2.2.1, h⟩,
    (dats m 0 c).arrAt_eq_of_cover 6 _ (fun t _ => ?_) fun i => (cover i).imp fun t h => ⟨(rows t).2.2.2.2.1, h⟩,
    (dats m 0 c).arrAt_eq_of_cover 7 _ (fun t _ => ?_) fun i => (cover i).imp fun t h => ⟨(rows t).2.2.2.2.2, h⟩⟩
  · rw [flushed4]
    unfold out0_4
    rw [View.canon_unit_zero zero2, sums_eq, gradient_at]
    unfold k0_pay5
    rw [shapeCast_self]
  · rw [flushed5]
    unfold out0_5
    rw [View.canon_unit_zero zero2, sums_eq, gradient_at, weight_at, mean_at, spread_at]
    simp only [View.ld_unit_zero (S := S256x1024) zero2]
    unfold k0_pay6 k0_pay3 k0_pay4
    simp only [shapeCast_self]
    rfl
  · rw [flushed6]
    unfold out0_6
    rw [View.canon_unit_zero zero2, sums_eq, gradient_at, mean_at]
    simp only [View.ld_unit_zero (S := S256x1024) zero2]
    unfold k0_pay7 k0_pay3
    simp only [shapeCast_self]
    rfl
  · rw [flushed7]
    unfold out0_7
    rw [View.canon_unit_zero zero2, sums_eq, gradient_at, spread_at]
    simp only [View.ld_unit_zero (S := S256x1024) zero2]
    unfold k0_pay1 k0_pay4
    simp only [shapeCast_self]
    rfl

theorem frame_reference : Cert.quiescent_AdamOutRefIdeal := fun m ρ _ =>
  (θ_run Cert.AdamOutRefIdeal.defs _ _).mono (fun r h => ⟨fun c => (h c).2.2.2.2, sem_eq_zero_of_no_sems (by decide) r.2⟩)
    (Cert.AdamOutRefIdeal.Value.run m ρ)

theorem algebraic : Cert.algebraic_AdamOutIdeal_AdamOutRefIdeal := by
  intro m g m' g' _ h
  refine ⟨fun c => gradient (slots m c), fun c => changes (gradient (slots m c)) (weight m c) (mean m c) (spread m c),
    fun c => firsts (gradient (slots m c)) (mean m c), fun c => seconds (gradient (slots m c)) (spread m c),
    (θ_run Cert.AdamOutIdeal.defs _ _).mono (fun _ r c => ?_) (run_blocks m g), (θ_run Cert.AdamOutRefIdeal.defs _ _).mono (fun _ r c => ?_) (Cert.AdamOutRefIdeal.Value.run m' g')⟩
  · obtain ⟨r4, r5, r6, r7, k⟩ := r c
    obtain ⟨e4, e5, e6, e7⟩ := result m c
    exact ⟨r4.trans e4, r5.trans e5, r6.trans e6, r7.trans e7, k⟩
  · obtain ⟨r0, r1, r2, r3, k⟩ := r c
    obtain ⟨h0, h1, h2, h3⟩ := h c
    rw [h0] at r0
    rw [h0, h1, h2, h3] at r1
    rw [h0, h2] at r2
    rw [h0, h3] at r3
    have e := gradient_eq (extf (F := Ideal) .f32 (slots m c) Cert.AdamOutRefIdeal.Gen.bitsLt_bf16_f32) Cert.AdamOutRefIdeal.Gen.reducesTo_S8x256x1024_S256x1024_d0 Cert.AdamOutRefIdeal.Gen.h_S_
    refine ⟨r0.trans e, r1.trans ?_, r2.trans ?_, r3.trans ?_, k⟩
    · exact (congrArg (refChange Cert.AdamOutRefIdeal.Gen.bcast_S_S256x1024 · (weight m c) (mean m c) (spread m c)) e).trans (change_eq _ _ _ _ _)
    · exact (congrArg (refFirst Cert.AdamOutRefIdeal.Gen.bcast_S_S256x1024 · (mean m c)) e).trans (first_eq _ _ _)
    · exact (congrArg (refSecond Cert.AdamOutRefIdeal.Gen.bcast_S_S256x1024 · (spread m c)) e).trans (second_eq _ _ _)

end Cert.Proof.AdamOut

end
-- ==== Proof.AdamPwin.lean ====
/- The optimiser's step of the convolution's first pointwise weight (`Adam`): every point has 256 rows. -/
module

public import proofs.«01_k».proof.Defs
public import proofs.«01_k».proof.Proof.Adam
public import proofs.«01_k».proof.Proof.Gen.AdamPwinIdeal.Value
public import proofs.«01_k».proof.Proof.Gen.AdamPwinRefIdeal.Run
public import Idealize.ShloMosaic.Lib.KernelVsHost
public import Idealize.ShloMosaic.Adequacy
public import Idealize.ShloMosaic.Init

@[expose] public section

set_option maxRecDepth 16384

noncomputable section

namespace Cert.Proof.AdamPwin

open Idealize.ShloMosaic Idealize.ShloMosaic.TcCoe Idealize.ShloMosaic.Tactic Idealize.SL.Sem
open Cert.AdamPwinIdeal Cert.AdamPwinIdeal.Gen Cert.AdamPwinIdeal.Value
open Cert.Proof.Adam
open scoped BigOperators

/-- What a point leaves, of the blocks it takes. -/
theorem sums_eq (s : Vec Ideal S8x256x256 .bf16) (w m v : Vec Ideal S256x256 .f32) : k0_pay8 s w m v = gradient s := by
  funext y
  obtain ⟨p, q, rfl⟩ : ∃ (p : Fin 256) (q : Fin 256), y = ix2 p q := ⟨y 0, y 1, eq_ix2 y⟩
  unfold k0_pay8 k0_pay2
  simp only [View.ld_unit, pointwise]
  exact eight s p q _ _ _ _ _ _ _ _

variable (m : (ℓ : Loc nD τ sig) → Buf (Elt Ideal) ℓ) (c : Dev nD)

abbrev slots : Vec Ideal S8x1024x256 .bf16 := m ((c : Thread nD τ).loc main_arg0)
abbrev weight : Vec Ideal S1024x256 .f32 := m ((c : Thread nD τ).loc main_arg1)
abbrev mean : Vec Ideal S1024x256 .f32 := m ((c : Thread nD τ).loc main_arg2)
abbrev spread : Vec Ideal S1024x256 .f32 := m ((c : Thread nD τ).loc main_arg3)

theorem rows : ∀ t : Fin cfg0.N, win0_0.index t = ![0, t.val, 0] ∧ win0_4.index t = ![t.val, 0] ∧ win0_4.flush t = true
    ∧ win0_5.flush t = true ∧ win0_6.flush t = true ∧ win0_7.flush t = true :=
  (by decide +kernel : ∀ t : Fin grid0.N, _)

section Point
variable (t : Fin cfg0.N)

/-- A block of an array of the weight's shape: all of them have the same place. -/
abbrev at_ (x : Vec Ideal S1024x256 .f32) : Vec Ideal S256x256 .f32 := ((cfg0.win 4).blk t).view.read (Elt Ideal) x

theorem weight_at : (iblk m c 1 t : Vec Ideal S256x256 .f32) = at_ t (weight m c) := funext fun _ => congrFun (V_main_arg1 m c) _
theorem mean_at : (iblk m c 2 t : Vec Ideal S256x256 .f32) = at_ t (mean m c) := funext fun _ => congrFun (V_main_arg2 m c) _
theorem spread_at : (iblk m c 3 t : Vec Ideal S256x256 .f32) = at_ t (spread m c) := funext fun _ => congrFun (V_main_arg3 m c) _

theorem gradient_at : gradient (iblk m c 0 t : Vec Ideal S8x256x256 .bf16) = at_ t (gradient (slots m c)) := by
  obtain ⟨e0, e4, -⟩ := rows t
  have hN : cfg0.N = 4 := (by decide +kernel : grid0.N = 4)
  have ht := t.isLt
  funext y
  obtain ⟨p, q, rfl⟩ : ∃ (p : Fin 256) (q : Fin 256), y = ix2 p q := ⟨y 0, y 1, eq_ix2 y⟩
  refine Eq.trans ?_ (at_tile (gradient (slots m c)) _ e4 256 256 p.val q.val rfl rfl ⟨t.val * 256 + p.val, by omega⟩ q rfl (by omega)).symm
  exact Finset.sum_congr rfl fun k _ => (congrFun (V_main_arg0 m c) _).trans
    (at_tile3 (slots m c) _ e0 8 256 256 k.val p.val q.val rfl rfl rfl k ⟨t.val * 256 + p.val, by omega⟩ q (by omega) rfl (by omega))

end Point

/-- The call leaves the gradient, the change and both moments. -/
theorem result : (dats m 0 c).arrAt 4 cfg0.N = gradient (slots m c) ∧ (dats m 0 c).arrAt 5 cfg0.N = changes (gradient (slots m c)) (weight m c) (mean m c) (spread m c)
    ∧ (dats m 0 c).arrAt 6 cfg0.N = firsts (gradient (slots m c)) (mean m c) ∧ (dats m 0 c).arrAt 7 cfg0.N = seconds (gradient (slots m c)) (spread m c) := by
  have cover (i : S1024x256.Idx) : ∃ t : Fin cfg0.N, i ∈ ((cfg0.win 4).blk t).view.set := by
    have hN : cfg0.N = 4 := (by decide +kernel : grid0.N = 4)
    have h0 : (i 0).val < 1024 := (i 0).isLt
    have h1 : (i 1).val < 256 := (i 1).isLt
    obtain ⟨t, ht⟩ : ∃ t : Fin cfg0.N, t.val = (i 0).val / 256 := ⟨⟨(i 0).val / 256, by rw [hN]; omega⟩, rfl⟩
    obtain ⟨-, e, -⟩ := rows t
    refine ⟨t, ?_⟩
    show i ∈ ((View.whole main_v0_0).slice (win0_4.rect t)).set
    rw [View.set_slice_whole]
    exact mem_tile _ i (s0 := 256) (s1 := 256) rfl rfl (by decide) (by decide) (congrArg (· * 256) ((congrFun e 0).trans ht))
      (congrArg (· * 256) ((congrFun e 1).trans (Nat.div_eq_of_lt h1).symm))
  refine ⟨(dats m 0 c).arrAt_eq_of_cover 4 _ (fun t _ => ?_) fun i => (cover i).imp fun t h => ⟨(rows t).2.2.1, h⟩,
    (dats m 0 c).arrAt_eq_of_cover 5 _ (fun t _ => ?_) fun i => (cover i).imp fun t h => ⟨(rows t).2.2.2.1, h⟩,
    (dats m 0 c).arrAt_eq_of_cover 6 _ (fun t _ => ?_) fun i => (cover i).imp fun t h => ⟨(rows t).2.2.2.2.1, h⟩,
    (dats m 0 c).arrAt_eq_of_cover 7 _ (fun t _ => ?_) fun i => (cover i).imp fun t h => ⟨(rows t).2.2.2.2.2, h⟩⟩
  · rw [flushed4]
    unfold out0_4
    rw [View.canon_unit_zero zero2, sums_eq, gradient_at]
    unfold k0_pay5
    rw [shapeCast_self]
  · rw [flushed5]
    unfold out0_5
    rw [View.canon_unit_zero zero2, sums_eq, gradient_at, weight_at, mean_at, spread_at]
    simp only [View.ld_unit_zero (S := S256x256) zero2]
    unfold k0_pay6 k0_pay3 k0_pay4
    simp only [shapeCast_self]
    rfl
  · rw [flushed6]
    unfold out0_6
    rw [View.canon_unit_zero zero2, sums_eq, gradient_at, mean_at]
    simp only [View.ld_unit_zero (S := S256x256) zero2]
    unfold k0_pay7 k0_pay3
    simp only [shapeCast_self]
    rfl
  · rw [flushed7]
    unfold out0_7
    rw [View.canon_unit_zero zero2, sums_eq, gradient_at, spread_at]
    simp only [View.ld_unit_zero (S := S256x256) zero2]
    unfold k0_pay1 k0_pay4
    simp only [shapeCast_self]
    rfl

theorem frame_reference : Cert.quiescent_AdamPwinRefIdeal := fun m ρ _ =>
  (θ_run Cert.AdamPwinRefIdeal.defs _ _).mono (fun r h => ⟨fun c => (h c).2.2.2.2, sem_eq_zero_of_no_sems (by decide) r.2⟩)
    (Cert.AdamPwinRefIdeal.Value.run m ρ)

theorem algebraic : Cert.algebraic_AdamPwinIdeal_AdamPwinRefIdeal := by
  intro m g m' g' _ h
  refine ⟨fun c => gradient (slots m c), fun c => changes (gradient (slots m c)) (weight m c) (mean m c) (spread m c),
    fun c => firsts (gradient (slots m c)) (mean m c), fun c => seconds (gradient (slots m c)) (spread m c),
    (θ_run Cert.AdamPwinIdeal.defs _ _).mono (fun _ r c => ?_) (run_blocks m g), (θ_run Cert.AdamPwinRefIdeal.defs _ _).mono (fun _ r c => ?_) (Cert.AdamPwinRefIdeal.Value.run m' g')⟩
  · obtain ⟨r4, r5, r6, r7, k⟩ := r c
    obtain ⟨e4, e5, e6, e7⟩ := result m c
    exact ⟨r4.trans e4, r5.trans e5, r6.trans e6, r7.trans e7, k⟩
  · obtain ⟨r0, r1, r2, r3, k⟩ := r c
    obtain ⟨h0, h1, h2, h3⟩ := h c
    rw [h0] at r0
    rw [h0, h1, h2, h3] at r1
    rw [h0, h2] at r2
    rw [h0, h3] at r3
    have e := gradient_eq (extf (F := Ideal) .f32 (slots m c) Cert.AdamPwinRefIdeal.Gen.bitsLt_bf16_f32) Cert.AdamPwinRefIdeal.Gen.reducesTo_S8x1024x256_S1024x256_d0 Cert.AdamPwinRefIdeal.Gen.h_S_
    refine ⟨r0.trans e, r1.trans ?_, r2.trans ?_, r3.trans ?_, k⟩
    · exact (congrArg (refChange Cert.AdamPwinRefIdeal.Gen.bcast_S_S1024x256 · (weight m c) (mean m c) (spread m c)) e).trans (change_eq _ _ _ _ _)
    · exact (congrArg (refFirst Cert.AdamPwinRefIdeal.Gen.bcast_S_S1024x256 · (mean m c)) e).trans (first_eq _ _ _)
    · exact (congrArg (refSecond Cert.AdamPwinRefIdeal.Gen.bcast_S_S1024x256 · (spread m c)) e).trans (second_eq _ _ _)

end Cert.Proof.AdamPwin

end
-- ==== Proof.AdamPwout.lean ====
/- The optimiser's step of the convolution's second pointwise weight (`Adam`): the one point has all rows. -/
module

public import proofs.«01_k».proof.Defs
public import proofs.«01_k».proof.Proof.Adam
public import proofs.«01_k».proof.Proof.Gen.AdamPwoutIdeal.Value
public import proofs.«01_k».proof.Proof.Gen.AdamPwoutRefIdeal.Run
public import Idealize.ShloMosaic.Lib.KernelVsHost
public import Idealize.ShloMosaic.Adequacy
public import Idealize.ShloMosaic.Init

@[expose] public section

set_option maxRecDepth 16384

noncomputable section

namespace Cert.Proof.AdamPwout

open Idealize.ShloMosaic Idealize.ShloMosaic.TcCoe Idealize.ShloMosaic.Tactic Idealize.SL.Sem
open Cert.AdamPwoutIdeal Cert.AdamPwoutIdeal.Gen Cert.AdamPwoutIdeal.Value
open Cert.Proof.Adam
open scoped BigOperators

/-- What a point leaves, of the blocks it takes. -/
theorem sums_eq (s : Vec Ideal S8x128x1024 .bf16) (w m v : Vec Ideal S128x1024 .f32) : k0_pay8 s w m v = gradient s := by
  funext y
  obtain ⟨p, q, rfl⟩ : ∃ (p : Fin 128) (q : Fin 1024), y = ix2 p q := ⟨y 0, y 1, eq_ix2 y⟩
  unfold k0_pay8 k0_pay2
  simp only [View.ld_unit, pointwise]
  exact eight s p q _ _ _ _ _ _ _ _

variable (m : (ℓ : Loc nD τ sig) → Buf (Elt Ideal) ℓ) (c : Dev nD)

abbrev slots : Vec Ideal S8x128x1024 .bf16 := m ((c : Thread nD τ).loc main_arg0)
abbrev weight : Vec Ideal S128x1024 .f32 := m ((c : Thread nD τ).loc main_arg1)
abbrev mean : Vec Ideal S128x1024 .f32 := m ((c : Thread nD τ).loc main_arg2)
abbrev spread : Vec Ideal S128x1024 .f32 := m ((c : Thread nD τ).loc main_arg3)

theorem rows : ∀ t : Fin cfg0.N, win0_0.index t = ![0, t.val, 0] ∧ win0_4.index t = ![t.val, 0] ∧ win0_4.flush t = true
    ∧ win0_5.flush t = true ∧ win0_6.flush t = true ∧ win0_7.flush t = true :=
  (by decide +kernel : ∀ t : Fin grid0.N, _)

section Point
variable (t : Fin cfg0.N)

/-- A block of an array of the weight's shape: all of them have the same place. -/
abbrev at_ (x : Vec Ideal S128x1024 .f32) : Vec Ideal S128x1024 .f32 := ((cfg0.win 4).blk t).view.read (Elt Ideal) x

theorem weight_at : (iblk m c 1 t : Vec Ideal S128x1024 .f32) = at_ t (weight m c) := funext fun _ => congrFun (V_main_arg1 m c) _
theorem mean_at : (iblk m c 2 t : Vec Ideal S128x1024 .f32) = at_ t (mean m c) := funext fun _ => congrFun (V_main_arg2 m c) _
theorem spread_at : (iblk m c 3 t : Vec Ideal S128x1024 .f32) = at_ t (spread m c) := funext fun _ => congrFun (V_main_arg3 m c) _

theorem gradient_at : gradient (iblk m c 0 t : Vec Ideal S8x128x1024 .bf16) = at_ t (gradient (slots m c)) := by
  obtain ⟨e0, e4, -⟩ := rows t
  have hN : cfg0.N = 1 := (by decide +kernel : grid0.N = 1)
  have ht := t.isLt
  funext y
  obtain ⟨p, q, rfl⟩ : ∃ (p : Fin 128) (q : Fin 1024), y = ix2 p q := ⟨y 0, y 1, eq_ix2 y⟩
  refine Eq.trans ?_ (at_tile (gradient (slots m c)) _ e4 128 1024 p.val q.val rfl rfl ⟨t.val * 128 + p.val, by omega⟩ q rfl (by omega)).symm
  exact Finset.sum_congr rfl fun k _ => (congrFun (V_main_arg0 m c) _).trans
    (at_tile3 (slots m c) _ e0 8 128 1024 k.val p.val q.val rfl rfl rfl k ⟨t.val * 128 + p.val, by omega⟩ q (by omega) rfl (by omega))

end Point

/-- The call leaves the gradient, the change and both moments. -/
theorem result : (dats m 0 c).arrAt 4 cfg0.N = gradient (slots m c) ∧ (dats m 0 c).arrAt 5 cfg0.N = changes (gradient (slots m c)) (weight m c) (mean m c) (spread m c)
    ∧ (dats m 0 c).arrAt 6 cfg0.N = firsts (gradient (slots m c)) (mean m c) ∧ (dats m 0 c).arrAt 7 cfg0.N = seconds (gradient (slots m c)) (spread m c) := by
  have cover (i : S128x1024.Idx) : ∃ t : Fin cfg0.N, i ∈ ((cfg0.win 4).blk t).view.set := by
    have hN : cfg0.N = 1 := (by decide +kernel : grid0.N = 1)
    have h0 : (i 0).val < 128 := (i 0).isLt
    have h1 : (i 1).val < 1024 := (i 1).isLt
    obtain ⟨t, ht⟩ : ∃ t : Fin cfg0.N, t.val = (i 0).val / 128 := ⟨⟨(i 0).val / 128, by rw [hN]; omega⟩, rfl⟩
    obtain ⟨-, e, -⟩ := rows t
    refine ⟨t, ?_⟩
    show i ∈ ((View.whole main_v0_0).slice (win0_4.rect t)).set
    rw [View.set_slice_whole]
    exact mem_tile _ i (s0 := 128) (s1 := 1024) rfl rfl (by decide) (by decide) (congrArg (· * 128) ((congrFun e 0).trans ht))
      (congrArg (· * 1024) ((congrFun e 1).trans (Nat.div_eq_of_lt h1).symm))
  refine ⟨(dats m 0 c).arrAt_eq_of_cover 4 _ (fun t _ => ?_) fun i => (cover i).imp fun t h => ⟨(rows t).2.2.1, h⟩,
    (dats m 0 c).arrAt_eq_of_cover 5 _ (fun t _ => ?_) fun i => (cover i).imp fun t h => ⟨(rows t).2.2.2.1, h⟩,
    (dats m 0 c).arrAt_eq_of_cover 6 _ (fun t _ => ?_) fun i => (cover i).imp fun t h => ⟨(rows t).2.2.2.2.1, h⟩,
    (dats m 0 c).arrAt_eq_of_cover 7 _ (fun t _ => ?_) fun i => (cover i).imp fun t h => ⟨(rows t).2.2.2.2.2, h⟩⟩
  · rw [flushed4]
    unfold out0_4
    rw [View.canon_unit_zero zero2, sums_eq, gradient_at]
    unfold k0_pay5
    rw [shapeCast_self]
  · rw [flushed5]
    unfold out0_5
    rw [View.canon_unit_zero zero2, sums_eq, gradient_at, weight_at, mean_at, spread_at]
    simp only [View.ld_unit_zero (S := S128x1024) zero2]
    unfold k0_pay6 k0_pay3 k0_pay4
    simp only [shapeCast_self]
    rfl
  · rw [flushed6]
    unfold out0_6
    rw [View.canon_unit_zero zero2, sums_eq, gradient_at, mean_at]
    simp only [View.ld_unit_zero (S := S128x1024) zero2]
    unfold k0_pay7 k0_pay3
    simp only [shapeCast_self]
    rfl
  · rw [flushed7]
    unfold out0_7
    rw [View.canon_unit_zero zero2, sums_eq, gradient_at, spread_at]
    simp only [View.ld_unit_zero (S := S128x1024) zero2]
    unfold k0_pay1 k0_pay4
    simp only [shapeCast_self]
    rfl

theorem frame_reference : Cert.quiescent_AdamPwoutRefIdeal := fun m ρ _ =>
  (θ_run Cert.AdamPwoutRefIdeal.defs _ _).mono (fun r h => ⟨fun c => (h c).2.2.2.2, sem_eq_zero_of_no_sems (by decide) r.2⟩)
    (Cert.AdamPwoutRefIdeal.Value.run m ρ)

theorem algebraic : Cert.algebraic_AdamPwoutIdeal_AdamPwoutRefIdeal := by
  intro m g m' g' _ h
  refine ⟨fun c => gradient (slots m c), fun c => changes (gradient (slots m c)) (weight m c) (mean m c) (spread m c),
    fun c => firsts (gradient (slots m c)) (mean m c), fun c => seconds (gradient (slots m c)) (spread m c),
    (θ_run Cert.AdamPwoutIdeal.defs _ _).mono (fun _ r c => ?_) (run_blocks m g), (θ_run Cert.AdamPwoutRefIdeal.defs _ _).mono (fun _ r c => ?_) (Cert.AdamPwoutRefIdeal.Value.run m' g')⟩
  · obtain ⟨r4, r5, r6, r7, k⟩ := r c
    obtain ⟨e4, e5, e6, e7⟩ := result m c
    exact ⟨r4.trans e4, r5.trans e5, r6.trans e6, r7.trans e7, k⟩
  · obtain ⟨r0, r1, r2, r3, k⟩ := r c
    obtain ⟨h0, h1, h2, h3⟩ := h c
    rw [h0] at r0
    rw [h0, h1, h2, h3] at r1
    rw [h0, h2] at r2
    rw [h0, h3] at r3
    have e := gradient_eq (extf (F := Ideal) .f32 (slots m c) Cert.AdamPwoutRefIdeal.Gen.bitsLt_bf16_f32) Cert.AdamPwoutRefIdeal.Gen.reducesTo_S8x128x1024_S128x1024_d0 Cert.AdamPwoutRefIdeal.Gen.h_S_
    refine ⟨r0.trans e, r1.trans ?_, r2.trans ?_, r3.trans ?_, k⟩
    · exact (congrArg (refChange Cert.AdamPwoutRefIdeal.Gen.bcast_S_S128x1024 · (weight m c) (mean m c) (spread m c)) e).trans (change_eq _ _ _ _ _)
    · exact (congrArg (refFirst Cert.AdamPwoutRefIdeal.Gen.bcast_S_S128x1024 · (mean m c)) e).trans (first_eq _ _ _)
    · exact (congrArg (refSecond Cert.AdamPwoutRefIdeal.Gen.bcast_S_S128x1024 · (spread m c)) e).trans (second_eq _ _ _)

end Cert.Proof.AdamPwout

end
-- ==== Proof.AdamAda.lean ====
/- The optimiser's step of the modulation's weight, whose gradient one device has whole (`Adam`): every point has 256 rows. -/
module

public import proofs.«01_k».proof.Defs
public import proofs.«01_k».proof.Proof.Adam
public import proofs.«01_k».proof.Proof.Gen.AdamAdaIdeal.Value
public import proofs.«01_k».proof.Proof.Gen.AdamAdaRefIdeal.Run
public import Idealize.ShloMosaic.Lib.KernelVsHost
public import Idealize.ShloMosaic.Adequacy
public import Idealize.ShloMosaic.Init

@[expose] public section

set_option maxRecDepth 16384

noncomputable section

namespace Cert.Proof.AdamAda

open Idealize.ShloMosaic Idealize.ShloMosaic.TcCoe Idealize.ShloMosaic.Tactic Idealize.SL.Sem
open Cert.AdamAdaIdeal Cert.AdamAdaIdeal.Gen Cert.AdamAdaIdeal.Value
open Cert.Proof.Adam
open scoped BigOperators

theorem zero3 : (![0, 0, 0] : Fin 3 → ℕ) = fun _ => 0 := by decide

/-- What a point takes as the gradient. -/
theorem sums_eq (s : Vec Ideal S1x256x768 .f32) : k0_pay3 s = gradient s := by
  funext y
  obtain ⟨p, q, rfl⟩ : ∃ (p : Fin 256) (q : Fin 768), y = ix2 p q := ⟨y 0, y 1, eq_ix2 y⟩
  refine Eq.trans ?_ (Fin.sum_univ_one fun k => (s (ix3 k p q) : EReal)).symm
  unfold k0_pay3
  simp only [pointwise]

variable (m : (ℓ : Loc nD τ sig) → Buf (Elt Ideal) ℓ) (c : Dev nD)

abbrev slots : Vec Ideal S1x2048x768 .f32 := m ((c : Thread nD τ).loc main_arg0)
abbrev weight : Vec Ideal S2048x768 .f32 := m ((c : Thread nD τ).loc main_arg1)
abbrev mean : Vec Ideal S2048x768 .f32 := m ((c : Thread nD τ).loc main_arg2)
abbrev spread : Vec Ideal S2048x768 .f32 := m ((c : Thread nD τ).loc main_arg3)

theorem rows : ∀ t : Fin cfg0.N, win0_0.index t = ![0, t.val, 0] ∧ win0_4.index t = ![t.val, 0] ∧ win0_4.flush t = true
    ∧ win0_5.flush t = true ∧ win0_6.flush t = true ∧ win0_7.flush t = true :=
  (by decide +kernel : ∀ t : Fin grid0.N, _)

section Point
variable (t : Fin cfg0.N)

/-- A block of an array of the weight's shape: all of them have the same place. -/
abbrev at_ (x : Vec Ideal S2048x768 .f32) : Vec Ideal S256x768 .f32 := ((cfg0.win 4).blk t).view.read (Elt Ideal) x

theorem weight_at : (iblk m c 1 t : Vec Ideal S256x768 .f32) = at_ t (weight m c) := funext fun _ => congrFun (V_main_arg1 m c) _
theorem mean_at : (iblk m c 2 t : Vec Ideal S256x768 .f32) = at_ t (mean m c) := funext fun _ => congrFun (V_main_arg2 m c) _
theorem spread_at : (iblk m c 3 t : Vec Ideal S256x768 .f32) = at_ t (spread m c) := funext fun _ => congrFun (V_main_arg3 m c) _

theorem gradient_at : gradient (iblk m c 0 t : Vec Ideal S1x256x768 .f32) = at_ t (gradient (slots m c)) := by
  obtain ⟨e0, e4, -⟩ := rows t
  have hN : cfg0.N = 8 := (by decide +kernel : grid0.N = 8)
  have ht := t.isLt
  funext y
  obtain ⟨p, q, rfl⟩ : ∃ (p : Fin 256) (q : Fin 768), y = ix2 p q := ⟨y 0, y 1, eq_ix2 y⟩
  refine Eq.trans ?_ (at_tile (gradient (slots m c)) _ e4 256 768 p.val q.val rfl rfl ⟨t.val * 256 + p.val, by omega⟩ q rfl (by omega)).symm
  exact Finset.sum_congr rfl fun k _ => (congrFun (V_main_arg0 m c) _).trans
    (at_tile3 (slots m c) _ e0 1 256 768 k.val p.val q.val rfl rfl rfl k ⟨t.val * 256 + p.val, by omega⟩ q (by omega) rfl (by omega))

end Point

/-- The call leaves the gradient, the change and both moments. -/
theorem result : (dats m 0 c).arrAt 4 cfg0.N = gradient (slots m c) ∧ (dats m 0 c).arrAt 5 cfg0.N = changes (gradient (slots m c)) (weight m c) (mean m c) (spread m c)
    ∧ (dats m 0 c).arrAt 6 cfg0.N = firsts (gradient (slots m c)) (mean m c) ∧ (dats m 0 c).arrAt 7 cfg0.N = seconds (gradient (slots m c)) (spread m c) := by
  have cover (i : S2048x768.Idx) : ∃ t : Fin cfg0.N, i ∈ ((cfg0.win 4).blk t).view.set := by
    have hN : cfg0.N = 8 := (by decide +kernel : grid0.N = 8)
    have h0 : (i 0).val < 2048 := (i 0).isLt
    have h1 : (i 1).val < 768 := (i 1).isLt
    obtain ⟨t, ht⟩ : ∃ t : Fin cfg0.N, t.val = (i 0).val / 256 := ⟨⟨(i 0).val / 256, by rw [hN]; omega⟩, rfl⟩
    obtain ⟨-, e, -⟩ := rows t
    refine ⟨t, ?_⟩
    show i ∈ ((View.whole main_v0_0).slice (win0_4.rect t)).set
    rw [View.set_slice_whole]
    exact mem_tile _ i (s0 := 256) (s1 := 768) rfl rfl (by decide) (by decide) (congrArg (· * 256) ((congrFun e 0).trans ht))
      (congrArg (· * 768) ((congrFun e 1).trans (Nat.div_eq_of_lt h1).symm))
  refine ⟨(dats m 0 c).arrAt_eq_of_cover 4 _ (fun t _ => ?_) fun i => (cover i).imp fun t h => ⟨(rows t).2.2.1, h⟩,
    (dats m 0 c).arrAt_eq_of_cover 5 _ (fun t _ => ?_) fun i => (cover i).imp fun t h => ⟨(rows t).2.2.2.1, h⟩,
    (dats m 0 c).arrAt_eq_of_cover 6 _ (fun t _ => ?_) fun i => (cover i).imp fun t h => ⟨(rows t).2.2.2.2.1, h⟩,
    (dats m 0 c).arrAt_eq_of_cover 7 _ (fun t _ => ?_) fun i => (cover i).imp fun t h => ⟨(rows t).2.2.2.2.2, h⟩⟩
  · rw [flushed4]
    unfold out0_4
    rw [View.canon_unit_zero zero2, View.ld_unit_zero (S := S1x256x768) zero3]
    simp only [View.ld_unit_zero (S := S256x768) zero2]
    unfold k0_pay6
    rw [sums_eq, gradient_at]
    simp only [shapeCast_self]
  · rw [flushed5]
    unfold out0_5
    rw [View.canon_unit_zero zero2, View.ld_unit_zero (S := S1x256x768) zero3]
    simp only [View.ld_unit_zero (S := S256x768) zero2]
    unfold k0_pay7 k0_pay4 k0_pay5
    rw [sums_eq, gradient_at, weight_at, mean_at, spread_at]
    simp only [shapeCast_self]
    rfl
  · rw [flushed6]
    unfold out0_6
    rw [View.canon_unit_zero zero2, View.ld_unit_zero (S := S1x256x768) zero3]
    simp only [View.ld_unit_zero (S := S256x768) zero2]
    unfold k0_pay1 k0_pay4
    rw [sums_eq, gradient_at, mean_at]
    simp only [shapeCast_self]
    rfl
  · rw [flushed7]
    unfold out0_7
    rw [View.canon_unit_zero zero2, View.ld_unit_zero (S := S1x256x768) zero3]
    simp only [View.ld_unit_zero (S := S256x768) zero2]
    unfold k0_pay2 k0_pay5
    rw [sums_eq, gradient_at, spread_at]
    simp only [shapeCast_self]
    rfl

theorem frame_reference : Cert.quiescent_AdamAdaRefIdeal := fun m ρ _ =>
  (θ_run Cert.AdamAdaRefIdeal.defs _ _).mono (fun r h => ⟨fun c => (h c).2.2.2.2, sem_eq_zero_of_no_sems (by decide) r.2⟩)
    (Cert.AdamAdaRefIdeal.Value.run m ρ)

theorem algebraic : Cert.algebraic_AdamAdaIdeal_AdamAdaRefIdeal := by
  intro m g m' g' _ h
  refine ⟨fun c => gradient (slots m c), fun c => changes (gradient (slots m c)) (weight m c) (mean m c) (spread m c),
    fun c => firsts (gradient (slots m c)) (mean m c), fun c => seconds (gradient (slots m c)) (spread m c),
    (θ_run Cert.AdamAdaIdeal.defs _ _).mono (fun _ r c => ?_) (run_blocks m g), (θ_run Cert.AdamAdaRefIdeal.defs _ _).mono (fun _ r c => ?_) (Cert.AdamAdaRefIdeal.Value.run m' g')⟩
  · obtain ⟨r4, r5, r6, r7, k⟩ := r c
    obtain ⟨e4, e5, e6, e7⟩ := result m c
    exact ⟨r4.trans e4, r5.trans e5, r6.trans e6, r7.trans e7, k⟩
  · obtain ⟨r0, r1, r2, r3, k⟩ := r c
    obtain ⟨h0, h1, h2, h3⟩ := h c
    rw [h0] at r0
    rw [h0, h1, h2, h3] at r1
    rw [h0, h2] at r2
    rw [h0, h3] at r3
    have e := gradient_eq (slots m c) Cert.AdamAdaRefIdeal.Gen.reducesTo_S1x2048x768_S2048x768_d0 Cert.AdamAdaRefIdeal.Gen.h_S_
    refine ⟨r0.trans e, r1.trans ?_, r2.trans ?_, r3.trans ?_, k⟩
    · exact (congrArg (refChange Cert.AdamAdaRefIdeal.Gen.bcast_S_S2048x768 · (weight m c) (mean m c) (spread m c)) e).trans (change_eq _ _ _ _ _)
    · exact (congrArg (refFirst Cert.AdamAdaRefIdeal.Gen.bcast_S_S2048x768 · (mean m c)) e).trans (first_eq _ _ _)
    · exact (congrArg (refSecond Cert.AdamAdaRefIdeal.Gen.bcast_S_S2048x768 · (spread m c)) e).trans (second_eq _ _ _)

end Cert.Proof.AdamAda

end
-- ==== Proof.AdamFin.lean ====
/- The optimiser's step of the feed-forward layers' input weights (`Adam`): the first four points have the first
   layer's rows, 256 each, and the last four the second's. -/
module

public import proofs.«01_k».proof.Defs
public import proofs.«01_k».proof.Proof.Adam
public import proofs.«01_k».proof.Proof.Gen.AdamFinIdeal.Value
public import proofs.«01_k».proof.Proof.Gen.AdamFinRefIdeal.Run
public import Idealize.ShloMosaic.Lib.KernelVsHost
public import Idealize.ShloMosaic.Adequacy
public import Idealize.ShloMosaic.Init

@[expose] public section

set_option maxRecDepth 16384

noncomputable section

namespace Cert.Proof.AdamFin

open Idealize.ShloMosaic Idealize.ShloMosaic.TcCoe Idealize.ShloMosaic.Tactic Idealize.SL.Sem
open Cert.AdamFinIdeal Cert.AdamFinIdeal.Gen Cert.AdamFinIdeal.Value
open Cert.Proof.Adam
open scoped BigOperators

theorem total_eq (s : Vec Ideal S8x256x704 .bf16) : k0_pay1 (View.ld s r0_0) (View.ld s r0_1) (View.ld s r0_2) (View.ld s r0_3)
    (View.ld s r0_4) (View.ld s r0_5) (View.ld s r0_6) (View.ld s r0_7) = gradient s := by
  funext y
  obtain ⟨p, q, rfl⟩ : ∃ (p : Fin 256) (q : Fin 704), y = ix2 p q := ⟨y 0, y 1, eq_ix2 y⟩
  unfold k0_pay1
  simp only [View.ld_unit, pointwise]
  exact eight s p q _ _ _ _ _ _ _ _

/-- Whether a point has the second layer's rows. -/
abbrev second_ (i : grid0.Coords) : BitVec 1 := Scalar.cmpi .sge (BitVec.ofNat 32 (i 0).val) 4#32

/-- What a point takes as the gradient. -/
theorem sums_eq (i : grid0.Coords) (s0 s1 : Vec Ideal S8x256x704 .bf16) (w m v : Vec Ideal S256x704 .f32) :
    k0_pay9 i s0 s1 w m v = Scalar.select (second_ i) (gradient s1) (gradient s0) :=
  congrArg₂ (Scalar.select (second_ i)) (total_eq s1) (total_eq s0)

variable (m : (ℓ : Loc nD τ sig) → Buf (Elt Ideal) ℓ) (c : Dev nD)

abbrev slots0 : Vec Ideal S8x1024x704 .bf16 := m ((c : Thread nD τ).loc main_arg0)
abbrev slots1 : Vec Ideal S8x1024x704 .bf16 := m ((c : Thread nD τ).loc main_arg1)

/-- The second layer's gradients below the first's. -/
abbrev slots : Vec Ideal Cert.AdamFinRefIdeal.S8x2048x704 .bf16 := concatenate Cert.AdamFinRefIdeal.S8x2048x704 1
  [⟨Cert.AdamFinRefIdeal.S8x1024x704, slots0 m c⟩, ⟨Cert.AdamFinRefIdeal.S8x1024x704, slots1 m c⟩]
  Cert.AdamFinRefIdeal.Gen.concatenates_S8x1024x704_S8x1024x704_S8x2048x704_d1

abbrev weight : Vec Ideal S2048x704 .f32 := m ((c : Thread nD τ).loc main_arg2)
abbrev mean : Vec Ideal S2048x704 .f32 := m ((c : Thread nD τ).loc main_arg3)
abbrev spread : Vec Ideal S2048x704 .f32 := m ((c : Thread nD τ).loc main_arg4)

theorem rows : ∀ t : Fin cfg0.N, win0_5.index t = ![t.val, 0] ∧ win0_5.flush t = true
    ∧ win0_6.flush t = true ∧ win0_7.flush t = true ∧ win0_8.flush t = true :=
  (by decide +kernel : ∀ t : Fin grid0.N, _)

theorem upper_at : ∀ t : Fin cfg0.N, t.val < 4 → second_ (grid0.coords t) = 0#1 ∧ win0_0.index t = ![0, t.val, 0] :=
  (by decide +kernel : ∀ t : Fin grid0.N, _)

theorem lower_at : ∀ t : Fin cfg0.N, ¬ t.val < 4 → second_ (grid0.coords t) = 1#1 ∧ win0_1.index t = ![0, t.val - 4, 0] :=
  (by decide +kernel : ∀ t : Fin grid0.N, _)

section Point
variable (t : Fin cfg0.N)

/-- A block of an array of the weight's shape: all of them have the same place. -/
abbrev at_ (x : Vec Ideal S2048x704 .f32) : Vec Ideal S256x704 .f32 := ((cfg0.win 5).blk t).view.read (Elt Ideal) x

theorem weight_at : (iblk m c 2 t : Vec Ideal S256x704 .f32) = at_ t (weight m c) := funext fun _ => congrFun (V_main_arg2 m c) _
theorem mean_at : (iblk m c 3 t : Vec Ideal S256x704 .f32) = at_ t (mean m c) := funext fun _ => congrFun (V_main_arg3 m c) _
theorem spread_at : (iblk m c 4 t : Vec Ideal S256x704 .f32) = at_ t (spread m c) := funext fun _ => congrFun (V_main_arg4 m c) _

theorem gradient_at : (Scalar.select (second_ (grid0.coords t)) (gradient (iblk m c 1 t : Vec Ideal S8x256x704 .bf16))
    (gradient (iblk m c 0 t : Vec Ideal S8x256x704 .bf16)) : Vec Ideal S256x704 .f32) = at_ t (gradient (slots m c)) := by
  obtain ⟨e, -⟩ := rows t
  have hN : cfg0.N = 8 := (by decide +kernel : grid0.N = 8)
  have ht := t.isLt
  funext y
  obtain ⟨p, q, rfl⟩ : ∃ (p : Fin 256) (q : Fin 704), y = ix2 p q := ⟨y 0, y 1, eq_ix2 y⟩
  refine Eq.trans ?_ (at_tile (gradient (slots m c)) _ e 256 704 p.val q.val rfl rfl ⟨t.val * 256 + p.val, by omega⟩ q rfl (by omega)).symm
  by_cases h : t.val < 4
  · obtain ⟨b, e0⟩ := upper_at t h
    rw [b, ValueIdx.select_zero]
    exact Finset.sum_congr rfl fun k _ => ((congrFun (V_main_arg0 m c) _).trans
      (at_tile3 (slots0 m c) _ e0 8 256 704 k.val p.val q.val rfl rfl rfl k ⟨t.val * 256 + p.val, by omega⟩ q (by omega) rfl (by omega))).trans
      (upper (slots0 m c) (slots1 m c) _ k (⟨t.val * 256 + p.val, by omega⟩ : Fin 2048) _ q rfl).symm
  · obtain ⟨b, e1⟩ := lower_at t h
    rw [b, ValueIdx.select_one]
    exact Finset.sum_congr rfl fun k _ => ((congrFun (V_main_arg1 m c) _).trans
      (at_tile3 (slots1 m c) _ e1 8 256 704 k.val p.val q.val rfl rfl rfl k ⟨(t.val - 4) * 256 + p.val, by omega⟩ q (by omega) rfl (by omega))).trans
      (lower (slots0 m c) (slots1 m c) _ k (⟨t.val * 256 + p.val, by omega⟩ : Fin 2048) _ q (by show (t.val - 4) * 256 + p.val + 1024 = t.val * 256 + p.val; omega)).symm

end Point

/-- The call leaves the gradient, the change and both moments. -/
theorem result : (dats m 0 c).arrAt 5 cfg0.N = gradient (slots m c) ∧ (dats m 0 c).arrAt 6 cfg0.N = changes (gradient (slots m c)) (weight m c) (mean m c) (spread m c)
    ∧ (dats m 0 c).arrAt 7 cfg0.N = firsts (gradient (slots m c)) (mean m c) ∧ (dats m 0 c).arrAt 8 cfg0.N = seconds (gradient (slots m c)) (spread m c) := by
  have cover (i : S2048x704.Idx) : ∃ t : Fin cfg0.N, i ∈ ((cfg0.win 5).blk t).view.set := by
    have hN : cfg0.N = 8 := (by decide +kernel : grid0.N = 8)
    have h0 : (i 0).val < 2048 := (i 0).isLt
    have h1 : (i 1).val < 704 := (i 1).isLt
    obtain ⟨t, ht⟩ : ∃ t : Fin cfg0.N, t.val = (i 0).val / 256 := ⟨⟨(i 0).val / 256, by rw [hN]; omega⟩, rfl⟩
    obtain ⟨e, -⟩ := rows t
    refine ⟨t, ?_⟩
    show i ∈ ((View.whole main_v0_0).slice (win0_5.rect t)).set
    rw [View.set_slice_whole]
    exact mem_tile _ i (s0 := 256) (s1 := 704) rfl rfl (by decide) (by decide) (congrArg (· * 256) ((congrFun e 0).trans ht))
      (congrArg (· * 704) ((congrFun e 1).trans (Nat.div_eq_of_lt h1).symm))
  refine ⟨(dats m 0 c).arrAt_eq_of_cover 5 _ (fun t _ => ?_) fun i => (cover i).imp fun t h => ⟨(rows t).2.1, h⟩,
    (dats m 0 c).arrAt_eq_of_cover 6 _ (fun t _ => ?_) fun i => (cover i).imp fun t h => ⟨(rows t).2.2.1, h⟩,
    (dats m 0 c).arrAt_eq_of_cover 7 _ (fun t _ => ?_) fun i => (cover i).imp fun t h => ⟨(rows t).2.2.2.1, h⟩,
    (dats m 0 c).arrAt_eq_of_cover 8 _ (fun t _ => ?_) fun i => (cover i).imp fun t h => ⟨(rows t).2.2.2.2, h⟩⟩
  · rw [flushed5]
    unfold out0_5
    rw [View.canon_unit_zero zero2, sums_eq, gradient_at]
    unfold k0_pay5
    rw [shapeCast_self]
  · rw [flushed6]
    unfold out0_6
    rw [View.canon_unit_zero zero2, sums_eq, gradient_at, weight_at, mean_at, spread_at]
    simp only [View.ld_unit_zero (S := S256x704) zero2]
    unfold k0_pay6 k0_pay3 k0_pay4
    simp only [shapeCast_self]
    rfl
  · rw [flushed7]
    unfold out0_7
    rw [View.canon_unit_zero zero2, sums_eq, gradient_at, mean_at]
    simp only [View.ld_unit_zero (S := S256x704) zero2]
    unfold k0_pay7 k0_pay3
    simp only [shapeCast_self]
    rfl
  · rw [flushed8]
    unfold out0_8
    rw [View.canon_unit_zero zero2, sums_eq, gradient_at, spread_at]
    simp only [View.ld_unit_zero (S := S256x704) zero2]
    unfold k0_pay8 k0_pay4
    simp only [shapeCast_self]
    rfl

theorem frame_reference : Cert.quiescent_AdamFinRefIdeal := fun m ρ _ =>
  (θ_run Cert.AdamFinRefIdeal.defs _ _).mono (fun r h => ⟨fun c => (h c).2.2.2.2, sem_eq_zero_of_no_sems (by decide) r.2⟩)
    (Cert.AdamFinRefIdeal.Value.run m ρ)

theorem algebraic : Cert.algebraic_AdamFinIdeal_AdamFinRefIdeal := by
  intro m g m' g' _ h
  refine ⟨fun c => gradient (slots m c), fun c => changes (gradient (slots m c)) (weight m c) (mean m c) (spread m c),
    fun c => firsts (gradient (slots m c)) (mean m c), fun c => seconds (gradient (slots m c)) (spread m c),
    (θ_run Cert.AdamFinIdeal.defs _ _).mono (fun _ r c => ?_) (run_blocks m g), (θ_run Cert.AdamFinRefIdeal.defs _ _).mono (fun _ r c => ?_) (Cert.AdamFinRefIdeal.Value.run m' g')⟩
  · obtain ⟨r4, r5, r6, r7, k⟩ := r c
    obtain ⟨e4, e5, e6, e7⟩ := result m c
    exact ⟨r4.trans e4, r5.trans e5, r6.trans e6, r7.trans e7, k⟩
  · obtain ⟨r0, r1, r2, r3, k⟩ := r c
    obtain ⟨h0, h1, h2, h3, h4⟩ := h c
    rw [h0, h1] at r0
    rw [h0, h1, h2, h3, h4] at r1
    rw [h0, h1, h3] at r2
    rw [h0, h1, h4] at r3
    have e := gradient_eq (extf (F := Ideal) .f32 (slots m c) Cert.AdamFinRefIdeal.Gen.bitsLt_bf16_f32) Cert.AdamFinRefIdeal.Gen.reducesTo_S8x2048x704_S2048x704_d0 Cert.AdamFinRefIdeal.Gen.h_S_
    refine ⟨r0.trans e, r1.trans ?_, r2.trans ?_, r3.trans ?_, k⟩
    · exact (congrArg (refChange Cert.AdamFinRefIdeal.Gen.bcast_S_S2048x704 · (weight m c) (mean m c) (spread m c)) e).trans (change_eq _ _ _ _ _)
    · exact (congrArg (refFirst Cert.AdamFinRefIdeal.Gen.bcast_S_S2048x704 · (mean m c)) e).trans (first_eq _ _ _)
    · exact (congrArg (refSecond Cert.AdamFinRefIdeal.Gen.bcast_S_S2048x704 · (spread m c)) e).trans (second_eq _ _ _)

end Cert.Proof.AdamFin

end
-- ==== Proof.AdamFout.lean ====
/- The optimiser's step of the feed-forward layers' output weights (`Adam`): the first eleven points have the
   first layer's rows, 32 each, and the last eleven the second's. -/
module

public import proofs.«01_k».proof.Defs
public import proofs.«01_k».proof.Proof.Adam
public import proofs.«01_k».proof.Proof.Gen.AdamFoutIdeal.Value
public import proofs.«01_k».proof.Proof.Gen.AdamFoutRefIdeal.Run
public import Idealize.ShloMosaic.Lib.KernelVsHost
public import Idealize.ShloMosaic.Adequacy
public import Idealize.ShloMosaic.Init

@[expose] public section

set_option maxRecDepth 16384

noncomputable section

namespace Cert.Proof.AdamFout

open Idealize.ShloMosaic Idealize.ShloMosaic.TcCoe Idealize.ShloMosaic.Tactic Idealize.SL.Sem
open Cert.AdamFoutIdeal Cert.AdamFoutIdeal.Gen Cert.AdamFoutIdeal.Value
open Cert.Proof.Adam
open scoped BigOperators

theorem total_eq (s : Vec Ideal S8x32x1024 .bf16) : k0_pay1 (View.ld s r0_0) (View.ld s r0_1) (View.ld s r0_2) (View.ld s r0_3)
    (View.ld s r0_4) (View.ld s r0_5) (View.ld s r0_6) (View.ld s r0_7) = gradient s := by
  funext y
  obtain ⟨p, q, rfl⟩ : ∃ (p : Fin 32) (q : Fin 1024), y = ix2 p q := ⟨y 0, y 1, eq_ix2 y⟩
  unfold k0_pay1
  simp only [View.ld_unit, pointwise]
  exact eight s p q _ _ _ _ _ _ _ _

/-- Whether a point has the second layer's rows. -/
abbrev second_ (i : grid0.Coords) : BitVec 1 := Scalar.cmpi .sge (BitVec.ofNat 32 (i 0).val) 11#32

/-- What a point takes as the gradient. -/
theorem sums_eq (i : grid0.Coords) (s0 s1 : Vec Ideal S8x32x1024 .bf16) (w m v : Vec Ideal S32x1024 .f32) :
    k0_pay9 i s0 s1 w m v = Scalar.select (second_ i) (gradient s1) (gradient s0) :=
  congrArg₂ (Scalar.select (second_ i)) (total_eq s1) (total_eq s0)

variable (m : (ℓ : Loc nD τ sig) → Buf (Elt Ideal) ℓ) (c : Dev nD)

abbrev slots0 : Vec Ideal S8x352x1024 .bf16 := m ((c : Thread nD τ).loc main_arg0)
abbrev slots1 : Vec Ideal S8x352x1024 .bf16 := m ((c : Thread nD τ).loc main_arg1)

/-- The second layer's gradients below the first's. -/
abbrev slots : Vec Ideal Cert.AdamFoutRefIdeal.S8x704x1024 .bf16 := concatenate Cert.AdamFoutRefIdeal.S8x704x1024 1
  [⟨Cert.AdamFoutRefIdeal.S8x352x1024, slots0 m c⟩, ⟨Cert.AdamFoutRefIdeal.S8x352x1024, slots1 m c⟩]
  Cert.AdamFoutRefIdeal.Gen.concatenates_S8x352x1024_S8x352x1024_S8x704x1024_d1

abbrev weight : Vec Ideal S704x1024 .f32 := m ((c : Thread nD τ).loc main_arg2)
abbrev mean : Vec Ideal S704x1024 .f32 := m ((c : Thread nD τ).loc main_arg3)
abbrev spread : Vec Ideal S704x1024 .f32 := m ((c : Thread nD τ).loc main_arg4)

theorem rows : ∀ t : Fin cfg0.N, win0_5.index t = ![t.val, 0] ∧ win0_5.flush t = true
    ∧ win0_6.flush t = true ∧ win0_7.flush t = true ∧ win0_8.flush t = true :=
  (by decide +kernel : ∀ t : Fin grid0.N, _)

theorem upper_at : ∀ t : Fin cfg0.N, t.val < 11 → second_ (grid0.coords t) = 0#1 ∧ win0_0.index t = ![0, t.val, 0] :=
  (by decide +kernel : ∀ t : Fin grid0.N, _)

theorem lower_at : ∀ t : Fin cfg0.N, ¬ t.val < 11 → second_ (grid0.coords t) = 1#1 ∧ win0_1.index t = ![0, t.val - 11, 0] :=
  (by decide +kernel : ∀ t : Fin grid0.N, _)

section Point
variable (t : Fin cfg0.N)

/-- A block of an array of the weight's shape: all of them have the same place. -/
abbrev at_ (x : Vec Ideal S704x1024 .f32) : Vec Ideal S32x1024 .f32 := ((cfg0.win 5).blk t).view.read (Elt Ideal) x

theorem weight_at : (iblk m c 2 t : Vec Ideal S32x1024 .f32) = at_ t (weight m c) := funext fun _ => congrFun (V_main_arg2 m c) _
theorem mean_at : (iblk m c 3 t : Vec Ideal S32x1024 .f32) = at_ t (mean m c) := funext fun _ => congrFun (V_main_arg3 m c) _
theorem spread_at : (iblk m c 4 t : Vec Ideal S32x1024 .f32) = at_ t (spread m c) := funext fun _ => congrFun (V_main_arg4 m c) _

theorem gradient_at : (Scalar.select (second_ (grid0.coords t)) (gradient (iblk m c 1 t : Vec Ideal S8x32x1024 .bf16))
    (gradient (iblk m c 0 t : Vec Ideal S8x32x1024 .bf16)) : Vec Ideal S32x1024 .f32) = at_ t (gradient (slots m c)) := by
  obtain ⟨e, -⟩ := rows t
  have hN : cfg0.N = 22 := (by decide +kernel : grid0.N = 22)
  have ht := t.isLt
  funext y
  obtain ⟨p, q, rfl⟩ : ∃ (p : Fin 32) (q : Fin 1024), y = ix2 p q := ⟨y 0, y 1, eq_ix2 y⟩
  refine Eq.trans ?_ (at_tile (gradient (slots m c)) _ e 32 1024 p.val q.val rfl rfl ⟨t.val * 32 + p.val, by omega⟩ q rfl (by omega)).symm
  by_cases h : t.val < 11
  · obtain ⟨b, e0⟩ := upper_at t h
    rw [b, ValueIdx.select_zero]
    exact Finset.sum_congr rfl fun k _ => ((congrFun (V_main_arg0 m c) _).trans
      (at_tile3 (slots0 m c) _ e0 8 32 1024 k.val p.val q.val rfl rfl rfl k ⟨t.val * 32 + p.val, by omega⟩ q (by omega) rfl (by omega))).trans
      (upper (slots0 m c) (slots1 m c) _ k (⟨t.val * 32 + p.val, by omega⟩ : Fin 704) _ q rfl).symm
  · obtain ⟨b, e1⟩ := lower_at t h
    rw [b, ValueIdx.select_one]
    exact Finset.sum_congr rfl fun k _ => ((congrFun (V_main_arg1 m c) _).trans
      (at_tile3 (slots1 m c) _ e1 8 32 1024 k.val p.val q.val rfl rfl rfl k ⟨(t.val - 11) * 32 + p.val, by omega⟩ q (by omega) rfl (by omega))).trans
      (lower (slots0 m c) (slots1 m c) _ k (⟨t.val * 32 + p.val, by omega⟩ : Fin 704) _ q (by show (t.val - 11) * 32 + p.val + 352 = t.val * 32 + p.val; omega)).symm

end Point

/-- The call leaves the gradient, the change and both moments. -/
theorem result : (dats m 0 c).arrAt 5 cfg0.N = gradient (slots m c) ∧ (dats m 0 c).arrAt 6 cfg0.N = changes (gradient (slots m c)) (weight m c) (mean m c) (spread m c)
    ∧ (dats m 0 c).arrAt 7 cfg0.N = firsts (gradient (slots m c)) (mean m c) ∧ (dats m 0 c).arrAt 8 cfg0.N = seconds (gradient (slots m c)) (spread m c) := by
  have cover (i : S704x1024.Idx) : ∃ t : Fin cfg0.N, i ∈ ((cfg0.win 5).blk t).view.set := by
    have hN : cfg0.N = 22 := (by decide +kernel : grid0.N = 22)
    have h0 : (i 0).val < 704 := (i 0).isLt
    have h1 : (i 1).val < 1024 := (i 1).isLt
    obtain ⟨t, ht⟩ : ∃ t : Fin cfg0.N, t.val = (i 0).val / 32 := ⟨⟨(i 0).val / 32, by rw [hN]; omega⟩, rfl⟩
    obtain ⟨e, -⟩ := rows t
    refine ⟨t, ?_⟩
    show i ∈ ((View.whole main_v0_0).slice (win0_5.rect t)).set
    rw [View.set_slice_whole]
    exact mem_tile _ i (s0 := 32) (s1 := 1024) rfl rfl (by decide) (by decide) (congrArg (· * 32) ((congrFun e 0).trans ht))
      (congrArg (· * 1024) ((congrFun e 1).trans (Nat.div_eq_of_lt h1).symm))
  refine ⟨(dats m 0 c).arrAt_eq_of_cover 5 _ (fun t _ => ?_) fun i => (cover i).imp fun t h => ⟨(rows t).2.1, h⟩,
    (dats m 0 c).arrAt_eq_of_cover 6 _ (fun t _ => ?_) fun i => (cover i).imp fun t h => ⟨(rows t).2.2.1, h⟩,
    (dats m 0 c).arrAt_eq_of_cover 7 _ (fun t _ => ?_) fun i => (cover i).imp fun t h => ⟨(rows t).2.2.2.1, h⟩,
    (dats m 0 c).arrAt_eq_of_cover 8 _ (fun t _ => ?_) fun i => (cover i).imp fun t h => ⟨(rows t).2.2.2.2, h⟩⟩
  · rw [flushed5]
    unfold out0_5
    rw [View.canon_unit_zero zero2, sums_eq, gradient_at]
    unfold k0_pay5
    rw [shapeCast_self]
  · rw [flushed6]
    unfold out0_6
    rw [View.canon_unit_zero zero2, sums_eq, gradient_at, weight_at, mean_at, spread_at]
    simp only [View.ld_unit_zero (S := S32x1024) zero2]
    unfold k0_pay6 k0_pay3 k0_pay4
    simp only [shapeCast_self]
    rfl
  · rw [flushed7]
    unfold out0_7
    rw [View.canon_unit_zero zero2, sums_eq, gradient_at, mean_at]
    simp only [View.ld_unit_zero (S := S32x1024) zero2]
    unfold k0_pay7 k0_pay3
    simp only [shapeCast_self]
    rfl
  · rw [flushed8]
    unfold out0_8
    rw [View.canon_unit_zero zero2, sums_eq, gradient_at, spread_at]
    simp only [View.ld_unit_zero (S := S32x1024) zero2]
    unfold k0_pay8 k0_pay4
    simp only [shapeCast_self]
    rfl

theorem frame_reference : Cert.quiescent_AdamFoutRefIdeal := fun m ρ _ =>
  (θ_run Cert.AdamFoutRefIdeal.defs _ _).mono (fun r h => ⟨fun c => (h c).2.2.2.2, sem_eq_zero_of_no_sems (by decide) r.2⟩)
    (Cert.AdamFoutRefIdeal.Value.run m ρ)

theorem algebraic : Cert.algebraic_AdamFoutIdeal_AdamFoutRefIdeal := by
  intro m g m' g' _ h
  refine ⟨fun c => gradient (slots m c), fun c => changes (gradient (slots m c)) (weight m c) (mean m c) (spread m c),
    fun c => firsts (gradient (slots m c)) (mean m c), fun c => seconds (gradient (slots m c)) (spread m c),
    (θ_run Cert.AdamFoutIdeal.defs _ _).mono (fun _ r c => ?_) (run_blocks m g), (θ_run Cert.AdamFoutRefIdeal.defs _ _).mono (fun _ r c => ?_) (Cert.AdamFoutRefIdeal.Value.run m' g')⟩
  · obtain ⟨r4, r5, r6, r7, k⟩ := r c
    obtain ⟨e4, e5, e6, e7⟩ := result m c
    exact ⟨r4.trans e4, r5.trans e5, r6.trans e6, r7.trans e7, k⟩
  · obtain ⟨r0, r1, r2, r3, k⟩ := r c
    obtain ⟨h0, h1, h2, h3, h4⟩ := h c
    rw [h0, h1] at r0
    rw [h0, h1, h2, h3, h4] at r1
    rw [h0, h1, h3] at r2
    rw [h0, h1, h4] at r3
    have e := gradient_eq (extf (F := Ideal) .f32 (slots m c) Cert.AdamFoutRefIdeal.Gen.bitsLt_bf16_f32) Cert.AdamFoutRefIdeal.Gen.reducesTo_S8x704x1024_S704x1024_d0 Cert.AdamFoutRefIdeal.Gen.h_S_
    refine ⟨r0.trans e, r1.trans ?_, r2.trans ?_, r3.trans ?_, k⟩
    · exact (congrArg (refChange Cert.AdamFoutRefIdeal.Gen.bcast_S_S704x1024 · (weight m c) (mean m c) (spread m c)) e).trans (change_eq _ _ _ _ _)
    · exact (congrArg (refFirst Cert.AdamFoutRefIdeal.Gen.bcast_S_S704x1024 · (mean m c)) e).trans (first_eq _ _ _)
    · exact (congrArg (refSecond Cert.AdamFoutRefIdeal.Gen.bcast_S_S704x1024 · (spread m c)) e).trans (second_eq _ _ _)

end Cert.Proof.AdamFout

end
-- ==== Proof.lean ====
/- The claims: the calls of the axial convolution and its gradient, of the rest of that module and its gradient, of the feed-forward
   layer and its gradient, of the blocks' norms and of the state-space layer's gate and their gradients, of the modulations, of the
   optimiser's step of seven weights, and the products of all these layers and of the state-space layer's projections run; over the reals
   they leave what the lines they stand for say. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equal
public import proofs.«01_k».proof.Proof.Gen.Dhid.Frame
public import proofs.«01_k».proof.Proof.Gen.DhidIdeal.Frame
public import proofs.«01_k».proof.Proof.Gen.DhidIdeal.Value
public import proofs.«01_k».proof.Proof.Gen.DhidRefIdeal.Run
public import proofs.«01_k».proof.Proof.Gen.Dwout.Frame
public import proofs.«01_k».proof.Proof.Gen.DwoutIdeal.Frame
public import proofs.«01_k».proof.Proof.Gen.DwoutIdeal.Value
public import proofs.«01_k».proof.Proof.Gen.DwoutRefIdeal.Run
public import proofs.«01_k».proof.Proof.Gen.Dact.Frame
public import proofs.«01_k».proof.Proof.Gen.DactIdeal.Frame
public import proofs.«01_k».proof.Proof.Gen.DactIdeal.Value
public import proofs.«01_k».proof.Proof.Gen.DactRefIdeal.Run
public import proofs.«01_k».proof.Proof.Gen.Dwin.Frame
public import proofs.«01_k».proof.Proof.Gen.DwinIdeal.Frame
public import proofs.«01_k».proof.Proof.Gen.DwinIdeal.Value
public import proofs.«01_k».proof.Proof.Gen.DwinRefIdeal.Run
public import proofs.«01_k».proof.Proof.Gen.Dx.Frame
public import proofs.«01_k».proof.Proof.Gen.DxIdeal.Frame
public import proofs.«01_k».proof.Proof.Gen.DxIdeal.Value
public import proofs.«01_k».proof.Proof.Gen.DxRefIdeal.Run
public import proofs.«01_k».proof.Proof.Dhid
public import proofs.«01_k».proof.Proof.Dwout
public import proofs.«01_k».proof.Proof.Dact
public import proofs.«01_k».proof.Proof.Dwin
public import proofs.«01_k».proof.Proof.Dx
public import proofs.«01_k».proof.Proof.Uin
public import proofs.«01_k».proof.Proof.Act
public import proofs.«01_k».proof.Proof.Fout
public import proofs.«01_k».proof.Proof.Zx
public import proofs.«01_k».proof.Proof.Dwzx
public import proofs.«01_k».proof.Proof.Dzx
public import proofs.«01_k».proof.Proof.Dglu
public import proofs.«01_k».proof.Proof.Dnorm
public import proofs.«01_k».proof.Proof.Dpwin
public import proofs.«01_k».proof.Proof.Dpwout
public import proofs.«01_k».proof.Proof.Dpwx
public import proofs.«01_k».proof.Proof.Dpwsl
public import proofs.«01_k».proof.Proof.Dmixw
public import proofs.«01_k».proof.Proof.Dmixy
public import proofs.«01_k».proof.Proof.Pwin
public import proofs.«01_k».proof.Proof.Pwout
public import proofs.«01_k».proof.Proof.Mix
public import proofs.«01_k».proof.Proof.Drms
public import proofs.«01_k».proof.Proof.Dgate
public import proofs.«01_k».proof.Proof.Glu
public import proofs.«01_k».proof.Proof.Lnorm
public import proofs.«01_k».proof.Proof.Rnorm
public import proofs.«01_k».proof.Proof.Sgate
public import proofs.«01_k».proof.Proof.Dtp
public import proofs.«01_k».proof.Proof.Dwdt
public import proofs.«01_k».proof.Proof.Dxdt
public import proofs.«01_k».proof.Proof.Cnorm
public import proofs.«01_k».proof.Proof.Ada
public import proofs.«01_k».proof.Proof.AxialEqual
public import proofs.«01_k».proof.Proof.AdamIn
public import proofs.«01_k».proof.Proof.AdamOut
public import proofs.«01_k».proof.Proof.AdamPwin
public import proofs.«01_k».proof.Proof.AdamPwout
public import proofs.«01_k».proof.Proof.AdamAda
public import proofs.«01_k».proof.Proof.AdamFin
public import proofs.«01_k».proof.Proof.AdamFout
public import proofs.«01_k».proof.Proof.Gen.Uin.Frame
public import proofs.«01_k».proof.Proof.Gen.UinIdeal.Frame
public import proofs.«01_k».proof.Proof.Gen.UinIdeal.Value
public import proofs.«01_k».proof.Proof.Gen.UinRefIdeal.Run
public import proofs.«01_k».proof.Proof.Gen.Act.Frame
public import proofs.«01_k».proof.Proof.Gen.ActIdeal.Frame
public import proofs.«01_k».proof.Proof.Gen.ActIdeal.Value
public import proofs.«01_k».proof.Proof.Gen.ActRefIdeal.Run
public import proofs.«01_k».proof.Proof.Gen.Fout.Frame
public import proofs.«01_k».proof.Proof.Gen.FoutIdeal.Frame
public import proofs.«01_k».proof.Proof.Gen.FoutIdeal.Value
public import proofs.«01_k».proof.Proof.Gen.FoutRefIdeal.Run
public import proofs.«01_k».proof.Proof.Gen.Zx.Frame
public import proofs.«01_k».proof.Proof.Gen.ZxIdeal.Frame
public import proofs.«01_k».proof.Proof.Gen.ZxIdeal.Value
public import proofs.«01_k».proof.Proof.Gen.ZxRefIdeal.Run
public import proofs.«01_k».proof.Proof.Gen.Dwzx.Frame
public import proofs.«01_k».proof.Proof.Gen.DwzxIdeal.Frame
public import proofs.«01_k».proof.Proof.Gen.DwzxIdeal.Value
public import proofs.«01_k».proof.Proof.Gen.DwzxRefIdeal.Run
public import proofs.«01_k».proof.Proof.Gen.Dzx.Frame
public import proofs.«01_k».proof.Proof.Gen.DzxIdeal.Frame
public import proofs.«01_k».proof.Proof.Gen.DzxIdeal.Value
public import proofs.«01_k».proof.Proof.Gen.DzxRefIdeal.Run
public import proofs.«01_k».proof.Proof.Gen.Dglu.Frame
public import proofs.«01_k».proof.Proof.Gen.DgluIdeal.Frame
public import proofs.«01_k».proof.Proof.Gen.DgluIdeal.Value
public import proofs.«01_k».proof.Proof.Gen.DgluRefIdeal.Run
public import proofs.«01_k».proof.Proof.Gen.Dnorm.Frame
public import proofs.«01_k».proof.Proof.Gen.DnormIdeal.Frame
public import proofs.«01_k».proof.Proof.Gen.DnormIdeal.Value
public import proofs.«01_k».proof.Proof.Gen.DnormRefIdeal.Run
public import proofs.«01_k».proof.Proof.Gen.Dpwin.Frame
public import proofs.«01_k».proof.Proof.Gen.DpwinIdeal.Frame
public import proofs.«01_k».proof.Proof.Gen.DpwinIdeal.Value
public import proofs.«01_k».proof.Proof.Gen.DpwinRefIdeal.Run
public import proofs.«01_k».proof.Proof.Gen.Dpwout.Frame
public import proofs.«01_k».proof.Proof.Gen.DpwoutIdeal.Frame
public import proofs.«01_k».proof.Proof.Gen.DpwoutIdeal.Value
public import proofs.«01_k».proof.Proof.Gen.DpwoutRefIdeal.Run
public import proofs.«01_k».proof.Proof.Gen.Dpwx.Frame
public import proofs.«01_k».proof.Proof.Gen.DpwxIdeal.Frame
public import proofs.«01_k».proof.Proof.Gen.DpwxIdeal.Value
public import proofs.«01_k».proof.Proof.Gen.DpwxRefIdeal.Run
public import proofs.«01_k».proof.Proof.Gen.Dpwsl.Frame
public import proofs.«01_k».proof.Proof.Gen.DpwslIdeal.Frame
public import proofs.«01_k».proof.Proof.Gen.DpwslIdeal.Value
public import proofs.«01_k».proof.Proof.Gen.DpwslRefIdeal.Run
public import proofs.«01_k».proof.Proof.Gen.Dmixw.Frame
public import proofs.«01_k».proof.Proof.Gen.DmixwIdeal.Frame
public import proofs.«01_k».proof.Proof.Gen.DmixwIdeal.Value
public import proofs.«01_k».proof.Proof.Gen.DmixwRefIdeal.Run
public import proofs.«01_k».proof.Proof.Gen.Dmixy.Frame
public import proofs.«01_k».proof.Proof.Gen.DmixyIdeal.Frame
public import proofs.«01_k».proof.Proof.Gen.DmixyIdeal.Value
public import proofs.«01_k».proof.Proof.Gen.DmixyRefIdeal.Run
public import proofs.«01_k».proof.Proof.Gen.Pwin.Frame
public import proofs.«01_k».proof.Proof.Gen.PwinIdeal.Frame
public import proofs.«01_k».proof.Proof.Gen.PwinIdeal.Value
public import proofs.«01_k».proof.Proof.Gen.PwinRefIdeal.Run
public import proofs.«01_k».proof.Proof.Gen.Pwout.Frame
public import proofs.«01_k».proof.Proof.Gen.PwoutIdeal.Frame
public import proofs.«01_k».proof.Proof.Gen.PwoutIdeal.Value
public import proofs.«01_k».proof.Proof.Gen.PwoutRefIdeal.Run
public import proofs.«01_k».proof.Proof.Gen.Mix.Frame
public import proofs.«01_k».proof.Proof.Gen.MixIdeal.Frame
public import proofs.«01_k».proof.Proof.Gen.MixIdeal.Value
public import proofs.«01_k».proof.Proof.Gen.MixRefIdeal.Run
public import proofs.«01_k».proof.Proof.Gen.Drms.Frame
public import proofs.«01_k».proof.Proof.Gen.DrmsIdeal.Frame
public import proofs.«01_k».proof.Proof.Gen.DrmsIdeal.Value
public import proofs.«01_k».proof.Proof.Gen.DrmsRefIdeal.Run
public import proofs.«01_k».proof.Proof.Gen.Dgate
public import proofs.«01_k».proof.Proof.Gen.DgateIdeal.Frame.RunB
public import proofs.«01_k».proof.Proof.Gen.DgateRefIdeal.Run
public import proofs.«01_k».proof.Proof.Gen.Glu.Frame
public import proofs.«01_k».proof.Proof.Gen.GluIdeal.Frame
public import proofs.«01_k».proof.Proof.Gen.GluIdeal.Value
public import proofs.«01_k».proof.Proof.Gen.GluRefIdeal.Run
public import proofs.«01_k».proof.Proof.Gen.Lnorm.Frame
public import proofs.«01_k».proof.Proof.Gen.LnormIdeal.Frame
public import proofs.«01_k».proof.Proof.Gen.LnormIdeal.Value
public import proofs.«01_k».proof.Proof.Gen.LnormRefIdeal.Run
public import proofs.«01_k».proof.Proof.Gen.Rnorm.Frame
public import proofs.«01_k».proof.Proof.Gen.RnormIdeal.Frame
public import proofs.«01_k».proof.Proof.Gen.RnormIdeal.Value
public import proofs.«01_k».proof.Proof.Gen.RnormRefIdeal.Run
public import proofs.«01_k».proof.Proof.Gen.Sgate.Frame
public import proofs.«01_k».proof.Proof.Gen.SgateIdeal.Frame
public import proofs.«01_k».proof.Proof.Gen.SgateIdeal.Value
public import proofs.«01_k».proof.Proof.Gen.SgateRefIdeal.Run
public import proofs.«01_k».proof.Proof.Gen.Dtp.Frame
public import proofs.«01_k».proof.Proof.Gen.DtpIdeal.Frame
public import proofs.«01_k».proof.Proof.Gen.DtpIdeal.Value
public import proofs.«01_k».proof.Proof.Gen.DtpRefIdeal.Run
public import proofs.«01_k».proof.Proof.Gen.Dwdt.Frame
public import proofs.«01_k».proof.Proof.Gen.DwdtIdeal.Frame
public import proofs.«01_k».proof.Proof.Gen.DwdtIdeal.Value
public import proofs.«01_k».proof.Proof.Gen.DwdtRefIdeal.Run
public import proofs.«01_k».proof.Proof.Gen.Dxdt.Frame
public import proofs.«01_k».proof.Proof.Gen.DxdtIdeal.Frame
public import proofs.«01_k».proof.Proof.Gen.DxdtIdeal.Value
public import proofs.«01_k».proof.Proof.Gen.DxdtRefIdeal.Run
public import proofs.«01_k».proof.Proof.Gen.Cnorm.Frame
public import proofs.«01_k».proof.Proof.Gen.CnormIdeal.Frame
public import proofs.«01_k».proof.Proof.Gen.CnormIdeal.Value
public import proofs.«01_k».proof.Proof.Gen.CnormRefIdeal.Run
public import proofs.«01_k».proof.Proof.Gen.Ada.Frame
public import proofs.«01_k».proof.Proof.Gen.AdaIdeal.Frame
public import proofs.«01_k».proof.Proof.Gen.AdaIdeal.Value
public import proofs.«01_k».proof.Proof.Gen.AdaRefIdeal.Run
public import proofs.«01_k».proof.Proof.Gen.Axial.Frame
public import proofs.«01_k».proof.Proof.Gen.AxialIdeal.Frame
public import proofs.«01_k».proof.Proof.Gen.AxialRefIdeal.Run
public import proofs.«01_k».proof.Proof.Gen.AdamIn.Frame
public import proofs.«01_k».proof.Proof.Gen.AdamInIdeal.Frame
public import proofs.«01_k».proof.Proof.Gen.AdamInIdeal.Value
public import proofs.«01_k».proof.Proof.Gen.AdamInRefIdeal.Run
public import proofs.«01_k».proof.Proof.Gen.AdamOut.Frame
public import proofs.«01_k».proof.Proof.Gen.AdamOutIdeal.Frame
public import proofs.«01_k».proof.Proof.Gen.AdamOutIdeal.Value
public import proofs.«01_k».proof.Proof.Gen.AdamOutRefIdeal.Run
public import proofs.«01_k».proof.Proof.Gen.AdamPwin.Frame
public import proofs.«01_k».proof.Proof.Gen.AdamPwinIdeal.Frame
public import proofs.«01_k».proof.Proof.Gen.AdamPwinIdeal.Value
public import proofs.«01_k».proof.Proof.Gen.AdamPwinRefIdeal.Run
public import proofs.«01_k».proof.Proof.Gen.AdamPwout.Frame
public import proofs.«01_k».proof.Proof.Gen.AdamPwoutIdeal.Frame
public import proofs.«01_k».proof.Proof.Gen.AdamPwoutIdeal.Value
public import proofs.«01_k».proof.Proof.Gen.AdamPwoutRefIdeal.Run
public import proofs.«01_k».proof.Proof.Gen.AdamAda.Frame
public import proofs.«01_k».proof.Proof.Gen.AdamAdaIdeal.Frame
public import proofs.«01_k».proof.Proof.Gen.AdamAdaIdeal.Value
public import proofs.«01_k».proof.Proof.Gen.AdamAdaRefIdeal.Run
public import proofs.«01_k».proof.Proof.Gen.AdamFin.Frame
public import proofs.«01_k».proof.Proof.Gen.AdamFinIdeal.Frame
public import proofs.«01_k».proof.Proof.Gen.AdamFinIdeal.Value
public import proofs.«01_k».proof.Proof.Gen.AdamFinRefIdeal.Run
public import proofs.«01_k».proof.Proof.Gen.AdamFout.Frame
public import proofs.«01_k».proof.Proof.Gen.AdamFoutIdeal.Frame
public import proofs.«01_k».proof.Proof.Gen.AdamFoutIdeal.Value
public import proofs.«01_k».proof.Proof.Gen.AdamFoutRefIdeal.Run
public import Idealize.ShloMosaic.Adequacy
public import Idealize.ShloMosaic.Init

@[expose] public section

noncomputable section

namespace Cert.Proof

open Idealize.ShloMosaic Idealize.ShloMosaic.TcCoe Idealize.SL.Sem

theorem frame_kernel : Cert.quiescent_Kernel := fun m ρ _ => Cert.Kernel.Gen.frame m ρ

theorem frame_ideal : Cert.quiescent_KernelIdeal := fun m ρ _ => Conv.frame_of_run m ρ

theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run m ρ)

theorem algebraic : Cert.algebraic_KernelIdeal_ReferenceIdeal := by
  intro m g m' g' _ h
  refine ⟨fun c => Cert.KernelIdeal.Gen.W7 m g c (Proc.devRef .tc Cert.KernelIdeal.main_v18), fun c => Cert.KernelIdeal.Gen.W7 m g c (Proc.devRef .tc Cert.KernelIdeal.main_v11),
    fun c => Cert.KernelIdeal.Gen.W7 m g c (Proc.devRef .tc Cert.KernelIdeal.main_v14), fun c => Cert.KernelIdeal.Gen.W7 m g c (Proc.devRef .tc Cert.KernelIdeal.main_v15), ?_, ?_⟩
  · refine (θ_run Cert.KernelIdeal.defs _ _).mono (fun _ r c => ?_) (Conv.run_main m g)
    exact ⟨r.1 c _ (Cert.KernelIdeal.Gen.mem_uc Cert.KernelIdeal.main_v18 (by decide)), r.1 c _ (Cert.KernelIdeal.Gen.mem_uc Cert.KernelIdeal.main_v11 (by decide)),
      r.1 c _ (Cert.KernelIdeal.Gen.mem_uc Cert.KernelIdeal.main_v14 (by decide)), r.1 c _ (Cert.KernelIdeal.Gen.mem_uc Cert.KernelIdeal.main_v15 (by decide)),
      (r.1 c _ (Cert.KernelIdeal.Gen.mem_uc Cert.KernelIdeal.main_arg0 (by decide))).trans (Cert.KernelIdeal.Gen.W7_main_arg0 m g c),
      (r.1 c _ (Cert.KernelIdeal.Gen.mem_uc Cert.KernelIdeal.main_arg1 (by decide))).trans (Cert.KernelIdeal.Gen.W7_main_arg1 m g c),
      (r.1 c _ (Cert.KernelIdeal.Gen.mem_uc Cert.KernelIdeal.main_arg2 (by decide))).trans (Cert.KernelIdeal.Gen.W7_main_arg2 m g c),
      (r.1 c _ (Cert.KernelIdeal.Gen.mem_uc Cert.KernelIdeal.main_arg3 (by decide))).trans (Cert.KernelIdeal.Gen.W7_main_arg3 m g c)⟩
  · refine (θ_run Cert.ReferenceIdeal.defs _ _).mono (fun _ r c => ?_) (Cert.ReferenceIdeal.Value.run m' g')
    obtain ⟨r0, r1, r2, r3, k⟩ := r c
    obtain ⟨h0, h1, h2, h3⟩ := h c
    refine ⟨r0.trans ?_, r1.trans ?_, r2.trans ?_, r3.trans ?_, k⟩
    · refine (Conv.eq_lo _ _).symm.trans (Eq.trans ?_ (Conv.W7_v18 m g c).symm)
      rw [← h1, ← h3]
    · refine (Conv.eq_hi _ _).symm.trans (Eq.trans ?_ (Conv.W7_v11 m g c).symm)
      rw [← h2, ← h3]
    · refine (Conv.eq_w _ _).symm.trans (Eq.trans ?_ (Conv.W7_v14 m g c).symm)
      rw [← h0, ← h1, ← h2]
    · refine (Conv.eq_b _ _ _ _ _ _ _).symm.trans (Eq.trans ?_ (Conv.W7_v15 m g c).symm)
      rw [← h1, ← h2]

theorem claim : Cert.Claim := ⟨Cert.Kernel.Gen.facts, Cert.KernelIdeal.Gen.facts, Cert.ReferenceIdeal.Gen.facts,
  Cert.Dhid.Gen.facts, Cert.DhidIdeal.Gen.facts, Cert.DhidRefIdeal.Gen.facts,
  Cert.Dwout.Gen.facts, Cert.DwoutIdeal.Gen.facts, Cert.DwoutRefIdeal.Gen.facts,
  Cert.Dact.Gen.facts, Cert.DactIdeal.Gen.facts, Cert.DactRefIdeal.Gen.facts,
  Cert.Dwin.Gen.facts, Cert.DwinIdeal.Gen.facts, Cert.DwinRefIdeal.Gen.facts,
  Cert.Dx.Gen.facts, Cert.DxIdeal.Gen.facts, Cert.DxRefIdeal.Gen.facts,
  Cert.Uin.Gen.facts, Cert.UinIdeal.Gen.facts, Cert.UinRefIdeal.Gen.facts,
  Cert.Act.Gen.facts, Cert.ActIdeal.Gen.facts, Cert.ActRefIdeal.Gen.facts,
  Cert.Fout.Gen.facts, Cert.FoutIdeal.Gen.facts, Cert.FoutRefIdeal.Gen.facts,
  Cert.Zx.Gen.facts, Cert.ZxIdeal.Gen.facts, Cert.ZxRefIdeal.Gen.facts,
  Cert.Dwzx.Gen.facts, Cert.DwzxIdeal.Gen.facts, Cert.DwzxRefIdeal.Gen.facts,
  Cert.Dzx.Gen.facts, Cert.DzxIdeal.Gen.facts, Cert.DzxRefIdeal.Gen.facts,
  Cert.Dglu.Gen.facts, Cert.DgluIdeal.Gen.facts, Cert.DgluRefIdeal.Gen.facts,
  Cert.Dnorm.Gen.facts, Cert.DnormIdeal.Gen.facts, Cert.DnormRefIdeal.Gen.facts,
  Cert.Dpwin.Gen.facts, Cert.DpwinIdeal.Gen.facts, Cert.DpwinRefIdeal.Gen.facts,
  Cert.Dpwout.Gen.facts, Cert.DpwoutIdeal.Gen.facts, Cert.DpwoutRefIdeal.Gen.facts,
  Cert.Dpwx.Gen.facts, Cert.DpwxIdeal.Gen.facts, Cert.DpwxRefIdeal.Gen.facts,
  Cert.Dpwsl.Gen.facts, Cert.DpwslIdeal.Gen.facts, Cert.DpwslRefIdeal.Gen.facts,
  Cert.Dmixw.Gen.facts, Cert.DmixwIdeal.Gen.facts, Cert.DmixwRefIdeal.Gen.facts,
  Cert.Dmixy.Gen.facts, Cert.DmixyIdeal.Gen.facts, Cert.DmixyRefIdeal.Gen.facts,
  Cert.Pwin.Gen.facts, Cert.PwinIdeal.Gen.facts, Cert.PwinRefIdeal.Gen.facts,
  Cert.Pwout.Gen.facts, Cert.PwoutIdeal.Gen.facts, Cert.PwoutRefIdeal.Gen.facts,
  Cert.Mix.Gen.facts, Cert.MixIdeal.Gen.facts, Cert.MixRefIdeal.Gen.facts,
  Cert.Drms.Gen.facts, Cert.DrmsIdeal.Gen.facts, Cert.DrmsRefIdeal.Gen.facts,
  Cert.Dgate.Gen.facts, Cert.DgateIdeal.Gen.facts, Cert.DgateRefIdeal.Gen.facts,
  Cert.Glu.Gen.facts, Cert.GluIdeal.Gen.facts, Cert.GluRefIdeal.Gen.facts,
  Cert.Lnorm.Gen.facts, Cert.LnormIdeal.Gen.facts, Cert.LnormRefIdeal.Gen.facts,
  Cert.Rnorm.Gen.facts, Cert.RnormIdeal.Gen.facts, Cert.RnormRefIdeal.Gen.facts,
  Cert.Sgate.Gen.facts, Cert.SgateIdeal.Gen.facts, Cert.SgateRefIdeal.Gen.facts,
  Cert.Dtp.Gen.facts, Cert.DtpIdeal.Gen.facts, Cert.DtpRefIdeal.Gen.facts,
  Cert.Dwdt.Gen.facts, Cert.DwdtIdeal.Gen.facts, Cert.DwdtRefIdeal.Gen.facts,
  Cert.Dxdt.Gen.facts, Cert.DxdtIdeal.Gen.facts, Cert.DxdtRefIdeal.Gen.facts,
  Cert.Cnorm.Gen.facts, Cert.CnormIdeal.Gen.facts, Cert.CnormRefIdeal.Gen.facts,
  Cert.Ada.Gen.facts, Cert.AdaIdeal.Gen.facts, Cert.AdaRefIdeal.Gen.facts,
  Cert.Axial.Gen.facts, Cert.AxialIdeal.Gen.facts, Cert.AxialRefIdeal.Gen.facts,
  Cert.AdamIn.Gen.facts, Cert.AdamInIdeal.Gen.facts, Cert.AdamInRefIdeal.Gen.facts,
  Cert.AdamOut.Gen.facts, Cert.AdamOutIdeal.Gen.facts, Cert.AdamOutRefIdeal.Gen.facts,
  Cert.AdamPwin.Gen.facts, Cert.AdamPwinIdeal.Gen.facts, Cert.AdamPwinRefIdeal.Gen.facts,
  Cert.AdamPwout.Gen.facts, Cert.AdamPwoutIdeal.Gen.facts, Cert.AdamPwoutRefIdeal.Gen.facts,
  Cert.AdamAda.Gen.facts, Cert.AdamAdaIdeal.Gen.facts, Cert.AdamAdaRefIdeal.Gen.facts,
  Cert.AdamFin.Gen.facts, Cert.AdamFinIdeal.Gen.facts, Cert.AdamFinRefIdeal.Gen.facts,
  Cert.AdamFout.Gen.facts, Cert.AdamFoutIdeal.Gen.facts, Cert.AdamFoutRefIdeal.Gen.facts,
  Dact.facts_pre, Dnorm.facts_pre, Dgate.facts_pre,
  frame_kernel, frame_ideal, frame_reference,
  fun m ρ _ => Cert.Dhid.Gen.frame m ρ,
  fun m ρ _ => Cert.DhidIdeal.Gen.frame m ρ,
  Dhid.frame_reference,
  fun m ρ _ => Cert.Dwout.Gen.frame m ρ,
  fun m ρ _ => Cert.DwoutIdeal.Gen.frame m ρ,
  Dwout.frame_reference,
  fun m ρ _ => Cert.Dact.Gen.frame m ρ,
  fun m ρ _ => Cert.DactIdeal.Gen.frame m ρ,
  fun m ρ _ => Cert.DactIdeal.Gen.frame m ρ,
  Dact.frame_reference,
  fun m ρ _ => Dact.frame_reference m ρ trivial,
  fun m ρ _ => Cert.Dwin.Gen.frame m ρ,
  fun m ρ _ => Cert.DwinIdeal.Gen.frame m ρ,
  Dwin.frame_reference,
  fun m ρ _ => Cert.Dx.Gen.frame m ρ,
  fun m ρ _ => Cert.DxIdeal.Gen.frame m ρ,
  Dx.frame_reference,
  fun m ρ _ => Cert.Uin.Gen.frame m ρ,
  fun m ρ _ => Cert.UinIdeal.Gen.frame m ρ,
  Uin.frame_reference,
  fun m ρ _ => Cert.Act.Gen.frame m ρ,
  fun m ρ _ => Cert.ActIdeal.Gen.frame m ρ,
  Act.frame_reference,
  fun m ρ _ => Cert.Fout.Gen.frame m ρ,
  fun m ρ _ => Cert.FoutIdeal.Gen.frame m ρ,
  Fout.frame_reference,
  fun m ρ _ => Cert.Zx.Gen.frame m ρ,
  fun m ρ _ => Cert.ZxIdeal.Gen.frame m ρ,
  Zx.frame_reference,
  fun m ρ _ => Cert.Dwzx.Gen.frame m ρ,
  fun m ρ _ => Cert.DwzxIdeal.Gen.frame m ρ,
  Dwzx.frame_reference,
  fun m ρ _ => Cert.Dzx.Gen.frame m ρ,
  fun m ρ _ => Cert.DzxIdeal.Gen.frame m ρ,
  Dzx.frame_reference,
  fun m ρ _ => Cert.Dglu.Gen.frame m ρ,
  fun m ρ _ => Cert.DgluIdeal.Gen.frame m ρ,
  Dglu.frame_reference,
  fun m ρ _ => Cert.Dnorm.Gen.frame m ρ,
  fun m ρ _ => Cert.DnormIdeal.Gen.frame m ρ,
  fun m ρ _ => Cert.DnormIdeal.Gen.frame m ρ,
  Dnorm.frame_reference,
  fun m ρ _ => Dnorm.frame_reference m ρ trivial,
  fun m ρ _ => Cert.Dpwin.Gen.frame m ρ,
  fun m ρ _ => Cert.DpwinIdeal.Gen.frame m ρ,
  Dpwin.frame_reference,
  fun m ρ _ => Cert.Dpwout.Gen.frame m ρ,
  fun m ρ _ => Cert.DpwoutIdeal.Gen.frame m ρ,
  Dpwout.frame_reference,
  fun m ρ _ => Cert.Dpwx.Gen.frame m ρ,
  fun m ρ _ => Cert.DpwxIdeal.Gen.frame m ρ,
  Dpwx.frame_reference,
  fun m ρ _ => Cert.Dpwsl.Gen.frame m ρ,
  fun m ρ _ => Cert.DpwslIdeal.Gen.frame m ρ,
  Dpwsl.frame_reference,
  fun m ρ _ => Cert.Dmixw.Gen.frame m ρ,
  fun m ρ _ => Cert.DmixwIdeal.Gen.frame m ρ,
  Dmixw.frame_reference,
  fun m ρ _ => Cert.Dmixy.Gen.frame m ρ,
  fun m ρ _ => Cert.DmixyIdeal.Gen.frame m ρ,
  Dmixy.frame_reference,
  fun m ρ _ => Cert.Pwin.Gen.frame m ρ,
  fun m ρ _ => Cert.PwinIdeal.Gen.frame m ρ,
  Pwin.frame_reference,
  fun m ρ _ => Cert.Pwout.Gen.frame m ρ,
  fun m ρ _ => Cert.PwoutIdeal.Gen.frame m ρ,
  Pwout.frame_reference,
  fun m ρ _ => Cert.Mix.Gen.frame m ρ,
  fun m ρ _ => Cert.MixIdeal.Gen.frame m ρ,
  Mix.frame_reference,
  fun m ρ _ => Cert.Drms.Gen.frame m ρ,
  fun m ρ _ => Cert.DrmsIdeal.Gen.frame m ρ,
  Drms.frame_reference,
  Dgate.frame_kernel,
  fun m ρ _ => Dgate.frame_run m ρ,
  fun m ρ _ => Dgate.frame_run m ρ,
  Dgate.frame_reference,
  fun m ρ _ => Dgate.frame_reference m ρ trivial,
  fun m ρ _ => Cert.Glu.Gen.frame m ρ,
  fun m ρ _ => Cert.GluIdeal.Gen.frame m ρ,
  Glu.frame_reference,
  fun m ρ _ => Cert.Lnorm.Gen.frame m ρ,
  fun m ρ _ => Cert.LnormIdeal.Gen.frame m ρ,
  Lnorm.frame_reference,
  fun m ρ _ => Cert.Rnorm.Gen.frame m ρ,
  fun m ρ _ => Cert.RnormIdeal.Gen.frame m ρ,
  Rnorm.frame_reference,
  fun m ρ _ => Cert.Sgate.Gen.frame m ρ,
  fun m ρ _ => Cert.SgateIdeal.Gen.frame m ρ,
  Sgate.frame_reference,
  fun m ρ _ => Cert.Dtp.Gen.frame m ρ,
  fun m ρ _ => Cert.DtpIdeal.Gen.frame m ρ,
  Dtp.frame_reference,
  fun m ρ _ => Cert.Dwdt.Gen.frame m ρ,
  fun m ρ _ => Cert.DwdtIdeal.Gen.frame m ρ,
  Dwdt.frame_reference,
  fun m ρ _ => Cert.Dxdt.Gen.frame m ρ,
  fun m ρ _ => Cert.DxdtIdeal.Gen.frame m ρ,
  Dxdt.frame_reference,
  fun m ρ _ => Cert.Cnorm.Gen.frame m ρ,
  fun m ρ _ => Cert.CnormIdeal.Gen.frame m ρ,
  Cnorm.frame_reference,
  fun m ρ _ => Cert.Ada.Gen.frame m ρ,
  fun m ρ _ => Cert.AdaIdeal.Gen.frame m ρ,
  Ada.frame_reference,
  fun m ρ _ => Cert.Axial.Gen.frame m ρ,
  fun m ρ _ => Cert.AxialIdeal.Gen.frame m ρ,
  Axial.frame_reference,
  fun m ρ _ => Cert.AdamIn.Gen.frame m ρ,
  fun m ρ _ => Cert.AdamInIdeal.Gen.frame m ρ,
  AdamIn.frame_reference,
  fun m ρ _ => Cert.AdamOut.Gen.frame m ρ,
  fun m ρ _ => Cert.AdamOutIdeal.Gen.frame m ρ,
  AdamOut.frame_reference,
  fun m ρ _ => Cert.AdamPwin.Gen.frame m ρ,
  fun m ρ _ => Cert.AdamPwinIdeal.Gen.frame m ρ,
  AdamPwin.frame_reference,
  fun m ρ _ => Cert.AdamPwout.Gen.frame m ρ,
  fun m ρ _ => Cert.AdamPwoutIdeal.Gen.frame m ρ,
  AdamPwout.frame_reference,
  fun m ρ _ => Cert.AdamAda.Gen.frame m ρ,
  fun m ρ _ => Cert.AdamAdaIdeal.Gen.frame m ρ,
  AdamAda.frame_reference,
  fun m ρ _ => Cert.AdamFin.Gen.frame m ρ,
  fun m ρ _ => Cert.AdamFinIdeal.Gen.frame m ρ,
  AdamFin.frame_reference,
  fun m ρ _ => Cert.AdamFout.Gen.frame m ρ,
  fun m ρ _ => Cert.AdamFoutIdeal.Gen.frame m ρ,
  AdamFout.frame_reference,
  trivial, algebraic, trivial, Dhid.algebraic, trivial, Dwout.algebraic, trivial, Dact.algebraic, trivial, Dwin.algebraic, trivial, Dx.algebraic,
  trivial, Uin.algebraic, trivial, Act.algebraic, trivial, Fout.algebraic, trivial, Zx.algebraic, trivial, Dwzx.algebraic, trivial, Dzx.algebraic,
  trivial, Dglu.algebraic, trivial, Dnorm.algebraic, trivial, Dpwin.algebraic, trivial, Dpwout.algebraic, trivial, Dpwx.algebraic, trivial, Dpwsl.algebraic,
  trivial, Dmixw.algebraic, trivial, Dmixy.algebraic, trivial, Pwin.algebraic, trivial, Pwout.algebraic, trivial, Mix.algebraic, trivial, Drms.algebraic,
  trivial, Dgate.algebraic, trivial, Glu.algebraic, trivial, Lnorm.algebraic, trivial, Rnorm.algebraic, trivial, Sgate.algebraic, trivial, Dtp.algebraic, trivial, Dwdt.algebraic, trivial, Dxdt.algebraic,
  trivial, Cnorm.algebraic, trivial, Ada.algebraic, trivial, Axial.algebraic,
  trivial, AdamIn.algebraic, trivial, AdamOut.algebraic, trivial, AdamPwin.algebraic, trivial, AdamPwout.algebraic, trivial, AdamAda.algebraic, trivial, AdamFin.algebraic, trivial, AdamFout.algebraic⟩

end Cert.Proof

end
